-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_attention [hPre_finite_attention : Cert.Pre_finite_attention.Facts] (m : (ℓ : Loc Cert.KernelIdeal.nD Cert.KernelIdeal.τ Cert.KernelIdeal.sig) → Buf (Elt Ideal) ℓ) : Prop :=
  ∀ c : Dev Cert.KernelIdeal.nD,
    (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_attention [hPre_finite_attention : Cert.Pre_finite_attention.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_norm [hPre_finite_norm : Cert.Pre_finite_norm.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_norm.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite_norm.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite_norm.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite_norm.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_norm [hPre_finite_norm : Cert.Pre_finite_norm.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_norm.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite_norm.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite_norm.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite_norm.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_norm_below [hPre_finite_norm_below : Cert.Pre_finite_norm_below.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_norm_below.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite_norm_below.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_finite_norm_below.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_finite_norm_below.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.1 = (fun _ => 1#1)
    ∧ (Cert.Pre_finite_norm_below.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.1 = (fun _ => 1#1)
    ∧ (Cert.Pre_finite_norm_below.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_norm_below [hPre_finite_norm_below : Cert.Pre_finite_norm_below.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_norm_below.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite_norm_below.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_finite_norm_below.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_finite_norm_below.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.1 = (fun _ => 1#1)
    ∧ (Cert.Pre_finite_norm_below.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.1 = (fun _ => 1#1)
    ∧ (Cert.Pre_finite_norm_below.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_gate [hPre_finite_gate : Cert.Pre_finite_gate.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_gate.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite_gate.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_finite_gate.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_finite_gate.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_finite_gate.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_finite_gate.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.1 = (fun _ => 1#1)
    ∧ (Cert.Pre_finite_gate.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_gate [hPre_finite_gate : Cert.Pre_finite_gate.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_gate.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite_gate.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_finite_gate.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_finite_gate.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_finite_gate.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_finite_gate.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.1 = (fun _ => 1#1)
    ∧ (Cert.Pre_finite_gate.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_attention [hKernelIdeal : Cert.KernelIdeal.Facts] [hPre_finite_attention : Cert.Pre_finite_attention.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_attention m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_attention [hReferenceIdeal : Cert.ReferenceIdeal.Facts] [hPre_finite_attention : Cert.Pre_finite_attention.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_attention m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_norm [hKernel3Ideal : Cert.Kernel3Ideal.Facts] [hPre_finite_norm : Cert.Pre_finite_norm.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_norm m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_norm [hReference3Ideal : Cert.Reference3Ideal.Facts] [hPre_finite_norm : Cert.Pre_finite_norm.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_norm m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite_norm_below [hKernel4Ideal : Cert.Kernel4Ideal.Facts] [hPre_finite_norm_below : Cert.Pre_finite_norm_below.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_norm_below m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite_norm_below [hReference4Ideal : Cert.Reference4Ideal.Facts] [hPre_finite_norm_below : Cert.Pre_finite_norm_below.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_norm_below m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_gate [hKernel5Ideal : Cert.Kernel5Ideal.Facts] [hPre_finite_gate : Cert.Pre_finite_gate.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_gate m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_gate [hReference5Ideal : Cert.Reference5Ideal.Facts] [hPre_finite_gate : Cert.Pre_finite_gate.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_gate m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite_attention [hKernelIdeal : Cert.KernelIdeal.Facts] [hReferenceIdeal : Cert.ReferenceIdeal.Facts] [hPre_finite_attention : Cert.Pre_finite_attention.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_attention m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v32)) (v3 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_v26_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v7_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_v27) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_norm [hKernel3Ideal : Cert.Kernel3Ideal.Facts] [hReference3Ideal : Cert.Reference3Ideal.Facts] [hPre_finite_norm : Cert.Pre_finite_norm.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_norm m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v7_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_v53) = v1 c
          ∧ r.2.mem ((c.tc : Thread Cert.Reference3Ideal.nD Cert.Reference3Ideal.τ).loc Cert.Reference3Ideal.main_v54) = v2 c
          ∧ r.2.mem ((c.tc : Thread Cert.Reference3Ideal.nD Cert.Reference3Ideal.τ).loc Cert.Reference3Ideal.main_v55) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_norm_below [hKernel4Ideal : Cert.Kernel4Ideal.Facts] [hReference4Ideal : Cert.Reference4Ideal.Facts] [hPre_finite_norm_below : Cert.Pre_finite_norm_below.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_norm_below m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)) (v3 : (c : Dev Cert.Kernel4Ideal.nD) → Buf (Elt Ideal) ((c.tc : Thread Cert.Kernel4Ideal.nD Cert.Kernel4Ideal.τ).loc Cert.Kernel4Ideal.main_v14_3)) (v4 : (c : Dev Cert.Kernel4Ideal.nD) → Buf (Elt Ideal) ((c.tc : Thread Cert.Kernel4Ideal.nD Cert.Kernel4Ideal.τ).loc Cert.Kernel4Ideal.main_v14_4)) (v5 : (c : Dev Cert.Kernel4Ideal.nD) → Buf (Elt Ideal) ((c.tc : Thread Cert.Kernel4Ideal.nD Cert.Kernel4Ideal.τ).loc Cert.Kernel4Ideal.main_v14_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_v14_4) = v4 c
          ∧ r.2.mem ((c.tc : Thread Cert.Kernel4Ideal.nD Cert.Kernel4Ideal.τ).loc Cert.Kernel4Ideal.main_v14_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_v62) = v1 c
          ∧ r.2.mem ((c.tc : Thread Cert.Reference4Ideal.nD Cert.Reference4Ideal.τ).loc Cert.Reference4Ideal.main_v63) = v2 c
          ∧ r.2.mem ((c.tc : Thread Cert.Reference4Ideal.nD Cert.Reference4Ideal.τ).loc Cert.Reference4Ideal.main_v64) = v3 c
          ∧ r.2.mem ((c.tc : Thread Cert.Reference4Ideal.nD Cert.Reference4Ideal.τ).loc Cert.Reference4Ideal.main_v66) = v4 c
          ∧ r.2.mem ((c.tc : Thread Cert.Reference4Ideal.nD Cert.Reference4Ideal.τ).loc Cert.Reference4Ideal.main_v67) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite_gate [hKernel5Ideal : Cert.Kernel5Ideal.Facts] [hReference5Ideal : Cert.Reference5Ideal.Facts] [hPre_finite_gate : Cert.Pre_finite_gate.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_gate m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)) (v3 : (c : Dev Cert.Kernel5Ideal.nD) → Buf (Elt Ideal) ((c.tc : Thread Cert.Kernel5Ideal.nD Cert.Kernel5Ideal.τ).loc Cert.Kernel5Ideal.main_v11_3)) (v4 : (c : Dev Cert.Kernel5Ideal.nD) → Buf (Elt Ideal) ((c.tc : Thread Cert.Kernel5Ideal.nD Cert.Kernel5Ideal.τ).loc Cert.Kernel5Ideal.main_v12)) (v5 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_v11_2) = v2 c
          ∧ r.2.mem ((c.tc : Thread Cert.Kernel5Ideal.nD Cert.Kernel5Ideal.τ).loc Cert.Kernel5Ideal.main_v11_3) = v3 c
          ∧ r.2.mem ((c.tc : Thread Cert.Kernel5Ideal.nD Cert.Kernel5Ideal.τ).loc Cert.Kernel5Ideal.main_v12) = v4 c
          ∧ r.2.mem ((c.tc : Thread Cert.Kernel5Ideal.nD Cert.Kernel5Ideal.τ).loc Cert.Kernel5Ideal.main_v13) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v29) = v2 c
          ∧ r.2.mem ((c.tc : Thread Cert.Reference5Ideal.nD Cert.Reference5Ideal.τ).loc Cert.Reference5Ideal.main_v30) = v3 c
          ∧ r.2.mem ((c.tc : Thread Cert.Reference5Ideal.nD Cert.Reference5Ideal.τ).loc Cert.Reference5Ideal.main_v32) = v4 c
          ∧ r.2.mem ((c.tc : Thread Cert.Reference5Ideal.nD Cert.Reference5Ideal.τ).loc Cert.Reference5Ideal.main_v34) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  IdealRules.named_const.Statement Cert.Kernel8Ideal.κ "per_head" .f32 0x3BAAAAAB#32 ((192⁻¹ : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v34_0)) (v1 : (c : Dev Cert.Kernel8Ideal.nD) → Buf (Elt Ideal) ((c.tc : Thread Cert.Kernel8Ideal.nD Cert.Kernel8Ideal.τ).loc Cert.Kernel8Ideal.main_v34_1)) (v2 : (c : Dev Cert.Kernel8Ideal.nD) → Buf (Elt Ideal) ((c.tc : Thread Cert.Kernel8Ideal.nD Cert.Kernel8Ideal.τ).loc Cert.Kernel8Ideal.main_v41)) (v3 : (c : Dev Cert.Kernel8Ideal.nD) → Buf (Elt Ideal) ((c.tc : Thread Cert.Kernel8Ideal.nD Cert.Kernel8Ideal.τ).loc Cert.Kernel8Ideal.main_v34_3)) (v4 : (c : Dev Cert.Kernel8Ideal.nD) → Buf (Elt Ideal) ((c.tc : Thread Cert.Kernel8Ideal.nD Cert.Kernel8Ideal.τ).loc Cert.Kernel8Ideal.main_v42)) (v5 : (c : Dev Cert.Kernel8Ideal.nD) → Buf (Elt Ideal) ((c.tc : Thread Cert.Kernel8Ideal.nD Cert.Kernel8Ideal.τ).loc Cert.Kernel8Ideal.main_v43)) (v6 : (c : Dev Cert.Kernel8Ideal.nD) → Buf (Elt Ideal) ((c.tc : Thread Cert.Kernel8Ideal.nD Cert.Kernel8Ideal.τ).loc Cert.Kernel8Ideal.main_v44)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v34_0) = v0 c
          ∧ r.2.mem ((c.tc : Thread Cert.Kernel8Ideal.nD Cert.Kernel8Ideal.τ).loc Cert.Kernel8Ideal.main_v34_1) = v1 c
          ∧ r.2.mem ((c.tc : Thread Cert.Kernel8Ideal.nD Cert.Kernel8Ideal.τ).loc Cert.Kernel8Ideal.main_v41) = v2 c
          ∧ r.2.mem ((c.tc : Thread Cert.Kernel8Ideal.nD Cert.Kernel8Ideal.τ).loc Cert.Kernel8Ideal.main_v34_3) = v3 c
          ∧ r.2.mem ((c.tc : Thread Cert.Kernel8Ideal.nD Cert.Kernel8Ideal.τ).loc Cert.Kernel8Ideal.main_v42) = v4 c
          ∧ r.2.mem ((c.tc : Thread Cert.Kernel8Ideal.nD Cert.Kernel8Ideal.τ).loc Cert.Kernel8Ideal.main_v43) = v5 c
          ∧ r.2.mem ((c.tc : Thread Cert.Kernel8Ideal.nD Cert.Kernel8Ideal.τ).loc Cert.Kernel8Ideal.main_v44) = v6 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v66) = v0 c
          ∧ r.2.mem ((c.tc : Thread Cert.Reference8Ideal.nD Cert.Reference8Ideal.τ).loc Cert.Reference8Ideal.main_v68) = v1 c
          ∧ r.2.mem ((c.tc : Thread Cert.Reference8Ideal.nD Cert.Reference8Ideal.τ).loc Cert.Reference8Ideal.main_v69) = v2 c
          ∧ r.2.mem ((c.tc : Thread Cert.Reference8Ideal.nD Cert.Reference8Ideal.τ).loc Cert.Reference8Ideal.main_v70) = v3 c
          ∧ r.2.mem ((c.tc : Thread Cert.Reference8Ideal.nD Cert.Reference8Ideal.τ).loc Cert.Reference8Ideal.main_v73) = v4 c
          ∧ r.2.mem ((c.tc : Thread Cert.Reference8Ideal.nD Cert.Reference8Ideal.τ).loc Cert.Reference8Ideal.main_v104) = v5 c
          ∧ r.2.mem ((c.tc : Thread Cert.Reference8Ideal.nD Cert.Reference8Ideal.τ).loc Cert.Reference8Ideal.main_v107) = v6 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def preserves_Kernel9_Kernel9Ideal : Prop :=
  IdealRules.named_const.Statement Cert.Kernel9Ideal.κ "per_head" .f32 0x3BAAAAAB#32 ((192⁻¹ : ℝ) : EReal)
  ∧ IdealRules.named_const.Statement Cert.Kernel9Ideal.κ "ln2" .f32 0x3F317218#32 ((Real.log 2 : ℝ) : EReal)

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v12)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v12) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)) (v2 : (c : Dev Cert.Kernel13Ideal.nD) → Buf (Elt Ideal) ((c.tc : Thread Cert.Kernel13Ideal.nD Cert.Kernel13Ideal.τ).loc Cert.Kernel13Ideal.main_v2_2)) (v3 : (c : Dev Cert.Kernel13Ideal.nD) → Buf (Elt Ideal) ((c.tc : Thread Cert.Kernel13Ideal.nD Cert.Kernel13Ideal.τ).loc Cert.Kernel13Ideal.main_v2_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_v2_2) = v2 c
          ∧ r.2.mem ((c.tc : Thread Cert.Kernel13Ideal.nD Cert.Kernel13Ideal.τ).loc Cert.Kernel13Ideal.main_v2_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v28) = v1 c
          ∧ r.2.mem ((c.tc : Thread Cert.Reference13Ideal.nD Cert.Reference13Ideal.τ).loc Cert.Reference13Ideal.main_v9) = v2 c
          ∧ r.2.mem ((c.tc : Thread Cert.Reference13Ideal.nD Cert.Reference13Ideal.τ).loc Cert.Reference13Ideal.main_v15) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite_attention : Cert.Pre_finite_attention.Facts) (hPre_finite_norm : Cert.Pre_finite_norm.Facts) (hPre_finite_norm_below : Cert.Pre_finite_norm_below.Facts) (hPre_finite_gate : Cert.Pre_finite_gate.Facts),
    quiescent_Kernel (hKernel := hKernel)
    ∧ quiescent_KernelIdeal (hKernelIdeal := hKernelIdeal)
    ∧ quiescent_KernelIdeal_pre_finite_attention (hKernelIdeal := hKernelIdeal) (hPre_finite_attention := hPre_finite_attention)
    ∧ quiescent_ReferenceIdeal (hReferenceIdeal := hReferenceIdeal)
    ∧ quiescent_ReferenceIdeal_pre_finite_attention (hReferenceIdeal := hReferenceIdeal) (hPre_finite_attention := hPre_finite_attention)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_norm (hKernel3Ideal := hKernel3Ideal) (hPre_finite_norm := hPre_finite_norm)
    ∧ quiescent_Reference3Ideal (hReference3Ideal := hReference3Ideal)
    ∧ quiescent_Reference3Ideal_pre_finite_norm (hReference3Ideal := hReference3Ideal) (hPre_finite_norm := hPre_finite_norm)
    ∧ quiescent_Kernel4 (hKernel4 := hKernel4)
    ∧ quiescent_Kernel4Ideal (hKernel4Ideal := hKernel4Ideal)
    ∧ quiescent_Kernel4Ideal_pre_finite_norm_below (hKernel4Ideal := hKernel4Ideal) (hPre_finite_norm_below := hPre_finite_norm_below)
    ∧ quiescent_Reference4Ideal (hReference4Ideal := hReference4Ideal)
    ∧ quiescent_Reference4Ideal_pre_finite_norm_below (hReference4Ideal := hReference4Ideal) (hPre_finite_norm_below := hPre_finite_norm_below)
    ∧ quiescent_Kernel5 (hKernel5 := hKernel5)
    ∧ quiescent_Kernel5Ideal (hKernel5Ideal := hKernel5Ideal)
    ∧ quiescent_Kernel5Ideal_pre_finite_gate (hKernel5Ideal := hKernel5Ideal) (hPre_finite_gate := hPre_finite_gate)
    ∧ quiescent_Reference5Ideal (hReference5Ideal := hReference5Ideal)
    ∧ quiescent_Reference5Ideal_pre_finite_gate (hReference5Ideal := hReference5Ideal) (hPre_finite_gate := hPre_finite_gate)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite_attention (hKernelIdeal := hKernelIdeal) (hReferenceIdeal := hReferenceIdeal) (hPre_finite_attention := hPre_finite_attention)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_norm (hKernel3Ideal := hKernel3Ideal) (hReference3Ideal := hReference3Ideal) (hPre_finite_norm := hPre_finite_norm)
    ∧ preserves_Kernel4_Kernel4Ideal
    ∧ algebraic_Kernel4Ideal_Reference4Ideal_pre_finite_norm_below (hKernel4Ideal := hKernel4Ideal) (hReference4Ideal := hReference4Ideal) (hPre_finite_norm_below := hPre_finite_norm_below)
    ∧ preserves_Kernel5_Kernel5Ideal
    ∧ algebraic_Kernel5Ideal_Reference5Ideal_pre_finite_gate (hKernel5Ideal := hKernel5Ideal) (hReference5Ideal := hReference5Ideal) (hPre_finite_gate := hPre_finite_gate)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite_attention.lean ====
abbrev S1x4096x8x192 : Shape := ⟨4, ![1, 4096, 8, 192]⟩
abbrev S1x4096x8x128 : Shape := ⟨4, ![1, 4096, 8, 128]⟩
abbrev S_ : Shape := ⟨0, ![]⟩

class Facts : Prop where
  bcast_S_S1x4096x8x192 : S_.BroadcastsInDim S1x4096x8x192 (![] : Fin 0 → Fin S1x4096x8x192.rank)
  bcast_S_S1x4096x8x128 : S_.BroadcastsInDim S1x4096x8x128 (![] : Fin 0 → Fin S1x4096x8x128.rank)

variable [Facts]

def fn {F : FTy → Type} [FloatOps F] (main_arg0 : FVec F S1x4096x8x192 .f32) (main_arg1 : FVec F S1x4096x8x192 .f32) (main_arg2 : FVec F S1x4096x8x128 .f32) (main_arg3 : FVec F S1x4096x8x128 .f32) : IVec S1x4096x8x192 1 × IVec S1x4096x8x192 1 × IVec S1x4096x8x128 1 × IVec S1x4096x8x128 1 :=
  let main_v0 : FVec F S1x4096x8x192 .f32 := Host.absf main_arg0
  let main_cst : FVec F S_ .f32 := constant S_ .f32 0x7F800000#32
  let main_v1 : FVec F S1x4096x8x192 .f32 := broadcastInDim S1x4096x8x192 ![] bcast_S_S1x4096x8x192 main_cst
  let main_v2 : IVec S1x4096x8x192 1 := cmpf .olt main_v0 main_v1
  let main_v3 : FVec F S1x4096x8x192 .f32 := Host.absf main_arg1
  let main_cst_0 : FVec F S_ .f32 := constant S_ .f32 0x7F800000#32
  let main_v4 : FVec F S1x4096x8x192 .f32 := broadcastInDim S1x4096x8x192 ![] bcast_S_S1x4096x8x192 main_cst_0
  let main_v5 : IVec S1x4096x8x192 1 := cmpf .olt main_v3 main_v4
  let main_v6 : FVec F S1x4096x8x128 .f32 := Host.absf main_arg2
  let main_cst_1 : FVec F S_ .f32 := constant S_ .f32 0x7F800000#32
  let main_v7 : FVec F S1x4096x8x128 .f32 := broadcastInDim S1x4096x8x128 ![] bcast_S_S1x4096x8x128 main_cst_1
  let main_v8 : IVec S1x4096x8x128 1 := cmpf .olt main_v6 main_v7
  let main_v9 : FVec F S1x4096x8x128 .f32 := Host.absf main_arg3
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  (main_v2, main_v5, main_v8, main_v11)
-- ==== Pre_finite_gate.lean ====
abbrev S1x4096x1024 : Shape := ⟨3, ![1, 4096, 1024]⟩
abbrev S1024 : Shape := ⟨1, ![1024]⟩
abbrev S2048x2048 : Shape := ⟨2, ![2048, 2048]⟩
abbrev S1x4096x2048 : Shape := ⟨3, ![1, 4096, 2048]⟩
abbrev S_ : Shape := ⟨0, ![]⟩

class Facts : Prop where
  bcast_S_S1x4096x1024 : S_.BroadcastsInDim S1x4096x1024 (![] : Fin 0 → Fin S1x4096x1024.rank)
  bcast_S_S1024 : S_.BroadcastsInDim S1024 (![] : Fin 0 → Fin S1024.rank)
  bcast_S_S2048x2048 : S_.BroadcastsInDim S2048x2048 (![] : Fin 0 → Fin S2048x2048.rank)
  bcast_S_S1x4096x2048 : S_.BroadcastsInDim S1x4096x2048 (![] : Fin 0 → Fin S1x4096x2048.rank)

variable [Facts]

def fn_part1 {F : FTy → Type} [FloatOps F] (main_arg6 : FVec F S1x4096x2048 .f32) (main_v2 : IVec S1x4096x1024 1) (main_v5 : IVec S1x4096x1024 1) (main_v8 : IVec S1x4096x1024 1) (main_v11 : IVec S1x4096x1024 1) (main_v14 : IVec S1024 1) (main_v17 : IVec S2048x2048 1) : IVec S1x4096x1024 1 × IVec S1x4096x1024 1 × IVec S1x4096x1024 1 × IVec S1x4096x1024 1 × IVec S1024 1 × IVec S2048x2048 1 × IVec S1x4096x2048 1 :=
  let main_v18 : FVec F S1x4096x2048 .f32 := Host.absf main_arg6
  let main_cst_5 : FVec F S_ .f32 := constant S_ .f32 0x7F800000#32
  let main_v19 : FVec F S1x4096x2048 .f32 := broadcastInDim S1x4096x2048 ![] bcast_S_S1x4096x2048 main_cst_5
  let main_v20 : IVec S1x4096x2048 1 := cmpf .olt main_v18 main_v19
  (main_v2, main_v5, main_v8, main_v11, main_v14, main_v17, main_v20)

def fn {F : FTy → Type} [FloatOps F] (main_arg0 : FVec F S1x4096x1024 .f32) (main_arg1 : FVec F S1x4096x1024 .f32) (main_arg2 : FVec F S1x4096x1024 .f32) (main_arg3 : FVec F S1x4096x1024 .f32) (main_arg4 : FVec F S1024 .f32) (main_arg5 : FVec F S2048x2048 .f32) (main_arg6 : FVec F S1x4096x2048 .f32) : IVec S1x4096x1024 1 × IVec S1x4096x1024 1 × IVec S1x4096x1024 1 × IVec S1x4096x1024 1 × IVec S1024 1 × IVec S2048x2048 1 × IVec S1x4096x2048 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S1x4096x1024 .f32 := Host.absf main_arg2
  let main_cst_1 : FVec F S_ .f32 := constant S_ .f32 0x7F800000#32
  let main_v7 : FVec F S1x4096x1024 .f32 := broadcastInDim S1x4096x1024 ![] bcast_S_S1x4096x1024 main_cst_1
  let main_v8 : IVec S1x4096x1024 1 := cmpf .olt main_v6 main_v7
  let main_v9 : FVec F S1x4096x1024 .f32 := Host.absf main_arg3
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S2048x2048 .f32 := Host.absf main_arg5
  let main_cst_4 : FVec F S_ .f32 := constant S_ .f32 0x7F800000#32
  let main_v16 : FVec F S2048x2048 .f32 := broadcastInDim S2048x2048 ![] bcast_S_S2048x2048 main_cst_4
  let main_v17 : IVec S2048x2048 1 := cmpf .olt main_v15 main_v16
  fn_part1 (F := F) main_arg6 main_v2 main_v5 main_v8 main_v11 main_v14 main_v17
-- ==== Pre_finite_norm.lean ====
abbrev S1x4096x2048 : Shape := ⟨3, ![1, 4096, 2048]⟩
abbrev S2048 : Shape := ⟨1, ![2048]⟩
abbrev S1x1x2048 : Shape := ⟨3, ![1, 1, 2048]⟩
abbrev S_ : Shape := ⟨0, ![]⟩

class Facts : Prop where
  bcast_S_S1x4096x2048 : S_.BroadcastsInDim S1x4096x2048 (![] : Fin 0 → Fin S1x4096x2048.rank)
  bcast_S_S2048 : S_.BroadcastsInDim S2048 (![] : Fin 0 → Fin S2048.rank)
  bcast_S_S1x1x2048 : S_.BroadcastsInDim S1x1x2048 (![] : Fin 0 → Fin S1x1x2048.rank)

variable [Facts]

def fn {F : FTy → Type} [FloatOps F] (main_arg0 : FVec F S1x4096x2048 .f32) (main_arg1 : FVec F S2048 .f32) (main_arg2 : FVec F S1x1x2048 .f32) (main_arg3 : FVec F S1x1x2048 .f32) (main_arg4 : FVec F S1x4096x2048 .f32) (main_arg5 : FVec F S1x4096x2048 .f32) : IVec S1x4096x2048 1 × IVec S2048 1 × IVec S1x1x2048 1 × IVec S1x4096x2048 1 :=
  let main_v0 : FVec F S1x4096x2048 .f32 := Host.absf main_arg0
  let main_cst : FVec F S_ .f32 := constant S_ .f32 0x7F800000#32
  let main_v1 : FVec F S1x4096x2048 .f32 := broadcastInDim S1x4096x2048 ![] bcast_S_S1x4096x2048 main_cst
  let main_v2 : IVec S1x4096x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S1x1x2048 .f32 := Host.absf main_arg3
  let main_cst_1 : FVec F S_ .f32 := constant S_ .f32 0x7F800000#32
  let main_v7 : FVec F S1x1x2048 .f32 := broadcastInDim S1x1x2048 ![] bcast_S_S1x1x2048 main_cst_1
  let main_v8 : IVec S1x1x2048 1 := cmpf .olt main_v6 main_v7
  let main_v9 : FVec F S1x4096x2048 .f32 := Host.absf main_arg5
  let main_cst_2 : FVec F S_ .f32 := constant S_ .f32 0x7F800000#32
  let main_v10 : FVec F S1x4096x2048 .f32 := broadcastInDim S1x4096x2048 ![] bcast_S_S1x4096x2048 main_cst_2
  let main_v11 : IVec S1x4096x2048 1 := cmpf .olt main_v9 main_v10
  (main_v2, main_v5, main_v8, main_v11)
-- ==== Pre_finite_norm_below.lean ====
abbrev S1x4096x2048 : Shape := ⟨3, ![1, 4096, 2048]⟩
abbrev S1x1x2048 : Shape := ⟨3, ![1, 1, 2048]⟩
abbrev S2048 : Shape := ⟨1, ![2048]⟩
abbrev S_ : Shape := ⟨0, ![]⟩

class Facts : Prop where
  bcast_S_S1x4096x2048 : S_.BroadcastsInDim S1x4096x2048 (![] : Fin 0 → Fin S1x4096x2048.rank)
  bcast_S_S1x1x2048 : S_.BroadcastsInDim S1x1x2048 (![] : Fin 0 → Fin S1x1x2048.rank)
  bcast_S_S2048 : S_.BroadcastsInDim S2048 (![] : Fin 0 → Fin S2048.rank)

variable [Facts]

def fn {F : FTy → Type} [FloatOps F] (main_arg0 : FVec F S1x4096x2048 .f32) (main_arg1 : FVec F S1x4096x2048 .f32) (main_arg2 : FVec F S1x1x2048 .f32) (main_arg3 : FVec F S2048 .f32) (main_arg4 : FVec F S1x1x2048 .f32) (main_arg5 : FVec F S1x1x2048 .f32) (main_arg6 : FVec F S1x4096x2048 .f32) (main_arg7 : FVec F S1x4096x2048 .f32) : IVec S1x4096x2048 1 × IVec S1x4096x2048 1 × IVec S1x1x2048 1 × IVec S2048 1 × IVec S1x1x2048 1 × IVec S1x4096x2048 1 :=
  let main_v0 : FVec F S1x4096x2048 .f32 := Host.absf main_arg0
  let main_cst : FVec F S_ .f32 := constant S_ .f32 0x7F800000#32
  let main_v1 : FVec F S1x4096x2048 .f32 := broadcastInDim S1x4096x2048 ![] bcast_S_S1x4096x2048 main_cst
  let main_v2 : IVec S1x4096x2048 1 := cmpf .olt main_v0 main_v1
  let main_v3 : FVec F S1x4096x2048 .f32 := Host.absf main_arg1
  let main_cst_0 : FVec F S_ .f32 := constant S_ .f32 0x7F800000#32
  let main_v4 : FVec F S1x4096x2048 .f32 := broadcastInDim S1x4096x2048 ![] bcast_S_S1x4096x2048 main_cst_0
  let main_v5 : IVec S1x4096x2048 1 := cmpf .olt main_v3 main_v4
  let main_v6 : FVec F S1x1x2048 .f32 := Host.absf main_arg2
  let main_cst_1 : FVec F S_ .f32 := constant S_ .f32 0x7F800000#32
  let main_v7 : FVec F S1x1x2048 .f32 := broadcastInDim S1x1x2048 ![] bcast_S_S1x1x2048 main_cst_1
  let main_v8 : IVec S1x1x2048 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S1x1x2048 .f32 := Host.absf main_arg5
  let main_cst_3 : FVec F S_ .f32 := constant S_ .f32 0x7F800000#32
  let main_v13 : FVec F S1x1x2048 .f32 := broadcastInDim S1x1x2048 ![] bcast_S_S1x1x2048 main_cst_3
  let main_v14 : IVec S1x1x2048 1 := cmpf .olt main_v12 main_v13
  let main_v15 : FVec F S1x4096x2048 .f32 := Host.absf main_arg7
  let main_cst_4 : FVec F S_ .f32 := constant S_ .f32 0x7F800000#32
  let main_v16 : FVec F S1x4096x2048 .f32 := broadcastInDim S1x4096x2048 ![] bcast_S_S1x4096x2048 main_cst_4
  let main_v17 : IVec S1x4096x2048 1 := cmpf .olt main_v15 main_v16
  (main_v2, main_v5, main_v8, main_v11, main_v14, main_v17)
-- ==== Kernel.lean ====
abbrev S1x4096x8x192 : Shape := ⟨4, ![1, 4096, 8, 192]⟩
abbrev S1x4096x8x128 : Shape := ⟨4, ![1, 4096, 8, 128]⟩
abbrev S_ : Shape := ⟨0, ![]⟩
abbrev S4096x8x192 : Shape := ⟨3, ![4096, 8, 192]⟩
abbrev S8x4096x192 : Shape := ⟨3, ![8, 4096, 192]⟩
abbrev S8x4096x256 : Shape := ⟨3, ![8, 4096, 256]⟩
abbrev S4096x8x128 : Shape := ⟨3, ![4096, 8, 128]⟩
abbrev S8x4096x128 : Shape := ⟨3, ![8, 4096, 128]⟩
abbrev S4096x1024 : Shape := ⟨2, ![4096, 1024]⟩
abbrev S8x8x1x512 : Shape := ⟨4, ![8, 8, 1, 512]⟩
abbrev S1x4096x256 : Shape := ⟨3, ![1, 4096, 256]⟩
abbrev S512x128 : Shape := ⟨2, ![512, 128]⟩
abbrev S1x1x1x512 : Shape := ⟨4, ![1, 1, 1, 512]⟩
abbrev S512x256 : Shape := ⟨2, ![512, 256]⟩
abbrev S3x512x512 : Shape := ⟨3, ![3, 512, 512]⟩
abbrev S1x512x256 : Shape := ⟨3, ![1, 512, 256]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S4096x8 : Shape := ⟨2, ![4096, 8]⟩
abbrev S8x4096 : Shape := ⟨2, ![8, 4096]⟩
abbrev S4096x128 : Shape := ⟨2, ![4096, 128]⟩
abbrev S1x8x1x512 : Shape := ⟨4, ![1, 8, 1, 512]⟩
abbrev S1x512x128 : Shape := ⟨3, ![1, 512, 128]⟩

abbrev nBuf : Space → Nat
  | .hbm => 49
  | .vmem => 35
  | .smem => 0
  | _ => 0

abbrev bufTy : (tb : Table) → Fin (tcTables nBuf tb) → BufTy
  | .hbm, ⟨0, _⟩ => ⟨S1x4096x8x192, .f32⟩
  | .hbm, ⟨1, _⟩ => ⟨S1x4096x8x192, .f32⟩
  | .hbm, ⟨2, _⟩ => ⟨S1x4096x8x128, .f32⟩
  | .hbm, ⟨3, _⟩ => ⟨S1x4096x8x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x4096x8x192, .f32⟩
  | .hbm, ⟨8, _⟩ => ⟨S1x4096x8x192, .f32⟩
  | .hbm, ⟨9, _⟩ => ⟨S1x4096x8x192, .f32⟩
  | .hbm, ⟨10, _⟩ => ⟨S1x4096x8x192, .f32⟩
  | .hbm, ⟨11, _⟩ => ⟨S4096x8x192, .f32⟩
  | .hbm, ⟨12, _⟩ => ⟨S8x4096x192, .f32⟩
  | .hbm, ⟨13, _⟩ => ⟨S_, .i32⟩
  | .hbm, ⟨14, _⟩ => ⟨S_, .f32⟩
  | .hbm, ⟨15, _⟩ => ⟨S8x4096x256, .f32⟩
  | .hbm, ⟨16, _⟩ => ⟨S8x4096x256, .bf16⟩
  | .hbm, ⟨17, _⟩ => ⟨S4096x8x192, .f32⟩
  | .hbm, ⟨18, _⟩ => ⟨S8x4096x192, .f32⟩
  | .hbm, ⟨19, _⟩ => ⟨S_, .i32⟩
  | .hbm, ⟨20, _⟩ => ⟨S_, .f32⟩
  | .hbm, ⟨21, _⟩ => ⟨S8x4096x256, .f32⟩
  | .hbm, ⟨22, _⟩ => ⟨S8x4096x256, .bf16⟩
  | .hbm, ⟨23, _⟩ => ⟨S4096x8x128, .f32⟩
  | .hbm, ⟨24, _⟩ => ⟨S8x4096x128, .f32⟩
  | .hbm, ⟨25, _⟩ => ⟨S_, .f32⟩
  | .hbm, ⟨26, _⟩ => ⟨S8x4096x128, .f32⟩
  | .hbm, ⟨27, _⟩ => ⟨S8x4096x256, .f32⟩
  | .hbm, ⟨28, _⟩ => ⟨S8x4096x256, .bf16⟩
  | .hbm, ⟨29, _⟩ => ⟨S4096x1024, .f32⟩
  | .hbm, ⟨30, _⟩ => ⟨S8x8x1x512, .f32⟩
  | .hbm, ⟨31, _⟩ => ⟨S4096x1024, .f32⟩
  | .hbm, ⟨32, _⟩ => ⟨S4096x1024, .f32⟩
  | .hbm, ⟨33, _⟩ => ⟨S4096x8x128, .f32⟩
  | .hbm, ⟨34, _⟩ => ⟨S_, .f32⟩
  | .hbm, ⟨35, _⟩ => ⟨S4096x8, .f32⟩
  | .hbm, ⟨36, _⟩ => ⟨S8x4096, .f32⟩
  | .hbm, ⟨37, _⟩ => ⟨S8x8x1x512, .f32⟩
  | .hbm, ⟨38, _⟩ => ⟨S4096x1024, .bf16⟩
  | .hbm, ⟨39, _⟩ => ⟨S8x4096x256, .f32⟩
  | .hbm, ⟨40, _⟩ => ⟨S8x4096x256, .f32⟩
  | .hbm, ⟨41, _⟩ => ⟨S8x4096x128, .f32⟩
  | .hbm, ⟨42, _⟩ => ⟨S_, .f32⟩
  | .hbm, ⟨43, _⟩ => ⟨S8x4096x256, .f32⟩
  | .hbm, ⟨44, _⟩ => ⟨S8x4096x256, .f32⟩
  | .hbm, ⟨45, _⟩ => ⟨S8x4096x192, .f32⟩
  | .hbm, ⟨46, _⟩ => ⟨S8x4096x256, .f32⟩
  | .hbm, ⟨47, _⟩ => ⟨S8x4096x256, .f32⟩
  | .hbm, ⟨48, _⟩ => ⟨S8x4096x192, .f32⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S512x128, .f32⟩
  | .local _ .vmem, ⟨7, _⟩ => ⟨S512x128, .f32⟩
  | .local _ .vmem, ⟨8, _⟩ => ⟨S1x1x1x512, .f32⟩
  | .local _ .vmem, ⟨9, _⟩ => ⟨S1x1x1x512, .f32⟩
  | .local _ .vmem, ⟨10, _⟩ => ⟨S512x128, .f32⟩
  | .local _ .vmem, ⟨11, _⟩ => ⟨S512x256, .f32⟩
  | .local _ .vmem, ⟨12, _⟩ => ⟨S3x512x512, .f32⟩
  | .local _ .vmem, ⟨13, _⟩ => ⟨S1x4096x256, .bf16⟩
  | .local _ .vmem, ⟨14, _⟩ => ⟨S1x4096x256, .bf16⟩
  | .local _ .vmem, ⟨15, _⟩ => ⟨S4096x128, .bf16⟩
  | .local _ .vmem, ⟨16, _⟩ => ⟨S4096x128, .bf16⟩
  | .local _ .vmem, ⟨17, _⟩ => ⟨S1x8x1x512, .f32⟩
  | .local _ .vmem, ⟨18, _⟩ => ⟨S1x8x1x512, .f32⟩
  | .local _ .vmem, ⟨19, _⟩ => ⟨S1x8x1x512, .f32⟩
  | .local _ .vmem, ⟨20, _⟩ => ⟨S1x8x1x512, .f32⟩
  | .local _ .vmem, ⟨21, _⟩ => ⟨S1x4096x256, .bf16⟩
  | .local _ .vmem, ⟨22, _⟩ => ⟨S1x4096x256, .bf16⟩
  | .local _ .vmem, ⟨23, _⟩ => ⟨S1x4096x256, .bf16⟩
  | .local _ .vmem, ⟨24, _⟩ => ⟨S1x4096x256, .bf16⟩
  | .local _ .vmem, ⟨25, _⟩ => ⟨S1x4096x256, .f32⟩
  | .local _ .vmem, ⟨26, _⟩ => ⟨S1x4096x256, .f32⟩
  | .local _ .vmem, ⟨27, _⟩ => ⟨S1x512x256, .f32⟩
  | .local _ .vmem, ⟨28, _⟩ => ⟨S1x512x256, .f32⟩
  | .local _ .vmem, ⟨29, _⟩ => ⟨S1x512x128, .f32⟩
  | .local _ .vmem, ⟨30, _⟩ => ⟨S1x512x128, .f32⟩
  | .local _ .vmem, ⟨31, _⟩ => ⟨S512x256, .f32⟩
  | .local _ .vmem, ⟨32, _⟩ => ⟨S512x128, .f32⟩
  | .local _ .vmem, ⟨33, _⟩ => ⟨S3x512x512, .f32⟩
  | .local _ .vmem, ⟨34, _⟩ => ⟨S3x512x512, .f32⟩
  | _, _ => ⟨S1x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_scratch0 : Ref sig .tc := ⟨.vmem, 31, rfl⟩
abbrev cc1_scratch1 : Ref sig .tc := ⟨.vmem, 32, rfl⟩
abbrev cc1_scratch2 : Ref sig .tc := ⟨.vmem, 33, rfl⟩
abbrev cc1_scratch3 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v10 : BitVec 1 := Scalar.cmpi .eq arg1 c0_i32
  let v11 : BitVec 32 := Scalar.extui v10
  let c0_i32_4 : BitVec 32 := 0#32
  let v12 : BitVec 1 := Scalar.cmpi .ne v11 c0_i32_4
  v12

def k0_mult1 : BitVec 32 :=
  let c0_i32_19 : BitVec 32 := 0#32
  c0_i32_19
def k0_mult2 : BitVec 32 :=
  let c0_i32_22 : BitVec 32 := 0#32
  c0_i32_22
def k0_mult3 : BitVec 32 :=
  let c0_i32_37 : BitVec 32 := 0#32
  c0_i32_37
def k0_mult4 (i : grid0.Coords) : BitVec 32 :=
  let arg1 : BitVec 32 := BitVec.ofNat 32 (i 1).val
  let c1_i32 : BitVec 32 := 1#32
  let v8 : BitVec 32 := Scalar.addi arg1 c1_i32
  let c7_i32 : BitVec 32 := 7#32
  let v9 : BitVec 32 := Scalar.minsi v8 c7_i32
  let c512_i32 : BitVec 32 := 512#32
  let v75 : BitVec 32 := Scalar.muli v9 c512_i32
  v75
def k0_off1 (i : grid0.Coords) : Fin 3 → Nat :=
  let c0_45 : Index := 0#32
  let arg1 : BitVec 32 := BitVec.ofNat 32 (i 1).val
  let c1_i32 : BitVec 32 := 1#32
  let v8 : BitVec 32 := Scalar.addi arg1 c1_i32
  let c7_i32 : BitVec 32 := 7#32
  let v9 : BitVec 32 := Scalar.minsi v8 c7_i32
  let c512_i32 : BitVec 32 := 512#32
  let v75 : BitVec 32 := Scalar.muli v9 c512_i32
  let v76 : BitVec 32 := v75
  let v77 : Index := Scalar.indexCast v76
  let c0_46 : Index := 0#32
  ![0, v77.toNat, 0]
def k0_mult5 : BitVec 32 :=
  let c0_i32_47 : BitVec 32 := 0#32
  c0_i32_47
def k0_cond2 (i : grid0.Coords) : BitVec 1 :=
  let arg1 : BitVec 32 := BitVec.ofNat 32 (i 1).val
  let c0_i32_5 : BitVec 32 := 0#32
  let v13 : BitVec 1 := Scalar.cmpi .sgt arg1 c0_i32_5
  let v14 : BitVec 32 := Scalar.extui v13
  let c0_i32_6 : BitVec 32 := 0#32
  let v15 : BitVec 1 := Scalar.cmpi .ne v14 c0_i32_6
  v15

def k0_mult6 (i : grid0.Coords) : BitVec 32 :=
  let arg1 : BitVec 32 := BitVec.ofNat 32 (i 1).val
  let c512_i32 : BitVec 32 := 512#32
  let v30 : BitVec 32 := Scalar.muli arg1 c512_i32
  v30
def k0_off2 (i : grid0.Coords) : Fin 3 → Nat :=
  let c0_19 : Index := 0#32
  let arg1 : BitVec 32 := BitVec.ofNat 32 (i 1).val
  let c512_i32 : BitVec 32 := 512#32
  let v30 : BitVec 32 := Scalar.muli arg1 c512_i32
  let v31 : BitVec 32 := v30
  let v32 : Index := Scalar.indexCast v31
  let c0_20 : Index := 0#32
  ![0, v32.toNat, 0]
def k0_mult7 : BitVec 32 :=
  let c512_i32_21 : BitVec 32 := 512#32
  c512_i32_21
def k0_mult8 : BitVec 32 :=
  let c0_i32_34 : BitVec 32 := 0#32
  c0_i32_34
@[reducible] def k0_t1_loop (i : grid0.Coords) : Scf.Loop 32 :=
  let c0_i32_50 : BitVec 32 := 0#32
  let arg1 : BitVec 32 := BitVec.ofNat 32 (i 1).val
  let c1_i32_42 : BitVec 32 := 1#32
  let v71 : BitVec 32 := Scalar.subi arg1 c1_i32_42
  let c0_i32_43 : BitVec 32 := 0#32
  let v73 : BitVec 1 := Scalar.cmpi .sgt v71 c0_i32_43
  let v74 : BitVec 32 := Scalar.extui v73
  let c0_i32_44 : BitVec 32 := 0#32
  let v75 : BitVec 1 := Scalar.cmpi .slt v71 c0_i32_44
  let v76 : BitVec 32 := Scalar.extui v75
  let v77 : BitVec 32 := Scalar.subi v74 v76
  let c2_i32 : BitVec 32 := 2#32
  let c0_i32_45 : BitVec 32 := 0#32
  let v78 : BitVec 1 := Scalar.cmpi .sgt c2_i32 c0_i32_45
  let v79 : BitVec 32 := Scalar.extui v78
  let c0_i32_46 : BitVec 32 := 0#32
  let v80 : BitVec 1 := Scalar.cmpi .slt c2_i32 c0_i32_46
  let v81 : BitVec 32 := Scalar.extui v80
  let v82 : BitVec 32 := Scalar.subi v79 v81
  let v83 : BitVec 1 := Scalar.cmpi .ne v77 v82
  let v84 : BitVec 32 := Scalar.remsi v71 c2_i32
  let c0_i32_47 : BitVec 32 := 0#32
  let v85 : BitVec 1 := Scalar.cmpi .ne v84 c0_i32_47
  let v86 : BitVec 1 := Scalar.andi v83 v85
  let v72 : BitVec 32 := Scalar.divsi v71 c2_i32
  let c1_i32_48 : BitVec 32 := 1#32
  let v87 : BitVec 32 := Scalar.subi v72 c1_i32_48
  let v88 : BitVec 32 := Scalar.select v86 v87 v72
  let v89 : BitVec 32 := Scalar.subi v88 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_52 : BitVec 32 := 1#32
  ⟨c0_i32_50, v93, c1_i32_52⟩
def k0_mult9 (i : grid0.Coords) : BitVec 32 :=
  let arg1 : BitVec 32 := BitVec.ofNat 32 (i 1).val
  let c512_i32_72 : BitVec 32 := 512#32
  let v122 : BitVec 32 := Scalar.muli arg1 c512_i32_72
  v122
def k0_off3 (i : grid0.Coords) : Fin 3 → Nat :=
  let c0_73 : Index := 0#32
  let arg1 : BitVec 32 := BitVec.ofNat 32 (i 1).val
  let c512_i32_72 : BitVec 32 := 512#32
  let v122 : BitVec 32 := Scalar.muli arg1 c512_i32_72
  let v123 : BitVec 32 := v122
  let v124 : Index := Scalar.indexCast v123
  let c0_74 : Index := 0#32
  ![0, v124.toNat, 0]
def k0_mult10 (i : grid0.Coords) (k0_t1 : Fin (k0_t1_loop i).trips) : BitVec 32 :=
  let c2_i32_70 : BitVec 32 := 2#32
  let c0_i32_50 : BitVec 32 := 0#32
  let c1_i32_52 : BitVec 32 := 1#32
  let arg10 : BitVec 32 := Scf.iv c0_i32_50 c1_i32_52 k0_t1
  let v120 : BitVec 32 := Scalar.muli c2_i32_70 arg10
  let c2_i32_71 : BitVec 32 := 2#32
  let v121 : BitVec 32 := Scalar.addi v120 c2_i32_71
  let c512_i32_75 : BitVec 32 := 512#32
  let v127 : BitVec 32 := Scalar.muli v121 c512_i32_75
  v127
def k0_off4 (i : grid0.Coords) (k0_t1 : Fin (k0_t1_loop i).trips) (c2_i32_71 : BitVec 32) : Fin 3 → Nat :=
  let c0_76 : Index := 0#32
  let c2_i32_70 : BitVec 32 := 2#32
  let c0_i32_50 : BitVec 32 := 0#32
  let c1_i32_52 : BitVec 32 := 1#32
  let arg10 : BitVec 32 := Scf.iv c0_i32_50 c1_i32_52 k0_t1
  let v120 : BitVec 32 := Scalar.muli c2_i32_70 arg10
  let v121 : BitVec 32 := Scalar.addi v120 c2_i32_71
  let c512_i32_75 : BitVec 32 := 512#32
  let v127 : BitVec 32 := Scalar.muli v121 c512_i32_75
  let v128 : BitVec 32 := v127
  let v129 : Index := Scalar.indexCast v128
  let c0_77 : Index := 0#32
  ![0, v129.toNat, 0]
def k0_mult11 (i : grid0.Coords) (k0_t1 : Fin (k0_t1_loop i).trips) : BitVec 32 :=
  let c2_i32_82 : BitVec 32 := 2#32
  let c0_i32_50 : BitVec 32 := 0#32
  let c1_i32_52 : BitVec 32 := 1#32
  let arg10 : BitVec 32 := Scf.iv c0_i32_50 c1_i32_52 k0_t1
  let v136 : BitVec 32 := Scalar.muli c2_i32_82 arg10
  let c1_i32_83 : BitVec 32 := 1#32
  let v137 : BitVec 32 := Scalar.addi v136 c1_i32_83
  let c512_i32_92 : BitVec 32 := 512#32
  let v154 : BitVec 32 := Scalar.muli v137 c512_i32_92
  v154
def k0_mult12 (i : grid0.Coords) : BitVec 32 :=
  let arg1 : BitVec 32 := BitVec.ofNat 32 (i 1).val
  let c512_i32_101 : BitVec 32 := 512#32
  let v169 : BitVec 32 := Scalar.muli arg1 c512_i32_101
  v169
def k0_mult13 (i : grid0.Coords) (k0_t1 : Fin (k0_t1_loop i).trips) : BitVec 32 :=
  let c2_i32_100 : BitVec 32 := 2#32
  let c0_i32_50 : BitVec 32 := 0#32
  let c1_i32_52 : BitVec 32 := 1#32
  let arg10 : BitVec 32 := Scf.iv c0_i32_50 c1_i32_52 k0_t1
  let v167 : BitVec 32 := Scalar.muli c2_i32_100 arg10
  let c3_i32 : BitVec 32 := 3#32
  let v168 : BitVec 32 := Scalar.addi v167 c3_i32
  let c512_i32_104 : BitVec 32 := 512#32
  let v174 : BitVec 32 := Scalar.muli v168 c512_i32_104
  v174
def k0_mult14 (i : grid0.Coords) (k0_t1 : Fin (k0_t1_loop i).trips) : BitVec 32 :=
  let c2_i32_111 : BitVec 32 := 2#32
  let c0_i32_50 : BitVec 32 := 0#32
  let c1_i32_52 : BitVec 32 := 1#32
  let arg10 : BitVec 32 := Scf.iv c0_i32_50 c1_i32_52 k0_t1
  let v183 : BitVec 32 := Scalar.muli c2_i32_111 arg10
  let c2_i32_112 : BitVec 32 := 2#32
  let v184 : BitVec 32 := Scalar.addi v183 c2_i32_112
  let c512_i32_121 : BitVec 32 := 512#32
  let v201 : BitVec 32 := Scalar.muli v184 c512_i32_121
  v201
@[reducible] def k0_t2_loop (i : grid0.Coords) : Scf.Loop 32 :=
  let c0_i32_50 : BitVec 32 := 0#32
  let arg1 : BitVec 32 := BitVec.ofNat 32 (i 1).val
  let c1_i32_42 : BitVec 32 := 1#32
  let v71 : BitVec 32 := Scalar.subi arg1 c1_i32_42
  let c0_i32_43 : BitVec 32 := 0#32
  let v73 : BitVec 1 := Scalar.cmpi .sgt v71 c0_i32_43
  let v74 : BitVec 32 := Scalar.extui v73
  let c0_i32_44 : BitVec 32 := 0#32
  let v75 : BitVec 1 := Scalar.cmpi .slt v71 c0_i32_44
  let v76 : BitVec 32 := Scalar.extui v75
  let v77 : BitVec 32 := Scalar.subi v74 v76
  let c2_i32 : BitVec 32 := 2#32
  let c0_i32_45 : BitVec 32 := 0#32
  let v78 : BitVec 1 := Scalar.cmpi .sgt c2_i32 c0_i32_45
  let v79 : BitVec 32 := Scalar.extui v78
  let c0_i32_46 : BitVec 32 := 0#32
  let v80 : BitVec 1 := Scalar.cmpi .slt c2_i32 c0_i32_46
  let v81 : BitVec 32 := Scalar.extui v80
  let v82 : BitVec 32 := Scalar.subi v79 v81
  let v83 : BitVec 1 := Scalar.cmpi .ne v77 v82
  let v84 : BitVec 32 := Scalar.remsi v71 c2_i32
  let c0_i32_47 : BitVec 32 := 0#32
  let v85 : BitVec 1 := Scalar.cmpi .ne v84 c0_i32_47
  let v86 : BitVec 1 := Scalar.andi v83 v85
  let v72 : BitVec 32 := Scalar.divsi v71 c2_i32
  let c1_i32_48 : BitVec 32 := 1#32
  let v87 : BitVec 32 := Scalar.subi v72 c1_i32_48
  let v88 : BitVec 32 := Scalar.select v86 v87 v72
  let v89 : BitVec 32 := Scalar.subi v88 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let v90 : BitVec 32 := Scalar.addi c0_i32_50 v89
  let c1_i32_53 : BitVec 32 := 1#32
  ⟨v93, v90, c1_i32_53⟩
def k0_mult15 (i : grid0.Coords) : BitVec 32 :=
  let arg1 : BitVec 32 := BitVec.ofNat 32 (i 1).val
  let c512_i32_72 : BitVec 32 := 512#32
  let v122 : BitVec 32 := Scalar.muli arg1 c512_i32_72
  v122
def k0_off5 (i : grid0.Coords) : Fin 3 → Nat :=
  let c0_73 : Index := 0#32
  let arg1 : BitVec 32 := BitVec.ofNat 32 (i 1).val
  let c512_i32_72 : BitVec 32 := 512#32
  let v122 : BitVec 32 := Scalar.muli arg1 c512_i32_72
  let v123 : BitVec 32 := v122
  let v124 : Index := Scalar.indexCast v123
  let c0_74 : Index := 0#32
  ![0, v124.toNat, 0]
def k0_mult16 (i : grid0.Coords) (k0_t2 : Fin (k0_t2_loop i).trips) : BitVec 32 :=
  let c2_i32_70 : BitVec 32 := 2#32
  let c0_i32_50 : BitVec 32 := 0#32
  let arg1 : BitVec 32 := BitVec.ofNat 32 (i 1).val
  let c1_i32_42 : BitVec 32 := 1#32
  let v71 : BitVec 32 := Scalar.subi arg1 c1_i32_42
  let c0_i32_43 : BitVec 32 := 0#32
  let v73 : BitVec 1 := Scalar.cmpi .sgt v71 c0_i32_43
  let v74 : BitVec 32 := Scalar.extui v73
  let c0_i32_44 : BitVec 32 := 0#32
  let v75 : BitVec 1 := Scalar.cmpi .slt v71 c0_i32_44
  let v76 : BitVec 32 := Scalar.extui v75
  let v77 : BitVec 32 := Scalar.subi v74 v76
  let c2_i32 : BitVec 32 := 2#32
  let c0_i32_45 : BitVec 32 := 0#32
  let v78 : BitVec 1 := Scalar.cmpi .sgt c2_i32 c0_i32_45
  let v79 : BitVec 32 := Scalar.extui v78
  let c0_i32_46 : BitVec 32 := 0#32
  let v80 : BitVec 1 := Scalar.cmpi .slt c2_i32 c0_i32_46
  let v81 : BitVec 32 := Scalar.extui v80
  let v82 : BitVec 32 := Scalar.subi v79 v81
  let v83 : BitVec 1 := Scalar.cmpi .ne v77 v82
  let v84 : BitVec 32 := Scalar.remsi v71 c2_i32
  let c0_i32_47 : BitVec 32 := 0#32
  let v85 : BitVec 1 := Scalar.cmpi .ne v84 c0_i32_47
  let v86 : BitVec 1 := Scalar.andi v83 v85
  let v72 : BitVec 32 := Scalar.divsi v71 c2_i32
  let c1_i32_48 : BitVec 32 := 1#32
  let v87 : BitVec 32 := Scalar.subi v72 c1_i32_48
  let v88 : BitVec 32 := Scalar.select v86 v87 v72
  let v89 : BitVec 32 := Scalar.subi v88 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t2
  let v120 : BitVec 32 := Scalar.muli c2_i32_70 arg10
  let c2_i32_71 : BitVec 32 := 2#32
  let v121 : BitVec 32 := Scalar.addi v120 c2_i32_71
  let c512_i32_75 : BitVec 32 := 512#32
  let v127 : BitVec 32 := Scalar.muli v121 c512_i32_75
  v127
def k0_off6 (i : grid0.Coords) (k0_t2 : Fin (k0_t2_loop i).trips) (c2_i32_71 : BitVec 32) : Fin 3 → Nat :=
  let c0_76 : Index := 0#32
  let c2_i32_70 : BitVec 32 := 2#32
  let c0_i32_50 : BitVec 32 := 0#32
  let arg1 : BitVec 32 := BitVec.ofNat 32 (i 1).val
  let c1_i32_42 : BitVec 32 := 1#32
  let v71 : BitVec 32 := Scalar.subi arg1 c1_i32_42
  let c0_i32_43 : BitVec 32 := 0#32
  let v73 : BitVec 1 := Scalar.cmpi .sgt v71 c0_i32_43
  let v74 : BitVec 32 := Scalar.extui v73
  let c0_i32_44 : BitVec 32 := 0#32
  let v75 : BitVec 1 := Scalar.cmpi .slt v71 c0_i32_44
  let v76 : BitVec 32 := Scalar.extui v75
  let v77 : BitVec 32 := Scalar.subi v74 v76
  let c2_i32 : BitVec 32 := 2#32
  let c0_i32_45 : BitVec 32 := 0#32
  let v78 : BitVec 1 := Scalar.cmpi .sgt c2_i32 c0_i32_45
  let v79 : BitVec 32 := Scalar.extui v78
  let c0_i32_46 : BitVec 32 := 0#32
  let v80 : BitVec 1 := Scalar.cmpi .slt c2_i32 c0_i32_46
  let v81 : BitVec 32 := Scalar.extui v80
  let v82 : BitVec 32 := Scalar.subi v79 v81
  let v83 : BitVec 1 := Scalar.cmpi .ne v77 v82
  let v84 : BitVec 32 := Scalar.remsi v71 c2_i32
  let c0_i32_47 : BitVec 32 := 0#32
  let v85 : BitVec 1 := Scalar.cmpi .ne v84 c0_i32_47
  let v86 : BitVec 1 := Scalar.andi v83 v85
  let v72 : BitVec 32 := Scalar.divsi v71 c2_i32
  let c1_i32_48 : BitVec 32 := 1#32
  let v87 : BitVec 32 := Scalar.subi v72 c1_i32_48
  let v88 : BitVec 32 := Scalar.select v86 v87 v72
  let v89 : BitVec 32 := Scalar.subi v88 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t2
  let v120 : BitVec 32 := Scalar.muli c2_i32_70 arg10
  let v121 : BitVec 32 := Scalar.addi v120 c2_i32_71
  let c512_i32_75 : BitVec 32 := 512#32
  let v127 : BitVec 32 := Scalar.muli v121 c512_i32_75
  let v128 : BitVec 32 := v127
  let v129 : Index := Scalar.indexCast v128
  let c0_77 : Index := 0#32
  ![0, v129.toNat, 0]
def k0_mult17 (i : grid0.Coords) (k0_t2 : Fin (k0_t2_loop i).trips) : BitVec 32 :=
  let c2_i32_82 : BitVec 32 := 2#32
  let c0_i32_50 : BitVec 32 := 0#32
  let arg1 : BitVec 32 := BitVec.ofNat 32 (i 1).val
  let c1_i32_42 : BitVec 32 := 1#32
  let v71 : BitVec 32 := Scalar.subi arg1 c1_i32_42
  let c0_i32_43 : BitVec 32 := 0#32
  let v73 : BitVec 1 := Scalar.cmpi .sgt v71 c0_i32_43
  let v74 : BitVec 32 := Scalar.extui v73
  let c0_i32_44 : BitVec 32 := 0#32
  let v75 : BitVec 1 := Scalar.cmpi .slt v71 c0_i32_44
  let v76 : BitVec 32 := Scalar.extui v75
  let v77 : BitVec 32 := Scalar.subi v74 v76
  let c2_i32 : BitVec 32 := 2#32
  let c0_i32_45 : BitVec 32 := 0#32
  let v78 : BitVec 1 := Scalar.cmpi .sgt c2_i32 c0_i32_45
  let v79 : BitVec 32 := Scalar.extui v78
  let c0_i32_46 : BitVec 32 := 0#32
  let v80 : BitVec 1 := Scalar.cmpi .slt c2_i32 c0_i32_46
  let v81 : BitVec 32 := Scalar.extui v80
  let v82 : BitVec 32 := Scalar.subi v79 v81
  let v83 : BitVec 1 := Scalar.cmpi .ne v77 v82
  let v84 : BitVec 32 := Scalar.remsi v71 c2_i32
  let c0_i32_47 : BitVec 32 := 0#32
  let v85 : BitVec 1 := Scalar.cmpi .ne v84 c0_i32_47
  let v86 : BitVec 1 := Scalar.andi v83 v85
  let v72 : BitVec 32 := Scalar.divsi v71 c2_i32
  let c1_i32_48 : BitVec 32 := 1#32
  let v87 : BitVec 32 := Scalar.subi v72 c1_i32_48
  let v88 : BitVec 32 := Scalar.select v86 v87 v72
  let v89 : BitVec 32 := Scalar.subi v88 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t2
  let v136 : BitVec 32 := Scalar.muli c2_i32_82 arg10
  let c1_i32_83 : BitVec 32 := 1#32
  let v137 : BitVec 32 := Scalar.addi v136 c1_i32_83
  let c512_i32_92 : BitVec 32 := 512#32
  let v154 : BitVec 32 := Scalar.muli v137 c512_i32_92
  v154
def k0_mult18 (i : grid0.Coords) : BitVec 32 :=
  let arg1 : BitVec 32 := BitVec.ofNat 32 (i 1).val
  let c512_i32_101 : BitVec 32 := 512#32
  let v169 : BitVec 32 := Scalar.muli arg1 c512_i32_101
  v169
def k0_mult19 (i : grid0.Coords) (k0_t2 : Fin (k0_t2_loop i).trips) : BitVec 32 :=
  let c2_i32_100 : BitVec 32 := 2#32
  let c0_i32_50 : BitVec 32 := 0#32
  let arg1 : BitVec 32 := BitVec.ofNat 32 (i 1).val
  let c1_i32_42 : BitVec 32 := 1#32
  let v71 : BitVec 32 := Scalar.subi arg1 c1_i32_42
  let c0_i32_43 : BitVec 32 := 0#32
  let v73 : BitVec 1 := Scalar.cmpi .sgt v71 c0_i32_43
  let v74 : BitVec 32 := Scalar.extui v73
  let c0_i32_44 : BitVec 32 := 0#32
  let v75 : BitVec 1 := Scalar.cmpi .slt v71 c0_i32_44
  let v76 : BitVec 32 := Scalar.extui v75
  let v77 : BitVec 32 := Scalar.subi v74 v76
  let c2_i32 : BitVec 32 := 2#32
  let c0_i32_45 : BitVec 32 := 0#32
  let v78 : BitVec 1 := Scalar.cmpi .sgt c2_i32 c0_i32_45
  let v79 : BitVec 32 := Scalar.extui v78
  let c0_i32_46 : BitVec 32 := 0#32
  let v80 : BitVec 1 := Scalar.cmpi .slt c2_i32 c0_i32_46
  let v81 : BitVec 32 := Scalar.extui v80
  let v82 : BitVec 32 := Scalar.subi v79 v81
  let v83 : BitVec 1 := Scalar.cmpi .ne v77 v82
  let v84 : BitVec 32 := Scalar.remsi v71 c2_i32
  let c0_i32_47 : BitVec 32 := 0#32
  let v85 : BitVec 1 := Scalar.cmpi .ne v84 c0_i32_47
  let v86 : BitVec 1 := Scalar.andi v83 v85
  let v72 : BitVec 32 := Scalar.divsi v71 c2_i32
  let c1_i32_48 : BitVec 32 := 1#32
  let v87 : BitVec 32 := Scalar.subi v72 c1_i32_48
  let v88 : BitVec 32 := Scalar.select v86 v87 v72
  let v89 : BitVec 32 := Scalar.subi v88 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t2
  let v167 : BitVec 32 := Scalar.muli c2_i32_100 arg10
  let c3_i32 : BitVec 32 := 3#32
  let v168 : BitVec 32 := Scalar.addi v167 c3_i32
  let c512_i32_104 : BitVec 32 := 512#32
  let v174 : BitVec 32 := Scalar.muli v168 c512_i32_104
  v174
def k0_mult20 (i : grid0.Coords) (k0_t2 : Fin (k0_t2_loop i).trips) : BitVec 32 :=
  let c2_i32_111 : BitVec 32 := 2#32
  let c0_i32_50 : BitVec 32 := 0#32
  let arg1 : BitVec 32 := BitVec.ofNat 32 (i 1).val
  let c1_i32_42 : BitVec 32 := 1#32
  let v71 : BitVec 32 := Scalar.subi arg1 c1_i32_42
  let c0_i32_43 : BitVec 32 := 0#32
  let v73 : BitVec 1 := Scalar.cmpi .sgt v71 c0_i32_43
  let v74 : BitVec 32 := Scalar.extui v73
  let c0_i32_44 : BitVec 32 := 0#32
  let v75 : BitVec 1 := Scalar.cmpi .slt v71 c0_i32_44
  let v76 : BitVec 32 := Scalar.extui v75
  let v77 : BitVec 32 := Scalar.subi v74 v76
  let c2_i32 : BitVec 32 := 2#32
  let c0_i32_45 : BitVec 32 := 0#32
  let v78 : BitVec 1 := Scalar.cmpi .sgt c2_i32 c0_i32_45
  let v79 : BitVec 32 := Scalar.extui v78
  let c0_i32_46 : BitVec 32 := 0#32
  let v80 : BitVec 1 := Scalar.cmpi .slt c2_i32 c0_i32_46
  let v81 : BitVec 32 := Scalar.extui v80
  let v82 : BitVec 32 := Scalar.subi v79 v81
  let v83 : BitVec 1 := Scalar.cmpi .ne v77 v82
  let v84 : BitVec 32 := Scalar.remsi v71 c2_i32
  let c0_i32_47 : BitVec 32 := 0#32
  let v85 : BitVec 1 := Scalar.cmpi .ne v84 c0_i32_47
  let v86 : BitVec 1 := Scalar.andi v83 v85
  let v72 : BitVec 32 := Scalar.divsi v71 c2_i32
  let c1_i32_48 : BitVec 32 := 1#32
  let v87 : BitVec 32 := Scalar.subi v72 c1_i32_48
  let v88 : BitVec 32 := Scalar.select v86 v87 v72
  let v89 : BitVec 32 := Scalar.subi v88 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t2
  let v183 : BitVec 32 := Scalar.muli c2_i32_111 arg10
  let c2_i32_112 : BitVec 32 := 2#32
  let v184 : BitVec 32 := Scalar.addi v183 c2_i32_112
  let c512_i32_121 : BitVec 32 := 512#32
  let v201 : BitVec 32 := Scalar.muli v184 c512_i32_121
  v201
def k0_cond3 (i : grid0.Coords) : BitVec 1 :=
  let arg1 : BitVec 32 := BitVec.ofNat 32 (i 1).val
  let c2_i32_54 : BitVec 32 := 2#32
  let c0_i32_55 : BitVec 32 := 0#32
  let v94 : BitVec 1 := Scalar.cmpi .eq c2_i32_54 c0_i32_55
  let c1_i32_56 : BitVec 32 := 1#32
  let v95 : BitVec 32 := Scalar.select v94 c1_i32_56 c2_i32_54
  let v96 : BitVec 32 := Scalar.remsi arg1 v95
  let c0_i32_58 : BitVec 32 := 0#32
  let v98 : BitVec 1 := Scalar.cmpi .slt v96 c0_i32_58
  let c0_i32_59 : BitVec 32 := 0#32
  let v99 : BitVec 1 := Scalar.cmpi .slt v95 c0_i32_59
  let v100 : BitVec 1 := Scalar.xori v98 v99
  let c0_i32_57 : BitVec 32 := 0#32
  let v97 : BitVec 1 := Scalar.cmpi .ne v96 c0_i32_57
  let v101 : BitVec 1 := Scalar.andi v100 v97
  let v102 : BitVec 32 := Scalar.addi v96 v95
  let v103 : BitVec 32 := Scalar.select v101 v102 v96
  let c1_i32_60 : BitVec 32 := 1#32
  let v104 : BitVec 1 := Scalar.cmpi .eq v103 c1_i32_60
  let v105 : BitVec 32 := Scalar.extui v104
  let c0_i32_61 : BitVec 32 := 0#32
  let v106 : BitVec 1 := Scalar.cmpi .ne v105 c0_i32_61
  v106

def k0_mult21 (i : grid0.Coords) : BitVec 32 :=
  let arg1 : BitVec 32 := BitVec.ofNat 32 (i 1).val
  let c1_i32 : BitVec 32 := 1#32
  let v8 : BitVec 32 := Scalar.addi arg1 c1_i32
  let c7_i32 : BitVec 32 := 7#32
  let v9 : BitVec 32 := Scalar.minsi v8 c7_i32
  let c512_i32_70 : BitVec 32 := 512#32
  let v120 : BitVec 32 := Scalar.muli v9 c512_i32_70
  v120
def k0_off7 (i : grid0.Coords) : Fin 3 → Nat :=
  let c0_71 : Index := 0#32
  let arg1 : BitVec 32 := BitVec.ofNat 32 (i 1).val
  let c1_i32 : BitVec 32 := 1#32
  let v8 : BitVec 32 := Scalar.addi arg1 c1_i32
  let c7_i32 : BitVec 32 := 7#32
  let v9 : BitVec 32 := Scalar.minsi v8 c7_i32
  let c512_i32_70 : BitVec 32 := 512#32
  let v120 : BitVec 32 := Scalar.muli v9 c512_i32_70
  let v121 : BitVec 32 := v120
  let v122 : Index := Scalar.indexCast v121
  let c0_72 : Index := 0#32
  ![0, v122.toNat, 0]
def k0_mult22 : BitVec 32 :=
  let c0_i32_73 : BitVec 32 := 0#32
  c0_i32_73
def k0_mult23 (i : grid0.Coords) : BitVec 32 :=
  let arg1 : BitVec 32 := BitVec.ofNat 32 (i 1).val
  let c512_i32_89 : BitVec 32 := 512#32
  let v154 : BitVec 32 := Scalar.muli arg1 c512_i32_89
  v154
def k0_off8 (i : grid0.Coords) : Fin 3 → Nat :=
  let c0_90 : Index := 0#32
  let arg1 : BitVec 32 := BitVec.ofNat 32 (i 1).val
  let c512_i32_89 : BitVec 32 := 512#32
  let v154 : BitVec 32 := Scalar.muli arg1 c512_i32_89
  let v155 : BitVec 32 := v154
  let v156 : Index := Scalar.indexCast v155
  let c0_91 : Index := 0#32
  ![0, v156.toNat, 0]
def k0_cond4 (i : grid0.Coords) : BitVec 1 :=
  let arg1 : BitVec 32 := BitVec.ofNat 32 (i 1).val
  let c2_i32_62 : BitVec 32 := 2#32
  let c0_i32_63 : BitVec 32 := 0#32
  let v107 : BitVec 1 := Scalar.cmpi .eq c2_i32_62 c0_i32_63
  let c1_i32_64 : BitVec 32 := 1#32
  let v108 : BitVec 32 := Scalar.select v107 c1_i32_64 c2_i32_62
  let v109 : BitVec 32 := Scalar.remsi arg1 v108
  let c0_i32_66 : BitVec 32 := 0#32
  let v111 : BitVec 1 := Scalar.cmpi .slt v109 c0_i32_66
  let c0_i32_67 : BitVec 32 := 0#32
  let v112 : BitVec 1 := Scalar.cmpi .slt v108 c0_i32_67
  let v113 : BitVec 1 := Scalar.xori v111 v112
  let c0_i32_65 : BitVec 32 := 0#32
  let v110 : BitVec 1 := Scalar.cmpi .ne v109 c0_i32_65
  let v114 : BitVec 1 := Scalar.andi v113 v110
  let v115 : BitVec 32 := Scalar.addi v109 v108
  let v116 : BitVec 32 := Scalar.select v114 v115 v109
  let c0_i32_68 : BitVec 32 := 0#32
  let v117 : BitVec 1 := Scalar.cmpi .eq v116 c0_i32_68
  let v118 : BitVec 32 := Scalar.extui v117
  let c0_i32_69 : BitVec 32 := 0#32
  let v119 : BitVec 1 := Scalar.cmpi .ne v118 c0_i32_69
  v119

def k0_mult24 (i : grid0.Coords) : BitVec 32 :=
  let arg1 : BitVec 32 := BitVec.ofNat 32 (i 1).val
  let c512_i32_70 : BitVec 32 := 512#32
  let v120 : BitVec 32 := Scalar.muli arg1 c512_i32_70
  v120
def k0_off9 (i : grid0.Coords) : Fin 3 → Nat :=
  let c0_71 : Index := 0#32
  let arg1 : BitVec 32 := BitVec.ofNat 32 (i 1).val
  let c512_i32_70 : BitVec 32 := 512#32
  let v120 : BitVec 32 := Scalar.muli arg1 c512_i32_70
  let v121 : BitVec 32 := v120
  let v122 : Index := Scalar.indexCast v121
  let c0_72 : Index := 0#32
  ![0, v122.toNat, 0]
def k0_mult25 (i : grid0.Coords) : BitVec 32 :=
  let arg1 : BitVec 32 := BitVec.ofNat 32 (i 1).val
  let c512_i32_73 : BitVec 32 := 512#32
  let v125 : BitVec 32 := Scalar.muli arg1 c512_i32_73
  v125
def k0_mult26 (i : grid0.Coords) : BitVec 32 :=
  let arg1 : BitVec 32 := BitVec.ofNat 32 (i 1).val
  let c1_i32_80 : BitVec 32 := 1#32
  let v134 : BitVec 32 := Scalar.subi arg1 c1_i32_80
  let c512_i32_89 : BitVec 32 := 512#32
  let v151 : BitVec 32 := Scalar.muli v134 c512_i32_89
  v151
def k0_off10 (i : grid0.Coords) : Fin 3 → Nat :=
  let c0_90 : Index := 0#32
  let arg1 : BitVec 32 := BitVec.ofNat 32 (i 1).val
  let c1_i32_80 : BitVec 32 := 1#32
  let v134 : BitVec 32 := Scalar.subi arg1 c1_i32_80
  let c512_i32_89 : BitVec 32 := 512#32
  let v151 : BitVec 32 := Scalar.muli v134 c512_i32_89
  let v152 : BitVec 32 := v151
  let v153 : Index := Scalar.indexCast v152
  let c0_91 : Index := 0#32
  ![0, v153.toNat, 0]
def k0_mult27 (i : grid0.Coords) : BitVec 32 :=
  let arg1 : BitVec 32 := BitVec.ofNat 32 (i 1).val
  let c1_i32 : BitVec 32 := 1#32
  let v8 : BitVec 32 := Scalar.addi arg1 c1_i32
  let c7_i32 : BitVec 32 := 7#32
  let v9 : BitVec 32 := Scalar.minsi v8 c7_i32
  let c512_i32_97 : BitVec 32 := 512#32
  let v164 : BitVec 32 := Scalar.muli v9 c512_i32_97
  v164
def k0_off11 (i : grid0.Coords) : Fin 3 → Nat :=
  let c0_98 : Index := 0#32
  let arg1 : BitVec 32 := BitVec.ofNat 32 (i 1).val
  let c1_i32 : BitVec 32 := 1#32
  let v8 : BitVec 32 := Scalar.addi arg1 c1_i32
  let c7_i32 : BitVec 32 := 7#32
  let v9 : BitVec 32 := Scalar.minsi v8 c7_i32
  let c512_i32_97 : BitVec 32 := 512#32
  let v164 : BitVec 32 := Scalar.muli v9 c512_i32_97
  let v165 : BitVec 32 := v164
  let v166 : Index := Scalar.indexCast v165
  let c0_99 : Index := 0#32
  ![0, v166.toNat, 0]
def k0_mult28 : BitVec 32 :=
  let c0_i32_100 : BitVec 32 := 0#32
  c0_i32_100
def k0_mult29 (i : grid0.Coords) : BitVec 32 :=
  let arg1 : BitVec 32 := BitVec.ofNat 32 (i 1).val
  let c512_i32_116 : BitVec 32 := 512#32
  let v198 : BitVec 32 := Scalar.muli arg1 c512_i32_116
  v198
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

def k1_mult1 (i : grid1.Coords) : BitVec 32 :=
  let c7_i32 : BitVec 32 := 7#32
  let arg1 : BitVec 32 := BitVec.ofNat 32 (i 1).val
  let v0 : BitVec 32 := Scalar.subi c7_i32 arg1
  let c512_i32 : BitVec 32 := 512#32
  let v14 : BitVec 32 := Scalar.muli v0 c512_i32
  v14
def k1_off1 (i : grid1.Coords) : Fin 3 → Nat :=
  let c0_6 : Index := 0#32
  let c7_i32 : BitVec 32 := 7#32
  let arg1 : BitVec 32 := BitVec.ofNat 32 (i 1).val
  let v0 : BitVec 32 := Scalar.subi c7_i32 arg1
  let c512_i32 : BitVec 32 := 512#32
  let v14 : BitVec 32 := Scalar.muli v0 c512_i32
  let v15 : BitVec 32 := v14
  let v16 : Index := Scalar.indexCast v15
  let c0_7 : Index := 0#32
  ![0, v16.toNat, 0]
def k1_cond2 (i : grid1.Coords) : BitVec 1 :=
  let arg1 : BitVec 32 := BitVec.ofNat 32 (i 1).val
  let c0_i32_8 : BitVec 32 := 0#32
  let v19 : BitVec 1 := Scalar.cmpi .eq arg1 c0_i32_8
  let v20 : BitVec 32 := Scalar.extui v19
  let c0_i32_9 : BitVec 32 := 0#32
  let v21 : BitVec 1 := Scalar.cmpi .ne v20 c0_i32_9
  v21

def k1_mult2 : BitVec 32 :=
  let c3584_i32 : BitVec 32 := 3584#32
  c3584_i32
def k1_mult3 (i : grid1.Coords) : BitVec 32 :=
  let c7_i32 : BitVec 32 := 7#32
  let arg1 : BitVec 32 := BitVec.ofNat 32 (i 1).val
  let v0 : BitVec 32 := Scalar.subi c7_i32 arg1
  let c512_i32_22 : BitVec 32 := 512#32
  let v34 : BitVec 32 := Scalar.muli v0 c512_i32_22
  v34
def k1_off2 (i : grid1.Coords) : Fin 3 → Nat :=
  let c0_23 : Index := 0#32
  let c7_i32 : BitVec 32 := 7#32
  let arg1 : BitVec 32 := BitVec.ofNat 32 (i 1).val
  let v0 : BitVec 32 := Scalar.subi c7_i32 arg1
  let c512_i32_22 : BitVec 32 := 512#32
  let v34 : BitVec 32 := Scalar.muli v0 c512_i32_22
  let v35 : BitVec 32 := v34
  let v36 : Index := Scalar.indexCast v35
  let c0_24 : Index := 0#32
  ![0, v36.toNat, 0]
def k1_mult4 (i : grid1.Coords) : BitVec 32 :=
  let c7_i32 : BitVec 32 := 7#32
  let arg1 : BitVec 32 := BitVec.ofNat 32 (i 1).val
  let v0 : BitVec 32 := Scalar.subi c7_i32 arg1
  let c512_i32_30 : BitVec 32 := 512#32
  let v46 : BitVec 32 := Scalar.muli v0 c512_i32_30
  v46
def k1_off3 (i : grid1.Coords) : Fin 3 → Nat :=
  let c0_31 : Index := 0#32
  let c7_i32 : BitVec 32 := 7#32
  let arg1 : BitVec 32 := BitVec.ofNat 32 (i 1).val
  let v0 : BitVec 32 := Scalar.subi c7_i32 arg1
  let c512_i32_30 : BitVec 32 := 512#32
  let v46 : BitVec 32 := Scalar.muli v0 c512_i32_30
  let v47 : BitVec 32 := v46
  let v48 : Index := Scalar.indexCast v47
  let c0_32 : Index := 0#32
  ![0, v48.toNat, 0]
def k1_mult5 : BitVec 32 :=
  let c3584_i32_38 : BitVec 32 := 3584#32
  c3584_i32_38
def k1_mult6 : BitVec 32 :=
  let c3584_i32_71 : BitVec 32 := 3584#32
  c3584_i32_71
def k1_mult7 (i : grid1.Coords) : BitVec 32 :=
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_72 : BitVec 32 := 512#32
  let v108 : BitVec 32 := Scalar.muli v2 c512_i32_72
  v108
def k1_off4 (i : grid1.Coords) : Fin 3 → Nat :=
  let c0_73 : Index := 0#32
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_72 : BitVec 32 := 512#32
  let v108 : BitVec 32 := Scalar.muli v2 c512_i32_72
  let v109 : BitVec 32 := v108
  let v110 : Index := Scalar.indexCast v109
  let c0_74 : Index := 0#32
  ![0, v110.toNat, 0]
def k1_mult8 (i : grid1.Coords) : BitVec 32 :=
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_81 : BitVec 32 := 512#32
  let v120 : BitVec 32 := Scalar.muli v2 c512_i32_81
  v120
def k1_off5 (i : grid1.Coords) : Fin 3 → Nat :=
  let c0_82 : Index := 0#32
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_81 : BitVec 32 := 512#32
  let v120 : BitVec 32 := Scalar.muli v2 c512_i32_81
  let v121 : BitVec 32 := v120
  let v122 : Index := Scalar.indexCast v121
  let c0_83 : Index := 0#32
  ![0, v122.toNat, 0]
def k1_cond3 (i : grid1.Coords) : BitVec 1 :=
  let arg1 : BitVec 32 := BitVec.ofNat 32 (i 1).val
  let c0_i32_10 : BitVec 32 := 0#32
  let v22 : BitVec 1 := Scalar.cmpi .sgt arg1 c0_i32_10
  let v23 : BitVec 32 := Scalar.extui v22
  let c0_i32_11 : BitVec 32 := 0#32
  let v24 : BitVec 1 := Scalar.cmpi .ne v23 c0_i32_11
  v24

def k1_mult9 : BitVec 32 :=
  let c3072_i32 : BitVec 32 := 3072#32
  c3072_i32
def k1_mult10 (i : grid1.Coords) : BitVec 32 :=
  let c7_i32 : BitVec 32 := 7#32
  let arg1 : BitVec 32 := BitVec.ofNat 32 (i 1).val
  let v0 : BitVec 32 := Scalar.subi c7_i32 arg1
  let c512_i32_22 : BitVec 32 := 512#32
  let v34 : BitVec 32 := Scalar.muli v0 c512_i32_22
  v34
def k1_off6 (i : grid1.Coords) : Fin 3 → Nat :=
  let c0_23 : Index := 0#32
  let c7_i32 : BitVec 32 := 7#32
  let arg1 : BitVec 32 := BitVec.ofNat 32 (i 1).val
  let v0 : BitVec 32 := Scalar.subi c7_i32 arg1
  let c512_i32_22 : BitVec 32 := 512#32
  let v34 : BitVec 32 := Scalar.muli v0 c512_i32_22
  let v35 : BitVec 32 := v34
  let v36 : Index := Scalar.indexCast v35
  let c0_24 : Index := 0#32
  ![0, v36.toNat, 0]
def k1_mult11 (i : grid1.Coords) : BitVec 32 :=
  let c7_i32 : BitVec 32 := 7#32
  let arg1 : BitVec 32 := BitVec.ofNat 32 (i 1).val
  let v0 : BitVec 32 := Scalar.subi c7_i32 arg1
  let c512_i32_30 : BitVec 32 := 512#32
  let v46 : BitVec 32 := Scalar.muli v0 c512_i32_30
  v46
def k1_off7 (i : grid1.Coords) : Fin 3 → Nat :=
  let c0_31 : Index := 0#32
  let c7_i32 : BitVec 32 := 7#32
  let arg1 : BitVec 32 := BitVec.ofNat 32 (i 1).val
  let v0 : BitVec 32 := Scalar.subi c7_i32 arg1
  let c512_i32_30 : BitVec 32 := 512#32
  let v46 : BitVec 32 := Scalar.muli v0 c512_i32_30
  let v47 : BitVec 32 := v46
  let v48 : Index := Scalar.indexCast v47
  let c0_32 : Index := 0#32
  ![0, v48.toNat, 0]
def k1_mult12 : BitVec 32 :=
  let c3584_i32 : BitVec 32 := 3584#32
  c3584_i32
@[reducible] def k1_t1_loop (i : grid1.Coords) : Scf.Loop 32 :=
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let c1_i32_78 : BitVec 32 := 1#32
  ⟨c0_i32_76, v124, c1_i32_78⟩
def k1_mult13 (i : grid1.Coords) (k1_t1 : Fin (k1_t1_loop i).trips) : BitVec 32 :=
  let c7_i32_98 : BitVec 32 := 7#32
  let c2_i32_96 : BitVec 32 := 2#32
  let c0_i32_76 : BitVec 32 := 0#32
  let c1_i32_78 : BitVec 32 := 1#32
  let arg15 : BitVec 32 := Scf.iv c0_i32_76 c1_i32_78 k1_t1
  let v151 : BitVec 32 := Scalar.muli c2_i32_96 arg15
  let c2_i32_97 : BitVec 32 := 2#32
  let v152 : BitVec 32 := Scalar.addi v151 c2_i32_97
  let v153 : BitVec 32 := Scalar.subi c7_i32_98 v152
  let c512_i32_99 : BitVec 32 := 512#32
  let v154 : BitVec 32 := Scalar.muli v153 c512_i32_99
  v154
def k1_mult14 (i : grid1.Coords) : BitVec 32 :=
  let c7_i32 : BitVec 32 := 7#32
  let arg1 : BitVec 32 := BitVec.ofNat 32 (i 1).val
  let v0 : BitVec 32 := Scalar.subi c7_i32 arg1
  let c512_i32_100 : BitVec 32 := 512#32
  let v156 : BitVec 32 := Scalar.muli v0 c512_i32_100
  v156
def k1_off8 (i : grid1.Coords) : Fin 3 → Nat :=
  let c0_101 : Index := 0#32
  let c7_i32 : BitVec 32 := 7#32
  let arg1 : BitVec 32 := BitVec.ofNat 32 (i 1).val
  let v0 : BitVec 32 := Scalar.subi c7_i32 arg1
  let c512_i32_100 : BitVec 32 := 512#32
  let v156 : BitVec 32 := Scalar.muli v0 c512_i32_100
  let v157 : BitVec 32 := v156
  let v158 : Index := Scalar.indexCast v157
  let c0_102 : Index := 0#32
  ![0, v158.toNat, 0]
def k1_off9 (i : grid1.Coords) (k1_t1 : Fin (k1_t1_loop i).trips) (c2_i32_97 : BitVec 32) : Fin 3 → Nat :=
  let c0_103 : Index := 0#32
  let c7_i32_98 : BitVec 32 := 7#32
  let c2_i32_96 : BitVec 32 := 2#32
  let c0_i32_76 : BitVec 32 := 0#32
  let c1_i32_78 : BitVec 32 := 1#32
  let arg15 : BitVec 32 := Scf.iv c0_i32_76 c1_i32_78 k1_t1
  let v151 : BitVec 32 := Scalar.muli c2_i32_96 arg15
  let v152 : BitVec 32 := Scalar.addi v151 c2_i32_97
  let v153 : BitVec 32 := Scalar.subi c7_i32_98 v152
  let c512_i32_99 : BitVec 32 := 512#32
  let v154 : BitVec 32 := Scalar.muli v153 c512_i32_99
  let v155 : BitVec 32 := v154
  let v161 : Index := Scalar.indexCast v155
  let c0_104 : Index := 0#32
  ![0, v161.toNat, 0]
def k1_mult15 (i : grid1.Coords) : BitVec 32 :=
  let c7_i32 : BitVec 32 := 7#32
  let arg1 : BitVec 32 := BitVec.ofNat 32 (i 1).val
  let v0 : BitVec 32 := Scalar.subi c7_i32 arg1
  let c512_i32_109 : BitVec 32 := 512#32
  let v168 : BitVec 32 := Scalar.muli v0 c512_i32_109
  v168
def k1_off10 (i : grid1.Coords) : Fin 3 → Nat :=
  let c0_110 : Index := 0#32
  let c7_i32 : BitVec 32 := 7#32
  let arg1 : BitVec 32 := BitVec.ofNat 32 (i 1).val
  let v0 : BitVec 32 := Scalar.subi c7_i32 arg1
  let c512_i32_109 : BitVec 32 := 512#32
  let v168 : BitVec 32 := Scalar.muli v0 c512_i32_109
  let v169 : BitVec 32 := v168
  let v170 : Index := Scalar.indexCast v169
  let c0_111 : Index := 0#32
  ![0, v170.toNat, 0]
def k1_off11 (i : grid1.Coords) (k1_t1 : Fin (k1_t1_loop i).trips) (c2_i32_97 : BitVec 32) : Fin 2 → Nat :=
  let c7_i32_98 : BitVec 32 := 7#32
  let c2_i32_96 : BitVec 32 := 2#32
  let c0_i32_76 : BitVec 32 := 0#32
  let c1_i32_78 : BitVec 32 := 1#32
  let arg15 : BitVec 32 := Scf.iv c0_i32_76 c1_i32_78 k1_t1
  let v151 : BitVec 32 := Scalar.muli c2_i32_96 arg15
  let v152 : BitVec 32 := Scalar.addi v151 c2_i32_97
  let v153 : BitVec 32 := Scalar.subi c7_i32_98 v152
  let c512_i32_99 : BitVec 32 := 512#32
  let v154 : BitVec 32 := Scalar.muli v153 c512_i32_99
  let v155 : BitVec 32 := v154
  let v173 : Index := Scalar.indexCast v155
  let c0_112 : Index := 0#32
  ![v173.toNat, 0]
def k1_mult16 (i : grid1.Coords) (k1_t1 : Fin (k1_t1_loop i).trips) : BitVec 32 :=
  let c7_i32_120 : BitVec 32 := 7#32
  let c2_i32_117 : BitVec 32 := 2#32
  let c0_i32_76 : BitVec 32 := 0#32
  let c1_i32_78 : BitVec 32 := 1#32
  let arg15 : BitVec 32 := Scf.iv c0_i32_76 c1_i32_78 k1_t1
  let v180 : BitVec 32 := Scalar.muli c2_i32_117 arg15
  let c1_i32_118 : BitVec 32 := 1#32
  let v181 : BitVec 32 := Scalar.addi v180 c1_i32_118
  let v183 : BitVec 32 := Scalar.subi c7_i32_120 v181
  let c512_i32_121 : BitVec 32 := 512#32
  let v184 : BitVec 32 := Scalar.muli v183 c512_i32_121
  v184
def k1_off12 (i : grid1.Coords) (k1_t1 : Fin (k1_t1_loop i).trips) (c1_i32_118 : BitVec 32) : Fin 4 → Nat :=
  let c0_128 : Index := 0#32
  let c7_i32_119 : BitVec 32 := 7#32
  let c2_i32_117 : BitVec 32 := 2#32
  let c0_i32_76 : BitVec 32 := 0#32
  let c1_i32_78 : BitVec 32 := 1#32
  let arg15 : BitVec 32 := Scf.iv c0_i32_76 c1_i32_78 k1_t1
  let v180 : BitVec 32 := Scalar.muli c2_i32_117 arg15
  let v181 : BitVec 32 := Scalar.addi v180 c1_i32_118
  let v182 : BitVec 32 := Scalar.subi c7_i32_119 v181
  let v194 : Index := Scalar.indexCast v182
  let c0_129 : Index := 0#32
  let c0_130 : Index := 0#32
  ![0, v194.toNat, 0, 0]
def k1_mult17 (i : grid1.Coords) (k1_t1 : Fin (k1_t1_loop i).trips) : BitVec 32 :=
  let c7_i32_153 : BitVec 32 := 7#32
  let c2_i32_152 : BitVec 32 := 2#32
  let c0_i32_76 : BitVec 32 := 0#32
  let c1_i32_78 : BitVec 32 := 1#32
  let arg15 : BitVec 32 := Scf.iv c0_i32_76 c1_i32_78 k1_t1
  let v231 : BitVec 32 := Scalar.muli c2_i32_152 arg15
  let c3_i32 : BitVec 32 := 3#32
  let v232 : BitVec 32 := Scalar.addi v231 c3_i32
  let v233 : BitVec 32 := Scalar.subi c7_i32_153 v232
  let c512_i32_154 : BitVec 32 := 512#32
  let v234 : BitVec 32 := Scalar.muli v233 c512_i32_154
  v234
def k1_mult18 (i : grid1.Coords) : BitVec 32 :=
  let c7_i32 : BitVec 32 := 7#32
  let arg1 : BitVec 32 := BitVec.ofNat 32 (i 1).val
  let v0 : BitVec 32 := Scalar.subi c7_i32 arg1
  let c512_i32_155 : BitVec 32 := 512#32
  let v236 : BitVec 32 := Scalar.muli v0 c512_i32_155
  v236
def k1_mult19 (i : grid1.Coords) : BitVec 32 :=
  let c7_i32 : BitVec 32 := 7#32
  let arg1 : BitVec 32 := BitVec.ofNat 32 (i 1).val
  let v0 : BitVec 32 := Scalar.subi c7_i32 arg1
  let c512_i32_164 : BitVec 32 := 512#32
  let v248 : BitVec 32 := Scalar.muli v0 c512_i32_164
  v248
def k1_mult20 (i : grid1.Coords) (k1_t1 : Fin (k1_t1_loop i).trips) : BitVec 32 :=
  let c7_i32_175 : BitVec 32 := 7#32
  let c2_i32_172 : BitVec 32 := 2#32
  let c0_i32_76 : BitVec 32 := 0#32
  let c1_i32_78 : BitVec 32 := 1#32
  let arg15 : BitVec 32 := Scf.iv c0_i32_76 c1_i32_78 k1_t1
  let v260 : BitVec 32 := Scalar.muli c2_i32_172 arg15
  let c2_i32_173 : BitVec 32 := 2#32
  let v261 : BitVec 32 := Scalar.addi v260 c2_i32_173
  let v263 : BitVec 32 := Scalar.subi c7_i32_175 v261
  let c512_i32_176 : BitVec 32 := 512#32
  let v264 : BitVec 32 := Scalar.muli v263 c512_i32_176
  v264
@[reducible] def k1_t2_loop (i : grid1.Coords) : Scf.Loop 32 :=
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let v121 : BitVec 32 := Scalar.addi c0_i32_76 v120
  let c1_i32_79 : BitVec 32 := 1#32
  ⟨v124, v121, c1_i32_79⟩
def k1_mult21 (i : grid1.Coords) (k1_t2 : Fin (k1_t2_loop i).trips) : BitVec 32 :=
  let c7_i32_98 : BitVec 32 := 7#32
  let c2_i32_96 : BitVec 32 := 2#32
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let c1_i32_79 : BitVec 32 := 1#32
  let arg15 : BitVec 32 := Scf.iv v124 c1_i32_79 k1_t2
  let v151 : BitVec 32 := Scalar.muli c2_i32_96 arg15
  let c2_i32_97 : BitVec 32 := 2#32
  let v152 : BitVec 32 := Scalar.addi v151 c2_i32_97
  let v153 : BitVec 32 := Scalar.subi c7_i32_98 v152
  let c512_i32_99 : BitVec 32 := 512#32
  let v154 : BitVec 32 := Scalar.muli v153 c512_i32_99
  v154
def k1_mult22 (i : grid1.Coords) : BitVec 32 :=
  let c7_i32 : BitVec 32 := 7#32
  let arg1 : BitVec 32 := BitVec.ofNat 32 (i 1).val
  let v0 : BitVec 32 := Scalar.subi c7_i32 arg1
  let c512_i32_100 : BitVec 32 := 512#32
  let v156 : BitVec 32 := Scalar.muli v0 c512_i32_100
  v156
def k1_off13 (i : grid1.Coords) : Fin 3 → Nat :=
  let c0_101 : Index := 0#32
  let c7_i32 : BitVec 32 := 7#32
  let arg1 : BitVec 32 := BitVec.ofNat 32 (i 1).val
  let v0 : BitVec 32 := Scalar.subi c7_i32 arg1
  let c512_i32_100 : BitVec 32 := 512#32
  let v156 : BitVec 32 := Scalar.muli v0 c512_i32_100
  let v157 : BitVec 32 := v156
  let v158 : Index := Scalar.indexCast v157
  let c0_102 : Index := 0#32
  ![0, v158.toNat, 0]
def k1_off14 (i : grid1.Coords) (k1_t2 : Fin (k1_t2_loop i).trips) (c2_i32_97 : BitVec 32) : Fin 3 → Nat :=
  let c0_103 : Index := 0#32
  let c7_i32_98 : BitVec 32 := 7#32
  let c2_i32_96 : BitVec 32 := 2#32
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let c1_i32_79 : BitVec 32 := 1#32
  let arg15 : BitVec 32 := Scf.iv v124 c1_i32_79 k1_t2
  let v151 : BitVec 32 := Scalar.muli c2_i32_96 arg15
  let v152 : BitVec 32 := Scalar.addi v151 c2_i32_97
  let v153 : BitVec 32 := Scalar.subi c7_i32_98 v152
  let c512_i32_99 : BitVec 32 := 512#32
  let v154 : BitVec 32 := Scalar.muli v153 c512_i32_99
  let v155 : BitVec 32 := v154
  let v161 : Index := Scalar.indexCast v155
  let c0_104 : Index := 0#32
  ![0, v161.toNat, 0]
def k1_mult23 (i : grid1.Coords) : BitVec 32 :=
  let c7_i32 : BitVec 32 := 7#32
  let arg1 : BitVec 32 := BitVec.ofNat 32 (i 1).val
  let v0 : BitVec 32 := Scalar.subi c7_i32 arg1
  let c512_i32_109 : BitVec 32 := 512#32
  let v168 : BitVec 32 := Scalar.muli v0 c512_i32_109
  v168
def k1_off15 (i : grid1.Coords) : Fin 3 → Nat :=
  let c0_110 : Index := 0#32
  let c7_i32 : BitVec 32 := 7#32
  let arg1 : BitVec 32 := BitVec.ofNat 32 (i 1).val
  let v0 : BitVec 32 := Scalar.subi c7_i32 arg1
  let c512_i32_109 : BitVec 32 := 512#32
  let v168 : BitVec 32 := Scalar.muli v0 c512_i32_109
  let v169 : BitVec 32 := v168
  let v170 : Index := Scalar.indexCast v169
  let c0_111 : Index := 0#32
  ![0, v170.toNat, 0]
def k1_off16 (i : grid1.Coords) (k1_t2 : Fin (k1_t2_loop i).trips) (c2_i32_97 : BitVec 32) : Fin 2 → Nat :=
  let c7_i32_98 : BitVec 32 := 7#32
  let c2_i32_96 : BitVec 32 := 2#32
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let c1_i32_79 : BitVec 32 := 1#32
  let arg15 : BitVec 32 := Scf.iv v124 c1_i32_79 k1_t2
  let v151 : BitVec 32 := Scalar.muli c2_i32_96 arg15
  let v152 : BitVec 32 := Scalar.addi v151 c2_i32_97
  let v153 : BitVec 32 := Scalar.subi c7_i32_98 v152
  let c512_i32_99 : BitVec 32 := 512#32
  let v154 : BitVec 32 := Scalar.muli v153 c512_i32_99
  let v155 : BitVec 32 := v154
  let v173 : Index := Scalar.indexCast v155
  let c0_112 : Index := 0#32
  ![v173.toNat, 0]
def k1_mult24 (i : grid1.Coords) (k1_t2 : Fin (k1_t2_loop i).trips) : BitVec 32 :=
  let c7_i32_120 : BitVec 32 := 7#32
  let c2_i32_117 : BitVec 32 := 2#32
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let c1_i32_79 : BitVec 32 := 1#32
  let arg15 : BitVec 32 := Scf.iv v124 c1_i32_79 k1_t2
  let v180 : BitVec 32 := Scalar.muli c2_i32_117 arg15
  let c1_i32_118 : BitVec 32 := 1#32
  let v181 : BitVec 32 := Scalar.addi v180 c1_i32_118
  let v183 : BitVec 32 := Scalar.subi c7_i32_120 v181
  let c512_i32_121 : BitVec 32 := 512#32
  let v184 : BitVec 32 := Scalar.muli v183 c512_i32_121
  v184
def k1_off17 (i : grid1.Coords) (k1_t2 : Fin (k1_t2_loop i).trips) (c1_i32_118 : BitVec 32) : Fin 4 → Nat :=
  let c0_128 : Index := 0#32
  let c7_i32_119 : BitVec 32 := 7#32
  let c2_i32_117 : BitVec 32 := 2#32
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let c1_i32_79 : BitVec 32 := 1#32
  let arg15 : BitVec 32 := Scf.iv v124 c1_i32_79 k1_t2
  let v180 : BitVec 32 := Scalar.muli c2_i32_117 arg15
  let v181 : BitVec 32 := Scalar.addi v180 c1_i32_118
  let v182 : BitVec 32 := Scalar.subi c7_i32_119 v181
  let v194 : Index := Scalar.indexCast v182
  let c0_129 : Index := 0#32
  let c0_130 : Index := 0#32
  ![0, v194.toNat, 0, 0]
def k1_mult25 (i : grid1.Coords) (k1_t2 : Fin (k1_t2_loop i).trips) : BitVec 32 :=
  let c7_i32_153 : BitVec 32 := 7#32
  let c2_i32_152 : BitVec 32 := 2#32
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let c1_i32_79 : BitVec 32 := 1#32
  let arg15 : BitVec 32 := Scf.iv v124 c1_i32_79 k1_t2
  let v231 : BitVec 32 := Scalar.muli c2_i32_152 arg15
  let c3_i32 : BitVec 32 := 3#32
  let v232 : BitVec 32 := Scalar.addi v231 c3_i32
  let v233 : BitVec 32 := Scalar.subi c7_i32_153 v232
  let c512_i32_154 : BitVec 32 := 512#32
  let v234 : BitVec 32 := Scalar.muli v233 c512_i32_154
  v234
def k1_mult26 (i : grid1.Coords) : BitVec 32 :=
  let c7_i32 : BitVec 32 := 7#32
  let arg1 : BitVec 32 := BitVec.ofNat 32 (i 1).val
  let v0 : BitVec 32 := Scalar.subi c7_i32 arg1
  let c512_i32_155 : BitVec 32 := 512#32
  let v236 : BitVec 32 := Scalar.muli v0 c512_i32_155
  v236
def k1_mult27 (i : grid1.Coords) : BitVec 32 :=
  let c7_i32 : BitVec 32 := 7#32
  let arg1 : BitVec 32 := BitVec.ofNat 32 (i 1).val
  let v0 : BitVec 32 := Scalar.subi c7_i32 arg1
  let c512_i32_164 : BitVec 32 := 512#32
  let v248 : BitVec 32 := Scalar.muli v0 c512_i32_164
  v248
def k1_mult28 (i : grid1.Coords) (k1_t2 : Fin (k1_t2_loop i).trips) : BitVec 32 :=
  let c7_i32_175 : BitVec 32 := 7#32
  let c2_i32_172 : BitVec 32 := 2#32
  let c0_i32_76 : BitVec 32 := 0#32
  let arg1 : BitVec 32 := BitVec.ofNat 32 (i 1).val
  let c1_i32_68 : BitVec 32 := 1#32
  let v102 : BitVec 32 := Scalar.subi arg1 c1_i32_68
  let c0_i32_69 : BitVec 32 := 0#32
  let v104 : BitVec 1 := Scalar.cmpi .sgt v102 c0_i32_69
  let v105 : BitVec 32 := Scalar.extui v104
  let c0_i32_70 : BitVec 32 := 0#32
  let v106 : BitVec 1 := Scalar.cmpi .slt v102 c0_i32_70
  let v107 : BitVec 32 := Scalar.extui v106
  let v108 : BitVec 32 := Scalar.subi v105 v107
  let c2_i32 : BitVec 32 := 2#32
  let c0_i32_71 : BitVec 32 := 0#32
  let v109 : BitVec 1 := Scalar.cmpi .sgt c2_i32 c0_i32_71
  let v110 : BitVec 32 := Scalar.extui v109
  let c0_i32_72 : BitVec 32 := 0#32
  let v111 : BitVec 1 := Scalar.cmpi .slt c2_i32 c0_i32_72
  let v112 : BitVec 32 := Scalar.extui v111
  let v113 : BitVec 32 := Scalar.subi v110 v112
  let v114 : BitVec 1 := Scalar.cmpi .ne v108 v113
  let v115 : BitVec 32 := Scalar.remsi v102 c2_i32
  let c0_i32_73 : BitVec 32 := 0#32
  let v116 : BitVec 1 := Scalar.cmpi .ne v115 c0_i32_73
  let v117 : BitVec 1 := Scalar.andi v114 v116
  let v103 : BitVec 32 := Scalar.divsi v102 c2_i32
  let c1_i32_74 : BitVec 32 := 1#32
  let v118 : BitVec 32 := Scalar.subi v103 c1_i32_74
  let v119 : BitVec 32 := Scalar.select v117 v118 v103
  let v120 : BitVec 32 := Scalar.subi v119 c0_i32_76
  let c1_i32_77 : BitVec 32 := 1#32
  let v122 : BitVec 32 := Scalar.divsi v120 c1_i32_77
  let v123 : BitVec 32 := Scalar.muli v122 c1_i32_77
  let v124 : BitVec 32 := Scalar.addi c0_i32_76 v123
  let c1_i32_79 : BitVec 32 := 1#32
  let arg15 : BitVec 32 := Scf.iv v124 c1_i32_79 k1_t2
  let v260 : BitVec 32 := Scalar.muli c2_i32_172 arg15
  let c2_i32_173 : BitVec 32 := 2#32
  let v261 : BitVec 32 := Scalar.addi v260 c2_i32_173
  let v263 : BitVec 32 := Scalar.subi c7_i32_175 v261
  let c512_i32_176 : BitVec 32 := 512#32
  let v264 : BitVec 32 := Scalar.muli v263 c512_i32_176
  v264
def k1_cond4 (i : grid1.Coords) : BitVec 1 :=
  let arg1 : BitVec 32 := BitVec.ofNat 32 (i 1).val
  let c2_i32_80 : BitVec 32 := 2#32
  let c0_i32_81 : BitVec 32 := 0#32
  let v125 : BitVec 1 := Scalar.cmpi .eq c2_i32_80 c0_i32_81
  let c1_i32_82 : BitVec 32 := 1#32
  let v126 : BitVec 32 := Scalar.select v125 c1_i32_82 c2_i32_80
  let v127 : BitVec 32 := Scalar.remsi arg1 v126
  let c0_i32_84 : BitVec 32 := 0#32
  let v129 : BitVec 1 := Scalar.cmpi .slt v127 c0_i32_84
  let c0_i32_85 : BitVec 32 := 0#32
  let v130 : BitVec 1 := Scalar.cmpi .slt v126 c0_i32_85
  let v131 : BitVec 1 := Scalar.xori v129 v130
  let c0_i32_83 : BitVec 32 := 0#32
  let v128 : BitVec 1 := Scalar.cmpi .ne v127 c0_i32_83
  let v132 : BitVec 1 := Scalar.andi v131 v128
  let v133 : BitVec 32 := Scalar.addi v127 v126
  let v134 : BitVec 32 := Scalar.select v132 v133 v127
  let c1_i32_86 : BitVec 32 := 1#32
  let v135 : BitVec 1 := Scalar.cmpi .eq v134 c1_i32_86
  let v136 : BitVec 32 := Scalar.extui v135
  let c0_i32_87 : BitVec 32 := 0#32
  let v137 : BitVec 1 := Scalar.cmpi .ne v136 c0_i32_87
  v137

def k1_mult29 : BitVec 32 :=
  let c3584_i32_96 : BitVec 32 := 3584#32
  c3584_i32_96
def k1_mult30 (i : grid1.Coords) : BitVec 32 :=
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_97 : BitVec 32 := 512#32
  let v152 : BitVec 32 := Scalar.muli v2 c512_i32_97
  v152
def k1_off18 (i : grid1.Coords) : Fin 3 → Nat :=
  let c0_98 : Index := 0#32
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_97 : BitVec 32 := 512#32
  let v152 : BitVec 32 := Scalar.muli v2 c512_i32_97
  let v153 : BitVec 32 := v152
  let v154 : Index := Scalar.indexCast v153
  let c0_99 : Index := 0#32
  ![0, v154.toNat, 0]
def k1_mult31 (i : grid1.Coords) : BitVec 32 :=
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_106 : BitVec 32 := 512#32
  let v164 : BitVec 32 := Scalar.muli v2 c512_i32_106
  v164
def k1_off19 (i : grid1.Coords) : Fin 3 → Nat :=
  let c0_107 : Index := 0#32
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_106 : BitVec 32 := 512#32
  let v164 : BitVec 32 := Scalar.muli v2 c512_i32_106
  let v165 : BitVec 32 := v164
  let v166 : Index := Scalar.indexCast v165
  let c0_108 : Index := 0#32
  ![0, v166.toNat, 0]
def k1_mult32 (i : grid1.Coords) : BitVec 32 :=
  let c7_i32_115 : BitVec 32 := 7#32
  let arg1 : BitVec 32 := BitVec.ofNat 32 (i 1).val
  let v177 : BitVec 32 := Scalar.subi c7_i32_115 arg1
  let c512_i32_116 : BitVec 32 := 512#32
  let v178 : BitVec 32 := Scalar.muli v177 c512_i32_116
  v178
def k1_off20 (i : grid1.Coords) : Fin 3 → Nat :=
  let c0_117 : Index := 0#32
  let c7_i32_115 : BitVec 32 := 7#32
  let arg1 : BitVec 32 := BitVec.ofNat 32 (i 1).val
  let v177 : BitVec 32 := Scalar.subi c7_i32_115 arg1
  let c512_i32_116 : BitVec 32 := 512#32
  let v178 : BitVec 32 := Scalar.muli v177 c512_i32_116
  let v179 : BitVec 32 := v178
  let v180 : Index := Scalar.indexCast v179
  let c0_118 : Index := 0#32
  ![0, v180.toNat, 0]
def k1_off21 (i : grid1.Coords) : Fin 2 → Nat :=
  let c7_i32_115 : BitVec 32 := 7#32
  let arg1 : BitVec 32 := BitVec.ofNat 32 (i 1).val
  let v177 : BitVec 32 := Scalar.subi c7_i32_115 arg1
  let c512_i32_116 : BitVec 32 := 512#32
  let v178 : BitVec 32 := Scalar.muli v177 c512_i32_116
  let v179 : BitVec 32 := v178
  let v183 : Index := Scalar.indexCast v179
  let c0_119 : Index := 0#32
  ![v183.toNat, 0]
def k1_off22 (i : grid1.Coords) : Fin 4 → Nat :=
  let c0_123 : Index := 0#32
  let c7_i32_114 : BitVec 32 := 7#32
  let arg1 : BitVec 32 := BitVec.ofNat 32 (i 1).val
  let v176 : BitVec 32 := Scalar.subi c7_i32_114 arg1
  let v188 : Index := Scalar.indexCast v176
  let c0_124 : Index := 0#32
  let c0_125 : Index := 0#32
  ![0, v188.toNat, 0, 0]
def k1_cond5 (i : grid1.Coords) : BitVec 1 :=
  let arg1 : BitVec 32 := BitVec.ofNat 32 (i 1).val
  let c2_i32_88 : BitVec 32 := 2#32
  let c0_i32_89 : BitVec 32 := 0#32
  let v138 : BitVec 1 := Scalar.cmpi .eq c2_i32_88 c0_i32_89
  let c1_i32_90 : BitVec 32 := 1#32
  let v139 : BitVec 32 := Scalar.select v138 c1_i32_90 c2_i32_88
  let v140 : BitVec 32 := Scalar.remsi arg1 v139
  let c0_i32_92 : BitVec 32 := 0#32
  let v142 : BitVec 1 := Scalar.cmpi .slt v140 c0_i32_92
  let c0_i32_93 : BitVec 32 := 0#32
  let v143 : BitVec 1 := Scalar.cmpi .slt v139 c0_i32_93
  let v144 : BitVec 1 := Scalar.xori v142 v143
  let c0_i32_91 : BitVec 32 := 0#32
  let v141 : BitVec 1 := Scalar.cmpi .ne v140 c0_i32_91
  let v145 : BitVec 1 := Scalar.andi v144 v141
  let v146 : BitVec 32 := Scalar.addi v140 v139
  let v147 : BitVec 32 := Scalar.select v145 v146 v140
  let c0_i32_94 : BitVec 32 := 0#32
  let v148 : BitVec 1 := Scalar.cmpi .eq v147 c0_i32_94
  let v149 : BitVec 32 := Scalar.extui v148
  let c0_i32_95 : BitVec 32 := 0#32
  let v150 : BitVec 1 := Scalar.cmpi .ne v149 c0_i32_95
  v150

def k1_mult33 (i : grid1.Coords) : BitVec 32 :=
  let c7_i32_96 : BitVec 32 := 7#32
  let arg1 : BitVec 32 := BitVec.ofNat 32 (i 1).val
  let v151 : BitVec 32 := Scalar.subi c7_i32_96 arg1
  let c512_i32_97 : BitVec 32 := 512#32
  let v152 : BitVec 32 := Scalar.muli v151 c512_i32_97
  v152
def k1_mult34 (i : grid1.Coords) : BitVec 32 :=
  let c7_i32 : BitVec 32 := 7#32
  let arg1 : BitVec 32 := BitVec.ofNat 32 (i 1).val
  let v0 : BitVec 32 := Scalar.subi c7_i32 arg1
  let c512_i32_98 : BitVec 32 := 512#32
  let v154 : BitVec 32 := Scalar.muli v0 c512_i32_98
  v154
def k1_off23 (i : grid1.Coords) : Fin 3 → Nat :=
  let c0_99 : Index := 0#32
  let c7_i32 : BitVec 32 := 7#32
  let arg1 : BitVec 32 := BitVec.ofNat 32 (i 1).val
  let v0 : BitVec 32 := Scalar.subi c7_i32 arg1
  let c512_i32_98 : BitVec 32 := 512#32
  let v154 : BitVec 32 := Scalar.muli v0 c512_i32_98
  let v155 : BitVec 32 := v154
  let v156 : Index := Scalar.indexCast v155
  let c0_100 : Index := 0#32
  ![0, v156.toNat, 0]
def k1_mult35 (i : grid1.Coords) : BitVec 32 :=
  let c7_i32 : BitVec 32 := 7#32
  let arg1 : BitVec 32 := BitVec.ofNat 32 (i 1).val
  let v0 : BitVec 32 := Scalar.subi c7_i32 arg1
  let c512_i32_107 : BitVec 32 := 512#32
  let v166 : BitVec 32 := Scalar.muli v0 c512_i32_107
  v166
def k1_off24 (i : grid1.Coords) : Fin 3 → Nat :=
  let c0_108 : Index := 0#32
  let c7_i32 : BitVec 32 := 7#32
  let arg1 : BitVec 32 := BitVec.ofNat 32 (i 1).val
  let v0 : BitVec 32 := Scalar.subi c7_i32 arg1
  let c512_i32_107 : BitVec 32 := 512#32
  let v166 : BitVec 32 := Scalar.muli v0 c512_i32_107
  let v167 : BitVec 32 := v166
  let v168 : Index := Scalar.indexCast v167
  let c0_109 : Index := 0#32
  ![0, v168.toNat, 0]
def k1_off25 (i : grid1.Coords) : Fin 2 → Nat :=
  let c7_i32_96 : BitVec 32 := 7#32
  let arg1 : BitVec 32 := BitVec.ofNat 32 (i 1).val
  let v151 : BitVec 32 := Scalar.subi c7_i32_96 arg1
  let c512_i32_97 : BitVec 32 := 512#32
  let v152 : BitVec 32 := Scalar.muli v151 c512_i32_97
  let v153 : BitVec 32 := v152
  let v171 : Index := Scalar.indexCast v153
  let c0_110 : Index := 0#32
  ![v171.toNat, 0]
def k1_mult36 (i : grid1.Coords) : BitVec 32 :=
  let c7_i32_117 : BitVec 32 := 7#32
  let arg1 : BitVec 32 := BitVec.ofNat 32 (i 1).val
  let c1_i32_115 : BitVec 32 := 1#32
  let v178 : BitVec 32 := Scalar.subi arg1 c1_i32_115
  let v180 : BitVec 32 := Scalar.subi c7_i32_117 v178
  let c512_i32_118 : BitVec 32 := 512#32
  let v181 : BitVec 32 := Scalar.muli v180 c512_i32_118
  v181
def k1_off26 (i : grid1.Coords) : Fin 3 → Nat :=
  let c0_119 : Index := 0#32
  let c7_i32_117 : BitVec 32 := 7#32
  let arg1 : BitVec 32 := BitVec.ofNat 32 (i 1).val
  let c1_i32_115 : BitVec 32 := 1#32
  let v178 : BitVec 32 := Scalar.subi arg1 c1_i32_115
  let v180 : BitVec 32 := Scalar.subi c7_i32_117 v178
  let c512_i32_118 : BitVec 32 := 512#32
  let v181 : BitVec 32 := Scalar.muli v180 c512_i32_118
  let v182 : BitVec 32 := v181
  let v183 : Index := Scalar.indexCast v182
  let c0_120 : Index := 0#32
  ![0, v183.toNat, 0]
def k1_off27 (i : grid1.Coords) : Fin 2 → Nat :=
  let c7_i32_117 : BitVec 32 := 7#32
  let arg1 : BitVec 32 := BitVec.ofNat 32 (i 1).val
  let c1_i32_115 : BitVec 32 := 1#32
  let v178 : BitVec 32 := Scalar.subi arg1 c1_i32_115
  let v180 : BitVec 32 := Scalar.subi c7_i32_117 v178
  let c512_i32_118 : BitVec 32 := 512#32
  let v181 : BitVec 32 := Scalar.muli v180 c512_i32_118
  let v182 : BitVec 32 := v181
  let v186 : Index := Scalar.indexCast v182
  let c0_121 : Index := 0#32
  ![v186.toNat, 0]
def k1_off28 (i : grid1.Coords) : Fin 4 → Nat :=
  let c0_125 : Index := 0#32
  let c7_i32_116 : BitVec 32 := 7#32
  let arg1 : BitVec 32 := BitVec.ofNat 32 (i 1).val
  let c1_i32_115 : BitVec 32 := 1#32
  let v178 : BitVec 32 := Scalar.subi arg1 c1_i32_115
  let v179 : BitVec 32 := Scalar.subi c7_i32_116 v178
  let v191 : Index := Scalar.indexCast v179
  let c0_126 : Index := 0#32
  let c0_127 : Index := 0#32
  ![0, v191.toNat, 0, 0]
def k1_mult37 : BitVec 32 :=
  let c3584_i32_149 : BitVec 32 := 3584#32
  c3584_i32_149
def k1_mult38 (i : grid1.Coords) : BitVec 32 :=
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_150 : BitVec 32 := 512#32
  let v229 : BitVec 32 := Scalar.muli v2 c512_i32_150
  v229
def k1_off29 (i : grid1.Coords) : Fin 3 → Nat :=
  let c0_151 : Index := 0#32
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_150 : BitVec 32 := 512#32
  let v229 : BitVec 32 := Scalar.muli v2 c512_i32_150
  let v230 : BitVec 32 := v229
  let v231 : Index := Scalar.indexCast v230
  let c0_152 : Index := 0#32
  ![0, v231.toNat, 0]
def k1_mult39 (i : grid1.Coords) : BitVec 32 :=
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_159 : BitVec 32 := 512#32
  let v241 : BitVec 32 := Scalar.muli v2 c512_i32_159
  v241
def k1_off30 (i : grid1.Coords) : Fin 3 → Nat :=
  let c0_160 : Index := 0#32
  let c7_i32 : BitVec 32 := 7#32
  let arg1 : BitVec 32 := BitVec.ofNat 32 (i 1).val
  let v0 : BitVec 32 := Scalar.subi c7_i32 arg1
  let c1_i32 : BitVec 32 := 1#32
  let v1 : BitVec 32 := Scalar.subi v0 c1_i32
  let c0_i32 : BitVec 32 := 0#32
  let v2 : BitVec 32 := Scalar.maxsi v1 c0_i32
  let c512_i32_159 : BitVec 32 := 512#32
  let v241 : BitVec 32 := Scalar.muli v2 c512_i32_159
  let v242 : BitVec 32 := v241
  let v243 : Index := Scalar.indexCast v242
  let c0_161 : Index := 0#32
  ![0, v243.toNat, 0]
def k1_mult40 (i : grid1.Coords) : BitVec 32 :=
  let c7_i32_168 : BitVec 32 := 7#32
  let arg1 : BitVec 32 := BitVec.ofNat 32 (i 1).val
  let v254 : BitVec 32 := Scalar.subi c7_i32_168 arg1
  let c512_i32_169 : BitVec 32 := 512#32
  let v255 : BitVec 32 := Scalar.muli v254 c512_i32_169
  v255
def k1_off31 (i : grid1.Coords) : Fin 4 → Nat :=
  let c0_176 : Index := 0#32
  let c7_i32_167 : BitVec 32 := 7#32
  let arg1 : BitVec 32 := BitVec.ofNat 32 (i 1).val
  let v253 : BitVec 32 := Scalar.subi c7_i32_167 arg1
  let v265 : Index := Scalar.indexCast v253
  let c0_177 : Index := 0#32
  let c0_178 : Index := 0#32
  ![0, v265.toNat, 0, 0]
def k1_cond1 (i : grid1.Coords) : BitVec 1 :=
  let arg1 : BitVec 32 := BitVec.ofNat 32 (i 1).val
  let c0_i32_0 : BitVec 32 := 0#32
  let v3 : BitVec 1 := Scalar.cmpi .eq arg1 c0_i32_0
  let v4 : BitVec 32 := Scalar.extui v3
  let c0_i32_1 : BitVec 32 := 0#32
  let v5 : BitVec 1 := Scalar.cmpi .ne v4 c0_i32_1
  v5

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc1_transform_8 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

abbrev stage1_0 : Fin 2 → Memref sig .tc .vmem S1x4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x8x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x4096x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x4096x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x4096x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x512x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S1x4096x8x192 : Shape := ⟨4, ![1, 4096, 8, 192]⟩
abbrev S1x4096x8x128 : Shape := ⟨4, ![1, 4096, 8, 128]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S1x8x4096 : Shape := ⟨3, ![1, 8, 4096]⟩
abbrev S1x8x4096x1 : Shape := ⟨4, ![1, 8, 4096, 1]⟩
abbrev S1x8x128x4096 : Shape := ⟨4, ![1, 8, 128, 4096]⟩
abbrev S8x4096 : Shape := ⟨2, ![8, 4096]⟩
abbrev S1x8x4096x192 : Shape := ⟨4, ![1, 8, 4096, 192]⟩
abbrev S4096x1024 : Shape := ⟨2, ![4096, 1024]⟩
abbrev S4096x8x192 : Shape := ⟨3, ![4096, 8, 192]⟩
abbrev S8x4096x192 : Shape := ⟨3, ![8, 4096, 192]⟩
abbrev S4096x8x128 : Shape := ⟨3, ![4096, 8, 128]⟩
abbrev S8x4096x128 : Shape := ⟨3, ![8, 4096, 128]⟩

abbrev nBuf : Space → Nat
  | .hbm => 98
  | .vmem => 0
  | .smem => 0
  | _ => 0

abbrev bufTy : (tb : Table) → Fin (tcTables nBuf tb) → BufTy
  | .hbm, ⟨0, _⟩ => ⟨S1x4096x8x192, .f32⟩
  | .hbm, ⟨1, _⟩ => ⟨S1x4096x8x192, .f32⟩
  | .hbm, ⟨2, _⟩ => ⟨S1x4096x8x128, .f32⟩
  | .hbm, ⟨3, _⟩ => ⟨S1x4096x8x128, .f32⟩
  | .hbm, ⟨4, _⟩ => ⟨S1x8x4096x4096, .f32⟩
  | .hbm, ⟨5, _⟩ => ⟨S_, .f32⟩
  | .hbm, ⟨6, _⟩ => ⟨S1x8x4096x4096, .f32⟩
  | .hbm, ⟨7, _⟩ => ⟨S1x8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S1x1x4096x4096, .i1⟩
  | .hbm, ⟨15, _⟩ => ⟨S_, .f32⟩
  | .hbm, ⟨16, _⟩ => ⟨S_, .f32⟩
  | .hbm, ⟨17, _⟩ => ⟨S1x8x4096x4096, .i1⟩
  | .hbm, ⟨18, _⟩ => ⟨S1x8x4096x4096, .f32⟩
  | .hbm, ⟨19, _⟩ => ⟨S1x8x4096x4096, .f32⟩
  | .hbm, ⟨20, _⟩ => ⟨S_, .f32⟩
  | .hbm, ⟨21, _⟩ => ⟨S1x8x4096x4096, .f32⟩
  | .hbm, ⟨22, _⟩ => ⟨S_, .f32⟩
  | .hbm, ⟨23, _⟩ => ⟨S1x8x4096, .f32⟩
  | .hbm, ⟨24, _⟩ => ⟨S1x8x4096x1, .f32⟩
  | .hbm, ⟨25, _⟩ => ⟨S1x8x4096x4096, .f32⟩
  | .hbm, ⟨26, _⟩ => ⟨S1x8x4096x4096, .i1⟩
  | .hbm, ⟨27, _⟩ => ⟨S1x8x4096x4096, .f32⟩
  | .hbm, ⟨28, _⟩ => ⟨S_, .f32⟩
  | .hbm, ⟨29, _⟩ => ⟨S1x8x4096, .f32⟩
  | .hbm, ⟨30, _⟩ => ⟨S_, .f32⟩
  | .hbm, ⟨31, _⟩ => ⟨S1x8x4096, .f32⟩
  | .hbm, ⟨32, _⟩ => ⟨S1x8x4096, .f32⟩
  | .hbm, ⟨33, _⟩ => ⟨S_, .f32⟩
  | .hbm, ⟨34, _⟩ => ⟨S1x8x4096, .f32⟩
  | .hbm, ⟨35, _⟩ => ⟨S1x8x4096, .i1⟩
  | .hbm, ⟨36, _⟩ => ⟨S_, .f32⟩
  | .hbm, ⟨37, _⟩ => ⟨S1x8x4096, .f32⟩
  | .hbm, ⟨38, _⟩ => ⟨S1x8x4096, .i1⟩
  | .hbm, ⟨39, _⟩ => ⟨S_, .f32⟩
  | .hbm, ⟨40, _⟩ => ⟨S1x8x4096, .f32⟩
  | .hbm, ⟨41, _⟩ => ⟨S_, .f32⟩
  | .hbm, ⟨42, _⟩ => ⟨S1x8x4096, .f32⟩
  | .hbm, ⟨43, _⟩ => ⟨S_, .f32⟩
  | .hbm, ⟨44, _⟩ => ⟨S1x8x4096, .f32⟩
  | .hbm, ⟨45, _⟩ => ⟨S1x8x4096, .f32⟩
  | .hbm, ⟨46, _⟩ => ⟨S1x8x4096, .f32⟩
  | .hbm, ⟨47, _⟩ => ⟨S1x8x4096x1, .f32⟩
  | .hbm, ⟨48, _⟩ => ⟨S1x8x4096x4096, .f32⟩
  | .hbm, ⟨49, _⟩ => ⟨S1x8x4096x4096, .f32⟩
  | .hbm, ⟨50, _⟩ => ⟨S1x8x4096x4096, .f32⟩
  | .hbm, ⟨51, _⟩ => ⟨S_, .f32⟩
  | .hbm, ⟨52, _⟩ => ⟨S1x8x4096, .f32⟩
  | .hbm, ⟨53, _⟩ => ⟨S1x8x4096x1, .f32⟩
  | .hbm, ⟨54, _⟩ => ⟨S1x8x4096x4096, .f32⟩
  | .hbm, ⟨55, _⟩ => ⟨S1x8x4096x4096, .f32⟩
  | .hbm, ⟨56, _⟩ => ⟨S1x8x4096x1, .f32⟩
  | .hbm, ⟨57, _⟩ => ⟨S_, .f32⟩
  | .hbm, ⟨58, _⟩ => ⟨S1x8x4096x1, .f32⟩
  | .hbm, ⟨59, _⟩ => ⟨S1x8x4096x1, .f32⟩
  | .hbm, ⟨60, _⟩ => ⟨S1x8x128x4096, .f32⟩
  | .hbm, ⟨61, _⟩ => ⟨S1x4096x8x128, .f32⟩
  | .hbm, ⟨62, _⟩ => ⟨S1x8x128x4096, .f32⟩
  | .hbm, ⟨63, _⟩ => ⟨S1x8x4096x4096, .f32⟩
  | .hbm, ⟨64, _⟩ => ⟨S1x8x128x4096, .f32⟩
  | .hbm, ⟨65, _⟩ => ⟨S1x4096x8x128, .f32⟩
  | .hbm, ⟨66, _⟩ => ⟨S1x8x4096x4096, .f32⟩
  | .hbm, ⟨67, _⟩ => ⟨S1x8x4096x4096, .f32⟩
  | .hbm, ⟨68, _⟩ => ⟨S1x8x4096x4096, .f32⟩
  | .hbm, ⟨69, _⟩ => ⟨S_, .f32⟩
  | .hbm, ⟨70, _⟩ => ⟨S1x8x4096, .f32⟩
  | .hbm, ⟨71, _⟩ => ⟨S1x8x4096x1, .f32⟩
  | .hbm, ⟨72, _⟩ => ⟨S1x8x4096x1, .f32⟩
  | .hbm, ⟨73, _⟩ => ⟨S1x8x4096x4096, .f32⟩
  | .hbm, ⟨74, _⟩ => ⟨S1x8x4096x4096, .f32⟩
  | .hbm, ⟨75, _⟩ => ⟨S_, .f32⟩
  | .hbm, ⟨76, _⟩ => ⟨S8x4096, .f32⟩
  | .hbm, ⟨77, _⟩ => ⟨S1x8x4096, .f32⟩
  | .hbm, ⟨78, _⟩ => ⟨S1x8x4096x4096, .f32⟩
  | .hbm, ⟨79, _⟩ => ⟨S1x8x4096x4096, .f32⟩
  | .hbm, ⟨80, _⟩ => ⟨S1x8x4096x4096, .f32⟩
  | .hbm, ⟨81, _⟩ => ⟨S_, .f32⟩
  | .hbm, ⟨82, _⟩ => ⟨S1x8x4096x4096, .f32⟩
  | .hbm, ⟨83, _⟩ => ⟨S1x8x4096x4096, .f32⟩
  | .hbm, ⟨84, _⟩ => ⟨S_, .f32⟩
  | .hbm, ⟨85, _⟩ => ⟨S1x8x4096x4096, .f32⟩
  | .hbm, ⟨86, _⟩ => ⟨S1x8x4096x4096, .f32⟩
  | .hbm, ⟨87, _⟩ => ⟨S1x8x4096x192, .f32⟩
  | .hbm, ⟨88, _⟩ => ⟨S1x4096x8x192, .f32⟩
  | .hbm, ⟨89, _⟩ => ⟨S1x8x4096x192, .f32⟩
  | .hbm, ⟨90, _⟩ => ⟨S1x4096x8x192, .f32⟩
  | .hbm, ⟨91, _⟩ => ⟨S4096x1024, .f32⟩
  | .hbm, ⟨92, _⟩ => ⟨S4096x8x192, .f32⟩
  | .hbm, ⟨93, _⟩ => ⟨S8x4096x192, .f32⟩
  | .hbm, ⟨94, _⟩ => ⟨S4096x8x192, .f32⟩
  | .hbm, ⟨95, _⟩ => ⟨S8x4096x192, .f32⟩
  | .hbm, ⟨96, _⟩ => ⟨S4096x8x128, .f32⟩
  | .hbm, ⟨97, _⟩ => ⟨S8x4096x128, .f32⟩
  | _, _ => ⟨S1x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Kernel2.lean ====
abbrev S1x4096x2048 : Shape := ⟨3, ![1, 4096, 2048]⟩
abbrev S1x1x2048 : Shape := ⟨3, ![1, 1, 2048]⟩
abbrev S4096x2048 : Shape := ⟨2, ![4096, 2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S2048 : Shape := ⟨1, ![2048]⟩

abbrev nBuf : Space → Nat
  | .hbm => 15
  | .vmem => 13
  | .smem => 0
  | _ => 0

abbrev bufTy : (tb : Table) → Fin (tcTables nBuf tb) → BufTy
  | .hbm, ⟨0, _⟩ => ⟨S1x4096x2048, .f32⟩
  | .hbm, ⟨1, _⟩ => ⟨S1x4096x2048, .f32⟩
  | .hbm, ⟨2, _⟩ => ⟨S1x1x2048, .f32⟩
  | .hbm, ⟨3, _⟩ => ⟨S1x4096x2048, .f32⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S1x1, .f32⟩
  | .hbm, ⟨13, _⟩ => ⟨S4096x2048, .bf16⟩
  | .hbm, ⟨14, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S1x1, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S1x4096x2048 : Shape := ⟨3, ![1, 4096, 2048]⟩
abbrev S1x1x2048 : Shape := ⟨3, ![1, 1, 2048]⟩
abbrev S_ : Shape := ⟨0, ![]⟩
abbrev S1x4096 : Shape := ⟨2, ![1, 4096]⟩
abbrev S1x2048 : Shape := ⟨2, ![1, 2048]⟩
abbrev S4096x2048 : Shape := ⟨2, ![4096, 2048]⟩
abbrev S1x1 : Shape := ⟨2, ![1, 1]⟩

abbrev nBuf : Space → Nat
  | .hbm => 41
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x4096x2048, .f32⟩
  | .hbm, ⟨2, _⟩ => ⟨S1x1x2048, .f32⟩
  | .hbm, ⟨3, _⟩ => ⟨S1x4096x2048, .f32⟩
  | .hbm, ⟨4, _⟩ => ⟨S1x4096x2048, .f32⟩
  | .hbm, ⟨5, _⟩ => ⟨S1x4096x2048, .f32⟩
  | .hbm, ⟨6, _⟩ => ⟨S1x4096x2048, .f32⟩
  | .hbm, ⟨7, _⟩ => ⟨S1x4096x2048, .f32⟩
  | .hbm, ⟨8, _⟩ => ⟨S1x4096x2048, .f32⟩
  | .hbm, ⟨9, _⟩ => ⟨S_, .f32⟩
  | .hbm, ⟨10, _⟩ => ⟨S1x4096x2048, .f32⟩
  | .hbm, ⟨11, _⟩ => ⟨S1x4096x2048, .f32⟩
  | .hbm, ⟨12, _⟩ => ⟨S_, .f32⟩
  | .hbm, ⟨13, _⟩ => ⟨S1x4096, .f32⟩
  | .hbm, ⟨14, _⟩ => ⟨S_, .f32⟩
  | .hbm, ⟨15, _⟩ => ⟨S1x4096, .f32⟩
  | .hbm, ⟨16, _⟩ => ⟨S1x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x4096, .f32⟩
  | .hbm, ⟨25, _⟩ => ⟨S_, .f32⟩
  | .hbm, ⟨26, _⟩ => ⟨S1x4096, .f32⟩
  | .hbm, ⟨27, _⟩ => ⟨S1x4096, .f32⟩
  | .hbm, ⟨28, _⟩ => ⟨S1x4096x2048, .f32⟩
  | .hbm, ⟨29, _⟩ => ⟨S1x4096x2048, .f32⟩
  | .hbm, ⟨30, _⟩ => ⟨S1x4096x2048, .f32⟩
  | .hbm, ⟨31, _⟩ => ⟨S1x4096x2048, .f32⟩
  | .hbm, ⟨32, _⟩ => ⟨S1x4096x2048, .f32⟩
  | .hbm, ⟨33, _⟩ => ⟨S_, .f32⟩
  | .hbm, ⟨34, _⟩ => ⟨S1x2048, .f32⟩
  | .hbm, ⟨35, _⟩ => ⟨S1x1x2048, .f32⟩
  | .hbm, ⟨36, _⟩ => ⟨S4096x2048, .f32⟩
  | .hbm, ⟨37, _⟩ => ⟨S1x1, .f32⟩
  | .hbm, ⟨38, _⟩ => ⟨S4096x2048, .f32⟩
  | .hbm, ⟨39, _⟩ => ⟨S4096x2048, .bf16⟩
  | .hbm, ⟨40, _⟩ => ⟨S1x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel3.lean ====
abbrev S1x4096x2048 : Shape := ⟨3, ![1, 4096, 2048]⟩
abbrev S2048 : Shape := ⟨1, ![2048]⟩
abbrev S1x1x2048 : Shape := ⟨3, ![1, 1, 2048]⟩
abbrev S4096x2048 : Shape := ⟨2, ![4096, 2048]⟩
abbrev S1x2048 : Shape := ⟨2, ![1, 2048]⟩
abbrev S_ : Shape := ⟨0, ![]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 13
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S1x4096x2048, .f32⟩
  | .hbm, ⟨5, _⟩ => ⟨S1x4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S1x2048, .f32⟩
  | .hbm, ⟨10, _⟩ => ⟨S_, .f32⟩
  | .hbm, ⟨11, _⟩ => ⟨S1x1x2048, .f32⟩
  | .hbm, ⟨12, _⟩ => ⟨S1x1x2048, .f32⟩
  | .hbm, ⟨13, _⟩ => ⟨S1x2048, .f32⟩
  | .hbm, ⟨14, _⟩ => ⟨S4096x2048, .f32⟩
  | .hbm, ⟨15, _⟩ => ⟨S1x2048, .f32⟩
  | .hbm, ⟨16, _⟩ => ⟨S1x2048, .f32⟩
  | .hbm, ⟨17, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S1x4096x2048 : Shape := ⟨3, ![1, 4096, 2048]⟩
abbrev S2048 : Shape := ⟨1, ![2048]⟩
abbrev S1x1x2048 : Shape := ⟨3, ![1, 1, 2048]⟩
abbrev S_ : Shape := ⟨0, ![]⟩
abbrev S1x4096 : Shape := ⟨2, ![1, 4096]⟩
abbrev S1x4096x1 : Shape := ⟨3, ![1, 4096, 1]⟩
abbrev S1x2048 : Shape := ⟨2, ![1, 2048]⟩
abbrev S4096 : Shape := ⟨1, ![4096]⟩
abbrev S4096x2048 : Shape := ⟨2, ![4096, 2048]⟩

abbrev nBuf : Space → Nat
  | .hbm => 74
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S1x4096x2048, .f32⟩
  | .hbm, ⟨5, _⟩ => ⟨S1x4096x2048, .f32⟩
  | .hbm, ⟨6, _⟩ => ⟨S1x4096x2048, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x2048, .f32⟩
  | .hbm, ⟨22, _⟩ => ⟨S1x4096x2048, .f32⟩
  | .hbm, ⟨23, _⟩ => ⟨S1x1x2048, .f32⟩
  | .hbm, ⟨24, _⟩ => ⟨S1x4096x2048, .f32⟩
  | .hbm, ⟨25, _⟩ => ⟨S1x4096x2048, .f32⟩
  | .hbm, ⟨26, _⟩ => ⟨S_, .f32⟩
  | .hbm, ⟨27, _⟩ => ⟨S1x1x2048, .f32⟩
  | .hbm, ⟨28, _⟩ => ⟨S1x1x2048, .f32⟩
  | .hbm, ⟨29, _⟩ => ⟨S1x4096x2048, .f32⟩
  | .hbm, ⟨30, _⟩ => ⟨S1x4096x2048, .f32⟩
  | .hbm, ⟨31, _⟩ => ⟨S1x4096x2048, .f32⟩
  | .hbm, ⟨32, _⟩ => ⟨S1x4096x2048, .f32⟩
  | .hbm, ⟨33, _⟩ => ⟨S1x4096x2048, .f32⟩
  | .hbm, ⟨34, _⟩ => ⟨S_, .f32⟩
  | .hbm, ⟨35, _⟩ => ⟨S1x2048, .f32⟩
  | .hbm, ⟨36, _⟩ => ⟨S1x1x2048, .f32⟩
  | .hbm, ⟨37, _⟩ => ⟨S1x4096x2048, .f32⟩
  | .hbm, ⟨38, _⟩ => ⟨S_, .f32⟩
  | .hbm, ⟨39, _⟩ => ⟨S1x2048, .f32⟩
  | .hbm, ⟨40, _⟩ => ⟨S1x1x2048, .f32⟩
  | .hbm, ⟨41, _⟩ => ⟨S1x4096x2048, .f32⟩
  | .hbm, ⟨42, _⟩ => ⟨S1x4096x2048, .f32⟩
  | .hbm, ⟨43, _⟩ => ⟨S1x4096x2048, .f32⟩
  | .hbm, ⟨44, _⟩ => ⟨S_, .f32⟩
  | .hbm, ⟨45, _⟩ => ⟨S1x2048, .f32⟩
  | .hbm, ⟨46, _⟩ => ⟨S1x1x2048, .f32⟩
  | .hbm, ⟨47, _⟩ => ⟨S1x4096x2048, .f32⟩
  | .hbm, ⟨48, _⟩ => ⟨S1x4096x2048, .f32⟩
  | .hbm, ⟨49, _⟩ => ⟨S_, .f32⟩
  | .hbm, ⟨50, _⟩ => ⟨S2048, .f32⟩
  | .hbm, ⟨51, _⟩ => ⟨S1x4096x2048, .f32⟩
  | .hbm, ⟨52, _⟩ => ⟨S_, .f32⟩
  | .hbm, ⟨53, _⟩ => ⟨S1x4096, .f32⟩
  | .hbm, ⟨54, _⟩ => ⟨S1x4096x1, .f32⟩
  | .hbm, ⟨55, _⟩ => ⟨S1x4096x2048, .f32⟩
  | .hbm, ⟨56, _⟩ => ⟨S1x4096x2048, .f32⟩
  | .hbm, ⟨57, _⟩ => ⟨S1x4096x2048, .f32⟩
  | .hbm, ⟨58, _⟩ => ⟨S1x4096x1, .f32⟩
  | .hbm, ⟨59, _⟩ => ⟨S_, .f32⟩
  | .hbm, ⟨60, _⟩ => ⟨S1x4096x1, .f32⟩
  | .hbm, ⟨61, _⟩ => ⟨S1x4096x1, .f32⟩
  | .hbm, ⟨62, _⟩ => ⟨S_, .f32⟩
  | .hbm, ⟨63, _⟩ => ⟨S4096, .f32⟩
  | .hbm, ⟨64, _⟩ => ⟨S1x4096, .f32⟩
  | .hbm, ⟨65, _⟩ => ⟨S1x4096x2048, .f32⟩
  | .hbm, ⟨66, _⟩ => ⟨S1x4096x2048, .f32⟩
  | .hbm, ⟨67, _⟩ => ⟨S1x4096x2048, .f32⟩
  | .hbm, ⟨68, _⟩ => ⟨S1x4096x2048, .f32⟩
  | .hbm, ⟨69, _⟩ => ⟨S1x4096x2048, .f32⟩
  | .hbm, ⟨70, _⟩ => ⟨S4096x2048, .f32⟩
  | .hbm, ⟨71, _⟩ => ⟨S1x2048, .f32⟩
  | .hbm, ⟨72, _⟩ => ⟨S1x2048, .f32⟩
  | .hbm, ⟨73, _⟩ => ⟨S1x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Kernel4.lean ====
abbrev S1x4096x2048 : Shape := ⟨3, ![1, 4096, 2048]⟩
abbrev S1x1x2048 : Shape := ⟨3, ![1, 1, 2048]⟩
abbrev S2048 : Shape := ⟨1, ![2048]⟩
abbrev S4096x2048 : Shape := ⟨2, ![4096, 2048]⟩
abbrev S1x2048 : Shape := ⟨2, ![1, 2048]⟩
abbrev S_ : Shape := ⟨0, ![]⟩
abbrev S256x2048 : Shape := ⟨2, ![256, 2048]⟩
abbrev S256 : Shape := ⟨1, ![256]⟩
abbrev S256x1 : Shape := ⟨2, ![256, 1]⟩

abbrev nBuf : Space → Nat
  | .hbm => 29
  | .vmem => 19
  | .smem => 0
  | _ => 0

abbrev bufTy : (tb : Table) → Fin (tcTables nBuf tb) → BufTy
  | .hbm, ⟨0, _⟩ => ⟨S1x4096x2048, .f32⟩
  | .hbm, ⟨1, _⟩ => ⟨S1x4096x2048, .f32⟩
  | .hbm, ⟨2, _⟩ => ⟨S1x1x2048, .f32⟩
  | .hbm, ⟨3, _⟩ => ⟨S2048, .f32⟩
  | .hbm, ⟨4, _⟩ => ⟨S1x1x2048, .f32⟩
  | .hbm, ⟨5, _⟩ => ⟨S1x1x2048, .f32⟩
  | .hbm, ⟨6, _⟩ => ⟨S1x4096x2048, .f32⟩
  | .hbm, ⟨7, _⟩ => ⟨S1x4096x2048, .f32⟩
  | .hbm, ⟨8, _⟩ => ⟨S4096x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S_, .f32⟩
  | .hbm, ⟨20, _⟩ => ⟨S1x1x2048, .f32⟩
  | .hbm, ⟨21, _⟩ => ⟨S1x1x2048, .f32⟩
  | .hbm, ⟨22, _⟩ => ⟨S1x2048, .f32⟩
  | .hbm, ⟨23, _⟩ => ⟨S4096x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S4096x2048, .bf16⟩
  | .hbm, ⟨28, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S256x2048, .bf16⟩
  | .local _ .vmem, ⟨17, _⟩ => ⟨S256x2048, .bf16⟩
  | .local _ .vmem, ⟨18, _⟩ => ⟨S1x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev main_v14_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S1x4096x2048 : Shape := ⟨3, ![1, 4096, 2048]⟩
abbrev S1x1x2048 : Shape := ⟨3, ![1, 1, 2048]⟩
abbrev S2048 : Shape := ⟨1, ![2048]⟩
abbrev S_ : Shape := ⟨0, ![]⟩
abbrev S1x4096 : Shape := ⟨2, ![1, 4096]⟩
abbrev S1x4096x1 : Shape := ⟨3, ![1, 4096, 1]⟩
abbrev S1x2048 : Shape := ⟨2, ![1, 2048]⟩
abbrev S4096 : Shape := ⟨1, ![4096]⟩
abbrev S4096x2048 : Shape := ⟨2, ![4096, 2048]⟩

abbrev nBuf : Space → Nat
  | .hbm => 89
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x4096x2048, .f32⟩
  | .hbm, ⟨2, _⟩ => ⟨S1x1x2048, .f32⟩
  | .hbm, ⟨3, _⟩ => ⟨S2048, .f32⟩
  | .hbm, ⟨4, _⟩ => ⟨S1x1x2048, .f32⟩
  | .hbm, ⟨5, _⟩ => ⟨S1x1x2048, .f32⟩
  | .hbm, ⟨6, _⟩ => ⟨S1x4096x2048, .f32⟩
  | .hbm, ⟨7, _⟩ => ⟨S1x4096x2048, .f32⟩
  | .hbm, ⟨8, _⟩ => ⟨S1x4096x2048, .f32⟩
  | .hbm, ⟨9, _⟩ => ⟨S1x4096x2048, .f32⟩
  | .hbm, ⟨10, _⟩ => ⟨S1x4096x2048, .f32⟩
  | .hbm, ⟨11, _⟩ => ⟨S1x4096x2048, .f32⟩
  | .hbm, ⟨12, _⟩ => ⟨S_, .f32⟩
  | .hbm, ⟨13, _⟩ => ⟨S1x4096, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1, .f32⟩
  | .hbm, ⟨22, _⟩ => ⟨S1x4096x1, .f32⟩
  | .hbm, ⟨23, _⟩ => ⟨S_, .f32⟩
  | .hbm, ⟨24, _⟩ => ⟨S1x4096x1, .f32⟩
  | .hbm, ⟨25, _⟩ => ⟨S1x4096x1, .f32⟩
  | .hbm, ⟨26, _⟩ => ⟨S1x4096x2048, .f32⟩
  | .hbm, ⟨27, _⟩ => ⟨S1x4096x2048, .f32⟩
  | .hbm, ⟨28, _⟩ => ⟨S1x1x2048, .f32⟩
  | .hbm, ⟨29, _⟩ => ⟨S1x4096x2048, .f32⟩
  | .hbm, ⟨30, _⟩ => ⟨S1x4096x2048, .f32⟩
  | .hbm, ⟨31, _⟩ => ⟨S_, .f32⟩
  | .hbm, ⟨32, _⟩ => ⟨S1x1x2048, .f32⟩
  | .hbm, ⟨33, _⟩ => ⟨S1x1x2048, .f32⟩
  | .hbm, ⟨34, _⟩ => ⟨S1x4096x2048, .f32⟩
  | .hbm, ⟨35, _⟩ => ⟨S1x4096x2048, .f32⟩
  | .hbm, ⟨36, _⟩ => ⟨S1x4096x2048, .f32⟩
  | .hbm, ⟨37, _⟩ => ⟨S1x4096x2048, .f32⟩
  | .hbm, ⟨38, _⟩ => ⟨S1x4096x2048, .f32⟩
  | .hbm, ⟨39, _⟩ => ⟨S_, .f32⟩
  | .hbm, ⟨40, _⟩ => ⟨S1x2048, .f32⟩
  | .hbm, ⟨41, _⟩ => ⟨S1x1x2048, .f32⟩
  | .hbm, ⟨42, _⟩ => ⟨S1x4096x2048, .f32⟩
  | .hbm, ⟨43, _⟩ => ⟨S_, .f32⟩
  | .hbm, ⟨44, _⟩ => ⟨S1x2048, .f32⟩
  | .hbm, ⟨45, _⟩ => ⟨S1x1x2048, .f32⟩
  | .hbm, ⟨46, _⟩ => ⟨S1x4096x2048, .f32⟩
  | .hbm, ⟨47, _⟩ => ⟨S1x4096x2048, .f32⟩
  | .hbm, ⟨48, _⟩ => ⟨S1x4096x2048, .f32⟩
  | .hbm, ⟨49, _⟩ => ⟨S_, .f32⟩
  | .hbm, ⟨50, _⟩ => ⟨S1x2048, .f32⟩
  | .hbm, ⟨51, _⟩ => ⟨S1x1x2048, .f32⟩
  | .hbm, ⟨52, _⟩ => ⟨S1x4096x2048, .f32⟩
  | .hbm, ⟨53, _⟩ => ⟨S1x4096x2048, .f32⟩
  | .hbm, ⟨54, _⟩ => ⟨S_, .f32⟩
  | .hbm, ⟨55, _⟩ => ⟨S2048, .f32⟩
  | .hbm, ⟨56, _⟩ => ⟨S1x4096x2048, .f32⟩
  | .hbm, ⟨57, _⟩ => ⟨S_, .f32⟩
  | .hbm, ⟨58, _⟩ => ⟨S1x4096, .f32⟩
  | .hbm, ⟨59, _⟩ => ⟨S1x4096x1, .f32⟩
  | .hbm, ⟨60, _⟩ => ⟨S1x4096x2048, .f32⟩
  | .hbm, ⟨61, _⟩ => ⟨S1x4096x2048, .f32⟩
  | .hbm, ⟨62, _⟩ => ⟨S1x4096x2048, .f32⟩
  | .hbm, ⟨63, _⟩ => ⟨S1x4096x1, .f32⟩
  | .hbm, ⟨64, _⟩ => ⟨S_, .f32⟩
  | .hbm, ⟨65, _⟩ => ⟨S1x4096x1, .f32⟩
  | .hbm, ⟨66, _⟩ => ⟨S1x4096x1, .f32⟩
  | .hbm, ⟨67, _⟩ => ⟨S_, .f32⟩
  | .hbm, ⟨68, _⟩ => ⟨S4096, .f32⟩
  | .hbm, ⟨69, _⟩ => ⟨S1x4096, .f32⟩
  | .hbm, ⟨70, _⟩ => ⟨S1x4096x2048, .f32⟩
  | .hbm, ⟨71, _⟩ => ⟨S1x4096x2048, .f32⟩
  | .hbm, ⟨72, _⟩ => ⟨S1x4096x2048, .f32⟩
  | .hbm, ⟨73, _⟩ => ⟨S1x4096x2048, .f32⟩
  | .hbm, ⟨74, _⟩ => ⟨S1x4096x2048, .f32⟩
  | .hbm, ⟨75, _⟩ => ⟨S1x4096x2048, .f32⟩
  | .hbm, ⟨76, _⟩ => ⟨S1x4096x2048, .f32⟩
  | .hbm, ⟨77, _⟩ => ⟨S1x4096x2048, .f32⟩
  | .hbm, ⟨78, _⟩ => ⟨S1x4096x2048, .f32⟩
  | .hbm, ⟨79, _⟩ => ⟨S_, .f32⟩
  | .hbm, ⟨80, _⟩ => ⟨S1x2048, .f32⟩
  | .hbm, ⟨81, _⟩ => ⟨S1x1x2048, .f32⟩
  | .hbm, ⟨82, _⟩ => ⟨S4096x2048, .f32⟩
  | .hbm, ⟨83, _⟩ => ⟨S1x2048, .f32⟩
  | .hbm, ⟨84, _⟩ => ⟨S1x2048, .f32⟩
  | .hbm, ⟨85, _⟩ => ⟨S1x2048, .f32⟩
  | .hbm, ⟨86, _⟩ => ⟨S4096x2048, .f32⟩
  | .hbm, ⟨87, _⟩ => ⟨S4096x2048, .bf16⟩
  | .hbm, ⟨88, _⟩ => ⟨S1x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Kernel5.lean ====
abbrev S1x4096x1024 : Shape := ⟨3, ![1, 4096, 1024]⟩
abbrev S1024 : Shape := ⟨1, ![1024]⟩
abbrev S2048x2048 : Shape := ⟨2, ![2048, 2048]⟩
abbrev S1x4096x2048 : Shape := ⟨3, ![1, 4096, 2048]⟩
abbrev S_ : Shape := ⟨0, ![]⟩
abbrev S4096x2048 : Shape := ⟨2, ![4096, 2048]⟩
abbrev S4096x1024 : Shape := ⟨2, ![4096, 1024]⟩
abbrev S4096x5120 : Shape := ⟨2, ![4096, 5120]⟩
abbrev S1x1024 : Shape := ⟨2, ![1, 1024]⟩
abbrev S8x8x1x512 : Shape := ⟨4, ![8, 8, 1, 512]⟩
abbrev S512x2048 : Shape := ⟨2, ![512, 2048]⟩
abbrev S512x1024 : Shape := ⟨2, ![512, 1024]⟩
abbrev S8x1x1x512 : Shape := ⟨4, ![8, 1, 1, 512]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S1x1x1x512 : Shape := ⟨4, ![1, 1, 1, 512]⟩

abbrev nBuf : Space → Nat
  | .hbm => 27
  | .vmem => 21
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1024, .f32⟩
  | .hbm, ⟨5, _⟩ => ⟨S2048x2048, .f32⟩
  | .hbm, ⟨6, _⟩ => ⟨S1x4096x2048, .f32⟩
  | .hbm, ⟨7, _⟩ => ⟨S_, .f32⟩
  | .hbm, ⟨8, _⟩ => ⟨S4096x2048, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x5120, .f32⟩
  | .hbm, ⟨14, _⟩ => ⟨S4096x2048, .f32⟩
  | .hbm, ⟨15, _⟩ => ⟨S4096x2048, .bf16⟩
  | .hbm, ⟨16, _⟩ => ⟨S2048x2048, .bf16⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .bf16⟩
  | .hbm, ⟨21, _⟩ => ⟨S8x8x1x512, .f32⟩
  | .hbm, ⟨22, _⟩ => ⟨S4096x1024, .bf16⟩
  | .hbm, ⟨23, _⟩ => ⟨S1x1024, .f32⟩
  | .hbm, ⟨24, _⟩ => ⟨S4096x5120, .bf16⟩
  | .hbm, ⟨25, _⟩ => ⟨S4096x1024, .bf16⟩
  | .hbm, ⟨26, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S8x1x1x512, .f32⟩
  | .local _ .vmem, ⟨15, _⟩ => ⟨S8x1x1x512, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S512x2048, .bf16⟩
  | .local _ .vmem, ⟨20, _⟩ => ⟨S512x2048, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S1x4096x1024 : Shape := ⟨3, ![1, 4096, 1024]⟩
abbrev S1024 : Shape := ⟨1, ![1024]⟩
abbrev S2048x2048 : Shape := ⟨2, ![2048, 2048]⟩
abbrev S1x4096x2048 : Shape := ⟨3, ![1, 4096, 2048]⟩
abbrev S_ : Shape := ⟨0, ![]⟩
abbrev S1x1x1024 : Shape := ⟨3, ![1, 1, 1024]⟩
abbrev S1x1024 : Shape := ⟨2, ![1, 1024]⟩
abbrev S4096x8x128 : Shape := ⟨3, ![4096, 8, 128]⟩
abbrev S4096x8 : Shape := ⟨2, ![4096, 8]⟩
abbrev S4096x1024 : Shape := ⟨2, ![4096, 1024]⟩
abbrev S8x4096 : Shape := ⟨2, ![8, 4096]⟩
abbrev S8x8x1x512 : Shape := ⟨4, ![8, 8, 1, 512]⟩

abbrev nBuf : Space → Nat
  | .hbm => 75
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1024, .f32⟩
  | .hbm, ⟨5, _⟩ => ⟨S2048x2048, .f32⟩
  | .hbm, ⟨6, _⟩ => ⟨S1x4096x2048, .f32⟩
  | .hbm, ⟨7, _⟩ => ⟨S1x4096x1024, .f32⟩
  | .hbm, ⟨8, _⟩ => ⟨S1x4096x1024, .f32⟩
  | .hbm, ⟨9, _⟩ => ⟨S_, .f32⟩
  | .hbm, ⟨10, _⟩ => ⟨S1x4096x1024, .f32⟩
  | .hbm, ⟨11, _⟩ => ⟨S1x4096x1024, .f32⟩
  | .hbm, ⟨12, _⟩ => ⟨S_, .f32⟩
  | .hbm, ⟨13, _⟩ => ⟨S1x4096x1024, .f32⟩
  | .hbm, ⟨14, _⟩ => ⟨S1x4096x1024, .f32⟩
  | .hbm, ⟨15, _⟩ => ⟨S_, .f32⟩
  | .hbm, ⟨16, _⟩ => ⟨S1x4096x1024, .f32⟩
  | .hbm, ⟨17, _⟩ => ⟨S1x4096x1024, .f32⟩
  | .hbm, ⟨18, _⟩ => ⟨S1x4096x1024, .f32⟩
  | .hbm, ⟨19, _⟩ => ⟨S1x4096x1024, .f32⟩
  | .hbm, ⟨20, _⟩ => ⟨S1x4096x1024, .f32⟩
  | .hbm, ⟨21, _⟩ => ⟨S1x1x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S_, .f32⟩
  | .hbm, ⟨27, _⟩ => ⟨S1x4096x1024, .f32⟩
  | .hbm, ⟨28, _⟩ => ⟨S1x4096x1024, .f32⟩
  | .hbm, ⟨29, _⟩ => ⟨S_, .f32⟩
  | .hbm, ⟨30, _⟩ => ⟨S1x4096x1024, .f32⟩
  | .hbm, ⟨31, _⟩ => ⟨S1x4096x1024, .f32⟩
  | .hbm, ⟨32, _⟩ => ⟨S_, .f32⟩
  | .hbm, ⟨33, _⟩ => ⟨S1x4096x1024, .f32⟩
  | .hbm, ⟨34, _⟩ => ⟨S1x4096x1024, .f32⟩
  | .hbm, ⟨35, _⟩ => ⟨S1x4096x1024, .f32⟩
  | .hbm, ⟨36, _⟩ => ⟨S1x4096x1024, .f32⟩
  | .hbm, ⟨37, _⟩ => ⟨S1x4096x1024, .f32⟩
  | .hbm, ⟨38, _⟩ => ⟨S1x4096x2048, .f32⟩
  | .hbm, ⟨39, _⟩ => ⟨S1x4096x2048, .f32⟩
  | .hbm, ⟨40, _⟩ => ⟨S1x4096x2048, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S_, .f32⟩
  | .hbm, ⟨50, _⟩ => ⟨S1x1024, .f32⟩
  | .hbm, ⟨51, _⟩ => ⟨S1x1x1024, .f32⟩
  | .hbm, ⟨52, _⟩ => ⟨S_, .f32⟩
  | .hbm, ⟨53, _⟩ => ⟨S1024, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S1x4096x1024, .f32⟩
  | .hbm, ⟨59, _⟩ => ⟨S1x4096x1024, .f32⟩
  | .hbm, ⟨60, _⟩ => ⟨S1x4096x1024, .f32⟩
  | .hbm, ⟨61, _⟩ => ⟨S4096x8x128, .f32⟩
  | .hbm, ⟨62, _⟩ => ⟨S_, .f32⟩
  | .hbm, ⟨63, _⟩ => ⟨S4096x8, .f32⟩
  | .hbm, ⟨64, _⟩ => ⟨S4096x1024, .f32⟩
  | .hbm, ⟨65, _⟩ => ⟨S4096x1024, .bf16⟩
  | .hbm, ⟨66, _⟩ => ⟨S8x4096, .f32⟩
  | .hbm, ⟨67, _⟩ => ⟨S8x8x1x512, .f32⟩
  | .hbm, ⟨68, _⟩ => ⟨S4096x1024, .f32⟩
  | .hbm, ⟨69, _⟩ => ⟨S4096x1024, .bf16⟩
  | .hbm, ⟨70, _⟩ => ⟨S1x1024, .f32⟩
  | .hbm, ⟨71, _⟩ => ⟨S4096x1024, .f32⟩
  | .hbm, ⟨72, _⟩ => ⟨S4096x1024, .bf16⟩
  | .hbm, ⟨73, _⟩ => ⟨S4096x1024, .f32⟩
  | .hbm, ⟨74, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v0_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v0_1 : Ref sig .tc := ⟨.hbm, 18, rfl⟩
abbrev main_v0_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_v5_2 : Ref sig .tc := ⟨.hbm, 31, rfl⟩
abbrev main_call1_cst_1 : Ref sig .tc := ⟨.hbm, 32, rfl⟩
abbrev main_call1_v6 : Ref sig .tc := ⟨.hbm, 33, rfl⟩
abbrev main_call1_v7 : Ref sig .tc := ⟨.hbm, 34, rfl⟩
abbrev main_v5_1 : Ref sig .tc := ⟨.hbm, 35, rfl⟩
abbrev main_v5_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v14 : Ref sig .tc := ⟨.hbm, 48, rfl⟩
abbrev main_cst : Ref sig .tc := ⟨.hbm, 49, rfl⟩
abbrev main_v15 : Ref sig .tc := ⟨.hbm, 50, rfl⟩
abbrev main_v16 : Ref sig .tc := ⟨.hbm, 51, rfl⟩
abbrev main_cst_0 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_1 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩

abbrev nD : Nat := 1
abbrev τ : Topo := Topo.v7x

variable {F : FTy → Type} [FloatOps F]
-- ==== Kernel6.lean ====
abbrev S1x4096x2048 : Shape := ⟨3, ![1, 4096, 2048]⟩
abbrev S2048 : Shape := ⟨1, ![2048]⟩
abbrev S1x1x2048 : Shape := ⟨3, ![1, 1, 2048]⟩
abbrev S4096x2048 : Shape := ⟨2, ![4096, 2048]⟩
abbrev S1x2048 : Shape := ⟨2, ![1, 2048]⟩
abbrev S_ : Shape := ⟨0, ![]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 7
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S4096x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S1x4096x2048 : Shape := ⟨3, ![1, 4096, 2048]⟩
abbrev S2048 : Shape := ⟨1, ![2048]⟩
abbrev S1x1x2048 : Shape := ⟨3, ![1, 1, 2048]⟩
abbrev S_ : Shape := ⟨0, ![]⟩
abbrev S1x4096 : Shape := ⟨2, ![1, 4096]⟩
abbrev S1x4096x1 : Shape := ⟨3, ![1, 4096, 1]⟩
abbrev S4096x2048 : Shape := ⟨2, ![4096, 2048]⟩

abbrev nBuf : Space → Nat
  | .hbm => 29
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S1x4096x2048, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x2048, .f32⟩
  | .hbm, ⟨16, _⟩ => ⟨S1x4096x2048, .f32⟩
  | .hbm, ⟨17, _⟩ => ⟨S1x1x2048, .f32⟩
  | .hbm, ⟨18, _⟩ => ⟨S1x4096x2048, .f32⟩
  | .hbm, ⟨19, _⟩ => ⟨S1x4096x2048, .f32⟩
  | .hbm, ⟨20, _⟩ => ⟨S_, .f32⟩
  | .hbm, ⟨21, _⟩ => ⟨S1x1x2048, .f32⟩
  | .hbm, ⟨22, _⟩ => ⟨S1x1x2048, .f32⟩
  | .hbm, ⟨23, _⟩ => ⟨S1x4096x2048, .f32⟩
  | .hbm, ⟨24, _⟩ => ⟨S1x4096x2048, .f32⟩
  | .hbm, ⟨25, _⟩ => ⟨S1x4096x2048, .f32⟩
  | .hbm, ⟨26, _⟩ => ⟨S1x4096x2048, .f32⟩
  | .hbm, ⟨27, _⟩ => ⟨S4096x2048, .f32⟩
  | .hbm, ⟨28, _⟩ => ⟨S4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel7.lean ====
abbrev S1x4096x1024 : Shape := ⟨3, ![1, 4096, 1024]⟩
abbrev S1024 : Shape := ⟨1, ![1024]⟩
abbrev S_ : Shape := ⟨0, ![]⟩
abbrev S4096x2048 : Shape := ⟨2, ![4096, 2048]⟩
abbrev S4096x1024 : Shape := ⟨2, ![4096, 1024]⟩
abbrev S4096x5120 : Shape := ⟨2, ![4096, 5120]⟩
abbrev S1x1024 : Shape := ⟨2, ![1, 1024]⟩
abbrev S512x1024 : Shape := ⟨2, ![512, 1024]⟩
abbrev S512x2048 : Shape := ⟨2, ![512, 2048]⟩

abbrev nBuf : Space → Nat
  | .hbm => 16
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1024, .f32⟩
  | .hbm, ⟨5, _⟩ => ⟨S_, .f32⟩
  | .hbm, ⟨6, _⟩ => ⟨S4096x2048, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x5120, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x2048, .bf16⟩
  | .local _ .vmem, ⟨10, _⟩ => ⟨S512x2048, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S1x4096x1024 : Shape := ⟨3, ![1, 4096, 1024]⟩
abbrev S1024 : Shape := ⟨1, ![1024]⟩
abbrev S_ : Shape := ⟨0, ![]⟩
abbrev S1x1x1024 : Shape := ⟨3, ![1, 1, 1024]⟩
abbrev S1x4096x2048 : Shape := ⟨3, ![1, 4096, 2048]⟩
abbrev S4096x2048 : Shape := ⟨2, ![4096, 2048]⟩

abbrev nBuf : Space → Nat
  | .hbm => 31
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S1024, .f32⟩
  | .hbm, ⟨5, _⟩ => ⟨S1x4096x1024, .f32⟩
  | .hbm, ⟨6, _⟩ => ⟨S1x4096x1024, .f32⟩
  | .hbm, ⟨7, _⟩ => ⟨S_, .f32⟩
  | .hbm, ⟨8, _⟩ => ⟨S1x4096x1024, .f32⟩
  | .hbm, ⟨9, _⟩ => ⟨S1x4096x1024, .f32⟩
  | .hbm, ⟨10, _⟩ => ⟨S_, .f32⟩
  | .hbm, ⟨11, _⟩ => ⟨S1x4096x1024, .f32⟩
  | .hbm, ⟨12, _⟩ => ⟨S1x4096x1024, .f32⟩
  | .hbm, ⟨13, _⟩ => ⟨S1x4096x1024, .f32⟩
  | .hbm, ⟨14, _⟩ => ⟨S1x4096x1024, .f32⟩
  | .hbm, ⟨15, _⟩ => ⟨S1x1x1024, .f32⟩
  | .hbm, ⟨16, _⟩ => ⟨S1x4096x1024, .f32⟩
  | .hbm, ⟨17, _⟩ => ⟨S1x4096x1024, .f32⟩
  | .hbm, ⟨18, _⟩ => ⟨S1x4096x1024, .f32⟩
  | .hbm, ⟨19, _⟩ => ⟨S1x4096x1024, .f32⟩
  | .hbm, ⟨20, _⟩ => ⟨S_, .f32⟩
  | .hbm, ⟨21, _⟩ => ⟨S1x4096x1024, .f32⟩
  | .hbm, ⟨22, _⟩ => ⟨S1x4096x1024, .f32⟩
  | .hbm, ⟨23, _⟩ => ⟨S_, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S1x4096x2048, .f32⟩
  | .hbm, ⟨29, _⟩ => ⟨S4096x2048, .f32⟩
  | .hbm, ⟨30, _⟩ => ⟨S4096x2048, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩

abbrev nD : Nat := 1
abbrev τ : Topo := Topo.v7x

variable {F : FTy → Type} [FloatOps F]
-- ==== Kernel8.lean ====
abbrev S1x4096x512 : Shape := ⟨3, ![1, 4096, 512]⟩
abbrev S1x4096x256 : Shape := ⟨3, ![1, 4096, 256]⟩
abbrev S1x4096x64 : Shape := ⟨3, ![1, 4096, 64]⟩
abbrev S1x4096x1x32 : Shape := ⟨4, ![1, 4096, 1, 32]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S192 : Shape := ⟨1, ![192]⟩
abbrev S_ : Shape := ⟨0, ![]⟩
abbrev S4096x4096 : Shape := ⟨2, ![4096, 4096]⟩
abbrev S4096x512 : Shape := ⟨2, ![4096, 512]⟩
abbrev S4096x256 : Shape := ⟨2, ![4096, 256]⟩
abbrev S4096x64 : Shape := ⟨2, ![4096, 64]⟩
abbrev S4096x192 : Shape := ⟨2, ![4096, 192]⟩
abbrev S4096x5120 : Shape := ⟨2, ![4096, 5120]⟩
abbrev S4096x32 : Shape := ⟨2, ![4096, 32]⟩
abbrev S4096x128 : Shape := ⟨2, ![4096, 128]⟩
abbrev S512x8x192 : Shape := ⟨3, ![512, 8, 192]⟩
abbrev S512x8x128 : Shape := ⟨3, ![512, 8, 128]⟩
abbrev S512x1024 : Shape := ⟨2, ![512, 1024]⟩
abbrev S512x8x64 : Shape := ⟨3, ![512, 8, 64]⟩
abbrev S512x2048 : Shape := ⟨2, ![512, 2048]⟩
abbrev S1x512 : Shape := ⟨2, ![1, 512]⟩
abbrev S1x256 : Shape := ⟨2, ![1, 256]⟩
abbrev S128 : Shape := ⟨1, ![128]⟩
abbrev S1x128 : Shape := ⟨2, ![1, 128]⟩
abbrev S64 : Shape := ⟨1, ![64]⟩
abbrev S4096x2048 : Shape := ⟨2, ![4096, 2048]⟩
abbrev S8x4096x256 : Shape := ⟨3, ![8, 4096, 256]⟩
abbrev S512x512 : Shape := ⟨2, ![512, 512]⟩
abbrev S512x256 : Shape := ⟨2, ![512, 256]⟩
abbrev S512x128 : Shape := ⟨2, ![512, 128]⟩
abbrev S8x512x256 : Shape := ⟨3, ![8, 512, 256]⟩
abbrev S512x1 : Shape := ⟨2, ![512, 1]⟩
abbrev S1x512x128 : Shape := ⟨3, ![1, 512, 128]⟩
abbrev S4096x1024 : Shape := ⟨2, ![4096, 1024]⟩
abbrev S4096x8x128 : Shape := ⟨3, ![4096, 8, 128]⟩
abbrev S4096x8x64 : Shape := ⟨3, ![4096, 8, 64]⟩
abbrev S4096x8x192 : Shape := ⟨3, ![4096, 8, 192]⟩
abbrev S4096x1536 : Shape := ⟨2, ![4096, 1536]⟩
abbrev S8x4096x192 : Shape := ⟨3, ![8, 4096, 192]⟩
abbrev S8x4096x128 : Shape := ⟨3, ![8, 4096, 128]⟩

abbrev nBuf : Space → Nat
  | .hbm => 71
  | .vmem => 34
  | .smem => 0
  | _ => 0

abbrev bufTy : (tb : Table) → Fin (tcTables nBuf tb) → BufTy
  | .hbm, ⟨0, _⟩ => ⟨S1x4096x512, .f32⟩
  | .hbm, ⟨1, _⟩ => ⟨S1x4096x256, .f32⟩
  | .hbm, ⟨2, _⟩ => ⟨S1x4096x64, .f32⟩
  | .hbm, ⟨3, _⟩ => ⟨S1x4096x1x32, .f32⟩
  | .hbm, ⟨4, _⟩ => ⟨S1x4096x1x32, .f32⟩
  | .hbm, ⟨5, _⟩ => ⟨S512, .f32⟩
  | .hbm, ⟨6, _⟩ => ⟨S512x1536, .f32⟩
  | .hbm, ⟨7, _⟩ => ⟨S256, .f32⟩
  | .hbm, ⟨8, _⟩ => ⟨S256x2048, .f32⟩
  | .hbm, ⟨9, _⟩ => ⟨S192, .f32⟩
  | .hbm, ⟨10, _⟩ => ⟨S192, .f32⟩
  | .hbm, ⟨11, _⟩ => ⟨S_, .f32⟩
  | .hbm, ⟨12, _⟩ => ⟨S4096x4096, .f32⟩
  | .hbm, ⟨13, _⟩ => ⟨S4096x512, .f32⟩
  | .hbm, ⟨14, _⟩ => ⟨S4096x256, .f32⟩
  | .hbm, ⟨15, _⟩ => ⟨S4096x64, .f32⟩
  | .hbm, ⟨16, _⟩ => ⟨S_, .f32⟩
  | .hbm, ⟨17, _⟩ => ⟨S4096x192, .f32⟩
  | .hbm, ⟨18, _⟩ => ⟨S4096x5120, .f32⟩
  | .hbm, ⟨19, _⟩ => ⟨S4096x32, .f32⟩
  | .hbm, ⟨20, _⟩ => ⟨S4096x32, .f32⟩
  | .hbm, ⟨21, _⟩ => ⟨S_, .f32⟩
  | .hbm, ⟨22, _⟩ => ⟨S4096x32, .f32⟩
  | .hbm, ⟨23, _⟩ => ⟨S4096x128, .f32⟩
  | .hbm, ⟨24, _⟩ => ⟨S4096x32, .f32⟩
  | .hbm, ⟨25, _⟩ => ⟨S4096x128, .f32⟩
  | .hbm, ⟨26, _⟩ => ⟨S4096x128, .f32⟩
  | .hbm, ⟨27, _⟩ => ⟨S512x8x192, .f32⟩
  | .hbm, ⟨28, _⟩ => ⟨S512x8x128, .f32⟩
  | .hbm, ⟨29, _⟩ => ⟨S512x1024, .f32⟩
  | .hbm, ⟨30, _⟩ => ⟨S512x8x64, .f32⟩
  | .hbm, ⟨31, _⟩ => ⟨S_, .i32⟩
  | .hbm, ⟨32, _⟩ => ⟨S_, .f32⟩
  | .hbm, ⟨33, _⟩ => ⟨S512x8x128, .f32⟩
  | .hbm, ⟨34, _⟩ => ⟨S512x1024, .f32⟩
  | .hbm, ⟨35, _⟩ => ⟨S512x2048, .f32⟩
  | .hbm, ⟨36, _⟩ => ⟨S512x2048, .bf16⟩
  | .hbm, ⟨37, _⟩ => ⟨S256x2048, .bf16⟩
  | .hbm, ⟨38, _⟩ => ⟨S1x512, .f32⟩
  | .hbm, ⟨39, _⟩ => ⟨S1x256, .f32⟩
  | .hbm, ⟨40, _⟩ => ⟨S128, .f32⟩
  | .hbm, ⟨41, _⟩ => ⟨S1x128, .f32⟩
  | .hbm, ⟨42, _⟩ => ⟨S64, .f32⟩
  | .hbm, ⟨43, _⟩ => ⟨S_, .i32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S128, .f32⟩
  | .hbm, ⟨48, _⟩ => ⟨S1x128, .f32⟩
  | .hbm, ⟨49, _⟩ => ⟨S64, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S4096x512, .bf16⟩
  | .hbm, ⟨55, _⟩ => ⟨S4096x256, .bf16⟩
  | .hbm, ⟨56, _⟩ => ⟨S4096x2048, .f32⟩
  | .hbm, ⟨57, _⟩ => ⟨S4096x2048, .f32⟩
  | .hbm, ⟨58, _⟩ => ⟨S8x4096x256, .bf16⟩
  | .hbm, ⟨59, _⟩ => ⟨S8x4096x256, .bf16⟩
  | .hbm, ⟨60, _⟩ => ⟨S8x4096x256, .bf16⟩
  | .hbm, ⟨61, _⟩ => ⟨S4096x1024, .f32⟩
  | .hbm, ⟨62, _⟩ => ⟨S4096x8x128, .f32⟩
  | .hbm, ⟨63, _⟩ => ⟨S4096x1024, .f32⟩
  | .hbm, ⟨64, _⟩ => ⟨S4096x8x128, .f32⟩
  | .hbm, ⟨65, _⟩ => ⟨S4096x8x64, .f32⟩
  | .hbm, ⟨66, _⟩ => ⟨S4096x8x192, .f32⟩
  | .hbm, ⟨67, _⟩ => ⟨S4096x1536, .f32⟩
  | .hbm, ⟨68, _⟩ => ⟨S8x4096x192, .bf16⟩
  | .hbm, ⟨69, _⟩ => ⟨S8x4096x192, .bf16⟩
  | .hbm, ⟨70, _⟩ => ⟨S8x4096x128, .bf16⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x2048, .bf16⟩
  | .local _ .vmem, ⟨7, _⟩ => ⟨S256x2048, .bf16⟩
  | .local _ .vmem, ⟨8, _⟩ => ⟨S1x512, .f32⟩
  | .local _ .vmem, ⟨9, _⟩ => ⟨S1x256, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S512x512, .bf16⟩
  | .local _ .vmem, ⟨21, _⟩ => ⟨S512x512, .bf16⟩
  | .local _ .vmem, ⟨22, _⟩ => ⟨S512x256, .bf16⟩
  | .local _ .vmem, ⟨23, _⟩ => ⟨S512x256, .bf16⟩
  | .local _ .vmem, ⟨24, _⟩ => ⟨S512x2048, .f32⟩
  | .local _ .vmem, ⟨25, _⟩ => ⟨S512x2048, .f32⟩
  | .local _ .vmem, ⟨26, _⟩ => ⟨S512x2048, .f32⟩
  | .local _ .vmem, ⟨27, _⟩ => ⟨S512x2048, .f32⟩
  | .local _ .vmem, ⟨28, _⟩ => ⟨S8x512x256, .bf16⟩
  | .local _ .vmem, ⟨29, _⟩ => ⟨S8x512x256, .bf16⟩
  | .local _ .vmem, ⟨30, _⟩ => ⟨S8x512x256, .bf16⟩
  | .local _ .vmem, ⟨31, _⟩ => ⟨S8x512x256, .bf16⟩
  | .local _ .vmem, ⟨32, _⟩ => ⟨S8x512x256, .bf16⟩
  | .local _ .vmem, ⟨33, _⟩ => ⟨S8x512x256, .bf16⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_call1_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_3 : Ref sig .tc := ⟨.hbm, 50, rfl⟩
abbrev main_call2_v0 : Ref sig .tc := ⟨.hbm, 51, rfl⟩
abbrev main_v32 : Ref sig .tc := ⟨.hbm, 52, rfl⟩
abbrev main_v33 : Ref sig .tc := ⟨.hbm, 53, rfl⟩
abbrev main_v34_0 : Ref sig .tc := ⟨.hbm, 54, rfl⟩
abbrev main_v34_1 : Ref sig .tc := ⟨.hbm, 55, rfl⟩
abbrev main_v34_2 : Ref sig .tc := ⟨.hbm, 56, rfl⟩
abbrev main_v34_3 : Ref sig .tc := ⟨.hbm, 57, rfl⟩
abbrev main_v34_4 : Ref sig .tc := ⟨.hbm, 58, rfl⟩
abbrev main_v34_5 : Ref sig .tc := ⟨.hbm, 59, rfl⟩
abbrev main_v34_6 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_2 (i : grid0.Coords) : Fin 2 → Nat :=
  let arg0 : BitVec 32 := BitVec.ofNat 32 (i 0).val
  let c38_i32 : BitVec 32 := 38#32
  let c0_i32 : BitVec 32 := 0#32
  ![arg0.toNat, c38_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Kernel8Ideal.lean ====
variable {F : FTy → Type} [FloatOps F] [Named F]
def κ : String → Option EReal := fun
  | "per_head" => some ((192⁻¹ : ℝ) : EReal)
  | _ => none
-- ==== Reference8Ideal.lean ====
abbrev S1x4096x512 : Shape := ⟨3, ![1, 4096, 512]⟩
abbrev S1x4096x256 : Shape := ⟨3, ![1, 4096, 256]⟩
abbrev S1x4096x64 : Shape := ⟨3, ![1, 4096, 64]⟩
abbrev S1x4096x1x32 : Shape := ⟨4, ![1, 4096, 1, 32]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S192 : Shape := ⟨1, ![192]⟩
abbrev S_ : Shape := ⟨0, ![]⟩
abbrev S1x4096 : Shape := ⟨2, ![1, 4096]⟩
abbrev S1x4096x1 : Shape := ⟨3, ![1, 4096, 1]⟩
abbrev S1x1x512 : Shape := ⟨3, ![1, 1, 512]⟩
abbrev S1x1x256 : Shape := ⟨3, ![1, 1, 256]⟩
abbrev S1x4096x1536 : Shape := ⟨3, ![1, 4096, 1536]⟩
abbrev S1x4096x2048 : Shape := ⟨3, ![1, 4096, 2048]⟩
abbrev S1x4096x8x256 : Shape := ⟨4, ![1, 4096, 8, 256]⟩
abbrev S1x4096x8x128 : Shape := ⟨4, ![1, 4096, 8, 128]⟩
abbrev S1x4096x1x64 : Shape := ⟨4, ![1, 4096, 1, 64]⟩
abbrev S1x4096x8x64 : Shape := ⟨4, ![1, 4096, 8, 64]⟩
abbrev S1x4096x8x192 : Shape := ⟨4, ![1, 4096, 8, 192]⟩
abbrev S1x4096x8 : Shape := ⟨3, ![1, 4096, 8]⟩
abbrev S1x4096x8x1 : Shape := ⟨4, ![1, 4096, 8, 1]⟩
abbrev S1x1x1x192 : Shape := ⟨4, ![1, 1, 1, 192]⟩
abbrev S1x4096x8x32 : Shape := ⟨4, ![1, 4096, 8, 32]⟩
abbrev S4096x512 : Shape := ⟨2, ![4096, 512]⟩
abbrev S4096x256 : Shape := ⟨2, ![4096, 256]⟩
abbrev S4096x1536 : Shape := ⟨2, ![4096, 1536]⟩
abbrev S4096x2048 : Shape := ⟨2, ![4096, 2048]⟩
abbrev S4096x8x192 : Shape := ⟨3, ![4096, 8, 192]⟩
abbrev S8x4096x192 : Shape := ⟨3, ![8, 4096, 192]⟩
abbrev S4096x8x128 : Shape := ⟨3, ![4096, 8, 128]⟩
abbrev S8x4096x128 : Shape := ⟨3, ![8, 4096, 128]⟩

abbrev nBuf : Space → Nat
  | .hbm => 132
  | .vmem => 0
  | .smem => 0
  | _ => 0

abbrev hbmTy0_0 (i : Nat) : BufTy := match i % 128 with
  | 0 => ⟨S1x4096x512, .f32⟩
  | 1 => ⟨S1x4096x256, .f32⟩
  | 2 => ⟨S1x4096x64, .f32⟩
  | 3 => ⟨S1x4096x1x32, .f32⟩
  | 4 => ⟨S1x4096x1x32, .f32⟩
  | 5 => ⟨S512, .f32⟩
  | 6 => ⟨S512x1536, .f32⟩
  | 7 => ⟨S256, .f32⟩
  | 8 => ⟨S256x2048, .f32⟩
  | 9 => ⟨S192, .f32⟩
  | 10 => ⟨S192, .f32⟩
  | 11 => ⟨S1x4096x512, .f32⟩
  | 12 => ⟨S_, .f32⟩
  | 13 => ⟨S1x4096, .f32⟩
  | 14 => ⟨S1x4096x1, .f32⟩
  | 15 => ⟨S_, .f32⟩
  | 16 => ⟨S1x4096x1, .f32⟩
  | 17 => ⟨S1x4096x1, .f32⟩
  | 18 => ⟨S_, .f32⟩
  | 19 => ⟨S1x4096x1, .f32⟩
  | 20 => ⟨S1x4096x1, .f32⟩
  | 21 => ⟨S1x4096x1, .f32⟩
  | 22 => ⟨S1x4096x512, .f32⟩
  | 23 => ⟨S1x4096x512, .f32⟩
  | 24 => ⟨S1x1x512, .f32⟩
  | 25 => ⟨S1x4096x512, .f32⟩
  | 26 => ⟨S1x4096x512, .f32⟩
  | 27 => ⟨S1x4096x256, .f32⟩
  | 28 => ⟨S_, .f32⟩
  | 29 => ⟨S1x4096, .f32⟩
  | 30 => ⟨S1x4096x1, .f32⟩
  | 31 => ⟨S_, .f32⟩
  | 32 => ⟨S1x4096x1, .f32⟩
  | 33 => ⟨S1x4096x1, .f32⟩
  | 34 => ⟨S_, .f32⟩
  | 35 => ⟨S1x4096x1, .f32⟩
  | 36 => ⟨S1x4096x1, .f32⟩
  | 37 => ⟨S1x4096x1, .f32⟩
  | 38 => ⟨S1x4096x256, .f32⟩
  | 39 => ⟨S1x4096x256, .f32⟩
  | 40 => ⟨S1x1x256, .f32⟩
  | 41 => ⟨S1x4096x256, .f32⟩
  | 42 => ⟨S1x4096x256, .f32⟩
  | 43 => ⟨S1x4096x1536, .f32⟩
  | 44 => ⟨S1x4096x2048, .f32⟩
  | 45 => ⟨S1x4096x8x256, .f32⟩
  | 46 => ⟨S1x4096x8x128, .f32⟩
  | 47 => ⟨S1x4096x8x128, .f32⟩
  | 48 => ⟨S1x4096x1x64, .f32⟩
  | 49 => ⟨S1x4096x8x64, .f32⟩
  | 50 => ⟨S1x4096x8x192, .f32⟩
  | 51 => ⟨S1x4096x8x192, .f32⟩
  | 52 => ⟨S1x4096x8x192, .f32⟩
  | 53 => ⟨S_, .f32⟩
  | 54 => ⟨S1x4096x8, .f32⟩
  | 55 => ⟨S1x4096x8x1, .f32⟩
  | 56 => ⟨S_, .f32⟩
  | 57 => ⟨S1x4096x8x1, .f32⟩
  | 58 => ⟨S1x4096x8x1, .f32⟩
  | 59 => ⟨S_, .f32⟩
  | 60 => ⟨S1x4096x8x1, .f32⟩
  | 61 => ⟨S1x4096x8x1, .f32⟩
  | 62 => ⟨S1x4096x8x1, .f32⟩
  | 63 => ⟨S1x4096x8x192, .f32⟩
  | 64 => ⟨S1x4096x8x192, .f32⟩
  | 65 => ⟨S1x1x1x192, .f32⟩
  | 66 => ⟨S1x4096x8x192, .f32⟩
  | 67 => ⟨S1x4096x8x192, .f32⟩
  | 68 => ⟨S1x4096x8x64, .f32⟩
  | 69 => ⟨S1x4096x8x32, .f32⟩
  | 70 => ⟨S1x4096x8x32, .f32⟩
  | 71 => ⟨S1x4096x8x128, .f32⟩
  | 72 => ⟨S1x4096x8x32, .f32⟩
  | 73 => ⟨S1x4096x8x32, .f32⟩
  | 74 => ⟨S1x4096x8x32, .f32⟩
  | 75 => ⟨S1x4096x8x32, .f32⟩
  | 76 => ⟨S1x4096x8x32, .f32⟩
  | 77 => ⟨S1x4096x8x32, .f32⟩
  | 78 => ⟨S1x4096x8x32, .f32⟩
  | 79 => ⟨S1x4096x8x32, .f32⟩
  | 80 => ⟨S1x4096x8x32, .f32⟩
  | 81 => ⟨S1x4096x8x32, .f32⟩
  | 82 => ⟨S1x4096x8x192, .f32⟩
  | 83 => ⟨S_, .f32⟩
  | 84 => ⟨S1x4096x8x192, .f32⟩
  | 85 => ⟨S1x4096x8x192, .f32⟩
  | 86 => ⟨S4096x512, .f32⟩
  | 87 => ⟨S4096x512, .bf16⟩
  | 88 => ⟨S4096x256, .f32⟩
  | 89 => ⟨S4096x256, .bf16⟩
  | 90 => ⟨S4096x1536, .f32⟩
  | 91 => ⟨S4096x2048, .f32⟩
  | 92 => ⟨S4096x8x192, .f32⟩
  | 93 => ⟨S8x4096x192, .f32⟩
  | 94 => ⟨S8x4096x192, .bf16⟩
  | 95 => ⟨S1x4096x8x192, .f32⟩
  | 96 => ⟨S_, .f32⟩
  | 97 => ⟨S1x4096x8, .f32⟩
  | 98 => ⟨S1x4096x8x1, .f32⟩
  | 99 => ⟨S_, .f32⟩
  | 100 => ⟨S1x4096x8x1, .f32⟩
  | 101 => ⟨S1x4096x8x1, .f32⟩
  | 102 => ⟨S_, .f32⟩
  | 103 => ⟨S1x4096x8x1, .f32⟩
  | 104 => ⟨S1x4096x8x1, .f32⟩
  | 105 => ⟨S1x4096x8x1, .f32⟩
  | 106 => ⟨S1x4096x8x192, .f32⟩
  | 107 => ⟨S1x4096x8x192, .f32⟩
  | 108 => ⟨S1x1x1x192, .f32⟩
  | 109 => ⟨S1x4096x8x192, .f32⟩
  | 110 => ⟨S1x4096x8x192, .f32⟩
  | 111 => ⟨S1x4096x8x64, .f32⟩
  | 112 => ⟨S1x4096x8x32, .f32⟩
  | 113 => ⟨S1x4096x8x32, .f32⟩
  | 114 => ⟨S1x4096x8x128, .f32⟩
  | 115 => ⟨S1x4096x8x32, .f32⟩
  | 116 => ⟨S1x4096x8x32, .f32⟩
  | 117 => ⟨S1x4096x8x32, .f32⟩
  | 118 => ⟨S1x4096x8x32, .f32⟩
  | 119 => ⟨S1x4096x8x32, .f32⟩
  | 120 => ⟨S1x4096x8x32, .f32⟩
  | 121 => ⟨S1x4096x8x32, .f32⟩
  | 122 => ⟨S1x4096x8x32, .f32⟩
  | 123 => ⟨S1x4096x8x32, .f32⟩
  | 124 => ⟨S1x4096x8x32, .f32⟩
  | 125 => ⟨S1x4096x8x192, .f32⟩
  | 126 => ⟨S4096x8x192, .f32⟩
  | 127 => ⟨S8x4096x192, .f32⟩
  | _ => ⟨S1x4096x512, .f32⟩

abbrev hbmTy0_1 (i : Nat) : BufTy := match i % 128 with
  | 0 => ⟨S8x4096x192, .bf16⟩
  | 1 => ⟨S4096x8x128, .f32⟩
  | 2 => ⟨S8x4096x128, .f32⟩
  | 3 => ⟨S8x4096x128, .bf16⟩
  | _ => ⟨S1x4096x512, .f32⟩

abbrev hbmTy (i : Nat) : BufTy := match i / 128 with
  | 0 => hbmTy0_0 i
  | 1 => hbmTy0_1 i
  | _ => ⟨S1x4096x512, .f32⟩

abbrev bufTy : (tb : Table) → Fin (tcTables nBuf tb) → BufTy
  | .hbm, ⟨i, _⟩ => hbmTy i
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_9 : Ref sig .tc := ⟨.hbm, 96, rfl⟩
abbrev main_v75 : Ref sig .tc := ⟨.hbm, 97, rfl⟩
abbrev main_v76 : Ref sig .tc := ⟨.hbm, 98, rfl⟩
abbrev main_cst_10 : Ref sig .tc := ⟨.hbm, 99, rfl⟩
abbrev main_v77 : Ref sig .tc := ⟨.hbm, 100, rfl⟩
abbrev main_v78 : Ref sig .tc := ⟨.hbm, 101, rfl⟩
abbrev main_cst_11 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩

abbrev nD : Nat := 1
abbrev τ : Topo := Topo.v7x

variable {F : FTy → Type} [FloatOps F]
-- ==== Kernel9.lean ====
abbrev S1x4096x512 : Shape := ⟨3, ![1, 4096, 512]⟩
abbrev S1x4096x256 : Shape := ⟨3, ![1, 4096, 256]⟩
abbrev S1x4096x64 : Shape := ⟨3, ![1, 4096, 64]⟩
abbrev S1x4096x1x32 : Shape := ⟨4, ![1, 4096, 1, 32]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S192 : Shape := ⟨1, ![192]⟩
abbrev S1x4096x8x192 : Shape := ⟨4, ![1, 4096, 8, 192]⟩
abbrev S1x4096x8x128 : Shape := ⟨4, ![1, 4096, 8, 128]⟩
abbrev S_ : Shape := ⟨0, ![]⟩
abbrev S4096x4096 : Shape := ⟨2, ![4096, 4096]⟩
abbrev S4096x512 : Shape := ⟨2, ![4096, 512]⟩
abbrev S4096x256 : Shape := ⟨2, ![4096, 256]⟩
abbrev S4096x64 : Shape := ⟨2, ![4096, 64]⟩
abbrev S4096x192 : Shape := ⟨2, ![4096, 192]⟩
abbrev S4096x5120 : Shape := ⟨2, ![4096, 5120]⟩
abbrev S4096x32 : Shape := ⟨2, ![4096, 32]⟩
abbrev S4096x128 : Shape := ⟨2, ![4096, 128]⟩
abbrev S512x8x192 : Shape := ⟨3, ![512, 8, 192]⟩
abbrev S512x8x128 : Shape := ⟨3, ![512, 8, 128]⟩
abbrev S512x1024 : Shape := ⟨2, ![512, 1024]⟩
abbrev S512x8x64 : Shape := ⟨3, ![512, 8, 64]⟩
abbrev S512x2048 : Shape := ⟨2, ![512, 2048]⟩
abbrev S128 : Shape := ⟨1, ![128]⟩
abbrev S1x128 : Shape := ⟨2, ![1, 128]⟩
abbrev S64 : Shape := ⟨1, ![64]⟩
abbrev S4096 : Shape := ⟨1, ![4096]⟩
abbrev S4096x1 : Shape := ⟨2, ![4096, 1]⟩
abbrev S1x512 : Shape := ⟨2, ![1, 512]⟩
abbrev S1x256 : Shape := ⟨2, ![1, 256]⟩
abbrev S4096x2048 : Shape := ⟨2, ![4096, 2048]⟩
abbrev S4096x8x192 : Shape := ⟨3, ![4096, 8, 192]⟩
abbrev S8x4096x192 : Shape := ⟨3, ![8, 4096, 192]⟩
abbrev S8x4096x256 : Shape := ⟨3, ![8, 4096, 256]⟩
abbrev S4096x8x128 : Shape := ⟨3, ![4096, 8, 128]⟩
abbrev S8x4096x128 : Shape := ⟨3, ![8, 4096, 128]⟩
abbrev S8x256x256 : Shape := ⟨3, ![8, 256, 256]⟩
abbrev S8x256x128 : Shape := ⟨3, ![8, 256, 128]⟩
abbrev S256x128 : Shape := ⟨2, ![256, 128]⟩
abbrev S256x512 : Shape := ⟨2, ![256, 512]⟩
abbrev S256x256 : Shape := ⟨2, ![256, 256]⟩
abbrev S256x1024 : Shape := ⟨2, ![256, 1024]⟩
abbrev S256x1 : Shape := ⟨2, ![256, 1]⟩
abbrev S1x256x128 : Shape := ⟨3, ![1, 256, 128]⟩
abbrev S1x192 : Shape := ⟨2, ![1, 192]⟩

abbrev nBuf : Space → Nat
  | .hbm => 134
  | .vmem => 44
  | .smem => 0
  | _ => 0

abbrev hbmTy0_0 (i : Nat) : BufTy := match i % 128 with
  | 0 => ⟨S1x4096x512, .f32⟩
  | 1 => ⟨S1x4096x256, .f32⟩
  | 2 => ⟨S1x4096x64, .f32⟩
  | 3 => ⟨S1x4096x1x32, .f32⟩
  | 4 => ⟨S1x4096x1x32, .f32⟩
  | 5 => ⟨S512, .f32⟩
  | 6 => ⟨S512x1536, .f32⟩
  | 7 => ⟨S256, .f32⟩
  | 8 => ⟨S256x2048, .f32⟩
  | 9 => ⟨S192, .f32⟩
  | 10 => ⟨S192, .f32⟩
  | 11 => ⟨S1x4096x8x192, .f32⟩
  | 12 => ⟨S1x4096x8x192, .f32⟩
  | 13 => ⟨S1x4096x8x128, .f32⟩
  | 14 => ⟨S_, .f32⟩
  | 15 => ⟨S4096x4096, .f32⟩
  | 16 => ⟨S4096x512, .f32⟩
  | 17 => ⟨S4096x256, .f32⟩
  | 18 => ⟨S4096x64, .f32⟩
  | 19 => ⟨S_, .f32⟩
  | 20 => ⟨S4096x192, .f32⟩
  | 21 => ⟨S4096x5120, .f32⟩
  | 22 => ⟨S4096x32, .f32⟩
  | 23 => ⟨S4096x32, .f32⟩
  | 24 => ⟨S_, .f32⟩
  | 25 => ⟨S4096x32, .f32⟩
  | 26 => ⟨S4096x128, .f32⟩
  | 27 => ⟨S4096x32, .f32⟩
  | 28 => ⟨S4096x128, .f32⟩
  | 29 => ⟨S4096x128, .f32⟩
  | 30 => ⟨S512x8x192, .f32⟩
  | 31 => ⟨S512x8x128, .f32⟩
  | 32 => ⟨S512x1024, .f32⟩
  | 33 => ⟨S512x8x64, .f32⟩
  | 34 => ⟨S_, .i32⟩
  | 35 => ⟨S_, .f32⟩
  | 36 => ⟨S512x8x128, .f32⟩
  | 37 => ⟨S512x1024, .f32⟩
  | 38 => ⟨S512x2048, .f32⟩
  | 39 => ⟨S512x2048, .bf16⟩
  | 40 => ⟨S256x2048, .bf16⟩
  | 41 => ⟨S128, .f32⟩
  | 42 => ⟨S1x128, .f32⟩
  | 43 => ⟨S64, .f32⟩
  | 44 => ⟨S_, .i32⟩
  | 45 => ⟨S_, .f32⟩
  | 46 => ⟨S128, .f32⟩
  | 47 => ⟨S1x128, .f32⟩
  | 48 => ⟨S128, .f32⟩
  | 49 => ⟨S1x128, .f32⟩
  | 50 => ⟨S64, .f32⟩
  | 51 => ⟨S_, .i32⟩
  | 52 => ⟨S_, .f32⟩
  | 53 => ⟨S128, .f32⟩
  | 54 => ⟨S1x128, .f32⟩
  | 55 => ⟨S4096x512, .f32⟩
  | 56 => ⟨S4096x512, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1, .f32⟩
  | 67 => ⟨S4096x512, .f32⟩
  | 68 => ⟨S4096x512, .f32⟩
  | 69 => ⟨S1x512, .f32⟩
  | 70 => ⟨S4096x512, .f32⟩
  | 71 => ⟨S4096x512, .f32⟩
  | 72 => ⟨S4096x512, .bf16⟩
  | 73 => ⟨S4096x256, .f32⟩
  | 74 => ⟨S4096x256, .f32⟩
  | 75 => ⟨S_, .f32⟩
  | 76 => ⟨S4096, .f32⟩
  | 77 => ⟨S4096x1, .f32⟩
  | 78 => ⟨S_, .f32⟩
  | 79 => ⟨S4096x1, .f32⟩
  | 80 => ⟨S4096x1, .f32⟩
  | 81 => ⟨S_, .f32⟩
  | 82 => ⟨S4096x1, .f32⟩
  | 83 => ⟨S4096x1, .f32⟩
  | 84 => ⟨S4096x1, .f32⟩
  | 85 => ⟨S4096x256, .f32⟩
  | 86 => ⟨S4096x256, .f32⟩
  | 87 => ⟨S1x256, .f32⟩
  | 88 => ⟨S4096x256, .f32⟩
  | 89 => ⟨S4096x256, .f32⟩
  | 90 => ⟨S4096x256, .bf16⟩
  | 91 => ⟨S4096x2048, .f32⟩
  | 92 => ⟨S4096x2048, .f32⟩
  | 93 => ⟨S_, .f32⟩
  | 94 => ⟨S1x4096x8x192, .f32⟩
  | 95 => ⟨S1x4096x8x192, .f32⟩
  | 96 => ⟨S4096x8x192, .f32⟩
  | 97 => ⟨S8x4096x192, .f32⟩
  | 98 => ⟨S_, .i32⟩
  | 99 => ⟨S_, .f32⟩
  | 100 => ⟨S8x4096x256, .f32⟩
  | 101 => ⟨S_, .f32⟩
  | 102 => ⟨S1x4096x8x192, .f32⟩
  | 103 => ⟨S1x4096x8x192, .f32⟩
  | 104 => ⟨S4096x8x192, .f32⟩
  | 105 => ⟨S8x4096x192, .f32⟩
  | 106 => ⟨S_, .i32⟩
  | 107 => ⟨S_, .f32⟩
  | 108 => ⟨S8x4096x256, .f32⟩
  | 109 => ⟨S4096x8x128, .f32⟩
  | 110 => ⟨S8x4096x128, .f32⟩
  | 111 => ⟨S_, .bf16⟩
  | 112 => ⟨S4096x5120, .bf16⟩
  | 113 => ⟨S1x512, .f32⟩
  | 114 => ⟨S1x256, .f32⟩
  | 115 => ⟨S4096x5120, .bf16⟩
  | 116 => ⟨S512x2048, .f32⟩
  | 117 => ⟨S256x2048, .f32⟩
  | 118 => ⟨S1x256, .f32⟩
  | 119 => ⟨S1x256, .f32⟩
  | 120 => ⟨S1x512, .f32⟩
  | 121 => ⟨S1x256, .f32⟩
  | 122 => ⟨S4096x512, .bf16⟩
  | 123 => ⟨S4096x256, .bf16⟩
  | 124 => ⟨S4096x64, .bf16⟩
  | 125 => ⟨S512x1024, .f32⟩
  | 126 => ⟨S512x8x128, .f32⟩
  | 127 => ⟨S512x1024, .f32⟩
  | _ => ⟨S1x4096x512, .f32⟩

abbrev hbmTy0_1 (i : Nat) : BufTy := match i % 128 with
  | 0 => ⟨S512x8x128, .f32⟩
  | 1 => ⟨S512x8x64, .f32⟩
  | 2 => ⟨S512x8x192, .f32⟩
  | 3 => ⟨S512x1536, .f32⟩
  | 4 => ⟨S1x192, .f32⟩
  | 5 => ⟨S1x192, .f32⟩
  | _ => ⟨S1x4096x512, .f32⟩

abbrev hbmTy (i : Nat) : BufTy := match i / 128 with
  | 0 => hbmTy0_0 i
  | 1 => hbmTy0_1 i
  | _ => ⟨S1x4096x512, .f32⟩

abbrev bufTy : (tb : Table) → Fin (tcTables nBuf tb) → BufTy
  | .hbm, ⟨i, _⟩ => hbmTy i
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | .local _ .vmem, ⟨4, _⟩ => ⟨S8x256x128, .f32⟩
  | .local _ .vmem, ⟨5, _⟩ => ⟨S8x256x128, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x128, .f32⟩
  | .local _ .vmem, ⟨11, _⟩ => ⟨S256x128, .f32⟩
  | .local _ .vmem, ⟨12, _⟩ => ⟨S256x512, .f32⟩
  | .local _ .vmem, ⟨13, _⟩ => ⟨S256x512, .f32⟩
  | .local _ .vmem, ⟨14, _⟩ => ⟨S256x256, .f32⟩
  | .local _ .vmem, ⟨15, _⟩ => ⟨S256x256, .f32⟩
  | .local _ .vmem, ⟨16, _⟩ => ⟨S256x512, .bf16⟩
  | .local _ .vmem, ⟨17, _⟩ => ⟨S256x512, .bf16⟩
  | .local _ .vmem, ⟨18, _⟩ => ⟨S256x256, .bf16⟩
  | .local _ .vmem, ⟨19, _⟩ => ⟨S256x256, .bf16⟩
  | .local _ .vmem, ⟨20, _⟩ => ⟨S512x2048, .bf16⟩
  | .local _ .vmem, ⟨21, _⟩ => ⟨S256x2048, .bf16⟩
  | .local _ .vmem, ⟨22, _⟩ => ⟨S1x512, .f32⟩
  | .local _ .vmem, ⟨23, _⟩ => ⟨S1x256, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S256x1024, .bf16⟩
  | .local _ .vmem, ⟨35, _⟩ => ⟨S256x1024, .bf16⟩
  | .local _ .vmem, ⟨36, _⟩ => ⟨S512x2048, .f32⟩
  | .local _ .vmem, ⟨37, _⟩ => ⟨S256x2048, .f32⟩
  | .local _ .vmem, ⟨38, _⟩ => ⟨S1x256, .f32⟩
  | .local _ .vmem, ⟨39, _⟩ => ⟨S1x256, .f32⟩
  | .local _ .vmem, ⟨40, _⟩ => ⟨S1x512, .f32⟩
  | .local _ .vmem, ⟨41, _⟩ => ⟨S1x256, .f32⟩
  | .local _ .vmem, ⟨42, _⟩ => ⟨S256x2048, .bf16⟩
  | .local _ .vmem, ⟨43, _⟩ => ⟨S256x2048, .bf16⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_call0_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_2 : Ref sig .tc := ⟨.hbm, 44, rfl⟩
abbrev main_call1_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_3 : Ref sig .tc := ⟨.hbm, 51, rfl⟩
abbrev main_call2_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_10 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_11 : Ref sig .tc := ⟨.hbm, 98, rfl⟩
abbrev main_call3_v0 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_13 : Ref sig .tc := ⟨.hbm, 106, rfl⟩
abbrev main_call4_v0 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_14 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79_0 : Ref sig .tc := ⟨.hbm, 115, rfl⟩
abbrev main_v79_1 : Ref sig .tc := ⟨.hbm, 116, rfl⟩
abbrev main_v79_2 : Ref sig .tc := ⟨.hbm, 117, rfl⟩
abbrev main_v79_3 : Ref sig .tc := ⟨.hbm, 118, rfl⟩
abbrev main_v79_4 : Ref sig .tc := ⟨.hbm, 119, rfl⟩
abbrev main_v79_5 : Ref sig .tc := ⟨.hbm, 120, rfl⟩
abbrev main_v79_6 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg25_0 : Ref sig .tc := ⟨.vmem, 39, rfl⟩
abbrev cc0_stg26_0 : Ref sig .tc := ⟨.vmem, 40, rfl⟩
abbrev cc0_stg27_0 : Ref sig .tc := ⟨.vmem, 41, rfl⟩
abbrev cc0_scratch0 : Ref sig .tc := ⟨.vmem, 42, rfl⟩
abbrev cc0_scratch1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem21_0 : DmaSem sig := 34
abbrev cc0_sem21_1 : DmaSem sig := 35
abbrev cc0_sem22_0 : DmaSem sig := 36
abbrev cc0_sem23_0 : DmaSem sig := 37
abbrev cc0_sem24_0 : DmaSem sig := 38
abbrev cc0_sem25_0 : DmaSem sig := 39
abbrev cc0_sem26_0 : DmaSem sig := 40
abbrev cc0_sem27_0 : DmaSem sig := 41

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c38_i32 : BitVec 32 := 38#32
  let c0_i32 : BitVec 32 := 0#32
  ![arg0.toNat, c38_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S512x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x2048 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== Kernel9Ideal.lean ====
variable {F : FTy → Type} [FloatOps F] [Named F]
def κ : String → Option EReal := fun
  | "ln2" => some ((Real.log 2 : ℝ) : EReal)
  | "per_head" => some ((192⁻¹ : ℝ) : EReal)
  | _ => none
-- ==== Reference9Ideal.lean ====
abbrev S1x4096x512 : Shape := ⟨3, ![1, 4096, 512]⟩
abbrev S1x4096x256 : Shape := ⟨3, ![1, 4096, 256]⟩
abbrev S1x4096x64 : Shape := ⟨3, ![1, 4096, 64]⟩
abbrev S1x4096x1x32 : Shape := ⟨4, ![1, 4096, 1, 32]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S192 : Shape := ⟨1, ![192]⟩
abbrev S1x4096x8x192 : Shape := ⟨4, ![1, 4096, 8, 192]⟩
abbrev S1x4096x8x128 : Shape := ⟨4, ![1, 4096, 8, 128]⟩
abbrev S_ : Shape := ⟨0, ![]⟩
abbrev S1x4096 : Shape := ⟨2, ![1, 4096]⟩
abbrev S1x4096x1 : Shape := ⟨3, ![1, 4096, 1]⟩
abbrev S1x1x512 : Shape := ⟨3, ![1, 1, 512]⟩
abbrev S1x4096x1536 : Shape := ⟨3, ![1, 4096, 1536]⟩
abbrev S1x1x256 : Shape := ⟨3, ![1, 1, 256]⟩
abbrev S1x4096x2048 : Shape := ⟨3, ![1, 4096, 2048]⟩
abbrev S1x4096x8x256 : Shape := ⟨4, ![1, 4096, 8, 256]⟩
abbrev S1x4096x1x64 : Shape := ⟨4, ![1, 4096, 1, 64]⟩
abbrev S1x4096x8x64 : Shape := ⟨4, ![1, 4096, 8, 64]⟩
abbrev S1x4096x8 : Shape := ⟨3, ![1, 4096, 8]⟩
abbrev S1x4096x8x1 : Shape := ⟨4, ![1, 4096, 8, 1]⟩
abbrev S1x1x1x192 : Shape := ⟨4, ![1, 1, 1, 192]⟩
abbrev S1x4096x8x32 : Shape := ⟨4, ![1, 4096, 8, 32]⟩
abbrev S1x192 : Shape := ⟨2, ![1, 192]⟩
abbrev S4096x8 : Shape := ⟨2, ![4096, 8]⟩
abbrev S4096x64 : Shape := ⟨2, ![4096, 64]⟩
abbrev S2048x256 : Shape := ⟨2, ![2048, 256]⟩
abbrev S1x256 : Shape := ⟨2, ![1, 256]⟩
abbrev S4096 : Shape := ⟨1, ![4096]⟩
abbrev S1536x512 : Shape := ⟨2, ![1536, 512]⟩
abbrev S1x512 : Shape := ⟨2, ![1, 512]⟩
abbrev S4096x512 : Shape := ⟨2, ![4096, 512]⟩
abbrev S4096x256 : Shape := ⟨2, ![4096, 256]⟩

abbrev nBuf : Space → Nat
  | .hbm => 308
  | .vmem => 0
  | .smem => 0
  | _ => 0

abbrev hbmTy0_0 (i : Nat) : BufTy := match i % 128 with
  | 0 => ⟨S1x4096x512, .f32⟩
  | 1 => ⟨S1x4096x256, .f32⟩
  | 2 => ⟨S1x4096x64, .f32⟩
  | 3 => ⟨S1x4096x1x32, .f32⟩
  | 4 => ⟨S1x4096x1x32, .f32⟩
  | 5 => ⟨S512, .f32⟩
  | 6 => ⟨S512x1536, .f32⟩
  | 7 => ⟨S256, .f32⟩
  | 8 => ⟨S256x2048, .f32⟩
  | 9 => ⟨S192, .f32⟩
  | 10 => ⟨S192, .f32⟩
  | 11 => ⟨S1x4096x8x192, .f32⟩
  | 12 => ⟨S1x4096x8x192, .f32⟩
  | 13 => ⟨S1x4096x8x128, .f32⟩
  | 14 => ⟨S1x4096x512, .f32⟩
  | 15 => ⟨S_, .f32⟩
  | 16 => ⟨S1x4096, .f32⟩
  | 17 => ⟨S1x4096x1, .f32⟩
  | 18 => ⟨S_, .f32⟩
  | 19 => ⟨S1x4096x1, .f32⟩
  | 20 => ⟨S1x4096x1, .f32⟩
  | 21 => ⟨S_, .f32⟩
  | 22 => ⟨S1x4096x1, .f32⟩
  | 23 => ⟨S1x4096x1, .f32⟩
  | 24 => ⟨S1x4096x1, .f32⟩
  | 25 => ⟨S1x4096x1, .f32⟩
  | 26 => ⟨S_, .f32⟩
  | 27 => ⟨S1x4096x1, .f32⟩
  | 28 => ⟨S1x4096x1, .f32⟩
  | 29 => ⟨S1x4096x512, .f32⟩
  | 30 => ⟨S1x4096x512, .f32⟩
  | 31 => ⟨S1x1x512, .f32⟩
  | 32 => ⟨S1x4096x512, .f32⟩
  | 33 => ⟨S1x4096x512, .f32⟩
  | 34 => ⟨S1x4096x1536, .f32⟩
  | 35 => ⟨S1x4096x8x192, .f32⟩
  | 36 => ⟨S1x4096x256, .f32⟩
  | 37 => ⟨S_, .f32⟩
  | 38 => ⟨S1x4096, .f32⟩
  | 39 => ⟨S1x4096x1, .f32⟩
  | 40 => ⟨S_, .f32⟩
  | 41 => ⟨S1x4096x1, .f32⟩
  | 42 => ⟨S1x4096x1, .f32⟩
  | 43 => ⟨S_, .f32⟩
  | 44 => ⟨S1x4096x1, .f32⟩
  | 45 => ⟨S1x4096x1, .f32⟩
  | 46 => ⟨S1x4096x1, .f32⟩
  | 47 => ⟨S1x4096x1, .f32⟩
  | 48 => ⟨S_, .f32⟩
  | 49 => ⟨S1x4096x1, .f32⟩
  | 50 => ⟨S1x4096x1, .f32⟩
  | 51 => ⟨S1x4096x256, .f32⟩
  | 52 => ⟨S1x4096x256, .f32⟩
  | 53 => ⟨S1x1x256, .f32⟩
  | 54 => ⟨S1x4096x256, .f32⟩
  | 55 => ⟨S1x4096x256, .f32⟩
  | 56 => ⟨S1x4096x2048, .f32⟩
  | 57 => ⟨S1x4096x8x256, .f32⟩
  | 58 => ⟨S1x4096x8x128, .f32⟩
  | 59 => ⟨S1x4096x8x128, .f32⟩
  | 60 => ⟨S1x4096x1x64, .f32⟩
  | 61 => ⟨S1x4096x8x64, .f32⟩
  | 62 => ⟨S1x4096x8x192, .f32⟩
  | 63 => ⟨S1x4096x8x192, .f32⟩
  | 64 => ⟨S_, .f32⟩
  | 65 => ⟨S1x4096x8, .f32⟩
  | 66 => ⟨S1x4096x8x1, .f32⟩
  | 67 => ⟨S_, .f32⟩
  | 68 => ⟨S1x4096x8x1, .f32⟩
  | 69 => ⟨S1x4096x8x1, .f32⟩
  | 70 => ⟨S_, .f32⟩
  | 71 => ⟨S1x4096x8x1, .f32⟩
  | 72 => ⟨S1x4096x8x1, .f32⟩
  | 73 => ⟨S1x4096x8x1, .f32⟩
  | 74 => ⟨S1x4096x8x1, .f32⟩
  | 75 => ⟨S_, .f32⟩
  | 76 => ⟨S1x4096x8x1, .f32⟩
  | 77 => ⟨S1x4096x8x1, .f32⟩
  | 78 => ⟨S1x4096x8x192, .f32⟩
  | 79 => ⟨S1x4096x8x192, .f32⟩
  | 80 => ⟨S1x1x1x192, .f32⟩
  | 81 => ⟨S1x4096x8x192, .f32⟩
  | 82 => ⟨S1x4096x8x192, .f32⟩
  | 83 => ⟨S1x4096x8x64, .f32⟩
  | 84 => ⟨S1x4096x8x32, .f32⟩
  | 85 => ⟨S1x4096x8x32, .f32⟩
  | 86 => ⟨S1x4096x8x128, .f32⟩
  | 87 => ⟨S1x4096x8x32, .f32⟩
  | 88 => ⟨S1x4096x8x32, .f32⟩
  | 89 => ⟨S1x4096x8x32, .f32⟩
  | 90 => ⟨S1x4096x8x32, .f32⟩
  | 91 => ⟨S1x4096x8x32, .f32⟩
  | 92 => ⟨S1x4096x8x32, .f32⟩
  | 93 => ⟨S1x4096x8x32, .f32⟩
  | 94 => ⟨S1x4096x8x32, .f32⟩
  | 95 => ⟨S1x4096x8x32, .f32⟩
  | 96 => ⟨S1x4096x8x32, .f32⟩
  | 97 => ⟨S1x4096x8x192, .f32⟩
  | 98 => ⟨S1x4096x8x192, .f32⟩
  | 99 => ⟨S_, .f32⟩
  | 100 => ⟨S1x4096x8, .f32⟩
  | 101 => ⟨S1x4096x8x1, .f32⟩
  | 102 => ⟨S_, .f32⟩
  | 103 => ⟨S1x4096x8x1, .f32⟩
  | 104 => ⟨S1x4096x8x1, .f32⟩
  | 105 => ⟨S_, .f32⟩
  | 106 => ⟨S1x4096x8x1, .f32⟩
  | 107 => ⟨S1x4096x8x1, .f32⟩
  | 108 => ⟨S1x4096x8x1, .f32⟩
  | 109 => ⟨S1x4096x8x1, .f32⟩
  | 110 => ⟨S_, .f32⟩
  | 111 => ⟨S1x4096x8x1, .f32⟩
  | 112 => ⟨S1x4096x8x1, .f32⟩
  | 113 => ⟨S1x4096x8x192, .f32⟩
  | 114 => ⟨S1x4096x8x192, .f32⟩
  | 115 => ⟨S1x1x1x192, .f32⟩
  | 116 => ⟨S1x4096x8x192, .f32⟩
  | 117 => ⟨S1x4096x8x192, .f32⟩
  | 118 => ⟨S1x4096x8x64, .f32⟩
  | 119 => ⟨S1x4096x8x32, .f32⟩
  | 120 => ⟨S1x4096x8x32, .f32⟩
  | 121 => ⟨S1x4096x8x128, .f32⟩
  | 122 => ⟨S1x4096x8x32, .f32⟩
  | 123 => ⟨S1x4096x8x32, .f32⟩
  | 124 => ⟨S1x4096x8x32, .f32⟩
  | 125 => ⟨S1x4096x8x32, .f32⟩
  | 126 => ⟨S1x4096x8x32, .f32⟩
  | 127 => ⟨S1x4096x8x32, .f32⟩
  | _ => ⟨S1x4096x512, .f32⟩

abbrev hbmTy0_1 (i : Nat) : BufTy := match i % 128 with
  | 0 => ⟨S1x4096x8x32, .f32⟩
  | 1 => ⟨S1x4096x8x32, .f32⟩
  | 2 => ⟨S1x4096x8x32, .f32⟩
  | 3 => ⟨S1x4096x8x32, .f32⟩
  | 4 => ⟨S1x4096x8x192, .f32⟩
  | 5 => ⟨S1x4096x8x128, .f32⟩
  | 6 => ⟨S1x4096x8x32, .f32⟩
  | 7 => ⟨S1x4096x8x32, .f32⟩
  | 8 => ⟨S1x4096x8x32, .f32⟩
  | 9 => ⟨S1x4096x8x32, .f32⟩
  | 10 => ⟨S1x4096x8x32, .f32⟩
  | 11 => ⟨S1x4096x8x32, .f32⟩
  | 12 => ⟨S1x4096x8x32, .f32⟩
  | 13 => ⟨S1x4096x8x32, .f32⟩
  | 14 => ⟨S1x4096x8x32, .f32⟩
  | 15 => ⟨S1x4096x8x32, .f32⟩
  | 16 => ⟨S1x4096x8x32, .f32⟩
  | 17 => ⟨S1x4096x8x32, .f32⟩
  | 18 => ⟨S1x4096x8x32, .f32⟩
  | 19 => ⟨S_, .f32⟩
  | 20 => ⟨S1x4096x8x192, .f32⟩
  | 21 => ⟨S1x4096x8x64, .f32⟩
  | 22 => ⟨S_, .f32⟩
  | 23 => ⟨S1x4096x8x192, .f32⟩
  | 24 => ⟨S1x4096x8x192, .f32⟩
  | 25 => ⟨S1x4096x8x192, .f32⟩
  | 26 => ⟨S_, .f32⟩
  | 27 => ⟨S1x192, .f32⟩
  | 28 => ⟨S1x1x1x192, .f32⟩
  | 29 => ⟨S1x4096x8x192, .f32⟩
  | 30 => ⟨S1x4096x8x192, .f32⟩
  | 31 => ⟨S_, .f32⟩
  | 32 => ⟨S192, .f32⟩
  | 33 => ⟨S1x4096x8x192, .f32⟩
  | 34 => ⟨S_, .f32⟩
  | 35 => ⟨S1x4096x8, .f32⟩
  | 36 => ⟨S1x4096x8x1, .f32⟩
  | 37 => ⟨S1x4096x8x192, .f32⟩
  | 38 => ⟨S1x4096x8x192, .f32⟩
  | 39 => ⟨S1x4096x8x1, .f32⟩
  | 40 => ⟨S_, .f32⟩
  | 41 => ⟨S1x4096x8x1, .f32⟩
  | 42 => ⟨S1x4096x8x1, .f32⟩
  | 43 => ⟨S_, .f32⟩
  | 44 => ⟨S4096x8, .f32⟩
  | 45 => ⟨S1x4096x8, .f32⟩
  | 46 => ⟨S1x4096x8x192, .f32⟩
  | 47 => ⟨S1x4096x8x192, .f32⟩
  | 48 => ⟨S1x4096x8x192, .f32⟩
  | 49 => ⟨S1x4096x8x192, .f32⟩
  | 50 => ⟨S1x4096x8x192, .f32⟩
  | 51 => ⟨S1x4096x8x128, .f32⟩
  | 52 => ⟨S1x4096x8x32, .f32⟩
  | 53 => ⟨S1x4096x8x32, .f32⟩
  | 54 => ⟨S1x4096x8x32, .f32⟩
  | 55 => ⟨S1x4096x8x32, .f32⟩
  | 56 => ⟨S1x4096x8x32, .f32⟩
  | 57 => ⟨S1x4096x8x32, .f32⟩
  | 58 => ⟨S1x4096x8x32, .f32⟩
  | 59 => ⟨S1x4096x8x32, .f32⟩
  | 60 => ⟨S1x4096x8x32, .f32⟩
  | 61 => ⟨S1x4096x8x32, .f32⟩
  | 62 => ⟨S1x4096x8x32, .f32⟩
  | 63 => ⟨S1x4096x8x32, .f32⟩
  | 64 => ⟨S1x4096x8x32, .f32⟩
  | 65 => ⟨S_, .f32⟩
  | 66 => ⟨S1x4096x8x192, .f32⟩
  | 67 => ⟨S1x4096x8x64, .f32⟩
  | 68 => ⟨S_, .f32⟩
  | 69 => ⟨S1x4096x8x192, .f32⟩
  | 70 => ⟨S1x4096x8x192, .f32⟩
  | 71 => ⟨S1x4096x8x192, .f32⟩
  | 72 => ⟨S_, .f32⟩
  | 73 => ⟨S1x192, .f32⟩
  | 74 => ⟨S1x1x1x192, .f32⟩
  | 75 => ⟨S1x4096x8x192, .f32⟩
  | 76 => ⟨S1x4096x8x192, .f32⟩
  | 77 => ⟨S_, .f32⟩
  | 78 => ⟨S192, .f32⟩
  | 79 => ⟨S1x4096x8x192, .f32⟩
  | 80 => ⟨S_, .f32⟩
  | 81 => ⟨S1x4096x8, .f32⟩
  | 82 => ⟨S1x4096x8x1, .f32⟩
  | 83 => ⟨S1x4096x8x192, .f32⟩
  | 84 => ⟨S1x4096x8x192, .f32⟩
  | 85 => ⟨S1x4096x8x1, .f32⟩
  | 86 => ⟨S_, .f32⟩
  | 87 => ⟨S1x4096x8x1, .f32⟩
  | 88 => ⟨S1x4096x8x1, .f32⟩
  | 89 => ⟨S_, .f32⟩
  | 90 => ⟨S4096x8, .f32⟩
  | 91 => ⟨S1x4096x8, .f32⟩
  | 92 => ⟨S1x4096x8x192, .f32⟩
  | 93 => ⟨S1x4096x8x192, .f32⟩
  | 94 => ⟨S1x4096x8x192, .f32⟩
  | 95 => ⟨S1x4096x8x192, .f32⟩
  | 96 => ⟨S1x4096x8x192, .f32⟩
  | 97 => ⟨S1x4096x8x128, .f32⟩
  | 98 => ⟨S1x4096x8x64, .f32⟩
  | 99 => ⟨S_, .f32⟩
  | 100 => ⟨S4096x64, .f32⟩
  | 101 => ⟨S1x4096x1x64, .f32⟩
  | 102 => ⟨S_, .f32⟩
  | 103 => ⟨S4096x64, .f32⟩
  | 104 => ⟨S1x4096x64, .f32⟩
  | 105 => ⟨S_, .f32⟩
  | 106 => ⟨S1x4096x8x256, .f32⟩
  | 107 => ⟨S_, .f32⟩
  | 108 => ⟨S1x4096x8x256, .f32⟩
  | 109 => ⟨S1x4096x8x256, .f32⟩
  | 110 => ⟨S1x4096x2048, .f32⟩
  | 111 => ⟨S2048x256, .f32⟩
  | 112 => ⟨S256x2048, .f32⟩
  | 113 => ⟨S1x4096x256, .f32⟩
  | 114 => ⟨S1x4096x256, .f32⟩
  | 115 => ⟨S_, .f32⟩
  | 116 => ⟨S1x256, .f32⟩
  | 117 => ⟨S1x1x256, .f32⟩
  | 118 => ⟨S1x4096x256, .f32⟩
  | 119 => ⟨S1x4096x256, .f32⟩
  | 120 => ⟨S_, .f32⟩
  | 121 => ⟨S256, .f32⟩
  | 122 => ⟨S1x4096x256, .f32⟩
  | 123 => ⟨S_, .f32⟩
  | 124 => ⟨S1x4096, .f32⟩
  | 125 => ⟨S1x4096x1, .f32⟩
  | 126 => ⟨S1x4096x256, .f32⟩
  | 127 => ⟨S1x4096x256, .f32⟩
  | _ => ⟨S1x4096x512, .f32⟩

abbrev hbmTy0_2 (i : Nat) : BufTy := match i % 128 with
  | 0 => ⟨S1x4096x1, .f32⟩
  | 1 => ⟨S_, .f32⟩
  | 2 => ⟨S1x4096x1, .f32⟩
  | 3 => ⟨S1x4096x1, .f32⟩
  | 4 => ⟨S_, .f32⟩
  | 5 => ⟨S4096, .f32⟩
  | 6 => ⟨S1x4096, .f32⟩
  | 7 => ⟨S1x4096x256, .f32⟩
  | 8 => ⟨S1x4096x256, .f32⟩
  | 9 => ⟨S1x4096x256, .f32⟩
  | 10 => ⟨S1x4096x256, .f32⟩
  | 11 => ⟨S1x4096x256, .f32⟩
  | 12 => ⟨S1x4096x1536, .f32⟩
  | 13 => ⟨S1536x512, .f32⟩
  | 14 => ⟨S512x1536, .f32⟩
  | 15 => ⟨S1x4096x512, .f32⟩
  | 16 => ⟨S1x4096x512, .f32⟩
  | 17 => ⟨S_, .f32⟩
  | 18 => ⟨S1x512, .f32⟩
  | 19 => ⟨S1x1x512, .f32⟩
  | 20 => ⟨S1x4096x512, .f32⟩
  | 21 => ⟨S1x4096x512, .f32⟩
  | 22 => ⟨S_, .f32⟩
  | 23 => ⟨S512, .f32⟩
  | 24 => ⟨S1x4096x512, .f32⟩
  | 25 => ⟨S_, .f32⟩
  | 26 => ⟨S1x4096, .f32⟩
  | 27 => ⟨S1x4096x1, .f32⟩
  | 28 => ⟨S1x4096x512, .f32⟩
  | 29 => ⟨S1x4096x512, .f32⟩
  | 30 => ⟨S1x4096x1, .f32⟩
  | 31 => ⟨S_, .f32⟩
  | 32 => ⟨S1x4096x1, .f32⟩
  | 33 => ⟨S1x4096x1, .f32⟩
  | 34 => ⟨S_, .f32⟩
  | 35 => ⟨S4096, .f32⟩
  | 36 => ⟨S1x4096, .f32⟩
  | 37 => ⟨S1x4096x512, .f32⟩
  | 38 => ⟨S1x4096x512, .f32⟩
  | 39 => ⟨S1x4096x512, .f32⟩
  | 40 => ⟨S1x4096x512, .f32⟩
  | 41 => ⟨S1x4096x512, .f32⟩
  | 42 => ⟨S4096x512, .f32⟩
  | 43 => ⟨S4096x512, .bf16⟩
  | 44 => ⟨S4096x256, .f32⟩
  | 45 => ⟨S4096x256, .bf16⟩
  | 46 => ⟨S4096x64, .f32⟩
  | 47 => ⟨S4096x64, .bf16⟩
  | 48 => ⟨S1x192, .f32⟩
  | 49 => ⟨S1x192, .f32⟩
  | 50 => ⟨S1x512, .f32⟩
  | 51 => ⟨S1x256, .f32⟩
  | _ => ⟨S1x4096x512, .f32⟩

abbrev hbmTy (i : Nat) : BufTy := match i / 128 with
  | 0 => hbmTy0_0 i
  | 1 => hbmTy0_1 i
  | 2 => hbmTy0_2 i
  | _ => ⟨S1x4096x512, .f32⟩

abbrev bufTy : (tb : Table) → Fin (tcTables nBuf tb) → BufTy
  | .hbm, ⟨i, _⟩ => hbmTy i
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_11 : Ref sig .tc := ⟨.hbm, 99, rfl⟩
abbrev main_v73 : Ref sig .tc := ⟨.hbm, 100, rfl⟩
abbrev main_v74 : Ref sig .tc := ⟨.hbm, 101, rfl⟩
abbrev main_cst_12 : Ref sig .tc := ⟨.hbm, 102, rfl⟩
abbrev main_v75 : Ref sig .tc := ⟨.hbm, 103, rfl⟩
abbrev main_v76 : Ref sig .tc := ⟨.hbm, 104, rfl⟩
abbrev main_cst_13 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_14 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_15 : Ref sig .tc := ⟨.hbm, 147, rfl⟩
abbrev main_v117 : Ref sig .tc := ⟨.hbm, 148, rfl⟩
abbrev main_v118 : Ref sig .tc := ⟨.hbm, 149, rfl⟩
abbrev main_cst_16 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_17 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_cst_18 : Ref sig .tc := ⟨.hbm, 159, rfl⟩
abbrev main_v126 : Ref sig .tc := ⟨.hbm, 160, rfl⟩
abbrev main_v127 : Ref sig .tc := ⟨.hbm, 161, rfl⟩
abbrev main_cst_19 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_20 : Ref sig .tc := ⟨.hbm, 168, rfl⟩
abbrev main_v133 : Ref sig .tc := ⟨.hbm, 169, rfl⟩
abbrev main_v134 : Ref sig .tc := ⟨.hbm, 170, rfl⟩
abbrev main_cst_21 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_cst_22 : Ref sig .tc := ⟨.hbm, 193, rfl⟩
abbrev main_v156 : Ref sig .tc := ⟨.hbm, 194, rfl⟩
abbrev main_v157 : Ref sig .tc := ⟨.hbm, 195, rfl⟩
abbrev main_cst_23 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_cst_24 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_cst_25 : Ref sig .tc := ⟨.hbm, 205, rfl⟩
abbrev main_v165 : Ref sig .tc := ⟨.hbm, 206, rfl⟩
abbrev main_v166 : Ref sig .tc := ⟨.hbm, 207, rfl⟩
abbrev main_cst_26 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_cst_27 : Ref sig .tc := ⟨.hbm, 214, rfl⟩
abbrev main_v172 : Ref sig .tc := ⟨.hbm, 215, rfl⟩
abbrev main_v173 : Ref sig .tc := ⟨.hbm, 216, rfl⟩
abbrev main_cst_28 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_cst_29 : Ref sig .tc := ⟨.hbm, 227, rfl⟩
abbrev main_v183 : Ref sig .tc := ⟨.hbm, 228, rfl⟩
abbrev main_v184 : Ref sig .tc := ⟨.hbm, 229, rfl⟩
abbrev main_cst_30 : Ref sig .tc := ⟨.hbm, 230, rfl⟩
abbrev main_v185 : Ref sig .tc := ⟨.hbm, 231, rfl⟩
abbrev main_v186 : Ref sig .tc := ⟨.hbm, 232, rfl⟩
abbrev main_cst_31 : Ref sig .tc := ⟨.hbm, 233, rfl⟩
abbrev main_v187 : Ref sig .tc := ⟨.hbm, 234, rfl⟩
abbrev main_cst_32 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_cst_33 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_cst_34 : Ref sig .tc := ⟨.hbm, 248, rfl⟩
abbrev main_v199 : Ref sig .tc := ⟨.hbm, 249, rfl⟩
abbrev main_v200 : Ref sig .tc := ⟨.hbm, 250, rfl⟩
abbrev main_cst_35 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_cst_36 : Ref sig .tc := ⟨.hbm, 257, rfl⟩
abbrev main_v206 : Ref sig .tc := ⟨.hbm, 258, rfl⟩
abbrev main_v207 : Ref sig .tc := ⟨.hbm, 259, rfl⟩
abbrev main_cst_37 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_cst_38 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_cst_39 : Ref sig .tc := ⟨.hbm, 278, rfl⟩
abbrev main_v224 : Ref sig .tc := ⟨.hbm, 279, rfl⟩
abbrev main_v225 : Ref sig .tc := ⟨.hbm, 280, rfl⟩
abbrev main_cst_40 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_cst_41 : Ref sig .tc := ⟨.hbm, 287, rfl⟩
abbrev main_v231 : Ref sig .tc := ⟨.hbm, 288, rfl⟩
abbrev main_v232 : Ref sig .tc := ⟨.hbm, 289, rfl⟩
abbrev main_cst_42 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩

abbrev nD : Nat := 1
abbrev τ : Topo := Topo.v7x

variable {F : FTy → Type} [FloatOps F]
-- ==== Kernel10.lean ====
abbrev S8x2048 : Shape := ⟨2, ![8, 2048]⟩
abbrev S2x2048x768 : Shape := ⟨3, ![2, 2048, 768]⟩
abbrev S8x2x6144 : Shape := ⟨3, ![8, 2, 6144]⟩
abbrev S2048x8 : Shape := ⟨2, ![2048, 8]⟩
abbrev S8x2x768 : Shape := ⟨3, ![8, 2, 768]⟩
abbrev S2x8x768 : Shape := ⟨3, ![2, 8, 768]⟩
abbrev S1x8x768 : Shape := ⟨3, ![1, 8, 768]⟩
abbrev S1x2048x768 : Shape := ⟨3, ![1, 2048, 768]⟩
abbrev S8x768 : Shape := ⟨2, ![8, 768]⟩
abbrev S2048x768 : Shape := ⟨2, ![2048, 768]⟩

abbrev nBuf : Space → Nat
  | .hbm => 7
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S2x2048x768, .f32⟩
  | .hbm, ⟨2, _⟩ => ⟨S8x2x6144, .f32⟩
  | .hbm, ⟨3, _⟩ => ⟨S2048x8, .f32⟩
  | .hbm, ⟨4, _⟩ => ⟨S8x2x768, .f32⟩
  | .hbm, ⟨5, _⟩ => ⟨S2x8x768, .f32⟩
  | .hbm, ⟨6, _⟩ => ⟨S2x2048x768, .f32⟩
  | .local _ .vmem, ⟨0, _⟩ => ⟨S2048x8, .f32⟩
  | .local _ .vmem, ⟨1, _⟩ => ⟨S1x8x768, .f32⟩
  | .local _ .vmem, ⟨2, _⟩ => ⟨S1x8x768, .f32⟩
  | .local _ .vmem, ⟨3, _⟩ => ⟨S1x2048x768, .f32⟩
  | .local _ .vmem, ⟨4, _⟩ => ⟨S1x2048x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8x2048 : Shape := ⟨2, ![8, 2048]⟩
abbrev S2x2048x768 : Shape := ⟨3, ![2, 2048, 768]⟩
abbrev S8x2x6144 : Shape := ⟨3, ![8, 2, 6144]⟩
abbrev S_ : Shape := ⟨0, ![]⟩
abbrev S8x2x768 : Shape := ⟨3, ![8, 2, 768]⟩
abbrev S2x768x2048 : Shape := ⟨3, ![2, 768, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x768, .f32⟩
  | .hbm, ⟨2, _⟩ => ⟨S8x2x6144, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2x768, .f32⟩
  | .hbm, ⟨13, _⟩ => ⟨S8x2x768, .f32⟩
  | .hbm, ⟨14, _⟩ => ⟨S2x768x2048, .f32⟩
  | .hbm, ⟨15, _⟩ => ⟨S2x2048x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel11.lean ====
abbrev S1x4096x2048 : Shape := ⟨3, ![1, 4096, 2048]⟩
abbrev S2048x4928 : Shape := ⟨2, ![2048, 4928]⟩
abbrev S2048x2048 : Shape := ⟨2, ![2048, 2048]⟩
abbrev S2048x1024 : Shape := ⟨2, ![2048, 1024]⟩
abbrev S2048x512 : Shape := ⟨2, ![2048, 512]⟩
abbrev S2048x256 : Shape := ⟨2, ![2048, 256]⟩
abbrev S2048x64 : Shape := ⟨2, ![2048, 64]⟩
abbrev S_ : Shape := ⟨0, ![]⟩
abbrev S2048x192 : Shape := ⟨2, ![2048, 192]⟩
abbrev S2048x5120 : Shape := ⟨2, ![2048, 5120]⟩
abbrev S5120x2048 : Shape := ⟨2, ![5120, 2048]⟩
abbrev S4096x2048 : Shape := ⟨2, ![4096, 2048]⟩
abbrev S4096x5120 : Shape := ⟨2, ![4096, 5120]⟩
abbrev S1024x2048 : Shape := ⟨2, ![1024, 2048]⟩
abbrev S1280x2048 : Shape := ⟨2, ![1280, 2048]⟩
abbrev S1024x1280 : Shape := ⟨2, ![1024, 1280]⟩

abbrev nBuf : Space → Nat
  | .hbm => 16
  | .vmem => 6
  | .smem => 0
  | _ => 0

abbrev bufTy : (tb : Table) → Fin (tcTables nBuf tb) → BufTy
  | .hbm, ⟨0, _⟩ => ⟨S1x4096x2048, .f32⟩
  | .hbm, ⟨1, _⟩ => ⟨S2048x4928, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x512, .f32⟩
  | .hbm, ⟨6, _⟩ => ⟨S2048x256, .f32⟩
  | .hbm, ⟨7, _⟩ => ⟨S2048x64, .f32⟩
  | .hbm, ⟨8, _⟩ => ⟨S_, .f32⟩
  | .hbm, ⟨9, _⟩ => ⟨S2048x192, .f32⟩
  | .hbm, ⟨10, _⟩ => ⟨S2048x5120, .f32⟩
  | .hbm, ⟨11, _⟩ => ⟨S5120x2048, .f32⟩
  | .hbm, ⟨12, _⟩ => ⟨S5120x2048, .bf16⟩
  | .hbm, ⟨13, _⟩ => ⟨S4096x2048, .f32⟩
  | .hbm, ⟨14, _⟩ => ⟨S4096x2048, .bf16⟩
  | .hbm, ⟨15, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1024x1280, .f32⟩
  | .local _ .vmem, ⟨5, _⟩ => ⟨S1024x1280, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S1x4096x2048 : Shape := ⟨3, ![1, 4096, 2048]⟩
abbrev S2048x4928 : Shape := ⟨2, ![2048, 4928]⟩
abbrev S2048x512 : Shape := ⟨2, ![2048, 512]⟩
abbrev S2048x256 : Shape := ⟨2, ![2048, 256]⟩
abbrev S2048x64 : Shape := ⟨2, ![2048, 64]⟩
abbrev S2048x1024 : Shape := ⟨2, ![2048, 1024]⟩
abbrev S2048x2048 : Shape := ⟨2, ![2048, 2048]⟩
abbrev S4096x2048 : Shape := ⟨2, ![4096, 2048]⟩
abbrev S_ : Shape := ⟨0, ![]⟩
abbrev S2048x192 : Shape := ⟨2, ![2048, 192]⟩
abbrev S2048x5120 : Shape := ⟨2, ![2048, 5120]⟩
abbrev S4096x5120 : Shape := ⟨2, ![4096, 5120]⟩

abbrev nBuf : Space → Nat
  | .hbm => 13
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x4928, .f32⟩
  | .hbm, ⟨2, _⟩ => ⟨S2048x512, .f32⟩
  | .hbm, ⟨3, _⟩ => ⟨S2048x256, .f32⟩
  | .hbm, ⟨4, _⟩ => ⟨S2048x64, .f32⟩
  | .hbm, ⟨5, _⟩ => ⟨S2048x1024, .f32⟩
  | .hbm, ⟨6, _⟩ => ⟨S2048x2048, .f32⟩
  | .hbm, ⟨7, _⟩ => ⟨S2048x1024, .f32⟩
  | .hbm, ⟨8, _⟩ => ⟨S4096x2048, .f32⟩
  | .hbm, ⟨9, _⟩ => ⟨S_, .f32⟩
  | .hbm, ⟨10, _⟩ => ⟨S2048x192, .f32⟩
  | .hbm, ⟨11, _⟩ => ⟨S2048x5120, .f32⟩
  | .hbm, ⟨12, _⟩ => ⟨S4096x5120, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel12.lean ====
abbrev S8x2048 : Shape := ⟨2, ![8, 2048]⟩
abbrev S2x2048x768 : Shape := ⟨3, ![2, 2048, 768]⟩
abbrev S2x6144 : Shape := ⟨2, ![2, 6144]⟩
abbrev S2x768 : Shape := ⟨2, ![2, 768]⟩
abbrev S2x1x768 : Shape := ⟨3, ![2, 1, 768]⟩
abbrev S2x8x768 : Shape := ⟨3, ![2, 8, 768]⟩
abbrev S1x2048x768 : Shape := ⟨3, ![1, 2048, 768]⟩
abbrev S1x1x768 : Shape := ⟨3, ![1, 1, 768]⟩
abbrev S1x8x768 : Shape := ⟨3, ![1, 8, 768]⟩
abbrev S2048x768 : Shape := ⟨2, ![2048, 768]⟩
abbrev S8x768 : Shape := ⟨2, ![8, 768]⟩
abbrev S1x768 : Shape := ⟨2, ![1, 768]⟩

abbrev nBuf : Space → Nat
  | .hbm => 6
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x768, .f32⟩
  | .hbm, ⟨2, _⟩ => ⟨S2x6144, .f32⟩
  | .hbm, ⟨3, _⟩ => ⟨S2x768, .f32⟩
  | .hbm, ⟨4, _⟩ => ⟨S2x1x768, .f32⟩
  | .hbm, ⟨5, _⟩ => ⟨S2x8x768, .f32⟩
  | .local _ .vmem, ⟨0, _⟩ => ⟨S8x2048, .f32⟩
  | .local _ .vmem, ⟨1, _⟩ => ⟨S1x2048x768, .f32⟩
  | .local _ .vmem, ⟨2, _⟩ => ⟨S1x2048x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8x2048 : Shape := ⟨2, ![8, 2048]⟩
abbrev S2x2048x768 : Shape := ⟨3, ![2, 2048, 768]⟩
abbrev S2x6144 : Shape := ⟨2, ![2, 6144]⟩
abbrev S_ : Shape := ⟨0, ![]⟩
abbrev S2x768x8 : Shape := ⟨3, ![2, 768, 8]⟩
abbrev S2x8x768 : Shape := ⟨3, ![2, 8, 768]⟩
abbrev S2x768 : Shape := ⟨2, ![2, 768]⟩
abbrev S2x1x768 : Shape := ⟨3, ![2, 1, 768]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x768, .f32⟩
  | .hbm, ⟨2, _⟩ => ⟨S2x6144, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2x768x8, .f32⟩
  | .hbm, ⟨13, _⟩ => ⟨S2x8x768, .f32⟩
  | .hbm, ⟨14, _⟩ => ⟨S2x768, .f32⟩
  | .hbm, ⟨15, _⟩ => ⟨S2x1x768, .f32⟩
  | .hbm, ⟨16, _⟩ => ⟨S2x8x768, .f32⟩
  | .hbm, ⟨17, _⟩ => ⟨S2x8x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel13.lean ====
abbrev S8x256x2048 : Shape := ⟨3, ![8, 256, 2048]⟩
abbrev S2x256x2048 : Shape := ⟨3, ![2, 256, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 11
  | .vmem => 19
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .f32⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S8x256x2048, .bf16⟩
  | .hbm, ⟨6, _⟩ => ⟨S8x256x2048, .bf16⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S64x2048, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference13Ideal.lean ====
abbrev S8x256x2048 : Shape := ⟨3, ![8, 256, 2048]⟩
abbrev S2x256x2048 : Shape := ⟨3, ![2, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .f32⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S1x256x2048, .f32⟩
  | .hbm, ⟨10, _⟩ => ⟨S1x256x2048, .f32⟩
  | .hbm, ⟨11, _⟩ => ⟨S2x256x2048, .f32⟩
  | .hbm, ⟨12, _⟩ => ⟨S_, .f32⟩
  | .hbm, ⟨13, _⟩ => ⟨S2x256x2048, .f32⟩
  | .hbm, ⟨14, _⟩ => ⟨S2x256x2048, .f32⟩
  | .hbm, ⟨15, _⟩ => ⟨S_, .f32⟩
  | .hbm, ⟨16, _⟩ => ⟨S2x256x2048, .f32⟩
  | .hbm, ⟨17, _⟩ => ⟨S2x256x2048, .f32⟩
  | .hbm, ⟨18, _⟩ => ⟨S2x256x2048, .f32⟩
  | .hbm, ⟨19, _⟩ => ⟨S_, .f32⟩
  | .hbm, ⟨20, _⟩ => ⟨S2x256x2048, .f32⟩
  | .hbm, ⟨21, _⟩ => ⟨S2x256x2048, .f32⟩
  | .hbm, ⟨22, _⟩ => ⟨S2x256x2048, .f32⟩
  | .hbm, ⟨23, _⟩ => ⟨S_, .f32⟩
  | .hbm, ⟨24, _⟩ => ⟨S2x256x2048, .f32⟩
  | .hbm, ⟨25, _⟩ => ⟨S2x256x2048, .f32⟩
  | .hbm, ⟨26, _⟩ => ⟨S2x256x2048, .f32⟩
  | .hbm, ⟨27, _⟩ => ⟨S_, .f32⟩
  | .hbm, ⟨28, _⟩ => ⟨S2x256x2048, .f32⟩
  | .hbm, ⟨29, _⟩ => ⟨S2x256x2048, .f32⟩
  | .hbm, ⟨30, _⟩ => ⟨S_, .f32⟩
  | .hbm, ⟨31, _⟩ => ⟨S2x256x2048, .f32⟩
  | .hbm, ⟨32, _⟩ => ⟨S2x256x2048, .f32⟩
  | .hbm, ⟨33, _⟩ => ⟨S2x256x2048, .f32⟩
  | .hbm, ⟨34, _⟩ => ⟨S_, .f32⟩
  | .hbm, ⟨35, _⟩ => ⟨S2x256x2048, .f32⟩
  | .hbm, ⟨36, _⟩ => ⟨S2x256x2048, .f32⟩
  | .hbm, ⟨37, _⟩ => ⟨S2x256x2048, .f32⟩
  | .hbm, ⟨38, _⟩ => ⟨S_, .f32⟩
  | .hbm, ⟨39, _⟩ => ⟨S2x256x2048, .f32⟩
  | .hbm, ⟨40, _⟩ => ⟨S2x256x2048, .f32⟩
  | .hbm, ⟨41, _⟩ => ⟨S2x256x2048, .f32⟩
  | .hbm, ⟨42, _⟩ => ⟨S_, .f32⟩
  | .hbm, ⟨43, _⟩ => ⟨S2x256x2048, .f32⟩
  | .hbm, ⟨44, _⟩ => ⟨S2x256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel14.lean ====
abbrev S2048x4928 : Shape := ⟨2, ![2048, 4928]⟩
abbrev S4928x2048 : Shape := ⟨2, ![4928, 2048]⟩
abbrev S8x616x2048 : Shape := ⟨3, ![8, 616, 2048]⟩
abbrev S5120x2048 : Shape := ⟨2, ![5120, 2048]⟩
abbrev S8x616x512 : Shape := ⟨3, ![8, 616, 512]⟩
abbrev S5120x512 : Shape := ⟨2, ![5120, 512]⟩
abbrev S1x616x512 : Shape := ⟨3, ![1, 616, 512]⟩
abbrev S616x512 : Shape := ⟨2, ![616, 512]⟩
abbrev S608x512 : Shape := ⟨2, ![608, 512]⟩
abbrev S208x512 : Shape := ⟨2, ![208, 512]⟩
abbrev S400x512 : Shape := ⟨2, ![400, 512]⟩
abbrev S8x512 : Shape := ⟨2, ![8, 512]⟩
abbrev S408x512 : Shape := ⟨2, ![408, 512]⟩
abbrev S512x512 : Shape := ⟨2, ![512, 512]⟩
abbrev S104x512 : Shape := ⟨2, ![104, 512]⟩
abbrev S152x512 : Shape := ⟨2, ![152, 512]⟩
abbrev S64x512 : Shape := ⟨2, ![64, 512]⟩
abbrev S192x512 : Shape := ⟨2, ![192, 512]⟩

abbrev nBuf : Space → Nat
  | .hbm => 5
  | .vmem => 4
  | .smem => 0
  | _ => 0

abbrev bufTy : (tb : Table) → Fin (tcTables nBuf tb) → BufTy
  | .hbm, ⟨0, _⟩ => ⟨S2048x4928, .f32⟩
  | .hbm, ⟨1, _⟩ => ⟨S4928x2048, .f32⟩
  | .hbm, ⟨2, _⟩ => ⟨S8x616x2048, .f32⟩
  | .hbm, ⟨3, _⟩ => ⟨S8x616x2048, .bf16⟩
  | .hbm, ⟨4, _⟩ => ⟨S5120x2048, .bf16⟩
  | .local _ .vmem, ⟨0, _⟩ => ⟨S8x616x512, .bf16⟩
  | .local _ .vmem, ⟨1, _⟩ => ⟨S8x616x512, .bf16⟩
  | .local _ .vmem, ⟨2, _⟩ => ⟨S5120x512, .bf16⟩
  | .local _ .vmem, ⟨3, _⟩ => ⟨S5120x512, .bf16⟩
  | _, _ => ⟨S2048x4928, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x616x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference14Ideal.lean ====
abbrev S2048x4928 : Shape := ⟨2, ![2048, 4928]⟩
abbrev S4928x2048 : Shape := ⟨2, ![4928, 2048]⟩
abbrev S512x2048 : Shape := ⟨2, ![512, 2048]⟩
abbrev S256x2048 : Shape := ⟨2, ![256, 2048]⟩
abbrev S64x2048 : Shape := ⟨2, ![64, 2048]⟩
abbrev S1024x2048 : Shape := ⟨2, ![1024, 2048]⟩
abbrev S2048x2048 : Shape := ⟨2, ![2048, 2048]⟩
abbrev S_ : Shape := ⟨0, ![]⟩
abbrev S192x2048 : Shape := ⟨2, ![192, 2048]⟩
abbrev S5120x2048 : Shape := ⟨2, ![5120, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x4928, .f32⟩
  | .hbm, ⟨1, _⟩ => ⟨S4928x2048, .f32⟩
  | .hbm, ⟨2, _⟩ => ⟨S512x2048, .f32⟩
  | .hbm, ⟨3, _⟩ => ⟨S256x2048, .f32⟩
  | .hbm, ⟨4, _⟩ => ⟨S64x2048, .f32⟩
  | .hbm, ⟨5, _⟩ => ⟨S1024x2048, .f32⟩
  | .hbm, ⟨6, _⟩ => ⟨S2048x2048, .f32⟩
  | .hbm, ⟨7, _⟩ => ⟨S1024x2048, .f32⟩
  | .hbm, ⟨8, _⟩ => ⟨S_, .f32⟩
  | .hbm, ⟨9, _⟩ => ⟨S192x2048, .f32⟩
  | .hbm, ⟨10, _⟩ => ⟨S5120x2048, .f32⟩
  | .hbm, ⟨11, _⟩ => ⟨S5120x2048, .bf16⟩
  | _, _ => ⟨S2048x4928, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel15.lean ====
abbrev S5120x2048 : Shape := ⟨2, ![5120, 2048]⟩
abbrev S8x616x2048 : Shape := ⟨3, ![8, 616, 2048]⟩
abbrev S5120x512 : Shape := ⟨2, ![5120, 512]⟩
abbrev S8x616x512 : Shape := ⟨3, ![8, 616, 512]⟩
abbrev S512x512 : Shape := ⟨2, ![512, 512]⟩
abbrev S104x512 : Shape := ⟨2, ![104, 512]⟩
abbrev S616x512 : Shape := ⟨2, ![616, 512]⟩
abbrev S1x616x512 : Shape := ⟨3, ![1, 616, 512]⟩
abbrev S152x512 : Shape := ⟨2, ![152, 512]⟩
abbrev S64x512 : Shape := ⟨2, ![64, 512]⟩
abbrev S400x512 : Shape := ⟨2, ![400, 512]⟩
abbrev S8x512 : Shape := ⟨2, ![8, 512]⟩
abbrev S608x512 : Shape := ⟨2, ![608, 512]⟩
abbrev S208x512 : Shape := ⟨2, ![208, 512]⟩
abbrev S408x512 : Shape := ⟨2, ![408, 512]⟩

abbrev nBuf : Space → Nat
  | .hbm => 2
  | .vmem => 4
  | .smem => 0
  | _ => 0

abbrev bufTy : (tb : Table) → Fin (tcTables nBuf tb) → BufTy
  | .hbm, ⟨0, _⟩ => ⟨S5120x2048, .f32⟩
  | .hbm, ⟨1, _⟩ => ⟨S8x616x2048, .bf16⟩
  | .local _ .vmem, ⟨0, _⟩ => ⟨S5120x512, .f32⟩
  | .local _ .vmem, ⟨1, _⟩ => ⟨S5120x512, .f32⟩
  | .local _ .vmem, ⟨2, _⟩ => ⟨S8x616x512, .bf16⟩
  | .local _ .vmem, ⟨3, _⟩ => ⟨S8x616x512, .bf16⟩
  | _, _ => ⟨S5120x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S5120x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x616x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference15Ideal.lean ====
abbrev S5120x2048 : Shape := ⟨2, ![5120, 2048]⟩
abbrev S512x2048 : Shape := ⟨2, ![512, 2048]⟩
abbrev S256x2048 : Shape := ⟨2, ![256, 2048]⟩
abbrev S64x2048 : Shape := ⟨2, ![64, 2048]⟩
abbrev S1024x2048 : Shape := ⟨2, ![1024, 2048]⟩
abbrev S2048x2048 : Shape := ⟨2, ![2048, 2048]⟩
abbrev S4928x2048 : Shape := ⟨2, ![4928, 2048]⟩
abbrev S8x616x2048 : Shape := ⟨3, ![8, 616, 2048]⟩

abbrev nBuf : Space → Nat
  | .hbm => 10
  | .vmem => 0
  | .smem => 0
  | _ => 0

abbrev bufTy : (tb : Table) → Fin (tcTables nBuf tb) → BufTy
  | .hbm, ⟨0, _⟩ => ⟨S5120x2048, .f32⟩
  | .hbm, ⟨1, _⟩ => ⟨S512x2048, .f32⟩
  | .hbm, ⟨2, _⟩ => ⟨S256x2048, .f32⟩
  | .hbm, ⟨3, _⟩ => ⟨S64x2048, .f32⟩
  | .hbm, ⟨4, _⟩ => ⟨S1024x2048, .f32⟩
  | .hbm, ⟨5, _⟩ => ⟨S2048x2048, .f32⟩
  | .hbm, ⟨6, _⟩ => ⟨S1024x2048, .f32⟩
  | .hbm, ⟨7, _⟩ => ⟨S4928x2048, .f32⟩
  | .hbm, ⟨8, _⟩ => ⟨S8x616x2048, .f32⟩
  | .hbm, ⟨9, _⟩ => ⟨S8x616x2048, .bf16⟩
  | _, _ => ⟨S5120x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Proof.FlashSteps.lean ====
module

public import proofs.«01_k».proof.Proof.Gen.KernelIdeal.Skeleton
public import Idealize.ShloMosaic.Lib.VecWindow

@[expose] public section

set_option maxRecDepth 16384

noncomputable section

/-! What the backward attention kernel does at one grid point, as plain functions of vectors: the blocks it reads, the two
   three-slot buffers that hold the scores and the probability gradients ahead of their use, and the sums it adds to. -/
namespace Cert.KernelIdeal.Bwd

open Cert.KernelIdeal Cert.KernelIdeal.Gen
open Idealize.ShloMosaic

variable {F : FTy → Type} [FloatOps F] [Named F]

/-- Block `n` of 512 rows, all 256 lanes. -/
def rowsAt {e : EltTy} (X : Vec F S1x4096x256 e) (n : ℕ) : Vec F S1x512x256 e :=
  VecWindow.window X ![0, 512 * (n % 8), 0] S1x512x256.size (by intro a; fin_cases a <;> simp [S1x4096x256, S1x512x256] <;> omega)

/-- Block `n` of 512 rows, the first 128 lanes. -/
def rowsV {e : EltTy} (X : Vec F S1x4096x256 e) (n : ℕ) : Vec F S1x512x128 e :=
  VecWindow.window X ![0, 512 * (n % 8), 0] S1x512x128.size (by intro a; fin_cases a <;> simp [S1x4096x256, S1x512x128] <;> omega)

/-- Block `n` of 512 rows of one head's 128 columns. -/
def rowsO {e : EltTy} (X : Vec F S4096x128 e) (n : ℕ) : Vec F S512x128 e :=
  VecWindow.window X ![512 * (n % 8), 0] S512x128.size (by intro a; fin_cases a <;> simp [S4096x128, S512x128] <;> omega)

/-- Row block `n` of a per-row statistic. -/
def lanesAt {e : EltTy} (X : Vec F S1x8x1x512 e) (n : ℕ) : Vec F S1x1x1x512 e :=
  VecWindow.window X ![0, n % 8, 0, 0] S1x1x1x512.size (by intro a; fin_cases a <;> simp [S1x8x1x512, S1x1x1x512] <;> omega)

/-- Slot `n` of a three-slot buffer. -/
def slot {e : EltTy} (X : Vec F S3x512x512 e) (n : ℕ) : Vec F S1x512x512 e :=
  VecWindow.window X ![n % 3, 0, 0] S1x512x512.size (by intro a; fin_cases a <;> simp [S3x512x512, S1x512x512] <;> omega)

/-- `X` with slot `n` replaced. -/
def putSlot {e : EltTy} (X : Vec F S3x512x512 e) (n : ℕ) (w : Vec F S1x512x512 e) : Vec F S3x512x512 e :=
  VecWindow.put X ![n % 3, 0, 0] S1x512x512.size w

/-- `X` with row block `n` replaced. -/
def putRows {e : EltTy} (X : Vec F S1x4096x256 e) (n : ℕ) (w : Vec F S1x512x256 e) : Vec F S1x4096x256 e :=
  VecWindow.put X ![0, 512 * (n % 8), 0] S1x512x256.size w

theorem slot_putSlot {e : EltTy} (X : Vec F S3x512x512 e) (n : ℕ) (w : Vec F S1x512x512 e) : slot (putSlot X n w) n = w :=
  VecWindow.window_put_same X _ _ _ w

theorem slot_putSlot_ne {e : EltTy} (X : Vec F S3x512x512 e) (n n' : ℕ) (w : Vec F S1x512x512 e) (h : n % 3 ≠ n' % 3) : slot (putSlot X n w) n' = slot X n' :=
  VecWindow.window_put_of_disjoint X _ _ _ _ _ w 0 (by simp [S1x512x512]; omega)

/-- What one head's points read: queries, output gradient, log-sum-exp, row sums, keys, values. -/
structure Ins (F : FTy → Type) where
  q : Vec F S1x4096x256 .bf16
  o : Vec F S4096x128 .bf16
  l : Vec F S1x8x1x512 .f32
  d : Vec F S1x8x1x512 .f32
  k : Vec F S1x4096x256 .bf16
  v : Vec F S1x4096x256 .bf16

/-- What the points carry: the gradients being summed and the two buffers of scores and probability gradients. -/
structure Acc (F : FTy → Type) where
  dq : Vec F S1x4096x256 .f32
  dk : Vec F S512x256 .f32
  dv : Vec F S512x128 .f32
  st : Vec F S3x512x512 .f32
  dp : Vec F S3x512x512 .f32

/-- Fills slot `s` with the scores and probability gradients of key block `j` and query block `r`. -/
def produce (I : Ins F) (j r s : ℕ) (σ : Acc F) : Acc F where
  dq := σ.dq
  dk := σ.dk
  dv := σ.dv
  st := putSlot σ.st s (k1_pay2 (rowsAt I.k j) (rowsAt I.q r))
  dp := putSlot σ.dp s (k1_pay3 (rowsV I.v j) (rowsO I.o r))

/-- Adds key block `j` and query block `r`, an unmasked pair held in slot `s`, to the three gradients. -/
def consume (I : Ins F) (j r s : ℕ) (σ : Acc F) : Acc F where
  dq := putRows σ.dq r (k1_pay17 (k1_pay76 (rowsAt I.k j)) (k1_pay14 (slot σ.st s) (lanesAt I.l r) (slot σ.dp s) (lanesAt I.d r)) (rowsAt σ.dq r))
  dk := k1_pay16 σ.dk (k1_pay15 (rowsAt I.q r) (slot σ.st s) (lanesAt I.l r) (slot σ.dp s) (lanesAt I.d r))
  dv := k1_pay13 (rowsO I.o r) (slot σ.st s) (lanesAt I.l r) σ.dv
  st := σ.st
  dp := σ.dp

/-- The same for the pair on the diagonal, where the keys after the query are masked. -/
def consumeD (I : Ins F) (j r s : ℕ) (σ : Acc F) : Acc F where
  dq := putRows σ.dq r (k1_pay77 (rowsAt I.k j) (k1_pay8 (slot σ.st s) (lanesAt I.l r) (slot σ.dp s) (lanesAt I.d r)) (rowsAt σ.dq r))
  dk := k1_pay9 (k1_pay4 (rowsAt I.q r)) (slot σ.st s) (lanesAt I.l r) (slot σ.dp s) (lanesAt I.d r) σ.dk
  dv := k1_pay7 (k1_pay5 (rowsO I.o r)) (slot σ.st s) (lanesAt I.l r) σ.dv
  st := σ.st
  dp := σ.dp

/-- Two row blocks, each produced one step ahead of its use. -/
def tripS (I : Ins F) (j t : ℕ) (σ : Acc F) : Acc F :=
  consume I j (5 - 2 * t) 0 (produce I j (4 - 2 * t) 1 (consume I j (6 - 2 * t) 1 (produce I j (5 - 2 * t) 0 σ)))

/-- The first `t` trips. -/
def tripsS (I : Ins F) (j : ℕ) (σ : Acc F) : ℕ → Acc F
  | 0 => σ
  | t + 1 => tripS I j t (tripsS I j σ t)

/-- The key and value gradients start at zero. -/
def clearKV (σ : Acc F) : Acc F := { σ with dk := k1_pay74, dv := k1_pay75 }

/-- A head's first point: key block 7, which meets query block 7 alone. -/
def pointFirst (I : Ins F) (σ : Acc F) : Acc F :=
  produce I 6 7 2 (consumeD I 7 7 2 (produce I 7 7 2 (clearKV { σ with dq := k1_pay73 })))

/-- What an even and an odd later point share: the query blocks from 7 down, but for the last one or two. -/
def pointRun (I : Ins F) (n : ℕ) (σ : Acc F) : Acc F :=
  tripsS I (7 - n) (consume I (7 - n) 7 2 (produce I (7 - n) 6 1 (clearKV σ))) ((n - 1) / 2)

def pointOdd (I : Ins F) (n : ℕ) (σ : Acc F) : Acc F :=
  consumeD I (7 - n) (7 - n) 1 (produce I (6 - n) 7 2 (pointRun I n σ))

def pointEven (I : Ins F) (n : ℕ) (σ : Acc F) : Acc F :=
  consumeD I (7 - n) (7 - n) 0 (produce I (6 - n) 7 2 (consume I (7 - n) (8 - n) 1 (produce I (7 - n) (7 - n) 0 (pointRun I n σ))))

/-- A later point: by the parity of its place in the head. -/
def pointLater (I : Ins F) (n : ℕ) (σ : Acc F) : Acc F := if n % 2 = 1 then pointOdd I n σ else pointEven I n σ

section Views

theorem rd_rows {sp : Space} {e : EltTy} (m : View sig .tc sp S1x4096x256 e) (f : m.ty.Contents (Elt F)) {off : Fin 3 → ℕ} (n : ℕ) (inb : ∀ a, off a + S1x512x256.size a ≤ S1x4096x256.size a) (h : off = ![0, 512 * (n % 8), 0]) :
    m.readAt (Elt F) (Rect.unit (s := S1x4096x256) off S1x512x256.size inb).toLoadRect f = rowsAt (m.read (Elt F) f) n := View.readAt_unit m f inb h _

theorem rd_rowsV {sp : Space} {e : EltTy} (m : View sig .tc sp S1x4096x256 e) (f : m.ty.Contents (Elt F)) {off : Fin 3 → ℕ} (n : ℕ) (inb : ∀ a, off a + S1x512x128.size a ≤ S1x4096x256.size a) (h : off = ![0, 512 * (n % 8), 0]) :
    m.readAt (Elt F) (Rect.unit (s := S1x4096x256) off S1x512x128.size inb).toLoadRect f = rowsV (m.read (Elt F) f) n := View.readAt_unit m f inb h _

theorem rd_rowsO {sp : Space} {e : EltTy} (m : View sig .tc sp S4096x128 e) (f : m.ty.Contents (Elt F)) {off : Fin 2 → ℕ} (n : ℕ) (inb : ∀ a, off a + S512x128.size a ≤ S4096x128.size a) (h : off = ![512 * (n % 8), 0]) :
    m.readAt (Elt F) (Rect.unit (s := S4096x128) off S512x128.size inb).toLoadRect f = rowsO (m.read (Elt F) f) n := View.readAt_unit m f inb h _

theorem rd_lanes {sp : Space} {e : EltTy} (m : View sig .tc sp S1x8x1x512 e) (f : m.ty.Contents (Elt F)) {off : Fin 4 → ℕ} (n : ℕ) (inb : ∀ a, off a + S1x1x1x512.size a ≤ S1x8x1x512.size a) (h : off = ![0, n % 8, 0, 0]) :
    m.readAt (Elt F) (Rect.unit (s := S1x8x1x512) off S1x1x1x512.size inb).toLoadRect f = lanesAt (m.read (Elt F) f) n := View.readAt_unit m f inb h _

theorem rd_slot {sp : Space} {e : EltTy} (m : View sig .tc sp S3x512x512 e) (f : m.ty.Contents (Elt F)) {off : Fin 3 → ℕ} (n : ℕ) (inb : ∀ a, off a + S1x512x512.size a ≤ S3x512x512.size a) (h : off = ![n % 3, 0, 0]) :
    m.readAt (Elt F) (Rect.unit (s := S3x512x512) off S1x512x512.size inb).toLoadRect f = slot (m.read (Elt F) f) n := View.readAt_unit m f inb h _

theorem wr_slot {sp : Space} {e : EltTy} (m : View sig .tc sp S3x512x512 e) (f : m.ty.Contents (Elt F)) {off : Fin 3 → ℕ} (n : ℕ) (inb : ∀ a, off a + S1x512x512.size a ≤ S3x512x512.size a) (h : off = ![n % 3, 0, 0]) (w : Vec F S1x512x512 e) (L : List (View.Piece (Elt F) S3x512x512 e)) :
    m.read (Elt F) (m.writes (Elt F) f (⟨Rect.unit (s := S3x512x512) off S1x512x512.size inb, w⟩ :: L)) = putSlot (m.read (Elt F) (m.writes (Elt F) f L)) n w := View.read_writes_cons_put m f inb w L h

theorem wr_rows {sp : Space} {e : EltTy} (m : View sig .tc sp S1x4096x256 e) (f : m.ty.Contents (Elt F)) {off : Fin 3 → ℕ} (n : ℕ) (inb : ∀ a, off a + S1x512x256.size a ≤ S1x4096x256.size a) (h : off = ![0, 512 * (n % 8), 0]) (w : Vec F S1x512x256 e) (L : List (View.Piece (Elt F) S1x4096x256 e)) :
    m.read (Elt F) (m.writes (Elt F) f (⟨Rect.unit (s := S1x4096x256) off S1x512x256.size inb, w⟩ :: L)) = putRows (m.read (Elt F) (m.writes (Elt F) f L)) n w := View.read_writes_cons_put m f inb w L h

theorem rd_dk {sp : Space} {e : EltTy} (m : View sig .tc sp S512x256 e) (f : m.ty.Contents (Elt F)) {off : Fin 2 → ℕ} (inb : ∀ a, off a + ![512, 256] a ≤ S512x256.size a) :
    m.readAt (Elt F) (Rect.unit (s := S512x256) off ![512, 256] inb).toLoadRect f = m.read (Elt F) f := View.readAt_full m f inb

theorem wr_dk {sp : Space} {e : EltTy} (m : View sig .tc sp S512x256 e) (f : m.ty.Contents (Elt F)) {off : Fin 2 → ℕ} (inb : ∀ a, off a + ![512, 256] a ≤ S512x256.size a) (w : Vec F S512x256 e) (L : List (View.Piece (Elt F) S512x256 e)) :
    m.read (Elt F) (m.writes (Elt F) f (⟨Rect.unit (s := S512x256) off ![512, 256] inb, w⟩ :: L)) = w := View.read_writes_full m f inb w L

theorem rd_dv {sp : Space} {e : EltTy} (m : View sig .tc sp S512x128 e) (f : m.ty.Contents (Elt F)) {off : Fin 2 → ℕ} (inb : ∀ a, off a + ![512, 128] a ≤ S512x128.size a) :
    m.readAt (Elt F) (Rect.unit (s := S512x128) off ![512, 128] inb).toLoadRect f = m.read (Elt F) f := View.readAt_full m f inb

theorem wr_dv {sp : Space} {e : EltTy} (m : View sig .tc sp S512x128 e) (f : m.ty.Contents (Elt F)) {off : Fin 2 → ℕ} (inb : ∀ a, off a + ![512, 128] a ≤ S512x128.size a) (w : Vec F S512x128 e) (L : List (View.Piece (Elt F) S512x128 e)) :
    m.read (Elt F) (m.writes (Elt F) f (⟨Rect.unit (s := S512x128) off ![512, 128] inb, w⟩ :: L)) = w := View.read_writes_full m f inb w L

theorem rd_dq {sp : Space} {e : EltTy} (m : View sig .tc sp S1x4096x256 e) (f : m.ty.Contents (Elt F)) {off : Fin 3 → ℕ} (inb : ∀ a, off a + ![1, 4096, 256] a ≤ S1x4096x256.size a) :
    m.readAt (Elt F) (Rect.unit (s := S1x4096x256) off ![1, 4096, 256] inb).toLoadRect f = m.read (Elt F) f := View.readAt_full m f inb

theorem wr_dq {sp : Space} {e : EltTy} (m : View sig .tc sp S1x4096x256 e) (f : m.ty.Contents (Elt F)) {off : Fin 3 → ℕ} (inb : ∀ a, off a + ![1, 4096, 256] a ≤ S1x4096x256.size a) (w : Vec F S1x4096x256 e) (L : List (View.Piece (Elt F) S1x4096x256 e)) :
    m.read (Elt F) (m.writes (Elt F) f (⟨Rect.unit (s := S1x4096x256) off ![1, 4096, 256] inb, w⟩ :: L)) = w := View.read_writes_full m f inb w L

theorem rd_dkOut {sp : Space} {e : EltTy} (m : View sig .tc sp S1x512x256 e) (f : m.ty.Contents (Elt F)) {off : Fin 3 → ℕ} (inb : ∀ a, off a + ![1, 512, 256] a ≤ S1x512x256.size a) :
    m.readAt (Elt F) (Rect.unit (s := S1x512x256) off ![1, 512, 256] inb).toLoadRect f = m.read (Elt F) f := View.readAt_full m f inb

theorem wr_dkOut {sp : Space} {e : EltTy} (m : View sig .tc sp S1x512x256 e) (f : m.ty.Contents (Elt F)) {off : Fin 3 → ℕ} (inb : ∀ a, off a + ![1, 512, 256] a ≤ S1x512x256.size a) (w : Vec F S1x512x256 e) (L : List (View.Piece (Elt F) S1x512x256 e)) :
    m.read (Elt F) (m.writes (Elt F) f (⟨Rect.unit (s := S1x512x256) off ![1, 512, 256] inb, w⟩ :: L)) = w := View.read_writes_full m f inb w L

theorem rd_dvOut {sp : Space} {e : EltTy} (m : View sig .tc sp S1x512x128 e) (f : m.ty.Contents (Elt F)) {off : Fin 3 → ℕ} (inb : ∀ a, off a + ![1, 512, 128] a ≤ S1x512x128.size a) :
    m.readAt (Elt F) (Rect.unit (s := S1x512x128) off ![1, 512, 128] inb).toLoadRect f = m.read (Elt F) f := View.readAt_full m f inb

theorem wr_dvOut {sp : Space} {e : EltTy} (m : View sig .tc sp S1x512x128 e) (f : m.ty.Contents (Elt F)) {off : Fin 3 → ℕ} (inb : ∀ a, off a + ![1, 512, 128] a ≤ S1x512x128.size a) (w : Vec F S1x512x128 e) (L : List (View.Piece (Elt F) S1x512x128 e)) :
    m.read (Elt F) (m.writes (Elt F) f (⟨Rect.unit (s := S1x512x128) off ![1, 512, 128] inb, w⟩ :: L)) = w := View.read_writes_full m f inb w L

end Views

theorem slot0 : (![0, 0, 0] : Fin 3 → ℕ) = ![0 % 3, 0, 0] := rfl
theorem slot1 : (![1, 0, 0] : Fin 3 → ℕ) = ![1 % 3, 0, 0] := rfl
theorem slot2 : (![2, 0, 0] : Fin 3 → ℕ) = ![2 % 3, 0, 0] := rfl
theorem block7 : (![0, 3584, 0] : Fin 3 → ℕ) = ![0, 512 * (7 % 8), 0] := rfl
theorem block6 : (![0, 3072, 0] : Fin 3 → ℕ) = ![0, 512 * (6 % 8), 0] := rfl
theorem blockO7 : (![3584, 0] : Fin 2 → ℕ) = ![512 * (7 % 8), 0] := rfl
theorem blockO6 : (![3072, 0] : Fin 2 → ℕ) = ![512 * (6 % 8), 0] := rfl
theorem lanes7 : (![0, 7, 0, 0] : Fin 4 → ℕ) = ![0, 7 % 8, 0, 0] := rfl

theorem off1_eq : ∀ i : grid1.Coords, k1_off1 i = ![0, 512 * ((7 - (i 1).val) % 8), 0] := by decide +kernel
theorem off2_eq : ∀ i : grid1.Coords, k1_off2 i = ![0, 512 * ((7 - (i 1).val) % 8), 0] := by decide +kernel
theorem off3_eq : ∀ i : grid1.Coords, k1_off3 i = ![0, 512 * ((7 - (i 1).val) % 8), 0] := by decide +kernel
theorem off4_eq : ∀ i : grid1.Coords, k1_off4 i = ![0, 512 * ((6 - (i 1).val) % 8), 0] := by decide +kernel
theorem off5_eq : ∀ i : grid1.Coords, k1_off5 i = ![0, 512 * ((6 - (i 1).val) % 8), 0] := by decide +kernel
theorem off6_eq : ∀ i : grid1.Coords, k1_off6 i = ![0, 512 * ((7 - (i 1).val) % 8), 0] := by decide +kernel
theorem off7_eq : ∀ i : grid1.Coords, k1_off7 i = ![0, 512 * ((7 - (i 1).val) % 8), 0] := by decide +kernel
theorem off8_eq : ∀ i : grid1.Coords, k1_off8 i = ![0, 512 * ((7 - (i 1).val) % 8), 0] := by decide +kernel
theorem off10_eq : ∀ i : grid1.Coords, k1_off10 i = ![0, 512 * ((7 - (i 1).val) % 8), 0] := by decide +kernel
theorem off18_eq : ∀ i : grid1.Coords, k1_off18 i = ![0, 512 * ((6 - (i 1).val) % 8), 0] := by decide +kernel
theorem off19_eq : ∀ i : grid1.Coords, k1_off19 i = ![0, 512 * ((6 - (i 1).val) % 8), 0] := by decide +kernel
theorem off20_eq : ∀ i : grid1.Coords, k1_off20 i = ![0, 512 * ((7 - (i 1).val) % 8), 0] := by decide +kernel
theorem off21_eq : ∀ i : grid1.Coords, k1_off21 i = ![512 * ((7 - (i 1).val) % 8), 0] := by decide +kernel
theorem off22_eq : ∀ i : grid1.Coords, k1_off22 i = ![0, (7 - (i 1).val) % 8, 0, 0] := by decide +kernel
theorem off23_eq : ∀ i : grid1.Coords, k1_off23 i = ![0, 512 * ((7 - (i 1).val) % 8), 0] := by decide +kernel
theorem off24_eq : ∀ i : grid1.Coords, k1_off24 i = ![0, 512 * ((7 - (i 1).val) % 8), 0] := by decide +kernel
theorem off25_eq : ∀ i : grid1.Coords, k1_off25 i = ![512 * ((7 - (i 1).val) % 8), 0] := by decide +kernel
theorem off26_eq : ∀ i : grid1.Coords, k1_cond3 i = 1#1 → k1_cond5 i = 1#1 → k1_off26 i = ![0, 512 * ((8 - (i 1).val) % 8), 0] := by decide +kernel
theorem off27_eq : ∀ i : grid1.Coords, k1_cond3 i = 1#1 → k1_cond5 i = 1#1 → k1_off27 i = ![512 * ((8 - (i 1).val) % 8), 0] := by decide +kernel
theorem off28_eq : ∀ i : grid1.Coords, k1_cond3 i = 1#1 → k1_cond5 i = 1#1 → k1_off28 i = ![0, (8 - (i 1).val) % 8, 0, 0] := by decide +kernel
theorem off29_eq : ∀ i : grid1.Coords, k1_off29 i = ![0, 512 * ((6 - (i 1).val) % 8), 0] := by decide +kernel
theorem off30_eq : ∀ i : grid1.Coords, k1_off30 i = ![0, 512 * ((6 - (i 1).val) % 8), 0] := by decide +kernel
theorem off31_eq : ∀ i : grid1.Coords, k1_off31 i = ![0, (7 - (i 1).val) % 8, 0, 0] := by decide +kernel
theorem off9_eq : ∀ (i : grid1.Coords) (k : Fin (k1_t1_loop i).trips) (r : Fin 3), k1_off9 i k (BitVec.ofNat 32 (1 + r.val)) = ![0, 512 * ((6 - r.val - 2 * k.val) % 8), 0] := by decide +kernel
theorem off11_eq : ∀ (i : grid1.Coords) (k : Fin (k1_t1_loop i).trips) (r : Fin 3), k1_off11 i k (BitVec.ofNat 32 (1 + r.val)) = ![512 * ((6 - r.val - 2 * k.val) % 8), 0] := by decide +kernel
theorem off12_eq : ∀ (i : grid1.Coords) (k : Fin (k1_t1_loop i).trips) (r : Fin 3), k1_off12 i k (BitVec.ofNat 32 (1 + r.val)) = ![0, (6 - r.val - 2 * k.val) % 8, 0, 0] := by decide +kernel
theorem off9_1 (i : grid1.Coords) (k : Fin (k1_t1_loop i).trips) : k1_off9 i k 1#32 = ![0, 512 * ((6 - 2 * k.val) % 8), 0] := off9_eq i k 0
theorem off9_2 (i : grid1.Coords) (k : Fin (k1_t1_loop i).trips) : k1_off9 i k 2#32 = ![0, 512 * ((5 - 2 * k.val) % 8), 0] := off9_eq i k 1
theorem off9_3 (i : grid1.Coords) (k : Fin (k1_t1_loop i).trips) : k1_off9 i k 3#32 = ![0, 512 * ((4 - 2 * k.val) % 8), 0] := off9_eq i k 2
theorem off11_1 (i : grid1.Coords) (k : Fin (k1_t1_loop i).trips) : k1_off11 i k 1#32 = ![512 * ((6 - 2 * k.val) % 8), 0] := off11_eq i k 0
theorem off11_2 (i : grid1.Coords) (k : Fin (k1_t1_loop i).trips) : k1_off11 i k 2#32 = ![512 * ((5 - 2 * k.val) % 8), 0] := off11_eq i k 1
theorem off11_3 (i : grid1.Coords) (k : Fin (k1_t1_loop i).trips) : k1_off11 i k 3#32 = ![512 * ((4 - 2 * k.val) % 8), 0] := off11_eq i k 2
theorem off12_1 (i : grid1.Coords) (k : Fin (k1_t1_loop i).trips) : k1_off12 i k 1#32 = ![0, (6 - 2 * k.val) % 8, 0, 0] := off12_eq i k 0
theorem off12_2 (i : grid1.Coords) (k : Fin (k1_t1_loop i).trips) : k1_off12 i k 2#32 = ![0, (5 - 2 * k.val) % 8, 0, 0] := off12_eq i k 1
theorem trips1 : ∀ i : grid1.Coords, k1_cond3 i = 1#1 → (k1_t1_loop i).trips = ((i 1).val - 1) / 2 := by decide +kernel
theorem odd_iff : ∀ i : grid1.Coords, k1_cond4 i = 1#1 ↔ (i 1).val % 2 = 1 := by decide +kernel
theorem cond5_of_cond4 : ∀ i : grid1.Coords, k1_cond4 i = 1#1 → ¬ k1_cond5 i = 1#1 := by decide +kernel
theorem cond5_of_not_cond4 : ∀ i : grid1.Coords, ¬ k1_cond4 i = 1#1 → k1_cond5 i = 1#1 := by decide +kernel
theorem trips2 : ∀ i : grid1.Coords, (k1_t2_loop i).trips = 0 := by decide +kernel

instance (i : grid1.Coords) (k : Fin (k1_t1_loop i).trips) : ClosedOff (k1_off9 i k 1#32) := ⟨_, off9_1 i k⟩
instance (i : grid1.Coords) (k : Fin (k1_t1_loop i).trips) : ClosedOff (k1_off9 i k 2#32) := ⟨_, off9_2 i k⟩
instance (i : grid1.Coords) (k : Fin (k1_t1_loop i).trips) : ClosedOff (k1_off9 i k 3#32) := ⟨_, off9_3 i k⟩

end Cert.KernelIdeal.Bwd
end
-- ==== Proof.FlashFwdSteps.lean ====
module

public import proofs.«01_k».proof.Proof.FlashSteps

@[expose] public section

set_option maxRecDepth 16384

noncomputable section

/-! What the forward attention kernel does at one grid point, as plain functions of vectors: the running maximum and the
   running sums of a block of queries, and the three-slot buffer that holds the scores ahead of their use. -/
namespace Cert.KernelIdeal.Fwd

open Cert.KernelIdeal Cert.KernelIdeal.Gen
open Cert.KernelIdeal.Bwd (rowsAt slot putSlot)
open Idealize.ShloMosaic

variable {F : FTy → Type} [FloatOps F] [Named F]

/-- What one head's points read: queries, keys, and the values beside a block of ones. -/
structure Ins (F : FTy → Type) where
  q : Vec F S1x4096x256 .bf16
  k : Vec F S1x4096x256 .bf16
  v : Vec F S1x4096x256 .bf16

/-- What the points carry: the running maximum, the running sums, and the buffer of scores. -/
structure Acc (F : FTy → Type) where
  m : Vec F S512x128 .f32
  acc : Vec F S512x256 .f32
  s : Vec F S3x512x512 .f32

/-- Fills slot `t` with the scores of query block `r` and key block `j`. -/
def produce (I : Ins F) (r j t : ℕ) (σ : Acc F) : Acc F where
  m := σ.m
  acc := σ.acc
  s := putSlot σ.s t (k0_pay2 (rowsAt I.q r) (rowsAt I.k j))

/-- Takes the scores in slot `t`, of key block `j`, into the running maximum and sums. -/
def consume (I : Ins F) (j t : ℕ) (σ : Acc F) : Acc F where
  m := k0_pay49 (k0_pay46 (slot σ.s t) σ.m)
  acc := k0_pay48 (k0_pay47 (slot σ.s t) σ.m σ.acc (rowsAt I.v j))
  s := σ.s

/-- The same for the block on the diagonal, where the keys after the query are masked. -/
def consumeD (I : Ins F) (j t : ℕ) (σ : Acc F) : Acc F where
  m := k0_pay52 (k0_pay40 (slot σ.s t)) σ.m
  acc := k0_pay51 (k0_pay40 (slot σ.s t)) σ.m σ.acc (rowsAt I.v j)
  s := σ.s

/-- Two key blocks, each produced one step ahead of its use. -/
def tripS (I : Ins F) (i t : ℕ) (σ : Acc F) : Acc F :=
  consume I (2 + 2 * t) 0 (produce I i (3 + 2 * t) 1 (consume I (1 + 2 * t) 1 (produce I i (2 + 2 * t) 0 σ)))

/-- The first `t` trips. -/
def tripsS (I : Ins F) (i : ℕ) (σ : Acc F) : ℕ → Acc F
  | 0 => σ
  | t + 1 => tripS I i t (tripsS I i σ t)

/-- The running maximum starts at the mask's value, the sums at zero. -/
def clear (σ : Acc F) : Acc F := { σ with m := k0_pay56, acc := k0_pay57 }

/-- A head's first point: query block 0, which meets key block 0 alone. -/
def pointFirst (I : Ins F) (σ : Acc F) : Acc F :=
  produce I 1 0 2 (consumeD I 0 2 (produce I 0 0 2 (clear σ)))

/-- What an even and an odd later point share: the key blocks from 0 up, but for the last one or two. -/
def pointRun (I : Ins F) (i : ℕ) (σ : Acc F) : Acc F :=
  tripsS I i (consume I 0 2 (produce I i 1 1 (clear σ))) ((i - 1) / 2)

def pointOdd (I : Ins F) (i : ℕ) (σ : Acc F) : Acc F :=
  consumeD I i 1 (produce I (min (i + 1) 7) 0 2 (pointRun I i σ))

def pointEven (I : Ins F) (i : ℕ) (σ : Acc F) : Acc F :=
  consumeD I i 0 (produce I (min (i + 1) 7) 0 2 (consume I (i - 1) 1 (produce I i i 0 (pointRun I i σ))))

/-- A later point: by the parity of its place in the head. -/
def pointLater (I : Ins F) (i : ℕ) (σ : Acc F) : Acc F := if i % 2 = 1 then pointOdd I i σ else pointEven I i σ

/-- The first half of the sums: the weighted values. -/
def num (X : Vec F S512x256 .f32) : Vec F S512x128 .f32 :=
  VecWindow.window X ![0, 0] S512x128.size (by intro a; fin_cases a <;> simp [S512x256, S512x128])

/-- The second half: the sum of the weights, once per lane. -/
def den (X : Vec F S512x256 .f32) : Vec F S512x128 .f32 :=
  VecWindow.window X ![0, 128] S512x128.size (by intro a; fin_cases a <;> simp [S512x256, S512x128])

/-- The block of outputs. -/
def outO (σ : Acc F) : Vec F S512x128 .f32 := k0_pay65 (den σ.acc) (num σ.acc)

/-- The block of log-sum-exps. -/
def outL (σ : Acc F) : Vec F S1x1x1x512 .f32 := k0_pay1 (k0_pay66 (den σ.acc) σ.m)

section Views

theorem rd_num {sp : Space} (m : View sig .tc sp S512x256 .f32) (f : m.ty.Contents (Elt F)) (inb : ∀ a, (![0, 0] : Fin 2 → ℕ) a + ![512, 128] a ≤ S512x256.size a) :
    m.readAt (Elt F) (Rect.unit (s := S512x256) ![0, 0] ![512, 128] inb).toLoadRect f = num (m.read (Elt F) f) := View.readAt_unit m f inb rfl _

theorem rd_den {sp : Space} (m : View sig .tc sp S512x256 .f32) (f : m.ty.Contents (Elt F)) (inb : ∀ a, (![0, 128] : Fin 2 → ℕ) a + ![512, 128] a ≤ S512x256.size a) :
    m.readAt (Elt F) (Rect.unit (s := S512x256) ![0, 128] ![512, 128] inb).toLoadRect f = den (m.read (Elt F) f) := View.readAt_unit m f inb rfl _

theorem wr_lse {sp : Space} {e : EltTy} (m : View sig .tc sp S1x1x1x512 e) (f : m.ty.Contents (Elt F)) {off : Fin 4 → ℕ} (inb : ∀ a, off a + ![1, 1, 1, 512] a ≤ S1x1x1x512.size a) (w : Vec F S1x1x1x512 e) (L : List (View.Piece (Elt F) S1x1x1x512 e)) :
    m.read (Elt F) (m.writes (Elt F) f (⟨Rect.unit (s := S1x1x1x512) off ![1, 1, 1, 512] inb, w⟩ :: L)) = w := View.read_writes_full m f inb w L

end Views

theorem block0 : (![0, 0, 0] : Fin 3 → ℕ) = ![0, 512 * (0 % 8), 0] := rfl
theorem block1 : (![0, 512, 0] : Fin 3 → ℕ) = ![0, 512 * (1 % 8), 0] := rfl

theorem off1_eq : ∀ i : grid0.Coords, k0_off1 i = ![0, 512 * (min ((i 1).val + 1) 7 % 8), 0] := by decide +kernel
theorem off2_eq : ∀ i : grid0.Coords, k0_off2 i = ![0, 512 * ((i 1).val % 8), 0] := by decide +kernel
theorem off3_eq : ∀ i : grid0.Coords, k0_off3 i = ![0, 512 * ((i 1).val % 8), 0] := by decide +kernel
theorem off7_eq : ∀ i : grid0.Coords, k0_off7 i = ![0, 512 * (min ((i 1).val + 1) 7 % 8), 0] := by decide +kernel
theorem off8_eq : ∀ i : grid0.Coords, k0_off8 i = ![0, 512 * ((i 1).val % 8), 0] := by decide +kernel
theorem off9_eq : ∀ i : grid0.Coords, k0_off9 i = ![0, 512 * ((i 1).val % 8), 0] := by decide +kernel
theorem off10_eq : ∀ i : grid0.Coords, k0_cond2 i = 1#1 → k0_off10 i = ![0, 512 * (((i 1).val - 1) % 8), 0] := by decide +kernel
theorem off11_eq : ∀ i : grid0.Coords, k0_off11 i = ![0, 512 * (min ((i 1).val + 1) 7 % 8), 0] := by decide +kernel
theorem off4_eq : ∀ (i : grid0.Coords) (k : Fin (k0_t1_loop i).trips) (r : Fin 3), k0_off4 i k (BitVec.ofNat 32 (1 + r.val)) = ![0, 512 * ((1 + r.val + 2 * k.val) % 8), 0] := by decide +kernel
theorem trips1 : ∀ i : grid0.Coords, k0_cond2 i = 1#1 → (k0_t1_loop i).trips = ((i 1).val - 1) / 2 := by decide +kernel
theorem odd_iff : ∀ i : grid0.Coords, k0_cond3 i = 1#1 ↔ (i 1).val % 2 = 1 := by decide +kernel
theorem cond4_of_cond3 : ∀ i : grid0.Coords, k0_cond3 i = 1#1 → ¬ k0_cond4 i = 1#1 := by decide +kernel
theorem cond4_of_not_cond3 : ∀ i : grid0.Coords, ¬ k0_cond3 i = 1#1 → k0_cond4 i = 1#1 := by decide +kernel
theorem trips2 : ∀ i : grid0.Coords, (k0_t2_loop i).trips = 0 := by decide +kernel
theorem cond1_iff : ∀ i : grid0.Coords, k0_cond1 i = 1#1 ↔ (i 1).val = 0 := by decide +kernel
theorem cond2_iff : ∀ i : grid0.Coords, k0_cond2 i = 1#1 ↔ (i 1).val ≠ 0 := by decide +kernel
theorem off4_1 (i : grid0.Coords) (k : Fin (k0_t1_loop i).trips) : k0_off4 i k 1#32 = ![0, 512 * ((1 + 2 * k.val) % 8), 0] := off4_eq i k 0
theorem off4_2 (i : grid0.Coords) (k : Fin (k0_t1_loop i).trips) : k0_off4 i k 2#32 = ![0, 512 * ((2 + 2 * k.val) % 8), 0] := off4_eq i k 1
theorem off4_3 (i : grid0.Coords) (k : Fin (k0_t1_loop i).trips) : k0_off4 i k 3#32 = ![0, 512 * ((3 + 2 * k.val) % 8), 0] := off4_eq i k 2

instance (i : grid0.Coords) (k : Fin (k0_t1_loop i).trips) : ClosedOff (k0_off4 i k 1#32) := ⟨_, off4_1 i k⟩
instance (i : grid0.Coords) (k : Fin (k0_t1_loop i).trips) : ClosedOff (k0_off4 i k 2#32) := ⟨_, off4_2 i k⟩
instance (i : grid0.Coords) (k : Fin (k0_t1_loop i).trips) : ClosedOff (k0_off4 i k 3#32) := ⟨_, off4_3 i k⟩

end Cert.KernelIdeal.Fwd
end
-- ==== Proof.FlashFwdPoint.lean ====
module

public import proofs.«01_k».proof.Proof.FlashFwdSteps
public import Idealize.ShloMosaic.Lib.Exec
public import Idealize.ShloMosaic.Lib.Tactic
public import Idealize.ShloMosaic.Lib.Pipeline.Kit

@[expose] public section

set_option maxRecDepth 16384

noncomputable section

/-! The forward attention kernel's run at one grid point: its buffers before and after, and the state after each trip of its
   loop. -/
namespace Cert.KernelIdeal.Fwd

open Cert.KernelIdeal Cert.KernelIdeal.Gen
open Cert.KernelIdeal.Bwd (rowsAt slot putSlot slot_putSlot slot_putSlot_ne rd_slot wr_slot rd_rows rd_dk wr_dk rd_dv wr_dv slot0 slot1 slot2)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S512x128 .f32) (harg5 : arg5.IsWhole) (arg6 : Memref sig .tc .vmem S1x1x1x512 .f32) (harg6 : arg6.IsWhole) (arg7 : Memref sig .tc .vmem S512x128 .f32) (harg7 : arg7.IsWhole) (arg8 : Memref sig .tc .vmem S512x256 .f32) (harg8 : arg8.IsWhole) (arg9 : Memref sig .tc .vmem S3x512x512 .f32) (harg9 : arg9.IsWhole)
  (i : grid0.Coords) (I : Ins F) (σ : Acc F)

section Trip

variable (h2 : k0_cond2 i = 1#1)

theorem trip (c : Dev nD) (arg1 : BitVec 32) (v49 : FVec F S512x128 .f32) (v64 : FVec F S512x256 .f32) (t : Fin (k0_t1_loop i).trips) (E : Set ℕ) :
    iprop((arg2.view.loc (c : Thread nD τ) ↦[arg2.view.set]{fullShare} arg2.view.rep I.q) ∗ (arg3.view.loc (c : Thread nD τ) ↦[arg3.view.set]{fullShare} arg3.view.rep I.k) ∗ (arg4.view.loc (c : Thread nD τ) ↦[arg4.view.set]{fullShare} arg4.view.rep I.v) ∗ (arg7.view.loc (c : Thread nD τ) ↦[arg7.view.set]{fullShare} arg7.view.rep (σ).m) ∗ (arg8.view.loc (c : Thread nD τ) ↦[arg8.view.set]{fullShare} arg8.view.rep (σ).acc) ∗ (arg9.view.loc (c : Thread nD τ) ↦[arg9.view.set]{fullShare} arg9.view.rep (σ).s))
    ⊢ ((wp frame (wpE (defs₀ (F := F)) Variants.none (c : Thread nD τ) none) E (k0_t1_body (F := F) i arg2 harg2 arg3 harg3 arg4 harg4 arg5 harg5 arg6 harg6 arg7 harg7 arg8 harg8 arg9 harg9 arg1 h2 v49 v64 t PUnit.unit)
      (fun _ => iprop((arg2.view.loc (c : Thread nD τ) ↦[arg2.view.set]{fullShare} arg2.view.rep I.q) ∗ (arg3.view.loc (c : Thread nD τ) ↦[arg3.view.set]{fullShare} arg3.view.rep I.k) ∗ (arg4.view.loc (c : Thread nD τ) ↦[arg4.view.set]{fullShare} arg4.view.rep I.v) ∗ (arg7.view.loc (c : Thread nD τ) ↦[arg7.view.set]{fullShare} arg7.view.rep (tripS I (i 1).val t.val σ).m) ∗ (arg8.view.loc (c : Thread nD τ) ↦[arg8.view.set]{fullShare} arg8.view.rep (tripS I (i 1).val t.val σ).acc) ∗ (arg9.view.loc (c : Thread nD τ) ↦[arg9.view.set]{fullShare} arg9.view.rep (tripS I (i 1).val t.val σ).s)))) : sProp 𝕄) := by
  unfold k0_t1_body
  rw [k0_part2_eq_skeleton, k0_part3_eq_skeleton]
  unfold k0_part2_skel k0_part3_skel
  iintro ⟨H2, H3, H4, H7, H8, H9⟩
  sl_exec
  sl_step
  isplitl [H2]; · iexact H2
  isplitl [H3]; · iexact H3
  isplitl [H4]; · iexact H4
  isplitl [H7]
  iapply (pointsTo_rep_of_read (c : Thread nD τ) arg7 _ fullShare _ ?tm) $$ H7
  rotate_left
  isplitl [H8]
  iapply (pointsTo_rep_of_read (c : Thread nD τ) arg8 _ fullShare _ ?ta) $$ H8
  rotate_left
  iapply (pointsTo_rep_of_read (c : Thread nD τ) arg9 _ fullShare _ ?ts) $$ H9
  all_goals
    sl_unfold_run_names
    simp (disch := decide) only [wr_slot _ _ _ _ slot0, wr_slot _ _ _ _ slot1, wr_slot _ _ _ _ slot2, rd_slot _ _ _ _ slot0, rd_slot _ _ _ _ slot1, rd_slot _ _ _ _ slot2, rd_rows _ _ _ _ block0, rd_rows _ _ _ _ block1, rd_rows _ _ _ _ (off3_eq i), rd_rows _ _ _ _ (off4_1 i t), rd_rows _ _ _ _ (off4_2 i t), rd_rows _ _ _ _ (off4_3 i t), View.read_rep, View.writes_nil, rd_dk, wr_dk, rd_dv, wr_dv, rd_num, rd_den, wr_lse, View.readCov, slot_putSlot, slot_putSlot_ne, tripS, consume, produce]
    rfl

/-- One trip, from the state after `t` trips to the state after `t + 1` trips. -/
theorem trip_step (c : Dev nD) (arg1 : BitVec 32) (v49 : FVec F S512x128 .f32) (v64 : FVec F S512x256 .f32) (t : Fin (k0_t1_loop i).trips) (E : Set ℕ) :
    iprop(∃ ω : Acc F, ⌜ω = tripsS I (i 1).val σ t.val⌝ ∗ (arg2.view.loc (c : Thread nD τ) ↦[arg2.view.set]{fullShare} arg2.view.rep I.q) ∗ (arg3.view.loc (c : Thread nD τ) ↦[arg3.view.set]{fullShare} arg3.view.rep I.k) ∗ (arg4.view.loc (c : Thread nD τ) ↦[arg4.view.set]{fullShare} arg4.view.rep I.v) ∗ (arg7.view.loc (c : Thread nD τ) ↦[arg7.view.set]{fullShare} arg7.view.rep (ω).m) ∗ (arg8.view.loc (c : Thread nD τ) ↦[arg8.view.set]{fullShare} arg8.view.rep (ω).acc) ∗ (arg9.view.loc (c : Thread nD τ) ↦[arg9.view.set]{fullShare} arg9.view.rep (ω).s))
    ⊢ ((wp frame (wpE (defs₀ (F := F)) Variants.none (c : Thread nD τ) none) E (k0_t1_body (F := F) i arg2 harg2 arg3 harg3 arg4 harg4 arg5 harg5 arg6 harg6 arg7 harg7 arg8 harg8 arg9 harg9 arg1 h2 v49 v64 t PUnit.unit)
      (fun _ => iprop(∃ ω : Acc F, ⌜ω = tripsS I (i 1).val σ (t.val + 1)⌝ ∗ (arg2.view.loc (c : Thread nD τ) ↦[arg2.view.set]{fullShare} arg2.view.rep I.q) ∗ (arg3.view.loc (c : Thread nD τ) ↦[arg3.view.set]{fullShare} arg3.view.rep I.k) ∗ (arg4.view.loc (c : Thread nD τ) ↦[arg4.view.set]{fullShare} arg4.view.rep I.v) ∗ (arg7.view.loc (c : Thread nD τ) ↦[arg7.view.set]{fullShare} arg7.view.rep (ω).m) ∗ (arg8.view.loc (c : Thread nD τ) ↦[arg8.view.set]{fullShare} arg8.view.rep (ω).acc) ∗ (arg9.view.loc (c : Thread nD τ) ↦[arg9.view.set]{fullShare} arg9.view.rep (ω).s)))) : sProp 𝕄) := by
  iintro ⟨%ω, %hω, H2, H3, H4, H7, H8, H9⟩
  iapply (wp_wand_r Idealize.ShloMosaic.frame (wpE (defs₀ (F := F)) Variants.none (c : Thread nD τ) none) E)
  isplitl [H2 H3 H4 H7 H8 H9]
  · iapply (trip arg2 harg2 arg3 harg3 arg4 harg4 arg5 harg5 arg6 harg6 arg7 harg7 arg8 harg8 arg9 harg9 i I ω h2 c arg1 v49 v64 t E)
    isplitl [H2]; · iexact H2
    isplitl [H3]; · iexact H3
    isplitl [H4]; · iexact H4
    isplitl [H7]; · iexact H7
    isplitl [H8]; · iexact H8
    iexact H9
  · iintro %_ ⟨H2, H3, H4, H7, H8, H9⟩
    iexists (tripS I (i 1).val t.val ω)
    isplitl []
    · ipureintro; rw [hω]; rfl
    isplitl [H2]; · iexact H2
    isplitl [H3]; · iexact H3
    isplitl [H4]; · iexact H4
    isplitl [H7]; · iexact H7
    isplitl [H8]; · iexact H8
    iexact H9

end Trip

theorem body_first (h1 : k0_cond1 i = 1#1) (h2 : ¬ k0_cond2 i = 1#1) (hn : (i 1).val = 0) (c : Dev nD) (f5 : arg5.view.ty.Contents (Elt F)) (f6 : arg6.view.ty.Contents (Elt F)) (E : Set ℕ) :
    iprop((arg2.view.loc (c : Thread nD τ) ↦[arg2.view.set]{fullShare} arg2.view.rep I.q) ∗ (arg3.view.loc (c : Thread nD τ) ↦[arg3.view.set]{fullShare} arg3.view.rep I.k) ∗ (arg4.view.loc (c : Thread nD τ) ↦[arg4.view.set]{fullShare} arg4.view.rep I.v) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} arg7.view.rep (σ).m) ∗ (arg8.view.loc (c : Thread nD τ) ↦[arg8.view.set]{fullShare} arg8.view.rep (σ).acc) ∗ (arg9.view.loc (c : Thread nD τ) ↦[arg9.view.set]{fullShare} arg9.view.rep (σ).s))
    ⊢ ((wp frame (wpE (defs₀ (F := F)) Variants.none (c : Thread nD τ) none) E (cc0_flash_fwd (F := F) i arg2 harg2 arg3 harg3 arg4 harg4 arg5 harg5 arg6 harg6 arg7 harg7 arg8 harg8 arg9 harg9)
      (fun _ => iprop((arg2.view.loc (c : Thread nD τ) ↦[arg2.view.set]{fullShare} arg2.view.rep I.q) ∗ (arg3.view.loc (c : Thread nD τ) ↦[arg3.view.set]{fullShare} arg3.view.rep I.k) ∗ (arg4.view.loc (c : Thread nD τ) ↦[arg4.view.set]{fullShare} arg4.view.rep I.v) ∗ (arg5.view.loc (c : Thread nD τ) ↦[arg5.view.set]{fullShare} arg5.view.rep (outO (pointFirst I σ))) ∗ (arg6.view.loc (c : Thread nD τ) ↦[arg6.view.set]{fullShare} arg6.view.rep (outL (pointFirst I σ))) ∗ (arg7.view.loc (c : Thread nD τ) ↦[arg7.view.set]{fullShare} arg7.view.rep (pointFirst I σ).m) ∗ (arg8.view.loc (c : Thread nD τ) ↦[arg8.view.set]{fullShare} arg8.view.rep (pointFirst I σ).acc) ∗ (arg9.view.loc (c : Thread nD τ) ↦[arg9.view.set]{fullShare} arg9.view.rep (pointFirst I σ).s)))) : sProp 𝕄) := by
  have o1 : k0_off1 i = ![0, 512 * (1 % 8), 0] := by rw [off1_eq, hn]; rfl
  rw [cc0_flash_fwd_eq_skeleton]
  unfold cc0_flash_fwd_skel
  rw [k0_part11_eq_skeleton]
  unfold k0_part11_skel
  rw [k0_part1_eq_skeleton, k0_part6_eq_skeleton, k0_part7_eq_skeleton, k0_part8_eq_skeleton, k0_part9_eq_skeleton, k0_part10_eq_skeleton]
  unfold k0_part1_skel k0_part6_skel k0_part7_skel k0_part8_skel k0_part9_skel
  iintro ⟨H2, H3, H4, H5, H6, H7, H8, H9⟩
  sl_exec
  sl_step
  isplitl [H2]; · iexact H2
  isplitl [H3]; · iexact H3
  isplitl [H4]; · iexact H4
  isplitl [H5]
  iapply (pointsTo_rep_of_read (c : Thread nD τ) arg5 _ fullShare _ ?fo) $$ H5
  rotate_left
  isplitl [H6]
  iapply (pointsTo_rep_of_read (c : Thread nD τ) arg6 _ fullShare _ ?fl) $$ H6
  rotate_left
  isplitl [H7]
  iapply (pointsTo_rep_of_read (c : Thread nD τ) arg7 _ fullShare _ ?fm) $$ H7
  rotate_left
  isplitl [H8]
  iapply (pointsTo_rep_of_read (c : Thread nD τ) arg8 _ fullShare _ ?fa) $$ H8
  rotate_left
  iapply (pointsTo_rep_of_read (c : Thread nD τ) arg9 _ fullShare _ ?fs) $$ H9
  all_goals
    sl_unfold_run_names
    simp (disch := decide) only [wr_slot _ _ _ _ slot0, wr_slot _ _ _ _ slot1, wr_slot _ _ _ _ slot2, rd_slot _ _ _ _ slot0, rd_slot _ _ _ _ slot1, rd_slot _ _ _ _ slot2, rd_rows _ _ _ _ block0, rd_rows _ _ _ _ block1, rd_rows _ _ _ _ (o1), View.read_rep, View.writes_nil, rd_dk, wr_dk, rd_dv, wr_dv, rd_num, rd_den, wr_lse, View.readCov, slot_putSlot, slot_putSlot_ne, outO, outL, pointFirst, consumeD, produce, clear]
    rfl

set_option maxHeartbeats 1000000 in
theorem body_later (h1 : ¬ k0_cond1 i = 1#1) (h2 : k0_cond2 i = 1#1) (c : Dev nD) (f5 : arg5.view.ty.Contents (Elt F)) (f6 : arg6.view.ty.Contents (Elt F)) (E : Set ℕ) :
    iprop((arg2.view.loc (c : Thread nD τ) ↦[arg2.view.set]{fullShare} arg2.view.rep I.q) ∗ (arg3.view.loc (c : Thread nD τ) ↦[arg3.view.set]{fullShare} arg3.view.rep I.k) ∗ (arg4.view.loc (c : Thread nD τ) ↦[arg4.view.set]{fullShare} arg4.view.rep I.v) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} arg7.view.rep (σ).m) ∗ (arg8.view.loc (c : Thread nD τ) ↦[arg8.view.set]{fullShare} arg8.view.rep (σ).acc) ∗ (arg9.view.loc (c : Thread nD τ) ↦[arg9.view.set]{fullShare} arg9.view.rep (σ).s))
    ⊢ ((wp frame (wpE (defs₀ (F := F)) Variants.none (c : Thread nD τ) none) E (cc0_flash_fwd (F := F) i arg2 harg2 arg3 harg3 arg4 harg4 arg5 harg5 arg6 harg6 arg7 harg7 arg8 harg8 arg9 harg9)
      (fun _ => iprop((arg2.view.loc (c : Thread nD τ) ↦[arg2.view.set]{fullShare} arg2.view.rep I.q) ∗ (arg3.view.loc (c : Thread nD τ) ↦[arg3.view.set]{fullShare} arg3.view.rep I.k) ∗ (arg4.view.loc (c : Thread nD τ) ↦[arg4.view.set]{fullShare} arg4.view.rep I.v) ∗ (arg5.view.loc (c : Thread nD τ) ↦[arg5.view.set]{fullShare} arg5.view.rep (outO (pointLater I (i 1).val σ))) ∗ (arg6.view.loc (c : Thread nD τ) ↦[arg6.view.set]{fullShare} arg6.view.rep (outL (pointLater I (i 1).val σ))) ∗ (arg7.view.loc (c : Thread nD τ) ↦[arg7.view.set]{fullShare} arg7.view.rep (pointLater I (i 1).val σ).m) ∗ (arg8.view.loc (c : Thread nD τ) ↦[arg8.view.set]{fullShare} arg8.view.rep (pointLater I (i 1).val σ).acc) ∗ (arg9.view.loc (c : Thread nD τ) ↦[arg9.view.set]{fullShare} arg9.view.rep (pointLater I (i 1).val σ).s)))) : sProp 𝕄) := by
  rw [cc0_flash_fwd_eq_skeleton]
  unfold cc0_flash_fwd_skel
  rw [k0_part11_eq_skeleton]
  unfold k0_part11_skel
  rw [k0_part1_eq_skeleton, k0_part6_eq_skeleton, k0_part7_eq_skeleton, k0_part8_eq_skeleton, k0_part9_eq_skeleton, k0_part10_eq_skeleton]
  unfold k0_part1_skel k0_part6_skel k0_part7_skel k0_part8_skel k0_part9_skel
  iintro ⟨H2, H3, H4, H5, H6, H7, H8, H9⟩
  sl_exec
  ihave G7 := (pointsTo_rep_of_read (c : Thread nD τ) arg7 _ fullShare (consume I 0 2 (produce I (i 1).val 1 1 (clear σ))).m ?rm) $$ H7
  rotate_left
  ihave G8 := (pointsTo_rep_of_read (c : Thread nD τ) arg8 _ fullShare (consume I 0 2 (produce I (i 1).val 1 1 (clear σ))).acc ?ra) $$ H8
  rotate_left
  ihave G9 := (pointsTo_rep_of_read (c : Thread nD τ) arg9 _ fullShare (consume I 0 2 (produce I (i 1).val 1 1 (clear σ))).s ?rs) $$ H9
  rotate_left
  sl_for (fun (k : ℕ) (_ : Unit) => iprop(∃ ω : Acc F, ⌜ω = tripsS I (i 1).val (consume I 0 2 (produce I (i 1).val 1 1 (clear σ))) k⌝ ∗ (arg2.view.loc (c : Thread nD τ) ↦[arg2.view.set]{fullShare} arg2.view.rep I.q) ∗ (arg3.view.loc (c : Thread nD τ) ↦[arg3.view.set]{fullShare} arg3.view.rep I.k) ∗ (arg4.view.loc (c : Thread nD τ) ↦[arg4.view.set]{fullShare} arg4.view.rep I.v) ∗ (arg7.view.loc (c : Thread nD τ) ↦[arg7.view.set]{fullShare} arg7.view.rep (ω).m) ∗ (arg8.view.loc (c : Thread nD τ) ↦[arg8.view.set]{fullShare} arg8.view.rep (ω).acc) ∗ (arg9.view.loc (c : Thread nD τ) ↦[arg9.view.set]{fullShare} arg9.view.rep (ω).s))) $$ [H2 H3 H4 G7 G8 G9]
  case region =>
    intro k _
    exact trip_step arg2 harg2 arg3 harg3 arg4 harg4 arg5 harg5 arg6 harg6 arg7 harg7 arg8 harg8 arg9 harg9 i I (consume I 0 2 (produce I (i 1).val 1 1 (clear σ))) h2 c 0 σ.m σ.acc k E
  iexists (consume I 0 2 (produce I (i 1).val 1 1 (clear σ)))
  isplitl []
  · ipureintro; rfl
  isplitl [H2]; · iexact H2
  isplitl [H3]; · iexact H3
  isplitl [H4]; · iexact H4
  isplitl [G7]; · iexact G7
  isplitl [G8]; · iexact G8
  iexact G9
  iintro %_ ⟨%ω, %hω, H2, H3, H4, H7, H8, H9⟩
  have hr : pointRun I (i 1).val σ = ω := by
    rw [hω, pointRun, ← trips1 i h2]
  by_cases h3 : k0_cond3 i = 1#1
  · have h4 : ¬ k0_cond4 i = 1#1 := cond4_of_cond3 i h3
    have hp : pointLater I (i 1).val σ = pointOdd I (i 1).val σ := if_pos ((odd_iff i).mp h3)
    sl_exec
    sl_for0 (trips2 i)
    sl_exec
    sl_step
    isplitl [H2]; · iexact H2
    isplitl [H3]; · iexact H3
    isplitl [H4]; · iexact H4
    isplitl [H5]
    iapply (pointsTo_rep_of_read (c : Thread nD τ) arg5 _ fullShare _ ?xo) $$ H5
    rotate_left
    isplitl [H6]
    iapply (pointsTo_rep_of_read (c : Thread nD τ) arg6 _ fullShare _ ?xl) $$ H6
    rotate_left
    isplitl [H7]
    iapply (pointsTo_rep_of_read (c : Thread nD τ) arg7 _ fullShare _ ?xm) $$ H7
    rotate_left
    isplitl [H8]
    iapply (pointsTo_rep_of_read (c : Thread nD τ) arg8 _ fullShare _ ?xa) $$ H8
    rotate_left
    iapply (pointsTo_rep_of_read (c : Thread nD τ) arg9 _ fullShare _ ?xs) $$ H9
    all_goals
      sl_unfold_run_names
      simp (disch := decide) only [wr_slot _ _ _ _ slot0, wr_slot _ _ _ _ slot1, wr_slot _ _ _ _ slot2, rd_slot _ _ _ _ slot0, rd_slot _ _ _ _ slot1, rd_slot _ _ _ _ slot2, rd_rows _ _ _ _ block0, rd_rows _ _ _ _ block1, rd_rows _ _ _ _ (off7_eq i), rd_rows _ _ _ _ (off8_eq i), View.read_rep, View.writes_nil, rd_dk, wr_dk, rd_dv, wr_dv, rd_num, rd_den, wr_lse, View.readCov, slot_putSlot, slot_putSlot_ne, outO, outL, hr, hp, pointOdd, consumeD, produce]
      rfl
  · have h4 : k0_cond4 i = 1#1 := cond4_of_not_cond3 i h3
    have hp : pointLater I (i 1).val σ = pointEven I (i 1).val σ := if_neg fun h => h3 ((odd_iff i).mpr h)
    sl_exec
    sl_for0 (trips2 i)
    sl_exec
    sl_step
    isplitl [H2]; · iexact H2
    isplitl [H3]; · iexact H3
    isplitl [H4]; · iexact H4
    isplitl [H5]
    iapply (pointsTo_rep_of_read (c : Thread nD τ) arg5 _ fullShare _ ?yo) $$ H5
    rotate_left
    isplitl [H6]
    iapply (pointsTo_rep_of_read (c : Thread nD τ) arg6 _ fullShare _ ?yl) $$ H6
    rotate_left
    isplitl [H7]
    iapply (pointsTo_rep_of_read (c : Thread nD τ) arg7 _ fullShare _ ?ym) $$ H7
    rotate_left
    isplitl [H8]
    iapply (pointsTo_rep_of_read (c : Thread nD τ) arg8 _ fullShare _ ?ya) $$ H8
    rotate_left
    iapply (pointsTo_rep_of_read (c : Thread nD τ) arg9 _ fullShare _ ?ys) $$ H9
    all_goals
      sl_unfold_run_names
      simp (disch := decide) only [wr_slot _ _ _ _ slot0, wr_slot _ _ _ _ slot1, wr_slot _ _ _ _ slot2, rd_slot _ _ _ _ slot0, rd_slot _ _ _ _ slot1, rd_slot _ _ _ _ slot2, rd_rows _ _ _ _ block0, rd_rows _ _ _ _ block1, rd_rows _ _ _ _ (off9_eq i), rd_rows _ _ _ _ (off10_eq i h2), rd_rows _ _ _ _ (off11_eq i), rd_rows _ _ _ _ (off8_eq i), View.read_rep, View.writes_nil, rd_dk, wr_dk, rd_dv, wr_dv, rd_num, rd_den, wr_lse, View.readCov, slot_putSlot, slot_putSlot_ne, outO, outL, hr, hp, pointEven, consumeD, produce, consume]
      rfl
  all_goals
    sl_unfold_run_names
    simp (disch := decide) only [wr_slot _ _ _ _ slot0, wr_slot _ _ _ _ slot1, wr_slot _ _ _ _ slot2, rd_slot _ _ _ _ slot0, rd_slot _ _ _ _ slot1, rd_slot _ _ _ _ slot2, rd_rows _ _ _ _ block0, rd_rows _ _ _ _ block1, rd_rows _ _ _ _ (off2_eq i), View.read_rep, View.writes_nil, rd_dk, wr_dk, rd_dv, wr_dv, rd_num, rd_den, wr_lse, View.readCov, slot_putSlot, slot_putSlot_ne, consume, produce, clear]
    try rfl

end Cert.KernelIdeal.Fwd
end
-- ==== Proof.FlashFwdOnline.lean ====
module

public import proofs.«01_k».proof.Proof.FlashFwdSteps

@[expose] public section

set_option maxRecDepth 16384

noncomputable section

/-! The forward kernel's grid point without its buffer of scores: the running maximum and sums over the key blocks, in
   order. A point leaves that, and finds the scores of its first key block in slot 2, where the point before put them. -/
namespace Cert.KernelIdeal.Fwd

open Cert.KernelIdeal Cert.KernelIdeal.Gen
open Cert.KernelIdeal.Bwd (rowsAt slot putSlot slot_putSlot slot_putSlot_ne)
open Idealize.ShloMosaic

variable {F : FTy → Type} [FloatOps F] [Named F]

/-- The running maximum and the running sums. -/
@[ext] structure Sums (F : FTy → Type) where
  m : Vec F S512x128 .f32
  acc : Vec F S512x256 .f32

def Acc.sums (σ : Acc F) : Sums F := ⟨σ.m, σ.acc⟩

/-- The scores of query block `r` and key block `j`. -/
def score (I : Ins F) (r j : ℕ) : Vec F S1x512x512 .f32 := k0_pay2 (rowsAt I.q r) (rowsAt I.k j)

/-- One block of scores taken in. -/
def step (s : Vec F S1x512x512 .f32) (v : Vec F S1x512x256 .bf16) (x : Sums F) : Sums F where
  m := k0_pay49 (k0_pay46 s x.m)
  acc := k0_pay48 (k0_pay47 s x.m x.acc v)

/-- The block on the diagonal taken in. -/
def stepD (s : Vec F S1x512x512 .f32) (v : Vec F S1x512x256 .bf16) (x : Sums F) : Sums F where
  m := k0_pay52 (k0_pay40 s) x.m
  acc := k0_pay51 (k0_pay40 s) x.m x.acc v

/-- The first `j` key blocks, all before the diagonal. -/
def online (I : Ins F) (r : ℕ) : ℕ → Sums F
  | 0 => ⟨k0_pay56, k0_pay57⟩
  | j + 1 => step (score I r j) (rowsAt I.v j) (online I r j)

/-- All the key blocks query block `r` meets. -/
def total (I : Ins F) (r : ℕ) : Sums F := stepD (score I r r) (rowsAt I.v r) (online I r r)

variable (I : Ins F)

theorem produce_sums (r j t : ℕ) (σ : Acc F) : (produce I r j t σ).sums = σ.sums := rfl
theorem produce_slot (r j t : ℕ) (σ : Acc F) : slot (produce I r j t σ).s t = score I r j := slot_putSlot _ _ _
theorem produce_slot_ne (r j t t' : ℕ) (σ : Acc F) (h : t % 3 ≠ t' % 3) : slot (produce I r j t σ).s t' = slot σ.s t' := slot_putSlot_ne _ _ _ _ h
theorem consume_slot (j t t' : ℕ) (σ : Acc F) : slot (consume I j t σ).s t' = slot σ.s t' := rfl
theorem consumeD_slot (j t t' : ℕ) (σ : Acc F) : slot (consumeD I j t σ).s t' = slot σ.s t' := rfl
theorem consume_sums (r j t : ℕ) (σ : Acc F) (h : slot σ.s t = score I r j) (hs : σ.sums = online I r j) :
    (consume I j t σ).sums = online I r (j + 1) := by
  rw [online, ← hs, ← h]; rfl
theorem consumeD_sums (r t : ℕ) (σ : Acc F) (h : slot σ.s t = score I r r) (hs : σ.sums = online I r r) :
    (consumeD I r t σ).sums = total I r := by
  rw [total, ← hs, ← h]; rfl
theorem clear_sums (r : ℕ) (σ : Acc F) : (clear σ).sums = online I r 0 := rfl
theorem clear_slot (t : ℕ) (σ : Acc F) : slot (clear σ).s t = slot σ.s t := rfl

theorem tripS_spec (i t : ℕ) (σ : Acc F) (hs : σ.sums = online I i (1 + 2 * t)) (h1 : slot σ.s 1 = score I i (1 + 2 * t)) :
    (tripS I i t σ).sums = online I i (1 + 2 * (t + 1)) ∧ slot (tripS I i t σ).s 1 = score I i (1 + 2 * (t + 1)) := by
  unfold tripS
  rw [show 1 + 2 * (t + 1) = 2 + 2 * t + 1 from by omega]
  constructor
  · refine consume_sums I i (2 + 2 * t) 0 _ ?_ ?_
    · rw [produce_slot_ne _ _ _ _ _ _ (by decide), consume_slot, produce_slot]
    · rw [produce_sums, consume_sums I i (1 + 2 * t) 1 _ _ (by rw [produce_sums, hs])]
      · congr 1; omega
      · rw [produce_slot_ne _ _ _ _ _ _ (by decide), h1]
  · rw [consume_slot, produce_slot]; congr 1; omega

theorem tripsS_spec (i : ℕ) (σ : Acc F) (hs : σ.sums = online I i 1) (h1 : slot σ.s 1 = score I i 1) :
    ∀ t, (tripsS I i σ t).sums = online I i (1 + 2 * t) ∧ slot (tripsS I i σ t).s 1 = score I i (1 + 2 * t)
  | 0 => ⟨hs, h1⟩
  | t + 1 => tripS_spec I i t _ (tripsS_spec i σ hs h1 t).1 (tripsS_spec i σ hs h1 t).2

theorem pointRun_spec (i : ℕ) (σ : Acc F) (h : slot σ.s 2 = score I i 0) :
    (pointRun I i σ).sums = online I i (1 + 2 * ((i - 1) / 2)) ∧ slot (pointRun I i σ).s 1 = score I i (1 + 2 * ((i - 1) / 2)) := by
  refine tripsS_spec I i _ (consume_sums I i 0 2 _ ?_ ?_) ?_ _
  · rw [produce_slot_ne _ _ _ _ _ _ (by decide), clear_slot, h]
  · rw [produce_sums, clear_sums I i]
  · rw [consume_slot, produce_slot]

/-- The first point of a head leaves its block's sums, and the scores the second point starts from. -/
theorem pointFirst_spec (σ : Acc F) : (pointFirst I σ).sums = total I 0 ∧ slot (pointFirst I σ).s 2 = score I 1 0 := by
  refine ⟨?_, produce_slot _ _ _ _ _⟩
  rw [pointFirst, produce_sums]
  exact consumeD_sums I 0 2 _ (produce_slot _ _ _ _ _) (by rw [produce_sums, clear_sums I 0])

/-- A later point leaves its block's sums, and the scores the next point starts from. -/
theorem pointLater_spec (i : ℕ) (hi : 0 < i) (σ : Acc F) (h : slot σ.s 2 = score I i 0) :
    (pointLater I i σ).sums = total I i ∧ slot (pointLater I i σ).s 2 = score I (min (i + 1) 7) 0 := by
  obtain ⟨hs, h1⟩ := pointRun_spec I i σ h
  unfold pointLater
  split
  next hodd =>
    have e : 1 + 2 * ((i - 1) / 2) = i := by omega
    rw [e] at hs h1
    refine ⟨consumeD_sums I i 1 _ ?_ ?_, ?_⟩
    · rw [produce_slot_ne _ _ _ _ _ _ (by decide), h1]
    · rw [produce_sums, hs]
    · rw [pointOdd, consumeD_slot, produce_slot]
  next heven =>
    have e : 1 + 2 * ((i - 1) / 2) = i - 1 := by omega
    rw [e] at hs h1
    refine ⟨consumeD_sums I i 0 _ ?_ ?_, ?_⟩
    · rw [produce_slot_ne _ _ _ _ _ _ (by decide), consume_slot, produce_slot]
    · rw [produce_sums, consume_sums I i (i - 1) 1 _ _ (by rw [produce_sums, hs])]
      · congr 1; omega
      · rw [produce_slot_ne _ _ _ _ _ _ (by decide), h1]
    · rw [pointEven, consumeD_slot, produce_slot]

end Cert.KernelIdeal.Fwd
end
-- ==== Proof.FlashFwdDat.lean ====
module

public import proofs.«01_k».proof.Proof.FlashFwdPoint
public import proofs.«01_k».proof.Proof.FlashFwdOnline
public import proofs.«01_k».proof.Proof.Gen.KernelIdeal.Regions
public import Idealize.ShloMosaic.Lib.Pipeline.TableIdle
public import proofs.«01_k».proof.Proof.Gen.KernelIdeal.Points

@[expose] public section

set_option maxRecDepth 16384

noncomputable section

/-! The forward attention kernel over its whole grid: what each window and the carried scratch hold from point to point. -/
namespace Cert.KernelIdeal.Fwd

open Cert.KernelIdeal Cert.KernelIdeal.Gen
open Cert.KernelIdeal.Bwd (slot)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (V : Dev nD → Valuation τ sig (Elt F))

/-- Window `w`'s block of its array at point `t`. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first point of the head that point `n` belongs to. -/
def headPt (n : ℕ) : Fin cfg0.N := ⟨min n 63 / 8 * 8, lt_of_lt_of_eq (by omega) N_0.symm⟩

/-- What point `n` reads: its head's queries, keys and values. -/
def ins (c : Dev nD) (n : ℕ) : Ins F := ⟨blk V c 0 (headPt n), blk V c 1 (headPt n), blk V c 2 (headPt n)⟩

theorem headPt_succ (n : ℕ) (h : (n + 1) % 8 ≠ 0) : headPt (n + 1) = headPt n := Fin.ext (by simp only [headPt]; omega)

theorem ins_succ (c : Dev nD) (n : ℕ) (h : (n + 1) % 8 ≠ 0) : ins V c (n + 1) = ins V c n := by unfold ins; rw [headPt_succ n h]

theorem coord : ∀ t : Fin cfg0.N, ((grid0.coords t) 1).val = t.val % 8 := (by decide +kernel : ∀ t : Fin grid0.N, ((grid0.coords t) 1).val = t.val % 8)
theorem index0 : ∀ t : Fin cfg0.N, (cfg0.win 0).index t = (cfg0.win 0).index (headPt t.val) := (by decide +kernel : ∀ t : Fin grid0.N, win0_0.index t = win0_0.index (headPt t.val))
theorem index1 : ∀ t : Fin cfg0.N, (cfg0.win 1).index t = (cfg0.win 1).index (headPt t.val) := (by decide +kernel : ∀ t : Fin grid0.N, win0_1.index t = win0_1.index (headPt t.val))
theorem index2 : ∀ t : Fin cfg0.N, (cfg0.win 2).index t = (cfg0.win 2).index (headPt t.val) := (by decide +kernel : ∀ t : Fin grid0.N, win0_2.index t = win0_2.index (headPt t.val))

/-- The block of outputs. -/
def Sums.o (x : Sums F) : Vec F S512x128 .f32 := k0_pay65 (den x.acc) (num x.acc)

/-- The block of log-sum-exps. -/
def Sums.l (x : Sums F) : Vec F S1x1x1x512 .f32 := k0_pay1 (k0_pay66 (den x.acc) x.m)

/-- The scratch before point `n`: held whole, its slot 2 with the scores the point starts from unless it opens a head. -/
def Φ (c : Dev nD) (n : ℕ) : sProp 𝕄 :=
  iprop(∃ σ : Acc F, ⌜n % 8 ≠ 0 → slot σ.s 2 = score (ins V c n) (n % 8) 0⌝
    ∗ owns (c : Thread nD τ) (Memref.whole cc0_scratch0) fullShare σ.m ∗ owns (c : Thread nD τ) (Memref.whole cc0_scratch1) fullShare σ.acc
    ∗ owns (c : Thread nD τ) (Memref.whole cc0_scratch2) fullShare σ.s
    ∗ Pipeline.scopedRestBut (Ix := Unit) (Name := ℕ) (U := UR sig nD τ) (Lvl := ℕ) (Val := Elt F) spec0 c [cc0_scratch0, cc0_scratch1, cc0_scratch2])

/-- The region's contents point by point: each input at its head's block, the two outputs at their closed forms. -/
def dat (c : Dev nD) : Dat τ (Elt F) Unit ℕ (UR sig nD τ) ℕ cfg0 c where
  A w := V c (Pipeline.arrRef spec0 w)
  after w t := match w with
    | ⟨0, _⟩ => (ins V c t.val).q
    | ⟨1, _⟩ => (ins V c t.val).k
    | ⟨2, _⟩ => (ins V c t.val).v
    | ⟨3, _⟩ => (total (ins V c t.val) (t.val % 8)).o
    | ⟨4, _⟩ => (total (ins V c t.val) (t.val % 8)).l
  Φ t := Φ V c t.val
  q _ := fullShare
  owed _ := 0

theorem after0 (c : Dev nD) (t : Fin cfg0.N) : (dat V c).after 0 t = (ins V c t.val).q := by dsimp only [dat]
theorem after1 (c : Dev nD) (t : Fin cfg0.N) : (dat V c).after 1 t = (ins V c t.val).k := by dsimp only [dat]
theorem after2 (c : Dev nD) (t : Fin cfg0.N) : (dat V c).after 2 t = (ins V c t.val).v := by dsimp only [dat]
theorem after3 (c : Dev nD) (t : Fin cfg0.N) : (dat V c).after 3 t = (total (ins V c t.val) (t.val % 8)).o := by dsimp only [dat]
theorem after4 (c : Dev nD) (t : Fin cfg0.N) : (dat V c).after 4 t = (total (ins V c t.val) (t.val % 8)).l := by dsimp only [dat]

theorem fetched0 (c : Dev nD) (t : Fin cfg0.N) (d) : (dat V c).fetched 0 t d = (ins V c t.val).q := (dat V c).fetched_congr 0 (index0 t) rfl d
theorem fetched1 (c : Dev nD) (t : Fin cfg0.N) (d) : (dat V c).fetched 1 t d = (ins V c t.val).k := (dat V c).fetched_congr 1 (index1 t) rfl d
theorem fetched2 (c : Dev nD) (t : Fin cfg0.N) (d) : (dat V c).fetched 2 t d = (ins V c t.val).v := (dat V c).fetched_congr 2 (index2 t) rfl d

theorem before0 (c : Dev nD) (t : Fin cfg0.N) (d) : (dat V c).before 0 t d = (ins V c t.val).q :=
  ((dat V c).before_in_eq_fetched 0 rfl (fun _ => rfl) (fun _ _ _ => rfl) (fun t => (after0 V c t).trans (fetched0 V c t (fun _ => Classical.arbitrary _)).symm) t d).trans (fetched0 V c t d)
theorem before1 (c : Dev nD) (t : Fin cfg0.N) (d) : (dat V c).before 1 t d = (ins V c t.val).k :=
  ((dat V c).before_in_eq_fetched 1 rfl (fun _ => rfl) (fun _ _ _ => rfl) (fun t => (after1 V c t).trans (fetched1 V c t (fun _ => Classical.arbitrary _)).symm) t d).trans (fetched1 V c t d)
theorem before2 (c : Dev nD) (t : Fin cfg0.N) (d) : (dat V c).before 2 t d = (ins V c t.val).v :=
  ((dat V c).before_in_eq_fetched 2 rfl (fun _ => rfl) (fun _ _ _ => rfl) (fun t => (after2 V c t).trans (fetched2 V c t (fun _ => Classical.arbitrary _)).symm) t d).trans (fetched2 V c t d)

/-- What the kernel is called with at point `t`, and what it returns. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d)) ∗ (∃ d, owns (c : Thread nD τ) (st0_1 t) fullShare ((dat V c).before 1 t d))
    ∗ (∃ d, owns (c : Thread nD τ) (st0_2 t) fullShare ((dat V c).before 2 t d)) ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t) ∗ owns (c : Thread nD τ) (st0_1 t) fullShare ((dat V c).after 1 t)
    ∗ owns (c : Thread nD τ) (st0_2 t) fullShare ((dat V c).after 2 t) ∗ owns (c : Thread nD τ) (st0_3 t) fullShare ((dat V c).after 3 t)
    ∗ owns (c : Thread nD τ) (st0_4 t) fullShare ((dat V c).after 4 t))

set_option maxHeartbeats 1600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).Φ t.castSucc = Φ V c t.val from rfl, show (dat V c).Φ t.succ = Φ V c (t.val + 1) from rfl,
    show (dat V c).owesAt () t.succ = (dat V c).owesAt () t.castSucc from rfl, after0, after1, after2, after3, after4]
  have hc := coord t
  unfold Φ
  simp only [owns_eq_rep]
  by_cases h0 : t.val % 8 = 0
  · have n0 : ((grid0.coords t) 1).val = 0 := hc.trans h0
    iintro ⟨⟨%σ, -, Hm, Ha, Hs, HR⟩, Ho, ⟨%d0, H0⟩, ⟨%d1, H1⟩, ⟨%d2, H2⟩, ⟨%d3, H3⟩, ⟨%d4, H4⟩⟩
    iapply (wp_wand_r _ _ _)
    isplitl [Hm Ha Hs H0 H1 H2 H3 H4]
    · iapply (body_first _ _ _ _ _ _ _ _ _ _ _ _ _ _ _ _ (grid0.coords t) (ins V c t.val) σ ((cond1_iff _).mpr n0) (fun h => (cond2_iff _).mp h n0) n0 c _ _ Set.univ)
      isplitl [H0]; · iexact H0
      isplitl [H1]; · iexact H1
      isplitl [H2]; · iexact H2
      isplitl [H3]; · iexact H3
      isplitl [H4]; · iexact H4
      isplitl [Hm]; · iexact Hm
      isplitl [Ha]; · iexact Ha
      iexact Hs
    iintro %u ⟨H0, H1, H2, H3, H4, Hm, Ha, Hs⟩
    obtain ⟨hs, hn⟩ := pointFirst_spec (ins V c t.val) σ
    rw [h0, ← hs]
    isplitl [Hm Ha Hs HR]
    · iexists (pointFirst (ins V c t.val) σ)
      isplitr
      · ipureintro; intro h; rw [hn, show (t.val + 1) % 8 = 1 from by omega]; rw [ins_succ V c _ h]
      isplitl [Hm]; · iexact Hm
      isplitl [Ha]; · iexact Ha
      isplitl [Hs]; · iexact Hs
      iexact HR
    isplitl [Ho]; · iexact Ho
    isplitl [H0]; · iexact H0
    isplitl [H1]; · iexact H1
    isplitl [H2]; · iexact H2
    isplitl [H3]; · iexact H3
    iexact H4
  · have n0 : ((grid0.coords t) 1).val ≠ 0 := fun h => h0 (hc.symm.trans h)
    iintro ⟨⟨%σ, %hσ, Hm, Ha, Hs, HR⟩, Ho, ⟨%d0, H0⟩, ⟨%d1, H1⟩, ⟨%d2, H2⟩, ⟨%d3, H3⟩, ⟨%d4, H4⟩⟩
    iapply (wp_wand_r _ _ _)
    isplitl [Hm Ha Hs H0 H1 H2 H3 H4]
    · iapply (body_later _ _ _ _ _ _ _ _ _ _ _ _ _ _ _ _ (grid0.coords t) (ins V c t.val) σ (fun h => n0 ((cond1_iff _).mp h)) ((cond2_iff _).mpr n0) c _ _ Set.univ)
      isplitl [H0]; · iexact H0
      isplitl [H1]; · iexact H1
      isplitl [H2]; · iexact H2
      isplitl [H3]; · iexact H3
      isplitl [H4]; · iexact H4
      isplitl [Hm]; · iexact Hm
      isplitl [Ha]; · iexact Ha
      iexact Hs
    iintro %u ⟨H0, H1, H2, H3, H4, Hm, Ha, Hs⟩
    rw [hc]
    obtain ⟨hs, hn⟩ := pointLater_spec (ins V c t.val) (t.val % 8) (Nat.pos_of_ne_zero h0) σ (hσ h0)
    rw [← hs]
    isplitl [Hm Ha Hs HR]
    · iexists (pointLater (ins V c t.val) (t.val % 8) σ)
      isplitr
      · ipureintro; intro h; rw [hn, show (t.val + 1) % 8 = min (t.val % 8 + 1) 7 from by omega]; rw [ins_succ V c _ h]
      isplitl [Hm]; · iexact Hm
      isplitl [Ha]; · iexact Ha
      isplitl [Hs]; · iexact Hs
      iexact HR
    isplitl [Ho]; · iexact Ho
    isplitl [H0]; · iexact H0
    isplitl [H1]; · iexact H1
    isplitl [H2]; · iexact H2
    isplitl [H3]; · iexact H3
    iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.KernelIdeal.Fwd
end
-- ==== Proof.FlashTrip.lean ====
module

public import proofs.«01_k».proof.Proof.FlashSteps
public import proofs.«01_k».proof.Proof.Gen.KernelIdeal.Loops

@[expose] public section

set_option maxRecDepth 16384

noncomputable section

/-! One trip of the backward kernel's counted loop, and the loop's invariant: after `t` trips the carried buffers hold what
   `tripsS` says. -/
namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (arg2 : Memref sig .tc .vmem S1x4096x256 .bf16) (harg2 : arg2.IsWhole) (arg3 : Memref sig .tc .vmem S4096x128 .bf16) (harg3 : arg3.IsWhole) (arg4 : Memref sig .tc .vmem S1x8x1x512 .f32) (harg4 : arg4.IsWhole) (arg5 : Memref sig .tc .vmem S1x8x1x512 .f32) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x4096x256 .f32) (harg8 : arg8.IsWhole) (arg9 : Memref sig .tc .vmem S1x512x256 .f32) (harg9 : arg9.IsWhole) (arg10 : Memref sig .tc .vmem S1x512x128 .f32) (harg10 : arg10.IsWhole) (arg11 : Memref sig .tc .vmem S512x256 .f32) (harg11 : arg11.IsWhole) (arg12 : Memref sig .tc .vmem S512x128 .f32) (harg12 : arg12.IsWhole) (arg13 : Memref sig .tc .vmem S3x512x512 .f32) (harg13 : arg13.IsWhole) (arg14 : Memref sig .tc .vmem S3x512x512 .f32) (harg14 : arg14.IsWhole)
variable (i : grid1.Coords) (h3 : k1_cond3 i = 1#1) (I : Ins F) (σ : Acc F)

theorem trip (c : Dev nD) (arg1 v0 : BitVec 32) (v97 : FVec F S512x256 .f32) (t : Fin (k1_t1_loop i).trips) (E : Set ℕ) :
    iprop((arg2.view.loc (c : Thread nD τ) ↦[arg2.view.set]{fullShare} arg2.view.rep I.q) ∗ (arg3.view.loc (c : Thread nD τ) ↦[arg3.view.set]{fullShare} arg3.view.rep I.o) ∗ (arg4.view.loc (c : Thread nD τ) ↦[arg4.view.set]{fullShare} arg4.view.rep I.l) ∗ (arg5.view.loc (c : Thread nD τ) ↦[arg5.view.set]{fullShare} arg5.view.rep I.d) ∗ (arg6.view.loc (c : Thread nD τ) ↦[arg6.view.set]{fullShare} arg6.view.rep I.k) ∗ (arg7.view.loc (c : Thread nD τ) ↦[arg7.view.set]{fullShare} arg7.view.rep I.v) ∗ (arg8.view.loc (c : Thread nD τ) ↦[arg8.view.set]{fullShare} arg8.view.rep (σ).dq) ∗ (arg11.view.loc (c : Thread nD τ) ↦[arg11.view.set]{fullShare} arg11.view.rep (σ).dk) ∗ (arg12.view.loc (c : Thread nD τ) ↦[arg12.view.set]{fullShare} arg12.view.rep (σ).dv) ∗ (arg13.view.loc (c : Thread nD τ) ↦[arg13.view.set]{fullShare} arg13.view.rep (σ).st) ∗ (arg14.view.loc (c : Thread nD τ) ↦[arg14.view.set]{fullShare} arg14.view.rep (σ).dp))
    ⊢ (wp frame (wpE (defs₀ (F := F)) Variants.none (c : Thread nD τ) none) E (k1_t1_body (F := F) i arg2 harg2 arg3 harg3 arg4 harg4 arg5 harg5 arg6 harg6 arg7 harg7 arg8 harg8 arg9 harg9 arg10 harg10 arg11 harg11 arg12 harg12 arg13 harg13 arg14 harg14 arg1 v0 (k1_pay76 (rowsAt I.k (7 - (i 1).val))) h3 v97 t PUnit.unit)
      (fun _ => iprop((arg2.view.loc (c : Thread nD τ) ↦[arg2.view.set]{fullShare} arg2.view.rep I.q) ∗ (arg3.view.loc (c : Thread nD τ) ↦[arg3.view.set]{fullShare} arg3.view.rep I.o) ∗ (arg4.view.loc (c : Thread nD τ) ↦[arg4.view.set]{fullShare} arg4.view.rep I.l) ∗ (arg5.view.loc (c : Thread nD τ) ↦[arg5.view.set]{fullShare} arg5.view.rep I.d) ∗ (arg6.view.loc (c : Thread nD τ) ↦[arg6.view.set]{fullShare} arg6.view.rep I.k) ∗ (arg7.view.loc (c : Thread nD τ) ↦[arg7.view.set]{fullShare} arg7.view.rep I.v) ∗ (arg8.view.loc (c : Thread nD τ) ↦[arg8.view.set]{fullShare} arg8.view.rep (tripS I (7 - (i 1).val) t.val σ).dq) ∗ (arg11.view.loc (c : Thread nD τ) ↦[arg11.view.set]{fullShare} arg11.view.rep (tripS I (7 - (i 1).val) t.val σ).dk) ∗ (arg12.view.loc (c : Thread nD τ) ↦[arg12.view.set]{fullShare} arg12.view.rep (tripS I (7 - (i 1).val) t.val σ).dv) ∗ (arg13.view.loc (c : Thread nD τ) ↦[arg13.view.set]{fullShare} arg13.view.rep (tripS I (7 - (i 1).val) t.val σ).st) ∗ (arg14.view.loc (c : Thread nD τ) ↦[arg14.view.set]{fullShare} arg14.view.rep (tripS I (7 - (i 1).val) t.val σ).dp))) : sProp 𝕄) := by
  unfold k1_t1_body
  iintro ⟨H2, H3, H4, H5, H6, H7, H8, H11, H12, H13, H14⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]
  iapply (pointsTo_rep_of_read (c : Thread nD τ) arg8 _ fullShare _ ?dq) $$ H8
  rotate_left
  isplitl [H11]
  iapply (pointsTo_rep_of_read (c : Thread nD τ) arg11 _ fullShare _ ?dk) $$ H11
  rotate_left
  isplitl [H12]
  iapply (pointsTo_rep_of_read (c : Thread nD τ) arg12 _ fullShare _ ?dv) $$ H12
  rotate_left
  isplitl [H13]
  iapply (pointsTo_rep_of_read (c : Thread nD τ) arg13 _ fullShare _ ?st) $$ H13
  rotate_left
  iapply (pointsTo_rep_of_read (c : Thread nD τ) arg14 _ fullShare _ ?dp) $$ H14
  all_goals
    sl_unfold_run_names
    simp (disch := decide) only [wr_rows _ _ _ _ (off9_1 i t), wr_rows _ _ _ _ (off9_2 i t), wr_slot _ _ _ _ slot0, wr_slot _ _ _ _ slot1, rd_rows _ _ _ _ (off9_1 i t), rd_rows _ _ _ _ (off9_2 i t), rd_rows _ _ _ _ (off9_3 i t), rd_rows _ _ _ _ (off8_eq i),
      rd_rowsV _ _ _ _ (off10_eq i), rd_rowsO _ _ _ _ (off11_1 i t), rd_rowsO _ _ _ _ (off11_2 i t), rd_rowsO _ _ _ _ (off11_3 i t), rd_lanes _ _ _ _ (off12_1 i t), rd_lanes _ _ _ _ (off12_2 i t), rd_slot _ _ _ _ slot0, rd_slot _ _ _ _ slot1,
      View.read_rep, View.writes_nil, rd_dk, wr_dk, rd_dv, wr_dv, View.readCov, slot_putSlot, slot_putSlot_ne, tripS, consume, produce]
    rfl

/-- One trip, from the state after `t` trips to the state after `t + 1` trips. -/
theorem trip_step (c : Dev nD) (arg1 v0 : BitVec 32) (v97 : FVec F S512x256 .f32) (t : Fin (k1_t1_loop i).trips) (E : Set ℕ) :
    iprop(∃ ω : Acc F, ⌜ω = tripsS I (7 - (i 1).val) σ t.val⌝ ∗ (arg2.view.loc (c : Thread nD τ) ↦[arg2.view.set]{fullShare} arg2.view.rep I.q) ∗ (arg3.view.loc (c : Thread nD τ) ↦[arg3.view.set]{fullShare} arg3.view.rep I.o) ∗ (arg4.view.loc (c : Thread nD τ) ↦[arg4.view.set]{fullShare} arg4.view.rep I.l) ∗ (arg5.view.loc (c : Thread nD τ) ↦[arg5.view.set]{fullShare} arg5.view.rep I.d) ∗ (arg6.view.loc (c : Thread nD τ) ↦[arg6.view.set]{fullShare} arg6.view.rep I.k) ∗ (arg7.view.loc (c : Thread nD τ) ↦[arg7.view.set]{fullShare} arg7.view.rep I.v) ∗ (arg8.view.loc (c : Thread nD τ) ↦[arg8.view.set]{fullShare} arg8.view.rep ω.dq) ∗ (arg11.view.loc (c : Thread nD τ) ↦[arg11.view.set]{fullShare} arg11.view.rep ω.dk) ∗ (arg12.view.loc (c : Thread nD τ) ↦[arg12.view.set]{fullShare} arg12.view.rep ω.dv) ∗ (arg13.view.loc (c : Thread nD τ) ↦[arg13.view.set]{fullShare} arg13.view.rep ω.st) ∗ (arg14.view.loc (c : Thread nD τ) ↦[arg14.view.set]{fullShare} arg14.view.rep ω.dp))
    ⊢ (wp frame (wpE (defs₀ (F := F)) Variants.none (c : Thread nD τ) none) E (k1_t1_body (F := F) i arg2 harg2 arg3 harg3 arg4 harg4 arg5 harg5 arg6 harg6 arg7 harg7 arg8 harg8 arg9 harg9 arg10 harg10 arg11 harg11 arg12 harg12 arg13 harg13 arg14 harg14 arg1 v0 (k1_pay76 (rowsAt I.k (7 - (i 1).val))) h3 v97 t PUnit.unit)
      (fun _ => iprop(∃ ω : Acc F, ⌜ω = tripsS I (7 - (i 1).val) σ (t.val + 1)⌝ ∗ (arg2.view.loc (c : Thread nD τ) ↦[arg2.view.set]{fullShare} arg2.view.rep I.q) ∗ (arg3.view.loc (c : Thread nD τ) ↦[arg3.view.set]{fullShare} arg3.view.rep I.o) ∗ (arg4.view.loc (c : Thread nD τ) ↦[arg4.view.set]{fullShare} arg4.view.rep I.l) ∗ (arg5.view.loc (c : Thread nD τ) ↦[arg5.view.set]{fullShare} arg5.view.rep I.d) ∗ (arg6.view.loc (c : Thread nD τ) ↦[arg6.view.set]{fullShare} arg6.view.rep I.k) ∗ (arg7.view.loc (c : Thread nD τ) ↦[arg7.view.set]{fullShare} arg7.view.rep I.v) ∗ (arg8.view.loc (c : Thread nD τ) ↦[arg8.view.set]{fullShare} arg8.view.rep ω.dq) ∗ (arg11.view.loc (c : Thread nD τ) ↦[arg11.view.set]{fullShare} arg11.view.rep ω.dk) ∗ (arg12.view.loc (c : Thread nD τ) ↦[arg12.view.set]{fullShare} arg12.view.rep ω.dv) ∗ (arg13.view.loc (c : Thread nD τ) ↦[arg13.view.set]{fullShare} arg13.view.rep ω.st) ∗ (arg14.view.loc (c : Thread nD τ) ↦[arg14.view.set]{fullShare} arg14.view.rep ω.dp))) : sProp 𝕄) := by
  iintro ⟨%ω, %hω, H2, H3, H4, H5, H6, H7, H8, H11, H12, H13, H14⟩
  iapply (wp_wand_r Idealize.ShloMosaic.frame (wpE (defs₀ (F := F)) Variants.none (c : Thread nD τ) none) E)
  isplitl [H2 H3 H4 H5 H6 H7 H8 H11 H12 H13 H14]
  · iapply (trip arg2 harg2 arg3 harg3 arg4 harg4 arg5 harg5 arg6 harg6 arg7 harg7 arg8 harg8 arg9 harg9 arg10 harg10 arg11 harg11 arg12 harg12 arg13 harg13 arg14 harg14 i h3 I ω c arg1 v0 v97 t E)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    isplitl [H12]; · iexact H12
    isplitl [H13]; · iexact H13
    iexact H14
  · iintro %_ ⟨H2, H3, H4, H5, H6, H7, H8, H11, H12, H13, H14⟩
    iexists (tripS I (7 - (i 1).val) t.val ω)
    isplitl []
    · ipureintro; rw [hω]; rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    isplitl [H12]; · iexact H12
    isplitl [H13]; · iexact H13
    iexact H14

end Cert.KernelIdeal.Bwd
end
-- ==== Proof.FlashPoint.lean ====
module

public import proofs.«01_k».proof.Proof.FlashTrip

@[expose] public section

set_option maxRecDepth 16384

noncomputable section

/-! The backward attention kernel's body at one grid point: held at the values it finds, every buffer is left at the values
   `pointFirst`, `pointOdd` and `pointEven` state. -/
namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (arg2 : Memref sig .tc .vmem S1x4096x256 .bf16) (harg2 : arg2.IsWhole) (arg3 : Memref sig .tc .vmem S4096x128 .bf16) (harg3 : arg3.IsWhole) (arg4 : Memref sig .tc .vmem S1x8x1x512 .f32) (harg4 : arg4.IsWhole) (arg5 : Memref sig .tc .vmem S1x8x1x512 .f32) (harg5 : arg5.IsWhole) (arg6 : Memref sig .tc .vmem S1x4096x256 .bf16) (harg6 : arg6.IsWhole) (arg7 : Memref sig .tc .vmem S1x4096x256 .bf16) (harg7 : arg7.IsWhole) (arg8 : Memref sig .tc .vmem S1x4096x256 .f32) (harg8 : arg8.IsWhole) (arg9 : Memref sig .tc .vmem S1x512x256 .f32) (harg9 : arg9.IsWhole) (arg10 : Memref sig .tc .vmem S1x512x128 .f32) (harg10 : arg10.IsWhole) (arg11 : Memref sig .tc .vmem S512x256 .f32) (harg11 : arg11.IsWhole) (arg12 : Memref sig .tc .vmem S512x128 .f32) (harg12 : arg12.IsWhole) (arg13 : Memref sig .tc .vmem S3x512x512 .f32) (harg13 : arg13.IsWhole) (arg14 : Memref sig .tc .vmem S3x512x512 .f32) (harg14 : arg14.IsWhole)
variable (i : grid1.Coords) (I : Ins F) (σ : Acc F)

theorem body_first (h1 : k1_cond1 i = 1#1) (h2 : k1_cond2 i = 1#1) (h3 : ¬ k1_cond3 i = 1#1) (hn : (i 1).val = 0) (c : Dev nD) (f9 : BufTy.Contents (Elt F) arg9.view.ty) (f10 : BufTy.Contents (Elt F) arg10.view.ty) (E : Set ℕ) :
    iprop((arg2.view.loc (c : Thread nD τ) ↦[arg2.view.set]{fullShare} arg2.view.rep I.q) ∗ (arg3.view.loc (c : Thread nD τ) ↦[arg3.view.set]{fullShare} arg3.view.rep I.o) ∗ (arg4.view.loc (c : Thread nD τ) ↦[arg4.view.set]{fullShare} arg4.view.rep I.l) ∗ (arg5.view.loc (c : Thread nD τ) ↦[arg5.view.set]{fullShare} arg5.view.rep I.d) ∗ (arg6.view.loc (c : Thread nD τ) ↦[arg6.view.set]{fullShare} arg6.view.rep I.k) ∗ (arg7.view.loc (c : Thread nD τ) ↦[arg7.view.set]{fullShare} arg7.view.rep I.v) ∗ (arg8.view.loc (c : Thread nD τ) ↦[arg8.view.set]{fullShare} arg8.view.rep (σ).dq) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} arg11.view.rep (σ).dk) ∗ (arg12.view.loc (c : Thread nD τ) ↦[arg12.view.set]{fullShare} arg12.view.rep (σ).dv) ∗ (arg13.view.loc (c : Thread nD τ) ↦[arg13.view.set]{fullShare} arg13.view.rep (σ).st) ∗ (arg14.view.loc (c : Thread nD τ) ↦[arg14.view.set]{fullShare} arg14.view.rep (σ).dp))
    ⊢ (wp frame (wpE (defs₀ (F := F)) Variants.none (c : Thread nD τ) none) E (cc1_flash_bwd (F := F) i arg2 harg2 arg3 harg3 arg4 harg4 arg5 harg5 arg6 harg6 arg7 harg7 arg8 harg8 arg9 harg9 arg10 harg10 arg11 harg11 arg12 harg12 arg13 harg13 arg14 harg14)
      (fun _ => iprop((arg2.view.loc (c : Thread nD τ) ↦[arg2.view.set]{fullShare} arg2.view.rep I.q) ∗ (arg3.view.loc (c : Thread nD τ) ↦[arg3.view.set]{fullShare} arg3.view.rep I.o) ∗ (arg4.view.loc (c : Thread nD τ) ↦[arg4.view.set]{fullShare} arg4.view.rep I.l) ∗ (arg5.view.loc (c : Thread nD τ) ↦[arg5.view.set]{fullShare} arg5.view.rep I.d) ∗ (arg6.view.loc (c : Thread nD τ) ↦[arg6.view.set]{fullShare} arg6.view.rep I.k) ∗ (arg7.view.loc (c : Thread nD τ) ↦[arg7.view.set]{fullShare} arg7.view.rep I.v) ∗ (arg8.view.loc (c : Thread nD τ) ↦[arg8.view.set]{fullShare} arg8.view.rep (pointFirst I σ).dq) ∗ (arg9.view.loc (c : Thread nD τ) ↦[arg9.view.set]{fullShare} arg9.view.rep (k1_pay84 (pointFirst I σ).dk)) ∗ (arg10.view.loc (c : Thread nD τ) ↦[arg10.view.set]{fullShare} arg10.view.rep (k1_pay1 (pointFirst I σ).dv)) ∗ (arg11.view.loc (c : Thread nD τ) ↦[arg11.view.set]{fullShare} arg11.view.rep (pointFirst I σ).dk) ∗ (arg12.view.loc (c : Thread nD τ) ↦[arg12.view.set]{fullShare} arg12.view.rep (pointFirst I σ).dv) ∗ (arg13.view.loc (c : Thread nD τ) ↦[arg13.view.set]{fullShare} arg13.view.rep (pointFirst I σ).st) ∗ (arg14.view.loc (c : Thread nD τ) ↦[arg14.view.set]{fullShare} arg14.view.rep (pointFirst I σ).dp))) : sProp 𝕄) := by
  unfold cc1_flash_bwd
  iintro ⟨H2, H3, H4, H5, H6, H7, H8, H9, H10, H11, H12, H13, H14⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]
  iapply (pointsTo_rep_of_read (c : Thread nD τ) arg8 _ fullShare _ ?dq) $$ H8
  rotate_left
  isplitl [H9]
  iapply (pointsTo_rep_of_read (c : Thread nD τ) arg9 _ fullShare _ ?ok) $$ H9
  rotate_left
  isplitl [H10]
  iapply (pointsTo_rep_of_read (c : Thread nD τ) arg10 _ fullShare _ ?ov) $$ H10
  rotate_left
  isplitl [H11]
  iapply (pointsTo_rep_of_read (c : Thread nD τ) arg11 _ fullShare _ ?dk) $$ H11
  rotate_left
  isplitl [H12]
  iapply (pointsTo_rep_of_read (c : Thread nD τ) arg12 _ fullShare _ ?dv) $$ H12
  rotate_left
  isplitl [H13]
  iapply (pointsTo_rep_of_read (c : Thread nD τ) arg13 _ fullShare _ ?st) $$ H13
  rotate_left
  iapply (pointsTo_rep_of_read (c : Thread nD τ) arg14 _ fullShare _ ?dp) $$ H14
  all_goals
    sl_unfold_run_names
    simp (disch := decide) only [wr_slot _ _ _ _ slot0, wr_slot _ _ _ _ slot1, wr_slot _ _ _ _ slot2, rd_slot _ _ _ _ slot0, rd_slot _ _ _ _ slot1, rd_slot _ _ _ _ slot2, wr_rows _ _ _ _ block7, rd_rows _ _ _ _ block7, rd_rows _ _ _ _ block6, rd_rowsO _ _ _ _ blockO7, rd_rowsO _ _ _ _ blockO6, rd_lanes _ _ _ _ lanes7, rd_rows _ _ _ _ (off1_eq i), rd_rows _ _ _ _ (off2_eq i), rd_rowsV _ _ _ _ (off3_eq i), rd_rows _ _ _ _ (off4_eq i), rd_rowsV _ _ _ _ (off5_eq i), View.read_rep, View.writes_nil, rd_dk, wr_dk, rd_dv, wr_dv, wr_dq, rd_dq, wr_dkOut, wr_dvOut, View.readCov, slot_putSlot, slot_putSlot_ne, hn, pointFirst, consumeD, produce, clearKV]
    rfl

set_option maxHeartbeats 2000000 in
theorem body_later (h1 : ¬ k1_cond1 i = 1#1) (h2 : ¬ k1_cond2 i = 1#1) (h3 : k1_cond3 i = 1#1) (c : Dev nD) (f9 : BufTy.Contents (Elt F) arg9.view.ty) (f10 : BufTy.Contents (Elt F) arg10.view.ty) (E : Set ℕ) :
    iprop((arg2.view.loc (c : Thread nD τ) ↦[arg2.view.set]{fullShare} arg2.view.rep I.q) ∗ (arg3.view.loc (c : Thread nD τ) ↦[arg3.view.set]{fullShare} arg3.view.rep I.o) ∗ (arg4.view.loc (c : Thread nD τ) ↦[arg4.view.set]{fullShare} arg4.view.rep I.l) ∗ (arg5.view.loc (c : Thread nD τ) ↦[arg5.view.set]{fullShare} arg5.view.rep I.d) ∗ (arg6.view.loc (c : Thread nD τ) ↦[arg6.view.set]{fullShare} arg6.view.rep I.k) ∗ (arg7.view.loc (c : Thread nD τ) ↦[arg7.view.set]{fullShare} arg7.view.rep I.v) ∗ (arg8.view.loc (c : Thread nD τ) ↦[arg8.view.set]{fullShare} arg8.view.rep (σ).dq) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} arg11.view.rep (σ).dk) ∗ (arg12.view.loc (c : Thread nD τ) ↦[arg12.view.set]{fullShare} arg12.view.rep (σ).dv) ∗ (arg13.view.loc (c : Thread nD τ) ↦[arg13.view.set]{fullShare} arg13.view.rep (σ).st) ∗ (arg14.view.loc (c : Thread nD τ) ↦[arg14.view.set]{fullShare} arg14.view.rep (σ).dp))
    ⊢ (wp frame (wpE (defs₀ (F := F)) Variants.none (c : Thread nD τ) none) E (cc1_flash_bwd (F := F) i arg2 harg2 arg3 harg3 arg4 harg4 arg5 harg5 arg6 harg6 arg7 harg7 arg8 harg8 arg9 harg9 arg10 harg10 arg11 harg11 arg12 harg12 arg13 harg13 arg14 harg14)
      (fun _ => iprop((arg2.view.loc (c : Thread nD τ) ↦[arg2.view.set]{fullShare} arg2.view.rep I.q) ∗ (arg3.view.loc (c : Thread nD τ) ↦[arg3.view.set]{fullShare} arg3.view.rep I.o) ∗ (arg4.view.loc (c : Thread nD τ) ↦[arg4.view.set]{fullShare} arg4.view.rep I.l) ∗ (arg5.view.loc (c : Thread nD τ) ↦[arg5.view.set]{fullShare} arg5.view.rep I.d) ∗ (arg6.view.loc (c : Thread nD τ) ↦[arg6.view.set]{fullShare} arg6.view.rep I.k) ∗ (arg7.view.loc (c : Thread nD τ) ↦[arg7.view.set]{fullShare} arg7.view.rep I.v) ∗ (arg8.view.loc (c : Thread nD τ) ↦[arg8.view.set]{fullShare} arg8.view.rep (pointLater I (i 1).val σ).dq) ∗ (arg9.view.loc (c : Thread nD τ) ↦[arg9.view.set]{fullShare} arg9.view.rep (k1_pay84 (pointLater I (i 1).val σ).dk)) ∗ (arg10.view.loc (c : Thread nD τ) ↦[arg10.view.set]{fullShare} arg10.view.rep (k1_pay1 (pointLater I (i 1).val σ).dv)) ∗ (arg11.view.loc (c : Thread nD τ) ↦[arg11.view.set]{fullShare} arg11.view.rep (pointLater I (i 1).val σ).dk) ∗ (arg12.view.loc (c : Thread nD τ) ↦[arg12.view.set]{fullShare} arg12.view.rep (pointLater I (i 1).val σ).dv) ∗ (arg13.view.loc (c : Thread nD τ) ↦[arg13.view.set]{fullShare} arg13.view.rep (pointLater I (i 1).val σ).st) ∗ (arg14.view.loc (c : Thread nD τ) ↦[arg14.view.set]{fullShare} arg14.view.rep (pointLater I (i 1).val σ).dp))) : sProp 𝕄) := by
  unfold cc1_flash_bwd
  iintro ⟨H2, H3, H4, H5, H6, H7, H8, H9, H10, H11, H12, H13, H14⟩
  sl_exec
  ihave G8 := (pointsTo_rep_of_read (c : Thread nD τ) arg8 _ fullShare (consume I (7 - (i 1).val) 7 2 (produce I (7 - (i 1).val) 6 1 (clearKV σ))).dq ?rdq) $$ H8
  rotate_left
  ihave G11 := (pointsTo_rep_of_read (c : Thread nD τ) arg11 _ fullShare (consume I (7 - (i 1).val) 7 2 (produce I (7 - (i 1).val) 6 1 (clearKV σ))).dk ?rdk) $$ H11
  rotate_left
  ihave G12 := (pointsTo_rep_of_read (c : Thread nD τ) arg12 _ fullShare (consume I (7 - (i 1).val) 7 2 (produce I (7 - (i 1).val) 6 1 (clearKV σ))).dv ?rdv) $$ H12
  rotate_left
  ihave G13 := (pointsTo_rep_of_read (c : Thread nD τ) arg13 _ fullShare (consume I (7 - (i 1).val) 7 2 (produce I (7 - (i 1).val) 6 1 (clearKV σ))).st ?rst) $$ H13
  rotate_left
  ihave G14 := (pointsTo_rep_of_read (c : Thread nD τ) arg14 _ fullShare (consume I (7 - (i 1).val) 7 2 (produce I (7 - (i 1).val) 6 1 (clearKV σ))).dp ?rdp) $$ H14
  rotate_left
  sl_for (fun (k : ℕ) (_ : Unit) => iprop(∃ τ' : Acc F, ⌜τ' = tripsS I (7 - (i 1).val) (consume I (7 - (i 1).val) 7 2 (produce I (7 - (i 1).val) 6 1 (clearKV σ))) k⌝ ∗ (arg2.view.loc (c : Thread nD τ) ↦[arg2.view.set]{fullShare} arg2.view.rep I.q) ∗ (arg3.view.loc (c : Thread nD τ) ↦[arg3.view.set]{fullShare} arg3.view.rep I.o) ∗ (arg4.view.loc (c : Thread nD τ) ↦[arg4.view.set]{fullShare} arg4.view.rep I.l) ∗ (arg5.view.loc (c : Thread nD τ) ↦[arg5.view.set]{fullShare} arg5.view.rep I.d) ∗ (arg6.view.loc (c : Thread nD τ) ↦[arg6.view.set]{fullShare} arg6.view.rep I.k) ∗ (arg7.view.loc (c : Thread nD τ) ↦[arg7.view.set]{fullShare} arg7.view.rep I.v) ∗ (arg8.view.loc (c : Thread nD τ) ↦[arg8.view.set]{fullShare} arg8.view.rep τ'.dq) ∗ (arg11.view.loc (c : Thread nD τ) ↦[arg11.view.set]{fullShare} arg11.view.rep τ'.dk) ∗ (arg12.view.loc (c : Thread nD τ) ↦[arg12.view.set]{fullShare} arg12.view.rep τ'.dv) ∗ (arg13.view.loc (c : Thread nD τ) ↦[arg13.view.set]{fullShare} arg13.view.rep τ'.st) ∗ (arg14.view.loc (c : Thread nD τ) ↦[arg14.view.set]{fullShare} arg14.view.rep τ'.dp))) $$ [H2 H3 H4 H5 H6 H7 G8 G11 G12 G13 G14]
  case region =>
    intro k _
    sl_unfold_run_names
    rw [rd_rows _ _ _ _ (off1_eq i), View.read_rep]
    exact trip_step arg2 harg2 arg3 harg3 arg4 harg4 arg5 harg5 arg6 harg6 arg7 harg7 arg8 harg8 arg9 harg9 arg10 harg10 arg11 harg11 arg12 harg12 arg13 harg13 arg14 harg14 i h3 I (consume I (7 - (i 1).val) 7 2 (produce I (7 - (i 1).val) 6 1 (clearKV σ))) c 0 _ σ.dk k E
  iexists (consume I (7 - (i 1).val) 7 2 (produce I (7 - (i 1).val) 6 1 (clearKV σ)))
  isplitl []
  · ipureintro; rfl
  isplitl [H2]; · iexact H2
  isplitl [H3]; · iexact H3
  isplitl [H4]; · iexact H4
  isplitl [H5]; · iexact H5
  isplitl [H6]; · iexact H6
  isplitl [H7]; · iexact H7
  isplitl [G8]; · iexact G8
  isplitl [G11]; · iexact G11
  isplitl [G12]; · iexact G12
  isplitl [G13]; · iexact G13
  iexact G14
  iintro %_ ⟨%ω, %hω, H2, H3, H4, H5, H6, H7, H8, H11, H12, H13, H14⟩
  have hr : pointRun I (i 1).val σ = ω := by
    rw [hω, pointRun, ← trips1 i h3]
  by_cases h4 : k1_cond4 i = 1#1
  · have h5 : ¬ k1_cond5 i = 1#1 := cond5_of_cond4 i h4
    have hp4 : pointLater I (i 1).val σ = pointOdd I (i 1).val σ := if_pos ((odd_iff i).mp h4)
    sl_exec
    sl_for0 (trips2 i)
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]
    iapply (pointsTo_rep_of_read (c : Thread nD τ) arg8 _ fullShare _ ?fdq) $$ H8
    rotate_left
    isplitl [H9]
    iapply (pointsTo_rep_of_read (c : Thread nD τ) arg9 _ fullShare _ ?fok) $$ H9
    rotate_left
    isplitl [H10]
    iapply (pointsTo_rep_of_read (c : Thread nD τ) arg10 _ fullShare _ ?fov) $$ H10
    rotate_left
    isplitl [H11]
    iapply (pointsTo_rep_of_read (c : Thread nD τ) arg11 _ fullShare _ ?fdk) $$ H11
    rotate_left
    isplitl [H12]
    iapply (pointsTo_rep_of_read (c : Thread nD τ) arg12 _ fullShare _ ?fdv) $$ H12
    rotate_left
    isplitl [H13]
    iapply (pointsTo_rep_of_read (c : Thread nD τ) arg13 _ fullShare _ ?fst) $$ H13
    rotate_left
    iapply (pointsTo_rep_of_read (c : Thread nD τ) arg14 _ fullShare _ ?fdp) $$ H14
    all_goals
      sl_unfold_run_names
      simp (disch := decide) only [wr_slot _ _ _ _ slot0, wr_slot _ _ _ _ slot1, wr_slot _ _ _ _ slot2, rd_slot _ _ _ _ slot0, rd_slot _ _ _ _ slot1, rd_slot _ _ _ _ slot2, wr_rows _ _ _ _ block7, rd_rows _ _ _ _ block7, rd_rows _ _ _ _ block6, rd_rowsO _ _ _ _ blockO7, rd_rowsO _ _ _ _ blockO6, rd_lanes _ _ _ _ lanes7, rd_rows _ _ _ _ (off1_eq i), rd_rows _ _ _ _ (off18_eq i), rd_rowsV _ _ _ _ (off19_eq i), rd_rows _ _ _ _ (off20_eq i), wr_rows _ _ _ _ (off20_eq i), rd_rowsO _ _ _ _ (off21_eq i), rd_lanes _ _ _ _ (off22_eq i), View.read_rep, View.writes_nil, rd_dk, wr_dk, rd_dv, wr_dv, wr_dq, rd_dq, wr_dkOut, wr_dvOut, View.readCov, slot_putSlot, slot_putSlot_ne, hr, hp4, pointOdd, consumeD, produce]
      rfl
  · have h5 : k1_cond5 i = 1#1 := cond5_of_not_cond4 i h4
    have hp4 : pointLater I (i 1).val σ = pointEven I (i 1).val σ := if_neg fun h => h4 ((odd_iff i).mpr h)
    sl_exec
    sl_for0 (trips2 i)
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]
    iapply (pointsTo_rep_of_read (c : Thread nD τ) arg8 _ fullShare _ ?edq) $$ H8
    rotate_left
    isplitl [H9]
    iapply (pointsTo_rep_of_read (c : Thread nD τ) arg9 _ fullShare _ ?eok) $$ H9
    rotate_left
    isplitl [H10]
    iapply (pointsTo_rep_of_read (c : Thread nD τ) arg10 _ fullShare _ ?eov) $$ H10
    rotate_left
    isplitl [H11]
    iapply (pointsTo_rep_of_read (c : Thread nD τ) arg11 _ fullShare _ ?edk) $$ H11
    rotate_left
    isplitl [H12]
    iapply (pointsTo_rep_of_read (c : Thread nD τ) arg12 _ fullShare _ ?edv) $$ H12
    rotate_left
    isplitl [H13]
    iapply (pointsTo_rep_of_read (c : Thread nD τ) arg13 _ fullShare _ ?est) $$ H13
    rotate_left
    iapply (pointsTo_rep_of_read (c : Thread nD τ) arg14 _ fullShare _ ?edp) $$ H14
    all_goals
      sl_unfold_run_names
      simp (disch := decide) only [wr_slot _ _ _ _ slot0, wr_slot _ _ _ _ slot1, wr_slot _ _ _ _ slot2, rd_slot _ _ _ _ slot0, rd_slot _ _ _ _ slot1, rd_slot _ _ _ _ slot2, wr_rows _ _ _ _ block7, rd_rows _ _ _ _ block7, rd_rows _ _ _ _ block6, rd_rowsO _ _ _ _ blockO7, rd_rowsO _ _ _ _ blockO6, rd_lanes _ _ _ _ lanes7, rd_rows _ _ _ _ (off1_eq i), rd_rows _ _ _ _ (off23_eq i), wr_rows _ _ _ _ (off23_eq i), rd_rowsV _ _ _ _ (off24_eq i), rd_rowsO _ _ _ _ (off25_eq i), rd_rows _ _ _ _ (off26_eq i h3 h5), wr_rows _ _ _ _ (off26_eq i h3 h5), rd_rowsO _ _ _ _ (off27_eq i h3 h5), rd_lanes _ _ _ _ (off28_eq i h3 h5), rd_rows _ _ _ _ (off29_eq i), rd_rowsV _ _ _ _ (off30_eq i), rd_lanes _ _ _ _ (off31_eq i), View.read_rep, View.writes_nil, rd_dk, wr_dk, rd_dv, wr_dv, wr_dq, rd_dq, wr_dkOut, wr_dvOut, View.readCov, slot_putSlot, slot_putSlot_ne, hr, hp4, pointEven, consumeD, consume, produce]
      rfl
  all_goals
    sl_unfold_run_names
    simp (disch := decide) only [wr_slot _ _ _ _ slot0, wr_slot _ _ _ _ slot1, wr_slot _ _ _ _ slot2, rd_slot _ _ _ _ slot0, rd_slot _ _ _ _ slot1, rd_slot _ _ _ _ slot2, wr_rows _ _ _ _ block7, rd_rows _ _ _ _ block7, rd_rows _ _ _ _ block6, rd_rowsO _ _ _ _ blockO7, rd_rowsO _ _ _ _ blockO6, rd_lanes _ _ _ _ lanes7, rd_rows _ _ _ _ (off1_eq i), rd_rows _ _ _ _ (off6_eq i), rd_rowsV _ _ _ _ (off7_eq i), View.read_rep, View.writes_nil, rd_dk, wr_dk, rd_dv, wr_dv, wr_dq, rd_dq, wr_dkOut, wr_dvOut, View.readCov, slot_putSlot, slot_putSlot_ne, consume, produce, clearKV]
    rfl

end Cert.KernelIdeal.Bwd
end
-- ==== Proof.FlashOnline.lean ====
module

public import proofs.«01_k».proof.Proof.FlashSteps

@[expose] public section

set_option maxRecDepth 16384

noncomputable section

/-! The backward kernel's grid point without its buffers of scores: the three gradients, summed over the query blocks of a
   key block from the last down to the diagonal. A point leaves that, and finds the scores and probability gradients of
   its first query block in slot 2, where the point before put them. -/
namespace Cert.KernelIdeal.Bwd

open Cert.KernelIdeal Cert.KernelIdeal.Gen
open Idealize.ShloMosaic

variable {F : FTy → Type} [FloatOps F] [Named F]

/-- The three gradients. -/
@[ext] structure Grads (F : FTy → Type) where
  dq : Vec F S1x4096x256 .f32
  dk : Vec F S512x256 .f32
  dv : Vec F S512x128 .f32

def Acc.grads (σ : Acc F) : Grads F := ⟨σ.dq, σ.dk, σ.dv⟩

/-- The scores of key block `j` and query block `r`. -/
def score (I : Ins F) (j r : ℕ) : Vec F S1x512x512 .f32 := k1_pay2 (rowsAt I.k j) (rowsAt I.q r)

/-- The gradients of the probabilities of key block `j` and query block `r`. -/
def dprob (I : Ins F) (j r : ℕ) : Vec F S1x512x512 .f32 := k1_pay3 (rowsV I.v j) (rowsO I.o r)

/-- Key block `j` and query block `r`, an unmasked pair, added to the gradients. -/
def step (I : Ins F) (j r : ℕ) (x : Grads F) : Grads F where
  dq := putRows x.dq r (k1_pay17 (k1_pay76 (rowsAt I.k j)) (k1_pay14 (score I j r) (lanesAt I.l r) (dprob I j r) (lanesAt I.d r)) (rowsAt x.dq r))
  dk := k1_pay16 x.dk (k1_pay15 (rowsAt I.q r) (score I j r) (lanesAt I.l r) (dprob I j r) (lanesAt I.d r))
  dv := k1_pay13 (rowsO I.o r) (score I j r) (lanesAt I.l r) x.dv

/-- The pair on the diagonal. -/
def stepD (I : Ins F) (j : ℕ) (x : Grads F) : Grads F where
  dq := putRows x.dq j (k1_pay77 (rowsAt I.k j) (k1_pay8 (score I j j) (lanesAt I.l j) (dprob I j j) (lanesAt I.d j)) (rowsAt x.dq j))
  dk := k1_pay9 (k1_pay4 (rowsAt I.q j)) (score I j j) (lanesAt I.l j) (dprob I j j) (lanesAt I.d j) x.dk
  dv := k1_pay7 (k1_pay5 (rowsO I.o j)) (score I j j) (lanesAt I.l j) x.dv

/-- The query blocks 7, …, 8 - c of key block `j`, over the query gradient `dq`. -/
def down (I : Ins F) (j : ℕ) (dq : Vec F S1x4096x256 .f32) : ℕ → Grads F
  | 0 => ⟨dq, k1_pay74, k1_pay75⟩
  | c + 1 => step I j (7 - c) (down I j dq c)

/-- All the query blocks key block 7 - n meets. -/
def total (I : Ins F) (n : ℕ) (dq : Vec F S1x4096x256 .f32) : Grads F := stepD I (7 - n) (down I (7 - n) dq n)

/-- The query gradient after a head's points 0, …, n. -/
def dqRun (I : Ins F) : ℕ → Vec F S1x4096x256 .f32
  | 0 => (total I 0 k1_pay73).dq
  | n + 1 => (total I (n + 1) (dqRun I n)).dq

/-- The gradients a head's point `n` leaves. -/
def at_ (I : Ins F) : ℕ → Grads F
  | 0 => total I 0 k1_pay73
  | n + 1 => total I (n + 1) (dqRun I n)

theorem at_dq (I : Ins F) (n : ℕ) : (at_ I n).dq = dqRun I n := by cases n <;> rfl

/-- Slot `s` holds the scores and the probability gradients of key block `j` and query block `r`. -/
def Ready (I : Ins F) (j r s : ℕ) (σ : Acc F) : Prop := slot σ.st s = score I j r ∧ slot σ.dp s = dprob I j r

variable (I : Ins F)

theorem produce_grads (j r s : ℕ) (σ : Acc F) : (produce I j r s σ).grads = σ.grads := rfl
theorem produce_ready (j r s : ℕ) (σ : Acc F) : Ready I j r s (produce I j r s σ) := ⟨slot_putSlot _ _ _, slot_putSlot _ _ _⟩
theorem Ready.produce {j r s : ℕ} {σ : Acc F} (h : Ready I j r s σ) (j' r' s' : ℕ) (hs : s' % 3 ≠ s % 3) : Ready I j r s (produce I j' r' s' σ) :=
  ⟨(slot_putSlot_ne _ _ _ _ hs).trans h.1, (slot_putSlot_ne _ _ _ _ hs).trans h.2⟩
theorem Ready.consume {j r s : ℕ} {σ : Acc F} (h : Ready I j r s σ) (j' r' s' : ℕ) : Ready I j r s (consume I j' r' s' σ) := h
theorem Ready.consumeD {j r s : ℕ} {σ : Acc F} (h : Ready I j r s σ) (j' r' s' : ℕ) : Ready I j r s (consumeD I j' r' s' σ) := h
theorem Ready.clearKV {j r s : ℕ} {σ : Acc F} (h : Ready I j r s σ) : Ready I j r s (clearKV σ) := h
theorem consume_grads (j r s : ℕ) (σ : Acc F) (h : Ready I j r s σ) : (consume I j r s σ).grads = step I j r σ.grads := by
  unfold step; rw [← h.1, ← h.2]; rfl
theorem consumeD_grads (j s : ℕ) (σ : Acc F) (h : Ready I j j s σ) : (consumeD I j j s σ).grads = stepD I j σ.grads := by
  unfold stepD; rw [← h.1, ← h.2]; rfl

theorem tripS_spec (j t : ℕ) (dq) (σ : Acc F) (hs : σ.grads = down I j dq (1 + 2 * t)) (h1 : Ready I j (6 - 2 * t) 1 σ) :
    (tripS I j t σ).grads = down I j dq (1 + 2 * (t + 1)) ∧ Ready I j (6 - 2 * (t + 1)) 1 (tripS I j t σ) := by
  unfold tripS
  constructor
  · rw [consume_grads I j (5 - 2 * t) 0 _ (((produce_ready I j _ 0 _).consume I _ _ _).produce I _ _ _ (by decide)), produce_grads,
      consume_grads I j (6 - 2 * t) 1 _ (h1.produce I _ _ _ (by decide)), produce_grads, hs,
      show 1 + 2 * (t + 1) = (1 + 2 * t) + 1 + 1 from by omega, down, down]
    congr 1; · omega
    congr 1; omega
  · rw [show 6 - 2 * (t + 1) = 4 - 2 * t from by omega]
    exact (produce_ready I j _ 1 _).consume I _ _ _

theorem tripsS_spec (j : ℕ) (dq) (σ : Acc F) (hs : σ.grads = down I j dq 1) (h1 : Ready I j 6 1 σ) :
    ∀ t, (tripsS I j σ t).grads = down I j dq (1 + 2 * t) ∧ Ready I j (6 - 2 * t) 1 (tripsS I j σ t)
  | 0 => ⟨hs, h1⟩
  | t + 1 => tripS_spec I j t dq _ (tripsS_spec j dq σ hs h1 t).1 (tripsS_spec j dq σ hs h1 t).2

theorem pointRun_spec (n : ℕ) (σ : Acc F) (h : Ready I (7 - n) 7 2 σ) :
    (pointRun I n σ).grads = down I (7 - n) σ.dq (1 + 2 * ((n - 1) / 2)) ∧ Ready I (7 - n) (6 - 2 * ((n - 1) / 2)) 1 (pointRun I n σ) := by
  refine tripsS_spec I (7 - n) σ.dq _ ?_ ((produce_ready I _ 6 1 _).consume I _ _ _) _
  rw [consume_grads I _ 7 2 _ ((h.clearKV I).produce I _ _ _ (by decide)), produce_grads]; rfl

/-- The first point of a head leaves its gradients, and what the second point starts from. -/
theorem pointFirst_spec (σ : Acc F) : (pointFirst I σ).grads = at_ I 0 ∧ Ready I 6 7 2 (pointFirst I σ) := by
  refine ⟨?_, produce_ready I _ _ _ _⟩
  rw [pointFirst, produce_grads, consumeD_grads I 7 2 _ (produce_ready I _ _ _ _), produce_grads]; rfl

/-- A later point leaves its gradients, and what the next point starts from. -/
theorem pointLater_spec (n : ℕ) (hn : n < 7) (σ : Acc F) (h : Ready I (7 - (n + 1)) 7 2 σ) (hq : σ.dq = dqRun I n) :
    (pointLater I (n + 1) σ).grads = at_ I (n + 1) ∧ Ready I (6 - (n + 1)) 7 2 (pointLater I (n + 1) σ) := by
  obtain ⟨hs, h1⟩ := pointRun_spec I (n + 1) σ h
  rw [hq] at hs
  unfold pointLater
  split
  next hodd =>
    have e : 1 + 2 * ((n + 1 - 1) / 2) = n + 1 := by omega
    have e' : 6 - 2 * ((n + 1 - 1) / 2) = 7 - (n + 1) := by omega
    rw [e] at hs; rw [e'] at h1
    refine ⟨?_, (produce_ready I _ _ 2 _).consumeD I _ _ _⟩
    rw [pointOdd, consumeD_grads I _ 1 _ (h1.produce I _ _ _ (by decide)), produce_grads, hs]; rfl
  next heven =>
    have e : 1 + 2 * ((n + 1 - 1) / 2) = n := by omega
    have e' : 6 - 2 * ((n + 1 - 1) / 2) = 8 - (n + 1) := by omega
    rw [e] at hs; rw [e'] at h1
    refine ⟨?_, (produce_ready I _ _ 2 _).consumeD I _ _ _⟩
    rw [pointEven, consumeD_grads I _ 0 _ (((produce_ready I _ _ 0 _).consume I _ _ _).produce I _ _ _ (by decide)), produce_grads,
      consume_grads I _ _ 1 _ (h1.produce I _ _ _ (by decide)), produce_grads, hs, at_, total, down,
      show 8 - (n + 1) = 7 - n from by omega]

end Cert.KernelIdeal.Bwd
end
-- ==== Proof.FlashDat.lean ====
module

public import proofs.«01_k».proof.Proof.FlashPoint
public import proofs.«01_k».proof.Proof.FlashOnline
public import proofs.«01_k».proof.Proof.Gen.KernelIdeal.Regions
public import Idealize.ShloMosaic.Lib.Pipeline.TableIdle
public import proofs.«01_k».proof.Proof.Gen.KernelIdeal.Points

@[expose] public section

set_option maxRecDepth 16384

noncomputable section

/-! The backward attention kernel over its whole grid: what each window and the carried scratch hold from point to point. -/
namespace Cert.KernelIdeal.Bwd

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (V : Dev nD → Valuation τ sig (Elt F))

/-- Window `w`'s block of its array at point `t`. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of the head that point `n` belongs to. -/
def headPt (n : ℕ) : Fin cfg1.N := ⟨min n 63 / 8 * 8, lt_of_lt_of_eq (by omega) N_1.symm⟩

/-- What point `n` reads: its head's blocks. -/
def ins (c : Dev nD) (n : ℕ) : Ins F := ⟨blk V c 0 (headPt n), blk V c 1 (headPt n), blk V c 2 (headPt n), blk V c 3 (headPt n), blk V c 4 (headPt n), blk V c 5 (headPt n)⟩

theorem headPt_succ (n : ℕ) (h : (n + 1) % 8 ≠ 0) : headPt (n + 1) = headPt n := Fin.ext (by simp only [headPt]; omega)

theorem ins_succ (c : Dev nD) (n : ℕ) (h : (n + 1) % 8 ≠ 0) : ins V c (n + 1) = ins V c n := by unfold ins; rw [headPt_succ n h]

theorem coord : ∀ t : Fin cfg1.N, ((grid1.coords t) 1).val = t.val % 8 := (by decide +kernel : ∀ t : Fin grid1.N, ((grid1.coords t) 1).val = t.val % 8)
theorem cond1_iff : ∀ i : grid1.Coords, k1_cond1 i = 1#1 ↔ (i 1).val = 0 := by decide +kernel
theorem cond2_iff : ∀ i : grid1.Coords, k1_cond2 i = 1#1 ↔ (i 1).val = 0 := by decide +kernel
theorem cond3_iff : ∀ i : grid1.Coords, k1_cond3 i = 1#1 ↔ (i 1).val ≠ 0 := by decide +kernel
theorem live : ∀ (w : Fin cfg1.W) (i : grid1.Coords), cfg1.idle w i = false := by decide +kernel
theorem index0 : ∀ t : Fin cfg1.N, (cfg1.win 0).index t = (cfg1.win 0).index (headPt t.val) := (by decide +kernel : ∀ t : Fin grid1.N, win1_0.index t = win1_0.index (headPt t.val))
theorem index1 : ∀ t : Fin cfg1.N, (cfg1.win 1).index t = (cfg1.win 1).index (headPt t.val) := (by decide +kernel : ∀ t : Fin grid1.N, win1_1.index t = win1_1.index (headPt t.val))
theorem index2 : ∀ t : Fin cfg1.N, (cfg1.win 2).index t = (cfg1.win 2).index (headPt t.val) := (by decide +kernel : ∀ t : Fin grid1.N, win1_2.index t = win1_2.index (headPt t.val))
theorem index3 : ∀ t : Fin cfg1.N, (cfg1.win 3).index t = (cfg1.win 3).index (headPt t.val) := (by decide +kernel : ∀ t : Fin grid1.N, win1_3.index t = win1_3.index (headPt t.val))
theorem index4 : ∀ t : Fin cfg1.N, (cfg1.win 4).index t = (cfg1.win 4).index (headPt t.val) := (by decide +kernel : ∀ t : Fin grid1.N, win1_4.index t = win1_4.index (headPt t.val))
theorem index5 : ∀ t : Fin cfg1.N, (cfg1.win 5).index t = (cfg1.win 5).index (headPt t.val) := (by decide +kernel : ∀ t : Fin grid1.N, win1_5.index t = win1_5.index (headPt t.val))

/-- The scratch before point `n`: held whole, its slot 2 with what the point starts from unless it opens a head. -/
def Φ (c : Dev nD) (n : ℕ) : sProp 𝕄 :=
  iprop(∃ σ : Acc F, ⌜n % 8 ≠ 0 → Ready (ins V c n) (7 - n % 8) 7 2 σ⌝
    ∗ owns (c : Thread nD τ) (Memref.whole cc1_scratch0) fullShare σ.dk ∗ owns (c : Thread nD τ) (Memref.whole cc1_scratch1) fullShare σ.dv
    ∗ owns (c : Thread nD τ) (Memref.whole cc1_scratch2) fullShare σ.st ∗ owns (c : Thread nD τ) (Memref.whole cc1_scratch3) fullShare σ.dp
    ∗ Pipeline.scopedRestBut (Ix := Unit) (Name := ℕ) (U := UR sig nD τ) (Lvl := ℕ) (Val := Elt F) spec1 c [cc1_scratch0, cc1_scratch1, cc1_scratch2, cc1_scratch3])

/-- The region's contents point by point: each input at its head's block, the query gradient at what the head's points
    up to this one have summed, the key and value gradients at their blocks. -/
def dat (c : Dev nD) : Dat τ (Elt F) Unit ℕ (UR sig nD τ) ℕ cfg1 c where
  A w := V c (Pipeline.arrRef spec1 w)
  after w t := match w with
    | ⟨0, _⟩ => (ins V c t.val).q
    | ⟨1, _⟩ => (ins V c t.val).o
    | ⟨2, _⟩ => (ins V c t.val).l
    | ⟨3, _⟩ => (ins V c t.val).d
    | ⟨4, _⟩ => (ins V c t.val).k
    | ⟨5, _⟩ => (ins V c t.val).v
    | ⟨6, _⟩ => dqRun (ins V c t.val) (t.val % 8)
    | ⟨7, _⟩ => k1_pay84 (at_ (ins V c t.val) (t.val % 8)).dk
    | ⟨8, _⟩ => k1_pay1 (at_ (ins V c t.val) (t.val % 8)).dv
  Φ t := Φ V c t.val
  q _ := fullShare
  owed _ := 0

theorem after0 (c : Dev nD) (t : Fin cfg1.N) : (dat V c).after 0 t = (ins V c t.val).q := by dsimp only [dat]
theorem after1 (c : Dev nD) (t : Fin cfg1.N) : (dat V c).after 1 t = (ins V c t.val).o := by dsimp only [dat]
theorem after2 (c : Dev nD) (t : Fin cfg1.N) : (dat V c).after 2 t = (ins V c t.val).l := by dsimp only [dat]
theorem after3 (c : Dev nD) (t : Fin cfg1.N) : (dat V c).after 3 t = (ins V c t.val).d := by dsimp only [dat]
theorem after4 (c : Dev nD) (t : Fin cfg1.N) : (dat V c).after 4 t = (ins V c t.val).k := by dsimp only [dat]
theorem after5 (c : Dev nD) (t : Fin cfg1.N) : (dat V c).after 5 t = (ins V c t.val).v := by dsimp only [dat]
theorem after6 (c : Dev nD) (t : Fin cfg1.N) : (dat V c).after 6 t = dqRun (ins V c t.val) (t.val % 8) := by dsimp only [dat]
theorem after7 (c : Dev nD) (t : Fin cfg1.N) : (dat V c).after 7 t = k1_pay84 (at_ (ins V c t.val) (t.val % 8)).dk := by dsimp only [dat]
theorem after8 (c : Dev nD) (t : Fin cfg1.N) : (dat V c).after 8 t = k1_pay1 (at_ (ins V c t.val) (t.val % 8)).dv := by dsimp only [dat]

theorem fetched0 (c : Dev nD) (t : Fin cfg1.N) (d) : (dat V c).fetched 0 t d = (ins V c t.val).q := (dat V c).fetched_congr 0 (index0 t) rfl d
theorem fetched1 (c : Dev nD) (t : Fin cfg1.N) (d) : (dat V c).fetched 1 t d = (ins V c t.val).o := (dat V c).fetched_congr 1 (index1 t) rfl d
theorem fetched2 (c : Dev nD) (t : Fin cfg1.N) (d) : (dat V c).fetched 2 t d = (ins V c t.val).l := (dat V c).fetched_congr 2 (index2 t) rfl d
theorem fetched3 (c : Dev nD) (t : Fin cfg1.N) (d) : (dat V c).fetched 3 t d = (ins V c t.val).d := (dat V c).fetched_congr 3 (index3 t) rfl d
theorem fetched4 (c : Dev nD) (t : Fin cfg1.N) (d) : (dat V c).fetched 4 t d = (ins V c t.val).k := (dat V c).fetched_congr 4 (index4 t) rfl d
theorem fetched5 (c : Dev nD) (t : Fin cfg1.N) (d) : (dat V c).fetched 5 t d = (ins V c t.val).v := (dat V c).fetched_congr 5 (index5 t) rfl d

theorem before0 (c : Dev nD) (t : Fin cfg1.N) (d) : (dat V c).before 0 t d = (ins V c t.val).q :=
  ((dat V c).before_in_eq_fetched 0 rfl (fun _ => rfl) (fun _ _ _ => rfl) (fun t => (after0 V c t).trans (fetched0 V c t (fun _ => Classical.arbitrary _)).symm) t d).trans (fetched0 V c t d)
theorem before1 (c : Dev nD) (t : Fin cfg1.N) (d) : (dat V c).before 1 t d = (ins V c t.val).o :=
  ((dat V c).before_in_eq_fetched 1 rfl (fun _ => rfl) (fun _ _ _ => rfl) (fun t => (after1 V c t).trans (fetched1 V c t (fun _ => Classical.arbitrary _)).symm) t d).trans (fetched1 V c t d)
theorem before2 (c : Dev nD) (t : Fin cfg1.N) (d) : (dat V c).before 2 t d = (ins V c t.val).l :=
  ((dat V c).before_in_eq_fetched 2 rfl (fun _ => rfl) (fun _ _ _ => rfl) (fun t => (after2 V c t).trans (fetched2 V c t (fun _ => Classical.arbitrary _)).symm) t d).trans (fetched2 V c t d)
theorem before3 (c : Dev nD) (t : Fin cfg1.N) (d) : (dat V c).before 3 t d = (ins V c t.val).d :=
  ((dat V c).before_in_eq_fetched 3 rfl (fun _ => rfl) (fun _ _ _ => rfl) (fun t => (after3 V c t).trans (fetched3 V c t (fun _ => Classical.arbitrary _)).symm) t d).trans (fetched3 V c t d)
theorem before4 (c : Dev nD) (t : Fin cfg1.N) (d) : (dat V c).before 4 t d = (ins V c t.val).k :=
  ((dat V c).before_in_eq_fetched 4 rfl (fun _ => rfl) (fun _ _ _ => rfl) (fun t => (after4 V c t).trans (fetched4 V c t (fun _ => Classical.arbitrary _)).symm) t d).trans (fetched4 V c t d)
theorem before5 (c : Dev nD) (t : Fin cfg1.N) (d) : (dat V c).before 5 t d = (ins V c t.val).v :=
  ((dat V c).before_in_eq_fetched 5 rfl (fun _ => rfl) (fun _ _ _ => rfl) (fun t => (after5 V c t).trans (fetched5 V c t (fun _ => Classical.arbitrary _)).symm) t d).trans (fetched5 V c t d)

/-- Past a head's first point the query gradient's buffer holds what the point before left. -/
theorem before6 (c : Dev nD) (t : Fin cfg1.N) (n : ℕ) (h : t.val % 8 = n + 1) (d) : (dat V c).before 6 t d = dqRun (ins V c t.val) n := by
  rw [(dat V c).before_out_kept 6 rfl t (by omega) (Bool.eq_false_iff.mpr fun hf => by have := (flush1_6 _).mp hf; dsimp only at this; omega)
    (live 6) (fun _ _ => rfl), after6]
  obtain ⟨m, hm⟩ : ∃ m, t.val = m + 1 := ⟨t.val - 1, by omega⟩
  rw [hm] at h
  show dqRun (ins V c (t.val - 1)) ((t.val - 1) % 8) = dqRun (ins V c t.val) n
  rw [hm]
  rw [ins_succ V c m (by omega), show (m + 1 - 1) % 8 = n from by omega, Nat.add_sub_cancel]

/-- What the kernel is called with at point `t`, and what it returns. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

set_option maxHeartbeats 12800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).Φ t.castSucc = Φ V c t.val from rfl, show (dat V c).Φ t.succ = Φ V c (t.val + 1) from rfl,
    show (dat V c).owesAt () t.succ = (dat V c).owesAt () t.castSucc from rfl, after0, after1, after2, after3, after4, after5, after6, after7, after8]
  have hc := coord t
  unfold Φ
  by_cases h0 : t.val % 8 = 0
  · have n0 : ((grid1.coords t) 1).val = 0 := hc.trans h0
    simp only [owns_eq_rep]
    iintro ⟨⟨%σ, %hσ, Hk, Hv, Hs, Hp, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r _ _ _)
    isplitl [Hk Hv Hs Hp H0 H1 H2 H3 H4 H5 H6 H7 H8]
    · iapply (body_first _ _ _ _ _ _ _ _ _ _ _ _ _ _ _ _ _ _ _ _ _ _ _ _ _ _ (grid1.coords t) (ins V c t.val) ⟨(dat V c).before 6 t d6, σ.dk, σ.dv, σ.st, σ.dp⟩ ((cond1_iff _).mpr n0) ((cond2_iff _).mpr n0) (fun h => (cond3_iff _).mp h n0) n0 c _ _ Set.univ)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [Hk]; · iexact Hk
      isplitl [Hv]; · iexact Hv
      isplitl [Hs]; · iexact Hs
      iexact Hp
    iintro %u ⟨H0, H1, H2, H3, H4, H5, H6, H7, H8, Hk, Hv, Hs, Hp⟩
    obtain ⟨hs, hn⟩ := pointFirst_spec (ins V c t.val) ⟨(dat V c).before 6 t d6, σ.dk, σ.dv, σ.st, σ.dp⟩
    generalize pointFirst (ins V c t.val) ⟨(dat V c).before 6 t d6, σ.dk, σ.dv, σ.st, σ.dp⟩ = ω at hs hn ⊢
    rw [h0, ← at_dq, ← hs]
    dsimp only [Acc.grads]
    isplitl [Hk Hv Hs Hp HR]
    · iexists (ω)
      isplitr
      · ipureintro; intro h; rw [ins_succ V c _ h, show 7 - (t.val + 1) % 8 = 6 from by omega]; exact hn
      isplitl [Hk]; · iexact Hk
      isplitl [Hv]; · iexact Hv
      isplitl [Hs]; · iexact Hs
      isplitl [Hp]; · iexact Hp
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have n0 : ((grid1.coords t) 1).val ≠ 0 := fun h => h0 (hc.symm.trans h)
    obtain ⟨n, e⟩ : ∃ n, t.val % 8 = n + 1 := ⟨t.val % 8 - 1, by omega⟩
    simp only [before6 V c t n e, owns_eq_rep]
    iintro ⟨⟨%σ, %hσ, Hk, Hv, Hs, Hp, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (wp_wand_r _ _ _)
    isplitl [Hk Hv Hs Hp H0 H1 H2 H3 H4 H5 H6 H7 H8]
    · iapply (body_later _ _ _ _ _ _ _ _ _ _ _ _ _ _ _ _ _ _ _ _ _ _ _ _ _ _ (grid1.coords t) (ins V c t.val) ⟨dqRun (ins V c t.val) n, σ.dk, σ.dv, σ.st, σ.dp⟩ (fun h => n0 ((cond1_iff _).mp h)) (fun h => n0 ((cond2_iff _).mp h)) ((cond3_iff _).mpr n0) c _ _ Set.univ)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [Hk]; · iexact Hk
      isplitl [Hv]; · iexact Hv
      isplitl [Hs]; · iexact Hs
      iexact Hp
    iintro %u ⟨H0, H1, H2, H3, H4, H5, H6, H7, H8, Hk, Hv, Hs, Hp⟩
    have hn7 : n < 7 := by have := Nat.mod_lt t.val (show 0 < 8 by decide); omega
    obtain ⟨hs, hn⟩ := pointLater_spec (ins V c t.val) n hn7 ⟨dqRun (ins V c t.val) n, σ.dk, σ.dv, σ.st, σ.dp⟩ (by have := hσ h0; rw [e] at this; exact this) rfl
    rw [hc, e]
    generalize pointLater (ins V c t.val) (n + 1) ⟨dqRun (ins V c t.val) n, σ.dk, σ.dv, σ.st, σ.dp⟩ = ω at hs hn ⊢
    rw [← at_dq, ← hs]
    dsimp only [Acc.grads]
    isplitl [Hk Hv Hs Hp HR]
    · iexists (ω)
      isplitr
      · ipureintro; intro h; rw [ins_succ V c _ h, show 7 - (t.val + 1) % 8 = 6 - (n + 1) from by omega]; exact hn
      isplitl [Hk]; · iexact Hk
      isplitl [Hv]; · iexact Hv
      isplitl [Hs]; · iexact Hs
      isplitl [Hp]; · iexact Hp
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg1.N) : defs₀ (F := F) .tc cfg1.body (cfg1.bodyArgs t (cfg1.slots t)) = bodyAt1 t := by
  unfold defs₀; rw [Defs.onTc_tc]

theorem body_obligation (c : Dev nD) : BodyObligation (dat V c) (defs₀ (F := F)) Variants.none () Set.univ := fun t => by
  rw [bigSep_W1, bigSep_W1, defs₀_row]
  exact triple_restated (sound_body V c t) rfl .rfl fun _ => by
    have h6 : idle1 6 (grid1.coords t) = false := live 6 _
    simp only [live]; simp only [h6]; unfold bodyPost; iintro H; iexact H

end Cert.KernelIdeal.Bwd
end
-- ==== Proof.FlashRun.lean ====
module

public import proofs.«01_k».proof.Proof.FlashFwdDat
public import proofs.«01_k».proof.Proof.FlashDat
public import Idealize.ShloMosaic.Lib.Pipeline.RegionsLoop

@[expose] public section

set_option maxRecDepth 16384

noncomputable section

/-! The attention program's run: its two kernels' regions, and what every buffer holds at the end. -/
namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

omit [FloatOps F] [Named F] in
theorem holds_of_eq {P Q : sProp 𝕄} (h : P = Q) : P ⊢ Q := h ▸ .rfl

/-- The scoped buffers beside the stages are the kernel's own scratches and the rest. -/
theorem scratch0 (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))
          ∗ Pipeline.scopedRestBut (Ix := Unit) (Name := ℕ) (U := UR sig nD τ) (Lvl := ℕ) (Val := Elt F) spec0 c [cc0_scratch0, cc0_scratch1, cc0_scratch2]) :=
  Pipeline.scopedRest_split_of_list spec0 c [cc0_scratch0, cc0_scratch1, cc0_scratch2] (by decide) (by decide)

/-- The scoped buffers beside the stages are the kernel's own scratches and the rest. -/
theorem scratch1 (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f))
          ∗ Pipeline.scopedRestBut (Ix := Unit) (Name := ℕ) (U := UR sig nD τ) (Lvl := ℕ) (Val := Elt F) spec1 c [cc1_scratch0, cc1_scratch1, cc1_scratch2, cc1_scratch3]) :=
  Pipeline.scopedRest_split_of_list spec1 c [cc1_scratch0, cc1_scratch1, cc1_scratch2, cc1_scratch3] (by decide) (by decide)

variable (V W : Dev nD → Valuation τ sig (Elt F))

/-- The two regions' contents: the forward kernel entered at `V`, the backward one at `W`. -/
def pdats : (p : Fin 2) → (c : Dev nD) → Dat τ (Elt F) Unit ℕ (UR sig nD τ) ℕ (cfgs p) c
  | ⟨0, _⟩ => Fwd.dat V
  | ⟨1, _⟩ => Bwd.dat W

/-- No core owes another anything. -/
abbrev L : GSem nD τ sig → Finset Unit := fun _ => ∅
abbrev lv : GSem nD τ sig → Unit → ℕ := fun _ _ => 0

/-- What a core holds besides its buffers: it owes nothing. -/
abbrev rest (c : Dev nD) : sProp 𝕄 := iprop(∃ X, owes (c : Thread nD τ) (0 : CellTallies nD τ sig Unit) X)

variable (V' : Dev nD → Valuation τ sig (Elt F))

set_option backward.isDefEq.respectTransparency.types false in
/-- The forward kernel's region, from the buffers at `V` to the buffers at `V'`. -/
def reg0 (h0 : ∀ c, V' c main_v18_0 = (Fwd.dat V c).arrAt 3 cfg0.N) (h1 : ∀ c, V' c main_v18_1 = (Fwd.dat V c).arrAt 4 cfg0.N)
    (hne : ∀ c (b : Ref sig .tc), b ∉ ([main_v18_0, main_v18_1] : List (Ref sig .tc)) → V' c b = V c b) :
    RegionSeg (pcfgs (F := F)) adm (pdats V W) () defs₀ Variants.none L lv 0 where
  win := launch0.win.to₀
  block_pos := launch0.block_pos
  stage_whole := launch0.stage_whole
  K := PEmpty
  osem k := k.elim
  ho := Pipeline.OwnSemFacts.none _
  hbody c := (Fwd.body_obligation V c).loose
  hwaits := Pipeline.hwaits_of_owed_zero _ _ _ _ L lv 0 fun _ _ => rfl
  pre c := iprop(unscopedBufs c (fun b => V c b) ∗ rest c)
  post c := iprop(unscopedBufs c (fun b => V' c b) ∗ rest c)
  X _ := BI.emp
  Y _ := BI.emp
  Z c := Pipeline.unscopedRest (Ix := Unit) (Name := ℕ) (U := UR sig nD τ) (Lvl := ℕ) spec0 c (fun b => V c b)
  hentry c := by
    rw [Pipeline.ownSems0_none]
    have hsplit := Pipeline.arrays_of_unscopedBufs (p := 0) (pcfgs (F := F)) adm (pdats V W) launch0.win launch0.arr_whole c
      ((pdats V W 0 c).share_full fun _ => rfl) (fun b => V c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%X, HO⟩; iexists X; isplitr; · ipureintro; exact fun _ _ => Or.inl trivial
      iexact HO
    isplitr; · iempintro
    iexact Hrest
  hin c := by
    rw [show (pdats V W 0 c).Φ 0 = Fwd.Φ V c 0 from rfl]
    unfold Fwd.Φ
    simp only [owns_whole]
    iintro ⟨-, -, Hr⟩
    ihave H := (holds_of_eq (scratch0 c)) $$ Hr
    icases H with ⟨⟨⟨%f0, H0⟩, ⟨%f1, H1⟩, ⟨%f2, H2⟩⟩, HR⟩
    iexists (⟨f0, f1, f2⟩ : Fwd.Acc F)
    isplitr; · ipureintro; exact fun h => absurd rfl h
    isplitl [H0]; · iexact H0
    isplitl [H1]; · iexact H1
    isplitl [H2]; · iexact H2
    iexact HR
  hout c := by
    rw [Pipeline.ownSems0_none, show (pdats V W 0 c).Φ (Fin.last _) = Fwd.Φ V c cfg0.N from rfl]
    unfold Fwd.Φ
    simp only [owns_whole]
    iintro ⟨%σ, -, H0, H1, H2, HR⟩
    isplitr; · iempintro
    isplitr; · iempintro
    iapply (holds_of_eq (scratch0 c).symm)
    isplitr [HR]
    · isplitl [H0]; · iexists _; iexact H0
      isplitl [H1]; · iexists _; iexact H1
      iexists _; iexact H2
    iexact HR
  hexit c := by
    have hjoin := Pipeline.unscopedBufs_of_arrays (p := 0) (pcfgs (F := F)) adm (Ix := Unit) (Name := ℕ) (U := UR sig nD τ) (Lvl := ℕ) launch0.win launch0.arr_whole c
      (pdats V W) ((pdats V W 0 c).share_full fun _ => rfl) (fun b => V c b) (fun b => V' c b) ((pdats V W 0 c).arrAt · cfg0.N)
      (fun w => by
        fin_cases w
        · exact ((pdats V W 0 c).arrAt_in 0 rfl _).trans (hne c _ (by decide)).symm
        · exact ((pdats V W 0 c).arrAt_in 1 rfl _).trans (hne c _ (by decide)).symm
        · exact ((pdats V W 0 c).arrAt_in 2 rfl _).trans (hne c _ (by decide)).symm
        · exact (h0 c).symm
        · exact (h1 c).symm)
      (fun b hb => hne c b fun h => by
        rcases List.mem_cons.mp h with h | h
        · exact hb (h ▸ Finset.mem_image.mpr ⟨3, Finset.mem_univ _, rfl⟩)
        · exact hb (List.mem_singleton.mp h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%X, -, HO⟩; iexists X; iexact HO

set_option backward.isDefEq.respectTransparency.types false in
/-- The backward kernel's region, from the buffers at `W` to the buffers at `V'`. -/
def reg1 (h0 : ∀ c, V' c main_v26_0 = (Bwd.dat W c).arrAt 6 cfg1.N) (h1 : ∀ c, V' c main_v26_1 = (Bwd.dat W c).arrAt 7 cfg1.N)
    (h2 : ∀ c, V' c main_v26_2 = (Bwd.dat W c).arrAt 8 cfg1.N)
    (hne : ∀ c (b : Ref sig .tc), b ∉ ([main_v26_0, main_v26_1, main_v26_2] : List (Ref sig .tc)) → V' c b = W c b) :
    RegionSeg (pcfgs (F := F)) adm (pdats V W) () defs₀ Variants.none L lv 1 where
  win := launch1.win.to₀
  block_pos := launch1.block_pos
  stage_whole := launch1.stage_whole
  K := PEmpty
  osem k := k.elim
  ho := Pipeline.OwnSemFacts.none _
  hbody c := (Bwd.body_obligation W c).loose
  hwaits := Pipeline.hwaits_of_owed_zero _ _ _ _ L lv 1 fun _ _ => rfl
  pre c := iprop(unscopedBufs c (fun b => W c b) ∗ rest c)
  post c := iprop(unscopedBufs c (fun b => V' c b) ∗ rest c)
  X _ := BI.emp
  Y _ := BI.emp
  Z c := Pipeline.unscopedRest (Ix := Unit) (Name := ℕ) (U := UR sig nD τ) (Lvl := ℕ) spec1 c (fun b => W c b)
  hentry c := by
    rw [Pipeline.ownSems0_none]
    have hsplit := Pipeline.arrays_of_unscopedBufs (p := 1) (pcfgs (F := F)) adm (pdats V W) launch1.win launch1.arr_whole c
      ((pdats V W 1 c).share_full fun _ => rfl) (fun b => W c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%X, HO⟩; iexists X; isplitr; · ipureintro; exact fun _ _ => Or.inl trivial
      iexact HO
    isplitr; · iempintro
    iexact Hrest
  hin c := by
    rw [show (pdats V W 1 c).Φ 0 = Bwd.Φ W c 0 from rfl]
    unfold Bwd.Φ
    simp only [owns_whole]
    iintro ⟨-, -, Hr⟩
    ihave H := (holds_of_eq (scratch1 c)) $$ Hr
    icases H with ⟨⟨⟨%f0, H0⟩, ⟨%f1, H1⟩, ⟨%f2, H2⟩, ⟨%f3, H3⟩⟩, HR⟩
    iexists (⟨k1_pay73, f0, f1, f2, f3⟩ : Bwd.Acc F)
    isplitr; · ipureintro; exact fun h => absurd rfl h
    isplitl [H0]; · iexact H0
    isplitl [H1]; · iexact H1
    isplitl [H2]; · iexact H2
    isplitl [H3]; · iexact H3
    iexact HR
  hout c := by
    rw [Pipeline.ownSems0_none, show (pdats V W 1 c).Φ (Fin.last _) = Bwd.Φ W c cfg1.N from rfl]
    unfold Bwd.Φ
    simp only [owns_whole]
    iintro ⟨%σ, -, H0, H1, H2, H3, HR⟩
    isplitr; · iempintro
    isplitr; · iempintro
    iapply (holds_of_eq (scratch1 c).symm)
    isplitr [HR]
    · isplitl [H0]; · iexists _; iexact H0
      isplitl [H1]; · iexists _; iexact H1
      isplitl [H2]; · iexists _; iexact H2
      iexists _; iexact H3
    iexact HR
  hexit c := by
    have hjoin := Pipeline.unscopedBufs_of_arrays (p := 1) (pcfgs (F := F)) adm (Ix := Unit) (Name := ℕ) (U := UR sig nD τ) (Lvl := ℕ) launch1.win launch1.arr_whole c
      (pdats V W) ((pdats V W 1 c).share_full fun _ => rfl) (fun b => W c b) (fun b => V' c b) ((pdats V W 1 c).arrAt · cfg1.N)
      (fun w => by
        fin_cases w
        · exact ((pdats V W 1 c).arrAt_in 0 rfl _).trans (hne c _ (by decide)).symm
        · exact ((pdats V W 1 c).arrAt_in 1 rfl _).trans (hne c _ (by decide)).symm
        · exact ((pdats V W 1 c).arrAt_in 2 rfl _).trans (hne c _ (by decide)).symm
        · exact ((pdats V W 1 c).arrAt_in 3 rfl _).trans (hne c _ (by decide)).symm
        · exact ((pdats V W 1 c).arrAt_in 4 rfl _).trans (hne c _ (by decide)).symm
        · exact ((pdats V W 1 c).arrAt_in 5 rfl _).trans (hne c _ (by decide)).symm
        · exact (h0 c).symm
        · exact (h1 c).symm
        · exact (h2 c).symm)
      (fun b hb => hne c b fun h => by
        rcases List.mem_cons.mp h with h | h
        · exact hb (h ▸ Finset.mem_image.mpr ⟨6, Finset.mem_univ _, rfl⟩)
        rcases List.mem_cons.mp h with h | h
        · exact hb (h ▸ Finset.mem_image.mpr ⟨7, Finset.mem_univ _, rfl⟩)
        · exact hb (List.mem_singleton.mp h ▸ Finset.mem_image.mpr ⟨8, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%X, -, HO⟩; iexists X; iexact HO

variable (m : (ℓ : Loc nD τ sig) → Buf (Elt F) ℓ)

/-- What the forward kernel leaves. -/
def outs0 : Outs (F := F) := fun _ r c =>
  Function.update (Function.update (V5 m c) main_v18_0 ((Fwd.dat (V5 m) c).arrAt 3 cfg0.N)) main_v18_1 ((Fwd.dat (V5 m) c).arrAt 4 cfg0.N) r

/-- What the two kernels leave. -/
def outs : Outs (F := F) := fun n r c => if n = 8 then
    Function.update (Function.update (Function.update (V7 m (outs0 m) c) main_v26_0 ((Bwd.dat (V7 m (outs0 m)) c).arrAt 6 cfg1.N))
      main_v26_1 ((Bwd.dat (V7 m (outs0 m)) c).arrAt 7 cfg1.N)) main_v26_2 ((Bwd.dat (V7 m (outs0 m)) c).arrAt 8 cfg1.N) r
  else outs0 m n r c

theorem V7_outs : V7 m (outs m) = V7 m (outs0 m) := rfl

theorem V6_0 (c : Dev nD) : V6 m (outs m) c main_v18_0 = (Fwd.dat (V5 m) c).arrAt 3 cfg0.N := by
  rw [show V6 m (outs m) c main_v18_0 = V6 m (outs0 m) c main_v18_0 from rfl]
  unfold V6 outs0
  rw [Function.update_of_ne (by decide), Function.update_self, Function.update_of_ne (by decide), Function.update_self]
theorem V6_1 (c : Dev nD) : V6 m (outs m) c main_v18_1 = (Fwd.dat (V5 m) c).arrAt 4 cfg0.N := by
  rw [show V6 m (outs m) c main_v18_1 = V6 m (outs0 m) c main_v18_1 from rfl]
  unfold V6 outs0
  rw [Function.update_self, Function.update_self]
theorem V8_0 (c : Dev nD) : V8 m (outs m) c main_v26_0 = (Bwd.dat (V7 m (outs m)) c).arrAt 6 cfg1.N := by
  rw [V7_outs]; unfold V8 outs
  rw [Function.update_of_ne (by decide), Function.update_of_ne (by decide), Function.update_self, if_pos rfl]
  rw [Function.update_of_ne (by decide), Function.update_of_ne (by decide), Function.update_self]
theorem V8_1 (c : Dev nD) : V8 m (outs m) c main_v26_1 = (Bwd.dat (V7 m (outs m)) c).arrAt 7 cfg1.N := by
  rw [V7_outs]; unfold V8 outs
  rw [Function.update_of_ne (by decide), Function.update_self, if_pos rfl, Function.update_of_ne (by decide), Function.update_self]
theorem V8_2 (c : Dev nD) : V8 m (outs m) c main_v26_2 = (Bwd.dat (V7 m (outs m)) c).arrAt 8 cfg1.N := by
  rw [V7_outs]; unfold V8 outs
  rw [Function.update_self, if_pos rfl, Function.update_self]

abbrev R0 := reg0 (V5 m) (V7 m (outs m)) (V6 m (outs m)) (V6_0 m) (V6_1 m) (fun c b h => V6_of m (outs m) c b h)
abbrev R1 := reg1 (V5 m) (V7 m (outs m)) (V8 m (outs m)) (V8_0 m) (V8_1 m) (V8_2 m) (fun c b h => V8_of m (outs m) c b h)

set_option backward.isDefEq.respectTransparency.types false in
/-- From any memory with zero counters the program ends, every unscoped buffer at the last valuation and every counter at zero. -/
theorem run (ρ : Dev nD → PrngReg) :
    θ_run defs (onTc (τ := τ) (main (F := F))) ⟨m, fun _ => 0, ρ⟩ (fun r => (∀ c : Dev nD, ∀ b ∈ Pipeline.ucRefs τ sig,
      r.2.mem (c, b) = V9 m (outs m) c b) ∧ r.2.sem = fun _ => 0) := by
  refine Pipeline.θ_run_regions_kit_dev_sems (pcfgs (F := F)) adm (pdats (V5 m) (V7 m (outs m))) () cellOf_inj emb₁ defs₀ Variants.none L lv m ρ main
    (segs m (outs m) Variants.none L lv (fun _ => rest) () (pdats (V5 m) (V7 m (outs m))) (R0 m) (R1 m))
    (fun c Q => by
      rewrite [main_chain c, Seg.run_eq_chain,
        show (segs m (outs m) Variants.none L lv (fun _ => rest) () (pdats (V5 m) (V7 m (outs m))) (R0 m) (R1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (V9 m (outs m) c))
    (hch := fun c => ⟨.rfl, .rfl, .rfl, .rfl, .rfl, ?_, ?_, ?_, ?_, .rfl⟩)
    (hinit := ?_) (QY := fun c s => ∀ b ∈ Pipeline.ucRefs τ sig, s.mem (c, b) = V9 m (outs m) c b)
    (hfin := fun c s' => ?_) (hQ := fun _ h hz => ⟨h, funext fun g => hz g (.inr (regions_no_unscoped g.2))⟩)
  · iintro Hu; imodintro
    isplitl [Hu]; · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · exact holds_of_eq (show (iprop(StableHlo.held (c : Thread nD τ) (Pipeline.ucRefs τ sig) (V5 m c) ∗ rest c) : sProp 𝕄) = iprop(unscopedBufs c (fun b => V5 m c b) ∗ rest c) by rw [Pipeline.unscopedBufs_held (Ix := Unit) (Name := ℕ) (U := UR sig nD τ) (Lvl := ℕ) c (V5 m c)])
  · exact holds_of_eq (show (iprop(unscopedBufs c (fun b => V6 m (outs m) c b) ∗ rest c) : sProp 𝕄) = iprop(StableHlo.held (c : Thread nD τ) (Pipeline.ucRefs τ sig) (V6 m (outs m) c) ∗ rest c) by rw [Pipeline.unscopedBufs_held (Ix := Unit) (Name := ℕ) (U := UR sig nD τ) (Lvl := ℕ) c (V6 m (outs m) c)])
  · exact holds_of_eq (show (iprop(StableHlo.held (c : Thread nD τ) (Pipeline.ucRefs τ sig) (V7 m (outs m) c) ∗ rest c) : sProp 𝕄) = iprop(unscopedBufs c (fun b => V7 m (outs m) c b) ∗ rest c) by rw [Pipeline.unscopedBufs_held (Ix := Unit) (Name := ℕ) (U := UR sig nD τ) (Lvl := ℕ) c (V7 m (outs m) c)])
  · exact holds_of_eq (show (iprop(unscopedBufs c (fun b => V8 m (outs m) c b) ∗ rest c) : sProp 𝕄) = iprop(StableHlo.held (c : Thread nD τ) (Pipeline.ucRefs τ sig) (V8 m (outs m) c) ∗ rest c) by rw [Pipeline.unscopedBufs_held (Ix := Unit) (Name := ℕ) (U := UR sig nD τ) (Lvl := ℕ) c (V8 m (outs m) c)])
  · have hone : ∀ c : Dev nD, iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp))
        ⊢ (iprop(StableHlo.held (c : Thread nD τ) (Pipeline.ucRefs τ sig) (V0 m c) ∗ rest c) : sProp 𝕄) := fun c => by
      rw [← Pipeline.unscopedBufs_held (Ix := Unit) (Name := ℕ) (U := UR sig nD τ) (Lvl := ℕ) c (V0 m c)]
      iintro ⟨Hb, -, HO, -⟩
      isplitl [Hb]; · iexact Hb
      iexists _; iexact HO
    iintro ⟨H, -⟩
    imodintro
    have hall : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (bigSep Finset.univ fun c : Dev nD => iprop(StableHlo.held (c : Thread nD τ) (Pipeline.ucRefs τ sig) (V0 m c) ∗ rest c) : sProp 𝕄) :=
      bigSep_mono fun c _ => hone c
    iapply hall
    iexact H
  · unfold StableHlo.held
    iintro ⟨Hh, HSI⟩
    ihave Hr := (pointsTo_read_all (Pipeline.ucRefs τ sig) (fun b => ((c : Thread nD τ).1, b)) (V9 m (outs m) c) s') $$ [Hh HSI]
    · isplitl [Hh] <;> iassumption
    icases Hr with ⟨%h, HSI⟩
    imodintro
    isplitr
    · ipureintro; exact h
    · iexact HSI

/-- An argument's buffer is an unscoped one. -/
theorem mem_uc (b : Ref sig .tc) (h : ¬ (Proc.devRef (τ := τ) .tc b).isScoped) : Proc.devRef .tc b ∈ Pipeline.ucRefs τ sig :=
  Finset.mem_filter.mpr ⟨StableHlo.devRef_mem_tcRefs b, h⟩

end Cert.KernelIdeal.Attn
end
-- ==== Proof.AttnMath.lean ====
module

public import Idealize.ShloMosaic.Lib.IdealHost
public import Idealize.ShloMosaic.PureOps.Ideal.Laws
public import Mathlib.Analysis.SpecialFunctions.Pow.Real

@[expose] public section

noncomputable section

/-! Sums of real numbers inside the extended reals, and a row of a softmax taken block by block in powers of two. -/
namespace Cert.AttnMath

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem coe_sum_mul {ι : Type*} (s : Finset ι) (f g : ι → ℝ) : ∑ i ∈ s, (f i : EReal) * (g i : EReal) = ((∑ i ∈ s, f i * g i : ℝ) : EReal) := by
  simp only [coe_sum, EReal.coe_mul]

theorem ofBits_neg_inf : Ideal.ofBits .f32 0xFF800000#32 = ⊥ := by simp [Ideal.ofBits, Ideal.ieee]

/-- The largest of finitely many entries, none `⊤` and one a number, is a number. -/
theorem fold_max_real {ι : Type*} [Fintype ι] (s : ι → EReal) (ht : ∀ b, s b ≠ ⊤) (b₀ : ι) (hb : s b₀ ≠ ⊥) (mm : EReal) (hm : mm ≠ ⊤) :
    ∃ M : ℝ, max mm (Finset.univ.fold max ⊥ s) = (M : EReal) := by
  have h1 : max mm (Finset.univ.fold max ⊥ s) ≠ ⊤ := by
    refine ne_of_lt (max_lt (lt_top_iff_ne_top.mpr hm) ?_)
    rw [Finset.fold_max_lt]
    exact ⟨bot_lt_top, fun x _ => lt_top_iff_ne_top.mpr (ht x)⟩
  have h2 : max mm (Finset.univ.fold max ⊥ s) ≠ ⊥ := by
    refine ne_of_gt (lt_max_of_lt_right ?_)
    rw [Finset.lt_fold_max]
    exact Or.inr ⟨b₀, Finset.mem_univ _, bot_lt_iff_ne_bot.mpr hb⟩
  exact ⟨_, (EReal.coe_toReal h1 h2).symm⟩

theorem exp2_sub (a b : ℝ) : Ideal.exp2 ((a : EReal) - (b : EReal)) = (((2 : ℝ) ^ (-b) * (2 : ℝ) ^ a : ℝ) : EReal) := by
  rw [← EReal.coe_sub, Ideal.exp2_coe, ← Real.rpow_add (by norm_num), neg_add_eq_sub]; rfl

/-- One row's update: the sum so far rescaled to the new maximum, and one more block added. -/
theorem row_acc {n : ℕ} (p : Fin n → Prop) [DecidablePred p] (σ v : Fin n → ℝ) (s : Fin n → EReal) (hs : ∀ b, s b = if p b then (σ b : EReal) else ⊥)
    (mm acc : EReal) (T M' : ℝ) (h : (∃ M : ℝ, mm = (M : EReal) ∧ acc = (((2 : ℝ) ^ (-M) * T : ℝ) : EReal)) ∨ (mm = ⊥ ∧ acc = 0 ∧ T = 0)) :
    Ideal.exp2 (mm - (M' : EReal)) * acc + ∑ b, Ideal.exp2 (s b - (M' : EReal)) * (v b : EReal)
      = (((2 : ℝ) ^ (-M') * (T + ∑ b, if p b then (2 : ℝ) ^ σ b * v b else 0) : ℝ) : EReal) := by
  have e1 : Ideal.exp2 (mm - (M' : EReal)) * acc = (((2 : ℝ) ^ (-M') * T : ℝ) : EReal) := by
    rcases h with ⟨M, rfl, rfl⟩ | ⟨rfl, rfl, rfl⟩
    · rw [exp2_sub, ← EReal.coe_mul]
      congr 1
      rw [mul_assoc, ← mul_assoc ((2 : ℝ) ^ M), ← Real.rpow_add (by norm_num), add_neg_cancel, Real.rpow_zero, one_mul]
    · simp
  have e2 : ∀ b, Ideal.exp2 (s b - (M' : EReal)) * (v b : EReal) = (((2 : ℝ) ^ (-M') * (if p b then (2 : ℝ) ^ σ b * v b else 0) : ℝ) : EReal) := fun b => by
    rw [hs]
    split_ifs
    · rw [exp2_sub, ← EReal.coe_mul, mul_assoc]
    · simp
  rw [e1, Finset.sum_congr rfl fun b _ => e2 b, ← coe_sum, ← EReal.coe_add, ← Finset.mul_sum, ← mul_add]

/-- A sum over the rows of blocks 0, …, r - 1 and the first `a + 1` rows of block `r`. -/
theorem range_diag (f : ℕ → ℝ) (r : ℕ) (a : Fin 512) :
    ∑ c ∈ Finset.range (512 * r), f c + ∑ b : Fin 512, (if b.val ≤ a.val then f (512 * r + b.val) else 0) = ∑ c ∈ Finset.range (512 * r + a.val + 1), f c := by
  rw [add_assoc (512 * r), Finset.sum_range_add f]
  congr 1
  rw [Fin.sum_univ_eq_sum_range (fun b => if b ≤ a.val then f (512 * r + b) else 0) 512, ← Finset.sum_filter]
  refine Finset.sum_congr (Finset.ext fun x => ?_) fun _ _ => rfl
  simp only [Finset.mem_filter, Finset.mem_range]
  omega

theorem range_block (f : ℕ → ℝ) (j : ℕ) :
    ∑ c ∈ Finset.range (512 * j), f c + ∑ b : Fin 512, f (512 * j + b.val) = ∑ c ∈ Finset.range (512 * (j + 1)), f c := by
  rw [show 512 * (j + 1) = 512 * j + 512 from by ring, Finset.sum_range_add f, Fin.sum_univ_eq_sum_range (fun b => f (512 * j + b)) 512]

/-- A row's log-sum in base two does not depend on the maximum taken out. -/
theorem lse_eq (M T : ℝ) (hT : 0 < T) : (M : EReal) + Ideal.log (((2 : ℝ) ^ (-M) * T : ℝ) : EReal) * (((Real.log 2)⁻¹ : ℝ) : EReal) = ((Real.log T / Real.log 2 : ℝ) : EReal) := by
  have h2 : (0 : ℝ) < 2 ^ (-M) := Real.rpow_pos_of_pos (by norm_num) _
  have hl : Real.log 2 ≠ 0 := Real.log_ne_zero_of_pos_of_ne_one (by norm_num) (by norm_num)
  rw [Ideal.log_coe, if_neg (not_le.mpr (mul_pos h2 hT)), ← EReal.coe_mul, ← EReal.coe_add, Real.log_mul h2.ne' hT.ne', Real.log_rpow (by norm_num)]
  congr 1
  field_simp
  ring

/-- A quotient of two sums with the same maximum taken out. -/
theorem div_eq (M N T : ℝ) (hT : 0 < T) : Ideal.div (((2 : ℝ) ^ (-M) * N : ℝ) : EReal) (((2 : ℝ) ^ (-M) * T : ℝ) : EReal) = ((N / T : ℝ) : EReal) := by
  have h2 : (0 : ℝ) < 2 ^ (-M) := Real.rpow_pos_of_pos (by norm_num) _
  rw [Ideal.div_coe (mul_pos h2 hT).ne', ← EReal.coe_mul]
  congr 1
  field_simp

/-- A weight from a score and its row's log-sum. -/
theorem exp2_lse (x T : ℝ) (hT : 0 < T) : Ideal.exp2 ((x : EReal) - ((Real.log T / Real.log 2 : ℝ) : EReal)) = (((2 : ℝ) ^ x / T : ℝ) : EReal) := by
  have hl : Real.log 2 ≠ 0 := Real.log_ne_zero_of_pos_of_ne_one (by norm_num) (by norm_num)
  rw [← EReal.coe_sub, Ideal.exp2_coe]
  congr 1
  show (2 : ℝ) ^ (x - Real.log T / Real.log 2) = _
  rw [Real.rpow_sub (by norm_num)]
  congr 1
  rw [Real.rpow_def_of_pos (by norm_num), mul_div_cancel₀ _ hl, Real.exp_log hT]

/-- The order of two small words is the order of the numbers. -/
theorem sle_words {n : ℕ} (hn : n ≤ 4096) (a b : Fin n) : IntOp.cmpi .sle (BitVec.ofNat 32 b.val) (BitVec.ofNat 32 a.val) = if b.val ≤ a.val then 1#1 else 0#1 := by
  have ha := a.isLt
  have hb := b.isLt
  have h : ∀ x : ℕ, x < 4096 → (BitVec.ofNat 32 x).toInt = x := fun x hx => by rw [BitVec.toInt_eq_toNat_of_lt] <;> simp [BitVec.toNat_ofNat] <;> omega
  simp [IntOp.cmpi, BitVec.sle, h _ (ha.trans_le hn), h _ (hb.trans_le hn)]
  by_cases hle : b ≤ a <;> simp [hle]

end Cert.AttnMath

end
-- ==== Proof.AttnRef.lean ====
module

public import proofs.«01_k».proof.Proof.Gen.ReferenceIdeal
public import proofs.«01_k».proof.Proof.Gen.ReferenceIdeal.Run
public import proofs.«01_k».proof.Proof.Gen.ReferenceIdeal.Read
public import proofs.«01_k».proof.Proof.AttnMath
public import Idealize.ShloMosaic.Lib.Pointwise

@[expose] public section

set_option maxRecDepth 16384

noncomputable section

/-! The reference's attention and its gradients of arguments that are real numbers. -/
namespace Cert.ReferenceIdeal.Attn

open Cert.ReferenceIdeal Cert.ReferenceIdeal.Gen Cert.ReferenceIdeal.Read Idealize.ShloMosaic
open Cert.AttnMath

/-- The scale of the scores. -/
def cc : ℝ := (Ideal.ofBits .f32 0x3D93CD3A#32).toReal

theorem cc_bits : Ideal.ofBits .f32 0x3D93CD3A#32 = (cc : EReal) := by
  refine (EReal.coe_toReal ?_ ?_).symm <;> simp [Ideal.ofBits, Ideal.ieee, -EReal.coe_mul]

variable (q k v ct : ℕ → ℕ → ℕ → ℝ)

/-- The scaled score of row `i` and column `j` of head `h`. -/
def sc (h i j : ℕ) : ℝ := (∑ d : Fin 192, q h i d.val * k h j d.val) * cc
/-- The sum of row `i`'s weights. -/
def zz (h i : ℕ) : ℝ := ∑ j : Fin 4096, if j.val ≤ i then Real.exp (sc q k h i j.val) else 0
/-- The probability of column `j` in row `i`. -/
def pp (h i j : ℕ) : ℝ := (if j ≤ i then Real.exp (sc q k h i j) else 0) / zz q k h i
/-- The gradient of the probability. -/
def dp (h i j : ℕ) : ℝ := ∑ d : Fin 128, ct h i d.val * v h j d.val
/-- The gradient of the unscaled score. -/
def ds (h i j : ℕ) : ℝ := pp q k h i j * (dp v ct h i j - ∑ c : Fin 4096, dp v ct h i c.val * pp q k h i c.val) * cc

theorem zz_pos (h : ℕ) (i : Fin 4096) : 0 < zz q k h i.val :=
  Finset.sum_pos' (fun j _ => by split_ifs; exacts [(Real.exp_pos _).le, le_rfl]) ⟨i, Finset.mem_univ _, by rw [if_pos le_rfl]; exact Real.exp_pos _⟩

/-- The arguments are the real numbers `q`, `k`, `v` and `ct`. -/
structure Reals (x0 x1 : FVec Ideal S1x4096x8x192 .f32) (x2 x3 : FVec Ideal S1x4096x8x128 .f32) : Prop where
  q : ∀ (i : Fin 4096) (h : Fin 8) (d : Fin 192), x0 (ix4 0 i h d) = ((q h.val i.val d.val : ℝ) : EReal)
  k : ∀ (i : Fin 4096) (h : Fin 8) (d : Fin 192), x1 (ix4 0 i h d) = ((k h.val i.val d.val : ℝ) : EReal)
  v : ∀ (i : Fin 4096) (h : Fin 8) (d : Fin 128), x2 (ix4 0 i h d) = ((v h.val i.val d.val : ℝ) : EReal)
  ct : ∀ (i : Fin 4096) (h : Fin 8) (d : Fin 128), x3 (ix4 0 i h d) = ((ct h.val i.val d.val : ℝ) : EReal)

variable {q k v ct} {x0 x1 : FVec Ideal S1x4096x8x192 .f32} {x2 x3 : FVec Ideal S1x4096x8x128 .f32} (R : Reals q k v ct x0 x1 x2 x3)
include R

theorem v2_real (h : Fin 8) (i j : Fin 4096) : val_main_v2 (F := Ideal) x0 x1 (ix4 0 h i j) = ((sc q k h.val i.val j.val : ℝ) : EReal) := by
  pointwise [val_main_v2, val_main_v1, val_main_v0, val_main_cst]
  simp only [R.q, R.k, cc_bits]
  rw [coe_sum_mul, ← EReal.coe_mul]; rfl

omit R in
theorem mask_word (h : Fin 8) (i j : Fin 4096) : val_main_v10_1 (F := Ideal) (ix4 0 h i j) = if j.val ≤ i.val then 1#1 else 0#1 := by
  pointwise [val_main_v10_1, val_main_v9, val_main_v8, val_main_v7, val_main_v6, val_main_v5, val_main_v4, val_main_v3]
  exact sle_words le_rfl i j

theorem v10_real (h : Fin 8) (i j : Fin 4096) : val_main_v10_0 (F := Ideal) x0 x1 (ix4 0 h i j) = if j.val ≤ i.val then ((sc q k h.val i.val j.val : ℝ) : EReal) else ⊥ := by
  have e1 := mask_word h i j
  have e2 := v2_real R h i j
  generalize hX : val_main_v2 (F := Ideal) x0 x1 = X at e2
  generalize hM : val_main_v10_1 (F := Ideal) = M at e1
  pointwise [val_main_v10_0, val_main_call0_v2, val_main_call0_v0, val_main_cst_0]
  rw [hM, hX, e1, e2]
  split_ifs
  · rfl
  · exact ofBits_neg_inf

omit R in
theorem v11_fold (h : Fin 8) (i : Fin 4096) :
    val_main_v11 (F := Ideal) x0 x1 (ix3 0 h i) = Finset.univ.fold max (Ideal.ofBits .f32 0xFF800000#32) (fun j : Fin 4096 => val_main_v10_0 (F := Ideal) x0 x1 (ix4 0 h i j)) := by
  unfold val_main_v11
  generalize val_main_v10_0 (F := Ideal) x0 x1 = X
  pointwise [val_main_cst_1]

omit R in
theorem v18_max (h : Fin 8) (i : Fin 4096) : val_main_v18 (F := Ideal) x0 x1 (ix3 0 h i) = max (Ideal.ofBits .f32 0xFF800000#32) (val_main_v11 (F := Ideal) x0 x1 (ix3 0 h i)) := by
  rw [val_main_v18_apply, val_main_v17_apply, val_main_cst_3_apply]
  generalize val_main_v11 (F := Ideal) x0 x1 (ix3 0 h i) = X
  rfl

theorem v18_real (h : Fin 8) (i : Fin 4096) : ∃ M : ℝ, val_main_v18 (F := Ideal) x0 x1 (ix3 0 h i) = (M : EReal) := by
  have e := v10_real R h i
  rw [v18_max, v11_fold, ofBits_neg_inf]
  exact fold_max_real (fun j => val_main_v10_0 (F := Ideal) x0 x1 (ix4 0 h i j)) (fun j => by rw [e]; split_ifs; exacts [EReal.coe_ne_top _, bot_ne_top]) i (by rw [e, if_pos le_rfl]; exact EReal.coe_ne_bot _) ⊥ bot_ne_top

/-- A row's weights over its largest score, and their sum. -/
theorem row_real (h : Fin 8) (i : Fin 4096) : ∃ Z : ℝ, 0 < Z ∧ (∀ j : Fin 4096, val_main_v31 (F := Ideal) x0 x1 (ix4 0 h i j) = ((pp q k h.val i.val j.val * Z : ℝ) : EReal))
    ∧ val_main_v33 (F := Ideal) x0 x1 (ix4 0 h i 0) = (Z : EReal) := by
  obtain ⟨M, hM⟩ := v18_real R h i
  have hz := zz_pos q k h.val i
  have e10 := v10_real R h i
  have e31 : ∀ j : Fin 4096, val_main_v31 (F := Ideal) x0 x1 (ix4 0 h i j) = ((pp q k h.val i.val j.val * (Real.exp (-M) * zz q k h.val i.val) : ℝ) : EReal) := fun j => by
    have e := e10 j
    unfold val_main_v31 val_main_v30 val_main_v29 val_main_v28
    generalize val_main_v10_0 (F := Ideal) x0 x1 = X at e ⊢
    generalize val_main_v18 (F := Ideal) x0 x1 = Y at hM ⊢
    pointwise
    rw [e, hM, pp]
    split_ifs
    · rw [← EReal.coe_sub, Ideal.exp_coe]
      congr 1
      rw [sub_eq_add_neg, Real.exp_add]
      field_simp
    · rw [EReal.bot_sub]
      simp
  refine ⟨Real.exp (-M) * zz q k h.val i.val, mul_pos (Real.exp_pos _) hz, e31, ?_⟩
  unfold val_main_v33 val_main_v32
  generalize val_main_v31 (F := Ideal) x0 x1 = X at e31 ⊢
  pointwise [val_main_cst_9]
  simp only [e31]
  rw [← coe_sum, ← Finset.sum_mul]
  refine congrArg Real.toEReal ?_
  simp only [pp]
  rw [← Finset.sum_div, ← zz, div_self hz.ne', one_mul]

theorem v35_real (h : Fin 8) (i j : Fin 4096) : val_main_v35 (F := Ideal) x0 x1 (ix4 0 h i j) = ((pp q k h.val i.val j.val : ℝ) : EReal) := by
  obtain ⟨Z, hZ, e1, e2⟩ := row_real R h i
  have e := e1 j
  unfold val_main_v35 val_main_v34
  generalize val_main_v31 (F := Ideal) x0 x1 = X at e ⊢
  generalize val_main_v33 (F := Ideal) x0 x1 = Y at e2 ⊢
  pointwise
  rw [e, e2, Ideal.div_coe hZ.ne', ← EReal.coe_mul]
  congr 1
  field_simp

/-- The output of row `i` and head `h`. -/
theorem v40_real (i : Fin 4096) (h : Fin 8) (d : Fin 128) : val_main_v40 (F := Ideal) x0 x1 x2 (ix4 0 i h d) = ((∑ j : Fin 4096, v h.val j.val d.val * pp q k h.val i.val j.val : ℝ) : EReal) := by
  have e := fun j => v35_real R h i j
  unfold val_main_v40 val_main_v39
  generalize val_main_v35 (F := Ideal) x0 x1 = X at e ⊢
  pointwise
  simp only [e, R.v]
  exact coe_sum_mul _ _ _

/-- The gradient of the values. -/
theorem v44_real (j : Fin 4096) (h : Fin 8) (d : Fin 128) : val_main_v44 (F := Ideal) x0 x1 x3 (ix4 0 j h d) = ((∑ i : Fin 4096, ct h.val i.val d.val * pp q k h.val i.val j.val : ℝ) : EReal) := by
  have e := fun i => v35_real R h i j
  unfold val_main_v44 val_main_v43
  generalize val_main_v35 (F := Ideal) x0 x1 = X at e ⊢
  pointwise [val_main_v41]
  simp only [e, R.ct]
  exact coe_sum_mul _ _ _

theorem v42_real (h : Fin 8) (i j : Fin 4096) : val_main_v42 (F := Ideal) x2 x3 (ix4 0 h i j) = ((dp v ct h.val i.val j.val : ℝ) : EReal) := by
  pointwise [val_main_v42, val_main_v41]
  simp only [R.ct, R.v]
  exact coe_sum_mul _ _ _

omit R in
theorem v53_apply (h : Fin 8) (i : Fin 4096) : val_main_v53 (F := Ideal) x0 x1 x2 x3 (ix2 h i) = val_main_v50 (F := Ideal) x0 x1 x2 x3 (ix4 0 h i 0) := by
  unfold val_main_v53
  generalize val_main_v50 (F := Ideal) x0 x1 x2 x3 = X
  show Ideal.hostReduceAdd reducesTo_S1x8x4096x1_S8x4096_d0_3 X _ (ix2 h i) = _
  unfold Ideal.hostReduceAdd
  have e0 : val_main_cst_12 (F := Ideal) (Shape.Idx.first h_S_) = 0 := by pointwise [val_main_cst_12]
  rw [e0, zero_add]
  refine Finset.sum_eq_single_of_mem _ (Finset.mem_filter.mpr ⟨Finset.mem_univ _, funext fun b => ?_⟩) fun y hy hne => absurd (funext fun b => ?_) hne
  · fin_cases b <;> rfl
  · have hd := (Finset.mem_filter.mp hy).2
    have h1 : y 1 = h := congrFun hd 0
    have h2 : y 2 = i := congrFun hd 1
    fin_cases b
    · exact Fin.ext (Nat.lt_one_iff.mp (y 0).isLt)
    · exact h1
    · exact h2
    · exact Fin.ext (Nat.lt_one_iff.mp (y 3).isLt)

/-- The gradient of the scores. -/
theorem v60_real (h : Fin 8) (i j : Fin 4096) : val_main_v60 (F := Ideal) x0 x1 x2 x3 (ix4 0 h i j) = ((ds q k v ct h.val i.val j.val : ℝ) : EReal) := by
  obtain ⟨Z, hZ, e31, e33⟩ := row_real R h i
  have e42 := v42_real R h i
  have e10 := mask_word h i j
  have e48 : val_main_v48 (F := Ideal) x0 x1 x2 x3 (ix3 0 h i) = (((∑ c : Fin 4096, dp v ct h.val i.val c.val * pp q k h.val i.val c.val) / Z : ℝ) : EReal) := by
    unfold val_main_v48 val_main_v47 val_main_v46 val_main_v45 val_main_v38 val_main_v36
    generalize val_main_v31 (F := Ideal) x0 x1 = X at e31 ⊢
    generalize val_main_v33 (F := Ideal) x0 x1 = Y at e33 ⊢
    generalize val_main_v42 (F := Ideal) x2 x3 = W at e42 ⊢
    pointwise [val_main_v37, val_main_cst_10, val_main_cst_11]
    simp only [e31, e33, e42]
    rw [← EReal.coe_mul, ← EReal.coe_one, Ideal.div_coe (mul_pos hZ hZ).ne']
    simp only [← EReal.coe_mul]
    rw [← coe_sum, Finset.sum_div]
    congr 1
    refine Finset.sum_congr rfl fun c _ => ?_
    field_simp
  have e57 : val_main_v57 (F := Ideal) x0 x1 x2 x3 (ix4 0 h i j) = ((pp q k h.val i.val j.val * (dp v ct h.val i.val j.val - ∑ c : Fin 4096, dp v ct h.val i.val c.val * pp q k h.val i.val c.val) : ℝ) : EReal) := by
    have e31 := e31 j
    have e42 := e42 j
    have e53 : val_main_v53 (F := Ideal) x0 x1 x2 x3 (ix2 h i) = (-((∑ c : Fin 4096, dp v ct h.val i.val c.val * pp q k h.val i.val c.val) / Z) : ℝ) := by
      rw [v53_apply]
      unfold val_main_v50 val_main_v49
      generalize val_main_v48 (F := Ideal) x0 x1 x2 x3 = U at e48 ⊢
      pointwise
      rw [e48, ← EReal.coe_neg]
    unfold val_main_v57 val_main_v56 val_main_v55 val_main_v54 val_main_v52 val_main_v51
    generalize val_main_v31 (F := Ideal) x0 x1 = X at e31 ⊢
    generalize val_main_v33 (F := Ideal) x0 x1 = Y at e33 ⊢
    generalize val_main_v42 (F := Ideal) x2 x3 = W at e42 ⊢
    generalize val_main_v53 (F := Ideal) x0 x1 x2 x3 = U at e53 ⊢
    pointwise
    simp only [e31, e33, e42, e53]
    rw [Ideal.div_coe hZ.ne', ← EReal.coe_mul, ← EReal.coe_add, ← EReal.coe_mul]
    congr 1
    field_simp
    ring
  unfold val_main_v60 val_main_v58
  generalize val_main_v57 (F := Ideal) x0 x1 x2 x3 = X at e57 ⊢
  generalize val_main_v10_1 (F := Ideal) = M at e10 ⊢
  pointwise [val_main_v59, val_main_cst_13, val_main_call1_v0, val_main_call1_cst]
  rw [e10, e57, cc_bits]
  split_ifs with hij
  · exact (EReal.coe_mul _ _).symm
  · rw [ds, pp, if_neg hij]
    simp [Scalar.select]

/-- The gradient of the keys. -/
theorem v62_real (j : Fin 4096) (h : Fin 8) (d : Fin 192) : val_main_v62 (F := Ideal) x0 x1 x2 x3 (ix4 0 j h d) = ((∑ i : Fin 4096, ds q k v ct h.val i.val j.val * q h.val i.val d.val : ℝ) : EReal) := by
  have e := fun i => v60_real R h i j
  unfold val_main_v62 val_main_v61
  generalize val_main_v60 (F := Ideal) x0 x1 x2 x3 = X at e ⊢
  pointwise
  simp only [e, R.q]
  exact coe_sum_mul _ _ _

/-- The gradient of the queries. -/
theorem v64_real (i : Fin 4096) (h : Fin 8) (d : Fin 192) : val_main_v64 (F := Ideal) x0 x1 x2 x3 (ix4 0 i h d) = ((∑ j : Fin 4096, ds q k v ct h.val i.val j.val * k h.val j.val d.val : ℝ) : EReal) := by
  have e := fun j => v60_real R h i j
  unfold val_main_v64 val_main_v63
  generalize val_main_v60 (F := Ideal) x0 x1 x2 x3 = X at e ⊢
  pointwise
  simp only [e, R.k]
  exact coe_sum_mul _ _ _

end Cert.ReferenceIdeal.Attn
end
-- ==== Proof.AttnHost.lean ====
module

public import proofs.«01_k».proof.Proof.FlashRun
public import proofs.«01_k».proof.Proof.AttnRef
public import Idealize.ShloMosaic.Lib.Pointwise
public import Idealize.ShloMosaic.Lib.StableHlo.ReadAt

@[expose] public section

set_option maxRecDepth 16384

noncomputable section

/-! What the attention program's host lines hold at an index. -/
namespace Cert.KernelIdeal.Attn

open Cert.KernelIdeal Cert.KernelIdeal.Gen
open Idealize.ShloMosaic Idealize.ShloMosaic.TcCoe
open Cert.ReferenceIdeal.Attn (Reals cc cc_bits)

theorem two_bits : Ideal.ofBits FTy.f32 0x40000000#32 = ((2 : ℝ) : EReal) := by
  simp [Ideal.ofBits, Ideal.ieee, -EReal.coe_mul]; norm_num

theorem one_bits : Ideal.ofBits FTy.f32 0x3F800000#32 = ((1 : ℝ) : EReal) := by
  simp [Ideal.ofBits, Ideal.ieee, -EReal.coe_mul]; norm_num

theorem log_two_bits : Ideal.log (Ideal.ofBits FTy.f32 0x40000000#32) = ((Real.log 2 : ℝ) : EReal) := by
  rw [two_bits, Ideal.log_coe]
  simp

theorem log_two_ne : Real.log 2 ≠ 0 := (Real.log_pos one_lt_two).ne'

theorem pad_zero : (FloatOps.sitofp FTy.f32 0#32 : Ideal .f32) = ((0 : ℝ) : EReal) := by
  show (((0#32 : BitVec 32).toInt : ℝ) : EReal) = _
  simp

/-- The kernel's scaled and padded query. -/
def Qv (q : ℕ → ℕ → ℕ → ℝ) (h i d : ℕ) : ℝ := if d < 192 then q h i d * cc * (1 / Real.log 2) else 0
/-- The kernel's padded key. -/
def Kv (k : ℕ → ℕ → ℕ → ℝ) (h i d : ℕ) : ℝ := if d < 192 then k h i d else 0
/-- The kernel's value, with its columns of ones. -/
def Wv (v : ℕ → ℕ → ℕ → ℝ) (h i d : ℕ) : ℝ := if d < 128 then v h i d else 1

variable {q k v ct : ℕ → ℕ → ℕ → ℝ}
variable {m : (ℓ : Loc nD τ sig) → Buf (Elt Ideal) ℓ} {outs : Outs (F := Ideal)} {c : Dev nD}

/-- What the arguments hold. -/
abbrev Args (q k v ct : ℕ → ℕ → ℕ → ℝ) (m : (ℓ : Loc nD τ sig) → Buf (Elt Ideal) ℓ) (c : Dev nD) : Prop :=
  Reals q k v ct (m ((c.tc : Thread nD τ).loc main_arg0)) (m ((c.tc : Thread nD τ).loc main_arg1))
    (m ((c.tc : Thread nD τ).loc main_arg2)) (m ((c.tc : Thread nD τ).loc main_arg3))

theorem arg3_V6 : V6 m outs c main_arg3 = m ((c.tc : Thread nD τ).loc main_arg3) :=
  (V6_of m outs c main_arg3 (by decide)).trans <| (V5_of m c main_arg3 (by decide)).trans <| (V4_of m c main_arg3 (by decide)).trans <|
    (V3_of m c main_arg3 (by decide)).trans <| (V2_of m c main_arg3 (by decide)).trans <| V1_of m c main_arg3 (by decide)

theorem q_read (R : Args q k v ct m c) (h : Fin 8) (i : Fin 4096) (d : Fin 256) :
    (V5 m c main_v8 : FVec Ideal S8x4096x256 .bf16) (ix3 h i d) = ((Qv q h i d : ℝ) : EReal) := by
  refine (congrFun ((V5_of m c main_v8 (by decide)).trans (V4_of m c main_v8 (by decide))) _).trans ?_
  unfold V3 hostOps0_2
  after_reads_at
  unfold Qv
  split_ifs with hd
  · have e := R.q i h ⟨d, hd⟩
    rw [log_two_bits, cc_bits]
    refine (congrArg (fun x : EReal => Ideal.div (x * (cc : EReal)) (Real.log 2 : ℝ)) e).trans ?_
    beta_reduce
    rw [← EReal.coe_mul, Ideal.div_coe log_two_ne, ← EReal.coe_mul]
  · exact pad_zero

theorem k_read (R : Args q k v ct m c) (h : Fin 8) (i : Fin 4096) (d : Fin 256) :
    (V5 m c main_v12 : FVec Ideal S8x4096x256 .bf16) (ix3 h i d) = ((Kv k h i d : ℝ) : EReal) := by
  unfold V5 hostOps0_4
  after_reads_at
  unfold Kv
  split_ifs with hd
  · exact R.k i h ⟨d, hd⟩
  · exact pad_zero

theorem v_read (R : Args q k v ct m c) (h : Fin 8) (i : Fin 4096) (d : Fin 256) :
    (V5 m c main_v17 : FVec Ideal S8x4096x256 .bf16) (ix3 h i d) = ((Wv v h i d : ℝ) : EReal) := by
  unfold V5 hostOps0_4
  after_reads_at
  unfold Wv
  by_cases hd : d.val < 128
  · rw [dif_pos hd, if_pos hd]
    after_reads_at
    exact R.v i h ⟨d, hd⟩
  · rw [dif_neg hd, if_neg hd]
    after_reads_at
    first | exact one_bits | exact EReal.coe_one.symm

theorem do_read (R : Args q k v ct m c) (i : Fin 4096) (l : Fin 1024) :
    (V7 m outs c main_v25 : FVec Ideal S4096x1024 .bf16) (ix2 i l) = ((ct (l / 128) i (l % 128) : ℝ) : EReal) := by
  unfold V7 hostOps1
  after_reads_at
  refine (congrFun arg3_V6 _).trans ?_
  exact R.ct i ⟨l / 128, by have := l.isLt; omega⟩ ⟨l % 128, by omega⟩

theorem delta_raw (A : FVec Ideal S1x4096x8x128 .f32) (hA : V6 m outs c main_arg3 = A)
    (O : FVec Ideal S4096x1024 .f32) (hO : V6 m outs c main_v18_0 = O) (h r : Fin 8) (a : Fin 512) :
    (V7 m outs c main_v24 : FVec Ideal S8x8x1x512 .f32) (ix4 h r 0 a)
      = (∑ x : Fin 128, (A (ix4 0 ⟨r.val * 512 + a.val, by omega⟩ ⟨(h.val * 128 + x.val) / 128, by omega⟩ ⟨(h.val * 128 + x.val) % 128, by omega⟩) : EReal)
        * O (ix2 ⟨r.val * 512 + a.val, by omega⟩ ⟨h.val * 128 + x.val, by omega⟩) : EReal) := by
  unfold V7
  generalize V6 m outs c = X at hA hO ⊢
  subst hA hO
  unfold hostOps1
  after_reads_at

theorem delta_read (R : Args q k v ct m c) (o : ℕ → ℕ → ℕ → ℝ)
    (ho : ∀ (i : Fin 4096) (l : Fin 1024), (V6 m outs c main_v18_0 : FVec Ideal S4096x1024 .f32) (ix2 i l) = ((o (l / 128) i (l % 128) : ℝ) : EReal))
    (h r : Fin 8) (a : Fin 512) :
    (V7 m outs c main_v24 : FVec Ideal S8x8x1x512 .f32) (ix4 h r 0 a)
      = ((∑ d : Fin 128, ct h (512 * r + a) d * o h (512 * r + a) d : ℝ) : EReal) := by
  have e : ∀ T : Fin 128 → EReal, (∀ x, T x = ((ct h (512 * r + a) x * o h (512 * r + a) x : ℝ) : EReal)) →
      ∑ x, T x = ((∑ d : Fin 128, ct h (512 * r + a) d * o h (512 * r + a) d : ℝ) : EReal) := fun T hT => by
    rw [AttnMath.coe_sum]; exact Finset.sum_congr rfl fun x _ => hT x
  refine (delta_raw _ arg3_V6 _ rfl h r a).trans (e _ fun x => ?_)
  have hx := x.isLt
  have hd : (h.val * 128 + x.val) / 128 = h.val ∧ (h.val * 128 + x.val) % 128 = x.val := by omega
  have hr : r.val * 512 + a.val = 512 * r.val + a.val := by omega
  have e1 := R.ct ⟨r.val * 512 + a.val, by omega⟩ ⟨(h.val * 128 + x.val) / 128, by omega⟩ ⟨(h.val * 128 + x.val) % 128, by omega⟩
  have e2 := ho ⟨r.val * 512 + a.val, by omega⟩ ⟨h.val * 128 + x.val, by omega⟩
  rw [EReal.coe_mul]
  refine congrArg₂ (· * ·) (e1.trans ?_) (e2.trans ?_)
  · simp only [hd.1, hd.2, hr]
  · simp only [hd.1, hd.2, hr]

theorem dq_read (h : Fin 8) (i : Fin 4096) (d : Fin 192) (x : ℝ)
    (hx : (V8 m outs c main_v26_0 : FVec Ideal S8x4096x256 .f32) (ix3 h i ⟨d, by omega⟩) = (x : EReal)) :
    (V9 m outs c main_v29 : FVec Ideal S8x4096x192 .f32) (ix3 h i d) = ((x * cc : ℝ) : EReal) := by
  unfold V9
  generalize V8 m outs c = X at hx ⊢
  unfold hostOps2
  after_reads_at
  rw [cc_bits]
  exact (congrArg (fun a : EReal => a * (cc : EReal)) hx).trans (EReal.coe_mul _ _).symm

theorem v0_read : (V5 m c main_v0 : FVec Ideal S_ .f32) ix0 = ((Real.log 2 : ℝ) : EReal) := by
  refine (congrFun ((V5_of m c main_v0 (by decide)).trans <| (V4_of m c main_v0 (by decide)).trans <|
    (V3_of m c main_v0 (by decide)).trans (V2_of m c main_v0 (by decide))) _).trans ?_
  unfold V1 hostOps0
  after_reads_at
  exact log_two_bits

theorem v0_V8 : V8 m outs c main_v0 = V5 m c main_v0 :=
  (V8_of m outs c main_v0 (by decide)).trans <| (V7_of m outs c main_v0 (by decide)).trans (V6_of m outs c main_v0 (by decide))

theorem dk_read (h : Fin 8) (i : Fin 4096) (d : Fin 192) (x : ℝ)
    (hx : (V8 m outs c main_v26_1 : FVec Ideal S8x4096x256 .f32) (ix3 h i ⟨d, by omega⟩) = (x : EReal)) :
    (V9 m outs c main_v32 : FVec Ideal S8x4096x192 .f32) (ix3 h i d) = ((x * Real.log 2 : ℝ) : EReal) := by
  have e0 : (V8 m outs c main_v0 : FVec Ideal S_ .f32) ix0 = ((Real.log 2 : ℝ) : EReal) := (congrFun v0_V8 _).trans v0_read
  unfold V9
  generalize V8 m outs c = X at hx e0 ⊢
  unfold hostOps2
  after_reads_at
  exact (congrArg₂ (fun a b : EReal => a * b) hx e0).trans (EReal.coe_mul _ _).symm

theorem v18_0_V9 : V9 m outs c main_v18_0 = V6 m outs c main_v18_0 :=
  (V9_of m outs c main_v18_0 (by decide)).trans <| (V8_of m outs c main_v18_0 (by decide)).trans (V7_of m outs c main_v18_0 (by decide))

theorem v26_2_V9 : V9 m outs c main_v26_2 = V8 m outs c main_v26_2 :=
  V9_of m outs c main_v26_2 (by decide)

theorem v18_1_V7 : V7 m outs c main_v18_1 = V6 m outs c main_v18_1 := V7_of m outs c main_v18_1 (by decide)

theorem v8_V7 : V7 m outs c main_v8 = V5 m c main_v8 := (V7_of m outs c main_v8 (by decide)).trans (V6_of m outs c main_v8 (by decide))
theorem v12_V7 : V7 m outs c main_v12 = V5 m c main_v12 := (V7_of m outs c main_v12 (by decide)).trans (V6_of m outs c main_v12 (by decide))
theorem v17_V7 : V7 m outs c main_v17 = V5 m c main_v17 := (V7_of m outs c main_v17 (by decide)).trans (V6_of m outs c main_v17 (by decide))

end Cert.KernelIdeal.Attn
end
-- ==== Proof.FlashFwdValue.lean ====
module

public import proofs.«01_k».proof.Proof.FlashFwdOnline
public import proofs.«01_k».proof.Proof.FlashFwdDat
public import proofs.«01_k».proof.Proof.AttnMath
public import Idealize.ShloMosaic.Lib.Pointwise

@[expose] public section

set_option maxRecDepth 16384

noncomputable section

/-! What the forward attention kernel computes of arguments that are real numbers: a row's softmax over the columns
    up to the row, in powers of two, and the row's log-sum. -/
namespace Cert.KernelIdeal.Bwd

open Cert.KernelIdeal Cert.KernelIdeal.Gen Idealize.ShloMosaic Idealize.ShloMosaic.TcCoe

/-- Row `a` of block `n`. -/
abbrev rowOf (n : ℕ) (hn : n < 8) (a : Fin 512) : Fin 4096 := ⟨512 * n + a.val, by omega⟩

theorem rowsAt_apply {e : EltTy} (X : Vec Ideal S1x4096x256 e) (n : ℕ) (hn : n < 8) (a : Fin 512) (d : Fin 256) :
    rowsAt X n (ix3 0 a d) = X (ix3 0 (rowOf n hn a) d) := by
  refine congrArg X (funext fun x => ?_)
  fin_cases x <;> apply Fin.ext
  · rfl
  · simp [Nat.mod_eq_of_lt hn, ix3]
  · simp [ix3]

end Cert.KernelIdeal.Bwd

namespace Cert.KernelIdeal.Fwd

open Cert.KernelIdeal Cert.KernelIdeal.Gen Idealize.ShloMosaic Idealize.ShloMosaic.TcCoe
open Cert.KernelIdeal.Bwd (slot rowsAt rowOf rowsAt_apply)
open Cert.AttnMath

/-- The score of row `i` and column `c`. -/
def st (Q K : ℕ → ℕ → ℝ) (i c : ℕ) : ℝ := ∑ d : Fin 256, Q i d.val * K c d.val

/-- The sum of row `i`'s weights up to the diagonal. -/
def Z (Q K : ℕ → ℕ → ℝ) (i : ℕ) : ℝ := ∑ c ∈ Finset.range (i + 1), (2 : ℝ) ^ st Q K i c

theorem Z_pos (Q K : ℕ → ℕ → ℝ) (i : ℕ) : 0 < Z Q K i :=
  Finset.sum_pos (fun c _ => Real.rpow_pos_of_pos (by norm_num) _) ⟨0, by simp⟩

/-- The arguments are the real numbers `Q`, `K` and `W`. -/
structure Reals (I : Ins Ideal) (Q K W : ℕ → ℕ → ℝ) : Prop where
  q : ∀ (i : Fin 4096) (d : Fin 256), (I.q : FVec Ideal S1x4096x256 .bf16) (ix3 0 i d) = ((Q i.val d.val : ℝ) : EReal)
  k : ∀ (i : Fin 4096) (d : Fin 256), (I.k : FVec Ideal S1x4096x256 .bf16) (ix3 0 i d) = ((K i.val d.val : ℝ) : EReal)
  v : ∀ (i : Fin 4096) (d : Fin 256), (I.v : FVec Ideal S1x4096x256 .bf16) (ix3 0 i d) = ((W i.val d.val : ℝ) : EReal)

variable {I : Ins Ideal} {Q K W : ℕ → ℕ → ℝ}

theorem pay2_apply (x y : FVec Ideal S1x512x256 .bf16) (a b : Fin 512) : k0_pay2 (F := Ideal) x y (ix3 0 a b) = ∑ d : Fin 256, x (ix3 0 a d) * y (ix3 0 b d) := by
  pointwise [k0_pay2]

theorem score_real (h : Reals I Q K W) (r j : ℕ) (hr : r < 8) (hj : j < 8) (a b : Fin 512) :
    (score I r j : FVec Ideal S1x512x512 .f32) (ix3 0 a b) = ((st Q K (512 * r + a.val) (512 * j + b.val) : ℝ) : EReal) := by
  unfold score
  rw [pay2_apply]
  simp only [rowsAt_apply _ r hr, rowsAt_apply _ j hj, h.q, h.k]
  exact coe_sum_mul _ _ _

/-- The running maximum and sums of a block of rows stand for the sums `T`, whatever maximum is taken out. -/
def Inv (x : Sums Ideal) (T : Fin 512 → Fin 256 → ℝ) : Prop := ∀ a : Fin 512,
  (∃ M : ℝ, (∀ l : Fin 128, (x.m : FVec Ideal S512x128 .f32) (ix2 a l) = (M : EReal)) ∧ ∀ d : Fin 256, (x.acc : FVec Ideal S512x256 .f32) (ix2 a d) = (((2 : ℝ) ^ (-M) * T a d : ℝ) : EReal))
  ∨ ((∀ l : Fin 128, (x.m : FVec Ideal S512x128 .f32) (ix2 a l) = ⊥) ∧ ∀ d : Fin 256, (x.acc : FVec Ideal S512x256 .f32) (ix2 a d) = 0 ∧ T a d = 0)

theorem Inv.row {x : Sums Ideal} {T : Fin 512 → Fin 256 → ℝ} (h : Inv x T) (a : Fin 512) :
    ∃ mm : EReal, mm ≠ ⊤ ∧ (∀ l : Fin 128, (x.m : FVec Ideal S512x128 .f32) (ix2 a l) = mm) ∧ ∀ d : Fin 256,
      (∃ M : ℝ, mm = (M : EReal) ∧ (x.acc : FVec Ideal S512x256 .f32) (ix2 a d) = (((2 : ℝ) ^ (-M) * T a d : ℝ) : EReal))
      ∨ (mm = ⊥ ∧ (x.acc : FVec Ideal S512x256 .f32) (ix2 a d) = 0 ∧ T a d = 0) := by
  rcases h a with ⟨M, h1, h2⟩ | ⟨h1, h2⟩
  · exact ⟨M, EReal.coe_ne_top M, h1, fun d => Or.inl ⟨M, rfl, h2 d⟩⟩
  · exact ⟨⊥, bot_ne_top, h1, fun d => Or.inr ⟨rfl, h2 d⟩⟩

theorem mask_named : Named.named (F := Ideal) κ "mask" (φ := .f32) 0xF149F2CA#32 = (⊥ : EReal) := IdealRules.named_const.ideal_named_scalar _ _ _ _ rfl
theorem log2e_named : Named.named (F := Ideal) κ "log2e" (φ := .f32) 0x3FB8AA3B#32 = (((Real.log 2)⁻¹ : ℝ) : EReal) := IdealRules.named_const.ideal_named_scalar _ _ _ _ rfl

theorem inv_start : Inv ⟨k0_pay56 (F := Ideal), k0_pay57 (F := Ideal)⟩ (fun _ _ => 0) := fun a => by
  refine Or.inr ⟨fun l => ?_, fun d => ⟨?_, rfl⟩⟩
  · show k0_pay56 (F := Ideal) (ix2 a l) = ⊥
    pointwise [k0_pay56]
    exact mask_named
  · show k0_pay57 (F := Ideal) (ix2 a d) = 0
    pointwise [k0_pay57]

theorem inv_step {x : Sums Ideal} {T : Fin 512 → Fin 256 → ℝ} (h : Inv x T) (s : FVec Ideal S1x512x512 .f32) (v : FVec Ideal S1x512x256 .bf16)
    (σ : Fin 512 → Fin 512 → ℝ) (w : Fin 512 → Fin 256 → ℝ) (hs : ∀ a b, s (ix3 0 a b) = (σ a b : EReal)) (hv : ∀ b d, v (ix3 0 b d) = (w b d : EReal)) :
    Inv (step s v x) (fun a d => T a d + ∑ b, (2 : ℝ) ^ σ a b * w b d) := fun a => by
  obtain ⟨mm, ht, hm, hacc⟩ := h.row a
  obtain ⟨M', hM⟩ := fold_max_real (fun b => s (ix3 0 a b)) (fun b => by rw [hs]; exact EReal.coe_ne_top _) 0 (by rw [hs]; exact EReal.coe_ne_bot _) mm ht
  refine Or.inl ⟨M', fun l => ?_, fun d => ?_⟩
  · show k0_pay49 (F := Ideal) (k0_pay46 (F := Ideal) s x.m) (ix2 a l) = _
    pointwise [k0_pay46, k0_pay45, k0_pay49]
    rw [hm, ofBits_neg_inf, hM]
  · show k0_pay48 (F := Ideal) (k0_pay47 (F := Ideal) s x.m x.acc v) (ix2 a d) = _
    pointwise [k0_pay46, k0_pay45, k0_pay47, k0_pay48]
    simp only [hm, ofBits_neg_inf, hM, dite_eq_ite, ite_self, hv]
    have := row_acc (fun _ => True) (σ a) (fun b => w b d) (fun b => s (ix3 0 a b)) (fun b => by rw [if_pos trivial]; exact hs a b) mm _ (T a d) M' (hacc d)
    simp only [if_true] at this
    exact this

theorem pay40_apply (s : FVec Ideal S1x512x512 .f32) (a b : Fin 512) : k0_pay40 (F := Ideal) s (ix2 a b) = if b.val ≤ a.val then s (ix3 0 a b) else ⊥ := by
  pointwise [k0_pay40]
  rw [sle_words (n := 512) (by norm_num), mask_named]
  split_ifs <;> rfl

theorem inv_stepD {x : Sums Ideal} {T : Fin 512 → Fin 256 → ℝ} (h : Inv x T) (s : FVec Ideal S1x512x512 .f32) (v : FVec Ideal S1x512x256 .bf16)
    (σ : Fin 512 → Fin 512 → ℝ) (w : Fin 512 → Fin 256 → ℝ) (hs : ∀ a b, s (ix3 0 a b) = (σ a b : EReal)) (hv : ∀ b d, v (ix3 0 b d) = (w b d : EReal)) (a : Fin 512) :
    ∃ M : ℝ, (∀ l : Fin 128, ((stepD s v x).m : FVec Ideal S512x128 .f32) (ix2 a l) = (M : EReal))
      ∧ ∀ d : Fin 256, ((stepD s v x).acc : FVec Ideal S512x256 .f32) (ix2 a d) = (((2 : ℝ) ^ (-M) * (T a d + ∑ b : Fin 512, if b.val ≤ a.val then (2 : ℝ) ^ σ a b * w b d else 0) : ℝ) : EReal) := by
  obtain ⟨mm, ht, hm, hacc⟩ := h.row a
  have hS : ∀ b, k0_pay40 (F := Ideal) s (ix2 a b) = if b.val ≤ a.val then (σ a b : EReal) else ⊥ := fun b => by rw [pay40_apply, hs]
  obtain ⟨M', hM⟩ := fold_max_real (fun b => k0_pay40 (F := Ideal) s (ix2 a b)) (fun b => by rw [hS]; split_ifs; exacts [EReal.coe_ne_top _, bot_ne_top]) 0
    (by rw [hS, if_pos (show ((0 : Fin 512) : ℕ) ≤ a.val from Nat.zero_le _)]; exact EReal.coe_ne_bot _) mm ht
  refine ⟨M', fun l => ?_, fun d => ?_⟩
  · show k0_pay52 (F := Ideal) (k0_pay40 (F := Ideal) s) x.m (ix2 a l) = _
    generalize k0_pay40 (F := Ideal) s = sm at hM ⊢
    pointwise [k0_pay52, k0_pay50]
    rw [hm, ofBits_neg_inf, hM]
  · show k0_pay51 (F := Ideal) (k0_pay40 (F := Ideal) s) x.m x.acc v (ix2 a d) = _
    generalize k0_pay40 (F := Ideal) s = sm at hM hS ⊢
    pointwise [k0_pay51, k0_pay50]
    simp only [hm, ofBits_neg_inf, hM, dite_eq_ite, ite_self, hv]
    exact row_acc (fun b : Fin 512 => b.val ≤ a.val) (σ a) (fun b => w b d) (fun b => sm (ix2 a b)) hS mm _ (T a d) M' (hacc d)

theorem inv_online (h : Reals I Q K W) (r : ℕ) (hr : r < 8) : ∀ j, j ≤ 8 →
    Inv (online I r j) (fun a d => ∑ c ∈ Finset.range (512 * j), (2 : ℝ) ^ st Q K (512 * r + a.val) c * W c d.val)
  | 0, _ => by simp only [Nat.mul_zero, Finset.range_zero, Finset.sum_empty]; exact inv_start
  | j + 1, hj => by
    have := inv_step (inv_online h r hr j (by omega)) (score I r j) (rowsAt I.v j) (fun a b => st Q K (512 * r + a.val) (512 * j + b.val)) (fun b d => W (512 * j + b.val) d.val)
      (score_real h r j hr (by omega)) (fun b d => by rw [rowsAt_apply _ j (by omega)]; exact h.v _ _)
    simp only [range_block (fun c => (2 : ℝ) ^ st Q K (512 * r + _) c * W c _)] at this
    exact this

/-- A block of rows after its last column block. -/
theorem total_real (h : Reals I Q K W) (r : ℕ) (hr : r < 8) (a : Fin 512) :
    ∃ M : ℝ, (∀ l : Fin 128, ((total I r).m : FVec Ideal S512x128 .f32) (ix2 a l) = (M : EReal))
      ∧ ∀ d : Fin 256, ((total I r).acc : FVec Ideal S512x256 .f32) (ix2 a d)
        = (((2 : ℝ) ^ (-M) * ∑ c ∈ Finset.range (512 * r + a.val + 1), (2 : ℝ) ^ st Q K (512 * r + a.val) c * W c d.val : ℝ) : EReal) := by
  obtain ⟨M, h1, h2⟩ := inv_stepD (inv_online h r hr r (by omega)) (score I r r) (rowsAt I.v r) (fun a b => st Q K (512 * r + a.val) (512 * r + b.val)) (fun b d => W (512 * r + b.val) d.val)
      (score_real h r r hr hr) (fun b d => by rw [rowsAt_apply _ r hr]; exact h.v _ _) a
  refine ⟨M, h1, fun d => ?_⟩
  rw [← range_diag (fun c => (2 : ℝ) ^ st Q K (512 * r + a.val) c * W c d.val)]
  exact h2 d

theorem num_apply (X : FVec Ideal S512x256 .f32) (a : Fin 512) (l : Fin 128) : num (F := Ideal) X (ix2 a l) = X (ix2 a ⟨l.val, by omega⟩) := by
  refine congrArg X (funext fun x => ?_)
  fin_cases x <;> apply Fin.ext
  · simp [ix2]
  · simp [ix2]

theorem den_apply (X : FVec Ideal S512x256 .f32) (a : Fin 512) (l : Fin 128) : den (F := Ideal) X (ix2 a l) = X (ix2 a ⟨128 + l.val, by omega⟩) := by
  refine congrArg X (funext fun x => ?_)
  fin_cases x <;> apply Fin.ext
  · simp [ix2]
  · simp [ix2]

/-- The output of row `a` of block `r`. -/
theorem o_real (h : Reals I Q K W) (hone : ∀ c (l : Fin 128), W c (128 + l.val) = 1) (r : ℕ) (hr : r < 8) (a : Fin 512) (l : Fin 128) :
    ((total I r).o : FVec Ideal S512x128 .f32) (ix2 a l)
      = (((∑ c ∈ Finset.range (512 * r + a.val + 1), (2 : ℝ) ^ st Q K (512 * r + a.val) c * W c l.val) / Z Q K (512 * r + a.val) : ℝ) : EReal) := by
  obtain ⟨M, -, h2⟩ := total_real h r hr a
  show k0_pay65 (F := Ideal) (den (total I r).acc) (num (total I r).acc) (ix2 a l) = _
  pointwise [k0_pay65]
  rw [den_apply, num_apply, h2, h2]
  simp only [hone, mul_one]
  exact div_eq _ _ _ (Z_pos Q K _)

/-- The log-sum of row `a` of block `r`. -/
theorem l_real (h : Reals I Q K W) (hone : ∀ c (l : Fin 128), W c (128 + l.val) = 1) (r : ℕ) (hr : r < 8) (a : Fin 512) :
    ((total I r).l : FVec Ideal S1x1x1x512 .f32) (ix4 0 0 0 a) = ((Real.log (Z Q K (512 * r + a.val)) / Real.log 2 : ℝ) : EReal) := by
  obtain ⟨M, h1, h2⟩ := total_real h r hr a
  show k0_pay1 (F := Ideal) (k0_pay66 (F := Ideal) (den (total I r).acc) (total I r).m) (ix4 0 0 0 a) = _
  generalize hd : den (F := Ideal) (total I r).acc = D
  have hD : D (ix2 a 0) = _ := hd ▸ den_apply (total I r).acc a 0
  pointwise [k0_pay66, k0_pay1]
  rw [log2e_named, hD, h2, h1]
  simp only [show (⟨128 + ((0 : Fin 128) : ℕ), _⟩ : Fin 256).val = 128 + (0 : Fin 128).val from rfl, hone, mul_one]
  exact lse_eq _ _ (Z_pos Q K _)

end Cert.KernelIdeal.Fwd
end
-- ==== Proof.AttnFwd.lean ====
module

public import proofs.«01_k».proof.Proof.AttnHost
public import proofs.«01_k».proof.Proof.FlashFwdValue
public import Idealize.ShloMosaic.Lib.Pipeline.ValueKit

@[expose] public section

set_option maxRecDepth 16384

noncomputable section

/-! What the forward attention kernel leaves in its two arrays, from what its three operands hold. -/
namespace Cert.KernelIdeal.Fwd

open Cert.KernelIdeal Cert.KernelIdeal.Gen
open Idealize.ShloMosaic Idealize.ShloMosaic.TcCoe

variable (V : Dev nD → Valuation τ sig (Elt Ideal)) (c : Dev nD)

theorem idx0 : ∀ t : Fin cfg0.N, win0_0.index t = ![t.val / 8, 0, 0] := (by decide +kernel : ∀ t : Fin grid0.N, win0_0.index t = ![t.val / 8, 0, 0])
theorem idx1 : ∀ t : Fin cfg0.N, win0_1.index t = ![t.val / 8, 0, 0] := (by decide +kernel : ∀ t : Fin grid0.N, win0_1.index t = ![t.val / 8, 0, 0])
theorem idx2 : ∀ t : Fin cfg0.N, win0_2.index t = ![t.val / 8, 0, 0] := (by decide +kernel : ∀ t : Fin grid0.N, win0_2.index t = ![t.val / 8, 0, 0])
theorem idx3 : ∀ t : Fin cfg0.N, win0_3.index t = ![t.val % 8, t.val / 8] := (by decide +kernel : ∀ t : Fin grid0.N, win0_3.index t = ![t.val % 8, t.val / 8])
theorem idx4 : ∀ t : Fin cfg0.N, win0_4.index t = ![t.val / 8, t.val % 8, 0, 0] := (by decide +kernel : ∀ t : Fin grid0.N, win0_4.index t = ![t.val / 8, t.val % 8, 0, 0])

theorem headPt_div (n : ℕ) (hn : n < 64) : (headPt n).val / 8 = n / 8 := by simp only [headPt]; omega

theorem ins_q (n : ℕ) (hn : n < 64) (i : Fin 4096) (d : Fin 256) :
    (ins V c n).q (ix3 0 i d) = (V c main_v8 : FVec Ideal S8x4096x256 .bf16) (ix3 ⟨n / 8, by omega⟩ i d) := by
  have e := headPt_div n hn
  unfold ins
  dsimp only
  blk_ext [blk, idx0]

theorem ins_k (n : ℕ) (hn : n < 64) (i : Fin 4096) (d : Fin 256) :
    (ins V c n).k (ix3 0 i d) = (V c main_v12 : FVec Ideal S8x4096x256 .bf16) (ix3 ⟨n / 8, by omega⟩ i d) := by
  have e := headPt_div n hn
  unfold ins
  dsimp only
  blk_ext [blk, idx1]

theorem ins_v (n : ℕ) (hn : n < 64) (i : Fin 4096) (d : Fin 256) :
    (ins V c n).v (ix3 0 i d) = (V c main_v17 : FVec Ideal S8x4096x256 .bf16) (ix3 ⟨n / 8, by omega⟩ i d) := by
  have e := headPt_div n hn
  unfold ins
  dsimp only
  blk_ext [blk, idx2]

/-- The attention's output at a row and a lane of a head. -/
def ov (Q K W : ℕ → ℕ → ℕ → ℝ) (h i l : ℕ) : ℝ :=
  (∑ j ∈ Finset.range (i + 1), (2 : ℝ) ^ st (Q h) (K h) i j * W h j l) / Z (Q h) (K h) i

theorem reals_of (Q K W : ℕ → ℕ → ℕ → ℝ)
    (hq : ∀ (h : Fin 8) (i : Fin 4096) (d : Fin 256), (V c main_v8 : FVec Ideal S8x4096x256 .bf16) (ix3 h i d) = ((Q h i d : ℝ) : EReal))
    (hk : ∀ (h : Fin 8) (i : Fin 4096) (d : Fin 256), (V c main_v12 : FVec Ideal S8x4096x256 .bf16) (ix3 h i d) = ((K h i d : ℝ) : EReal))
    (hv : ∀ (h : Fin 8) (i : Fin 4096) (d : Fin 256), (V c main_v17 : FVec Ideal S8x4096x256 .bf16) (ix3 h i d) = ((W h i d : ℝ) : EReal))
    (n : ℕ) (hn : n < 64) : Reals (ins V c n) (Q (n / 8)) (K (n / 8)) (W (n / 8)) :=
  ⟨fun i d => (ins_q V c n hn i d).trans (hq _ _ _), fun i d => (ins_k V c n hn i d).trans (hk _ _ _),
   fun i d => (ins_v V c n hn i d).trans (hv _ _ _)⟩

variable {V c} {Q K W : ℕ → ℕ → ℕ → ℝ} (hR : ∀ n, n < 64 → Reals (ins V c n) (Q (n / 8)) (K (n / 8)) (W (n / 8)))
variable (hone : ∀ h j (l : Fin 128), W h j (128 + l.val) = 1)
include hR hone

theorem o_array : (dat V c).arrAt 3 cfg0.N = fun j : S4096x1024.Idx => ((ov Q K W ((j 1).val / 128) (j 0).val ((j 1).val % 128) : ℝ) : EReal) := by
  refine (dat V c).arrAt_eq_of_covers 3 _ (by decide +kernel) fun t hf y => ?_
  blk_simp [idx3]
  rw [after3]
  have ht : t.val < 64 := t.isLt
  have h0 : (y 0).val < 512 := (y 0).isLt
  have h1 : (y 1).val < 128 := (y 1).isLt
  have ey : (y : S512x128.Idx) = ix2 ⟨(y 0).val, h0⟩ ⟨(y 1).val, h1⟩ := by
    funext x; fin_cases x <;> rfl
  have e := o_real (hR t.val ht) (fun j l => hone _ j l) (t.val % 8) (Nat.mod_lt _ (by norm_num)) ⟨(y 0).val, h0⟩ ⟨(y 1).val, h1⟩
  refine (congrArg (total (ins V c t.val) (t.val % 8)).o ey).trans (e.trans ?_)
  have e1 : (t.val / 8 * 128 + (y 1).val) / 128 = t.val / 8 := by omega
  have e2 : (t.val / 8 * 128 + (y 1).val) % 128 = (y 1).val := by omega
  have e3 : t.val % 8 * 512 + (y 0).val = 512 * (t.val % 8) + (y 0).val := by omega
  rw [e1, e2, e3]
  rfl

theorem l_array : (dat V c).arrAt 4 cfg0.N = fun j : S8x8x1x512.Idx => ((Real.log (Z (Q (j 0).val) (K (j 0).val) (512 * (j 1).val + (j 3).val)) / Real.log 2 : ℝ) : EReal) := by
  refine (dat V c).arrAt_eq_of_covers 4 _ (by decide +kernel) fun t hf y => ?_
  blk_simp [idx4]
  rw [after4]
  have ht : t.val < 64 := t.isLt
  have h3 : (y 3).val < 512 := (y 3).isLt
  have ey : (y : S1x1x1x512.Idx) = ix4 0 0 0 ⟨(y 3).val, h3⟩ := by
    have a0 : (y 0).val < 1 := (y 0).isLt
    have a1 : (y 1).val < 1 := (y 1).isLt
    have a2 : (y 2).val < 1 := (y 2).isLt
    funext x; fin_cases x <;> apply Fin.ext
    · exact Nat.lt_one_iff.mp a0
    · exact Nat.lt_one_iff.mp a1
    · exact Nat.lt_one_iff.mp a2
    · rfl
  have e := l_real (hR t.val ht) (fun j l => hone _ j l) (t.val % 8) (Nat.mod_lt _ (by norm_num)) ⟨(y 3).val, h3⟩
  exact (congrArg (total (ins V c t.val) (t.val % 8)).l ey).trans e

end Cert.KernelIdeal.Fwd
end
-- ==== Proof.FlashValue.lean ====
module

public import proofs.«01_k».proof.Proof.FlashOnline
public import proofs.«01_k».proof.Proof.FlashFwdValue

@[expose] public section

set_option maxRecDepth 16384

noncomputable section

/-! What the backward attention kernel computes of arguments that are real numbers: the three gradients as sums over the
    pairs of a row and a column not after it. -/
namespace Cert.KernelIdeal.Bwd

open Cert.KernelIdeal Cert.KernelIdeal.Gen Idealize.ShloMosaic Idealize.ShloMosaic.TcCoe
open Cert.AttnMath
open Cert.KernelIdeal.Fwd (st)

theorem rowsV_apply {e : EltTy} (X : Vec Ideal S1x4096x256 e) (n : ℕ) (hn : n < 8) (a : Fin 512) (d : Fin 128) :
    rowsV X n (ix3 0 a d) = X (ix3 0 (rowOf n hn a) ⟨d.val, by omega⟩) := by
  refine congrArg X (funext fun x => ?_)
  fin_cases x <;> apply Fin.ext
  · rfl
  · simp [Nat.mod_eq_of_lt hn, ix3]
  · simp [ix3]

theorem rowsO_apply {e : EltTy} (X : Vec Ideal S4096x128 e) (n : ℕ) (hn : n < 8) (a : Fin 512) (d : Fin 128) :
    rowsO X n (ix2 a d) = X (ix2 (rowOf n hn a) d) := by
  refine congrArg X (funext fun x => ?_)
  fin_cases x <;> apply Fin.ext
  · simp [Nat.mod_eq_of_lt hn, ix2]
  · simp [ix2]

theorem lanesAt_apply {e : EltTy} (X : Vec Ideal S1x8x1x512 e) (n : ℕ) (hn : n < 8) (a : Fin 512) :
    lanesAt X n (ix4 0 0 0 a) = X (ix4 0 ⟨n, hn⟩ 0 a) := by
  refine congrArg X (funext fun x => ?_)
  fin_cases x <;> apply Fin.ext
  · rfl
  · simp [Nat.mod_eq_of_lt hn, ix4]
  · rfl
  · simp [ix4]

theorem putRows_same {e : EltTy} (X : Vec Ideal S1x4096x256 e) (n : ℕ) (w : Vec Ideal S1x512x256 e) (hn : n < 8) (a : Fin 512) (d : Fin 256) :
    putRows X n w (ix3 0 (rowOf n hn a) d) = w (ix3 0 a d) := by
  rw [← rowsAt_apply (putRows X n w) n hn]
  exact congrFun (VecWindow.window_put_same X _ _ _ w) _

theorem putRows_ne {e : EltTy} (X : Vec Ideal S1x4096x256 e) (n n' : ℕ) (w : Vec Ideal S1x512x256 e) (hn : n < 8) (hn' : n' < 8) (h : n' ≠ n) (a : Fin 512) (d : Fin 256) :
    putRows X n w (ix3 0 (rowOf n' hn' a) d) = X (ix3 0 (rowOf n' hn' a) d) := by
  rw [← rowsAt_apply (putRows X n w) n' hn', ← rowsAt_apply X n' hn']
  exact congrFun (VecWindow.window_put_of_disjoint X _ _ _ _ _ w 1 (by simp [S1x512x256, Nat.mod_eq_of_lt hn, Nat.mod_eq_of_lt hn']; omega)) _

/-- The arguments are real numbers, and `l` the log-sums in base two of the positive `Z`. -/
structure Reals (I : Ins Ideal) (Q K W O : ℕ → ℕ → ℝ) (Z δ : ℕ → ℝ) : Prop where
  pos : ∀ i, 0 < Z i
  q : ∀ (i : Fin 4096) (d : Fin 256), (I.q : FVec Ideal S1x4096x256 .bf16) (ix3 0 i d) = ((Q i.val d.val : ℝ) : EReal)
  k : ∀ (i : Fin 4096) (d : Fin 256), (I.k : FVec Ideal S1x4096x256 .bf16) (ix3 0 i d) = ((K i.val d.val : ℝ) : EReal)
  v : ∀ (i : Fin 4096) (d : Fin 256), (I.v : FVec Ideal S1x4096x256 .bf16) (ix3 0 i d) = ((W i.val d.val : ℝ) : EReal)
  o : ∀ (i : Fin 4096) (d : Fin 128), (I.o : FVec Ideal S4096x128 .bf16) (ix2 i d) = ((O i.val d.val : ℝ) : EReal)
  l : ∀ (r : Fin 8) (a : Fin 512), (I.l : FVec Ideal S1x8x1x512 .f32) (ix4 0 r 0 a) = ((Real.log (Z (512 * r.val + a.val)) / Real.log 2 : ℝ) : EReal)
  d : ∀ (r : Fin 8) (a : Fin 512), (I.d : FVec Ideal S1x8x1x512 .f32) (ix4 0 r 0 a) = ((δ (512 * r.val + a.val) : ℝ) : EReal)

/-- The softmax weight of row `i` at column `c`. -/
def wt (Q K : ℕ → ℕ → ℝ) (Z : ℕ → ℝ) (i c : ℕ) : ℝ := if c ≤ i then (2 : ℝ) ^ st Q K i c / Z i else 0

/-- The gradient of the weight of row `i` at column `c`. -/
def gp (W O : ℕ → ℕ → ℝ) (i c : ℕ) : ℝ := ∑ d : Fin 128, W c d.val * O i d.val

/-- The gradient of the score of row `i` and column `c`. -/
def gs (Q K W O : ℕ → ℕ → ℝ) (Z δ : ℕ → ℝ) (i c : ℕ) : ℝ := wt Q K Z i c * (gp W O i c - δ i)

variable {I : Ins Ideal} {Q K W O : ℕ → ℕ → ℝ} {Z δ : ℕ → ℝ}

theorem pay2_apply (x y : FVec Ideal S1x512x256 .bf16) (a b : Fin 512) : k1_pay2 (F := Ideal) x y (ix3 0 a b) = ∑ d : Fin 256, x (ix3 0 a d) * y (ix3 0 b d) := by
  pointwise [k1_pay2]

theorem pay3_apply (x : FVec Ideal S1x512x128 .bf16) (y : FVec Ideal S512x128 .bf16) (a b : Fin 512) : k1_pay3 (F := Ideal) x y (ix3 0 a b) = ∑ d : Fin 128, x (ix3 0 a d) * y (ix2 b d) := by
  pointwise [k1_pay3]

theorem score_real (h : Reals I Q K W O Z δ) (j r : ℕ) (hj : j < 8) (hr : r < 8) (b a : Fin 512) :
    (score I j r : FVec Ideal S1x512x512 .f32) (ix3 0 b a) = ((st Q K (512 * r + a.val) (512 * j + b.val) : ℝ) : EReal) := by
  unfold score
  rw [pay2_apply]
  simp only [rowsAt_apply _ r hr, rowsAt_apply _ j hj, h.q, h.k]
  rw [coe_sum_mul]
  simp only [st, mul_comm]

theorem dprob_real (h : Reals I Q K W O Z δ) (j r : ℕ) (hj : j < 8) (hr : r < 8) (b a : Fin 512) :
    (dprob I j r : FVec Ideal S1x512x512 .f32) (ix3 0 b a) = ((gp W O (512 * r + a.val) (512 * j + b.val) : ℝ) : EReal) := by
  unfold dprob
  rw [pay3_apply]
  simp only [rowsV_apply _ j hj, rowsO_apply _ r hr, h.v, h.o]
  exact coe_sum_mul _ _ _

/-- The four blocks a pair of a key block and a query block is computed from are real numbers. -/
structure Pair (s p : FVec Ideal S1x512x512 .f32) (l d : FVec Ideal S1x1x1x512 .f32) (σ π : Fin 512 → Fin 512 → ℝ) (ζ ε : Fin 512 → ℝ) : Prop where
  pos : ∀ a, 0 < ζ a
  s : ∀ b a, s (ix3 0 b a) = (σ b a : EReal)
  p : ∀ b a, p (ix3 0 b a) = (π b a : EReal)
  l : ∀ a, l (ix4 0 0 0 a) = ((Real.log (ζ a) / Real.log 2 : ℝ) : EReal)
  d : ∀ a, d (ix4 0 0 0 a) = (ε a : EReal)

section Payloads

variable {s p : FVec Ideal S1x512x512 .f32} {l d : FVec Ideal S1x1x1x512 .f32} {σ π : Fin 512 → Fin 512 → ℝ} {ζ ε : Fin 512 → ℝ}

theorem Pair.exp (h : Pair s p l d σ π ζ ε) (b a : Fin 512) : Ideal.exp2 (s (ix3 0 b a) - l (ix4 0 0 0 a)) = (((2 : ℝ) ^ σ b a / ζ a : ℝ) : EReal) := by
  rw [h.s, h.l]; exact exp2_lse _ _ (h.pos a)

theorem pay12_real (h : Pair s p l d σ π ζ ε) (b a : Fin 512) : k1_pay12 (F := Ideal) s l (ix2 b a) = (((2 : ℝ) ^ σ b a / ζ a : ℝ) : EReal) := by
  pointwise [k1_pay12]
  exact h.exp b a

theorem pay6_real (h : Pair s p l d σ π ζ ε) (b a : Fin 512) : k1_pay6 (F := Ideal) s l (ix2 b a) = ((if b.val ≤ a.val then (2 : ℝ) ^ σ b a / ζ a else 0 : ℝ) : EReal) := by
  pointwise [k1_pay6]
  rw [sle_words (n := 512) (by norm_num)]
  split_ifs
  · exact h.exp b a
  · rfl

theorem pay14_real (h : Pair s p l d σ π ζ ε) (b a : Fin 512) : k1_pay14 (F := Ideal) s l p d (ix2 b a) = (((2 : ℝ) ^ σ b a / ζ a * (π b a - ε a) : ℝ) : EReal) := by
  have e := pay12_real h b a
  generalize hX : k1_pay12 (F := Ideal) s l = X at e
  pointwise [k1_pay14]
  rw [hX, e, h.p, h.d, ← EReal.coe_sub, ← EReal.coe_mul]

theorem pay8_real (h : Pair s p l d σ π ζ ε) (b a : Fin 512) : k1_pay8 (F := Ideal) s l p d (ix2 b a) = (((if b.val ≤ a.val then (2 : ℝ) ^ σ b a / ζ a else 0) * (π b a - ε a) : ℝ) : EReal) := by
  have e := pay6_real h b a
  generalize hX : k1_pay6 (F := Ideal) s l = X at e
  pointwise [k1_pay8]
  rw [hX, e, h.p, h.d, ← EReal.coe_sub, ← EReal.coe_mul]

end Payloads

theorem pay16_15 (x : FVec Ideal S512x256 .f32) (q : FVec Ideal S1x512x256 .bf16) (s p : FVec Ideal S1x512x512 .f32) (l d : FVec Ideal S1x1x1x512 .f32) (b : Fin 512) (c : Fin 256) :
    k1_pay16 (F := Ideal) x (k1_pay15 (F := Ideal) q s l p d) (ix2 b c) = x (ix2 b c) + ∑ a : Fin 512, k1_pay14 (F := Ideal) s l p d (ix2 b a) * q (ix3 0 a c) := by
  generalize hX : k1_pay14 (F := Ideal) s l p d = X
  pointwise [k1_pay16, k1_pay15]
  rw [hX]

theorem pay9_4 (x : FVec Ideal S512x256 .f32) (q : FVec Ideal S1x512x256 .bf16) (s p : FVec Ideal S1x512x512 .f32) (l d : FVec Ideal S1x1x1x512 .f32) (b : Fin 512) (c : Fin 256) :
    k1_pay9 (F := Ideal) (k1_pay4 (F := Ideal) q) s l p d x (ix2 b c) = x (ix2 b c) + ∑ a : Fin 512, k1_pay8 (F := Ideal) s l p d (ix2 b a) * q (ix3 0 a c) := by
  generalize hX : k1_pay8 (F := Ideal) s l p d = X
  pointwise [k1_pay9, k1_pay4]
  rw [hX]

theorem pay13_apply (x : FVec Ideal S512x128 .f32) (o : FVec Ideal S512x128 .bf16) (s : FVec Ideal S1x512x512 .f32) (l : FVec Ideal S1x1x1x512 .f32) (b : Fin 512) (c : Fin 128) :
    k1_pay13 (F := Ideal) o s l x (ix2 b c) = x (ix2 b c) + ∑ a : Fin 512, k1_pay12 (F := Ideal) s l (ix2 b a) * o (ix2 a c) := by
  generalize hX : k1_pay12 (F := Ideal) s l = X
  pointwise [k1_pay13]
  rw [hX]

theorem pay7_5 (x : FVec Ideal S512x128 .f32) (o : FVec Ideal S512x128 .bf16) (s : FVec Ideal S1x512x512 .f32) (l : FVec Ideal S1x1x1x512 .f32) (b : Fin 512) (c : Fin 128) :
    k1_pay7 (F := Ideal) (k1_pay5 (F := Ideal) o) s l x (ix2 b c) = x (ix2 b c) + ∑ a : Fin 512, k1_pay6 (F := Ideal) s l (ix2 b a) * o (ix2 a c) := by
  generalize hX : k1_pay6 (F := Ideal) s l = X
  pointwise [k1_pay7, k1_pay5]
  rw [hX]

theorem pay17_apply (k : FVec Ideal S1x512x256 .bf16) (y : FVec Ideal S1x512x256 .f32) (X : FVec Ideal S512x512 .bf16) (a : Fin 512) (c : Fin 256) :
    k1_pay17 (F := Ideal) (k1_pay76 (F := Ideal) k) X y (ix3 0 a c) = y (ix3 0 a c) + ∑ b : Fin 512, X (ix2 b a) * k (ix3 0 b c) := by
  pointwise [k1_pay17, k1_pay76]

theorem pay77_apply (k : FVec Ideal S1x512x256 .bf16) (y : FVec Ideal S1x512x256 .f32) (X : FVec Ideal S512x512 .bf16) (a : Fin 512) (c : Fin 256) :
    k1_pay77 (F := Ideal) k X y (ix3 0 a c) = y (ix3 0 a c) + ∑ b : Fin 512, X (ix2 b a) * k (ix3 0 b c) := by
  pointwise [k1_pay77, k1_pay76]

/-- What one pair of a key block `j` and a query block `r` adds to an entry of each gradient. -/
def addQ (Q K W O : ℕ → ℕ → ℝ) (Z δ : ℕ → ℝ) (j i d : ℕ) : ℝ := ∑ b : Fin 512, gs Q K W O Z δ i (512 * j + b.val) * K (512 * j + b.val) d
def addK (Q K W O : ℕ → ℕ → ℝ) (Z δ : ℕ → ℝ) (r c d : ℕ) : ℝ := ∑ a : Fin 512, gs Q K W O Z δ (512 * r + a.val) c * Q (512 * r + a.val) d
def addV (Q K O : ℕ → ℕ → ℝ) (Z : ℕ → ℝ) (r c d : ℕ) : ℝ := ∑ a : Fin 512, wt Q K Z (512 * r + a.val) c * O (512 * r + a.val) d

/-- The gradients are real numbers, the key and value gradients those of key block `j`. -/
structure Inv (x : Grads Ideal) (j : ℕ) (Tq Tk Tv : ℕ → ℕ → ℝ) : Prop where
  dq : ∀ (r : ℕ) (hr : r < 8) (a : Fin 512) (d : Fin 256), (x.dq : FVec Ideal S1x4096x256 .f32) (ix3 0 (rowOf r hr a) d) = ((Tq (512 * r + a.val) d.val : ℝ) : EReal)
  dk : ∀ (b : Fin 512) (d : Fin 256), (x.dk : FVec Ideal S512x256 .f32) (ix2 b d) = ((Tk (512 * j + b.val) d.val : ℝ) : EReal)
  dv : ∀ (b : Fin 512) (d : Fin 128), (x.dv : FVec Ideal S512x128 .f32) (ix2 b d) = ((Tv (512 * j + b.val) d.val : ℝ) : EReal)

theorem pair (h : Reals I Q K W O Z δ) (j r : ℕ) (hj : j < 8) (hr : r < 8) :
    Pair (score I j r) (dprob I j r) (lanesAt I.l r) (lanesAt I.d r) (fun b a => st Q K (512 * r + a.val) (512 * j + b.val))
      (fun b a => gp W O (512 * r + a.val) (512 * j + b.val)) (fun a => Z (512 * r + a.val)) (fun a => δ (512 * r + a.val)) where
  pos a := h.pos _
  s := score_real h j r hj hr
  p := dprob_real h j r hj hr
  l a := (lanesAt_apply _ r hr a).trans (h.l ⟨r, hr⟩ a)
  d a := (lanesAt_apply _ r hr a).trans (h.d ⟨r, hr⟩ a)

theorem inv_pair {x y : Grads Ideal} {j : ℕ} {Tq Tk Tv : ℕ → ℕ → ℝ} (h : Reals I Q K W O Z δ) (hx : Inv x j Tq Tk Tv) (r : ℕ) (hj : j < 8) (hr : r < 8)
    (w u : FVec Ideal S512x512 .f32) (t : FVec Ideal S1x512x256 .f32)
    (hw : ∀ b a : Fin 512, w (ix2 b a) = ((wt Q K Z (512 * r + a.val) (512 * j + b.val) : ℝ) : EReal))
    (hu : ∀ b a : Fin 512, u (ix2 b a) = ((gs Q K W O Z δ (512 * r + a.val) (512 * j + b.val) : ℝ) : EReal))
    (hq : y.dq = putRows x.dq r t)
    (ht : ∀ (a : Fin 512) (d : Fin 256), t (ix3 0 a d) = (rowsAt x.dq r : FVec Ideal S1x512x256 .f32) (ix3 0 a d) + ∑ b : Fin 512, u (ix2 b a) * (rowsAt I.k j : FVec Ideal S1x512x256 .bf16) (ix3 0 b d))
    (hk : ∀ (b : Fin 512) (d : Fin 256), (y.dk : FVec Ideal S512x256 .f32) (ix2 b d) = (x.dk : FVec Ideal S512x256 .f32) (ix2 b d) + ∑ a : Fin 512, u (ix2 b a) * (rowsAt I.q r : FVec Ideal S1x512x256 .bf16) (ix3 0 a d))
    (hv : ∀ (b : Fin 512) (d : Fin 128), (y.dv : FVec Ideal S512x128 .f32) (ix2 b d) = (x.dv : FVec Ideal S512x128 .f32) (ix2 b d) + ∑ a : Fin 512, w (ix2 b a) * (rowsO I.o r : FVec Ideal S512x128 .bf16) (ix2 a d)) :
    Inv y j (fun i d => Tq i d + if i / 512 = r then addQ Q K W O Z δ j i d else 0) (fun c d => Tk c d + addK Q K W O Z δ r c d) (fun c d => Tv c d + addV Q K O Z r c d) where
  dq r' hr' a d := by
    rw [hq]
    by_cases e : r' = r
    · subst e
      rw [putRows_same _ _ _ hr', ht, rowsAt_apply _ r' hr', hx.dq r' hr']
      simp only [rowsAt_apply _ j hj, h.k, hu]
      rw [coe_sum_mul, ← EReal.coe_add, if_pos (by omega)]; rfl
    · rw [putRows_ne _ _ _ _ hr hr' e, hx.dq r' hr', if_neg (by omega), add_zero]
  dk b d := by
    rw [hk, hx.dk]
    simp only [rowsAt_apply _ r hr, h.q, hu]
    rw [coe_sum_mul, ← EReal.coe_add]; rfl
  dv b d := by
    rw [hv, hx.dv]
    simp only [rowsO_apply _ r hr, h.o, hw]
    rw [coe_sum_mul, ← EReal.coe_add]; rfl

theorem inv_step {x : Grads Ideal} {j : ℕ} {Tq Tk Tv : ℕ → ℕ → ℝ} (h : Reals I Q K W O Z δ) (hx : Inv x j Tq Tk Tv) (r : ℕ) (hjr : j < r) (hr : r < 8) :
    Inv (step I j r x) j (fun i d => Tq i d + if i / 512 = r then addQ Q K W O Z δ j i d else 0) (fun c d => Tk c d + addK Q K W O Z δ r c d) (fun c d => Tv c d + addV Q K O Z r c d) :=
  have hj : j < 8 := by omega
  have P := pair h j r hj hr
  have e : ∀ b a : Fin 512, 512 * j + b.val ≤ 512 * r + a.val := fun b a => by omega
  inv_pair h hx r hj hr (k1_pay12 (F := Ideal) (score I j r) (lanesAt I.l r)) (k1_pay14 (F := Ideal) (score I j r) (lanesAt I.l r) (dprob I j r) (lanesAt I.d r)) _
    (fun b a => by rw [pay12_real P, wt, if_pos (e b a)]) (fun b a => by rw [pay14_real P, gs, wt, if_pos (e b a)]) rfl
    (fun a d => pay17_apply _ _ _ a d) (fun b d => pay16_15 _ _ _ _ _ _ b d) (fun b d => pay13_apply _ _ _ _ b d)

theorem inv_stepD {x : Grads Ideal} {j : ℕ} {Tq Tk Tv : ℕ → ℕ → ℝ} (h : Reals I Q K W O Z δ) (hx : Inv x j Tq Tk Tv) (hj : j < 8) :
    Inv (stepD I j x) j (fun i d => Tq i d + if i / 512 = j then addQ Q K W O Z δ j i d else 0) (fun c d => Tk c d + addK Q K W O Z δ j c d) (fun c d => Tv c d + addV Q K O Z j c d) :=
  have P := pair h j j hj hj
  have e : ∀ b a : Fin 512, (512 * j + b.val ≤ 512 * j + a.val) = (b.val ≤ a.val) := fun b a => by simp
  inv_pair h hx j hj hj (k1_pay6 (F := Ideal) (score I j j) (lanesAt I.l j)) (k1_pay8 (F := Ideal) (score I j j) (lanesAt I.l j) (dprob I j j) (lanesAt I.d j)) _
    (fun b a => by rw [pay6_real P, wt]; simp only [e]) (fun b a => by rw [pay8_real P, gs, wt]; simp only [e]) rfl
    (fun a d => pay77_apply _ _ _ a d) (fun b d => pay9_4 _ _ _ _ _ _ b d) (fun b d => pay7_5 _ _ _ _ b d)

/-- The query blocks 7, …, 8 - c added. -/
theorem inv_down (h : Reals I Q K W O Z δ) (n : ℕ) (hn : n < 8) (dq : FVec Ideal S1x4096x256 .f32) (Tq : ℕ → ℕ → ℝ)
    (hq : ∀ (r : ℕ) (hr : r < 8) (a : Fin 512) (d : Fin 256), dq (ix3 0 (rowOf r hr a) d) = ((Tq (512 * r + a.val) d.val : ℝ) : EReal)) : ∀ c, c ≤ n →
    Inv (down I (7 - n) dq c) (7 - n) (fun i d => Tq i d + if 8 - c ≤ i / 512 ∧ i < 4096 then addQ Q K W O Z δ (7 - n) i d else 0)
      (fun k d => ∑ r ∈ Finset.range c, addK Q K W O Z δ (7 - r) k d) (fun k d => ∑ r ∈ Finset.range c, addV Q K O Z (7 - r) k d)
  | 0, _ => ⟨fun r hr a d => by rw [if_neg (by omega), add_zero]; exact hq r hr a d,
      fun b d => by show k1_pay74 (F := Ideal) (ix2 b d) = _; pointwise [k1_pay74]; simp,
      fun b d => by show k1_pay75 (F := Ideal) (ix2 b d) = _; pointwise [k1_pay75]; simp⟩
  | c + 1, hc => by
    have hi := inv_step h (inv_down h n hn dq Tq hq c (by omega)) (7 - c) (by omega) (by omega)
    refine ⟨fun r hr a d => (hi.dq r hr a d).trans ?_, fun b d => (hi.dk b d).trans ?_, fun b d => (hi.dv b d).trans ?_⟩
    · congr 1
      rw [add_assoc]; congr 1
      by_cases e : r = 7 - c
      · rw [if_neg (by omega), if_pos (by omega), if_pos (by omega), zero_add]
      · rw [if_neg (show ¬ (512 * r + a.val) / 512 = 7 - c by omega), add_zero]
        by_cases e' : 8 - c ≤ r
        · rw [if_pos (by omega), if_pos (by omega)]
        · rw [if_neg (by omega), if_neg (by omega)]
    · rw [Finset.sum_range_succ]
    · rw [Finset.sum_range_succ]

/-- A column after the row adds nothing. -/
theorem addQ_zero (j i d : ℕ) (h : i / 512 < j) : addQ Q K W O Z δ j i d = 0 :=
  Finset.sum_eq_zero fun b _ => by rw [gs, wt, if_neg (by omega), zero_mul, zero_mul]

theorem inv_total (h : Reals I Q K W O Z δ) (n : ℕ) (hn : n < 8) (dq : FVec Ideal S1x4096x256 .f32) (Tq : ℕ → ℕ → ℝ)
    (hq : ∀ (r : ℕ) (hr : r < 8) (a : Fin 512) (d : Fin 256), dq (ix3 0 (rowOf r hr a) d) = ((Tq (512 * r + a.val) d.val : ℝ) : EReal)) :
    Inv (total I n dq) (7 - n) (fun i d => Tq i d + addQ Q K W O Z δ (7 - n) i d)
      (fun k d => ∑ r ∈ Finset.range (n + 1), addK Q K W O Z δ (7 - r) k d) (fun k d => ∑ r ∈ Finset.range (n + 1), addV Q K O Z (7 - r) k d) := by
  have hi := inv_stepD h (inv_down h n hn dq Tq hq n le_rfl) (by omega)
  refine ⟨fun r hr a d => (hi.dq r hr a d).trans ?_, fun b d => (hi.dk b d).trans ?_, fun b d => (hi.dv b d).trans ?_⟩
  · congr 1
    rw [add_assoc]; congr 1
    rcases lt_trichotomy r (7 - n) with e | e | e
    · rw [if_neg (by omega), if_neg (by omega), addQ_zero _ _ _ (by omega), zero_add]
    · rw [if_neg (by omega), if_pos (by omega), zero_add]
    · rw [if_pos (by omega), if_neg (by omega), add_zero]
  · rw [Finset.sum_range_succ]
  · rw [Finset.sum_range_succ]

theorem dqRun_real (h : Reals I Q K W O Z δ) : ∀ n, n < 8 → ∀ (r : ℕ) (hr : r < 8) (a : Fin 512) (d : Fin 256),
    (dqRun I n : FVec Ideal S1x4096x256 .f32) (ix3 0 (rowOf r hr a) d) = ((∑ m ∈ Finset.range (n + 1), addQ Q K W O Z δ (7 - m) (512 * r + a.val) d.val : ℝ) : EReal)
  | 0, hn, r, hr, a, d => by
    refine ((inv_total h 0 hn k1_pay73 (fun _ _ => 0) (fun r hr a d => ?_)).dq r hr a d).trans ?_
    · pointwise [k1_pay73]; simp
    · simp
  | n + 1, hn, r, hr, a, d => by
    refine ((inv_total h (n + 1) hn (dqRun I n) (fun i d => ∑ m ∈ Finset.range (n + 1), addQ Q K W O Z δ (7 - m) i d) (dqRun_real h n (by omega))).dq r hr a d).trans ?_
    rw [Finset.sum_range_succ _ (n + 1)]

theorem at_real (h : Reals I Q K W O Z δ) (n : ℕ) (hn : n < 8) :
    (∀ (b : Fin 512) (d : Fin 256), ((at_ I n).dk : FVec Ideal S512x256 .f32) (ix2 b d) = ((∑ r ∈ Finset.range (n + 1), addK Q K W O Z δ (7 - r) (512 * (7 - n) + b.val) d.val : ℝ) : EReal))
    ∧ ∀ (b : Fin 512) (d : Fin 128), ((at_ I n).dv : FVec Ideal S512x128 .f32) (ix2 b d) = ((∑ r ∈ Finset.range (n + 1), addV Q K O Z (7 - r) (512 * (7 - n) + b.val) d.val : ℝ) : EReal) := by
  cases n with
  | zero =>
    have := inv_total h 0 hn k1_pay73 (fun _ _ => 0) (fun r hr a d => by pointwise [k1_pay73]; simp)
    exact ⟨this.dk, this.dv⟩
  | succ n =>
    have := inv_total h (n + 1) hn (dqRun I n) (fun i d => ∑ m ∈ Finset.range (n + 1), addQ Q K W O Z δ (7 - m) i d) (dqRun_real h n (by omega))
    exact ⟨this.dk, this.dv⟩

/-- The blocks from the last down to block `7 - n` are all the rows, where the rows before them add nothing. -/
theorem sum_down (f : ℕ → ℝ) (n : ℕ) (hn : n < 8) (hf : ∀ i, i < 512 * (7 - n) → f i = 0) :
    ∑ r ∈ Finset.range (n + 1), ∑ a : Fin 512, f (512 * (7 - r) + a.val) = ∑ i : Fin 4096, f i.val := by
  have all : ∀ m, ∑ r ∈ Finset.range m, ∑ a : Fin 512, f (512 * r + a.val) = ∑ i ∈ Finset.range (512 * m), f i := fun m => by
    induction m with
    | zero => simp
    | succ m ih => rw [Finset.sum_range_succ, ih, range_block]
  rw [Fin.sum_univ_eq_sum_range f 4096, show 4096 = 512 * 8 from rfl, ← all, ← Finset.sum_range_reflect (fun r => ∑ a : Fin 512, f (512 * r + a.val)) 8]
  refine Finset.sum_subset (Finset.range_mono (show n + 1 ≤ 8 by omega)) fun r hr8 hr => Finset.sum_eq_zero fun a _ => hf _ ?_
  simp only [Finset.mem_range] at hr hr8
  omega

/-- The query gradient a head's last point leaves. -/
theorem dq_real (h : Reals I Q K W O Z δ) (i : Fin 4096) (d : Fin 256) :
    (dqRun I 7 : FVec Ideal S1x4096x256 .f32) (ix3 0 i d) = ((∑ c : Fin 4096, gs Q K W O Z δ i.val c.val * K c.val d.val : ℝ) : EReal) := by
  have e : i = rowOf (i.val / 512) (by omega) ⟨i.val % 512, by omega⟩ := Fin.ext (by simp; omega)
  have := dqRun_real h 7 (by omega) (i.val / 512) (by omega) ⟨i.val % 512, by omega⟩ d
  rw [← e, show 512 * (i.val / 512) + i.val % 512 = i.val from by omega] at this
  rw [this, ← sum_down (fun c => gs Q K W O Z δ i.val c * K c d.val) 7 (by omega) (fun i hi => absurd hi (by omega))]
  rfl

/-- The key gradient of key block `7 - n`. -/
theorem dk_real (h : Reals I Q K W O Z δ) (n : ℕ) (hn : n < 8) (b : Fin 512) (d : Fin 256) :
    ((at_ I n).dk : FVec Ideal S512x256 .f32) (ix2 b d) = ((∑ i : Fin 4096, gs Q K W O Z δ i.val (512 * (7 - n) + b.val) * Q i.val d.val : ℝ) : EReal) := by
  rw [(at_real h n hn).1, ← sum_down (fun i => gs Q K W O Z δ i (512 * (7 - n) + b.val) * Q i d.val) n hn (fun i hi => by rw [gs, wt, if_neg (by omega), zero_mul, zero_mul])]
  rfl

/-- The value gradient of key block `7 - n`. -/
theorem dv_real (h : Reals I Q K W O Z δ) (n : ℕ) (hn : n < 8) (b : Fin 512) (d : Fin 128) :
    ((at_ I n).dv : FVec Ideal S512x128 .f32) (ix2 b d) = ((∑ i : Fin 4096, wt Q K Z i.val (512 * (7 - n) + b.val) * O i.val d.val : ℝ) : EReal) := by
  rw [(at_real h n hn).2, ← sum_down (fun i => wt Q K Z i (512 * (7 - n) + b.val) * O i d.val) n hn (fun i hi => by rw [wt, if_neg (by omega), zero_mul])]
  rfl

end Cert.KernelIdeal.Bwd
end
-- ==== Proof.AttnBwd.lean ====
module

public import proofs.«01_k».proof.Proof.AttnFwd
public import proofs.«01_k».proof.Proof.FlashValue

@[expose] public section

set_option maxRecDepth 16384

noncomputable section

/-! What the backward attention kernel leaves in its three arrays, from what its six operands hold. -/
namespace Cert.KernelIdeal.Bwd

open Cert.KernelIdeal Cert.KernelIdeal.Gen
open Idealize.ShloMosaic Idealize.ShloMosaic.TcCoe

variable (V : Dev nD → Valuation τ sig (Elt Ideal)) (c : Dev nD)

theorem idx0 : ∀ t : Fin cfg1.N, win1_0.index t = ![t.val / 8, 0, 0] := (by decide +kernel : ∀ t : Fin grid1.N, win1_0.index t = ![t.val / 8, 0, 0])
theorem idx1 : ∀ t : Fin cfg1.N, win1_1.index t = ![0, t.val / 8] := (by decide +kernel : ∀ t : Fin grid1.N, win1_1.index t = ![0, t.val / 8])
theorem idx2 : ∀ t : Fin cfg1.N, win1_2.index t = ![t.val / 8, 0, 0, 0] := (by decide +kernel : ∀ t : Fin grid1.N, win1_2.index t = ![t.val / 8, 0, 0, 0])
theorem idx3 : ∀ t : Fin cfg1.N, win1_3.index t = ![t.val / 8, 0, 0, 0] := (by decide +kernel : ∀ t : Fin grid1.N, win1_3.index t = ![t.val / 8, 0, 0, 0])
theorem idx4 : ∀ t : Fin cfg1.N, win1_4.index t = ![t.val / 8, 0, 0] := (by decide +kernel : ∀ t : Fin grid1.N, win1_4.index t = ![t.val / 8, 0, 0])
theorem idx5 : ∀ t : Fin cfg1.N, win1_5.index t = ![t.val / 8, 0, 0] := (by decide +kernel : ∀ t : Fin grid1.N, win1_5.index t = ![t.val / 8, 0, 0])
theorem idx6 : ∀ t : Fin cfg1.N, win1_6.index t = ![t.val / 8, 0, 0] := (by decide +kernel : ∀ t : Fin grid1.N, win1_6.index t = ![t.val / 8, 0, 0])
theorem idx7 : ∀ t : Fin cfg1.N, win1_7.index t = ![t.val / 8, 7 - t.val % 8, 0] := (by decide +kernel : ∀ t : Fin grid1.N, win1_7.index t = ![t.val / 8, 7 - t.val % 8, 0])
theorem idx8 : ∀ t : Fin cfg1.N, win1_8.index t = ![t.val / 8, 7 - t.val % 8, 0] := (by decide +kernel : ∀ t : Fin grid1.N, win1_8.index t = ![t.val / 8, 7 - t.val % 8, 0])
theorem flush6 : ∀ t : Fin cfg1.N, (cfg1.win 6).flush t = true → t.val % 8 = 7 := (by decide +kernel : ∀ t : Fin grid1.N, win1_6.flush t = true → t.val % 8 = 7)

theorem headPt_div (n : ℕ) (hn : n < 64) : (headPt n).val / 8 = n / 8 := by simp only [headPt]; omega

theorem ins_q (n : ℕ) (hn : n < 64) (i : Fin 4096) (d : Fin 256) :
    (ins V c n).q (ix3 0 i d) = (V c main_v8 : FVec Ideal S8x4096x256 .bf16) (ix3 ⟨n / 8, by omega⟩ i d) := by
  have e := headPt_div n hn
  unfold ins
  dsimp only
  blk_ext [blk, idx0]

theorem ins_k (n : ℕ) (hn : n < 64) (i : Fin 4096) (d : Fin 256) :
    (ins V c n).k (ix3 0 i d) = (V c main_v12 : FVec Ideal S8x4096x256 .bf16) (ix3 ⟨n / 8, by omega⟩ i d) := by
  have e := headPt_div n hn
  unfold ins
  dsimp only
  blk_ext [blk, idx4]

theorem ins_v (n : ℕ) (hn : n < 64) (i : Fin 4096) (d : Fin 256) :
    (ins V c n).v (ix3 0 i d) = (V c main_v17 : FVec Ideal S8x4096x256 .bf16) (ix3 ⟨n / 8, by omega⟩ i d) := by
  have e := headPt_div n hn
  unfold ins
  dsimp only
  blk_ext [blk, idx5]

theorem ins_o (n : ℕ) (hn : n < 64) (i : Fin 4096) (d : Fin 128) :
    (ins V c n).o (ix2 i d) = (V c main_v25 : FVec Ideal S4096x1024 .bf16) (ix2 i ⟨n / 8 * 128 + d.val, by omega⟩) := by
  have e := headPt_div n hn
  unfold ins
  dsimp only
  blk_ext [blk, idx1]

theorem ins_l (n : ℕ) (hn : n < 64) (r : Fin 8) (a : Fin 512) :
    (ins V c n).l (ix4 0 r 0 a) = (V c main_v18_1 : FVec Ideal S8x8x1x512 .f32) (ix4 ⟨n / 8, by omega⟩ r 0 a) := by
  have e := headPt_div n hn
  unfold ins
  dsimp only
  blk_ext [blk, idx2]

theorem ins_d (n : ℕ) (hn : n < 64) (r : Fin 8) (a : Fin 512) :
    (ins V c n).d (ix4 0 r 0 a) = (V c main_v24 : FVec Ideal S8x8x1x512 .f32) (ix4 ⟨n / 8, by omega⟩ r 0 a) := by
  have e := headPt_div n hn
  unfold ins
  dsimp only
  blk_ext [blk, idx3]

variable {V c} {Q K W O : ℕ → ℕ → ℕ → ℝ} {Z δ : ℕ → ℕ → ℝ}
variable (hR : ∀ n, n < 64 → Reals (ins V c n) (Q (n / 8)) (K (n / 8)) (W (n / 8)) (O (n / 8)) (Z (n / 8)) (δ (n / 8)))

include hR

theorem dq_array : (dat V c).arrAt 6 cfg1.N = fun j : S8x4096x256.Idx =>
    ((∑ k : Fin 4096, gs (Q (j 0).val) (K (j 0).val) (W (j 0).val) (O (j 0).val) (Z (j 0).val) (δ (j 0).val) (j 1).val k.val * K (j 0).val k.val (j 2).val : ℝ) : EReal) := by
  refine (dat V c).arrAt_eq_of_covers 6 _ (by decide +kernel) fun t hf y => ?_
  have hl := flush6 t hf
  blk_simp [idx6]
  rw [after6, hl]
  have ht : t.val < 64 := t.isLt
  have h1 : (y 1).val < 4096 := (y 1).isLt
  have h2 : (y 2).val < 256 := (y 2).isLt
  have ey : (y : S1x4096x256.Idx) = ix3 0 ⟨(y 1).val, h1⟩ ⟨(y 2).val, h2⟩ := by
    have a0 : (y 0).val < 1 := (y 0).isLt
    funext x; fin_cases x <;> apply Fin.ext
    · exact Nat.lt_one_iff.mp a0
    · rfl
    · rfl
  have e := dq_real (hR t.val ht) ⟨(y 1).val, h1⟩ ⟨(y 2).val, h2⟩
  exact (congrArg (dqRun (ins V c t.val) 7) ey).trans e

theorem dk_array : (dat V c).arrAt 7 cfg1.N = fun j : S8x4096x256.Idx =>
    ((∑ i : Fin 4096, gs (Q (j 0).val) (K (j 0).val) (W (j 0).val) (O (j 0).val) (Z (j 0).val) (δ (j 0).val) i.val (j 1).val * Q (j 0).val i.val (j 2).val : ℝ) : EReal) := by
  refine (dat V c).arrAt_eq_of_covers 7 _ (by decide +kernel) fun t hf y => ?_
  blk_simp [idx7]
  rw [after7]
  have ht : t.val < 64 := t.isLt
  have h1 : (y 1).val < 512 := (y 1).isLt
  have h2 : (y 2).val < 256 := (y 2).isLt
  have ey : (y : S1x512x256.Idx) = ix3 0 ⟨(y 1).val, h1⟩ ⟨(y 2).val, h2⟩ := by
    have a0 : (y 0).val < 1 := (y 0).isLt
    funext x; fin_cases x <;> apply Fin.ext
    · exact Nat.lt_one_iff.mp a0
    · rfl
    · rfl
  have e := dk_real (hR t.val ht) (t.val % 8) (Nat.mod_lt _ (by norm_num)) ⟨(y 1).val, h1⟩ ⟨(y 2).val, h2⟩
  have e3 : (7 - t.val % 8) * 512 + (y 1).val = 512 * (7 - t.val % 8) + (y 1).val := by omega
  have ep : ∀ (X : FVec Ideal S512x256 .f32) (b : Fin 512) (d : Fin 256), k1_pay84 (F := Ideal) X (ix3 0 b d) = X (ix2 b d) := fun X b d => by
    pointwise [k1_pay84]
  rw [e3]
  exact ((congrArg (k1_pay84 (at_ (ins V c t.val) (t.val % 8)).dk) ey).trans (ep _ _ _)).trans e

theorem dv_array : (dat V c).arrAt 8 cfg1.N = fun j : S8x4096x128.Idx =>
    ((∑ i : Fin 4096, wt (Q (j 0).val) (K (j 0).val) (Z (j 0).val) i.val (j 1).val * O (j 0).val i.val (j 2).val : ℝ) : EReal) := by
  refine (dat V c).arrAt_eq_of_covers 8 _ (by decide +kernel) fun t hf y => ?_
  blk_simp [idx8]
  rw [after8]
  have ht : t.val < 64 := t.isLt
  have h1 : (y 1).val < 512 := (y 1).isLt
  have h2 : (y 2).val < 128 := (y 2).isLt
  have ey : (y : S1x512x128.Idx) = ix3 0 ⟨(y 1).val, h1⟩ ⟨(y 2).val, h2⟩ := by
    have a0 : (y 0).val < 1 := (y 0).isLt
    funext x; fin_cases x <;> apply Fin.ext
    · exact Nat.lt_one_iff.mp a0
    · rfl
    · rfl
  have e := dv_real (hR t.val ht) (t.val % 8) (Nat.mod_lt _ (by norm_num)) ⟨(y 1).val, h1⟩ ⟨(y 2).val, h2⟩
  have e3 : (7 - t.val % 8) * 512 + (y 1).val = 512 * (7 - t.val % 8) + (y 1).val := by omega
  have ep : ∀ (X : FVec Ideal S512x128 .f32) (b : Fin 512) (d : Fin 128), k1_pay1 (F := Ideal) X (ix3 0 b d) = X (ix2 b d) := fun X b d => by
    pointwise [k1_pay1]
  rw [e3]
  exact ((congrArg (k1_pay1 (at_ (ins V c t.val) (t.val % 8)).dv) ey).trans (ep _ _ _)).trans e

end Cert.KernelIdeal.Bwd
end
-- ==== Proof.AttnBridge.lean ====
module

public import proofs.«01_k».proof.Proof.AttnBwd

@[expose] public section

set_option maxRecDepth 16384

noncomputable section

/-! The kernel's sums of powers of two are the reference's sums of exponentials. -/
namespace Cert.KernelIdeal.Attn

open Cert.KernelIdeal.Fwd (st Z ov)
open Cert.KernelIdeal.Bwd (wt gp gs)
open Cert.ReferenceIdeal.Attn (cc sc zz pp dp ds)

theorem sum_pad (f : ℕ → ℝ) : (∑ d : Fin 256, if d.val < 192 then f d.val else 0) = ∑ d : Fin 192, f d.val := by
  rw [Fin.sum_univ_eq_sum_range (fun d => if d < 192 then f d else 0) 256, Fin.sum_univ_eq_sum_range f 192, ← Finset.sum_filter]
  exact Finset.sum_congr (by ext d; simp only [Finset.mem_filter, Finset.mem_range]; omega) fun _ _ => rfl

theorem sum_mask (f : ℕ → ℝ) (i : ℕ) (hi : i < 4096) : (∑ j ∈ Finset.range (i + 1), f j) = ∑ j : Fin 4096, if j.val ≤ i then f j.val else 0 := by
  rw [Fin.sum_univ_eq_sum_range (fun j => if j ≤ i then f j else 0) 4096, ← Finset.sum_filter]
  exact Finset.sum_congr (by ext d; simp only [Finset.mem_filter, Finset.mem_range]; omega) fun _ _ => rfl

variable (q k v ct : ℕ → ℕ → ℕ → ℝ) (h : ℕ)

theorem st_eq (i j : ℕ) : st (Qv q h) (Kv k h) i j = sc q k h i j / Real.log 2 := by
  have e : ∀ d : Fin 256, Qv q h i d.val * Kv k h j d.val = if d.val < 192 then q h i d.val * k h j d.val * (cc / Real.log 2) else 0 := fun d => by
    unfold Qv Kv
    split_ifs
    · ring
    · ring
  unfold st sc
  rw [Finset.sum_congr rfl fun d _ => e d, sum_pad (fun d => q h i d * k h j d * (cc / Real.log 2)), ← Finset.sum_mul]
  ring

theorem pow_eq (i j : ℕ) : (2 : ℝ) ^ st (Qv q h) (Kv k h) i j = Real.exp (sc q k h i j) := by
  rw [Real.rpow_def_of_pos (by norm_num), st_eq, mul_div_cancel₀ _ log_two_ne]

theorem Z_eq (i : ℕ) (hi : i < 4096) : Z (Qv q h) (Kv k h) i = zz q k h i := by
  unfold Z zz
  rw [sum_mask _ i hi]
  exact Finset.sum_congr rfl fun j _ => by rw [pow_eq]

theorem wt_eq (i j : ℕ) (hi : i < 4096) : wt (Qv q h) (Kv k h) (Z (Qv q h) (Kv k h)) i j = pp q k h i j := by
  unfold wt pp
  rw [Z_eq q k h i hi, pow_eq]
  split_ifs
  · rfl
  · rw [zero_div]

theorem ov_eq (i l : ℕ) (hi : i < 4096) (hl : l < 128) : ov (Qv q) (Kv k) (Wv v) h i l = ∑ j : Fin 4096, v h j.val l * pp q k h i j.val := by
  unfold ov
  rw [Z_eq q k h i hi, sum_mask _ i hi, Finset.sum_div]
  refine Finset.sum_congr rfl fun j _ => ?_
  unfold pp Wv
  rw [pow_eq, if_pos hl]
  split_ifs <;> ring

theorem gp_eq (i j : ℕ) : gp (Wv v h) (ct h) i j = dp v ct h i j :=
  Finset.sum_congr rfl fun d _ => by unfold Wv; rw [if_pos d.isLt, mul_comm]

theorem delta_eq (i : ℕ) (hi : i < 4096) :
    (∑ d : Fin 128, ct h i d.val * ov (Qv q) (Kv k) (Wv v) h i d.val) = ∑ j : Fin 4096, dp v ct h i j.val * pp q k h i j.val := by
  rw [Finset.sum_congr rfl fun d _ => by rw [ov_eq q k v h i d.val hi d.isLt, Finset.mul_sum], Finset.sum_comm]
  refine Finset.sum_congr rfl fun j _ => ?_
  unfold dp
  rw [Finset.sum_mul]
  exact Finset.sum_congr rfl fun d _ => by ring

/-- The row sums of the product of the output and its gradient. -/
def dl (i : ℕ) : ℝ := ∑ d : Fin 128, ct h i d.val * ov (Qv q) (Kv k) (Wv v) h i d.val

theorem gs_eq (i j : ℕ) (hi : i < 4096) :
    gs (Qv q h) (Kv k h) (Wv v h) (ct h) (Z (Qv q h) (Kv k h)) (dl q k v ct h) i j * cc = ds q k v ct h i j := by
  unfold gs ds dl
  rw [wt_eq q k h i j hi, gp_eq, delta_eq q k v ct h i hi]

theorem dq_eq (i d : ℕ) (hi : i < 4096) (hd : d < 192) :
    (∑ j : Fin 4096, gs (Qv q h) (Kv k h) (Wv v h) (ct h) (Z (Qv q h) (Kv k h)) (dl q k v ct h) i j.val * Kv k h j.val d) * cc
      = ∑ j : Fin 4096, ds q k v ct h i j.val * k h j.val d := by
  rw [Finset.sum_mul]
  refine Finset.sum_congr rfl fun j _ => ?_
  rw [← gs_eq q k v ct h i j.val hi, Kv, if_pos hd]
  ring

theorem dk_eq (j d : ℕ) (hd : d < 192) :
    (∑ i : Fin 4096, gs (Qv q h) (Kv k h) (Wv v h) (ct h) (Z (Qv q h) (Kv k h)) (dl q k v ct h) i.val j * Qv q h i.val d) * Real.log 2
      = ∑ i : Fin 4096, ds q k v ct h i.val j * q h i.val d := by
  rw [Finset.sum_mul]
  refine Finset.sum_congr rfl fun i _ => ?_
  rw [← gs_eq q k v ct h i.val j i.isLt, Qv, if_pos hd]
  have := log_two_ne
  field_simp

theorem dv_eq (j d : ℕ) :
    (∑ i : Fin 4096, wt (Qv q h) (Kv k h) (Z (Qv q h) (Kv k h)) i.val j * ct h i.val d) = ∑ i : Fin 4096, ct h i.val d * pp q k h i.val j :=
  Finset.sum_congr rfl fun i _ => by rw [wt_eq q k h i.val j i.isLt, mul_comm]

end Cert.KernelIdeal.Attn
end
-- ==== Proof.AttnValue.lean ====
module

public import proofs.«01_k».proof.Proof.AttnBridge

@[expose] public section

set_option maxRecDepth 16384

noncomputable section

/-! The attention program's four results are the reference's. -/
namespace Cert.KernelIdeal.Attn

open Cert.KernelIdeal Cert.KernelIdeal.Gen
open Idealize.ShloMosaic Idealize.ShloMosaic.TcCoe
open Cert.KernelIdeal.Fwd (Z ov)
open Cert.ReferenceIdeal.Read
open Cert.ReferenceIdeal.Attn (v40_real v44_real v62_real v64_real)

section Reference

variable {q k v ct : ℕ → ℕ → ℕ → ℝ} {x0 x1 : FVec Ideal S1x4096x8x192 .f32} {x2 x3 : FVec Ideal S1x4096x8x128 .f32}
variable (R : Cert.ReferenceIdeal.Attn.Reals q k v ct x0 x1 x2 x3)
include R

theorem ref_o (i : Fin 4096) (l : Fin 1024) : val_main_v65 (F := Ideal) x0 x1 x2 (ix2 i l)
    = ((∑ j : Fin 4096, v (l.val / 128) j.val (l.val % 128) * Cert.ReferenceIdeal.Attn.pp q k (l.val / 128) i.val j.val : ℝ) : EReal) := by
  have e := v40_real R i ⟨l.val / 128, by omega⟩ ⟨l.val % 128, by omega⟩
  unfold val_main_v65
  generalize val_main_v40 (F := Ideal) x0 x1 x2 = X at e ⊢
  pointwise []
  exact e

theorem ref_dq (h : Fin 8) (i : Fin 4096) (d : Fin 192) : val_main_v67 (F := Ideal) x0 x1 x2 x3 (ix3 h i d)
    = ((∑ j : Fin 4096, Cert.ReferenceIdeal.Attn.ds q k v ct h.val i.val j.val * k h.val j.val d.val : ℝ) : EReal) := by
  have e := v64_real R i h d
  unfold val_main_v67 val_main_v66
  generalize val_main_v64 (F := Ideal) x0 x1 x2 x3 = X at e ⊢
  pointwise []
  exact e

theorem ref_dk (h : Fin 8) (j : Fin 4096) (d : Fin 192) : val_main_v69 (F := Ideal) x0 x1 x2 x3 (ix3 h j d)
    = ((∑ i : Fin 4096, Cert.ReferenceIdeal.Attn.ds q k v ct h.val i.val j.val * q h.val i.val d.val : ℝ) : EReal) := by
  have e := v62_real R j h d
  unfold val_main_v69 val_main_v68
  generalize val_main_v62 (F := Ideal) x0 x1 x2 x3 = X at e ⊢
  pointwise []
  exact e

theorem ref_dv (h : Fin 8) (j : Fin 4096) (d : Fin 128) : val_main_v71 (F := Ideal) x0 x1 x3 (ix3 h j d)
    = ((∑ i : Fin 4096, ct h.val i.val d.val * Cert.ReferenceIdeal.Attn.pp q k h.val i.val j.val : ℝ) : EReal) := by
  have e := v44_real R j h d
  unfold val_main_v71 val_main_v70
  generalize val_main_v44 (F := Ideal) x0 x1 x3 = X at e ⊢
  pointwise []
  exact e

end Reference

variable {q k v ct : ℕ → ℕ → ℕ → ℝ} {m : (ℓ : Loc nD τ sig) → Buf (Elt Ideal) ℓ} {c : Dev nD} (R : Args q k v ct m c)
include R

theorem wv_one : ∀ h j (l : Fin 128), Wv v h j (128 + l.val) = 1 := fun h j l => by unfold Wv; rw [if_neg (by omega)]

theorem fwd_reals (n : ℕ) (hn : n < 64) : Fwd.Reals (Fwd.ins (V5 m) c n) (Qv q (n / 8)) (Kv k (n / 8)) (Wv v (n / 8)) :=
  Fwd.reals_of (V5 m) c (Qv q) (Kv k) (Wv v) (q_read R) (k_read R) (v_read R) n hn

theorem o_eq : V6 m (outs m) c main_v18_0 = fun j : S4096x1024.Idx => ((ov (Qv q) (Kv k) (Wv v) ((j 1).val / 128) (j 0).val ((j 1).val % 128) : ℝ) : EReal) :=
  (V6_0 m c).trans (Fwd.o_array (fwd_reals R) (wv_one R))

theorem l_eq : V6 m (outs m) c main_v18_1 = fun j : S8x8x1x512.Idx => ((Real.log (Z (Qv q (j 0).val) (Kv k (j 0).val) (512 * (j 1).val + (j 3).val)) / Real.log 2 : ℝ) : EReal) :=
  (V6_1 m c).trans (Fwd.l_array (fwd_reals R) (wv_one R))

theorem bwd_reals (n : ℕ) (hn : n < 64) : Bwd.Reals (Bwd.ins (V7 m (outs m)) c n) (Qv q (n / 8)) (Kv k (n / 8)) (Wv v (n / 8)) (ct (n / 8))
    (Z (Qv q (n / 8)) (Kv k (n / 8))) (dl q k v ct (n / 8)) where
  pos i := Fwd.Z_pos _ _ i
  q i d := (Bwd.ins_q _ c n hn i d).trans ((congrFun v8_V7 _).trans (q_read R ⟨n / 8, by omega⟩ i d))
  k i d := (Bwd.ins_k _ c n hn i d).trans ((congrFun v12_V7 _).trans (k_read R ⟨n / 8, by omega⟩ i d))
  v i d := (Bwd.ins_v _ c n hn i d).trans ((congrFun v17_V7 _).trans (v_read R ⟨n / 8, by omega⟩ i d))
  o i d := by
    refine (Bwd.ins_o _ c n hn i d).trans ((do_read R i ⟨n / 8 * 128 + d.val, by omega⟩).trans ?_)
    have hd := d.isLt
    have e1 : (n / 8 * 128 + d.val) / 128 = n / 8 := by omega
    have e2 : (n / 8 * 128 + d.val) % 128 = d.val := by omega
    simp only [e1, e2]
  l r a := (Bwd.ins_l _ c n hn r a).trans ((congrFun v18_1_V7 _).trans (congrFun (l_eq R) _))
  d r a := (Bwd.ins_d _ c n hn r a).trans (delta_read R (ov (Qv q) (Kv k) (Wv v)) (fun i l => congrFun (o_eq R) (ix2 i l)) ⟨n / 8, by omega⟩ r a)

theorem value_o : (V9 m (outs m) c main_v18_0 : FVec Ideal S4096x1024 .f32)
    = val_main_v65 (F := Ideal) (m ((c.tc : Thread nD τ).loc main_arg0)) (m ((c.tc : Thread nD τ).loc main_arg1)) (m ((c.tc : Thread nD τ).loc main_arg2)) := by
  refine (v18_0_V9.trans (o_eq R)).trans ?_
  funext j
  idx_vars j
  refine Eq.trans ?_ (ref_o R _ _).symm
  exact congrArg Real.toEReal (ov_eq q k v _ _ _ (Fin.isLt _) (Nat.mod_lt _ (by norm_num)))

theorem value_dq : (V9 m (outs m) c main_v29 : FVec Ideal S8x4096x192 .f32)
    = val_main_v67 (F := Ideal) (m ((c.tc : Thread nD τ).loc main_arg0)) (m ((c.tc : Thread nD τ).loc main_arg1)) (m ((c.tc : Thread nD τ).loc main_arg2)) (m ((c.tc : Thread nD τ).loc main_arg3)) := by
  funext j
  idx_vars j
  refine Eq.trans ?_ (ref_dq R _ _ _).symm
  refine (dq_read _ _ _ _ (congrFun ((V8_0 m c).trans (Bwd.dq_array (Q := Qv q) (K := Kv k) (W := Wv v) (O := ct)
    (Z := fun h => Z (Qv q h) (Kv k h)) (δ := dl q k v ct) (bwd_reals R))) _)).trans ?_
  exact congrArg Real.toEReal (dq_eq q k v ct _ _ _ (Fin.isLt _) j2.isLt)

theorem value_dk : (V9 m (outs m) c main_v32 : FVec Ideal S8x4096x192 .f32)
    = val_main_v69 (F := Ideal) (m ((c.tc : Thread nD τ).loc main_arg0)) (m ((c.tc : Thread nD τ).loc main_arg1)) (m ((c.tc : Thread nD τ).loc main_arg2)) (m ((c.tc : Thread nD τ).loc main_arg3)) := by
  funext j
  idx_vars j
  refine Eq.trans ?_ (ref_dk R _ _ _).symm
  refine (dk_read _ _ _ _ (congrFun ((V8_1 m c).trans (Bwd.dk_array (Q := Qv q) (K := Kv k) (W := Wv v) (O := ct)
    (Z := fun h => Z (Qv q h) (Kv k h)) (δ := dl q k v ct) (bwd_reals R))) _)).trans ?_
  exact congrArg Real.toEReal (dk_eq q k v ct _ _ _ j2.isLt)

theorem value_dv : (V9 m (outs m) c main_v26_2 : FVec Ideal S8x4096x128 .f32)
    = val_main_v71 (F := Ideal) (m ((c.tc : Thread nD τ).loc main_arg0)) (m ((c.tc : Thread nD τ).loc main_arg1)) (m ((c.tc : Thread nD τ).loc main_arg3)) := by
  refine (v26_2_V9.trans ((V8_2 m c).trans (Bwd.dv_array (Q := Qv q) (K := Kv k) (W := Wv v) (O := ct)
    (Z := fun h => Z (Qv q h) (Kv k h)) (δ := dl q k v ct) (bwd_reals R)))).trans ?_
  funext j
  idx_vars j
  refine Eq.trans ?_ (ref_dv R _ _ _).symm
  exact congrArg Real.toEReal (dv_eq q k ct _ _ _)

end Cert.KernelIdeal.Attn
end
-- ==== Proof.Scalars.lean ====
module

public import Idealize.ShloMosaic.Lib.IdealHost
public import Idealize.ShloMosaic.PureOps.Ideal.Laws

@[expose] public section

noncomputable section

namespace Cert.Scalars

open Idealize.ShloMosaic

theorem half : Ideal.ofBits .f32 0x3F000000#32 = (((1 : ℝ) / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem width : Ideal.ofBits .f32 0x45000000#32 = ((2048 : ℝ) : EReal) := by
  simp [Ideal.ofBits, Ideal.ieee, -EReal.coe_mul]; norm_num

theorem invWidth : Ideal.ofBits .f32 0x3A000000#32 = (((1 : ℝ) / 2048 : ℝ) : EReal) := by
  simp [Ideal.ofBits, Ideal.ieee, -EReal.coe_mul]; norm_num

/-- A finite factor that is not negative goes under a finite sum. -/
theorem mul_sum_coe {ι : Type*} (s : Finset ι) {a : ℝ} (ha : 0 ≤ a) (f : ι → EReal) : (a : EReal) * ∑ i ∈ s, f i = ∑ i ∈ s, (a : EReal) * f i := by
  classical
  induction s using Finset.induction_on with
  | empty => simp
  | insert i s hi ih => rw [Finset.sum_insert hi, Finset.sum_insert hi, EReal.left_distrib_of_nonneg_of_ne_top (EReal.coe_nonneg.mpr ha) (EReal.coe_ne_top a), ih]

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A number whose absolute value is below infinity is real. -/
theorem real_of_lt (x : EReal) (h : BitVec.ofBool (decide (max x (-x) < Ideal.ofBits .f32 0x7F800000#32)) = 1#1) : x = (x.toReal : EReal) := by
  have ht : Ideal.ofBits .f32 0x7F800000#32 = ⊤ := by simp [Ideal.ofBits, Ideal.ieee]
  rw [ht] at h
  have hlt : max x (-x) < ⊤ := by
    by_contra hc
    rw [decide_eq_false hc] at h
    exact absurd h (by decide)
  refine (EReal.coe_toReal ?_ ?_).symm
  · rintro rfl; simp at hlt
  · rintro rfl; simp at hlt

/-- Dividing by the width of a row is multiplying by its inverse. -/
theorem div_width (x : EReal) : Ideal.div x (Ideal.ofBits .f32 0x45000000#32) = x * Ideal.ofBits .f32 0x3A000000#32 := by
  rw [width, invWidth]; exact Ideal.div_coe (by norm_num) x

/-- The factor of the loss's gradient: half of two widths. -/
theorem loss_factor (x : EReal) :
    Ideal.div (Ideal.ofBits .f32 0x3F000000#32) (Ideal.ofBits .f32 0x45000000#32) * (Ideal.ofBits .f32 0x40000000#32 * x) = x * Ideal.ofBits .f32 0x3A000000#32 := by
  rw [div_width, half, two, invWidth, ← mul_assoc, mul_comm x, ← EReal.coe_mul, ← EReal.coe_mul]
  norm_num

end Cert.Scalars

end
-- ==== Proof.AttnClaim.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_attention
public import proofs.«01_k».proof.Proof.AttnValue
public import proofs.«01_k».proof.Proof.BitsFlashRun
public import proofs.«01_k».proof.Proof.Scalars

@[expose] public section

set_option maxRecDepth 16384

noncomputable section

/-! The attention claims: the idealized program runs, and it ends with the reference's output and gradients. -/
namespace Cert.Proof.Attn

open Idealize.ShloMosaic Idealize.ShloMosaic.TcCoe Idealize.SL.Sem

theorem preserves : Cert.preserves_Kernel_KernelIdeal :=
  ⟨IdealRules.named_const.statement _ _ _ _ _ rfl, IdealRules.named_const.statement _ _ _ _ _ rfl⟩

section Kernel

open Cert.KernelIdeal Cert.KernelIdeal.Gen

/-- Every run ends with the buffers of the last stretch. -/
theorem buf_eq {m : (ℓ : Loc nD τ sig) → Buf (Elt Ideal) ℓ} {c : Dev nD} {μ : (ℓ : Loc nD τ sig) → Buf (Elt Ideal) ℓ}
    (h : ∀ c : Dev nD, ∀ b ∈ Pipeline.ucRefs τ sig, μ (c, b) = V9 m (Attn.outs m) c b) (b : Ref sig .tc)
    (hb : ¬ (Proc.devRef (τ := τ) .tc b).isScoped) : μ ((c.tc : Thread nD τ).loc b) = V9 m (Attn.outs m) c b :=
  h c (Proc.devRef .tc b) (Attn.mem_uc b hb)

theorem kernel_ideal_runs : Cert.quiescent_KernelIdeal := fun m ρ _ =>
  (θ_run Cert.KernelIdeal.defs _ _).mono (fun r h => ⟨fun c =>
    ⟨(buf_eq h.1 main_arg0 (by decide)).trans (V9_main_arg0 m _ c), (buf_eq h.1 main_arg1 (by decide)).trans (V9_main_arg1 m _ c),
     (buf_eq h.1 main_arg2 (by decide)).trans (V9_main_arg2 m _ c), (buf_eq h.1 main_arg3 (by decide)).trans (V9_main_arg3 m _ c)⟩, h.2⟩)
    (Attn.run (F := Ideal) m ρ)

theorem kernel_ideal_runs_pre : Cert.quiescent_KernelIdeal_pre_finite_attention := fun m ρ _ => kernel_ideal_runs m ρ trivial

end Kernel

section Bits

open Cert.Kernel Cert.Kernel.Gen

theorem bits_buf_eq {m : (ℓ : Loc nD τ sig) → Buf (Elt Bits) ℓ} {c : Dev nD} {μ : (ℓ : Loc nD τ sig) → Buf (Elt Bits) ℓ}
    (h : ∀ c : Dev nD, ∀ b ∈ Pipeline.ucRefs τ sig, μ (c, b) = V9 m (Attn.outs m) c b) (b : Ref sig .tc)
    (hb : ¬ (Proc.devRef (τ := τ) .tc b).isScoped) : μ ((c.tc : Thread nD τ).loc b) = V9 m (Attn.outs m) c b :=
  h c (Proc.devRef .tc b) (Attn.mem_uc b hb)

theorem kernel_runs : Cert.quiescent_Kernel := fun m ρ _ =>
  (θ_run Cert.Kernel.defs _ _).mono (fun r h => ⟨fun c =>
    ⟨(bits_buf_eq h.1 main_arg0 (by decide)).trans (V9_main_arg0 m _ c), (bits_buf_eq h.1 main_arg1 (by decide)).trans (V9_main_arg1 m _ c),
     (bits_buf_eq h.1 main_arg2 (by decide)).trans (V9_main_arg2 m _ c), (bits_buf_eq h.1 main_arg3 (by decide)).trans (V9_main_arg3 m _ c)⟩, h.2⟩)
    (Attn.run (F := Bits) m ρ)

end Bits

theorem reference_runs : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run (F := Ideal) m g)

theorem reference_runs_pre : Cert.quiescent_ReferenceIdeal_pre_finite_attention := fun m g _ => reference_runs m g trivial

open Cert.Pre_finite_attention (S1x4096x8x192 S1x4096x8x128)

/-- The real numbers that an array holds, head first. -/
def real192 (x : FVec Ideal S1x4096x8x192 .f32) (h i d : ℕ) : ℝ :=
  if hh : h < 8 ∧ i < 4096 ∧ d < 192 then EReal.toReal (x (ix4 0 ⟨i, hh.2.1⟩ ⟨h, hh.1⟩ ⟨d, hh.2.2⟩)) else 0
def real128 (x : FVec Ideal S1x4096x8x128 .f32) (h i d : ℕ) : ℝ :=
  if hh : h < 8 ∧ i < 4096 ∧ d < 128 then EReal.toReal (x (ix4 0 ⟨i, hh.2.1⟩ ⟨h, hh.1⟩ ⟨d, hh.2.2⟩)) else 0

theorem real192_eq (x : FVec Ideal S1x4096x8x192 .f32) (i : Fin 4096) (h : Fin 8) (d : Fin 192) :
    real192 x h.val i.val d.val = EReal.toReal (x (ix4 0 i h d)) := dif_pos ⟨h.isLt, i.isLt, d.isLt⟩
theorem real128_eq (x : FVec Ideal S1x4096x8x128 .f32) (i : Fin 4096) (h : Fin 8) (d : Fin 128) :
    real128 x h.val i.val d.val = EReal.toReal (x (ix4 0 i h d)) := dif_pos ⟨h.isLt, i.isLt, d.isLt⟩

theorem args_real {m} (hp : Cert.Pre_KernelIdeal_finite_attention m) (c : Dev Cert.KernelIdeal.nD) :
    ∃ q k v ct, Cert.KernelIdeal.Attn.Args q k v ct m c := by
  obtain ⟨h0, h1, h2, h3⟩ := hp c
  refine ⟨real192 (m ((c.tc : Thread _ Cert.KernelIdeal.τ).loc Cert.KernelIdeal.main_arg0)), real192 (m ((c.tc : Thread _ Cert.KernelIdeal.τ).loc Cert.KernelIdeal.main_arg1)),
    real128 (m ((c.tc : Thread _ Cert.KernelIdeal.τ).loc Cert.KernelIdeal.main_arg2)), real128 (m ((c.tc : Thread _ Cert.KernelIdeal.τ).loc Cert.KernelIdeal.main_arg3)),
    fun i h d => ?_, fun i h d => ?_, fun i h d => ?_, fun i h d => ?_⟩
  · rw [real192_eq]
    exact Cert.Scalars.real_of_lt _ (congrFun h0 (ix4 0 i h d))
  · rw [real192_eq]
    exact Cert.Scalars.real_of_lt _ (congrFun h1 (ix4 0 i h d))
  · rw [real128_eq]
    exact Cert.Scalars.real_of_lt _ (congrFun h2 (ix4 0 i h d))
  · rw [real128_eq]
    exact Cert.Scalars.real_of_lt _ (congrFun h3 (ix4 0 i h d))

open Cert.ReferenceIdeal.Read in
theorem algebraic : Cert.algebraic_KernelIdeal_ReferenceIdeal_pre_finite_attention := fun m g m' g' hp hag => by
  refine ⟨_, _, _, _, (θ_run Cert.KernelIdeal.defs _ _).mono (fun r h c =>
    ⟨buf_eq h.1 Cert.KernelIdeal.main_v18_0 (by decide), buf_eq h.1 Cert.KernelIdeal.main_v29 (by decide), buf_eq h.1 Cert.KernelIdeal.main_v32 (by decide), buf_eq h.1 Cert.KernelIdeal.main_v26_2 (by decide),
     (buf_eq h.1 Cert.KernelIdeal.main_arg0 (by decide)).trans (Cert.KernelIdeal.Gen.V9_main_arg0 m _ c), (buf_eq h.1 Cert.KernelIdeal.main_arg1 (by decide)).trans (Cert.KernelIdeal.Gen.V9_main_arg1 m _ c),
     (buf_eq h.1 Cert.KernelIdeal.main_arg2 (by decide)).trans (Cert.KernelIdeal.Gen.V9_main_arg2 m _ c), (buf_eq h.1 Cert.KernelIdeal.main_arg3 (by decide)).trans (Cert.KernelIdeal.Gen.V9_main_arg3 m _ c)⟩)
    (Cert.KernelIdeal.Attn.run (F := Ideal) m g), ?_⟩
  refine (θ_run Cert.ReferenceIdeal.defs _ _).mono (fun _ h c => ?_) (Cert.ReferenceIdeal.Value.run (F := Ideal) m' g')
  obtain ⟨r0, r1, r2, r3, rest⟩ := h c
  obtain ⟨e0, e1, e2, e3⟩ := hag c
  obtain ⟨q, k, v, ct, R⟩ := args_real hp c
  refine ⟨r0.trans ?_, r1.trans ?_, r2.trans ?_, r3.trans ?_, rest⟩
  · refine (val_main_v65_eq _ _).trans ?_
    rw [e0, e1, e2]
    exact (Cert.KernelIdeal.Attn.value_o R).symm
  · refine (val_main_v67_eq _ _).trans ?_
    rw [e0, e1, e2, e3]
    exact (Cert.KernelIdeal.Attn.value_dq R).symm
  · refine (val_main_v69_eq _ _).trans ?_
    rw [e0, e1, e2, e3]
    exact (Cert.KernelIdeal.Attn.value_dk R).symm
  · refine (val_main_v71_eq _ _).trans ?_
    rw [e0, e1, e3]
    exact (Cert.KernelIdeal.Attn.value_dv R).symm

end Cert.Proof.Attn
end
-- ==== Proof.Loss.lean ====
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Claim
public import proofs.«01_k».proof.Defs
public import proofs.«01_k».proof.Proof.Gen.Reference2Ideal
public import proofs.«01_k».proof.Proof.Scalars

@[expose] public section

set_option maxRecDepth 16384

noncomputable section

namespace Cert.Kernel2Ideal.Loss

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0] ∧ win0_6.index t = ![t.val, 0] ∧ win0_7.index t = ![0, 0] :=
  (by decide +kernel : ∀ t : Fin grid0.N, _)

/-- Row `r` of block `t` as a row of the whole array. -/
def row (t : Fin cfg0.N) (r : Fin 512) : Fin 4096 := ⟨t.val * 512 + r.val, by have := t.isLt; have : cfg0.N = 8 := N_0; omega⟩

/-- The residual of the loss at a row and a column. -/
def res (x0 x1 : FVec Ideal S1x4096x2048 .f32) (x2 : FVec Ideal S1x1x2048 .f32) (x3 : FVec Ideal S1x4096x2048 .f32) (r : Fin 4096) (l : Fin 2048) : EReal :=
  x0 (ix3 0 r l) + x2 (ix3 0 0 l) * x1 (ix3 0 r l) - x3 (ix3 0 r l)

open Cert.Reference2Ideal.Read in
theorem ref23 (x0 x1 : FVec Ideal S1x4096x2048 .f32) (x2 : FVec Ideal S1x1x2048 .f32) (x3 : FVec Ideal S1x4096x2048 .f32) (r : Fin 4096) (l : Fin 2048) :
    val_main_v23 (F := Ideal) x0 x1 x2 x3 (ix2 r l) = res x0 x1 x2 x3 r l * Ideal.ofBits .f32 0x3A000000#32 := by
  pointwise [val_main_v23, val_main_v17, val_main_v16, val_main_v15, val_main_v14, val_main_v13, val_main_v12, val_main_v6, val_main_v5, val_main_v3, val_main_v2, val_main_v1, val_main_v0, val_main_cst, val_main_cst_4, val_main_cst_5, val_main_cst_6]
  exact Cert.Scalars.loss_factor _

open Cert.Reference2Ideal.Read in
theorem ref24 (x0 x1 : FVec Ideal S1x4096x2048 .f32) (x2 : FVec Ideal S1x1x2048 .f32) (x3 : FVec Ideal S1x4096x2048 .f32) (y : S1x1.Idx) :
    val_main_v24 (F := Ideal) x0 x1 x2 x3 y = Ideal.ofBits .f32 0x3F000000#32 * ∑ r : Fin 4096, (∑ l : Fin 2048, res x0 x1 x2 x3 r l * res x0 x1 x2 x3 r l) * Ideal.ofBits .f32 0x3A000000#32 := by
  pointwise [val_main_v24, val_main_v11, val_main_v10, val_main_v9, val_main_v8, val_main_v7, val_main_v4, val_main_v3, val_main_v2, val_main_v1, val_main_v0, val_main_cst, val_main_cst_0, val_main_cst_1, val_main_cst_2, val_main_cst_3]
  rw [Fin.sum_univ_one]
  simp only [Cert.Scalars.div_width]
  rfl

open Cert.Reference2Ideal.Read in
theorem ref26 (x0 x1 : FVec Ideal S1x4096x2048 .f32) (x2 : FVec Ideal S1x1x2048 .f32) (x3 : FVec Ideal S1x4096x2048 .f32) (r : Fin 4096) (l : Fin 2048) :
    val_main_v26 (F := Ideal) x0 x1 x2 x3 (ix2 r l) = val_main_v23 (F := Ideal) x0 x1 x2 x3 (ix2 r l) * x2 (ix3 0 0 l) := by
  pointwise [val_main_v26, val_main_v25, val_main_v19, val_main_v18, val_main_v23]
  exact mul_comm _ _

open Cert.Reference2Ideal.Read in
theorem ref27 (x0 x1 : FVec Ideal S1x4096x2048 .f32) (x2 : FVec Ideal S1x1x2048 .f32) (x3 : FVec Ideal S1x4096x2048 .f32) (l : Fin 2048) :
    val_main_v27 (F := Ideal) x0 x1 x2 x3 (ix2 0 l) = ∑ r : Fin 4096, val_main_v23 (F := Ideal) x0 x1 x2 x3 (ix2 r l) * x1 (ix3 0 r l) := by
  pointwise [val_main_v27, val_main_v22, val_main_v21, val_main_v20, val_main_cst_7, val_main_v23]

abbrev a0 (c : Dev nD) : FVec Ideal S1x4096x2048 .f32 := m ((c : Thread nD τ).loc main_arg0)
abbrev a1 (c : Dev nD) : FVec Ideal S1x4096x2048 .f32 := m ((c : Thread nD τ).loc main_arg1)
abbrev a2 (c : Dev nD) : FVec Ideal S1x1x2048 .f32 := m ((c : Thread nD τ).loc main_arg2)
abbrev a3 (c : Dev nD) : FVec Ideal S1x4096x2048 .f32 := m ((c : Thread nD τ).loc main_arg3)

theorem blk0 (c : Dev nD) (t : Fin cfg0.N) (r : Fin 512) (l : Fin 2048) : (iblk m c 0 t : FVec Ideal S512x2048 .f32) (ix2 r l) = a0 m c (ix3 0 (row t r) l) + a2 m c (ix3 0 0 l) * a1 m c (ix3 0 (row t r) l) := by
  blk_simp [iblk, idx t]
  entry_read
  pointwise
  blk_point [row, idx t]

theorem blk1 (c : Dev nD) (t : Fin cfg0.N) (r : Fin 512) (l : Fin 2048) : (iblk m c 1 t : FVec Ideal S512x2048 .f32) (ix2 r l) = a3 m c (ix3 0 (row t r) l) := by
  blk_simp [iblk, idx t]
  entry_read
  pointwise
  blk_point [row, idx t]

theorem blk2 (c : Dev nD) (t : Fin cfg0.N) (r : Fin 512) (l : Fin 2048) : (iblk m c 2 t : FVec Ideal S512x2048 .f32) (ix2 r l) = a1 m c (ix3 0 (row t r) l) := by
  blk_simp [iblk, idx t]
  entry_read
  pointwise
  blk_point [row, idx t]

theorem blk3 (c : Dev nD) (t : Fin cfg0.N) (l : Fin 2048) : (iblk m c 3 t : FVec Ideal S1x2048 .f32) (ix2 0 l) = a2 m c (ix3 0 0 l) := by
  blk_simp [iblk, idx t]
  entry_read
  pointwise
  blk_point [row, idx t]

theorem emb4 (t : Fin cfg0.N) (r : Fin 512) (l : Fin 2048) : ((cfg0.win 4).blk t).view.emb (ix2 r l) = (ix2 (row t r) l : S4096x2048.Idx) := by
  blk_ext [row, idx t]

theorem emb6 (t : Fin cfg0.N) (r : Fin 512) (l : Fin 2048) : ((cfg0.win 6).blk t).view.emb (ix2 r l) = (ix2 (row t r) l : S4096x2048.Idx) := by
  blk_ext [row, idx t]

theorem final4 (c : Dev nD) : (dats m 0 c).arrAt 4 cfg0.N = Cert.Reference2Ideal.Read.val_main_v23 (F := Ideal) (a0 m c) (a1 m c) (a2 m c) (a3 m c) := by
  refine (dats m 0 c).arrAt_eq_of_covers 4 _ (by decide +kernel) fun t _ y => ?_
  obtain ⟨r, l, rfl⟩ : ∃ (r : Fin 512) (l : Fin 2048), y = ix2 r l := ⟨y 0, y 1, eq_ix2 y⟩
  rw [emb4, ref23]
  blk_simp
  rw [after0_4]
  by_cases h : t.val % 8 = 0
  · rw [outsAt0_A m c t h]; frame_out
    pointwise [k0_pay5, k0_pay4]
    simp only [blk0, blk1]
    rfl
  · rw [outsAt0_B m c t h]; frame_out
    pointwise [k0_pay5, k0_pay4]
    simp only [blk0, blk1]
    rfl

theorem final6 (c : Dev nD) : (dats m 0 c).arrAt 6 cfg0.N = Cert.Reference2Ideal.Read.val_main_v26 (F := Ideal) (a0 m c) (a1 m c) (a2 m c) (a3 m c) := by
  refine (dats m 0 c).arrAt_eq_of_covers 6 _ (by decide +kernel) fun t _ y => ?_
  obtain ⟨r, l, rfl⟩ : ∃ (r : Fin 512) (l : Fin 2048), y = ix2 r l := ⟨y 0, y 1, eq_ix2 y⟩
  rw [emb6, ref26, ref23]
  blk_simp
  rw [after0_6]
  by_cases h : t.val % 8 = 0
  · rw [outsAt0_A m c t h]; frame_out
    pointwise [k0_pay7, k0_pay5, k0_pay4]
    simp only [blk0, blk1, blk3]
    rfl
  · rw [outsAt0_B m c t h]; frame_out
    pointwise [k0_pay7, k0_pay5, k0_pay4]
    simp only [blk0, blk1, blk3]
    rfl

theorem final5 (c : Dev nD) : (dats m 0 c).arrAt 5 cfg0.N = Cert.Reference2Ideal.Read.val_main_v24 (F := Ideal) (a0 m c) (a1 m c) (a2 m c) (a3 m c) := by
  refine (dats m 0 c).arrAt_eq_of_after_last 5 t0_7 (by decide +kernel) _ fun j => ?_
  blk_simp
  rw [after0_5, Pipeline.eq_sum_fin_of_reset_step_apply_last (fun n h => (outsAt0 m c n h).2.1) 8 (fun _ => 0)
    (fun t _ => Ideal.ofBits .f32 0x3F000000#32 * ∑ r : Fin 512, (∑ l : Fin 2048, res (a0 m c) (a1 m c) (a2 m c) (a3 m c) (row t r) l * res (a0 m c) (a1 m c) (a2 m c) (a3 m c) (row t r) l) * Ideal.ofBits .f32 0x3A000000#32)
    (fun t h j => by rw [outsAt0_A m c t h]; frame_out; pointwise [k0_pay2, k0_pay6, k0_pay4]; simp only [blk0, blk1]; rfl)
    (fun t h j => by rw [outsAt0_B m c t h]; frame_out; pointwise [k0_pay2, k0_pay6, k0_pay4]; simp only [blk0, blk1]; rfl)
    (le_of_eq N_0) t0_7 rfl j, zero_add, ref24, Cert.Scalars.half, ← Cert.Scalars.mul_sum_coe _ (by norm_num)]
  exact congrArg _ (Fin.sum_mul_add_congr fun t r _ => rfl)

theorem final7 (c : Dev nD) : (dats m 0 c).arrAt 7 cfg0.N = Cert.Reference2Ideal.Read.val_main_v27 (F := Ideal) (a0 m c) (a1 m c) (a2 m c) (a3 m c) := by
  refine (dats m 0 c).arrAt_eq_of_after_last 7 t0_7 (by decide +kernel) _ fun j => ?_
  blk_simp
  rw [after0_7, Pipeline.eq_sum_fin_of_reset_step_apply_last (fun n h => (outsAt0 m c n h).2.2.2) 8 (fun _ => 0)
    (fun t j => ∑ r : Fin 512, res (a0 m c) (a1 m c) (a2 m c) (a3 m c) (row t r) (j 1) * Ideal.ofBits .f32 0x3A000000#32 * a1 m c (ix3 0 (row t r) (j 1)))
    (fun t h j => by obtain ⟨z, l, rfl⟩ : ∃ (z : Fin 1) (l : Fin 2048), j = ix2 z l := ⟨_, _, eq_ix2 j⟩; rw [outsAt0_A m c t h]; frame_out; pointwise [k0_pay3, k0_pay1, k0_pay8, k0_pay5, k0_pay4]; simp only [blk0, blk1, blk2]; rfl)
    (fun t h j => by obtain ⟨z, l, rfl⟩ : ∃ (z : Fin 1) (l : Fin 2048), j = ix2 z l := ⟨_, _, eq_ix2 j⟩; rw [outsAt0_B m c t h]; frame_out; pointwise [k0_pay3, k0_pay1, k0_pay8, k0_pay5, k0_pay4]; simp only [blk0, blk1, blk2]; rfl)
    (le_of_eq N_0) t0_7 rfl j, zero_add]
  obtain ⟨z, l, rfl⟩ : ∃ (z : Fin 1) (l : Fin 2048), j = ix2 z l := ⟨_, _, eq_ix2 j⟩
  rw [Subsingleton.elim z 0, ref27]
  simp only [ref23]
  exact Fin.sum_mul_add_congr fun t r _ => rfl

end Cert.Kernel2Ideal.Loss

namespace Cert.Loss

open Idealize.ShloMosaic Idealize.ShloMosaic.TcCoe Idealize.SL.Sem

/-- The reference runs. -/
theorem reference_runs : Cert.quiescent_Reference2Ideal (hReference2Ideal := Cert.Reference2Ideal.Gen.facts) := fun m g _ =>
  (θ_run Cert.Reference2Ideal.defs _ _).mono (fun r h => ⟨fun c => (h c).2.2.2.2, sem_eq_zero_of_no_sems (by decide) r.2⟩)
    (Cert.Reference2Ideal.Value.run (F := Ideal) m g)

/-- The call and the gradient of the loss end with equal results. -/
theorem algebraic : Cert.algebraic_Kernel2Ideal_Reference2Ideal (hKernel2Ideal := Cert.Kernel2Ideal.Gen.facts) (hReference2Ideal := Cert.Reference2Ideal.Gen.facts) := by
  intro m g m' g' _ hag
  refine ⟨_, _, _, _, Cert.Kernel2Ideal.Value.run_blocks m g, ?_⟩
  refine (θ_run _ _ _).mono (fun _ h c => ?_) (Cert.Reference2Ideal.Value.run m' g')
  obtain ⟨r0, r1, r2, r3, rest⟩ := h c
  obtain ⟨e0, e1, e2, e3⟩ := hag c
  refine ⟨r0.trans ?_, r1.trans ?_, r2.trans ?_, r3.trans ?_, rest⟩
  · refine (Cert.Reference2Ideal.Read.val_main_v23_eq _ _ _ _).trans ?_
    rw [e0, e1, e2, e3]; exact (Cert.Kernel2Ideal.Loss.final4 m c).symm
  · refine (Cert.Reference2Ideal.Read.val_main_v24_eq _ _ _ _).trans ?_
    rw [e0, e1, e2, e3]; exact (Cert.Kernel2Ideal.Loss.final5 m c).symm
  · refine (Cert.Reference2Ideal.Read.val_main_v26_eq _ _ _ _).trans ?_
    rw [e0, e1, e2, e3]; exact (Cert.Kernel2Ideal.Loss.final6 m c).symm
  · refine (Cert.Reference2Ideal.Read.val_main_v27_eq _ _ _ _).trans ?_
    rw [e0, e1, e2, e3]; exact (Cert.Kernel2Ideal.Loss.final7 m c).symm

end Cert.Loss
end
-- ==== Proof.NormMath.lean ====
module

public import proofs.«01_k».proof.Proof.Scalars
public import Idealize.ShloMosaic.Lib.Pointwise

@[expose] public section

noncomputable section

/-! The gradient of a row divided by the root of its mean square, in two forms: with the normed row taken out
of the cotangent, and as the derivative of the root times the row. -/

namespace Cert.Norm

open Idealize.ShloMosaic

/-- A row's mean square, kept above zero. -/
def meanSq (x : Fin 2048 → EReal) : EReal :=
  Ideal.div (∑ l, x l * x l) (Ideal.ofBits .f32 0x45000000#32) + Ideal.ofBits .f32 0x358637BD#32

/-- One over the root of a row's mean square. -/
def scale (x : Fin 2048 → EReal) : EReal := Ideal.rsqrt (meanSq x)

/-- The gradient with the normed row taken out. -/
def gradOut (gx : EReal) (x d : Fin 2048 → EReal) (l : Fin 2048) : EReal :=
  gx + scale x * (d l - x l * scale x * Ideal.div (∑ k, d k * (x k * scale x)) (Ideal.ofBits .f32 0x45000000#32))

/-- What the row's mean square adds to the gradient, for each of the two factors of a square. -/
def slopeOf (x d : Fin 2048 → EReal) : EReal :=
  Ideal.div ((∑ k, x k * d k) * (Ideal.ofBits .f32 0xBF000000#32 * Ideal.div (scale x) (meanSq x))) (Ideal.ofBits .f32 0x45000000#32)

/-- The gradient with the root's derivative. -/
def gradRoot (gx : EReal) (x d : Fin 2048 → EReal) (l : Fin 2048) : EReal :=
  gx + d l * scale x + x l * slopeOf x d + slopeOf x d * x l

theorem negHalf : Ideal.ofBits .f32 0xBF000000#32 = ((-(1 / 2) : ℝ) : EReal) := by
  simp [Ideal.ofBits, Ideal.ieee, -EReal.coe_mul]; norm_num

theorem eps_pos : ∃ e : ℝ, 0 < e ∧ Ideal.ofBits .f32 0x358637BD#32 = (e : EReal) :=
  ⟨(8796093 : ℝ) / 2 ^ 43, by norm_num, by simp [Ideal.ofBits, Ideal.ieee, -EReal.coe_mul]; norm_num⟩

/-- A finite row's mean square is a positive number, and the scale one over its root. -/
theorem scale_real (x : Fin 2048 → ℝ) : ∃ v r : ℝ, 0 < v ∧ meanSq (fun l => (x l : EReal)) = (v : EReal) ∧ scale (fun l => (x l : EReal)) = (r : EReal) ∧ r * r * v = 1 := by
  obtain ⟨e, he, hE⟩ := eps_pos
  have hv : 0 < (∑ l, x l * x l) * (1 / 2048) + e :=
    add_pos_of_nonneg_of_pos (mul_nonneg (Finset.sum_nonneg fun l _ => mul_self_nonneg _) (by norm_num)) he
  have hm : meanSq (fun l => (x l : EReal)) = (((∑ l, x l * x l) * (1 / 2048) + e : ℝ) : EReal) := by
    unfold meanSq
    rw [Cert.Scalars.div_width, Cert.Scalars.invWidth, hE, EReal.coe_add, EReal.coe_mul, Cert.Scalars.coe_sum]
    simp only [EReal.coe_mul]
  refine ⟨_, (Real.sqrt ((∑ l, x l * x l) * (1 / 2048) + e))⁻¹, hv, hm, ?_, ?_⟩
  · unfold scale
    rw [hm, Ideal.rsqrt_coe, if_neg (not_lt.mpr hv.le), if_neg hv.ne']
  · have hs := Real.mul_self_sqrt hv.le
    have h0 : Real.sqrt ((∑ l, x l * x l) * (1 / 2048) + e) ≠ 0 := (Real.sqrt_pos.mpr hv).ne'
    generalize Real.sqrt _ = s at hs h0
    rw [← hs]
    field_simp

/-- The two forms agree on finite rows. -/
theorem gradOut_eq (gx : EReal) (x d : Fin 2048 → ℝ) (l : Fin 2048) :
    gradOut gx (fun l => (x l : EReal)) (fun l => (d l : EReal)) l = gradRoot gx (fun l => (x l : EReal)) (fun l => (d l : EReal)) l := by
  obtain ⟨v, r, hv, hm, hr, h⟩ := scale_real x
  have hs : (∑ k, (d k : EReal) * ((x k : EReal) * (r : EReal))) = (((∑ k, x k * d k) * r : ℝ) : EReal) := by
    rw [Finset.sum_mul, Cert.Scalars.coe_sum]
    exact Finset.sum_congr rfl fun k _ => by rw [← EReal.coe_mul, ← EReal.coe_mul]; congr 1; ring
  have ht : (∑ k, (x k : EReal) * (d k : EReal)) = ((∑ k, x k * d k : ℝ) : EReal) := by
    rw [Cert.Scalars.coe_sum]; simp only [EReal.coe_mul]
  have hd : Ideal.div (r : EReal) (v : EReal) = ((r * v⁻¹ : ℝ) : EReal) := by
    rw [Ideal.div_coe hv.ne', EReal.coe_mul, one_div]
  unfold gradOut gradRoot slopeOf
  rw [hm, hr, hs, ht, hd, Cert.Scalars.div_width, Cert.Scalars.div_width, Cert.Scalars.invWidth, negHalf]
  have hvi : v⁻¹ = r * r := by field_simp; linarith
  have key : r * (d l - x l * r * ((∑ k, x k * d k) * r * (1 / 2048))) = d l * r + x l * ((∑ k, x k * d k) * (-(1 / 2) * (r * v⁻¹)) * (1 / 2048)) + (∑ k, x k * d k) * (-(1 / 2) * (r * v⁻¹)) * (1 / 2048) * x l := by
    rw [hvi]; ring
  generalize (∑ k, x k * d k) = s at key
  have key' := congrArg (fun y : ℝ => gx + (y : EReal)) key
  simp only [EReal.coe_mul, EReal.coe_sub, EReal.coe_add, ← add_assoc] at key'
  simp only [EReal.coe_mul]
  exact key'

abbrev Rows : Shape := ⟨3, ![1, 4096, 2048]⟩
abbrev Row : Shape := ⟨3, ![1, 1, 2048]⟩
abbrev Gain : Shape := ⟨1, ![2048]⟩

/-- One row of an array. -/
abbrev rowOf (x : FVec Ideal Rows .f32) (r : Fin 4096) (l : Fin 2048) : EReal := x (ix3 0 r l)

/-- The cotangent of the normed row, before the gain. -/
def modCt (s : FVec Ideal Row .f32) (dh : FVec Ideal Rows .f32) (r : Fin 4096) (l : Fin 2048) : EReal :=
  dh (ix3 0 r l) * (1 + s (ix3 0 0 l))

/-- The cotangent of the normed row. -/
def rowCt (g : FVec Ideal Gain .f32) (s : FVec Ideal Row .f32) (dh : FVec Ideal Rows .f32) (r : Fin 4096) (l : Fin 2048) : EReal :=
  modCt s dh r l * g (ix1 l)

/-- The finiteness that the gradient of the row asks for. -/
structure Finite (x : FVec Ideal Rows .f32) (g : FVec Ideal Gain .f32) (s : FVec Ideal Row .f32) (dh : FVec Ideal Rows .f32) : Prop where
  x : ∀ r l, x (ix3 0 r l) = ((x (ix3 0 r l)).toReal : EReal)
  g : ∀ l, g (ix1 l) = ((g (ix1 l)).toReal : EReal)
  s : ∀ l, s (ix3 0 0 l) = ((s (ix3 0 0 l)).toReal : EReal)
  dh : ∀ r l, dh (ix3 0 r l) = ((dh (ix3 0 r l)).toReal : EReal)

theorem Finite.grad {x : FVec Ideal Rows .f32} {g : FVec Ideal Gain .f32} {s : FVec Ideal Row .f32} {dh : FVec Ideal Rows .f32} (h : Finite x g s dh) (gx : EReal) (r : Fin 4096) (l : Fin 2048) :
    gradOut gx (rowOf x r) (rowCt g s dh r) l = gradRoot gx (rowOf x r) (rowCt g s dh r) l := by
  have hx : rowOf x r = fun l => ((x (ix3 0 r l)).toReal : EReal) := funext fun l => h.x r l
  have hd : rowCt g s dh r = fun l => (((dh (ix3 0 r l)).toReal * (1 + (s (ix3 0 0 l)).toReal) * (g (ix1 l)).toReal : ℝ) : EReal) := funext fun l => by
    rw [EReal.coe_mul, EReal.coe_mul, EReal.coe_add, EReal.coe_one, ← h.dh, ← h.s, ← h.g]; rfl
  rw [hx, hd]
  exact gradOut_eq gx _ _ l

end Cert.Norm
end
-- ==== Proof.UnitSums.lean ====
module

public import Idealize.ShloMosaic.Lib.Pointwise
public import Idealize.ShloMosaic.PureOps.Ideal.Laws

@[expose] public section

noncomputable section

/-! Sums over axes of length one. -/

namespace Cert.UnitSums

open Idealize.ShloMosaic

variable {n : ℕ}

theorem outer (h : (⟨3, ![1, n, 1]⟩ : Shape).ReducesTo [0, 2] ⟨1, ![n]⟩) (x : (⟨3, ![1, n, 1]⟩ : Shape).Idx → EReal) (init : EReal) (r : Fin n) :
    Ideal.hostReduceAdd h x init (ix1 r) = init + x (ix3 0 r 0) := by
  refine congrArg (init + ·) ((Finset.sum_congr (s₂ := {ix3 0 r 0}) (Finset.ext fun i => ?_) fun _ _ => rfl).trans (Finset.sum_singleton _ _))
  simp only [Finset.mem_filter, Finset.mem_univ, true_and, Finset.mem_singleton]
  refine ⟨fun e => ?_, fun e => ?_⟩
  · funext a; apply Fin.ext
    match a with
    | ⟨0, _⟩ => exact Nat.lt_one_iff.mp (i 0).isLt
    | ⟨1, _⟩ => exact congrArg Fin.val (congrFun e 0)
    | ⟨2, _⟩ => exact Nat.lt_one_iff.mp (i 2).isLt
  · subst e
    funext b; apply Fin.ext
    match b with
    | ⟨0, _⟩ => rfl

theorem leading (h : (⟨3, ![1, 1, n]⟩ : Shape).ReducesTo [0, 1] ⟨1, ![n]⟩) (x : (⟨3, ![1, 1, n]⟩ : Shape).Idx → EReal) (init : EReal) (l : Fin n) :
    Ideal.hostReduceAdd h x init (ix1 l) = init + x (ix3 0 0 l) := by
  refine congrArg (init + ·) ((Finset.sum_congr (s₂ := {ix3 0 0 l}) (Finset.ext fun i => ?_) fun _ _ => rfl).trans (Finset.sum_singleton _ _))
  simp only [Finset.mem_filter, Finset.mem_univ, true_and, Finset.mem_singleton]
  refine ⟨fun e => ?_, fun e => ?_⟩
  · funext a; apply Fin.ext
    match a with
    | ⟨0, _⟩ => exact Nat.lt_one_iff.mp (i 0).isLt
    | ⟨1, _⟩ => exact Nat.lt_one_iff.mp (i 1).isLt
    | ⟨2, _⟩ => exact congrArg Fin.val (congrFun e 0)
  · subst e
    funext b; apply Fin.ext
    match b with
    | ⟨0, _⟩ => rfl

end Cert.UnitSums
end
-- ==== Proof.Norm.lean ====
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Claim
public import proofs.«01_k».proof.Defs
public import proofs.«01_k».proof.Proof.Gen.Reference3Ideal
public import proofs.«01_k».proof.Proof.Gen.Pre_finite_norm
public import proofs.«01_k».proof.Proof.NormMath
public import proofs.«01_k».proof.Proof.UnitSums

@[expose] public section

set_option maxRecDepth 16384

noncomputable section

namespace Cert.Kernel3Ideal.Norm

open Cert.Kernel3Ideal Cert.Kernel3Ideal.Gen Idealize.ShloMosaic Idealize.ShloMosaic.TcCoe Idealize.SL.Sem
open Idealize.ShloMosaic.Pipeline (Dat)
open Cert.Norm (meanSq scale gradOut gradRoot slopeOf rowOf modCt rowCt Finite)

section Reference

open Cert.Reference3Ideal.Read

variable (x : FVec Ideal S1x4096x2048 .f32) (g : FVec Ideal S2048 .f32) (s : FVec Ideal S1x1x2048 .f32) (gx dh : FVec Ideal S1x4096x2048 .f32)

theorem ref6 (r : Fin 4096) : val_main_v6 (F := Ideal) x (ix3 0 r 0) = meanSq (rowOf x r) := by
  unfold meanSq
  pointwise [val_main_v6, val_main_v5, val_main_cst_1, val_main_v4, val_main_v3, val_main_cst_0, val_main_v2, val_main_v1, val_main_v0, val_main_cst]

theorem ref7 (r : Fin 4096) : val_main_v7 (F := Ideal) x (ix3 0 r 0) = scale (rowOf x r) := by
  pointwise [val_main_v7]
  rw [ref6]; rfl

theorem ref34 (r : Fin 4096) (l : Fin 2048) : val_main_v34 (F := Ideal) g s dh (ix3 0 r l) = rowCt g s dh r l := by
  unfold rowCt modCt
  pointwise [val_main_v34, val_main_v33, val_main_v13, val_main_v29, val_main_v28, val_main_v17, val_main_v16, val_main_cst_3, val_main_v22]

theorem ref44 (r : Fin 4096) : val_main_v44 (F := Ideal) x g s dh (ix3 0 r 0) = slopeOf (rowOf x r) (rowCt g s dh r) := by
  unfold slopeOf
  pointwise [val_main_v44, val_main_v43, val_main_cst_9, val_main_v42, val_main_v38, val_main_v37, val_main_cst_8, val_main_v36, val_main_v10, val_main_v9, val_main_cst_2, val_main_v8]
  simp only [ref34, ref7, ref6]

theorem ref47 (r : Fin 4096) (l : Fin 2048) : val_main_v47 (F := Ideal) x g s dh (ix3 0 r l) = slopeOf (rowOf x r) (rowCt g s dh r) := by
  pointwise [val_main_v47, val_main_v46, val_main_v45, val_main_cst_10]
  rw [Cert.UnitSums.outer, ref44, zero_add]

theorem ref52 (r : Fin 4096) (l : Fin 2048) : val_main_v52 (F := Ideal) x g s gx dh (ix2 r l) = gradRoot (gx (ix3 0 r l)) (rowOf x r) (rowCt g s dh r) l := by
  unfold gradRoot
  pointwise [val_main_v52, val_main_v51, val_main_v50, val_main_v49, val_main_v48, val_main_v41, val_main_v40, val_main_v39]
  simp only [ref47, ref34, ref7]

theorem ref53 (l : Fin 2048) : val_main_v53 (F := Ideal) dh (ix2 0 l) = ∑ r : Fin 4096, dh (ix3 0 r l) := by
  pointwise [val_main_v53, val_main_v24, val_main_v23, val_main_cst_4]

theorem ref54 (l : Fin 2048) : val_main_v54 (F := Ideal) x g dh (ix2 0 l) = ∑ r : Fin 4096, dh (ix3 0 r l) * (x (ix3 0 r l) * scale (rowOf x r) * g (ix1 l)) := by
  pointwise [val_main_v54, val_main_v27, val_main_v26, val_main_cst_5, val_main_v25, val_main_v15, val_main_v14, val_main_v13, val_main_v12, val_main_v11, val_main_v22]
  exact Finset.sum_congr rfl fun r _ => (mul_comm _ _).trans (congrArg (fun y => dh (ix3 0 r l) * (x (ix3 0 r l) * y * g (ix1 l))) (ref7 x r))

theorem ref32 (l : Fin 2048) : val_main_v32 (F := Ideal) x s dh (ix3 0 0 l) = ∑ r : Fin 4096, modCt s dh r l * (x (ix3 0 r l) * scale (rowOf x r)) := by
  unfold modCt
  pointwise [val_main_v32, val_main_v31, val_main_cst_6, val_main_v30, val_main_v29, val_main_v28, val_main_v17, val_main_v16, val_main_cst_3, val_main_v22, val_main_v12, val_main_v11]
  exact Finset.sum_congr rfl fun r _ => (mul_comm _ _).trans (congrArg (fun y => dh (ix3 0 r l) * (1 + s (ix3 0 0 l)) * (x (ix3 0 r l) * y)) (ref7 x r))

theorem ref55 (l : Fin 2048) : val_main_v55 (F := Ideal) x s dh (ix2 0 l) = ∑ r : Fin 4096, modCt s dh r l * (x (ix3 0 r l) * scale (rowOf x r)) := by
  pointwise [val_main_v55, val_main_v35, val_main_cst_7]
  rw [Cert.UnitSums.leading, ref32, zero_add]

end Reference

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![0, 0] ∧ win0_7.index t = ![0, 0] ∧ win0_8.index t = ![0, 0] :=
  (by decide +kernel : ∀ t : Fin grid0.N, _)

/-- Row `r` of block `t` as a row of the whole array. -/
def row (t : Fin cfg0.N) (r : Fin 512) : Fin 4096 := ⟨t.val * 512 + r.val, by have := t.isLt; have : cfg0.N = 8 := N_0; omega⟩

abbrev ax (c : Dev nD) : FVec Ideal S1x4096x2048 .f32 := m ((c : Thread nD τ).loc main_arg0)
abbrev ag (c : Dev nD) : FVec Ideal S2048 .f32 := m ((c : Thread nD τ).loc main_arg1)
abbrev asc (c : Dev nD) : FVec Ideal S1x1x2048 .f32 := m ((c : Thread nD τ).loc main_arg3)
abbrev agx (c : Dev nD) : FVec Ideal S1x4096x2048 .f32 := m ((c : Thread nD τ).loc main_arg4)
abbrev adh (c : Dev nD) : FVec Ideal S1x4096x2048 .f32 := m ((c : Thread nD τ).loc main_arg5)

theorem blk0 (c : Dev nD) (t : Fin cfg0.N) (r : Fin 512) (l : Fin 2048) : (iblk m c 0 t : FVec Ideal S512x2048 .f32) (ix2 r l) = adh m c (ix3 0 (row t r) l) := by
  blk_simp [iblk, idx t]
  entry_read
  pointwise
  blk_point [row, idx t]

theorem blk1 (c : Dev nD) (t : Fin cfg0.N) (r : Fin 512) (l : Fin 2048) : (iblk m c 1 t : FVec Ideal S512x2048 .f32) (ix2 r l) = ax m c (ix3 0 (row t r) l) := by
  blk_simp [iblk, idx t]
  entry_read
  pointwise
  blk_point [row, idx t]

theorem blk2 (c : Dev nD) (t : Fin cfg0.N) (r : Fin 512) (l : Fin 2048) : (iblk m c 2 t : FVec Ideal S512x2048 .f32) (ix2 r l) = agx m c (ix3 0 (row t r) l) := by
  blk_simp [iblk, idx t]
  entry_read
  pointwise
  blk_point [row, idx t]

theorem blk3 (c : Dev nD) (t : Fin cfg0.N) (l : Fin 2048) : (iblk m c 3 t : FVec Ideal S1x2048 .f32) (ix2 0 l) = ag m c (ix1 l) := by
  blk_simp [iblk, idx t]
  entry_read
  pointwise
  blk_point [row, idx t]

theorem blk4 (c : Dev nD) (t : Fin cfg0.N) (l : Fin 2048) : (iblk m c 4 t : FVec Ideal S1x2048 .f32) (ix2 0 l) = 1 + asc m c (ix3 0 0 l) := by
  blk_simp [iblk, idx t]
  entry_read
  pointwise
  blk_point [row, idx t]

theorem emb5 (t : Fin cfg0.N) (r : Fin 512) (l : Fin 2048) : ((cfg0.win 5).blk t).view.emb (ix2 r l) = (ix2 (row t r) l : S4096x2048.Idx) := by
  blk_ext [row, idx t]

section Payload

/-! What the body writes at a row and a column of a block. -/

variable (c : Dev nD) (t : Fin cfg0.N)

theorem scale_read (r : Fin 512) : k0_pay9 (F := Ideal) (iblk m c 1 t) (ix2 r 0) = scale (rowOf (ax m c) (row t r)) := by
  unfold scale meanSq
  pointwise [k0_pay9, k0_pay7]
  simp only [blk1]

theorem normed_read (r : Fin 512) (l : Fin 2048) : k0_pay10 (F := Ideal) (iblk m c 1 t) (ix2 r l) = ax m c (ix3 0 (row t r) l) * scale (rowOf (ax m c) (row t r)) := by
  pointwise [k0_pay10, k0_pay7]
  simp only [blk1, scale_read]

theorem modCt_read (r : Fin 512) (l : Fin 2048) : k0_pay1 (F := Ideal) (k0_pay8 (iblk m c 0 t)) (iblk m c 4 t) (ix2 r l) = modCt (asc m c) (adh m c) (row t r) l := by
  unfold modCt
  pointwise [k0_pay1, k0_pay8]
  simp only [blk0, blk4]

theorem grad_read (r : Fin 512) (l : Fin 2048) :
    k0_pay3 (F := Ideal) (k0_pay8 (iblk m c 0 t)) (k0_pay9 (iblk m c 1 t)) (k0_pay10 (iblk m c 1 t)) (iblk m c 4 t) (iblk m c 3 t) (iblk m c 2 t) (ix2 r l)
      = gradOut (agx m c (ix3 0 (row t r) l)) (rowOf (ax m c) (row t r)) (rowCt (ag m c) (asc m c) (adh m c) (row t r)) l := by
  unfold gradOut rowCt
  pointwise [k0_pay3]
  simp only [modCt_read, normed_read, scale_read, blk2, blk3]

end Payload

theorem final5 (c : Dev nD) (h : Finite (ax m c) (ag m c) (asc m c) (adh m c)) :
    (dats m 0 c).arrAt 5 cfg0.N = Cert.Reference3Ideal.Read.val_main_v52 (F := Ideal) (ax m c) (ag m c) (asc m c) (agx m c) (adh m c) := by
  refine (dats m 0 c).arrAt_eq_of_covers 5 _ (by decide +kernel) fun t _ y => ?_
  obtain ⟨r, l, rfl⟩ : ∃ (r : Fin 512) (l : Fin 2048), y = ix2 r l := ⟨y 0, y 1, eq_ix2 y⟩
  rw [emb5, ref52, ← h.grad]
  blk_simp
  rw [after0_5]
  by_cases h : t.val % 8 = 0
  · rw [outsAt0_A m c t h]; frame_out
    exact grad_read m c t r l
  · rw [outsAt0_B m c t h]; frame_out
    exact grad_read m c t r l

theorem final6 (c : Dev nD) : (dats m 0 c).arrAt 6 cfg0.N = Cert.Reference3Ideal.Read.val_main_v53 (F := Ideal) (adh m c) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0)
    (fun t j => ∑ r : Fin 512, adh m c (ix3 0 (row t r) (j 1)))
    (fun t h j => by obtain ⟨z, l, rfl⟩ : ∃ (z : Fin 1) (l : Fin 2048), j = ix2 z l := ⟨_, _, eq_ix2 j⟩; rw [outsAt0_A m c t h]; frame_out; pointwise [k0_pay11, k0_pay8, k0_pay4]; simp only [blk0])
    (fun t h j => by obtain ⟨z, l, rfl⟩ : ∃ (z : Fin 1) (l : Fin 2048), j = ix2 z l := ⟨_, _, eq_ix2 j⟩; rw [outsAt0_B m c t h]; frame_out; pointwise [k0_pay11, k0_pay8, k0_pay4]; simp only [blk0])
    (le_of_eq N_0) t0_7 rfl j, zero_add]
  obtain ⟨z, l, rfl⟩ : ∃ (z : Fin 1) (l : Fin 2048), j = ix2 z l := ⟨_, _, eq_ix2 j⟩
  rw [Subsingleton.elim z 0, ref53]
  exact Fin.sum_mul_add_congr fun t r _ => rfl

theorem final7 (c : Dev nD) : (dats m 0 c).arrAt 7 cfg0.N = Cert.Reference3Ideal.Read.val_main_v54 (F := Ideal) (ax m c) (ag m c) (adh m c) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0)
    (fun t j => ∑ r : Fin 512, adh m c (ix3 0 (row t r) (j 1)) * (ax m c (ix3 0 (row t r) (j 1)) * scale (rowOf (ax m c) (row t r)) * ag m c (ix1 (j 1))))
    (fun t h j => by obtain ⟨z, l, rfl⟩ : ∃ (z : Fin 1) (l : Fin 2048), j = ix2 z l := ⟨_, _, eq_ix2 j⟩; rw [outsAt0_A m c t h]; frame_out; pointwise [k0_pay12, k0_pay8, k0_pay5]; simp only [blk0, normed_read, blk3])
    (fun t h j => by obtain ⟨z, l, rfl⟩ : ∃ (z : Fin 1) (l : Fin 2048), j = ix2 z l := ⟨_, _, eq_ix2 j⟩; rw [outsAt0_B m c t h]; frame_out; pointwise [k0_pay12, k0_pay8, k0_pay5]; simp only [blk0, normed_read, blk3])
    (le_of_eq N_0) t0_7 rfl j, zero_add]
  obtain ⟨z, l, rfl⟩ : ∃ (z : Fin 1) (l : Fin 2048), j = ix2 z l := ⟨_, _, eq_ix2 j⟩
  rw [Subsingleton.elim z 0, ref54]
  exact Fin.sum_mul_add_congr fun t r _ => rfl

theorem final8 (c : Dev nD) : (dats m 0 c).arrAt 8 cfg0.N = Cert.Reference3Ideal.Read.val_main_v55 (F := Ideal) (ax m c) (asc m c) (adh m c) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0)
    (fun t j => ∑ r : Fin 512, modCt (asc m c) (adh m c) (row t r) (j 1) * (ax m c (ix3 0 (row t r) (j 1)) * scale (rowOf (ax m c) (row t r))))
    (fun t h j => by obtain ⟨z, l, rfl⟩ : ∃ (z : Fin 1) (l : Fin 2048), j = ix2 z l := ⟨_, _, eq_ix2 j⟩; rw [outsAt0_A m c t h]; frame_out; pointwise [k0_pay2, k0_pay6]; simp only [modCt_read, normed_read])
    (fun t h j => by obtain ⟨z, l, rfl⟩ : ∃ (z : Fin 1) (l : Fin 2048), j = ix2 z l := ⟨_, _, eq_ix2 j⟩; rw [outsAt0_B m c t h]; frame_out; pointwise [k0_pay2, k0_pay6]; simp only [modCt_read, normed_read])
    (le_of_eq N_0) t0_7 rfl j, zero_add]
  obtain ⟨z, l, rfl⟩ : ∃ (z : Fin 1) (l : Fin 2048), j = ix2 z l := ⟨_, _, eq_ix2 j⟩
  rw [Subsingleton.elim z 0, ref55]
  exact Fin.sum_mul_add_congr fun t r _ => rfl

end Cert.Kernel3Ideal.Norm

namespace Cert.Norm

open Idealize.ShloMosaic Idealize.ShloMosaic.TcCoe Idealize.SL.Sem

/-- The reference runs. -/
theorem reference_runs : Cert.quiescent_Reference3Ideal (hReference3Ideal := Cert.Reference3Ideal.Gen.facts) := fun m g _ =>
  (θ_run Cert.Reference3Ideal.defs _ _).mono (fun r h => ⟨fun c => (h c).2.2.2.2, sem_eq_zero_of_no_sems (by decide) r.2⟩)
    (Cert.Reference3Ideal.Value.run (F := Ideal) m g)

theorem reference_runs_pre : Cert.quiescent_Reference3Ideal_pre_finite_norm := fun m g _ => reference_runs m g trivial

theorem args_finite {m} (hp : Cert.Pre_Kernel3Ideal_finite_norm m) (c : Dev Cert.Kernel3Ideal.nD) :
    Finite (Cert.Kernel3Ideal.Norm.ax m c) (Cert.Kernel3Ideal.Norm.ag m c) (Cert.Kernel3Ideal.Norm.asc m c) (Cert.Kernel3Ideal.Norm.adh m c) := by
  obtain ⟨h0, h1, h2, h3⟩ := hp c
  exact ⟨fun r l => Cert.Scalars.real_of_lt _ (congrFun h0 (ix3 0 r l)), fun l => Cert.Scalars.real_of_lt _ (congrFun h1 (ix1 l)),
    fun l => Cert.Scalars.real_of_lt _ (congrFun h2 (ix3 0 0 l)), fun r l => Cert.Scalars.real_of_lt _ (congrFun h3 (ix3 0 r l))⟩

/-- The call and the gradient of the normed and modulated rows end with equal results. -/
theorem algebraic : Cert.algebraic_Kernel3Ideal_Reference3Ideal_pre_finite_norm := by
  intro m g m' g' hp hag
  refine ⟨_, _, _, _, Cert.Kernel3Ideal.Value.run_blocks m g, ?_⟩
  refine (θ_run _ _ _).mono (fun _ h c => ?_) (Cert.Reference3Ideal.Value.run m' g')
  obtain ⟨r0, r1, r2, r3, rest⟩ := h c
  obtain ⟨e0, e1, e2, e3, e4, e5⟩ := hag c
  refine ⟨r0.trans ?_, r1.trans ?_, r2.trans ?_, r3.trans ?_, rest⟩
  · refine (Cert.Reference3Ideal.Read.val_main_v52_eq _ _).trans ?_
    rw [e0, e1, e3, e4, e5]; exact (Cert.Kernel3Ideal.Norm.final5 m c (args_finite hp c)).symm
  · refine (Cert.Reference3Ideal.Read.val_main_v53_eq _).trans ?_
    rw [e5]; exact (Cert.Kernel3Ideal.Norm.final6 m c).symm
  · refine (Cert.Reference3Ideal.Read.val_main_v54_eq _ _ _).trans ?_
    rw [e0, e1, e5]; exact (Cert.Kernel3Ideal.Norm.final7 m c).symm
  · refine (Cert.Reference3Ideal.Read.val_main_v55_eq _ _ _).trans ?_
    rw [e0, e3, e5]; exact (Cert.Kernel3Ideal.Norm.final8 m c).symm

end Cert.Norm
end
-- ==== Proof.NormBelow.lean ====
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.Claim
public import proofs.«01_k».proof.Defs
public import proofs.«01_k».proof.Proof.Gen.Reference4Ideal
public import proofs.«01_k».proof.Proof.Gen.Pre_finite_norm_below
public import proofs.«01_k».proof.Proof.NormMath
public import proofs.«01_k».proof.Proof.UnitSums

@[expose] public section

set_option maxRecDepth 16384

noncomputable section

namespace Cert.Kernel4Ideal.NormBelow

open Cert.Kernel4Ideal Cert.Kernel4Ideal.Gen Idealize.ShloMosaic Idealize.ShloMosaic.TcCoe Idealize.SL.Sem
open Idealize.ShloMosaic.Pipeline (Dat)
open Cert.Norm (meanSq scale gradOut gradRoot slopeOf rowOf modCt rowCt Finite)

section Reference

open Cert.Reference4Ideal.Read

/-- The rows that are normed: the residual with the gated output of the layer below. -/
abbrev mixed (x y : FVec Ideal S1x4096x2048 .f32) (ga : FVec Ideal S1x1x2048 .f32) : FVec Ideal S1x4096x2048 .f32 := val_main_v2 (F := Ideal) x y ga

variable (x y : FVec Ideal S1x4096x2048 .f32) (ga : FVec Ideal S1x1x2048 .f32) (g : FVec Ideal S2048 .f32) (s : FVec Ideal S1x1x2048 .f32) (gx dh : FVec Ideal S1x4096x2048 .f32)

theorem ref9 (r : Fin 4096) : val_main_v9 (F := Ideal) x y ga (ix3 0 r 0) = meanSq (rowOf (mixed x y ga) r) := by
  unfold meanSq
  pointwise [val_main_v9, val_main_v8, val_main_cst_1, val_main_v7, val_main_v6, val_main_cst_0, val_main_v5, val_main_v4, val_main_v3, val_main_cst]

theorem ref10 (r : Fin 4096) : val_main_v10 (F := Ideal) x y ga (ix3 0 r 0) = scale (rowOf (mixed x y ga) r) := by
  pointwise [val_main_v10]
  rw [ref9]; rfl

theorem ref37 (r : Fin 4096) (l : Fin 2048) : val_main_v37 (F := Ideal) g s dh (ix3 0 r l) = rowCt g s dh r l := by
  unfold rowCt modCt
  pointwise [val_main_v37, val_main_v36, val_main_v16, val_main_v32, val_main_v31, val_main_v20, val_main_v19, val_main_cst_3, val_main_v25]

theorem ref47 (r : Fin 4096) : val_main_v47 (F := Ideal) x y ga g s dh (ix3 0 r 0) = slopeOf (rowOf (mixed x y ga) r) (rowCt g s dh r) := by
  unfold slopeOf
  pointwise [val_main_v47, val_main_v46, val_main_cst_9, val_main_v45, val_main_v41, val_main_v40, val_main_cst_8, val_main_v39, val_main_v13, val_main_v12, val_main_cst_2, val_main_v11]
  simp only [ref37, ref10, ref9]

theorem ref50 (r : Fin 4096) (l : Fin 2048) : val_main_v50 (F := Ideal) x y ga g s dh (ix3 0 r l) = slopeOf (rowOf (mixed x y ga) r) (rowCt g s dh r) := by
  pointwise [val_main_v50, val_main_v49, val_main_v48, val_main_cst_10]
  rw [Cert.UnitSums.outer, ref47, zero_add]

theorem ref61 (r : Fin 4096) (l : Fin 2048) : val_main_v61 (F := Ideal) x y ga g s gx dh (ix2 r l) = gradRoot (gx (ix3 0 r l)) (rowOf (mixed x y ga) r) (rowCt g s dh r) l := by
  unfold gradRoot
  pointwise [val_main_v61, val_main_v54, val_main_v53, val_main_v52, val_main_v51, val_main_v44, val_main_v43, val_main_v42]
  simp only [ref50, ref37, ref10]

theorem ref62 (l : Fin 2048) : val_main_v62 (F := Ideal) dh (ix2 0 l) = ∑ r : Fin 4096, dh (ix3 0 r l) := by
  pointwise [val_main_v62, val_main_v27, val_main_v26, val_main_cst_4]

theorem ref63 (l : Fin 2048) : val_main_v63 (F := Ideal) x y ga g dh (ix2 0 l) = ∑ r : Fin 4096, dh (ix3 0 r l) * (mixed x y ga (ix3 0 r l) * scale (rowOf (mixed x y ga) r) * g (ix1 l)) := by
  pointwise [val_main_v63, val_main_v30, val_main_v29, val_main_cst_5, val_main_v28, val_main_v18, val_main_v17, val_main_v16, val_main_v15, val_main_v14, val_main_v25]
  exact Finset.sum_congr rfl fun r _ => (mul_comm _ _).trans (congrArg (fun v => dh (ix3 0 r l) * (mixed x y ga (ix3 0 r l) * v * g (ix1 l))) (ref10 x y ga r))

theorem ref35 (l : Fin 2048) : val_main_v35 (F := Ideal) x y ga s dh (ix3 0 0 l) = ∑ r : Fin 4096, modCt s dh r l * (mixed x y ga (ix3 0 r l) * scale (rowOf (mixed x y ga) r)) := by
  unfold modCt
  pointwise [val_main_v35, val_main_v34, val_main_cst_6, val_main_v33, val_main_v32, val_main_v31, val_main_v20, val_main_v19, val_main_cst_3, val_main_v25, val_main_v15, val_main_v14]
  exact Finset.sum_congr rfl fun r _ => (mul_comm _ _).trans (congrArg (fun v => dh (ix3 0 r l) * (1 + s (ix3 0 0 l)) * (mixed x y ga (ix3 0 r l) * v)) (ref10 x y ga r))

theorem ref64 (l : Fin 2048) : val_main_v64 (F := Ideal) x y ga s dh (ix2 0 l) = ∑ r : Fin 4096, modCt s dh r l * (mixed x y ga (ix3 0 r l) * scale (rowOf (mixed x y ga) r)) := by
  pointwise [val_main_v64, val_main_v38, val_main_cst_7]
  rw [Cert.UnitSums.leading, ref35, zero_add]

theorem ref66 (r : Fin 4096) (l : Fin 2048) : val_main_v66 (F := Ideal) x y ga g s gx dh (ix2 r l) = val_main_v61 (F := Ideal) x y ga g s gx dh (ix2 r l) * ga (ix3 0 0 l) := by
  pointwise [val_main_v66, val_main_v65, val_main_v57, val_main_v56, val_main_v55, val_main_v61]
  exact mul_comm _ _

theorem ref67 (l : Fin 2048) : val_main_v67 (F := Ideal) x y ga g s gx dh (ix2 0 l) = ∑ r : Fin 4096, val_main_v61 (F := Ideal) x y ga g s gx dh (ix2 r l) * y (ix3 0 r l) := by
  pointwise [val_main_v67, val_main_v60, val_main_v59, val_main_cst_11, val_main_v58, val_main_v55, val_main_v61]

end Reference

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![0, 0] ∧ win0_7.index t = ![t.val, 0] ∧ win0_8.index t = ![0, 0] ∧ win0_9.index t = ![0, 0] ∧ win0_10.index t = ![0, 0] ∧ win0_11.index t = ![t.val, 0] ∧ win0_12.index t = ![0, 0] :=
  (by decide +kernel : ∀ t : Fin grid0.N, _)

/-- Row `r` of block `t` as a row of the whole array. -/
def row (t : Fin cfg0.N) (r : Fin 256) : Fin 4096 := ⟨t.val * 256 + r.val, by have := t.isLt; have : cfg0.N = 16 := N_0; omega⟩

abbrev ay (c : Dev nD) : FVec Ideal S1x4096x2048 .f32 := m ((c : Thread nD τ).loc main_arg1)
abbrev aga (c : Dev nD) : FVec Ideal S1x1x2048 .f32 := m ((c : Thread nD τ).loc main_arg2)
abbrev ax (c : Dev nD) : FVec Ideal S1x4096x2048 .f32 := mixed (m ((c : Thread nD τ).loc main_arg0)) (ay m c) (aga m c)
abbrev ag (c : Dev nD) : FVec Ideal S2048 .f32 := m ((c : Thread nD τ).loc main_arg3)
abbrev asc (c : Dev nD) : FVec Ideal S1x1x2048 .f32 := m ((c : Thread nD τ).loc main_arg5)
abbrev agx (c : Dev nD) : FVec Ideal S1x4096x2048 .f32 := m ((c : Thread nD τ).loc main_arg6)
abbrev adh (c : Dev nD) : FVec Ideal S1x4096x2048 .f32 := m ((c : Thread nD τ).loc main_arg7)

theorem blk0 (c : Dev nD) (t : Fin cfg0.N) (r : Fin 256) (l : Fin 2048) : (iblk m c 0 t : FVec Ideal S256x2048 .f32) (ix2 r l) = adh m c (ix3 0 (row t r) l) := by
  blk_simp [iblk, idx t]
  entry_read
  pointwise
  blk_point [row, idx t]

theorem blk1 (c : Dev nD) (t : Fin cfg0.N) (r : Fin 256) (l : Fin 2048) : (iblk m c 1 t : FVec Ideal S256x2048 .f32) (ix2 r l) = ax m c (ix3 0 (row t r) l) := by
  blk_simp [iblk, idx t]
  entry_read
  pointwise [mixed, Cert.Reference4Ideal.Read.val_main_v2, Cert.Reference4Ideal.Read.val_main_v1, Cert.Reference4Ideal.Read.val_main_v0]
  blk_point [row, idx t]

theorem blk2 (c : Dev nD) (t : Fin cfg0.N) (r : Fin 256) (l : Fin 2048) : (iblk m c 2 t : FVec Ideal S256x2048 .f32) (ix2 r l) = agx m c (ix3 0 (row t r) l) := by
  blk_simp [iblk, idx t]
  entry_read
  pointwise
  blk_point [row, idx t]

theorem blk3 (c : Dev nD) (t : Fin cfg0.N) (l : Fin 2048) : (iblk m c 3 t : FVec Ideal S1x2048 .f32) (ix2 0 l) = ag m c (ix1 l) := by
  blk_simp [iblk, idx t]
  entry_read
  pointwise
  blk_point [row, idx t]

theorem blk4 (c : Dev nD) (t : Fin cfg0.N) (l : Fin 2048) : (iblk m c 4 t : FVec Ideal S1x2048 .f32) (ix2 0 l) = 1 + asc m c (ix3 0 0 l) := by
  blk_simp [iblk, idx t]
  entry_read
  pointwise
  blk_point [row, idx t]

theorem blk5 (c : Dev nD) (t : Fin cfg0.N) (r : Fin 256) (l : Fin 2048) : (iblk m c 5 t : FVec Ideal S256x2048 .f32) (ix2 r l) = ay m c (ix3 0 (row t r) l) := by
  blk_simp [iblk, idx t]
  entry_read
  pointwise
  blk_point [row, idx t]

theorem blk6 (c : Dev nD) (t : Fin cfg0.N) (l : Fin 2048) : (iblk m c 6 t : FVec Ideal S1x2048 .f32) (ix2 0 l) = aga m c (ix3 0 0 l) := by
  blk_simp [iblk, idx t]
  entry_read
  pointwise
  blk_point [row, idx t]

theorem emb11 (t : Fin cfg0.N) (r : Fin 256) (l : Fin 2048) : ((cfg0.win 11).blk t).view.emb (ix2 r l) = (ix2 (row t r) l : S4096x2048.Idx) := by
  blk_ext [row, idx t]

theorem emb7 (t : Fin cfg0.N) (r : Fin 256) (l : Fin 2048) : ((cfg0.win 7).blk t).view.emb (ix2 r l) = (ix2 (row t r) l : S4096x2048.Idx) := by
  blk_ext [row, idx t]

section Payload

/-! What the body writes at a row and a column of a block. -/

variable (c : Dev nD) (t : Fin cfg0.N)

theorem scale_read (r : Fin 256) : k0_pay7 (F := Ideal) (iblk m c 1 t) (ix2 r 0) = scale (rowOf (ax m c) (row t r)) := by
  unfold scale meanSq
  pointwise [k0_pay7, k0_pay5]
  simp only [blk1]

theorem normed_read (r : Fin 256) (l : Fin 2048) : k0_pay8 (F := Ideal) (iblk m c 1 t) (ix2 r l) = ax m c (ix3 0 (row t r) l) * scale (rowOf (ax m c) (row t r)) := by
  pointwise [k0_pay8, k0_pay5]
  simp only [blk1, scale_read]

theorem modCt_read (r : Fin 256) (l : Fin 2048) : k0_pay11 (F := Ideal) (k0_pay6 (iblk m c 0 t)) (iblk m c 4 t) (ix2 r l) = modCt (asc m c) (adh m c) (row t r) l := by
  unfold modCt
  pointwise [k0_pay11, k0_pay6]
  simp only [blk0, blk4]

theorem grad_read (r : Fin 256) (l : Fin 2048) :
    k0_pay13 (F := Ideal) (k0_pay6 (iblk m c 0 t)) (k0_pay7 (iblk m c 1 t)) (k0_pay8 (iblk m c 1 t)) (iblk m c 4 t) (iblk m c 3 t) (iblk m c 2 t) (ix2 r l)
      = gradOut (agx m c (ix3 0 (row t r) l)) (rowOf (ax m c) (row t r)) (rowCt (ag m c) (asc m c) (adh m c) (row t r)) l := by
  unfold gradOut rowCt
  pointwise [k0_pay13]
  simp only [modCt_read, normed_read, scale_read, blk2, blk3]

end Payload

theorem final7 (c : Dev nD) (h : Finite (ax m c) (ag m c) (asc m c) (adh m c)) :
    (dats m 0 c).arrAt 7 cfg0.N = Cert.Reference4Ideal.Read.val_main_v61 (F := Ideal) (m ((c : Thread nD τ).loc main_arg0)) (ay m c) (aga m c) (ag m c) (asc m c) (agx m c) (adh m c) := by
  refine (dats m 0 c).arrAt_eq_of_covers 7 _ (by decide +kernel) fun t _ y => ?_
  obtain ⟨r, l, rfl⟩ : ∃ (r : Fin 256) (l : Fin 2048), y = ix2 r l := ⟨y 0, y 1, eq_ix2 y⟩
  rw [emb7, ref61, ← h.grad]
  blk_simp
  rw [after0_7]
  by_cases h : t.val % 16 = 0
  · rw [outsAt0_A m c t h h]; frame_out
    exact grad_read m c t r l
  · rw [outsAt0_B m c t h h]; frame_out
    exact grad_read m c t r l

theorem final8 (c : Dev nD) : (dats m 0 c).arrAt 8 cfg0.N = Cert.Reference4Ideal.Read.val_main_v62 (F := Ideal) (adh m c) := by
  refine (dats m 0 c).arrAt_eq_of_after_last 8 t0_15 (by decide +kernel) _ fun j => ?_
  blk_simp
  rw [after0_8, Pipeline.eq_sum_fin_of_reset_step_apply_last (fun n h => (outsAt0 m c n h).2.1) 16 (fun _ => 0)
    (fun t j => ∑ r : Fin 256, adh m c (ix3 0 (row t r) (j 1)))
    (fun t h j => by obtain ⟨z, l, rfl⟩ : ∃ (z : Fin 1) (l : Fin 2048), j = ix2 z l := ⟨_, _, eq_ix2 j⟩; rw [outsAt0_A m c t h h]; frame_out; pointwise [k0_pay9, k0_pay6, k0_pay2]; simp only [blk0])
    (fun t h j => by obtain ⟨z, l, rfl⟩ : ∃ (z : Fin 1) (l : Fin 2048), j = ix2 z l := ⟨_, _, eq_ix2 j⟩; rw [outsAt0_B m c t h h]; frame_out; pointwise [k0_pay9, k0_pay6, k0_pay2]; simp only [blk0])
    (le_of_eq N_0) t0_15 rfl j, zero_add]
  obtain ⟨z, l, rfl⟩ : ∃ (z : Fin 1) (l : Fin 2048), j = ix2 z l := ⟨_, _, eq_ix2 j⟩
  rw [Subsingleton.elim z 0, ref62]
  exact Fin.sum_mul_add_congr fun t r _ => rfl

theorem final9 (c : Dev nD) : (dats m 0 c).arrAt 9 cfg0.N = Cert.Reference4Ideal.Read.val_main_v63 (F := Ideal) (m ((c : Thread nD τ).loc main_arg0)) (ay m c) (aga m c) (ag m c) (adh m c) := by
  refine (dats m 0 c).arrAt_eq_of_after_last 9 t0_15 (by decide +kernel) _ fun j => ?_
  blk_simp
  rw [after0_9, Pipeline.eq_sum_fin_of_reset_step_apply_last (fun n h => (outsAt0 m c n h).2.2.1) 16 (fun _ => 0)
    (fun t j => ∑ r : Fin 256, adh m c (ix3 0 (row t r) (j 1)) * (ax m c (ix3 0 (row t r) (j 1)) * scale (rowOf (ax m c) (row t r)) * ag m c (ix1 (j 1))))
    (fun t h j => by obtain ⟨z, l, rfl⟩ : ∃ (z : Fin 1) (l : Fin 2048), j = ix2 z l := ⟨_, _, eq_ix2 j⟩; rw [outsAt0_A m c t h h]; frame_out; pointwise [k0_pay10, k0_pay6, k0_pay3]; simp only [blk0, normed_read, blk3])
    (fun t h j => by obtain ⟨z, l, rfl⟩ : ∃ (z : Fin 1) (l : Fin 2048), j = ix2 z l := ⟨_, _, eq_ix2 j⟩; rw [outsAt0_B m c t h h]; frame_out; pointwise [k0_pay10, k0_pay6, k0_pay3]; simp only [blk0, normed_read, blk3])
    (le_of_eq N_0) t0_15 rfl j, zero_add]
  obtain ⟨z, l, rfl⟩ : ∃ (z : Fin 1) (l : Fin 2048), j = ix2 z l := ⟨_, _, eq_ix2 j⟩
  rw [Subsingleton.elim z 0, ref63]
  exact Fin.sum_mul_add_congr fun t r _ => rfl

theorem final10 (c : Dev nD) : (dats m 0 c).arrAt 10 cfg0.N = Cert.Reference4Ideal.Read.val_main_v64 (F := Ideal) (m ((c : Thread nD τ).loc main_arg0)) (ay m c) (aga m c) (asc m c) (adh m c) := by
  refine (dats m 0 c).arrAt_eq_of_after_last 10 t0_15 (by decide +kernel) _ fun j => ?_
  blk_simp
  rw [after0_10, Pipeline.eq_sum_fin_of_reset_step_apply_last (fun n h => (outsAt0 m c n h).2.2.2.1) 16 (fun _ => 0)
    (fun t j => ∑ r : Fin 256, modCt (asc m c) (adh m c) (row t r) (j 1) * (ax m c (ix3 0 (row t r) (j 1)) * scale (rowOf (ax m c) (row t r))))
    (fun t h j => by obtain ⟨z, l, rfl⟩ : ∃ (z : Fin 1) (l : Fin 2048), j = ix2 z l := ⟨_, _, eq_ix2 j⟩; rw [outsAt0_A m c t h h]; frame_out; pointwise [k0_pay12, k0_pay4]; simp only [modCt_read, normed_read])
    (fun t h j => by obtain ⟨z, l, rfl⟩ : ∃ (z : Fin 1) (l : Fin 2048), j = ix2 z l := ⟨_, _, eq_ix2 j⟩; rw [outsAt0_B m c t h h]; frame_out; pointwise [k0_pay12, k0_pay4]; simp only [modCt_read, normed_read])
    (le_of_eq N_0) t0_15 rfl j, zero_add]
  obtain ⟨z, l, rfl⟩ : ∃ (z : Fin 1) (l : Fin 2048), j = ix2 z l := ⟨_, _, eq_ix2 j⟩
  rw [Subsingleton.elim z 0, ref64]
  exact Fin.sum_mul_add_congr fun t r _ => rfl

/-- The gradient of a row, as the kernel writes it. -/
abbrev grad (c : Dev nD) (r : Fin 4096) (l : Fin 2048) : EReal :=
  gradOut (agx m c (ix3 0 r l)) (rowOf (ax m c) r) (rowCt (ag m c) (asc m c) (adh m c) r) l

theorem grad_eq (c : Dev nD) (h : Finite (ax m c) (ag m c) (asc m c) (adh m c)) (r : Fin 4096) (l : Fin 2048) :
    Cert.Reference4Ideal.Read.val_main_v61 (F := Ideal) (m ((c : Thread nD τ).loc main_arg0)) (ay m c) (aga m c) (ag m c) (asc m c) (agx m c) (adh m c) (ix2 r l) = grad m c r l := by
  rw [ref61, ← h.grad]

theorem final11 (c : Dev nD) (h : Finite (ax m c) (ag m c) (asc m c) (adh m c)) :
    (dats m 0 c).arrAt 11 cfg0.N = Cert.Reference4Ideal.Read.val_main_v66 (F := Ideal) (m ((c : Thread nD τ).loc main_arg0)) (ay m c) (aga m c) (ag m c) (asc m c) (agx m c) (adh m c) := by
  refine (dats m 0 c).arrAt_eq_of_covers 11 _ (by decide +kernel) fun t _ y => ?_
  obtain ⟨r, l, rfl⟩ : ∃ (r : Fin 256) (l : Fin 2048), y = ix2 r l := ⟨y 0, y 1, eq_ix2 y⟩
  rw [emb11, ref66, grad_eq m c h]
  blk_simp
  rw [after0_11]
  by_cases h : t.val % 16 = 0
  · rw [outsAt0_A m c t h h]; frame_out
    pointwise [k0_pay15]
    rw [grad_read, blk6]
  · rw [outsAt0_B m c t h h]; frame_out
    pointwise [k0_pay15]
    rw [grad_read, blk6]

theorem final12 (c : Dev nD) (h : Finite (ax m c) (ag m c) (asc m c) (adh m c)) :
    (dats m 0 c).arrAt 12 cfg0.N = Cert.Reference4Ideal.Read.val_main_v67 (F := Ideal) (m ((c : Thread nD τ).loc main_arg0)) (ay m c) (aga m c) (ag m c) (asc m c) (agx m c) (adh m c) := by
  refine (dats m 0 c).arrAt_eq_of_after_last 12 t0_15 (by decide +kernel) _ fun j => ?_
  blk_simp
  rw [after0_12, Pipeline.eq_sum_fin_of_reset_step_apply_last (fun n h => (outsAt0 m c n h).2.2.2.2.2) 16 (fun _ => 0)
    (fun t j => ∑ r : Fin 256, grad m c (row t r) (j 1) * ay m c (ix3 0 (row t r) (j 1)))
    (fun t h j => by obtain ⟨z, l, rfl⟩ : ∃ (z : Fin 1) (l : Fin 2048), j = ix2 z l := ⟨_, _, eq_ix2 j⟩; rw [outsAt0_A m c t h h]; frame_out; pointwise [k0_pay1, k0_pay14]; simp only [grad_read, blk5])
    (fun t h j => by obtain ⟨z, l, rfl⟩ : ∃ (z : Fin 1) (l : Fin 2048), j = ix2 z l := ⟨_, _, eq_ix2 j⟩; rw [outsAt0_B m c t h h]; frame_out; pointwise [k0_pay1, k0_pay14]; simp only [grad_read, blk5])
    (le_of_eq N_0) t0_15 rfl j, zero_add]
  obtain ⟨z, l, rfl⟩ : ∃ (z : Fin 1) (l : Fin 2048), j = ix2 z l := ⟨_, _, eq_ix2 j⟩
  rw [Subsingleton.elim z 0, ref67]
  simp only [grad_eq m c h]
  exact Fin.sum_mul_add_congr fun t r _ => rfl

end Cert.Kernel4Ideal.NormBelow

namespace Cert.NormBelow

open Idealize.ShloMosaic Idealize.ShloMosaic.TcCoe Idealize.SL.Sem
open Cert.Norm (Finite)
open Cert.Kernel4Ideal.NormBelow

/-- The reference runs. -/
theorem reference_runs : Cert.quiescent_Reference4Ideal (hReference4Ideal := Cert.Reference4Ideal.Gen.facts) := fun m g _ =>
  (θ_run Cert.Reference4Ideal.defs _ _).mono (fun r h => ⟨fun c => (h c).2.2.2.2.2.2, sem_eq_zero_of_no_sems (by decide) r.2⟩)
    (Cert.Reference4Ideal.Value.run (F := Ideal) m g)

theorem reference_runs_pre : Cert.quiescent_Reference4Ideal_pre_finite_norm_below := fun m g _ => reference_runs m g trivial

open Cert.Reference4Ideal.Read in
theorem mixed_finite {x y : FVec Ideal Cert.Norm.Rows .f32} {ga : FVec Ideal Cert.Norm.Row .f32} {r : Fin 4096} {l : Fin 2048}
    (hx : x (ix3 0 r l) = ((x (ix3 0 r l)).toReal : EReal)) (hy : y (ix3 0 r l) = ((y (ix3 0 r l)).toReal : EReal)) (hg : ga (ix3 0 0 l) = ((ga (ix3 0 0 l)).toReal : EReal)) :
    mixed x y ga (ix3 0 r l) = ((mixed x y ga (ix3 0 r l)).toReal : EReal) := by
  have e : mixed x y ga (ix3 0 r l) = (((x (ix3 0 r l)).toReal + (ga (ix3 0 0 l)).toReal * (y (ix3 0 r l)).toReal : ℝ) : EReal) := by
    rw [EReal.coe_add, EReal.coe_mul, ← hx, ← hy, ← hg]
    pointwise [mixed, val_main_v2, val_main_v1, val_main_v0]
  rw [e, EReal.toReal_coe]

theorem args_finite {m} (hp : Cert.Pre_Kernel4Ideal_finite_norm_below m) (c : Dev Cert.Kernel4Ideal.nD) :
    Finite (ax m c) (ag m c) (asc m c) (adh m c) := by
  obtain ⟨h0, h1, h2, h3, h4, h5⟩ := hp c
  exact ⟨fun r l => mixed_finite (Cert.Scalars.real_of_lt _ (congrFun h0 (ix3 0 r l))) (Cert.Scalars.real_of_lt _ (congrFun h1 (ix3 0 r l))) (Cert.Scalars.real_of_lt _ (congrFun h2 (ix3 0 0 l))),
    fun l => Cert.Scalars.real_of_lt _ (congrFun h3 (ix1 l)), fun l => Cert.Scalars.real_of_lt _ (congrFun h4 (ix3 0 0 l)), fun r l => Cert.Scalars.real_of_lt _ (congrFun h5 (ix3 0 r l))⟩

/-- The call and the gradient of the normed and modulated rows, with the layer below, end with equal results. -/
theorem algebraic : Cert.algebraic_Kernel4Ideal_Reference4Ideal_pre_finite_norm_below := by
  intro m g m' g' hp hag
  refine ⟨_, _, _, _, _, _, Cert.Kernel4Ideal.Value.run_blocks m g, ?_⟩
  refine (θ_run _ _ _).mono (fun _ h c => ?_) (Cert.Reference4Ideal.Value.run m' g')
  obtain ⟨r0, r1, r2, r3, r4, r5, rest⟩ := h c
  obtain ⟨e0, e1, e2, e3, e4, e5, e6, e7⟩ := hag c
  refine ⟨r0.trans ?_, r1.trans ?_, r2.trans ?_, r3.trans ?_, r4.trans ?_, r5.trans ?_, rest⟩
  · refine (Cert.Reference4Ideal.Read.val_main_v61_eq _ _).trans ?_
    rw [e0, e1, e2, e3, e5, e6, e7]; exact (final7 m c (args_finite hp c)).symm
  · refine (Cert.Reference4Ideal.Read.val_main_v62_eq _).trans ?_
    rw [e7]; exact (final8 m c).symm
  · refine (Cert.Reference4Ideal.Read.val_main_v63_eq _ _ _ _ _).trans ?_
    rw [e0, e1, e2, e3, e7]; exact (final9 m c).symm
  · refine (Cert.Reference4Ideal.Read.val_main_v64_eq _ _ _ _ _).trans ?_
    rw [e0, e1, e2, e5, e7]; exact (final10 m c).symm
  · refine (Cert.Reference4Ideal.Read.val_main_v66_eq _ _).trans ?_
    rw [e0, e1, e2, e3, e5, e6, e7]; exact (final11 m c (args_finite hp c)).symm
  · refine (Cert.Reference4Ideal.Read.val_main_v67_eq _ _).trans ?_
    rw [e0, e1, e2, e3, e5, e6, e7]; exact (final12 m c (args_finite hp c)).symm

end Cert.NormBelow
end
-- ==== Proof.GateMath.lean ====
module

public import proofs.«01_k».proof.Proof.Scalars
public import Idealize.ShloMosaic.Lib.Pointwise

@[expose] public section

noncomputable section

/-! The gate `z · σ(z)` and its derivative, in the two forms that the programs write. -/

namespace Cert.Gate

open Idealize.ShloMosaic

/-- `z · σ(z)`. -/
def gate (z : EReal) : EReal := z * Ideal.logistic z

/-- A cotangent through the gate, the derivative `σ(z) (1 + z (1 - σ(z)))` as one factor. -/
def slopeOut (a u z : EReal) : EReal := a * u * (Ideal.logistic z * (1 + z * (1 - Ideal.logistic z)))

/-- A cotangent through the gate, one term for each of the two places where `z` stands. -/
def slopeSum (a u z : EReal) : EReal :=
  u * a * Ideal.logistic z + z * (u * a) * (Ideal.logistic z * (1 - Ideal.logistic z))

/-- The two forms agree on numbers. -/
theorem slopeOut_eq {a u z : EReal} (ha : a = (a.toReal : EReal)) (hu : u = (u.toReal : EReal)) (hz : z = (z.toReal : EReal)) :
    slopeOut a u z = slopeSum a u z := by
  rw [ha, hu, hz]
  generalize a.toReal = a, u.toReal = u, z.toReal = z
  unfold slopeOut slopeSum
  rw [Ideal.logistic_coe, ← EReal.coe_one]
  simp only [← EReal.coe_mul, ← EReal.coe_sub, ← EReal.coe_add]
  congr 1
  ring

/-- A sum of products of numbers is a number. -/
theorem real_dot {n : ℕ} {f g : Fin n → EReal} (hf : ∀ k, f k = ((f k).toReal : EReal)) (hg : ∀ k, g k = ((g k).toReal : EReal)) :
    (∑ k, f k * g k) = ((∑ k, f k * g k).toReal : EReal) := by
  have h : (∑ k, f k * g k) = ((∑ k, (f k).toReal * (g k).toReal : ℝ) : EReal) := by
    rw [Cert.Scalars.coe_sum]
    exact Finset.sum_congr rfl fun k _ => by rw [EReal.coe_mul, ← hf k, ← hg k]
  rw [h, EReal.toReal_coe]

/-- A sum of two numbers is a number. -/
theorem real_add {a b : EReal} (ha : a = (a.toReal : EReal)) (hb : b = (b.toReal : EReal)) : a + b = ((a + b).toReal : EReal) := by
  rw [ha, hb, ← EReal.coe_add, EReal.toReal_coe]

end Cert.Gate
-- ==== Proof.Gate.lean ====
module

public import proofs.«01_k».proof.Proof.Gen.Kernel5Ideal.Frame
public import proofs.«01_k».proof.Proof.Gen.Reference5Ideal.Run
public import proofs.«01_k».proof.Proof.Gen.Reference5Ideal.Read
public import Idealize.ShloMosaic.Lib.Pipeline.Value
public import Idealize.ShloMosaic.Lib.Pipeline.ValueKit
public import Idealize.ShloMosaic.Lib.Pointwise
public import Idealize.ShloMosaic.Lib.Claim
public import proofs.«01_k».proof.Defs
public import proofs.«01_k».proof.Proof.Gen.Reference5Ideal
public import proofs.«01_k».proof.Proof.Gen.Pre_finite_gate
public import proofs.«01_k».proof.Proof.GateMath
public import proofs.«01_k».proof.Proof.UnitSums

@[expose] public section

set_option maxRecDepth 16384

noncomputable section

namespace Cert.Kernel5Ideal.Gate

open Cert.Kernel5Ideal Cert.Kernel5Ideal.Gen Idealize.ShloMosaic Idealize.ShloMosaic.TcCoe Idealize.SL.Sem
open Idealize.ShloMosaic.Pipeline (Dat)
open Cert.Gate (gate slopeOut slopeSum)

/-- The cotangent of the joined gated columns: a row of the cotangent against a row of the output weights. -/
def joined (w : FVec Ideal S2048x2048 .f32) (ct : FVec Ideal S1x4096x2048 .f32) (r : Fin 4096) (k : Fin 2048) : EReal :=
  ∑ j : Fin 2048, ct (ix3 0 r j) * w (ix2 k j)

/-- The first half of the joined columns belongs to attention, the second to the convolution. -/
def left (l : Fin 1024) : Fin 2048 := ⟨l.val, by omega⟩
def right (l : Fin 1024) : Fin 2048 := ⟨1024 + l.val, by omega⟩

/-- Column `d` of head `h`. -/
def headCol (h : Fin 8) (d : Fin 128) : Fin 1024 := ⟨h.val * 128 + d.val, by omega⟩

section Reference

open Cert.Reference5Ideal.Read

variable (at_ mg u cg : FVec Ideal S1x4096x1024 .f32) (b : FVec Ideal S1024 .f32) (w : FVec Ideal S2048x2048 .f32) (ct : FVec Ideal S1x4096x2048 .f32)

theorem ref10 (r : Fin 4096) (l : Fin 1024) : val_main_v10 (F := Ideal) w ct (ix3 0 r l) = joined w ct r (left l) := by
  pointwise [val_main_v10, val_main_v9]
  rfl

theorem ref11 (r : Fin 4096) (l : Fin 1024) : val_main_v11 (F := Ideal) w ct (ix3 0 r l) = joined w ct r (right l) := by
  pointwise [val_main_v11, val_main_v9]
  rfl

theorem refSig (r : Fin 4096) (l : Fin 1024) : val_main_v0_2 (F := Ideal) mg (ix3 0 r l) = Ideal.logistic (mg (ix3 0 r l)) := by
  pointwise [val_main_v0_2, val_main_call0_v4, val_main_call0_cst_0, val_main_call0_v3, val_main_call0_v2, val_main_call0_cst, val_main_call0_v1, val_main_call0_v0]
  rfl

theorem refSig' (r : Fin 4096) (l : Fin 1024) : val_main_v5_2 (F := Ideal) cg (ix3 0 r l) = Ideal.logistic (cg (ix3 0 r l)) := by
  pointwise [val_main_v5_2, val_main_call1_v4, val_main_call1_cst_0, val_main_call1_v3, val_main_call1_v2, val_main_call1_cst, val_main_call1_v1, val_main_call1_v0]
  rfl

theorem ref19 (r : Fin 4096) (l : Fin 1024) : val_main_v19 (F := Ideal) mg w ct (ix3 0 r l) = joined w ct r (left l) * gate (mg (ix3 0 r l)) := by
  unfold gate
  pointwise [val_main_v19, val_main_v0_0]
  rw [ref10, refSig]

theorem ref13 (r : Fin 4096) (l : Fin 1024) : val_main_v13 (F := Ideal) cg w ct (ix3 0 r l) = joined w ct r (right l) * gate (cg (ix3 0 r l)) := by
  unfold gate
  pointwise [val_main_v13, val_main_v5_0]
  rw [ref11, refSig']

theorem ref25 (r : Fin 4096) (l : Fin 1024) : val_main_v25 (F := Ideal) mg w ct (ix2 r l) = joined w ct r (left l) * gate (mg (ix3 0 r l)) := by
  pointwise [val_main_v25, val_main_v24]
  rw [ref19]

theorem ref29 (r : Fin 4096) (l : Fin 1024) : val_main_v29 (F := Ideal) cg w ct (ix2 r l) = joined w ct r (right l) * gate (cg (ix3 0 r l)) := by
  pointwise [val_main_v29, val_main_v28]
  rw [ref13]

theorem ref32 (r : Fin 4096) (l : Fin 1024) : val_main_v32 (F := Ideal) at_ mg w ct (ix2 r l) = slopeSum (joined w ct r (left l)) (at_ (ix3 0 r l)) (mg (ix3 0 r l)) := by
  unfold slopeSum
  pointwise [val_main_v32, val_main_v31, val_main_v20, val_main_call3_v1, val_main_call3_v2, val_main_call3_v0, val_main_v18, val_main_v0_1, val_main_call0_v7, val_main_call0_v6, val_main_call0_cst_1]
  rw [ref10, refSig]

theorem ref34 (r : Fin 4096) (l : Fin 1024) : val_main_v34 (F := Ideal) u cg b w ct (ix2 r l) = slopeSum (joined w ct r (right l)) (u (ix3 0 r l) + b (ix1 l)) (cg (ix3 0 r l)) := by
  unfold slopeSum
  pointwise [val_main_v34, val_main_v33, val_main_v14, val_main_call2_v1, val_main_call2_v2, val_main_call2_v0, val_main_v12, val_main_v4, val_main_v3, val_main_v2, val_main_v5_1, val_main_call1_v7, val_main_call1_v6, val_main_call1_cst_1]
  rw [ref11, refSig']

theorem ref15 (l : Fin 1024) : val_main_v15 (F := Ideal) cg w ct (ix2 0 l) = ∑ r : Fin 4096, joined w ct r (right l) * gate (cg (ix3 0 r l)) := by
  pointwise [val_main_v15, val_main_cst]
  simp only [ref13]

theorem ref30 (l : Fin 1024) : val_main_v30 (F := Ideal) cg w ct (ix2 0 l) = ∑ r : Fin 4096, joined w ct r (right l) * gate (cg (ix3 0 r l)) := by
  pointwise [val_main_v30, val_main_v17, val_main_cst_0]
  rw [Cert.UnitSums.leading, zero_add]
  pointwise [val_main_v16]
  rw [ref15]

/-- One position's term of a head's sum of the gradient times the attention's output. -/
def deltaTerm (r : Fin 4096) (l : Fin 1024) : Elt Ideal .f32 := joined w ct r (left l) * gate (mg (ix3 0 r l)) * at_ (ix3 0 r l)

theorem ref27 (h t : Fin 8) (r : Fin 512) : val_main_v27 (F := Ideal) at_ mg w ct (ix4 h t 0 r)
    = ∑ d : Fin 128, deltaTerm at_ mg w ct ⟨t.val * 512 + r.val, by omega⟩ (headCol h d) := by
  pointwise [val_main_v27, val_main_v26, val_main_v23, val_main_cst_1, val_main_v22, val_main_v21]
  simp only [ref19]
  rfl

end Reference

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 2] ∧ win0_4.index t = ![t.val, 0] ∧ win0_5.index t = ![t.val, 3] ∧ win0_6.index t = ![0, 0]
    ∧ win0_7.index t = ![t.val, 0] ∧ win0_8.index t = ![0, t.val, 0, 0] ∧ win0_9.index t = ![t.val, 0] ∧ win0_10.index t = ![0, 0] ∧ win0_11.index t = ![t.val, 1] :=
  (by decide +kernel : ∀ t : Fin grid0.N, _)

/-- Row `r` of block `t` as a row of the whole array. -/
def row (t : Fin cfg0.N) (r : Fin 512) : Fin 4096 := ⟨t.val * 512 + r.val, by have := t.isLt; have : cfg0.N = 8 := N_0; omega⟩

/-- The contents of a buffer at the region's entry, over the host operations before it. -/
theorem entry (c : Dev nD) (b : Ref sig .tc) : V m c b = StableHlo.after (hostOps0 (F := Ideal)) (fun b => m (c, b)) (Proc.devRef .tc b) :=
  congrArg (fun ops => StableHlo.after ops (fun b => m (c, b)) (Proc.devRef .tc b)) List.flatten_singleton

abbrev aat (c : Dev nD) : FVec Ideal S1x4096x1024 .f32 := m ((c : Thread nD τ).loc main_arg0)
abbrev amg (c : Dev nD) : FVec Ideal S1x4096x1024 .f32 := m ((c : Thread nD τ).loc main_arg1)
abbrev au (c : Dev nD) : FVec Ideal S1x4096x1024 .f32 := m ((c : Thread nD τ).loc main_arg2)
abbrev acg (c : Dev nD) : FVec Ideal S1x4096x1024 .f32 := m ((c : Thread nD τ).loc main_arg3)
abbrev ab (c : Dev nD) : FVec Ideal S1024 .f32 := m ((c : Thread nD τ).loc main_arg4)
abbrev aw (c : Dev nD) : FVec Ideal S2048x2048 .f32 := m ((c : Thread nD τ).loc main_arg5)
abbrev act (c : Dev nD) : FVec Ideal S1x4096x2048 .f32 := m ((c : Thread nD τ).loc main_arg6)

theorem blk0 (c : Dev nD) (t : Fin cfg0.N) (r : Fin 512) (l : Fin 2048) : (iblk m c 0 t : FVec Ideal S512x2048 .bf16) (ix2 r l) = act m c (ix3 0 (row t r) l) := by
  blk_simp [iblk, idx t]
  rw [entry]
  entry_read
  pointwise
  blk_point [row, idx t]

theorem blk1 (c : Dev nD) (t : Fin cfg0.N) (k l : Fin 2048) : (iblk m c 1 t : FVec Ideal S2048x2048 .bf16) (ix2 k l) = aw m c (ix2 k l) := by
  blk_simp [iblk, idx t]
  rw [entry]
  entry_read
  pointwise
  blk_point [row, idx t]

theorem blk2 (c : Dev nD) (t : Fin cfg0.N) (r : Fin 512) (l : Fin 1024) : (iblk m c 2 t : FVec Ideal S512x1024 .f32) (ix2 r l) = aat m c (ix3 0 (row t r) l) := by
  blk_simp [iblk, idx t]
  rw [entry]
  entry_read
  pointwise
  blk_point [row, idx t]

theorem blk4 (c : Dev nD) (t : Fin cfg0.N) (r : Fin 512) (l : Fin 1024) : (iblk m c 4 t : FVec Ideal S512x1024 .f32) (ix2 r l) = au m c (ix3 0 (row t r) l) := by
  blk_simp [iblk, idx t]
  rw [entry]
  entry_read
  pointwise
  blk_point [row, idx t]

theorem blk6 (c : Dev nD) (t : Fin cfg0.N) (l : Fin 1024) : (iblk m c 6 t : FVec Ideal S1x1024 .f32) (ix2 0 l) = ab m c (ix1 l) := by
  blk_simp [iblk, idx t]
  rw [entry]
  entry_read
  pointwise
  blk_point [row, idx t]

theorem z_mla (c : Dev nD) (r : Fin 4096) (l : Fin 1024) : (V m c main_v4 : FVec Ideal S4096x5120 .f32) (ix2 r ⟨2048 + l.val, by omega⟩) = amg m c (ix3 0 r l) := by
  rw [entry]
  after_results
  pointwise
  after_results_loop
  pointwise

theorem z_conv (c : Dev nD) (r : Fin 4096) (l : Fin 1024) : (V m c main_v4 : FVec Ideal S4096x5120 .f32) (ix2 r ⟨3072 + l.val, by omega⟩) = acg m c (ix3 0 r l) := by
  rw [entry]
  after_results
  pointwise
  rw [dif_neg (by omega), dif_neg (by omega), dif_pos (by omega)]
  refine (congrArg _ (congrArg (ix2 r) (Fin.ext (show 3072 + l.val - 2048 - 1024 = l.val by omega)))).trans ?_
  after_results_loop
  pointwise

theorem blk3 (c : Dev nD) (t : Fin cfg0.N) (r : Fin 512) (l : Fin 1024) : (iblk m c 3 t : FVec Ideal S512x1024 .f32) (ix2 r l) = amg m c (ix3 0 (row t r) l) := by
  rw [← z_mla]
  blk_simp [iblk, idx t]
  exact congrArg _ (by blk_ext [row, idx t])

theorem blk5 (c : Dev nD) (t : Fin cfg0.N) (r : Fin 512) (l : Fin 1024) : (iblk m c 5 t : FVec Ideal S512x1024 .f32) (ix2 r l) = acg m c (ix3 0 (row t r) l) := by
  rw [← z_conv]
  blk_simp [iblk, idx t]
  exact congrArg _ (by blk_ext [row, idx t])

theorem emb7 (t : Fin cfg0.N) (r : Fin 512) (l : Fin 1024) : ((cfg0.win 7).blk t).view.emb (ix2 r l) = (ix2 (row t r) l : S4096x1024.Idx) := by
  blk_ext [row, idx t]

theorem emb9 (t : Fin cfg0.N) (r : Fin 512) (l : Fin 1024) : ((cfg0.win 9).blk t).view.emb (ix2 r l) = (ix2 (row t r) l : S4096x1024.Idx) := by
  blk_ext [row, idx t]

theorem emb8 (t : Fin cfg0.N) (h : Fin 8) (r : Fin 512) : ((cfg0.win 8).blk t).view.emb (ix4 h 0 0 r) = (ix4 h ⟨t.val, by have := t.isLt; have : cfg0.N = 8 := N_0; omega⟩ 0 r : S8x8x1x512.Idx) := by
  blk_ext [row, idx t]

section Payload

/-! What the body writes at a row and a column of a block. -/

variable (c : Dev nD) (t : Fin cfg0.N)

theorem joined_read (r : Fin 512) (k : Fin 2048) : k0_pay7 (F := Ideal) (iblk m c 0 t) (iblk m c 1 t) (ix2 r k) = joined (aw m c) (act m c) (row t r) k := by
  unfold joined
  pointwise [k0_pay7]
  simp only [blk0, blk1]

theorem left_read (r : Fin 512) (l : Fin 1024) : k0_pay8 (F := Ideal) (iblk m c 0 t) (iblk m c 1 t) (ix2 r l) = joined (aw m c) (act m c) (row t r) (left l) := by
  pointwise [k0_pay8]
  exact joined_read m c t r (left l)

theorem right_read (r : Fin 512) (l : Fin 1024) : k0_pay25 (F := Ideal) (k0_pay7 (iblk m c 0 t) (iblk m c 1 t)) (ix2 r l) = joined (aw m c) (act m c) (row t r) (right l) := by
  pointwise [k0_pay25]
  exact joined_read m c t r (right l)

theorem dattn_read (r : Fin 512) (l : Fin 1024) : k0_pay11 (F := Ideal) (iblk m c 0 t) (iblk m c 1 t) (iblk m c 3 t) (ix2 r l)
    = joined (aw m c) (act m c) (row t r) (left l) * gate (amg m c (ix3 0 (row t r) l)) := by
  unfold gate
  pointwise [k0_pay11, k0_pay10]
  simp only [left_read, blk3]

theorem du_read (r : Fin 512) (l : Fin 1024) : k0_pay2 (F := Ideal) (k0_pay25 (k0_pay7 (iblk m c 0 t) (iblk m c 1 t))) (iblk m c 5 t) (ix2 r l)
    = joined (aw m c) (act m c) (row t r) (right l) * gate (acg m c (ix3 0 (row t r) l)) := by
  unfold gate
  pointwise [k0_pay2, k0_pay1]
  simp only [right_read, blk5]

theorem dmg_read (r : Fin 512) (l : Fin 1024) : k0_pay13 (F := Ideal) (iblk m c 0 t) (iblk m c 1 t) (iblk m c 2 t) (iblk m c 3 t) (ix2 r l)
    = slopeOut (joined (aw m c) (act m c) (row t r) (left l)) (aat m c (ix3 0 (row t r) l)) (amg m c (ix3 0 (row t r) l)) := by
  unfold slopeOut
  pointwise [k0_pay13, k0_pay10, k0_pay9]
  simp only [left_read, blk3, blk2]

theorem dcg_read (r : Fin 512) (l : Fin 1024) : k0_pay4 (F := Ideal) (k0_pay25 (k0_pay7 (iblk m c 0 t) (iblk m c 1 t))) (iblk m c 5 t) (iblk m c 4 t) (iblk m c 6 t) (ix2 r l)
    = slopeOut (joined (aw m c) (act m c) (row t r) (right l)) (au m c (ix3 0 (row t r) l) + ab m c (ix1 l)) (acg m c (ix3 0 (row t r) l)) := by
  unfold slopeOut
  pointwise [k0_pay4, k0_pay1]
  simp only [right_read, blk5, blk4, blk6]

theorem prod_read (r : Fin 512) (l : Fin 1024) : k0_pay14 (F := Ideal) (iblk m c 0 t) (iblk m c 1 t) (iblk m c 2 t) (iblk m c 3 t) (ix2 r l)
    = deltaTerm (aat m c) (amg m c) (aw m c) (act m c) (row t r) l := by
  pointwise [k0_pay14, k0_pay9]
  rw [dattn_read, blk2]
  rfl

end Payload

theorem final7 (c : Dev nD) : (dats m 0 c).arrAt 7 cfg0.N = Cert.Reference5Ideal.Read.val_main_v25 (F := Ideal) (amg m c) (aw m c) (act m c) := by
  refine (dats m 0 c).arrAt_eq_of_covers 7 _ (by decide +kernel) fun t _ y => ?_
  obtain ⟨r, l, rfl⟩ : ∃ (r : Fin 512) (l : Fin 1024), y = ix2 r l := ⟨y 0, y 1, eq_ix2 y⟩
  rw [emb7, ref25]
  blk_simp
  rw [after0_7]
  by_cases h : t.val % 8 = 0
  · rw [outsAt0_A m c t h]; frame_out
    exact dattn_read m c t r l
  · rw [outsAt0_B m c t h]; frame_out
    exact dattn_read m c t r l

theorem final9 (c : Dev nD) : (dats m 0 c).arrAt 9 cfg0.N = Cert.Reference5Ideal.Read.val_main_v29 (F := Ideal) (acg m c) (aw m c) (act m c) := by
  refine (dats m 0 c).arrAt_eq_of_covers 9 _ (by decide +kernel) fun t _ y => ?_
  obtain ⟨r, l, rfl⟩ : ∃ (r : Fin 512) (l : Fin 1024), y = ix2 r l := ⟨y 0, y 1, eq_ix2 y⟩
  rw [emb9, ref29]
  blk_simp
  rw [after0_9]
  by_cases h : t.val % 8 = 0
  · rw [outsAt0_A m c t h]; frame_out
    exact du_read m c t r l
  · rw [outsAt0_B m c t h]; frame_out
    exact du_read m c t r l

theorem final10 (c : Dev nD) : (dats m 0 c).arrAt 10 cfg0.N = Cert.Reference5Ideal.Read.val_main_v30 (F := Ideal) (acg m c) (aw m c) (act m c) := by
  refine (dats m 0 c).arrAt_eq_of_after_last 10 t0_7 (by decide +kernel) _ fun j => ?_
  blk_simp
  rw [after0_10, Pipeline.eq_sum_fin_of_reset_step_apply_last (fun n h => (outsAt0 m c n h).2.2.2.1) 8 (fun _ => 0)
    (fun t j => ∑ r : Fin 512, joined (aw m c) (act m c) (row t r) (right (j 1)) * gate (acg m c (ix3 0 (row t r) (j 1))))
    (fun t h j => by obtain ⟨z, l, rfl⟩ : ∃ (z : Fin 1) (l : Fin 1024), j = ix2 z l := ⟨_, _, eq_ix2 j⟩; rw [outsAt0_A m c t h]; frame_out; pointwise [k0_pay5, k0_pay6]; simp only [du_read])
    (fun t h j => by obtain ⟨z, l, rfl⟩ : ∃ (z : Fin 1) (l : Fin 1024), j = ix2 z l := ⟨_, _, eq_ix2 j⟩; rw [outsAt0_B m c t h]; frame_out; pointwise [k0_pay5]; simp only [du_read])
    (le_of_eq N_0) t0_7 rfl j, zero_add]
  obtain ⟨z, l, rfl⟩ : ∃ (z : Fin 1) (l : Fin 1024), j = ix2 z l := ⟨_, _, eq_ix2 j⟩
  rw [Subsingleton.elim z 0, ref30]
  exact Fin.sum_mul_add_congr fun t r _ => rfl

/-- The column of the gated activations that a column of the projected row's gradient belongs to. -/
def lane (k : Fin 5120) : Fin 1024 := ⟨k.val % 1024, by omega⟩

/-- The gradient of the gates' columns of the projected row, by rows and columns of the whole array. -/
def gates (c : Dev nD) : FVec Ideal S4096x5120 .bf16 := fun i =>
  if (i 1 : ℕ) < 3072 then slopeOut (joined (aw m c) (act m c) (i 0) (left (lane (i 1)))) (aat m c (ix3 0 (i 0) (lane (i 1)))) (amg m c (ix3 0 (i 0) (lane (i 1))))
  else slopeOut (joined (aw m c) (act m c) (i 0) (right (lane (i 1)))) (au m c (ix3 0 (i 0) (lane (i 1))) + ab m c (ix1 (lane (i 1)))) (acg m c (ix3 0 (i 0) (lane (i 1))))

theorem gates_left (c : Dev nD) (r : Fin 4096) (l : Fin 1024) (k : Fin 5120) (hk : k.val = 2048 + l.val) :
    gates m c (ix2 r k) = slopeOut (joined (aw m c) (act m c) r (left l)) (aat m c (ix3 0 r l)) (amg m c (ix3 0 r l)) := by
  have hl : lane k = l := Fin.ext (by unfold lane; have := l.isLt; simp only [hk]; omega)
  refine (if_pos (show k.val < 3072 by have := l.isLt; omega)).trans ?_
  show slopeOut (joined _ _ r (left (lane k))) (aat m c (ix3 0 r (lane k))) (amg m c (ix3 0 r (lane k))) = _
  rw [hl]

theorem gates_right (c : Dev nD) (r : Fin 4096) (l : Fin 1024) (k : Fin 5120) (hk : k.val = 3072 + l.val) :
    gates m c (ix2 r k) = slopeOut (joined (aw m c) (act m c) r (right l)) (au m c (ix3 0 r l) + ab m c (ix1 l)) (acg m c (ix3 0 r l)) := by
  have hl : lane k = l := Fin.ext (by unfold lane; have := l.isLt; simp only [hk]; omega)
  refine (if_neg (show ¬k.val < 3072 by omega)).trans ?_
  show slopeOut (joined _ _ r (right (lane k))) (au m c (ix3 0 r (lane k)) + ab m c (ix1 (lane k))) (acg m c (ix3 0 r (lane k))) = _
  rw [hl]

/-- The body's store of the convolution's half of the gates' columns. -/
theorem gates_second (c : Dev nD) (t : Fin cfg0.N) (r : Fin 512) (l : Fin 2048) (k : Fin 5120) (hk : k.val = 2048 + l.val) (x : S512x1024.Idx)
    (h0 : r.val = (x 0).val) (h1 : l.val = 1024 + (x 1).val) :
    k0_pay4 (F := Ideal) (k0_pay25 (k0_pay7 (iblk m c 0 t) (iblk m c 1 t))) (iblk m c 5 t) (iblk m c 4 t) (iblk m c 6 t) x = gates m c (ix2 (row t r) k) := by
  obtain ⟨r', l', rfl⟩ : ∃ (r' : Fin 512) (l' : Fin 1024), x = ix2 r' l' := ⟨_, _, eq_ix2 _⟩
  obtain rfl : r = r' := Fin.ext h0
  rw [dcg_read, gates_right m c _ l' k (by have : l.val = 1024 + l'.val := h1; omega)]

/-- The body's store of the attention's half. -/
theorem gates_first (c : Dev nD) (t : Fin cfg0.N) (r : Fin 512) (l : Fin 2048) (k : Fin 5120) (hk : k.val = 2048 + l.val) (x : S512x1024.Idx)
    (h0 : r.val = (x 0).val) (h1 : l.val = (x 1).val) :
    k0_pay13 (F := Ideal) (iblk m c 0 t) (iblk m c 1 t) (iblk m c 2 t) (iblk m c 3 t) x = gates m c (ix2 (row t r) k) := by
  obtain ⟨r', l', rfl⟩ : ∃ (r' : Fin 512) (l' : Fin 1024), x = ix2 r' l' := ⟨_, _, eq_ix2 _⟩
  obtain rfl : r = r' := Fin.ext h0
  rw [dmg_read, gates_left m c _ l' k (by have : l.val = l'.val := h1; omega)]

theorem final11 (c : Dev nD) (i : S4096x5120.Idx) (hi : (i 1 : ℕ) / 2048 = 1) : ((dats m 0 c).arrAt 11 cfg0.N : FVec Ideal S4096x5120 .bf16) i = gates m c i := by
  refine ((dats m 0 c).arrAt_apply_of_coversWhere 11 (gates m c) (fun β => β 1 = 1) (by decide +kernel) (fun t hf y => ?_) (P := fun i => (i 1 : ℕ) / 2048 = 1) (fun j => Iff.rfl) i).trans (if_pos hi)
  obtain ⟨r, l, hrl⟩ : ∃ (r : Fin 512) (l : Fin 2048), (cfg0.win 11).xinj (cfg0.grid.coords t) y = (ix2 r l : S512x2048.Idx) := ⟨_, _, eq_ix2 _⟩
  have he : ((cfg0.win 11).blk t).view.emb y = (ix2 (row t r) ⟨2048 + l.val, by omega⟩ : S4096x5120.Idx) := by
    obtain rfl : (cfg0.win 11).xinj (cfg0.grid.coords t) y 0 = r := congrFun hrl 0
    obtain rfl : (cfg0.win 11).xinj (cfg0.grid.coords t) y 1 = l := congrFun hrl 1
    blk_ext [row, idx t]
  rw [he, hrl, after0_11]
  by_cases h : t.val % 8 = 0
  · rw [outsAt0_A m c t h]; frame_out
    refine (cast_eq _ _).trans ?_
    canon_tiles x e
    · exact gates_second m c t r l _ rfl x e0 e1
    · exact gates_first m c t r l _ rfl x e0 e1
  · rw [outsAt0_B m c t h]; frame_out
    refine (cast_eq _ _).trans ?_
    canon_tiles x e
    · exact gates_second m c t r l _ rfl x e0 e1
    · exact gates_first m c t r l _ rfl x e0 e1

theorem final8 (c : Dev nD) : (dats m 0 c).arrAt 8 cfg0.N = Cert.Reference5Ideal.Read.val_main_v27 (F := Ideal) (aat m c) (amg m c) (aw m c) (act m c) := by
  refine (dats m 0 c).arrAt_eq_of_covers 8 _ (by decide +kernel) fun t _ y => ?_
  obtain ⟨h, z, z', r, rfl⟩ : ∃ (h : Fin 8) (z : Fin 1) (z' : Fin 1) (r : Fin 512), y = ix4 h z z' r := ⟨_, _, _, _, eq_ix4 _⟩
  rw [Subsingleton.elim z 0, Subsingleton.elim z' 0, emb8, ref27]
  blk_simp
  rw [after0_8]
  by_cases hc : t.val % 8 = 0
  on_goal 1 => rw [outsAt0_A m c t hc]
  on_goal 2 => rw [outsAt0_B m c t hc]
  all_goals
    frame_out
    canon_tiles x e
    all_goals
      obtain ⟨a, b, z, r', rfl⟩ : ∃ (a : Fin 1) (b : Fin 1) (z : Fin 1) (r' : Fin 512), x = ix4 a b z r' := ⟨_, _, _, _, eq_ix4 _⟩
      pointwise [k0_pay15, k0_pay16, k0_pay17, k0_pay18, k0_pay19, k0_pay20, k0_pay21, k0_pay22, k0_pay23, k0_pay24]
      have e0 : h.val = _ := e0
      obtain rfl : r = r' := Fin.ext e3
      refine Finset.sum_congr rfl fun d _ => (prod_read m c t _ _).trans (congrArg (deltaTerm _ _ _ _ (row t r)) (Fin.ext ?_))
      simp only [headCol]
      omega

/-- Every argument the gates' gradient depends on is real. -/
structure Finite (c : Dev nD) : Prop where
  attn : ∀ r l, aat m c (ix3 0 r l) = ((aat m c (ix3 0 r l)).toReal : EReal)
  mla : ∀ r l, amg m c (ix3 0 r l) = ((amg m c (ix3 0 r l)).toReal : EReal)
  conv : ∀ r l, au m c (ix3 0 r l) = ((au m c (ix3 0 r l)).toReal : EReal)
  gate : ∀ r l, acg m c (ix3 0 r l) = ((acg m c (ix3 0 r l)).toReal : EReal)
  bias : ∀ l, ab m c (ix1 l) = ((ab m c (ix1 l)).toReal : EReal)
  out : ∀ k l, aw m c (ix2 k l) = ((aw m c (ix2 k l)).toReal : EReal)
  cot : ∀ r l, act m c (ix3 0 r l) = ((act m c (ix3 0 r l)).toReal : EReal)

variable {m} in
theorem Finite.joined {c : Dev nD} (h : Finite m c) (r : Fin 4096) (k : Fin 2048) : Gate.joined (aw m c) (act m c) r k = ((Gate.joined (aw m c) (act m c) r k).toReal : EReal) :=
  Cert.Gate.real_dot (fun _ => h.cot r _) fun _ => h.out k _

variable {m} in
theorem args_finite (hp : Cert.Pre_Kernel5Ideal_finite_gate m) (c : Dev nD) : Finite m c := by
  obtain ⟨h0, h1, h2, h3, h4, h5, h6⟩ := hp c
  exact ⟨fun r l => Cert.Scalars.real_of_lt _ (congrFun h0 (ix3 0 r l)), fun r l => Cert.Scalars.real_of_lt _ (congrFun h1 (ix3 0 r l)), fun r l => Cert.Scalars.real_of_lt _ (congrFun h2 (ix3 0 r l)),
    fun r l => Cert.Scalars.real_of_lt _ (congrFun h3 (ix3 0 r l)), fun l => Cert.Scalars.real_of_lt _ (congrFun h4 (ix1 l)), fun k l => Cert.Scalars.real_of_lt _ (congrFun h5 (ix2 k l)), fun r l => Cert.Scalars.real_of_lt _ (congrFun h6 (ix3 0 r l))⟩

variable {m} in
theorem mla_gate {c : Dev nD} (h : Finite m c) : extractStridedSlice S4096x1024 ![0, 2048] ((dats m 0 c).arrAt 11 cfg0.N : FVec Ideal S4096x5120 .bf16) slices_S4096x5120_S4096x1024_0_2048
    = Cert.Reference5Ideal.Read.val_main_v32 (F := Ideal) (aat m c) (amg m c) (aw m c) (act m c) := by
  funext i
  obtain ⟨r, l, rfl⟩ : ∃ (r : Fin 4096) (l : Fin 1024), i = ix2 r l := ⟨_, _, eq_ix2 _⟩
  rw [ref32, ← Cert.Gate.slopeOut_eq (h.joined _ _) (h.attn _ _) (h.mla _ _), ← gates_left m c r l ⟨2048 + l.val, by omega⟩ rfl, ← final11 m c _ (show (2048 + l.val) / 2048 = 1 by omega)]
  pointwise

variable {m} in
theorem conv_gate {c : Dev nD} (h : Finite m c) : extractStridedSlice S4096x1024 ![0, 3072] ((dats m 0 c).arrAt 11 cfg0.N : FVec Ideal S4096x5120 .bf16) slices_S4096x5120_S4096x1024_0_3072
    = Cert.Reference5Ideal.Read.val_main_v34 (F := Ideal) (au m c) (acg m c) (ab m c) (aw m c) (act m c) := by
  funext i
  obtain ⟨r, l, rfl⟩ : ∃ (r : Fin 4096) (l : Fin 1024), i = ix2 r l := ⟨_, _, eq_ix2 _⟩
  rw [ref34, ← Cert.Gate.slopeOut_eq (h.joined _ _) (Cert.Gate.real_add (h.conv _ _) (h.bias _)) (h.gate _ _), ← gates_right m c r l ⟨3072 + l.val, by omega⟩ rfl, ← final11 m c _ (show (3072 + l.val) / 2048 = 1 by omega)]
  pointwise

/-- The array of the projected row's gradient after the region. -/
theorem written (c : Dev nD) : Pipeline.withArrays (cfgs 0).spec c (V0 m c) (fun w => (dats m 0 c).arrAt w (cfgs 0).N) (Proc.devRef .tc main_v11_4) = (dats m 0 c).arrAt 11 cfg0.N :=
  Pipeline.withArrays_arr_shared (cfgs 0).spec c (V0 m c) _ ((dats m 0 c).arrAt_sharedIn sharedIn0 (V0 m c) (A_eq m c) _) 11

theorem tail12 (c : Dev nD) : Pipeline.afterTail₀ cfgs (dats m) 0 (V0 m) [hostOps1] c main_v12
    = extractStridedSlice S4096x1024 ![0, 2048] ((dats m 0 c).arrAt 11 cfg0.N : FVec Ideal S4096x5120 .bf16) slices_S4096x5120_S4096x1024_0_2048 := by
  unfold Pipeline.afterTail₀
  rw [show [hostOps1 (F := Ideal)].flatten = hostOps1 from List.flatten_singleton]
  after_results
  exact congrArg (extractStridedSlice S4096x1024 ![0, 2048] · slices_S4096x5120_S4096x1024_0_2048) (written m c)

theorem tail13 (c : Dev nD) : Pipeline.afterTail₀ cfgs (dats m) 0 (V0 m) [hostOps1] c main_v13
    = extractStridedSlice S4096x1024 ![0, 3072] ((dats m 0 c).arrAt 11 cfg0.N : FVec Ideal S4096x5120 .bf16) slices_S4096x5120_S4096x1024_0_3072 := by
  unfold Pipeline.afterTail₀
  rw [show [hostOps1 (F := Ideal)].flatten = hostOps1 from List.flatten_singleton]
  after_results
  exact congrArg (extractStridedSlice S4096x1024 ![0, 3072] · slices_S4096x5120_S4096x1024_0_3072) (written m c)

theorem reference_runs : Cert.quiescent_Reference5Ideal (hReference5Ideal := Cert.Reference5Ideal.Gen.facts) := fun m g _ =>
  (θ_run Cert.Reference5Ideal.defs _ _).mono (fun r h => ⟨fun c => (h c).2.2.2.2.2.2, sem_eq_zero_of_no_sems (by decide) r.2⟩)
    (Cert.Reference5Ideal.Value.run (F := Ideal) m g)

theorem reference_runs_pre : Cert.quiescent_Reference5Ideal_pre_finite_gate := fun m g _ => reference_runs m g trivial

open Cert.Reference5Ideal.Read in
set_option maxHeartbeats 1600000 in
/-- The call and the gradient of the gated activations end with equal results. -/
theorem algebraic : Cert.algebraic_Kernel5Ideal_Reference5Ideal_pre_finite_gate := by
  intro m g m' g' hp hag
  refine ⟨fun c => val_main_v25 (F := Ideal) (amg m c) (aw m c) (act m c), fun c => val_main_v27 (F := Ideal) (aat m c) (amg m c) (aw m c) (act m c),
    fun c => val_main_v29 (F := Ideal) (acg m c) (aw m c) (act m c), fun c => val_main_v30 (F := Ideal) (acg m c) (aw m c) (act m c),
    fun c => val_main_v32 (F := Ideal) (aat m c) (amg m c) (aw m c) (act m c), fun c => val_main_v34 (F := Ideal) (au m c) (acg m c) (ab m c) (aw m c) (act m c), ?_, ?_⟩
  · have hg : ∀ c, Finite m c := args_finite hp
    run_from run_main m g
    · exact final7 m c
    · exact final8 m c
    · exact final9 m c
    · exact final10 m c
    · exact (tail12 m c).trans (mla_gate (hg c))
    · exact (tail13 m c).trans (conv_gate (hg c))
    · exact W_main_arg0 m (dats m) c
    · exact W_main_arg1 m (dats m) c
    · exact W_main_arg2 m (dats m) c
    · exact W_main_arg3 m (dats m) c
    · exact W_main_arg4 m (dats m) c
    · exact W_main_arg5 m (dats m) c
    · exact W_main_arg6 m (dats m) c
  · refine (θ_run _ _ _).mono (fun _ h c => ?_) (Cert.Reference5Ideal.Value.run m' g')
    obtain ⟨r0, r1, r2, r3, r4, r5, rest⟩ := h c
    obtain ⟨e0, e1, e2, e3, e4, e5, e6⟩ := hag c
    refine ⟨r0.trans ?_, r1.trans ?_, r2.trans ?_, r3.trans ?_, r4.trans ?_, r5.trans ?_, rest⟩
    · refine (val_main_v25_eq _ _ _).trans ?_; rw [e1, e5, e6]
    · refine (val_main_v27_eq _ _ _ _).trans ?_; rw [e0, e1, e5, e6]
    · refine (val_main_v29_eq _ _ _).trans ?_; rw [e3, e5, e6]
    · refine (val_main_v30_eq _ _ _).trans ?_; rw [e3, e5, e6]
    · refine (val_main_v32_eq _ _ _ _).trans ?_; rw [e0, e1, e5, e6]
    · refine (val_main_v34_eq _ _ _ _ _).trans ?_; rw [e2, e3, e4, e5, e6]

end Cert.Kernel5Ideal.Gate
-- ==== Proof.NormForward.lean ====
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.Claim
public import proofs.«01_k».proof.Defs
public import proofs.«01_k».proof.Proof.Gen.Reference6Ideal

@[expose] public section

set_option maxRecDepth 16384

noncomputable section

namespace Cert.Kernel6Ideal.Norm

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

/-- Row `r` of block `t` as a row of the whole array. -/
def row (t : Fin cfg0.N) (r : Fin 512) : Fin 4096 := ⟨t.val * 512 + r.val, by have := t.isLt; have : cfg0.N = 8 := N_0; omega⟩

abbrev ax (c : Dev nD) : FVec Ideal S1x4096x2048 .f32 := m ((c : Thread nD τ).loc main_arg0)
abbrev ag (c : Dev nD) : FVec Ideal S2048 .f32 := m ((c : Thread nD τ).loc main_arg1)
abbrev ash (c : Dev nD) : FVec Ideal S1x1x2048 .f32 := m ((c : Thread nD τ).loc main_arg2)
abbrev asc (c : Dev nD) : FVec Ideal S1x1x2048 .f32 := m ((c : Thread nD τ).loc main_arg3)

theorem blk0 (c : Dev nD) (t : Fin cfg0.N) (r : Fin 512) (l : Fin 2048) : (iblk m c 0 t : FVec Ideal S512x2048 .f32) (ix2 r l) = ax m c (ix3 0 (row t r) l) := by
  blk_simp [iblk, idx t]
  entry_read
  pointwise
  blk_point [row, idx t]

theorem blk1 (c : Dev nD) (t : Fin cfg0.N) (l : Fin 2048) : (iblk m c 1 t : FVec Ideal S1x2048 .f32) (ix2 0 l) = ag m c (ix1 l) := by
  blk_simp [iblk, idx t]
  entry_read
  pointwise
  blk_point [row, idx t]

theorem blk2 (c : Dev nD) (t : Fin cfg0.N) (l : Fin 2048) : (iblk m c 2 t : FVec Ideal S1x2048 .f32) (ix2 0 l) = ash m c (ix3 0 0 l) := by
  blk_simp [iblk, idx t]
  entry_read
  pointwise
  blk_point [row, idx t]

theorem blk3 (c : Dev nD) (t : Fin cfg0.N) (l : Fin 2048) : (iblk m c 3 t : FVec Ideal S1x2048 .f32) (ix2 0 l) = 1 + asc m c (ix3 0 0 l) := by
  blk_simp [iblk, idx t]
  entry_read
  pointwise
  blk_point [row, idx t]

theorem emb4 (t : Fin cfg0.N) (r : Fin 512) (l : Fin 2048) : ((cfg0.win 4).blk t).view.emb (ix2 r l) = (ix2 (row t r) l : S4096x2048.Idx) := by
  blk_ext [row, idx t]

/-- The norm at a row and a column: the row over its root mean square, scaled and shifted. -/
def normed (x : FVec Ideal S1x4096x2048 .f32) (g : FVec Ideal S2048 .f32) (sh sc : FVec Ideal S1x1x2048 .f32) (r : Fin 4096) (l : Fin 2048) : EReal :=
  x (ix3 0 r l) * Ideal.rsqrt (Ideal.div (∑ j : Fin 2048, x (ix3 0 r j) * x (ix3 0 r j)) (Ideal.ofBits .f32 0x45000000#32) + Ideal.ofBits .f32 0x358637BD#32)
    * g (ix1 l) * (1 + sc (ix3 0 0 l)) + sh (ix3 0 0 l)

open Cert.Reference6Ideal.Read in
theorem ref20 (x : FVec Ideal S1x4096x2048 .f32) (g : FVec Ideal S2048 .f32) (sh sc : FVec Ideal S1x1x2048 .f32) (r : Fin 4096) (l : Fin 2048) :
    val_main_v20 (F := Ideal) x g sh sc (ix2 r l) = normed x g sh sc r l := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

theorem final4 (c : Dev nD) : (dats m 0 c).arrAt 4 cfg0.N = Cert.Reference6Ideal.Read.val_main_v20 (F := Ideal) (ax m c) (ag m c) (ash m c) (asc m c) := by
  refine (dats m 0 c).arrAt_eq_of_covers 4 _ (by decide +kernel) fun t _ y => ?_
  obtain ⟨r, l, rfl⟩ : ∃ (r : Fin 512) (l : Fin 2048), y = ix2 r l := ⟨y 0, y 1, eq_ix2 y⟩
  rw [emb4, ref20]
  blk_simp
  rw [after0_4]
  frame_out
  pointwise [k0_pay1]
  simp only [blk0, blk1, blk2, blk3]
  rfl

end Cert.Kernel6Ideal.Norm

namespace Cert.NormForward

open Idealize.ShloMosaic Idealize.ShloMosaic.TcCoe Idealize.SL.Sem

/-- The reference ends and touches none of its arguments. -/
theorem reference_runs : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run (F := Ideal) m g)

/-- The call and the norm end with equal results. -/
theorem algebraic : Cert.algebraic_Kernel6Ideal_Reference6Ideal (hKernel6Ideal := Cert.Kernel6Ideal.Gen.facts) (hReference6Ideal := Cert.Reference6Ideal.Gen.facts) := by
  intro m g m' g' _ hag
  refine ⟨_, Cert.Kernel6Ideal.Value.run_blocks m g, ?_⟩
  refine (θ_run _ _ _).mono (fun _ h c => ?_) (Cert.Reference6Ideal.Value.run m' g')
  obtain ⟨r0, rest⟩ := h c
  obtain ⟨e0, e1, e2, e3⟩ := hag c
  refine ⟨r0.trans ?_, rest⟩
  refine (Cert.Reference6Ideal.Read.val_main_v20_eq _ _ _ _).trans ?_
  rw [e0, e1, e2, e3]
  exact (Cert.Kernel6Ideal.Norm.final4 m c).symm

end Cert.NormForward

end
-- ==== Proof.GateForward.lean ====
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.Claim
public import proofs.«01_k».proof.Defs
public import proofs.«01_k».proof.Proof.Gen.Reference7Ideal

@[expose] public section

set_option maxRecDepth 16384

noncomputable section

namespace Cert.Kernel7Ideal.Gate

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 2] ∧ win0_2.index t = ![t.val, 0] ∧ win0_3.index t = ![t.val, 3] ∧ win0_4.index t = ![0, 0] ∧ win0_5.index t = ![t.val, 0] :=
  (by decide +kernel : ∀ t : Fin grid0.N, _)

/-- Row `r` of block `t` as a row of the whole array. -/
def row (t : Fin cfg0.N) (r : Fin 512) : Fin 4096 := ⟨t.val * 512 + r.val, by have := t.isLt; have : cfg0.N = 8 := N_0; omega⟩

/-- A value times its own logistic. -/
def silu (x : EReal) : EReal := x * Ideal.logistic x

abbrev aat (c : Dev nD) : FVec Ideal S1x4096x1024 .f32 := m ((c : Thread nD τ).loc main_arg0)
abbrev amg (c : Dev nD) : FVec Ideal S1x4096x1024 .f32 := m ((c : Thread nD τ).loc main_arg1)
abbrev au (c : Dev nD) : FVec Ideal S1x4096x1024 .f32 := m ((c : Thread nD τ).loc main_arg2)
abbrev acg (c : Dev nD) : FVec Ideal S1x4096x1024 .f32 := m ((c : Thread nD τ).loc main_arg3)
abbrev ab (c : Dev nD) : FVec Ideal S1024 .f32 := m ((c : Thread nD τ).loc main_arg4)

theorem entry (c : Dev nD) (b : Ref sig .tc) : V m c b = StableHlo.after (hostOps0 (F := Ideal)) (fun b => m (c, b)) (Proc.devRef .tc b) := rfl

theorem blk0 (c : Dev nD) (t : Fin cfg0.N) (r : Fin 512) (l : Fin 1024) : (iblk m c 0 t : FVec Ideal S512x1024 .f32) (ix2 r l) = aat m c (ix3 0 (row t r) l) := by
  blk_simp [iblk, idx t]
  entry_read
  pointwise
  blk_point [row, idx t]

theorem blk2 (c : Dev nD) (t : Fin cfg0.N) (r : Fin 512) (l : Fin 1024) : (iblk m c 2 t : FVec Ideal S512x1024 .f32) (ix2 r l) = au m c (ix3 0 (row t r) l) := by
  blk_simp [iblk, idx t]
  entry_read
  pointwise
  blk_point [row, idx t]

theorem blk4 (c : Dev nD) (t : Fin cfg0.N) (l : Fin 1024) : (iblk m c 4 t : FVec Ideal S1x1024 .f32) (ix2 0 l) = ab m c (ix1 l) := by
  blk_simp [iblk, idx t]
  entry_read
  pointwise
  blk_point [row, idx t]

theorem z_mla (c : Dev nD) (r : Fin 4096) (l : Fin 1024) : (V m c main_v4 : FVec Ideal S4096x5120 .f32) (ix2 r ⟨2048 + l.val, by omega⟩) = amg m c (ix3 0 r l) := by
  rw [entry]
  after_results
  pointwise
  after_results_loop
  pointwise

theorem z_conv (c : Dev nD) (r : Fin 4096) (l : Fin 1024) : (V m c main_v4 : FVec Ideal S4096x5120 .f32) (ix2 r ⟨3072 + l.val, by omega⟩) = acg m c (ix3 0 r l) := by
  rw [entry]
  after_results
  pointwise
  rw [dif_neg (by omega), dif_neg (by omega), dif_pos (by omega)]
  refine (congrArg _ (congrArg (ix2 r) (Fin.ext (show 3072 + l.val - 2048 - 1024 = l.val by omega)))).trans ?_
  after_results_loop
  pointwise

theorem blk1 (c : Dev nD) (t : Fin cfg0.N) (r : Fin 512) (l : Fin 1024) : (iblk m c 1 t : FVec Ideal S512x1024 .f32) (ix2 r l) = amg m c (ix3 0 (row t r) l) := by
  rw [← z_mla]
  blk_simp [iblk, idx t]
  exact congrArg _ (by blk_ext [row, idx t])

theorem blk3 (c : Dev nD) (t : Fin cfg0.N) (r : Fin 512) (l : Fin 1024) : (iblk m c 3 t : FVec Ideal S512x1024 .f32) (ix2 r l) = acg m c (ix3 0 (row t r) l) := by
  rw [← z_conv]
  blk_simp [iblk, idx t]
  exact congrArg _ (by blk_ext [row, idx t])

theorem emb5 (t : Fin cfg0.N) (r : Fin 512) (l : Fin 2048) : ((cfg0.win 5).blk t).view.emb (ix2 r l) = (ix2 (row t r) l : S4096x2048.Idx) := by
  blk_ext [row, idx t]

open Cert.Reference7Ideal.Read in
/-- The first half of the joined columns is the gated attention. -/
theorem ref_first (x0 x1 x2 x3 : FVec Ideal S1x4096x1024 .f32) (x4 : FVec Ideal S1024 .f32) (r : Fin 4096) (k : Fin 1024) (l : Fin 2048) (h : l.val = k.val) :
    val_main_v9 (F := Ideal) x0 x1 x2 x3 x4 (ix2 r l) = x0 (ix3 0 r k) * silu (x1 (ix3 0 r k)) := by
  obtain rfl : l = ⟨k.val, by clear h; omega⟩ := Fin.ext h
  pointwise [val_main_v9, val_main_v8, val_main_v7]
  pointwise [val_main_v1, val_main_v0, val_main_call0_v5, val_main_call0_v4, val_main_call0_v3, val_main_call0_v2, val_main_call0_v1, val_main_call0_v0, val_main_call0_cst, val_main_call0_cst_0]
  rfl

open Cert.Reference7Ideal.Read in
/-- The second half is the gated convolution. -/
theorem ref_second (x0 x1 x2 x3 : FVec Ideal S1x4096x1024 .f32) (x4 : FVec Ideal S1024 .f32) (r : Fin 4096) (k : Fin 1024) (l : Fin 2048) (h : l.val = 1024 + k.val) :
    val_main_v9 (F := Ideal) x0 x1 x2 x3 x4 (ix2 r l) = (x2 (ix3 0 r k) + x4 (ix1 k)) * silu (x3 (ix3 0 r k)) := by
  obtain rfl : l = ⟨1024 + k.val, by clear h; omega⟩ := Fin.ext h
  pointwise [val_main_v9, val_main_v8, val_main_v7]
  pointwise [val_main_v6, val_main_v5, val_main_v4, val_main_v3, val_main_v2, val_main_call1_v5, val_main_call1_v4, val_main_call1_v3, val_main_call1_v2, val_main_call1_v1, val_main_call1_v0, val_main_call1_cst, val_main_call1_cst_0]
  rfl

theorem pay1 (c : Dev nD) (t : Fin cfg0.N) (r : Fin 512) (k : Fin 1024) : k0_pay1 (F := Ideal) (iblk m c 0 t) (iblk m c 1 t) (ix2 r k) = aat m c (ix3 0 (row t r) k) * silu (amg m c (ix3 0 (row t r) k)) := by
  pointwise [k0_pay1]
  simp only [blk0, blk1]
  rfl

theorem pay2 (c : Dev nD) (t : Fin cfg0.N) (r : Fin 512) (k : Fin 1024) : k0_pay2 (F := Ideal) (iblk m c 2 t) (iblk m c 4 t) (iblk m c 3 t) (ix2 r k) = (au m c (ix3 0 (row t r) k) + ab m c (ix1 k)) * silu (acg m c (ix3 0 (row t r) k)) := by
  pointwise [k0_pay2]
  simp only [blk2, blk3, blk4]
  rfl

theorem final5 (c : Dev nD) : (dats m 0 c).arrAt 5 cfg0.N = Cert.Reference7Ideal.Read.val_main_v9 (F := Ideal) (aat m c) (amg m c) (au m c) (acg m c) (ab m c) := by
  refine (dats m 0 c).arrAt_eq_of_covers 5 _ (by decide +kernel) fun t _ y => ?_
  obtain ⟨r, l, rfl⟩ : ∃ (r : Fin 512) (l : Fin 2048), y = ix2 r l := ⟨y 0, y 1, eq_ix2 y⟩
  rw [emb5]
  blk_simp
  rw [after0_5]
  frame_out
  canon_tiles x e
  · obtain ⟨r', k, rfl⟩ : ∃ (r' : Fin 512) (k : Fin 1024), x = ix2 r' k := ⟨_, _, eq_ix2 x⟩
    obtain rfl : r = r' := Fin.ext e0
    exact (pay2 m c t r k).trans (ref_second _ _ _ _ _ _ k l e1).symm
  · obtain ⟨r', k, rfl⟩ : ∃ (r' : Fin 512) (k : Fin 1024), x = ix2 r' k := ⟨_, _, eq_ix2 x⟩
    obtain rfl : r = r' := Fin.ext e0
    exact (pay1 m c t r k).trans (ref_first _ _ _ _ _ _ k l e1).symm

end Cert.Kernel7Ideal.Gate

namespace Cert.GateForward

open Idealize.ShloMosaic Idealize.ShloMosaic.TcCoe Idealize.SL.Sem

/-- The reference ends and touches none of its arguments. -/
theorem reference_runs : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run (F := Ideal) m g)

/-- The call and the gated activations end with equal results. -/
theorem algebraic : Cert.algebraic_Kernel7Ideal_Reference7Ideal (hKernel7Ideal := Cert.Kernel7Ideal.Gen.facts) (hReference7Ideal := Cert.Reference7Ideal.Gen.facts) := by
  intro m g m' g' _ hag
  refine ⟨_, Cert.Kernel7Ideal.Value.run_blocks m g, ?_⟩
  refine (θ_run _ _ _).mono (fun _ h c => ?_) (Cert.Reference7Ideal.Value.run m' g')
  obtain ⟨r0, rest⟩ := h c
  obtain ⟨e0, e1, e2, e3, e4⟩ := hag c
  refine ⟨r0.trans ?_, rest⟩
  refine (Cert.Reference7Ideal.Read.val_main_v9_eq _ _ _ _ _).trans ?_
  rw [e0, e1, e2, e3, e4]
  exact (Cert.Kernel7Ideal.Gate.final5 m c).symm

end Cert.GateForward

end
-- ==== Proof.LatentReads.lean ====
module

public import proofs.«01_k».proof.Proof.Gen.Kernel8Ideal.Frame
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim
public import Idealize.ShloMosaic.Lib.StableHlo.ReadAt
public import proofs.«01_k».proof.Defs
public import proofs.«01_k».proof.Proof.Gen.Reference8Ideal

@[expose] public section

set_option maxRecDepth 16384

noncomputable section

namespace Cert.Kernel8Ideal.Latent

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 8] ∧ win0_1.index t = ![t.val, 18] ∧ win0_2.index t = ![t.val, 38] ∧ win0_3.index t = ![0, 0] ∧ win0_4.index t = ![0, 0]
    ∧ win0_5.index t = ![0, 0] ∧ win0_6.index t = ![0, 0] ∧ win0_7.index t = ![t.val, 0] ∧ win0_8.index t = ![t.val, 0] ∧ win0_9.index t = ![t.val, 0] ∧ win0_10.index t = ![0, 0]
    ∧ win0_11.index t = ![0, 0] ∧ win0_12.index t = ![0, 0] ∧ win0_13.index t = ![0, 0] ∧ win0_14.index t = ![t.val, 0] ∧ win0_15.index t = ![t.val, 0] ∧ win0_16.index t = ![t.val, 0]
    ∧ win0_17.index t = ![t.val, 0] ∧ win0_18.index t = ![0, t.val, 0] ∧ win0_19.index t = ![0, t.val, 0] ∧ win0_20.index t = ![0, t.val, 0] :=
  (by decide +kernel : ∀ t : Fin grid0.N, _)

/-- Row `r` of block `t` as a row of the whole array. -/
def row (t : Fin cfg0.N) (r : Fin 512) : Fin 4096 := ⟨t.val * 512 + r.val, by have := t.isLt; have : cfg0.N = 8 := N_0; omega⟩

abbrev a0 (c : Dev nD) : FVec Ideal S1x4096x512 .f32 := m ((c : Thread nD τ).loc main_arg0)
abbrev a1 (c : Dev nD) : FVec Ideal S1x4096x256 .f32 := m ((c : Thread nD τ).loc main_arg1)
abbrev a2 (c : Dev nD) : FVec Ideal S1x4096x64 .f32 := m ((c : Thread nD τ).loc main_arg2)
abbrev a3 (c : Dev nD) : FVec Ideal S1x4096x1x32 .f32 := m ((c : Thread nD τ).loc main_arg3)
abbrev a4 (c : Dev nD) : FVec Ideal S1x4096x1x32 .f32 := m ((c : Thread nD τ).loc main_arg4)
abbrev a5 (c : Dev nD) : FVec Ideal S512 .f32 := m ((c : Thread nD τ).loc main_arg5)
abbrev a6 (c : Dev nD) : FVec Ideal S512x1536 .f32 := m ((c : Thread nD τ).loc main_arg6)
abbrev a7 (c : Dev nD) : FVec Ideal S256 .f32 := m ((c : Thread nD τ).loc main_arg7)
abbrev a8 (c : Dev nD) : FVec Ideal S256x2048 .f32 := m ((c : Thread nD τ).loc main_arg8)
abbrev a9 (c : Dev nD) : FVec Ideal S192 .f32 := m ((c : Thread nD τ).loc main_arg9)
abbrev a10 (c : Dev nD) : FVec Ideal S192 .f32 := m ((c : Thread nD τ).loc main_arg10)

theorem pad_zero : (FloatOps.sitofp FTy.f32 0#32 : Ideal .f32) = (0 : EReal) := by
  show (((0#32 : BitVec 32).toInt : ℝ) : EReal) = _
  simp

theorem zero_bits : Ideal.ofBits FTy.f32 0x00000000#32 = (0 : EReal) := by
  simp [Ideal.ofBits, Ideal.ieee, -EReal.coe_mul]

theorem r5 (c : Dev nD) (R : Fin 4096) (k : Fin 512) : (V m c main_v5 : FVec Ideal S4096x5120 .f32) (ix2 R ⟨4096 + k.val, by omega⟩) = (a0 m c (ix3 0 R k) : EReal) := by
  unfold V
  after_reads_at
  repeat' split
  all_goals first | omega | exact pad_zero | (after_reads_at; done) | (after_reads_at; first | rfl | exact zero_bits | (simp only [Nat.add_sub_cancel_left]; done) | (refine congrArg _ (congrArg _ (Fin.ext ?_)); simp only []; omega))

theorem r5b (c : Dev nD) (R : Fin 4096) (k : Fin 256) : (V m c main_v5 : FVec Ideal S4096x5120 .f32) (ix2 R ⟨4608 + k.val, by omega⟩) = (a1 m c (ix3 0 R k) : EReal) := by
  unfold V
  after_reads_at
  rw [dif_neg (by omega), dif_neg (by omega), dif_pos (by omega)]
  after_reads_at
  have e : ∀ q : Fin 256, q = k → a1 m c (ix3 0 R q) = a1 m c (ix3 0 R k) := fun q h => h ▸ rfl
  exact e _ (Fin.ext (by simp only []; omega))

theorem r5c (c : Dev nD) (R : Fin 4096) (l : Fin 128) : (V m c main_v5 : FVec Ideal S4096x5120 .f32) (ix2 R ⟨4864 + l.val, by omega⟩) = (if h : l.val < 64 then a2 m c (ix3 0 R ⟨l.val, h⟩) else 0 : EReal) := by
  unfold V
  after_reads_at
  rw [dif_neg (by omega), dif_neg (by omega), dif_neg (by omega)]
  by_cases hl : l.val < 64
  · rw [dif_pos (by omega), dif_pos hl]
    after_reads_at
    have e : ∀ q : Fin 64, q = ⟨l.val, hl⟩ → a2 m c (ix3 0 R q) = a2 m c (ix3 0 R ⟨l.val, hl⟩) := fun q h => h ▸ rfl
    exact e _ (Fin.ext (by simp only []; omega))
  · rw [dif_neg (by omega), dif_neg hl]
    after_reads_at

theorem r20 (c : Dev nD) (k : Fin 512) (h : Fin 8) (l : Fin 128) : (V m c main_v20 : FVec Ideal S512x2048 .bf16) (ix2 k ⟨h.val * 128 + l.val, by omega⟩) = (a6 m c (ix2 k ⟨h.val * 192 + l.val, by omega⟩) : EReal) := by
  unfold V
  after_reads_at
  repeat' split
  all_goals first | omega | exact pad_zero | (after_reads_at; done) | (after_reads_at; first | rfl | exact zero_bits | (simp only [Nat.add_sub_cancel_left]; done) | (refine congrArg _ (congrArg _ (Fin.ext ?_)); simp only []; omega))

theorem r20b (c : Dev nD) (k : Fin 512) (h : Fin 8) (l : Fin 128) : (V m c main_v20 : FVec Ideal S512x2048 .bf16) (ix2 k ⟨1024 + h.val * 128 + l.val, by omega⟩) = (if hl : l.val < 64 then a6 m c (ix2 k ⟨h.val * 192 + 128 + l.val, by omega⟩) else 0 : EReal) := by
  have h1 : 1024 + h.val * 128 + l.val - 1024 = h.val * 128 + l.val := by omega
  have h2 : (h.val * 128 + l.val) / 128 = h.val := by omega
  have h3 : (h.val * 128 + l.val) % 128 = l.val := by omega
  have h4 : h.val * 192 + 128 + l.val = h.val * 192 + (128 + l.val) := Nat.add_assoc _ _ _
  unfold V
  after_reads_at
  split
  · omega
  · after_reads_at
    simp only [h1, h2, h3, h4, h.isLt, true_and]
    split_ifs with hl
    all_goals first | exact pad_zero | rfl

theorem r21 (c : Dev nD) (k : Fin 256) (n : Fin 2048) : (V m c main_v21 : FVec Ideal S256x2048 .bf16) (ix2 k n) = (a8 m c (ix2 k n) : EReal) := by
  unfold V
  after_reads_at

theorem r22 (c : Dev nD) (k : Fin 512) : (V m c main_v22 : FVec Ideal S1x512 .f32) (ix2 0 k) = (a5 m c (ix1 k) : EReal) := by
  unfold V
  after_reads_at

theorem r23 (c : Dev nD) (k : Fin 256) : (V m c main_v23 : FVec Ideal S1x256 .f32) (ix2 0 k) = (a7 m c (ix1 k) : EReal) := by
  unfold V
  after_reads_at

theorem r25 (c : Dev nD) (k : Fin 128) : (V m c main_v25 : FVec Ideal S1x128 .f32) (ix2 0 k) = (a9 m c (ix1 ⟨k.val, by omega⟩) : EReal) := by
  unfold V
  after_reads_at

theorem r30 (c : Dev nD) (k : Fin 128) : (V m c main_v30 : FVec Ideal S1x128 .f32) (ix2 0 k) = (a10 m c (ix1 ⟨k.val, by omega⟩) : EReal) := by
  unfold V
  after_reads_at

theorem r28 (c : Dev nD) (k : Fin 128) : (V m c main_v28 : FVec Ideal S1x128 .f32) (ix2 0 k) = (if h : k.val < 64 then a9 m c (ix1 ⟨128 + k.val, by omega⟩) else 0 : EReal) := by
  unfold V
  after_reads_at
  repeat' split
  all_goals first | omega | exact pad_zero | (after_reads_at; done) | (after_reads_at; first | rfl | exact zero_bits | (simp only [Nat.add_sub_cancel_left]; done) | (refine congrArg _ (congrArg _ (Fin.ext ?_)); simp only []; omega))

theorem r33 (c : Dev nD) (k : Fin 128) : (V m c main_v33 : FVec Ideal S1x128 .f32) (ix2 0 k) = (if h : k.val < 64 then a10 m c (ix1 ⟨128 + k.val, by omega⟩) else 0 : EReal) := by
  unfold V
  after_reads_at
  repeat' split
  all_goals first | omega | exact pad_zero | (after_reads_at; done) | (after_reads_at; first | rfl | exact zero_bits | (simp only [Nat.add_sub_cancel_left]; done) | (refine congrArg _ (congrArg _ (Fin.ext ?_)); simp only []; omega))

theorem r9 (c : Dev nD) (R : Fin 4096) (l : Fin 128) : (V m c main_v9 : FVec Ideal S4096x128 .f32) (ix2 R l) = (if h : l.val < 32 then a3 m c (ix4 0 R 0 ⟨l.val, h⟩) else if h : l.val < 64 then a3 m c (ix4 0 R 0 ⟨l.val - 32, by omega⟩) else 0 : EReal) := by
  unfold V
  after_reads_at
  repeat' split
  all_goals first | omega | exact pad_zero | (after_reads_at; done) | (after_reads_at; first | rfl | exact zero_bits | (simp only [Nat.add_sub_cancel_left]; done) | (refine congrArg _ (congrArg _ (Fin.ext ?_)); simp only []; omega))

theorem r11 (c : Dev nD) (R : Fin 4096) (l : Fin 128) : (V m c main_v11 : FVec Ideal S4096x128 .f32) (ix2 R l) = (if h : l.val < 32 then - (a4 m c (ix4 0 R 0 ⟨l.val, h⟩) : EReal) else 0 : EReal) := by
  unfold V
  after_reads_at
  by_cases h : l.val < 32
  · rw [dif_pos h, dif_pos h]
    after_reads_at
  · rw [dif_neg h, dif_neg h]
    repeat' split
    all_goals after_reads_at

theorem r12 (c : Dev nD) (R : Fin 4096) (l : Fin 128) : (V m c main_v12 : FVec Ideal S4096x128 .f32) (ix2 R l) = (if h : l.val < 32 then 0 else if h : l.val < 64 then a4 m c (ix4 0 R 0 ⟨l.val - 32, by omega⟩) else 0 : EReal) := by
  unfold V
  after_reads_at
  by_cases h : l.val < 32
  · rw [dif_pos h, dif_pos h]
    after_reads_at
  · rw [dif_neg h, dif_neg h]
    by_cases h2 : l.val < 64
    · rw [dif_pos (by omega), dif_pos h2]
      after_reads_at
    · rw [dif_neg (by omega), dif_neg h2]
      repeat' split
      all_goals after_reads_at

theorem emb0 (t : Fin cfg0.N) (r : Fin 512) (k : Fin 512) : ((cfg0.win 0).blk t).view.emb (ix2 r k) = (ix2 (row t r) ⟨4096 + k.val, by omega⟩ : S4096x5120.Idx) := by
  blk_ext [row, idx t]

theorem blk0 (c : Dev nD) (t : Fin cfg0.N) (r : Fin 512) (k : Fin 512) : (iblk m c 0 t : FVec Ideal S512x512 .f32) (ix2 r k) = (a0 m c (ix3 0 (row t r) k) : EReal) := by
  refine Eq.trans (b := (V m c main_v5 : FVec Ideal S4096x5120 .f32) (((cfg0.win 0).blk t).view.emb (ix2 r k))) rfl ?_
  rw [emb0]
  exact r5 m c _ k

theorem emb1 (t : Fin cfg0.N) (r : Fin 512) (k : Fin 256) : ((cfg0.win 1).blk t).view.emb (ix2 r k) = (ix2 (row t r) ⟨4608 + k.val, by omega⟩ : S4096x5120.Idx) := by
  blk_ext [row, idx t]

theorem blk1 (c : Dev nD) (t : Fin cfg0.N) (r : Fin 512) (k : Fin 256) : (iblk m c 1 t : FVec Ideal S512x256 .f32) (ix2 r k) = (a1 m c (ix3 0 (row t r) k) : EReal) := by
  refine Eq.trans (b := (V m c main_v5 : FVec Ideal S4096x5120 .f32) (((cfg0.win 1).blk t).view.emb (ix2 r k))) rfl ?_
  rw [emb1]
  exact r5b m c _ k

theorem emb2 (t : Fin cfg0.N) (r : Fin 512) (k : Fin 128) : ((cfg0.win 2).blk t).view.emb (ix2 r k) = (ix2 (row t r) ⟨4864 + k.val, by omega⟩ : S4096x5120.Idx) := by
  blk_ext [row, idx t]

theorem blk2 (c : Dev nD) (t : Fin cfg0.N) (r : Fin 512) (k : Fin 128) : (iblk m c 2 t : FVec Ideal S512x128 .f32) (ix2 r k) = (if h : k.val < 64 then a2 m c (ix3 0 (row t r) ⟨k.val, h⟩) else 0 : EReal) := by
  refine Eq.trans (b := (V m c main_v5 : FVec Ideal S4096x5120 .f32) (((cfg0.win 2).blk t).view.emb (ix2 r k))) rfl ?_
  rw [emb2]
  exact r5c m c _ k

theorem emb3 (t : Fin cfg0.N) (k : Fin 512) (n : Fin 2048) : ((cfg0.win 3).blk t).view.emb (ix2 k n) = (ix2 k n : S512x2048.Idx) := by
  blk_ext [row, idx t]

theorem blk3 (c : Dev nD) (t : Fin cfg0.N) (k : Fin 512) (n : Fin 2048) : (iblk m c 3 t : FVec Ideal S512x2048 .bf16) (ix2 k n) = (V m c main_v20 : FVec Ideal S512x2048 .bf16) (ix2 k n) := by
  refine Eq.trans (b := (V m c main_v20 : FVec Ideal S512x2048 .bf16) (((cfg0.win 3).blk t).view.emb (ix2 k n))) rfl ?_
  rw [emb3]

theorem emb4 (t : Fin cfg0.N) (k : Fin 256) (n : Fin 2048) : ((cfg0.win 4).blk t).view.emb (ix2 k n) = (ix2 k n : S256x2048.Idx) := by
  blk_ext [row, idx t]

theorem blk4 (c : Dev nD) (t : Fin cfg0.N) (k : Fin 256) (n : Fin 2048) : (iblk m c 4 t : FVec Ideal S256x2048 .bf16) (ix2 k n) = (a8 m c (ix2 k n) : EReal) := by
  refine Eq.trans (b := (V m c main_v21 : FVec Ideal S256x2048 .bf16) (((cfg0.win 4).blk t).view.emb (ix2 k n))) rfl ?_
  rw [emb4]
  exact r21 m c k n

theorem emb5 (t : Fin cfg0.N) (k : Fin 512) : ((cfg0.win 5).blk t).view.emb (ix2 0 k) = (ix2 0 k : S1x512.Idx) := by
  blk_ext [row, idx t]

theorem blk5 (c : Dev nD) (t : Fin cfg0.N) (k : Fin 512) : (iblk m c 5 t : FVec Ideal S1x512 .f32) (ix2 0 k) = (a5 m c (ix1 k) : EReal) := by
  refine Eq.trans (b := (V m c main_v22 : FVec Ideal S1x512 .f32) (((cfg0.win 5).blk t).view.emb (ix2 0 k))) rfl ?_
  rw [emb5]
  exact r22 m c k

theorem emb6 (t : Fin cfg0.N) (k : Fin 256) : ((cfg0.win 6).blk t).view.emb (ix2 0 k) = (ix2 0 k : S1x256.Idx) := by
  blk_ext [row, idx t]

theorem blk6 (c : Dev nD) (t : Fin cfg0.N) (k : Fin 256) : (iblk m c 6 t : FVec Ideal S1x256 .f32) (ix2 0 k) = (a7 m c (ix1 k) : EReal) := by
  refine Eq.trans (b := (V m c main_v23 : FVec Ideal S1x256 .f32) (((cfg0.win 6).blk t).view.emb (ix2 0 k))) rfl ?_
  rw [emb6]
  exact r23 m c k

theorem emb7 (t : Fin cfg0.N) (r : Fin 512) (k : Fin 128) : ((cfg0.win 7).blk t).view.emb (ix2 r k) = (ix2 (row t r) k : S4096x128.Idx) := by
  blk_ext [row, idx t]

theorem blk7 (c : Dev nD) (t : Fin cfg0.N) (r : Fin 512) (k : Fin 128) : (iblk m c 7 t : FVec Ideal S512x128 .f32) (ix2 r k) = (if h : k.val < 32 then a3 m c (ix4 0 (row t r) 0 ⟨k.val, h⟩) else if h : k.val < 64 then a3 m c (ix4 0 (row t r) 0 ⟨k.val - 32, by omega⟩) else 0 : EReal) := by
  refine Eq.trans (b := (V m c main_v9 : FVec Ideal S4096x128 .f32) (((cfg0.win 7).blk t).view.emb (ix2 r k))) rfl ?_
  rw [emb7]
  exact r9 m c _ k

theorem emb8 (t : Fin cfg0.N) (r : Fin 512) (k : Fin 128) : ((cfg0.win 8).blk t).view.emb (ix2 r k) = (ix2 (row t r) k : S4096x128.Idx) := by
  blk_ext [row, idx t]

theorem blk8 (c : Dev nD) (t : Fin cfg0.N) (r : Fin 512) (k : Fin 128) : (iblk m c 8 t : FVec Ideal S512x128 .f32) (ix2 r k) = (if h : k.val < 32 then - (a4 m c (ix4 0 (row t r) 0 ⟨k.val, h⟩) : EReal) else 0 : EReal) := by
  refine Eq.trans (b := (V m c main_v11 : FVec Ideal S4096x128 .f32) (((cfg0.win 8).blk t).view.emb (ix2 r k))) rfl ?_
  rw [emb8]
  exact r11 m c _ k

theorem emb9 (t : Fin cfg0.N) (r : Fin 512) (k : Fin 128) : ((cfg0.win 9).blk t).view.emb (ix2 r k) = (ix2 (row t r) k : S4096x128.Idx) := by
  blk_ext [row, idx t]

theorem blk9 (c : Dev nD) (t : Fin cfg0.N) (r : Fin 512) (k : Fin 128) : (iblk m c 9 t : FVec Ideal S512x128 .f32) (ix2 r k) = (if h : k.val < 32 then 0 else if h : k.val < 64 then a4 m c (ix4 0 (row t r) 0 ⟨k.val - 32, by omega⟩) else 0 : EReal) := by
  refine Eq.trans (b := (V m c main_v12 : FVec Ideal S4096x128 .f32) (((cfg0.win 9).blk t).view.emb (ix2 r k))) rfl ?_
  rw [emb9]
  exact r12 m c _ k

theorem emb10 (t : Fin cfg0.N) (k : Fin 128) : ((cfg0.win 10).blk t).view.emb (ix2 0 k) = (ix2 0 k : S1x128.Idx) := by
  blk_ext [row, idx t]

theorem blk10 (c : Dev nD) (t : Fin cfg0.N) (k : Fin 128) : (iblk m c 10 t : FVec Ideal S1x128 .f32) (ix2 0 k) = (a9 m c (ix1 ⟨k.val, by omega⟩) : EReal) := by
  refine Eq.trans (b := (V m c main_v25 : FVec Ideal S1x128 .f32) (((cfg0.win 10).blk t).view.emb (ix2 0 k))) rfl ?_
  rw [emb10]
  exact r25 m c k

theorem emb11 (t : Fin cfg0.N) (k : Fin 128) : ((cfg0.win 11).blk t).view.emb (ix2 0 k) = (ix2 0 k : S1x128.Idx) := by
  blk_ext [row, idx t]

theorem blk11 (c : Dev nD) (t : Fin cfg0.N) (k : Fin 128) : (iblk m c 11 t : FVec Ideal S1x128 .f32) (ix2 0 k) = (if h : k.val < 64 then a9 m c (ix1 ⟨128 + k.val, by omega⟩) else 0 : EReal) := by
  refine Eq.trans (b := (V m c main_v28 : FVec Ideal S1x128 .f32) (((cfg0.win 11).blk t).view.emb (ix2 0 k))) rfl ?_
  rw [emb11]
  exact r28 m c k

theorem emb12 (t : Fin cfg0.N) (k : Fin 128) : ((cfg0.win 12).blk t).view.emb (ix2 0 k) = (ix2 0 k : S1x128.Idx) := by
  blk_ext [row, idx t]

theorem blk12 (c : Dev nD) (t : Fin cfg0.N) (k : Fin 128) : (iblk m c 12 t : FVec Ideal S1x128 .f32) (ix2 0 k) = (a10 m c (ix1 ⟨k.val, by omega⟩) : EReal) := by
  refine Eq.trans (b := (V m c main_v30 : FVec Ideal S1x128 .f32) (((cfg0.win 12).blk t).view.emb (ix2 0 k))) rfl ?_
  rw [emb12]
  exact r30 m c k

theorem emb13 (t : Fin cfg0.N) (k : Fin 128) : ((cfg0.win 13).blk t).view.emb (ix2 0 k) = (ix2 0 k : S1x128.Idx) := by
  blk_ext [row, idx t]

theorem blk13 (c : Dev nD) (t : Fin cfg0.N) (k : Fin 128) : (iblk m c 13 t : FVec Ideal S1x128 .f32) (ix2 0 k) = (if h : k.val < 64 then a10 m c (ix1 ⟨128 + k.val, by omega⟩) else 0 : EReal) := by
  refine Eq.trans (b := (V m c main_v33 : FVec Ideal S1x128 .f32) (((cfg0.win 13).blk t).view.emb (ix2 0 k))) rfl ?_
  rw [emb13]
  exact r33 m c k

theorem emb14 (t : Fin cfg0.N) (r : Fin 512) (k : Fin 512) : ((cfg0.win 14).blk t).view.emb (ix2 r k) = (ix2 (row t r) k : S4096x512.Idx) := by
  blk_ext [row, idx t]

theorem emb15 (t : Fin cfg0.N) (r : Fin 512) (k : Fin 256) : ((cfg0.win 15).blk t).view.emb (ix2 r k) = (ix2 (row t r) k : S4096x256.Idx) := by
  blk_ext [row, idx t]

theorem emb16 (t : Fin cfg0.N) (r : Fin 512) (k : Fin 2048) : ((cfg0.win 16).blk t).view.emb (ix2 r k) = (ix2 (row t r) k : S4096x2048.Idx) := by
  blk_ext [row, idx t]

theorem emb17 (t : Fin cfg0.N) (r : Fin 512) (k : Fin 2048) : ((cfg0.win 17).blk t).view.emb (ix2 r k) = (ix2 (row t r) k : S4096x2048.Idx) := by
  blk_ext [row, idx t]

theorem emb18 (t : Fin cfg0.N) (h : Fin 8) (r : Fin 512) (l : Fin 256) : ((cfg0.win 18).blk t).view.emb (ix3 h r l) = (ix3 h (row t r) l : S8x4096x256.Idx) := by
  blk_ext [row, idx t]

theorem emb19 (t : Fin cfg0.N) (h : Fin 8) (r : Fin 512) (l : Fin 256) : ((cfg0.win 19).blk t).view.emb (ix3 h r l) = (ix3 h (row t r) l : S8x4096x256.Idx) := by
  blk_ext [row, idx t]

theorem emb20 (t : Fin cfg0.N) (h : Fin 8) (r : Fin 512) (l : Fin 256) : ((cfg0.win 20).blk t).view.emb (ix3 h r l) = (ix3 h (row t r) l : S8x4096x256.Idx) := by
  blk_ext [row, idx t]

end Cert.Kernel8Ideal.Latent

end
-- ==== Proof.LatentK.lean ====
module

public import proofs.«01_k».proof.Proof.LatentReads
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.StableHlo.ReadAt
public import proofs.«01_k».proof.Defs
public import proofs.«01_k».proof.Proof.Gen.Reference8Ideal

@[expose] public section

set_option maxRecDepth 16384

noncomputable section

namespace Cert.Kernel8Ideal.Latent

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- One over the root of the mean square of a row cut in two pieces, the second one padded with zeros. -/
def rs (n p : Fin 128 → EReal) : EReal :=
  Ideal.rsqrt ((∑ j, n j * n j + ∑ j, p j * p j) * (Named.named (F := Ideal) (φ := .f32) κ "per_head" 1001040555#32 : Ideal .f32) + Ideal.ofBits FTy.f32 897988541#32)

/-- The first piece, normed. -/
def nope (n p g : Fin 128 → EReal) (l : Fin 128) : EReal := n l * rs n p * g l

/-- The second piece, normed and turned. -/
def turn (n p g c s s' : Fin 128 → EReal) (l : Fin 128) : EReal :=
  p l * rs n p * g l * c l + p ⟨(l.val + 128 - 96) % 128, Nat.mod_lt _ (by decide)⟩ * rs n p * g ⟨(l.val + 128 - 96) % 128, Nat.mod_lt _ (by decide)⟩ * s l
    + p ⟨(l.val + 128 - 32) % 128, Nat.mod_lt _ (by decide)⟩ * rs n p * g ⟨(l.val + 128 - 32) % 128, Nat.mod_lt _ (by decide)⟩ * s' l

/-- The 128 columns of `X` from column `o` on. -/
def cut (X : FVec Ideal S512x2048 .f32) (o : ℕ) (ho : o + 128 ≤ 2048) : FVec Ideal S512x128 .f32 := fun y => X (ix2 (y 0) ⟨o + (y 1).val, by have := (y 1).isLt; have e : S512x128.size 1 = 128 := rfl; omega⟩)

theorem rd {σ : Space} (V : View sig .tc σ S512x2048 .f32) (X : FVec Ideal S512x2048 .f32) (o : ℕ) (i0 : ∀ a, (![0, 0] : Fin 2 → ℕ) a + (![512, 2048] : Fin 2 → ℕ) a ≤ S512x2048.size a)
    (i1 : ∀ a, (![0, o] : Fin 2 → ℕ) a + (![512, 128] : Fin 2 → ℕ) a ≤ S512x2048.size a) :
    V.readCov (Val := Elt Ideal) [⟨Rect.unit ![0, 0] ![512, 2048] i0, X⟩] (Rect.unit (s := S512x2048) ![0, o] ![512, 128] i1).toLoadRect = cut X o (i1 1) := by
  have hz : ∀ a : Fin 2, (![0, 0] : Fin 2 → ℕ) a = 0 := fun a => by fin_cases a <;> rfl
  rw [View.readCov_eq_canon', View.canon_cons_unit_lit _ _ _ hz]
  funext y
  refine congrArg X (funext fun a => Fin.ext ?_)
  fin_cases a
  · show 0 + 1 * (y 0).val = (y 0).val
    omega
  · show o + 1 * (y 1).val = o + (y 1).val
    omega

set_option maxHeartbeats 1600000 in
theorem k18 (c : Dev nD) (t : Fin cfg0.N) (h : Fin 8) (r : Fin 512) (l : Fin 256) (X : FVec Ideal S512x2048 .f32)
    (hX : k0_pay5 (k0_pay4 (iblk m c 0 t) (iblk m c 5 t)) (iblk m c 3 t) = X) :
    (((outsAt0 m c t).2.2.2.2.1 : FVec Ideal S8x512x256 .bf16) (ix3 h r l) : EReal) =
      if hl : l.val < 128 then nope (fun j => X (ix2 r ⟨h.val * 128 + j.val, by omega⟩)) (fun j => X (ix2 r ⟨1024 + h.val * 128 + j.val, by omega⟩)) (fun j => (iblk m c 10 t : FVec Ideal S1x128 .f32) (ix2 0 j)) ⟨l.val, hl⟩ * Ideal.ofBits FTy.f32 1037384597#32
      else turn (fun j => X (ix2 r ⟨h.val * 128 + j.val, by omega⟩)) (fun j => X (ix2 r ⟨1024 + h.val * 128 + j.val, by omega⟩)) (fun j => (iblk m c 11 t : FVec Ideal S1x128 .f32) (ix2 0 j)) (fun j => (iblk m c 7 t : FVec Ideal S512x128 .f32) (ix2 r j)) (fun j => (iblk m c 8 t : FVec Ideal S512x128 .f32) (ix2 r j)) (fun j => (iblk m c 9 t : FVec Ideal S512x128 .f32) (ix2 r j)) ⟨l.val - 128, by omega⟩ * Ideal.ofBits FTy.f32 1037384597#32 := by
  unfold outsAt0
  frame_out
  rw [hX]
  clear hX
  canon_tiles x e
  all_goals
    obtain ⟨r', l', rfl⟩ : ∃ (r' : Fin 512) (l' : Fin 128), x = ix3 0 r' l' := ⟨x 1, x 2, by rw [eq_ix3 x]; exact congrArg (fun a => ix3 a (x 1) (x 2)) (Subsingleton.elim (α := Fin 1) _ _)⟩
    obtain rfl : r = r' := Fin.ext e1
    obtain ⟨hv, hlt⟩ := h
    obtain ⟨lv, llt⟩ := l
    obtain rfl : hv = _ := e0.trans (Nat.add_zero _)
    clear e0 e1 x0_lt x1_lt x2_lt
    first
    | (obtain rfl : lv = 128 + l'.val := e2
       rw [dif_neg (by simp only []; omega)]
       try simp only [Nat.add_sub_cancel_left, rd]
       pointwise [k0_pay1, k0_pay2, k0_pay3, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
       try first | rfl | (show (1 : EReal) = _; simp; done) | (simp only [cut, nope, turn, rs, Nat.zero_add]; rfl))
    | (obtain rfl : lv = l'.val := e2
       rw [dif_pos (by simp only []; omega)]
       try simp only [Nat.add_sub_cancel_left, rd]
       pointwise [k0_pay1, k0_pay2, k0_pay3, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
       try first | rfl | (show (1 : EReal) = _; simp; done) | (simp only [cut, nope, turn, rs, Nat.zero_add]; rfl))

set_option maxHeartbeats 1600000 in
theorem k19 (c : Dev nD) (t : Fin cfg0.N) (h : Fin 8) (r : Fin 512) (l : Fin 256) (X : FVec Ideal S512x2048 .f32)
    (hX : k0_pay8 (k0_pay7 (k0_pay6 (iblk m c 1 t)) (iblk m c 6 t)) (iblk m c 4 t) = X) :
    (((outsAt0 m c t).2.2.2.2.2.1 : FVec Ideal S8x512x256 .bf16) (ix3 h r l) : EReal) =
      if hl : l.val < 128 then nope (fun j => X (ix2 r ⟨h.val * 256 + j.val, by omega⟩)) (fun j => (iblk m c 2 t : FVec Ideal S512x128 .f32) (ix2 r j)) (fun j => (iblk m c 12 t : FVec Ideal S1x128 .f32) (ix2 0 j)) ⟨l.val, hl⟩
      else turn (fun j => X (ix2 r ⟨h.val * 256 + j.val, by omega⟩)) (fun j => (iblk m c 2 t : FVec Ideal S512x128 .f32) (ix2 r j)) (fun j => (iblk m c 13 t : FVec Ideal S1x128 .f32) (ix2 0 j)) (fun j => (iblk m c 7 t : FVec Ideal S512x128 .f32) (ix2 r j)) (fun j => (iblk m c 8 t : FVec Ideal S512x128 .f32) (ix2 r j)) (fun j => (iblk m c 9 t : FVec Ideal S512x128 .f32) (ix2 r j)) ⟨l.val - 128, by omega⟩ := by
  unfold outsAt0
  frame_out
  rw [hX]
  clear hX
  canon_tiles x e
  all_goals
    obtain ⟨r', l', rfl⟩ : ∃ (r' : Fin 512) (l' : Fin 128), x = ix3 0 r' l' := ⟨x 1, x 2, by rw [eq_ix3 x]; exact congrArg (fun a => ix3 a (x 1) (x 2)) (Subsingleton.elim (α := Fin 1) _ _)⟩
    obtain rfl : r = r' := Fin.ext e1
    obtain ⟨hv, hlt⟩ := h
    obtain ⟨lv, llt⟩ := l
    obtain rfl : hv = _ := e0.trans (Nat.add_zero _)
    clear e0 e1 x0_lt x1_lt x2_lt
    first
    | (obtain rfl : lv = 128 + l'.val := e2
       rw [dif_neg (by simp only []; omega)]
       try simp only [Nat.add_sub_cancel_left, rd]
       pointwise [k0_pay1, k0_pay2, k0_pay3, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
       try first | rfl | (show (1 : EReal) = _; simp; done) | (simp only [cut, nope, turn, rs, Nat.zero_add]; rfl))
    | (obtain rfl : lv = l'.val := e2
       rw [dif_pos (by simp only []; omega)]
       try simp only [Nat.add_sub_cancel_left, rd]
       pointwise [k0_pay1, k0_pay2, k0_pay3, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
       try first | rfl | (show (1 : EReal) = _; simp; done) | (simp only [cut, nope, turn, rs, Nat.zero_add]; rfl))

set_option maxHeartbeats 1600000 in
theorem k20 (c : Dev nD) (t : Fin cfg0.N) (h : Fin 8) (r : Fin 512) (l : Fin 256) (X : FVec Ideal S512x2048 .f32)
    (hX : k0_pay8 (k0_pay7 (k0_pay6 (iblk m c 1 t)) (iblk m c 6 t)) (iblk m c 4 t) = X) :
    (((outsAt0 m c t).2.2.2.2.2.2 : FVec Ideal S8x512x256 .bf16) (ix3 h r l) : EReal) =
      if hl : l.val < 128 then X (ix2 r ⟨h.val * 256 + 128 + l.val, by omega⟩) else Ideal.ofBits FTy.bf16 0x3F80#16 := by
  unfold outsAt0
  frame_out
  rw [hX]
  clear hX
  canon_tiles x e
  all_goals
    obtain ⟨r', l', rfl⟩ : ∃ (r' : Fin 512) (l' : Fin 128), x = ix3 0 r' l' := ⟨x 1, x 2, by rw [eq_ix3 x]; exact congrArg (fun a => ix3 a (x 1) (x 2)) (Subsingleton.elim (α := Fin 1) _ _)⟩
    obtain rfl : r = r' := Fin.ext e1
    obtain ⟨hv, hlt⟩ := h
    obtain ⟨lv, llt⟩ := l
    obtain rfl : hv = _ := e0.trans (Nat.add_zero _)
    clear e0 e1 x0_lt x1_lt x2_lt
    first
    | (obtain rfl : lv = 128 + l'.val := e2
       rw [dif_neg (by simp only []; omega)]
       try simp only [Nat.add_sub_cancel_left, rd]
       pointwise [k0_pay1, k0_pay2, k0_pay3, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
       try first | rfl | (show (1 : EReal) = _; simp; done) | (simp only [cut, nope, turn, rs, Nat.zero_add]; rfl))
    | (obtain rfl : lv = l'.val := e2
       rw [dif_pos (by simp only []; omega)]
       try simp only [Nat.add_sub_cancel_left, rd]
       pointwise [k0_pay1, k0_pay2, k0_pay3, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]
       try first | rfl | (show (1 : EReal) = _; simp; done) | (simp only [cut, nope, turn, rs, Nat.zero_add]; rfl))

end Cert.Kernel8Ideal.Latent

end
-- ==== Proof.LatentRef.lean ====
module

public import proofs.«01_k».proof.Proof.LatentReads
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.StableHlo.ReadAt
public import proofs.«01_k».proof.Defs
public import proofs.«01_k».proof.Proof.Gen.Reference8Ideal

@[expose] public section

set_option maxRecDepth 16384

noncomputable section

namespace Cert.Kernel8Ideal.Latent

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- A row over the root of its mean square, scaled. -/
def normRow (n : ℕ) (w : EReal) (x g : Fin n → EReal) (k : Fin n) : EReal :=
  x k * Ideal.rsqrt (Ideal.div (∑ j, x j * x j) w + Ideal.ofBits FTy.f32 897988541#32) * g k

/-- The last 64 entries turned in pairs. -/
def rotated (y : Fin 192 → EReal) (c s : Fin 32 → EReal) (d : Fin 192) : EReal :=
  if h1 : d.val < 128 then y d
  else if h2 : d.val < 160 then y ⟨d.val, by omega⟩ * c ⟨d.val - 128, by omega⟩ - y ⟨d.val + 32, by omega⟩ * s ⟨d.val - 128, by omega⟩
  else y ⟨d.val, by omega⟩ * c ⟨d.val - 160, by omega⟩ + y ⟨d.val - 32, by omega⟩ * s ⟨d.val - 160, by omega⟩

open Cert.Reference8Ideal.Read

theorem f12 (x0 : FVec Ideal S1x4096x512 .f32) (x5 : FVec Ideal S512 .f32) (R : Fin 4096) (k : Fin 512) :
    (val_main_v12 (F := Ideal) x0 x5 (ix3 0 R k) : EReal) = normRow 512 (Ideal.ofBits FTy.f32 0x44000000#32) (fun k => x0 (ix3 0 R k)) (fun k => x5 (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11]
  rfl

theorem f25 (x1 : FVec Ideal S1x4096x256 .f32) (x7 : FVec Ideal S256 .f32) (R : Fin 4096) (k : Fin 256) :
    (val_main_v25 (F := Ideal) x1 x7 (ix3 0 R k) : EReal) = normRow 256 (Ideal.ofBits FTy.f32 0x43800000#32) (fun k => x1 (ix3 0 R k)) (fun k => x7 (ix1 k)) k := by
  pointwise [val_main_v25, val_main_v24, val_main_v23, val_main_v22, val_main_v21, val_main_v20, val_main_v19, val_main_v18, val_main_v17, val_main_v16, val_main_v15, val_main_v14, val_main_v13, val_main_cst, val_main_cst_0, val_main_cst_1, val_main_cst_2, val_main_cst_3, val_main_cst_4, val_main_cst_5, val_main_cst_6, val_main_cst_7, val_main_cst_8, val_main_cst_9, val_main_cst_10, val_main_cst_11]
  rfl

theorem f26 (x0 : FVec Ideal S1x4096x512 .f32) (x5 : FVec Ideal S512 .f32) (x6 : FVec Ideal S512x1536 .f32) (R : Fin 4096) (n : Fin 1536) :
    (val_main_v26 (F := Ideal) x0 x5 x6 (ix3 0 R n) : EReal) = ∑ k : Fin 512, val_main_v12 (F := Ideal) x0 x5 (ix3 0 R k) * x6 (ix2 k n) := by
  pointwise [val_main_v26]
  try rfl

theorem f27 (x1 : FVec Ideal S1x4096x256 .f32) (x7 : FVec Ideal S256 .f32) (x8 : FVec Ideal S256x2048 .f32) (R : Fin 4096) (n : Fin 2048) :
    (val_main_v27 (F := Ideal) x1 x7 x8 (ix3 0 R n) : EReal) = ∑ k : Fin 256, val_main_v25 (F := Ideal) x1 x7 (ix3 0 R k) * x8 (ix2 k n) := by
  pointwise [val_main_v27]
  try rfl

theorem f34 (x0 : FVec Ideal S1x4096x512 .f32) (x5 : FVec Ideal S512 .f32) (x6 : FVec Ideal S512x1536 .f32) (R : Fin 4096) (h : Fin 8) (d : Fin 192) :
    (val_main_v34 (F := Ideal) x0 x5 x6 (ix4 0 R h d) : EReal) = val_main_v26 (F := Ideal) x0 x5 x6 (ix3 0 R ⟨h.val * 192 + d.val, by omega⟩) := by
  rw [val_main_v34_apply]
  refine congrArg (val_main_v26 (F := Ideal) x0 x5 x6) (funext fun a => Fin.ext ?_)
  fin_cases a
  · rfl
  · show (((0 * 4096 + R.val) * 8 + h.val) * 192 + d.val) / 1536 % 4096 = R.val
    omega
  · show (((0 * 4096 + R.val) * 8 + h.val) * 192 + d.val) % 1536 = h.val * 192 + d.val
    omega

theorem f28 (x1 : FVec Ideal S1x4096x256 .f32) (x7 : FVec Ideal S256 .f32) (x8 : FVec Ideal S256x2048 .f32) (R : Fin 4096) (h : Fin 8) (d : Fin 256) :
    (val_main_v28 (F := Ideal) x1 x7 x8 (ix4 0 R h d) : EReal) = val_main_v27 (F := Ideal) x1 x7 x8 (ix3 0 R ⟨h.val * 256 + d.val, by omega⟩) := by
  rw [val_main_v28_apply]
  refine congrArg (val_main_v27 (F := Ideal) x1 x7 x8) (funext fun a => Fin.ext ?_)
  fin_cases a
  · rfl
  · show (((0 * 4096 + R.val) * 8 + h.val) * 256 + d.val) / 2048 % 4096 = R.val
    omega
  · show (((0 * 4096 + R.val) * 8 + h.val) * 256 + d.val) % 2048 = h.val * 256 + d.val
    omega

theorem f33 (x1 : FVec Ideal S1x4096x256 .f32) (x2 : FVec Ideal S1x4096x64 .f32) (x7 : FVec Ideal S256 .f32) (x8 : FVec Ideal S256x2048 .f32) (R : Fin 4096) (h : Fin 8) (d : Fin 192) :
    (val_main_v33 (F := Ideal) x1 x2 x7 x8 (ix4 0 R h d) : EReal) = if h1 : d.val < 128 then val_main_v27 (F := Ideal) x1 x7 x8 (ix3 0 R ⟨h.val * 256 + d.val, by omega⟩) else x2 (ix3 0 R ⟨d.val - 128, by omega⟩) := by
  unfold val_main_v33
  by_cases h1 : d.val < 128
  · rw [dif_pos h1]
    refine (concatenate_apply_piece 3 _ _ (ix4 0 R h d) 0 (by simp) Cert.Reference8Ideal.S1x4096x8x128 (val_main_v29 (F := Ideal) x1 x7 x8) rfl rfl 0 rfl (ix4 0 R h ⟨d.val, h1⟩) (fun b hb => by fin_cases b <;> first | rfl | exact absurd rfl hb) (by show 0 + d.val = d.val; omega)).trans ?_
    rw [val_main_v29_apply]
    exact f28 x1 x7 x8 R h ⟨d.val, by omega⟩
  · rw [dif_neg h1]
    refine (concatenate_apply_piece 3 _ _ (ix4 0 R h d) 1 (by simp) Cert.Reference8Ideal.S1x4096x8x64 (val_main_v32 (F := Ideal) x2) rfl rfl 128 rfl (ix4 0 R h ⟨d.val - 128, by omega⟩) (fun b hb => by fin_cases b <;> first | rfl | exact absurd rfl hb) (by show 128 + (d.val - 128) = d.val; omega)).trans ?_
    pointwise [val_main_v32, val_main_v31]
    try rfl

theorem f47 (x0 : FVec Ideal S1x4096x512 .f32) (x5 : FVec Ideal S512 .f32) (x6 : FVec Ideal S512x1536 .f32) (x9 : FVec Ideal S192 .f32) (R : Fin 4096) (h : Fin 8) (d : Fin 192) :
    (val_main_v47 (F := Ideal) x0 x5 x6 x9 (ix4 0 R h d) : EReal) = normRow 192 (Ideal.ofBits FTy.f32 0x43400000#32) (fun d => val_main_v34 (F := Ideal) x0 x5 x6 (ix4 0 R h d)) (fun d => x9 (ix1 d)) d := by
  pointwise [val_main_v47, val_main_v46, val_main_v45, val_main_v44, val_main_v43, val_main_v42, val_main_v41, val_main_v40, val_main_v39, val_main_v38, val_main_v37, val_main_v36, val_main_v35, val_main_cst, val_main_cst_0, val_main_cst_1, val_main_cst_2, val_main_cst_3, val_main_cst_4, val_main_cst_5, val_main_cst_6, val_main_cst_7, val_main_cst_8, val_main_cst_9, val_main_cst_10, val_main_cst_11]
  rfl

theorem f86 (x1 : FVec Ideal S1x4096x256 .f32) (x2 : FVec Ideal S1x4096x64 .f32) (x7 : FVec Ideal S256 .f32) (x8 : FVec Ideal S256x2048 .f32) (x10 : FVec Ideal S192 .f32) (R : Fin 4096) (h : Fin 8) (d : Fin 192) :
    (val_main_v86 (F := Ideal) x1 x2 x7 x8 x10 (ix4 0 R h d) : EReal) = normRow 192 (Ideal.ofBits FTy.f32 0x43400000#32) (fun d => val_main_v33 (F := Ideal) x1 x2 x7 x8 (ix4 0 R h d)) (fun d => x10 (ix1 d)) d := by
  pointwise [val_main_v86, val_main_v85, val_main_v84, val_main_v83, val_main_v82, val_main_v81, val_main_v80, val_main_v79, val_main_v78, val_main_v77, val_main_v76, val_main_v75, val_main_v74, val_main_cst, val_main_cst_0, val_main_cst_1, val_main_cst_2, val_main_cst_3, val_main_cst_4, val_main_cst_5, val_main_cst_6, val_main_cst_7, val_main_cst_8, val_main_cst_9, val_main_cst_10, val_main_cst_11]
  rfl

theorem f62 (x0 : FVec Ideal S1x4096x512 .f32) (x3 x4 : FVec Ideal S1x4096x1x32 .f32) (x5 : FVec Ideal S512 .f32) (x6 : FVec Ideal S512x1536 .f32) (x9 : FVec Ideal S192 .f32) (R : Fin 4096) (h : Fin 8) (d : Fin 192) :
    (val_main_v62 (F := Ideal) x0 x3 x4 x5 x6 x9 (ix4 0 R h d) : EReal) = rotated (fun d => val_main_v47 (F := Ideal) x0 x5 x6 x9 (ix4 0 R h d)) (fun l => x3 (ix4 0 R 0 l)) (fun l => x4 (ix4 0 R 0 l)) d := by
  unfold val_main_v62 rotated
  by_cases h1 : d.val < 128
  · rw [dif_pos h1]
    refine (concatenate_apply_piece 3 _ _ (ix4 0 R h d) 0 (by simp) Cert.Reference8Ideal.S1x4096x8x128 (val_main_v51 (F := Ideal) x0 x5 x6 x9) rfl rfl 0 rfl (ix4 0 R h ⟨d.val, h1⟩) (fun b hb => by fin_cases b <;> first | rfl | exact absurd rfl hb) (by show 0 + d.val = d.val; omega)).trans ?_
    pointwise [val_main_v51, val_main_cst, val_main_cst_0, val_main_cst_1, val_main_cst_2, val_main_cst_3, val_main_cst_4, val_main_cst_5, val_main_cst_6, val_main_cst_7, val_main_cst_8, val_main_cst_9, val_main_cst_10, val_main_cst_11]
    try rfl
  · rw [dif_neg h1]
    by_cases h2 : d.val < 160
    · rw [dif_pos h2]
      refine (concatenate_apply_piece 3 _ _ (ix4 0 R h d) 1 (by simp) Cert.Reference8Ideal.S1x4096x8x32 (val_main_v56 (F := Ideal) x0 x3 x4 x5 x6 x9) rfl rfl 128 rfl (ix4 0 R h ⟨d.val - 128, by omega⟩) (fun b hb => by fin_cases b <;> first | rfl | exact absurd rfl hb) (by show 128 + (d.val - 128) = d.val; omega)).trans ?_
      pointwise [val_main_v61, val_main_v60, val_main_v59, val_main_v58, val_main_v57, val_main_v56, val_main_v55, val_main_v54, val_main_v53, val_main_v52, val_main_v51, val_main_v50, val_main_v49, val_main_v48, val_main_cst, val_main_cst_0, val_main_cst_1, val_main_cst_2, val_main_cst_3, val_main_cst_4, val_main_cst_5, val_main_cst_6, val_main_cst_7, val_main_cst_8, val_main_cst_9, val_main_cst_10, val_main_cst_11]
      simp only [show 128 + (d.val - 128) = d.val by omega, show 128 + (32 + (d.val - 128)) = d.val + 32 by omega]
    · rw [dif_neg h2]
      refine (concatenate_apply_piece 3 _ _ (ix4 0 R h d) 2 (by simp) Cert.Reference8Ideal.S1x4096x8x32 (val_main_v61 (F := Ideal) x0 x3 x4 x5 x6 x9) rfl rfl 160 rfl (ix4 0 R h ⟨d.val - 160, by omega⟩) (fun b hb => by fin_cases b <;> first | rfl | exact absurd rfl hb) (by show 160 + (d.val - 160) = d.val; omega)).trans ?_
      pointwise [val_main_v61, val_main_v60, val_main_v59, val_main_v58, val_main_v57, val_main_v56, val_main_v55, val_main_v54, val_main_v53, val_main_v52, val_main_v51, val_main_v50, val_main_v49, val_main_v48, val_main_cst, val_main_cst_0, val_main_cst_1, val_main_cst_2, val_main_cst_3, val_main_cst_4, val_main_cst_5, val_main_cst_6, val_main_cst_7, val_main_cst_8, val_main_cst_9, val_main_cst_10, val_main_cst_11]
      simp only [show 128 + (32 + (d.val - 160)) = d.val by omega, show 128 + (d.val - 160) = d.val - 32 by omega]

theorem f101 (x1 : FVec Ideal S1x4096x256 .f32) (x2 : FVec Ideal S1x4096x64 .f32) (x3 x4 : FVec Ideal S1x4096x1x32 .f32) (x7 : FVec Ideal S256 .f32) (x8 : FVec Ideal S256x2048 .f32) (x10 : FVec Ideal S192 .f32) (R : Fin 4096) (h : Fin 8) (d : Fin 192) :
    (val_main_v101 (F := Ideal) x1 x2 x3 x4 x7 x8 x10 (ix4 0 R h d) : EReal) = rotated (fun d => val_main_v86 (F := Ideal) x1 x2 x7 x8 x10 (ix4 0 R h d)) (fun l => x3 (ix4 0 R 0 l)) (fun l => x4 (ix4 0 R 0 l)) d := by
  unfold val_main_v101 rotated
  by_cases h1 : d.val < 128
  · rw [dif_pos h1]
    refine (concatenate_apply_piece 3 _ _ (ix4 0 R h d) 0 (by simp) Cert.Reference8Ideal.S1x4096x8x128 (val_main_v90 (F := Ideal) x1 x2 x7 x8 x10) rfl rfl 0 rfl (ix4 0 R h ⟨d.val, h1⟩) (fun b hb => by fin_cases b <;> first | rfl | exact absurd rfl hb) (by show 0 + d.val = d.val; omega)).trans ?_
    pointwise [val_main_v90, val_main_cst, val_main_cst_0, val_main_cst_1, val_main_cst_2, val_main_cst_3, val_main_cst_4, val_main_cst_5, val_main_cst_6, val_main_cst_7, val_main_cst_8, val_main_cst_9, val_main_cst_10, val_main_cst_11]
    try rfl
  · rw [dif_neg h1]
    by_cases h2 : d.val < 160
    · rw [dif_pos h2]
      refine (concatenate_apply_piece 3 _ _ (ix4 0 R h d) 1 (by simp) Cert.Reference8Ideal.S1x4096x8x32 (val_main_v95 (F := Ideal) x1 x2 x3 x4 x7 x8 x10) rfl rfl 128 rfl (ix4 0 R h ⟨d.val - 128, by omega⟩) (fun b hb => by fin_cases b <;> first | rfl | exact absurd rfl hb) (by show 128 + (d.val - 128) = d.val; omega)).trans ?_
      pointwise [val_main_v100, val_main_v99, val_main_v98, val_main_v97, val_main_v96, val_main_v95, val_main_v94, val_main_v93, val_main_v92, val_main_v91, val_main_v90, val_main_v89, val_main_v88, val_main_v87, val_main_cst, val_main_cst_0, val_main_cst_1, val_main_cst_2, val_main_cst_3, val_main_cst_4, val_main_cst_5, val_main_cst_6, val_main_cst_7, val_main_cst_8, val_main_cst_9, val_main_cst_10, val_main_cst_11]
      simp only [show 128 + (d.val - 128) = d.val by omega, show 128 + (32 + (d.val - 128)) = d.val + 32 by omega]
    · rw [dif_neg h2]
      refine (concatenate_apply_piece 3 _ _ (ix4 0 R h d) 2 (by simp) Cert.Reference8Ideal.S1x4096x8x32 (val_main_v100 (F := Ideal) x1 x2 x3 x4 x7 x8 x10) rfl rfl 160 rfl (ix4 0 R h ⟨d.val - 160, by omega⟩) (fun b hb => by fin_cases b <;> first | rfl | exact absurd rfl hb) (by show 160 + (d.val - 160) = d.val; omega)).trans ?_
      pointwise [val_main_v100, val_main_v99, val_main_v98, val_main_v97, val_main_v96, val_main_v95, val_main_v94, val_main_v93, val_main_v92, val_main_v91, val_main_v90, val_main_v89, val_main_v88, val_main_v87, val_main_cst, val_main_cst_0, val_main_cst_1, val_main_cst_2, val_main_cst_3, val_main_cst_4, val_main_cst_5, val_main_cst_6, val_main_cst_7, val_main_cst_8, val_main_cst_9, val_main_cst_10, val_main_cst_11]
      simp only [show 128 + (32 + (d.val - 160)) = d.val by omega, show 128 + (d.val - 160) = d.val - 32 by omega]

theorem f66 (x0 : FVec Ideal S1x4096x512 .f32) (x5 : FVec Ideal S512 .f32) (R : Fin 4096) (k : Fin 512) : (val_main_v66 (F := Ideal) x0 x5 (ix2 R k) : EReal) = val_main_v12 (F := Ideal) x0 x5 (ix3 0 R k) := by
  pointwise [val_main_v66, val_main_v65]
  try rfl

theorem f68 (x1 : FVec Ideal S1x4096x256 .f32) (x7 : FVec Ideal S256 .f32) (R : Fin 4096) (k : Fin 256) : (val_main_v68 (F := Ideal) x1 x7 (ix2 R k) : EReal) = val_main_v25 (F := Ideal) x1 x7 (ix3 0 R k) := by
  pointwise [val_main_v68, val_main_v67]
  try rfl

theorem f69 (x0 : FVec Ideal S1x4096x512 .f32) (x5 : FVec Ideal S512 .f32) (x6 : FVec Ideal S512x1536 .f32) (R : Fin 4096) (n : Fin 1536) : (val_main_v69 (F := Ideal) x0 x5 x6 (ix2 R n) : EReal) = val_main_v26 (F := Ideal) x0 x5 x6 (ix3 0 R n) := by
  pointwise [val_main_v69]
  try rfl

theorem f70 (x1 : FVec Ideal S1x4096x256 .f32) (x7 : FVec Ideal S256 .f32) (x8 : FVec Ideal S256x2048 .f32) (R : Fin 4096) (n : Fin 2048) : (val_main_v70 (F := Ideal) x1 x7 x8 (ix2 R n) : EReal) = val_main_v27 (F := Ideal) x1 x7 x8 (ix3 0 R n) := by
  pointwise [val_main_v70]
  try rfl

theorem f73 (x0 : FVec Ideal S1x4096x512 .f32) (x3 x4 : FVec Ideal S1x4096x1x32 .f32) (x5 : FVec Ideal S512 .f32) (x6 : FVec Ideal S512x1536 .f32) (x9 : FVec Ideal S192 .f32) (h : Fin 8) (R : Fin 4096) (d : Fin 192) :
    (val_main_v73 (F := Ideal) x0 x3 x4 x5 x6 x9 (ix3 h R d) : EReal) = val_main_v62 (F := Ideal) x0 x3 x4 x5 x6 x9 (ix4 0 R h d) * Ideal.ofBits FTy.f32 1037384597#32 := by
  pointwise [val_main_v73, val_main_v72, val_main_v71, val_main_v64, val_main_v63, val_main_cst_8]
  try rfl

theorem f104 (x1 : FVec Ideal S1x4096x256 .f32) (x2 : FVec Ideal S1x4096x64 .f32) (x3 x4 : FVec Ideal S1x4096x1x32 .f32) (x7 : FVec Ideal S256 .f32) (x8 : FVec Ideal S256x2048 .f32) (x10 : FVec Ideal S192 .f32) (h : Fin 8) (R : Fin 4096) (d : Fin 192) :
    (val_main_v104 (F := Ideal) x1 x2 x3 x4 x7 x8 x10 (ix3 h R d) : EReal) = val_main_v101 (F := Ideal) x1 x2 x3 x4 x7 x8 x10 (ix4 0 R h d) := by
  pointwise [val_main_v104, val_main_v103, val_main_v102]
  try rfl

theorem f107 (x1 : FVec Ideal S1x4096x256 .f32) (x7 : FVec Ideal S256 .f32) (x8 : FVec Ideal S256x2048 .f32) (h : Fin 8) (R : Fin 4096) (d : Fin 128) :
    (val_main_v107 (F := Ideal) x1 x7 x8 (ix3 h R d) : EReal) = val_main_v27 (F := Ideal) x1 x7 x8 (ix3 0 R ⟨h.val * 256 + 128 + d.val, by omega⟩) := by
  have e : (val_main_v107 (F := Ideal) x1 x7 x8 (ix3 h R d) : EReal) = val_main_v28 (F := Ideal) x1 x7 x8 (ix4 0 R h ⟨128 + d.val, by omega⟩) := by
    pointwise [val_main_v107, val_main_v106, val_main_v105, val_main_v30]
    try rfl
  rw [e, f28]
  exact congrArg (fun n => val_main_v27 (F := Ideal) x1 x7 x8 (ix3 0 R n)) (Fin.ext (by show h.val * 256 + (128 + d.val) = h.val * 256 + 128 + d.val; omega))

end Cert.Kernel8Ideal.Latent

end
-- ==== Proof.LatentMath.lean ====
module

public import proofs.«01_k».proof.Proof.LatentK
public import proofs.«01_k».proof.Proof.LatentRef
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.StableHlo.ReadAt
public import proofs.«01_k».proof.Defs
public import proofs.«01_k».proof.Proof.Gen.Reference8Ideal

@[expose] public section

set_option maxRecDepth 16384

noncomputable section

namespace Cert.Kernel8Ideal.Latent

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

theorem per_head (b : BitVec 32) : (Named.named (F := Ideal) (φ := .f32) κ "per_head" b : EReal) = ((192⁻¹ : ℝ) : EReal) := rfl

theorem width : Ideal.ofBits FTy.f32 0x43400000#32 = ((192 : ℝ) : EReal) := by
  simp [Ideal.ofBits, Ideal.ieee, -EReal.coe_mul]; norm_num

/-- A sum over 192 entries, as the sum over the first 128 and the sum over the others padded to 128. -/
theorem sum_split (f : Fin 192 → EReal) : ∑ d, f d = ∑ j : Fin 128, f ⟨j.val, by omega⟩ + ∑ j : Fin 128, (if h : j.val < 64 then f ⟨128 + j.val, by omega⟩ else 0) := by
  have e : ∑ j : Fin 128, (if h : j.val < 64 then f ⟨128 + j.val, by omega⟩ else 0) = ∑ j : Fin 64, f ⟨128 + j.val, by omega⟩ := by
    refine (Fin.sum_univ_add (a := 64) (b := 64) (fun j : Fin 128 => if h : j.val < 64 then f ⟨128 + j.val, by omega⟩ else 0)).trans ?_
    have z : ∑ i : Fin 64, (fun j : Fin 128 => if h : j.val < 64 then f ⟨128 + j.val, by omega⟩ else 0) (Fin.natAdd 64 i) = 0 :=
      Finset.sum_eq_zero fun i _ => dif_neg (by show ¬ 64 + i.val < 64; omega)
    refine (congrArg (_ + ·) z).trans ((add_zero _).trans ?_)
    exact Finset.sum_congr rfl fun j _ => dif_pos j.isLt
  rw [e]
  exact Fin.sum_univ_add (a := 128) (b := 64) f

/-- The second piece of a row of 192 entries, padded. -/
def pad (y : Fin 192 → EReal) (l : Fin 128) : EReal := if h : l.val < 64 then y ⟨128 + l.val, by omega⟩ else 0

/-- The first piece. -/
def fst (y : Fin 192 → EReal) (l : Fin 128) : EReal := y ⟨l.val, by omega⟩

theorem rs_eq (y : Fin 192 → EReal) : rs (fst y) (pad y) = Ideal.rsqrt (Ideal.div (∑ j, y j * y j) (Ideal.ofBits FTy.f32 0x43400000#32) + Ideal.ofBits FTy.f32 897988541#32) := by
  unfold rs
  rw [per_head, width, Ideal.div_coe (by norm_num), sum_split (fun d => y d * y d)]
  have e : ∀ j : Fin 128, pad y j * pad y j = if h : j.val < 64 then y ⟨128 + j.val, by omega⟩ * y ⟨128 + j.val, by omega⟩ else 0 := fun j => by
    unfold pad
    split_ifs <;> simp
  simp only [e]
  simp only [fst, one_div]

theorem nope_eq (y g : Fin 192 → EReal) (l : Fin 128) : nope (fst y) (pad y) (fst g) l = normRow 192 (Ideal.ofBits FTy.f32 0x43400000#32) y g ⟨l.val, by omega⟩ := by
  unfold nope normRow
  rw [rs_eq]
  rfl

/-- The cosines over a block's lanes. -/
def cosL (c : Fin 32 → EReal) (l : Fin 128) : EReal := if h : l.val < 32 then c ⟨l.val, h⟩ else if h : l.val < 64 then c ⟨l.val - 32, by omega⟩ else 0

def sinA (s : Fin 32 → EReal) (l : Fin 128) : EReal := if h : l.val < 32 then - s ⟨l.val, h⟩ else 0

def sinB (s : Fin 32 → EReal) (l : Fin 128) : EReal := if h : l.val < 32 then 0 else if h : l.val < 64 then s ⟨l.val - 32, by omega⟩ else 0

theorem turn_eq (y g : Fin 192 → EReal) (c s : Fin 32 → EReal) (l : Fin 128) : turn (fst y) (pad y) (pad g) (cosL c) (sinA s) (sinB s) l
    = if h : l.val < 64 then rotated (normRow 192 (Ideal.ofBits FTy.f32 0x43400000#32) y g) c s ⟨128 + l.val, by omega⟩ else 0 := by
  unfold turn rotated normRow
  rw [rs_eq]
  generalize Ideal.rsqrt _ = r
  by_cases h1 : l.val < 32
  · have h64 : l.val < 64 := by omega
    have e : (l.val + 128 - 96) % 128 = l.val + 32 := by omega
    rw [dif_pos h64, dif_neg (by simp), dif_pos (by show 128 + l.val < 160; omega)]
    simp only [cosL, sinA, sinB, h1, dif_pos, mul_zero, add_zero, e, pad, h64, show l.val + 32 < 64 by omega, mul_neg, ← sub_eq_add_neg, Nat.add_sub_cancel_left, show 128 + (l.val + 32) = 128 + l.val + 32 by omega]
  · by_cases h64 : l.val < 64
    · have e : (l.val + 128 - 32) % 128 = l.val - 32 := by omega
      rw [dif_pos h64, dif_neg (by simp), dif_neg (by show ¬ 128 + l.val < 160; omega)]
      simp only [cosL, sinA, sinB, h1, h64, dif_pos, dif_neg, not_false_eq_true, mul_zero, add_zero, e, pad, show l.val - 32 < 64 by omega, show 128 + l.val - 160 = l.val - 32 by omega, show 128 + (l.val - 32) = 128 + l.val - 32 by omega]
    · simp [cosL, sinA, sinB, h1, h64]

theorem head_eq (y g : Fin 192 → EReal) (c s : Fin 32 → EReal) (l : Fin 256) :
    (if hl : l.val < 128 then nope (fst y) (pad y) (fst g) ⟨l.val, hl⟩ else turn (fst y) (pad y) (pad g) (cosL c) (sinA s) (sinB s) ⟨l.val - 128, by omega⟩)
      = if h : l.val < 192 then rotated (normRow 192 (Ideal.ofBits FTy.f32 0x43400000#32) y g) c s ⟨l.val, h⟩ else 0 := by
  by_cases hl : l.val < 128
  · rw [dif_pos hl, dif_pos (by omega), nope_eq]
    unfold rotated
    rw [dif_pos hl]
  · rw [dif_neg hl, turn_eq]
    by_cases h : l.val < 192
    · rw [dif_pos h, dif_pos (by show l.val - 128 < 64; omega)]
      exact congrArg (rotated _ c s) (Fin.ext (by show 128 + (l.val - 128) = l.val; omega))
    · rw [dif_neg h, dif_neg (by show ¬ l.val - 128 < 64; omega)]

end Cert.Kernel8Ideal.Latent

end
-- ==== Proof.LatentValue.lean ====
module

public import proofs.«01_k».proof.Proof.LatentMath
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.StableHlo.ReadAt
public import proofs.«01_k».proof.Defs
public import proofs.«01_k».proof.Proof.Gen.Reference8Ideal

@[expose] public section

set_option maxRecDepth 16384

noncomputable section

namespace Cert.Kernel8Ideal.Latent

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

open Cert.Reference8Ideal.Read

abbrev v12 (c : Dev nD) := val_main_v12 (F := Ideal) (a0 m c) (a5 m c)
abbrev v25 (c : Dev nD) := val_main_v25 (F := Ideal) (a1 m c) (a7 m c)
abbrev v27 (c : Dev nD) := val_main_v27 (F := Ideal) (a1 m c) (a7 m c) (a8 m c)
abbrev v33 (c : Dev nD) := val_main_v33 (F := Ideal) (a1 m c) (a2 m c) (a7 m c) (a8 m c)
abbrev v34 (c : Dev nD) := val_main_v34 (F := Ideal) (a0 m c) (a5 m c) (a6 m c)

theorem p4 (c : Dev nD) (t : Fin cfg0.N) (r : Fin 512) (k : Fin 512) : (k0_pay4 (F := Ideal) (iblk m c 0 t) (iblk m c 5 t) (ix2 r k) : EReal) = v12 m c (ix3 0 (row t r) k) := by
  refine Eq.trans ?_ (f12 (a0 m c) (a5 m c) (row t r) k).symm
  pointwise [k0_pay4]
  simp only [blk0, blk5]
  rfl

theorem p7 (c : Dev nD) (t : Fin cfg0.N) (r : Fin 512) (k : Fin 256) : (k0_pay7 (F := Ideal) (k0_pay6 (iblk m c 1 t)) (iblk m c 6 t) (ix2 r k) : EReal) = v25 m c (ix3 0 (row t r) k) := by
  refine Eq.trans ?_ (f25 (a1 m c) (a7 m c) (row t r) k).symm
  pointwise [k0_pay7, k0_pay6]
  simp only [blk1, blk6]
  rfl

/-- The queries' projection, by the columns of the rearranged weights. -/
def up (c : Dev nD) (R : Fin 4096) (n : Fin 2048) : EReal := ∑ k : Fin 512, (v12 m c (ix3 0 R k) : EReal) * (V m c main_v20 : FVec Ideal S512x2048 .bf16) (ix2 k n)

theorem p5 (c : Dev nD) (t : Fin cfg0.N) (r : Fin 512) (n : Fin 2048) : (k0_pay5 (F := Ideal) (k0_pay4 (iblk m c 0 t) (iblk m c 5 t)) (iblk m c 3 t) (ix2 r n) : EReal) = up m c (row t r) n := by
  have e : (k0_pay5 (F := Ideal) (k0_pay4 (iblk m c 0 t) (iblk m c 5 t)) (iblk m c 3 t) (ix2 r n) : EReal) = ∑ k : Fin 512, k0_pay4 (F := Ideal) (iblk m c 0 t) (iblk m c 5 t) (ix2 r k) * (iblk m c 3 t : FVec Ideal S512x2048 .bf16) (ix2 k n) := by
    generalize k0_pay4 (F := Ideal) (iblk m c 0 t) (iblk m c 5 t) = x
    pointwise [k0_pay5]
    try rfl
  rw [e]
  unfold up
  exact Finset.sum_congr rfl fun k _ => by rw [p4, blk3]

theorem p8 (c : Dev nD) (t : Fin cfg0.N) (r : Fin 512) (n : Fin 2048) : (k0_pay8 (F := Ideal) (k0_pay7 (k0_pay6 (iblk m c 1 t)) (iblk m c 6 t)) (iblk m c 4 t) (ix2 r n) : EReal) = v27 m c (ix3 0 (row t r) n) := by
  have e : (k0_pay8 (F := Ideal) (k0_pay7 (k0_pay6 (iblk m c 1 t)) (iblk m c 6 t)) (iblk m c 4 t) (ix2 r n) : EReal) = ∑ k : Fin 256, k0_pay7 (F := Ideal) (k0_pay6 (iblk m c 1 t)) (iblk m c 6 t) (ix2 r k) * (iblk m c 4 t : FVec Ideal S256x2048 .bf16) (ix2 k n) := by
    generalize k0_pay7 (F := Ideal) (k0_pay6 (iblk m c 1 t)) (iblk m c 6 t) = x
    pointwise [k0_pay8]
    try rfl
  rw [e]
  refine Eq.trans ?_ (f27 (a1 m c) (a7 m c) (a8 m c) (row t r) n).symm
  exact Finset.sum_congr rfl fun k _ => by rw [p7, blk4]

theorem up_nope (c : Dev nD) (R : Fin 4096) (h : Fin 8) (l : Fin 128) : up m c R ⟨h.val * 128 + l.val, by omega⟩ = v34 m c (ix4 0 R h ⟨l.val, by omega⟩) := by
  refine Eq.trans ?_ ((f34 (a0 m c) (a5 m c) (a6 m c) R h ⟨l.val, by omega⟩).trans (f26 (a0 m c) (a5 m c) (a6 m c) R _)).symm
  exact Finset.sum_congr rfl fun k _ => by rw [r20]

theorem up_rope (c : Dev nD) (R : Fin 4096) (h : Fin 8) (l : Fin 128) : up m c R ⟨1024 + h.val * 128 + l.val, by omega⟩ = if hl : l.val < 64 then (v34 m c (ix4 0 R h ⟨128 + l.val, by omega⟩) : EReal) else 0 := by
  unfold up
  by_cases hl : l.val < 64
  · rw [dif_pos hl]
    refine Eq.trans ?_ ((f34 (a0 m c) (a5 m c) (a6 m c) R h ⟨128 + l.val, by omega⟩).trans (f26 (a0 m c) (a5 m c) (a6 m c) R _)).symm
    refine Finset.sum_congr rfl fun k _ => ?_
    rw [r20b, dif_pos hl]
    exact congrArg (fun n => v12 m c (ix3 0 R k) * a6 m c (ix2 k n)) (Fin.ext (by show h.val * 192 + 128 + l.val = h.val * 192 + (128 + l.val); omega))
  · rw [dif_neg hl]
    exact Finset.sum_eq_zero fun k _ => by rw [r20b, dif_neg hl, mul_zero]

theorem final14 (c : Dev nD) : (dats m 0 c).arrAt 14 cfg0.N = val_main_v66 (F := Ideal) (a0 m c) (a5 m c) := by
  refine (dats m 0 c).arrAt_eq_of_covers 14 _ (by decide +kernel) fun t _ y => ?_
  obtain ⟨r, l, rfl⟩ : ∃ (r : Fin 512) (l : Fin 512), y = ix2 r l := ⟨y 0, y 1, eq_ix2 y⟩
  rw [emb14, f66]
  blk_simp
  rw [after0_14]
  unfold outsAt0
  frame_out
  exact p4 m c t r l

theorem final15 (c : Dev nD) : (dats m 0 c).arrAt 15 cfg0.N = val_main_v68 (F := Ideal) (a1 m c) (a7 m c) := by
  refine (dats m 0 c).arrAt_eq_of_covers 15 _ (by decide +kernel) fun t _ y => ?_
  obtain ⟨r, l, rfl⟩ : ∃ (r : Fin 512) (l : Fin 256), y = ix2 r l := ⟨y 0, y 1, eq_ix2 y⟩
  rw [emb15, f68]
  blk_simp
  rw [after0_15]
  unfold outsAt0
  frame_out
  exact p7 m c t r l

/-- The queries' projection as an array. -/
def g16 (c : Dev nD) : FVec Ideal S4096x2048 .f32 := fun y => up m c (y 0) (y 1)

theorem final16 (c : Dev nD) : (dats m 0 c).arrAt 16 cfg0.N = g16 m c := by
  refine (dats m 0 c).arrAt_eq_of_covers 16 _ (by decide +kernel) fun t _ y => ?_
  obtain ⟨r, l, rfl⟩ : ∃ (r : Fin 512) (l : Fin 2048), y = ix2 r l := ⟨y 0, y 1, eq_ix2 y⟩
  rw [emb16]
  blk_simp
  rw [after0_16]
  unfold outsAt0
  frame_out
  exact p5 m c t r l

theorem final17 (c : Dev nD) : (dats m 0 c).arrAt 17 cfg0.N = val_main_v70 (F := Ideal) (a1 m c) (a7 m c) (a8 m c) := by
  refine (dats m 0 c).arrAt_eq_of_covers 17 _ (by decide +kernel) fun t _ y => ?_
  obtain ⟨r, l, rfl⟩ : ∃ (r : Fin 512) (l : Fin 2048), y = ix2 r l := ⟨y 0, y 1, eq_ix2 y⟩
  rw [emb17, f70]
  blk_simp
  rw [after0_17]
  unfold outsAt0
  frame_out
  exact p8 m c t r l

/-- Gains, cosines and sines over the lanes of a block. -/
theorem lanes (c : Dev nD) (t : Fin cfg0.N) (r : Fin 512) :
    (fun j => (iblk m c 10 t : FVec Ideal S1x128 .f32) (ix2 0 j)) = fst (fun d => a9 m c (ix1 d))
    ∧ (fun j => (iblk m c 11 t : FVec Ideal S1x128 .f32) (ix2 0 j)) = pad (fun d => a9 m c (ix1 d))
    ∧ (fun j => (iblk m c 12 t : FVec Ideal S1x128 .f32) (ix2 0 j)) = fst (fun d => a10 m c (ix1 d))
    ∧ (fun j => (iblk m c 13 t : FVec Ideal S1x128 .f32) (ix2 0 j)) = pad (fun d => a10 m c (ix1 d))
    ∧ (fun j => (iblk m c 7 t : FVec Ideal S512x128 .f32) (ix2 r j)) = cosL (fun l => a3 m c (ix4 0 (row t r) 0 l))
    ∧ (fun j => (iblk m c 8 t : FVec Ideal S512x128 .f32) (ix2 r j)) = sinA (fun l => a4 m c (ix4 0 (row t r) 0 l))
    ∧ (fun j => (iblk m c 9 t : FVec Ideal S512x128 .f32) (ix2 r j)) = sinB (fun l => a4 m c (ix4 0 (row t r) 0 l)) :=
  ⟨funext fun j => blk10 m c t j, funext fun j => blk11 m c t j, funext fun j => blk12 m c t j, funext fun j => blk13 m c t j,
    funext fun j => blk7 m c t r j, funext fun j => blk8 m c t r j, funext fun j => blk9 m c t r j⟩

/-- The queries' heads, padded. -/
def g18 (c : Dev nD) : FVec Ideal S8x4096x256 .bf16 := fun y =>
  if h : (y 2).val < 192 then val_main_v73 (F := Ideal) (a0 m c) (a3 m c) (a4 m c) (a5 m c) (a6 m c) (a9 m c) (ix3 (y 0) (y 1) ⟨(y 2).val, h⟩) else (0 : EReal)

theorem final18 (c : Dev nD) : (dats m 0 c).arrAt 18 cfg0.N = g18 m c := by
  refine (dats m 0 c).arrAt_eq_of_covers 18 _ (by decide +kernel) fun t _ y => ?_
  obtain ⟨h, r, l, rfl⟩ : ∃ (h : Fin 8) (r : Fin 512) (l : Fin 256), y = ix3 h r l := ⟨y 0, y 1, y 2, eq_ix3 y⟩
  rw [emb18]
  blk_simp
  rw [after0_18, k18 m c t h r l _ rfl]
  obtain ⟨e10, e11, e12, e13, e7, e8, e9⟩ := lanes m c t r
  have en : (fun j : Fin 128 => k0_pay5 (F := Ideal) (k0_pay4 (iblk m c 0 t) (iblk m c 5 t)) (iblk m c 3 t) (ix2 r ⟨h.val * 128 + j.val, by omega⟩)) = fst (fun d => v34 m c (ix4 0 (row t r) h d)) :=
    funext fun j => (p5 m c t r _).trans (up_nope m c (row t r) h j)
  have ep : (fun j : Fin 128 => k0_pay5 (F := Ideal) (k0_pay4 (iblk m c 0 t) (iblk m c 5 t)) (iblk m c 3 t) (ix2 r ⟨1024 + h.val * 128 + j.val, by omega⟩)) = pad (fun d => v34 m c (ix4 0 (row t r) h d)) :=
    funext fun j => (p5 m c t r _).trans (up_rope m c (row t r) h j)
  rw [en, ep, e10, e11, e7, e8, e9]
  have key := congrArg (· * Ideal.ofBits FTy.f32 1037384597#32) (head_eq (fun d => v34 m c (ix4 0 (row t r) h d)) (fun d => a9 m c (ix1 d)) (fun l => a3 m c (ix4 0 (row t r) 0 l)) (fun l => a4 m c (ix4 0 (row t r) 0 l)) l)
  refine Eq.trans ?_ (key.trans ?_)
  · show _ = dite _ _ _ * _
    by_cases hl : l.val < 128
    · rw [dif_pos hl, dif_pos hl]
    · rw [dif_neg hl, dif_neg hl]
  · show dite _ _ _ * _ = g18 m c (ix3 h (row t r) l)
    unfold g18
    by_cases hl : l.val < 192
    · rw [dif_pos hl]
      refine Eq.trans ?_ (dif_pos hl).symm
      refine Eq.trans ?_ (f73 (a0 m c) (a3 m c) (a4 m c) (a5 m c) (a6 m c) (a9 m c) h (row t r) ⟨l.val, hl⟩).symm
      rw [f62]
      refine congrArg (· * _) (congrArg (fun y => rotated y _ _ _) (funext fun d => ?_))
      exact (f47 (a0 m c) (a5 m c) (a6 m c) (a9 m c) (row t r) h d).symm
    · rw [dif_neg hl, zero_mul, dif_neg (show ¬ (ix3 h (row t r) l 2).val < 192 from hl)]

/-- The keys' heads, padded. -/
def g19 (c : Dev nD) : FVec Ideal S8x4096x256 .bf16 := fun y =>
  if h : (y 2).val < 192 then val_main_v104 (F := Ideal) (a1 m c) (a2 m c) (a3 m c) (a4 m c) (a7 m c) (a8 m c) (a10 m c) (ix3 (y 0) (y 1) ⟨(y 2).val, h⟩) else (0 : EReal)

theorem final19 (c : Dev nD) : (dats m 0 c).arrAt 19 cfg0.N = g19 m c := by
  refine (dats m 0 c).arrAt_eq_of_covers 19 _ (by decide +kernel) fun t _ y => ?_
  obtain ⟨h, r, l, rfl⟩ : ∃ (h : Fin 8) (r : Fin 512) (l : Fin 256), y = ix3 h r l := ⟨y 0, y 1, y 2, eq_ix3 y⟩
  rw [emb19]
  blk_simp
  rw [after0_19, k19 m c t h r l _ rfl]
  obtain ⟨e10, e11, e12, e13, e7, e8, e9⟩ := lanes m c t r
  have en : (fun j : Fin 128 => k0_pay8 (F := Ideal) (k0_pay7 (k0_pay6 (iblk m c 1 t)) (iblk m c 6 t)) (iblk m c 4 t) (ix2 r ⟨h.val * 256 + j.val, by omega⟩)) = fst (fun d => v33 m c (ix4 0 (row t r) h d)) :=
    funext fun j => (p8 m c t r _).trans ((f33 (a1 m c) (a2 m c) (a7 m c) (a8 m c) (row t r) h ⟨j.val, by omega⟩).trans (dif_pos j.isLt)).symm
  have ep : (fun j : Fin 128 => (iblk m c 2 t : FVec Ideal S512x128 .f32) (ix2 r j)) = pad (fun d => v33 m c (ix4 0 (row t r) h d)) := funext fun j => by
    rw [blk2]
    unfold pad
    by_cases hj : j.val < 64
    · rw [dif_pos hj, dif_pos hj]
      refine Eq.trans ?_ ((f33 (a1 m c) (a2 m c) (a7 m c) (a8 m c) (row t r) h ⟨128 + j.val, by omega⟩).trans (dif_neg (by show ¬ 128 + j.val < 128; omega))).symm
      exact congrArg (fun l => a2 m c (ix3 0 (row t r) l)) (Fin.ext (by show j.val = 128 + j.val - 128; omega))
    · rw [dif_neg hj, dif_neg hj]
  rw [en, ep, e12, e13, e7, e8, e9]
  refine (head_eq (fun d => v33 m c (ix4 0 (row t r) h d)) (fun d => a10 m c (ix1 d)) (fun l => a3 m c (ix4 0 (row t r) 0 l)) (fun l => a4 m c (ix4 0 (row t r) 0 l)) l).trans ?_
  show _ = g19 m c (ix3 h (row t r) l)
  unfold g19
  by_cases hl : l.val < 192
  · rw [dif_pos hl]
    refine Eq.trans ?_ (dif_pos hl).symm
    refine Eq.trans ?_ (f104 (a1 m c) (a2 m c) (a3 m c) (a4 m c) (a7 m c) (a8 m c) (a10 m c) h (row t r) ⟨l.val, hl⟩).symm
    rw [f101]
    refine congrArg (fun y => rotated y _ _ _) (funext fun d => ?_)
    exact (f86 (a1 m c) (a2 m c) (a7 m c) (a8 m c) (a10 m c) (row t r) h d).symm
  · rw [dif_neg hl, dif_neg (show ¬ (ix3 h (row t r) l 2).val < 192 from hl)]

/-- The values' heads, with ones beside them. -/
def g20 (c : Dev nD) : FVec Ideal S8x4096x256 .bf16 := fun y =>
  if h : (y 2).val < 128 then val_main_v107 (F := Ideal) (a1 m c) (a7 m c) (a8 m c) (ix3 (y 0) (y 1) ⟨(y 2).val, h⟩) else Ideal.ofBits FTy.bf16 0x3F80#16

theorem final20 (c : Dev nD) : (dats m 0 c).arrAt 20 cfg0.N = g20 m c := by
  refine (dats m 0 c).arrAt_eq_of_covers 20 _ (by decide +kernel) fun t _ y => ?_
  obtain ⟨h, r, l, rfl⟩ : ∃ (h : Fin 8) (r : Fin 512) (l : Fin 256), y = ix3 h r l := ⟨y 0, y 1, y 2, eq_ix3 y⟩
  rw [emb20]
  blk_simp
  rw [after0_20, k20 m c t h r l _ rfl]
  show _ = g20 m c (ix3 h (row t r) l)
  unfold g20
  by_cases hl : l.val < 128
  · rw [dif_pos hl]
    refine Eq.trans ?_ (dif_pos hl).symm
    exact (p8 m c t r _).trans (f107 (a1 m c) (a7 m c) (a8 m c) h (row t r) ⟨l.val, hl⟩).symm
  · rw [dif_neg hl, dif_neg (show ¬ (ix3 h (row t r) l 2).val < 128 from hl)]

end Cert.Kernel8Ideal.Latent

end
-- ==== Proof.Latent.lean ====
module

public import proofs.«01_k».proof.Proof.LatentValue
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.StableHlo.ReadAt
public import proofs.«01_k».proof.Defs
public import proofs.«01_k».proof.Proof.Gen.Reference8Ideal

@[expose] public section

set_option maxRecDepth 16384

noncomputable section

namespace Cert.Kernel8Ideal.Latent

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

open Cert.Reference8Ideal.Read

theorem written16 (c : Dev nD) : Pipeline.withArrays (cfgs 0).spec c (V0 m c) (fun w => (dats m 0 c).arrAt w (cfgs 0).N) (Proc.devRef .tc main_v34_2) = (dats m 0 c).arrAt 16 cfg0.N :=
  Pipeline.withArrays_arr_shared (cfgs 0).spec c (V0 m c) _ ((dats m 0 c).arrAt_sharedIn sharedIn0 (V0 m c) (A_eq m c) _) 16

theorem written18 (c : Dev nD) : Pipeline.withArrays (cfgs 0).spec c (V0 m c) (fun w => (dats m 0 c).arrAt w (cfgs 0).N) (Proc.devRef .tc main_v34_4) = (dats m 0 c).arrAt 18 cfg0.N :=
  Pipeline.withArrays_arr_shared (cfgs 0).spec c (V0 m c) _ ((dats m 0 c).arrAt_sharedIn sharedIn0 (V0 m c) (A_eq m c) _) 18

theorem written19 (c : Dev nD) : Pipeline.withArrays (cfgs 0).spec c (V0 m c) (fun w => (dats m 0 c).arrAt w (cfgs 0).N) (Proc.devRef .tc main_v34_5) = (dats m 0 c).arrAt 19 cfg0.N :=
  Pipeline.withArrays_arr_shared (cfgs 0).spec c (V0 m c) _ ((dats m 0 c).arrAt_sharedIn sharedIn0 (V0 m c) (A_eq m c) _) 19

theorem written20 (c : Dev nD) : Pipeline.withArrays (cfgs 0).spec c (V0 m c) (fun w => (dats m 0 c).arrAt w (cfgs 0).N) (Proc.devRef .tc main_v34_6) = (dats m 0 c).arrAt 20 cfg0.N :=
  Pipeline.withArrays_arr_shared (cfgs 0).spec c (V0 m c) _ ((dats m 0 c).arrAt_sharedIn sharedIn0 (V0 m c) (A_eq m c) _) 20

theorem cut_heads (g : FVec Ideal S8x4096x256 .bf16) (h : Fin 8) (R : Fin 4096) (d : Fin 192) :
    (extractStridedSlice S8x4096x192 ![0, 0, 0] g slices_S8x4096x256_S8x4096x192_0_0_0 (ix3 h R d) : EReal) = g (ix3 h R ⟨d.val, by omega⟩) := by
  pointwise []
  try rfl

theorem cut_values (g : FVec Ideal S8x4096x256 .bf16) (h : Fin 8) (R : Fin 4096) (d : Fin 128) :
    (extractStridedSlice S8x4096x128 ![0, 0, 0] g slices_S8x4096x256_S8x4096x128_0_0_0 (ix3 h R d) : EReal) = g (ix3 h R ⟨d.val, by omega⟩) := by
  pointwise []
  try rfl

theorem tail42 (c : Dev nD) : Pipeline.afterTail₀ cfgs (dats m) 0 (V0 m) [hostOps1] c main_v42 = val_main_v73 (F := Ideal) (a0 m c) (a3 m c) (a4 m c) (a5 m c) (a6 m c) (a9 m c) := by
  unfold Pipeline.afterTail₀
  rw [show [hostOps1 (F := Ideal)].flatten = hostOps1 from List.flatten_singleton]
  after_results
  refine (congrArg (extractStridedSlice S8x4096x192 ![0, 0, 0] · slices_S8x4096x256_S8x4096x192_0_0_0) ((written18 m c).trans (final18 m c))).trans ?_
  funext y
  obtain ⟨h, R, d, rfl⟩ : ∃ (h : Fin 8) (R : Fin 4096) (d : Fin 192), y = ix3 h R d := ⟨y 0, y 1, y 2, eq_ix3 y⟩
  exact (cut_heads (g18 m c) h R d).trans (dif_pos d.isLt)

theorem tail43 (c : Dev nD) : Pipeline.afterTail₀ cfgs (dats m) 0 (V0 m) [hostOps1] c main_v43 = val_main_v104 (F := Ideal) (a1 m c) (a2 m c) (a3 m c) (a4 m c) (a7 m c) (a8 m c) (a10 m c) := by
  unfold Pipeline.afterTail₀
  rw [show [hostOps1 (F := Ideal)].flatten = hostOps1 from List.flatten_singleton]
  after_results
  refine (congrArg (extractStridedSlice S8x4096x192 ![0, 0, 0] · slices_S8x4096x256_S8x4096x192_0_0_0) ((written19 m c).trans (final19 m c))).trans ?_
  funext y
  obtain ⟨h, R, d, rfl⟩ : ∃ (h : Fin 8) (R : Fin 4096) (d : Fin 192), y = ix3 h R d := ⟨y 0, y 1, y 2, eq_ix3 y⟩
  exact (cut_heads (g19 m c) h R d).trans (dif_pos d.isLt)

theorem tail44 (c : Dev nD) : Pipeline.afterTail₀ cfgs (dats m) 0 (V0 m) [hostOps1] c main_v44 = val_main_v107 (F := Ideal) (a1 m c) (a7 m c) (a8 m c) := by
  unfold Pipeline.afterTail₀
  rw [show [hostOps1 (F := Ideal)].flatten = hostOps1 from List.flatten_singleton]
  after_results
  refine (congrArg (extractStridedSlice S8x4096x128 ![0, 0, 0] · slices_S8x4096x256_S8x4096x128_0_0_0) ((written20 m c).trans (final20 m c))).trans ?_
  funext y
  obtain ⟨h, R, d, rfl⟩ : ∃ (h : Fin 8) (R : Fin 4096) (d : Fin 128), y = ix3 h R d := ⟨y 0, y 1, y 2, eq_ix3 y⟩
  exact (cut_values (g20 m c) h R d).trans (dif_pos d.isLt)

/-- The columns of the queries' projection put back in the order of the weights. -/
def flat (g : FVec Ideal S4096x2048 .f32) : FVec Ideal S4096x1536 .f32 :=
  shapeCast S4096x1536 (concatenate S4096x8x192 2 [⟨S4096x8x128, shapeCast S4096x8x128 (extractStridedSlice S4096x1024 ![0, 0] g slices_S4096x2048_S4096x1024_0_0) shapeCasts_S4096x1024_S4096x8x128⟩,
    ⟨S4096x8x64, extractStridedSlice S4096x8x64 ![0, 0, 0] (shapeCast S4096x8x128 (extractStridedSlice S4096x1024 ![0, 1024] g slices_S4096x2048_S4096x1024_0_1024) shapeCasts_S4096x1024_S4096x8x128) slices_S4096x8x128_S4096x8x64_0_0_0⟩]
    concatenates_S4096x8x128_S4096x8x64_S4096x8x192_d2) shapeCasts_S4096x8x192_S4096x1536

theorem first_half (g : FVec Ideal S4096x2048 .f32) (R : Fin 4096) (h : Fin 8) (d : Fin 128) :
    (shapeCast S4096x8x128 (extractStridedSlice S4096x1024 ![0, 0] g slices_S4096x2048_S4096x1024_0_0) shapeCasts_S4096x1024_S4096x8x128 (ix3 R h d) : EReal) = g (ix2 R ⟨h.val * 128 + d.val, by omega⟩) := by
  refine (shapeCast_apply _ _ (ix3 R h d) (ix2 R (⟨h.val * 128 + d.val, by omega⟩ : Fin 1024)) (by
    rewrite [Shape.rowMajor_val_two, Shape.rowMajor_val_three]
    show R.val * 1024 + (h.val * 128 + d.val) = (R.val * 8 + h.val) * 128 + d.val
    omega)).trans ?_
  pointwise []
  try rfl

theorem second_half (g : FVec Ideal S4096x2048 .f32) (R : Fin 4096) (h : Fin 8) (d : Fin 128) :
    (shapeCast S4096x8x128 (extractStridedSlice S4096x1024 ![0, 1024] g slices_S4096x2048_S4096x1024_0_1024) shapeCasts_S4096x1024_S4096x8x128 (ix3 R h d) : EReal) = g (ix2 R ⟨1024 + h.val * 128 + d.val, by omega⟩) := by
  refine (shapeCast_apply _ _ (ix3 R h d) (ix2 R (⟨h.val * 128 + d.val, by omega⟩ : Fin 1024)) (by
    rewrite [Shape.rowMajor_val_two, Shape.rowMajor_val_three]
    show R.val * 1024 + (h.val * 128 + d.val) = (R.val * 8 + h.val) * 128 + d.val
    omega)).trans ?_
  pointwise []
  exact congrArg (fun n => g (ix2 R n)) (Fin.ext (by show 1024 + (h.val * 128 + d.val) = 1024 + h.val * 128 + d.val; omega))

theorem flat_apply (g : FVec Ideal S4096x2048 .f32) (R : Fin 4096) (h : Fin 8) (d : Fin 192) :
    (flat g (ix2 R ⟨h.val * 192 + d.val, by omega⟩) : EReal) = if h1 : d.val < 128 then g (ix2 R ⟨h.val * 128 + d.val, by omega⟩) else g (ix2 R ⟨1024 + h.val * 128 + (d.val - 128), by omega⟩) := by
  unfold flat
  refine (shapeCast_apply _ _ _ (ix3 R h d) (by
    rewrite [Shape.rowMajor_val_two, Shape.rowMajor_val_three]
    show (R.val * 8 + h.val) * 192 + d.val = R.val * 1536 + (h.val * 192 + d.val)
    omega)).trans ?_
  by_cases h1 : d.val < 128
  · rw [dif_pos h1]
    exact (concatenate_apply_piece 2 _ _ (ix3 R h d) 0 (by simp) S4096x8x128 _ rfl rfl 0 rfl (ix3 R h ⟨d.val, h1⟩) (fun b hb => by fin_cases b <;> first | rfl | exact absurd rfl hb) (by show 0 + d.val = d.val; omega)).trans (first_half g R h ⟨d.val, h1⟩)
  · rw [dif_neg h1]
    refine (concatenate_apply_piece 2 _ _ (ix3 R h d) 1 (by simp) S4096x8x64 _ rfl rfl 128 rfl (ix3 R h ⟨d.val - 128, by omega⟩) (fun b hb => by fin_cases b <;> first | rfl | exact absurd rfl hb) (by show 128 + (d.val - 128) = d.val; omega)).trans ?_
    refine Eq.trans ?_ (second_half g R h ⟨d.val - 128, by omega⟩)
    generalize shapeCast S4096x8x128 (extractStridedSlice S4096x1024 ![0, 1024] g slices_S4096x2048_S4096x1024_0_1024) shapeCasts_S4096x1024_S4096x8x128 = x
    pointwise []
    try rfl

theorem tail41 (c : Dev nD) : Pipeline.afterTail₀ cfgs (dats m) 0 (V0 m) [hostOps1] c main_v41 = val_main_v69 (F := Ideal) (a0 m c) (a5 m c) (a6 m c) := by
  unfold Pipeline.afterTail₀
  rw [show [hostOps1 (F := Ideal)].flatten = hostOps1 from List.flatten_singleton]
  after_results
  refine (congrArg flat ((written16 m c).trans (final16 m c))).trans ?_
  funext y
  obtain ⟨R, n, rfl⟩ : ∃ (R : Fin 4096) (n : Fin 1536), y = ix2 R n := ⟨y 0, y 1, eq_ix2 y⟩
  obtain ⟨h, d, rfl⟩ : ∃ (h : Fin 8) (d : Fin 192), n = ⟨h.val * 192 + d.val, by omega⟩ :=
    ⟨⟨n.val / 192, by omega⟩, ⟨n.val % 192, by omega⟩, Fin.ext (by show n.val = n.val / 192 * 192 + n.val % 192; omega)⟩
  refine (flat_apply (g16 m c) R h d).trans ?_
  refine Eq.trans ?_ (f69 (a0 m c) (a5 m c) (a6 m c) R _).symm
  refine Eq.trans ?_ (f34 (a0 m c) (a5 m c) (a6 m c) R h d)
  by_cases h1 : d.val < 128
  · rw [dif_pos h1]
    exact up_nope m c R h ⟨d.val, h1⟩
  · rw [dif_neg h1]
    refine (up_rope m c R h ⟨d.val - 128, by omega⟩).trans ?_
    rw [dif_pos (by show d.val - 128 < 64; omega)]
    exact congrArg (fun d => v34 m c (ix4 0 R h d)) (Fin.ext (by show 128 + (d.val - 128) = d.val; omega))

end Cert.Kernel8Ideal.Latent

namespace Cert.Latent

open Cert.Kernel8Ideal Cert.Kernel8Ideal.Gen Cert.Kernel8Ideal.Latent Cert.Reference8Ideal.Read Idealize.ShloMosaic Idealize.ShloMosaic.TcCoe Idealize.SL.Sem

/-- The reference ends and touches none of its arguments. -/
theorem reference_runs : Cert.quiescent_Reference8Ideal (hReference8Ideal := Cert.Reference8Ideal.Gen.facts) := fun m g _ =>
  (θ_run Cert.Reference8Ideal.defs _ _).mono (fun r h => ⟨fun c => (h c).2.2.2.2.2.2.2, sem_eq_zero_of_no_sems (by decide) r.2⟩)
    (Cert.Reference8Ideal.Value.run (F := Ideal) m g)

/-- The named constants are the literals that they stand for. -/
theorem preserves : Cert.preserves_Kernel8_Kernel8Ideal :=
  IdealRules.named_const.statement _ _ _ _ _ rfl

set_option maxHeartbeats 1600000 in
/-- The call and the norms, projections and rotation end with equal results. -/
theorem algebraic : Cert.algebraic_Kernel8Ideal_Reference8Ideal (hKernel8Ideal := Cert.Kernel8Ideal.Gen.facts) (hReference8Ideal := Cert.Reference8Ideal.Gen.facts) := by
  intro m g m' g' hp hag
  refine ⟨fun c => val_main_v66 (F := Ideal) (a0 m c) (a5 m c), fun c => val_main_v68 (F := Ideal) (a1 m c) (a7 m c), fun c => val_main_v69 (F := Ideal) (a0 m c) (a5 m c) (a6 m c),
    fun c => val_main_v70 (F := Ideal) (a1 m c) (a7 m c) (a8 m c), fun c => val_main_v73 (F := Ideal) (a0 m c) (a3 m c) (a4 m c) (a5 m c) (a6 m c) (a9 m c),
    fun c => val_main_v104 (F := Ideal) (a1 m c) (a2 m c) (a3 m c) (a4 m c) (a7 m c) (a8 m c) (a10 m c), fun c => val_main_v107 (F := Ideal) (a1 m c) (a7 m c) (a8 m c), ?_, ?_⟩
  · run_from run_main m g
    · exact final14 m c
    · exact final15 m c
    · exact tail41 m c
    · exact (hc.1 17).trans (final17 m c)
    · exact tail42 m c
    · exact tail43 m c
    · exact tail44 m c
    · exact W_main_arg0 m (dats m) c
    · exact W_main_arg1 m (dats m) c
    · exact W_main_arg2 m (dats m) c
    · exact W_main_arg3 m (dats m) c
    · exact W_main_arg4 m (dats m) c
    · exact W_main_arg5 m (dats m) c
    · exact W_main_arg6 m (dats m) c
    · exact W_main_arg7 m (dats m) c
    · exact W_main_arg8 m (dats m) c
    · exact W_main_arg9 m (dats m) c
    · exact W_main_arg10 m (dats m) c
  · refine (θ_run _ _ _).mono (fun _ h c => ?_) (Cert.Reference8Ideal.Value.run m' g')
    obtain ⟨q0, q1, q2, q3, q4, q5, q6, rest⟩ := h c
    obtain ⟨e0, e1, e2, e3, e4, e5, e6, e7, e8, e9, e10⟩ := hag c
    refine ⟨q0.trans ?_, q1.trans ?_, q2.trans ?_, q3.trans ?_, q4.trans ?_, q5.trans ?_, q6.trans ?_, rest⟩
    · refine (val_main_v66_eq _ _).trans ?_; rw [e0, e5]
    · refine (val_main_v68_eq _ _).trans ?_; rw [e1, e7]
    · refine (val_main_v69_eq _ _ _).trans ?_; rw [e0, e5, e6]
    · refine (val_main_v70_eq _ _ _).trans ?_; rw [e1, e7, e8]
    · refine (val_main_v73_eq _ _).trans ?_; rw [e0, e3, e4, e5, e6, e9]
    · refine (val_main_v104_eq _ _).trans ?_; rw [e1, e2, e3, e4, e7, e8, e10]
    · refine (val_main_v107_eq _ _ _).trans ?_; rw [e1, e7, e8]

end Cert.Latent

end
-- ==== Proof.LatentGrad.lean ====
module

public import proofs.«01_k».proof.Proof.Gen.Reference9Ideal.Run
public import proofs.«01_k».proof.Defs
public import proofs.«01_k».proof.Proof.Gen.Reference9Ideal
public import Idealize.ShloMosaic.Lib.Claim

@[expose] public section

noncomputable section

namespace Cert.LatentGrad

open Idealize.ShloMosaic Idealize.ShloMosaic.TcCoe Idealize.SL.Sem

/-- The reference ends and touches none of its arguments. -/
theorem reference_runs : Cert.quiescent_Reference9Ideal (hReference9Ideal := Cert.Reference9Ideal.Gen.facts) := fun m g _ =>
  (θ_run Cert.Reference9Ideal.defs _ _).mono (fun r h => ⟨fun c => (h c).2.2.2.2.2.2.2.2.2, sem_eq_zero_of_no_sems (by decide) r.2⟩)
    (Cert.Reference9Ideal.Value.run (F := Ideal) m g)

/-- The named constants are the literals that they stand for. -/
theorem preserves : Cert.preserves_Kernel9_Kernel9Ideal :=
  ⟨IdealRules.named_const.statement _ _ _ _ _ rfl, IdealRules.named_const.statement _ _ _ _ _ rfl⟩

end Cert.LatentGrad

end
-- ==== Proof.ModulationGrad.lean ====
module

public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pointwise
public import Idealize.ShloMosaic.Lib.Claim
public import proofs.«01_k».proof.Defs
public import proofs.«01_k».proof.Proof.Gen.Reference10Ideal

@[expose] public section

set_option maxRecDepth 16384

noncomputable section

namespace Cert.Kernel10Ideal.ModGrad

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![t.val, 0, 0] ∧ win0_2.index t = ![t.val, 0, 0] :=
  (by decide +kernel : ∀ t : Fin grid0.N, _)

/-- The layer of step `t`. -/
def layer (t : Fin cfg0.N) : Fin 2 := ⟨t.val, by have := t.isLt; have : cfg0.N = 2 := N_0; omega⟩

abbrev ac (c : Dev nD) : FVec Ideal S8x2048 .f32 := m ((c : Thread nD τ).loc main_arg0)
abbrev ad (c : Dev nD) : FVec Ideal S8x2x6144 .f32 := m ((c : Thread nD τ).loc main_arg2)

theorem blk0 (c : Dev nD) (t : Fin cfg0.N) (l : Fin 2048) (r : Fin 8) : (iblk m c 0 t : FVec Ideal S2048x8 .f32) (ix2 l r) = ac m c (ix2 r l) := by
  blk_simp [iblk, idx t]
  entry_read
  pointwise
  blk_point [layer, idx t]

theorem blk1 (c : Dev nD) (t : Fin cfg0.N) (r : Fin 8) (l : Fin 768) : (iblk m c 1 t : FVec Ideal S1x8x768 .f32) (ix3 0 r l) = ad m c (ix3 r (layer t) ⟨l.val, by omega⟩) := by
  blk_simp [iblk, idx t]
  entry_read
  pointwise
  blk_point [layer, idx t]

theorem emb2 (t : Fin cfg0.N) (r : Fin 2048) (l : Fin 768) : ((cfg0.win 2).blk t).view.emb (ix3 0 r l) = (ix3 (layer t) r l : S2x2048x768.Idx) := by
  blk_ext [layer, idx t]

open Cert.Reference10Ideal.Read in
theorem ref4 (x : FVec Ideal S8x2048 .f32) (d : FVec Ideal S8x2x6144 .f32) (t : Fin 2) (r : Fin 2048) (l : Fin 768) :
    val_main_v4 (F := Ideal) x d (ix3 t r l) = ∑ k : Fin 8, x (ix2 k r) * Ideal.logistic (x (ix2 k r)) * d (ix3 k t ⟨l.val, by omega⟩) := by
  pointwise [val_main_v4, val_main_v3, val_main_v2, val_main_v0, val_main_call0_v5, val_main_call0_v4, val_main_call0_v3, val_main_call0_v2, val_main_call0_v1, val_main_call0_v0, val_main_call0_cst, val_main_call0_cst_0]
  exact Finset.sum_congr rfl fun k _ => mul_comm _ _

theorem final2 (c : Dev nD) : (dats m 0 c).arrAt 2 cfg0.N = Cert.Reference10Ideal.Read.val_main_v4 (F := Ideal) (ac m c) (ad m c) := by
  refine (dats m 0 c).arrAt_eq_of_covers 2 _ (by decide +kernel) fun t _ y => ?_
  obtain ⟨r, l, rfl⟩ : ∃ (r : Fin 2048) (l : Fin 768), y = ix3 0 r l := ⟨y 1, y 2, by rw [eq_ix3 y]; exact congrArg (fun a => ix3 a (y 1) (y 2)) (Subsingleton.elim (α := Fin 1) _ _)⟩
  rw [emb2, ref4]
  blk_simp
  rw [after0_2]
  frame_out
  pointwise [k0_pay1]
  simp only [blk0, blk1]

end Cert.Kernel10Ideal.ModGrad

namespace Cert.ModulationGrad

open Idealize.ShloMosaic Idealize.ShloMosaic.TcCoe Idealize.SL.Sem

/-- The reference ends and touches none of its arguments. -/
theorem reference_runs : Cert.quiescent_Reference10Ideal (hReference10Ideal := Cert.Reference10Ideal.Gen.facts) := fun m g _ =>
  (θ_run Cert.Reference10Ideal.defs _ _).mono (fun r h => ⟨fun c => (h c).2, sem_eq_zero_of_no_sems (by decide) r.2⟩)
    (Cert.Reference10Ideal.Value.run (F := Ideal) m g)

/-- The call and the weight's gradient end with equal results. -/
theorem algebraic : Cert.algebraic_Kernel10Ideal_Reference10Ideal (hKernel10Ideal := Cert.Kernel10Ideal.Gen.facts) (hReference10Ideal := Cert.Reference10Ideal.Gen.facts) := by
  intro m g m' g' _ hag
  refine ⟨_, Cert.Kernel10Ideal.Value.run_blocks m g, ?_⟩
  refine (θ_run _ _ _).mono (fun _ h c => ?_) (Cert.Reference10Ideal.Value.run m' g')
  obtain ⟨r0, rest⟩ := h c
  obtain ⟨e0, e1, e2⟩ := hag c
  refine ⟨r0.trans ?_, rest⟩
  refine (Cert.Reference10Ideal.Read.val_main_v4_eq _ _).trans ?_
  rw [e0, e2]
  exact (Cert.Kernel10Ideal.ModGrad.final2 m c).symm

end Cert.ModulationGrad

end
-- ==== Proof.Projection.lean ====
module

public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pointwise
public import Idealize.ShloMosaic.Lib.Claim
public import proofs.«01_k».proof.Defs
public import proofs.«01_k».proof.Proof.Gen.Reference11Ideal

@[expose] public section

set_option maxRecDepth 16384

noncomputable section

namespace Cert.Kernel11Ideal.Proj

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 4, 0] ∧ win0_1.index t = ![t.val / 4, 0] ∧ win0_2.index t = ![t.val % 4, t.val / 4] :=
  (by decide +kernel : ∀ t : Fin grid0.N, _)

/-- Row `r` of block `t` as a row of the whole array. -/
def row (t : Fin cfg0.N) (r : Fin 1024) : Fin 4096 := ⟨t.val % 4 * 1024 + r.val, by omega⟩

/-- Column `l` of block `t` as a column of the whole array. -/
def col (t : Fin cfg0.N) (l : Fin 1280) : Fin 5120 := ⟨t.val / 4 * 1280 + l.val, by have := t.isLt; have : cfg0.N = 16 := N_0; omega⟩

abbrev ah (c : Dev nD) : FVec Ideal S1x4096x2048 .f32 := m ((c : Thread nD τ).loc main_arg0)
abbrev aw (c : Dev nD) : FVec Ideal S2048x4928 .f32 := m ((c : Thread nD τ).loc main_arg1)

theorem entry (c : Dev nD) (b : Ref sig .tc) : V m c b = StableHlo.after (hostOps0 (F := Ideal)) (fun b => m (c, b)) (Proc.devRef .tc b) := rfl

theorem blk0 (c : Dev nD) (t : Fin cfg0.N) (r : Fin 1024) (l : Fin 2048) : (iblk m c 0 t : FVec Ideal S1024x2048 .bf16) (ix2 r l) = ah m c (ix3 0 (row t r) l) := by
  blk_simp [iblk, idx t]
  entry_read
  pointwise
  blk_point [row, idx t]

open Cert.Reference11Ideal.Read in
/-- The weight that the call reads is the reordered weight, transposed. -/
theorem weight (c : Dev nD) : V m c main_v9 = truncf (F := Ideal) .bf16 (transpose S5120x2048 [1, 0] (val_main_v8 (F := Ideal) (aw m c)) transposes_S2048x5120_S5120x2048_1_0) bitsLt_bf16_f32 := by
  rw [entry]
  after_results
  rfl

theorem blk1 (c : Dev nD) (t : Fin cfg0.N) (l : Fin 1280) (k : Fin 2048) : (iblk m c 1 t : FVec Ideal S1280x2048 .bf16) (ix2 l k) = Cert.Reference11Ideal.Read.val_main_v8 (F := Ideal) (aw m c) (ix2 k (col t l)) := by
  blk_simp [iblk, idx t]
  rw [weight]
  pointwise
  blk_point [col, idx t]

theorem emb2 (t : Fin cfg0.N) (r : Fin 1024) (l : Fin 1280) : ((cfg0.win 2).blk t).view.emb (ix2 r l) = (ix2 (row t r) (col t l) : S4096x5120.Idx) := by
  blk_ext [row, col, idx t]

open Cert.Reference11Ideal.Read in
theorem ref9 (x : FVec Ideal S1x4096x2048 .f32) (w : FVec Ideal S2048x4928 .f32) (r : Fin 4096) (j : Fin 5120) :
    val_main_v9 (F := Ideal) x w (ix2 r j) = ∑ k : Fin 2048, x (ix3 0 r k) * val_main_v8 (F := Ideal) w (ix2 k j) := by
  pointwise [val_main_v9, val_main_v6]

theorem final2 (c : Dev nD) : (dats m 0 c).arrAt 2 cfg0.N = Cert.Reference11Ideal.Read.val_main_v9 (F := Ideal) (ah m c) (aw m c) := by
  refine (dats m 0 c).arrAt_eq_of_covers 2 _ (by decide +kernel) fun t _ y => ?_
  obtain ⟨r, l, rfl⟩ : ∃ (r : Fin 1024) (l : Fin 1280), y = ix2 r l := ⟨y 0, y 1, eq_ix2 y⟩
  rw [emb2, ref9]
  blk_simp
  rw [after0_2]
  frame_out
  pointwise [k0_pay1]
  simp only [blk0, blk1]

end Cert.Kernel11Ideal.Proj

namespace Cert.Projection

open Idealize.ShloMosaic Idealize.ShloMosaic.TcCoe Idealize.SL.Sem

/-- The reference ends and touches none of its arguments. -/
theorem reference_runs : Cert.quiescent_Reference11Ideal (hReference11Ideal := Cert.Reference11Ideal.Gen.facts) := fun m g _ =>
  (θ_run Cert.Reference11Ideal.defs _ _).mono (fun r h => ⟨fun c => (h c).2, sem_eq_zero_of_no_sems (by decide) r.2⟩)
    (Cert.Reference11Ideal.Value.run (F := Ideal) m g)

/-- The call and the product end with equal results. -/
theorem algebraic : Cert.algebraic_Kernel11Ideal_Reference11Ideal (hKernel11Ideal := Cert.Kernel11Ideal.Gen.facts) (hReference11Ideal := Cert.Reference11Ideal.Gen.facts) := by
  intro m g m' g' _ hag
  refine ⟨_, Cert.Kernel11Ideal.Value.run_blocks m g, ?_⟩
  refine (θ_run _ _ _).mono (fun _ h c => ?_) (Cert.Reference11Ideal.Value.run m' g')
  obtain ⟨r0, rest⟩ := h c
  obtain ⟨e0, e1⟩ := hag c
  refine ⟨r0.trans ?_, rest⟩
  refine (Cert.Reference11Ideal.Read.val_main_v9_eq _ _).trans ?_
  rw [e0, e1]
  exact (Cert.Kernel11Ideal.Proj.final2 m c).symm

end Cert.Projection

end
-- ==== Proof.Modulation.lean ====
module

public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise
public import Idealize.ShloMosaic.Lib.Claim
public import proofs.«01_k».proof.Defs
public import proofs.«01_k».proof.Proof.Gen.Reference12Ideal

@[expose] public section

set_option maxRecDepth 16384

noncomputable section

namespace Cert.Kernel12Ideal.Mod

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![t.val, 0, 0] ∧ win0_2.index t = ![t.val, 0, 0] ∧ win0_3.index t = ![t.val, 0, 0] :=
  (by decide +kernel : ∀ t : Fin grid0.N, _)

/-- The layer of step `t`. -/
def layer (t : Fin cfg0.N) : Fin 2 := ⟨t.val, by have := t.isLt; have : cfg0.N = 2 := N_0; omega⟩

abbrev ac (c : Dev nD) : FVec Ideal S8x2048 .f32 := m ((c : Thread nD τ).loc main_arg0)
abbrev aw (c : Dev nD) : FVec Ideal S2x2048x768 .f32 := m ((c : Thread nD τ).loc main_arg1)
abbrev ab (c : Dev nD) : FVec Ideal S2x6144 .f32 := m ((c : Thread nD τ).loc main_arg2)

theorem blk0 (c : Dev nD) (t : Fin cfg0.N) (r : Fin 8) (l : Fin 2048) : (iblk m c 0 t : FVec Ideal S8x2048 .f32) (ix2 r l) = ac m c (ix2 r l) := by
  blk_simp [iblk, idx t]
  entry_read
  pointwise
  blk_point [layer, idx t]

theorem blk1 (c : Dev nD) (t : Fin cfg0.N) (k : Fin 2048) (l : Fin 768) : (iblk m c 1 t : FVec Ideal S1x2048x768 .f32) (ix3 0 k l) = aw m c (ix3 (layer t) k l) := by
  blk_simp [iblk, idx t]
  entry_read
  pointwise
  blk_point [layer, idx t]

theorem blk2 (c : Dev nD) (t : Fin cfg0.N) (l : Fin 768) : (iblk m c 2 t : FVec Ideal S1x1x768 .f32) (ix3 0 0 l) = ab m c (ix2 (layer t) ⟨l.val, by omega⟩) := by
  blk_simp [iblk, idx t]
  entry_read
  pointwise
  blk_point [layer, idx t]

theorem emb3 (t : Fin cfg0.N) (r : Fin 8) (l : Fin 768) : ((cfg0.win 3).blk t).view.emb (ix3 0 r l) = (ix3 (layer t) r l : S2x8x768.Idx) := by
  blk_ext [layer, idx t]

open Cert.Reference12Ideal.Read in
theorem ref6 (x : FVec Ideal S8x2048 .f32) (w : FVec Ideal S2x2048x768 .f32) (b : FVec Ideal S2x6144 .f32) (t : Fin 2) (r : Fin 8) (l : Fin 768) :
    val_main_v6 (F := Ideal) x w b (ix3 t r l) = (∑ k : Fin 2048, x (ix2 r k) * Ideal.logistic (x (ix2 r k)) * w (ix3 t k l)) + b (ix2 t ⟨l.val, by omega⟩) := by
  pointwise [val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0]
  exact congrArg (· + _) (Finset.sum_congr rfl fun k _ => mul_comm _ _)

theorem final3 (c : Dev nD) : (dats m 0 c).arrAt 3 cfg0.N = Cert.Reference12Ideal.Read.val_main_v6 (F := Ideal) (ac m c) (aw m c) (ab m c) := by
  refine (dats m 0 c).arrAt_eq_of_covers 3 _ (by decide +kernel) fun t _ y => ?_
  obtain ⟨r, l, rfl⟩ : ∃ (r : Fin 8) (l : Fin 768), y = ix3 0 r l := ⟨y 1, y 2, by rw [eq_ix3 y]; exact congrArg (fun a => ix3 a (y 1) (y 2)) (Subsingleton.elim (α := Fin 1) _ _)⟩
  rw [emb3, ref6]
  blk_simp
  rw [after0_3]
  frame_out
  pointwise [k0_pay1]
  simp only [blk0, blk1, blk2]

end Cert.Kernel12Ideal.Mod

namespace Cert.Modulation

open Idealize.ShloMosaic Idealize.ShloMosaic.TcCoe Idealize.SL.Sem

/-- The reference ends and touches none of its arguments. -/
theorem reference_runs : Cert.quiescent_Reference12Ideal (hReference12Ideal := Cert.Reference12Ideal.Gen.facts) := fun m g _ =>
  (θ_run Cert.Reference12Ideal.defs _ _).mono (fun r h => ⟨fun c => (h c).2, sem_eq_zero_of_no_sems (by decide) r.2⟩)
    (Cert.Reference12Ideal.Value.run (F := Ideal) m g)

/-- The call and the product end with equal results. -/
theorem algebraic : Cert.algebraic_Kernel12Ideal_Reference12Ideal (hKernel12Ideal := Cert.Kernel12Ideal.Gen.facts) (hReference12Ideal := Cert.Reference12Ideal.Gen.facts) := by
  intro m g m' g' _ hag
  refine ⟨_, Cert.Kernel12Ideal.Value.run_blocks m g, ?_⟩
  refine (θ_run _ _ _).mono (fun _ h c => ?_) (Cert.Reference12Ideal.Value.run m' g')
  obtain ⟨r0, rest⟩ := h c
  obtain ⟨e0, e1, e2⟩ := hag c
  refine ⟨r0.trans ?_, rest⟩
  refine (Cert.Reference12Ideal.Read.val_main_v6_eq _ _ _).trans ?_
  rw [e0, e1, e2]
  exact (Cert.Kernel12Ideal.Mod.final3 m c).symm

end Cert.Modulation

end
-- ==== Proof.Optimizer.lean ====
module

public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pointwise
public import Idealize.ShloMosaic.Lib.Claim
public import proofs.«01_k».proof.Defs
public import proofs.«01_k».proof.Proof.Gen.Reference13Ideal

@[expose] public section

set_option maxRecDepth 16384

noncomputable section

namespace Cert.Kernel13Ideal.Opt

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, min t.val 3, 0] ∧ win0_1.index t = ![0, t.val - 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] :=
  (by decide +kernel : ∀ t : Fin grid0.N, _)

/-- The layer of step `t`. -/
def layer (t : Fin cfg0.N) : Fin 2 := ⟨t.val / 4, by have := t.isLt; have : cfg0.N = 8 := N_0; omega⟩

/-- Row `r` of block `t` as a row of the layer's weight. -/
def row (t : Fin cfg0.N) (r : Fin 64) : Fin 256 := ⟨t.val % 4 * 64 + r.val, by omega⟩

abbrev ag0 (c : Dev nD) : FVec Ideal S8x256x2048 .f32 := m ((c : Thread nD τ).loc main_arg0)
abbrev ag1 (c : Dev nD) : FVec Ideal S8x256x2048 .f32 := m ((c : Thread nD τ).loc main_arg1)
abbrev aw (c : Dev nD) : FVec Ideal S2x256x2048 .f32 := m ((c : Thread nD τ).loc main_arg2)
abbrev am (c : Dev nD) : FVec Ideal S2x256x2048 .f32 := m ((c : Thread nD τ).loc main_arg3)
abbrev av (c : Dev nD) : FVec Ideal S2x256x2048 .f32 := m ((c : Thread nD τ).loc main_arg4)

theorem blk0 (c : Dev nD) (t : Fin cfg0.N) (h : t.val < 4) (p : Fin 8) (r : Fin 64) (l : Fin 2048) : (iblk m c 0 t : FVec Ideal S8x64x2048 .bf16) (ix3 p r l) = ag0 m c (ix3 p (row t r) l) := by
  have e : min t.val 3 = t.val % 4 := by omega
  blk_simp [iblk, idx t]
  entry_read
  pointwise
  blk_point [row, idx t, e]

theorem blk1 (c : Dev nD) (t : Fin cfg0.N) (h : 4 ≤ t.val) (p : Fin 8) (r : Fin 64) (l : Fin 2048) : (iblk m c 1 t : FVec Ideal S8x64x2048 .bf16) (ix3 p r l) = ag1 m c (ix3 p (row t r) l) := by
  have e : t.val - 4 = t.val % 4 := by have := t.isLt; have : cfg0.N = 8 := N_0; omega
  blk_simp [iblk, idx t]
  entry_read
  pointwise
  blk_point [row, idx t, e]

theorem blk2 (c : Dev nD) (t : Fin cfg0.N) (r : Fin 64) (l : Fin 2048) : (iblk m c 2 t : FVec Ideal S1x64x2048 .f32) (ix3 0 r l) = aw m c (ix3 (layer t) (row t r) l) := by
  blk_simp [iblk, idx t]
  entry_read
  pointwise
  blk_point [layer, row, idx t]

theorem blk3 (c : Dev nD) (t : Fin cfg0.N) (r : Fin 64) (l : Fin 2048) : (iblk m c 3 t : FVec Ideal S1x64x2048 .f32) (ix3 0 r l) = am m c (ix3 (layer t) (row t r) l) := by
  blk_simp [iblk, idx t]
  entry_read
  pointwise
  blk_point [layer, row, idx t]

theorem blk4 (c : Dev nD) (t : Fin cfg0.N) (r : Fin 64) (l : Fin 2048) : (iblk m c 4 t : FVec Ideal S1x64x2048 .f32) (ix3 0 r l) = av m c (ix3 (layer t) (row t r) l) := by
  blk_simp [iblk, idx t]
  entry_read
  pointwise
  blk_point [layer, row, idx t]

theorem emb5 (t : Fin cfg0.N) (r : Fin 64) (l : Fin 2048) : ((cfg0.win 5).blk t).view.emb (ix3 0 r l) = (ix3 (layer t) (row t r) l : S2x256x2048.Idx) := by
  blk_ext [layer, row, idx t]

theorem emb6 (t : Fin cfg0.N) (r : Fin 64) (l : Fin 2048) : ((cfg0.win 6).blk t).view.emb (ix3 0 r l) = (ix3 (layer t) (row t r) l : S2x256x2048.Idx) := by
  blk_ext [layer, row, idx t]

theorem emb7 (t : Fin cfg0.N) (r : Fin 64) (l : Fin 2048) : ((cfg0.win 7).blk t).view.emb (ix3 0 r l) = (ix3 (layer t) (row t r) l : S2x256x2048.Idx) := by
  blk_ext [layer, row, idx t]

theorem emb8 (t : Fin cfg0.N) (r : Fin 64) (l : Fin 2048) : ((cfg0.win 8).blk t).view.emb (ix3 0 r l) = (ix3 (layer t) (row t r) l : S2x256x2048.Idx) := by
  blk_ext [layer, row, idx t]

open Cert.Reference13Ideal.Read in
/-- The first layer's gradient is the sum of its parts. -/
theorem ref_first (x y : FVec Ideal S8x256x2048 .f32) (t : Fin 2) (h : t.val = 0) (r : Fin 256) (l : Fin 2048) :
    val_main_v4 (F := Ideal) x y (ix3 t r l) = ∑ p : Fin 8, x (ix3 p r l) := by
  obtain rfl : t = 0 := Fin.ext h
  pointwise [val_main_v4, val_main_v2, val_main_v0, val_main_cst]

open Cert.Reference13Ideal.Read in
/-- The second layer's gradient is the sum of its parts. -/
theorem ref_second (x y : FVec Ideal S8x256x2048 .f32) (t : Fin 2) (h : t.val = 1) (r : Fin 256) (l : Fin 2048) :
    val_main_v4 (F := Ideal) x y (ix3 t r l) = ∑ p : Fin 8, y (ix3 p r l) := by
  obtain rfl : t = 1 := Fin.ext h
  pointwise [val_main_v4, val_main_v3, val_main_v1, val_main_cst_0]

/-- The sum of the eight parts of a block, from the left. -/
def parts (x : FVec Ideal S8x64x2048 .bf16) (r : Fin 64) (l : Fin 2048) : EReal :=
  x (ix3 0 r l) + x (ix3 1 r l) + x (ix3 2 r l) + x (ix3 3 r l) + x (ix3 4 r l) + x (ix3 5 r l) + x (ix3 6 r l) + x (ix3 7 r l)

/-- The eight parts that the first layer's steps read add up to its gradient. -/
theorem grad_first (c : Dev nD) (t : Fin cfg0.N) (h : t.val < 4) (r : Fin 64) (l : Fin 2048) :
    parts (iblk m c 0 t) r l = Cert.Reference13Ideal.Read.val_main_v4 (F := Ideal) (ag0 m c) (ag1 m c) (ix3 (layer t) (row t r) l) := by
  rw [ref_first _ _ _ (by simp only [layer]; omega)]
  simp only [parts, blk0 m c t h]
  exact (Fin.sum_univ_eight (fun p => ag0 m c (ix3 p (row t r) l))).symm

/-- The eight parts that the second layer's steps read add up to its gradient. -/
theorem grad_second (c : Dev nD) (t : Fin cfg0.N) (h : 4 ≤ t.val) (r : Fin 64) (l : Fin 2048) :
    parts (iblk m c 1 t) r l = Cert.Reference13Ideal.Read.val_main_v4 (F := Ideal) (ag0 m c) (ag1 m c) (ix3 (layer t) (row t r) l) := by
  rw [ref_second _ _ _ (by have := t.isLt; have : cfg0.N = 8 := N_0; simp only [layer]; omega)]
  simp only [parts, blk1 m c t h]
  exact (Fin.sum_univ_eight (fun p => ag1 m c (ix3 p (row t r) l))).symm

/-- The new first moment from the gradient and the old one. -/
def first (g m : EReal) : EReal := Ideal.ofBits .f32 0x3F666666#32 * m + Ideal.ofBits .f32 0x3DCCCCCD#32 * g

/-- The new second moment from the gradient and the old one. -/
def second (g v : EReal) : EReal := Ideal.ofBits .f32 0x3F7FBE77#32 * v + Ideal.ofBits .f32 0x3A83126F#32 * (g * g)

/-- The step of the weight from the gradient, the weight and the old moments. -/
def step (g w m v : EReal) : EReal :=
  Ideal.ofBits .f32 0xBA83126F#32 * (Ideal.div (Ideal.div (first g m) (Ideal.ofBits .f32 0x3F26BD02#32)) (Ideal.sqrt (Ideal.div (second g v) (Ideal.ofBits .f32 0x3C231ACC#32)) + Ideal.ofBits .f32 0x322BCC77#32)
    + Ideal.ofBits .f32 0x3C23D70A#32 * w)

open Cert.Reference13Ideal.Read in
theorem ref9 (x y : FVec Ideal S8x256x2048 .f32) (u : FVec Ideal S2x256x2048 .f32) (i : S2x256x2048.Idx) :
    val_main_v9 (F := Ideal) x y u i = first (val_main_v4 (F := Ideal) x y i) (u i) := by
  pointwise [val_main_v9, val_main_v8, val_main_v7, val_main_v6, val_main_v5, val_main_cst_1, val_main_cst_2]
  rfl

open Cert.Reference13Ideal.Read in
theorem ref15 (x y : FVec Ideal S8x256x2048 .f32) (v : FVec Ideal S2x256x2048 .f32) (i : S2x256x2048.Idx) :
    val_main_v15 (F := Ideal) x y v i = second (val_main_v4 (F := Ideal) x y i) (v i) := by
  pointwise [val_main_v15, val_main_v14, val_main_v13, val_main_v12, val_main_v11, val_main_v10, val_main_cst_3, val_main_cst_4]
  rfl

open Cert.Reference13Ideal.Read in
theorem ref28 (x y : FVec Ideal S8x256x2048 .f32) (w u v : FVec Ideal S2x256x2048 .f32) (i : S2x256x2048.Idx) :
    val_main_v28 (F := Ideal) x y w u v i = step (val_main_v4 (F := Ideal) x y i) (w i) (u i) (v i) := by
  pointwise [val_main_v28, val_main_v27, val_main_v26, val_main_v25, val_main_v24, val_main_v23, val_main_v22, val_main_v21, val_main_v20, val_main_v19, val_main_v18, val_main_v17, val_main_v16, val_main_cst_5, val_main_cst_6, val_main_cst_7, val_main_cst_8, val_main_cst_9]
  rw [ref9, ref15]
  rfl

theorem final5 (c : Dev nD) : (dats m 0 c).arrAt 5 cfg0.N = Cert.Reference13Ideal.Read.val_main_v4 (F := Ideal) (ag0 m c) (ag1 m c) := by
  refine (dats m 0 c).arrAt_eq_of_covers 5 _ (by decide +kernel) fun t _ y => ?_
  obtain ⟨r, l, rfl⟩ : ∃ (r : Fin 64) (l : Fin 2048), y = ix3 0 r l := ⟨y 1, y 2, by rw [eq_ix3 y]; exact congrArg (fun a => ix3 a (y 1) (y 2)) (Subsingleton.elim (α := Fin 1) _ _)⟩
  rw [emb5]
  blk_simp
  rw [after0_5]
  by_cases h : t.val < 4
  · rw [outsAt0_A m c t h (by omega)]
    frame_out
    pointwise [k0_pay6, k0_pay4]
    have e := grad_first m c t h r l
    simp only [parts] at e
    simp only [e]
  · replace h : 4 ≤ t.val := by omega
    rw [outsAt0_B m c t (by omega) h]
    frame_out
    pointwise [k0_pay6, k0_pay5]
    have e := grad_second m c t h r l
    simp only [parts] at e
    simp only [e]

theorem final6 (c : Dev nD) : (dats m 0 c).arrAt 6 cfg0.N = Cert.Reference13Ideal.Read.val_main_v28 (F := Ideal) (ag0 m c) (ag1 m c) (aw m c) (am m c) (av m c) := by
  refine (dats m 0 c).arrAt_eq_of_covers 6 _ (by decide +kernel) fun t _ y => ?_
  obtain ⟨r, l, rfl⟩ : ∃ (r : Fin 64) (l : Fin 2048), y = ix3 0 r l := ⟨y 1, y 2, by rw [eq_ix3 y]; exact congrArg (fun a => ix3 a (y 1) (y 2)) (Subsingleton.elim (α := Fin 1) _ _)⟩
  rw [emb6, ref28]
  blk_simp
  rw [after0_6]
  by_cases h : t.val < 4
  · rw [outsAt0_A m c t h (by omega)]
    frame_out
    pointwise [k0_pay1, k0_pay10, k0_pay11, k0_pay9, k0_pay8, k0_pay7, k0_pay4]
    have e := grad_first m c t h r l
    simp only [parts] at e
    simp only [e, blk2, blk3, blk4]
    rfl
  · replace h : 4 ≤ t.val := by omega
    rw [outsAt0_B m c t (by omega) h]
    frame_out
    pointwise [k0_pay1, k0_pay10, k0_pay11, k0_pay9, k0_pay8, k0_pay7, k0_pay5]
    have e := grad_second m c t h r l
    simp only [parts] at e
    simp only [e, blk2, blk3, blk4]
    rfl

theorem final7 (c : Dev nD) : (dats m 0 c).arrAt 7 cfg0.N = Cert.Reference13Ideal.Read.val_main_v9 (F := Ideal) (ag0 m c) (ag1 m c) (am m c) := by
  refine (dats m 0 c).arrAt_eq_of_covers 7 _ (by decide +kernel) fun t _ y => ?_
  obtain ⟨r, l, rfl⟩ : ∃ (r : Fin 64) (l : Fin 2048), y = ix3 0 r l := ⟨y 1, y 2, by rw [eq_ix3 y]; exact congrArg (fun a => ix3 a (y 1) (y 2)) (Subsingleton.elim (α := Fin 1) _ _)⟩
  rw [emb7, ref9]
  blk_simp
  rw [after0_7]
  by_cases h : t.val < 4
  · rw [outsAt0_A m c t h (by omega)]
    frame_out
    pointwise [k0_pay2, k0_pay8, k0_pay4]
    have e := grad_first m c t h r l
    simp only [parts] at e
    simp only [e, blk3]
    rfl
  · replace h : 4 ≤ t.val := by omega
    rw [outsAt0_B m c t (by omega) h]
    frame_out
    pointwise [k0_pay2, k0_pay8, k0_pay5]
    have e := grad_second m c t h r l
    simp only [parts] at e
    simp only [e, blk3]
    rfl

theorem final8 (c : Dev nD) : (dats m 0 c).arrAt 8 cfg0.N = Cert.Reference13Ideal.Read.val_main_v15 (F := Ideal) (ag0 m c) (ag1 m c) (av m c) := by
  refine (dats m 0 c).arrAt_eq_of_covers 8 _ (by decide +kernel) fun t _ y => ?_
  obtain ⟨r, l, rfl⟩ : ∃ (r : Fin 64) (l : Fin 2048), y = ix3 0 r l := ⟨y 1, y 2, by rw [eq_ix3 y]; exact congrArg (fun a => ix3 a (y 1) (y 2)) (Subsingleton.elim (α := Fin 1) _ _)⟩
  rw [emb8, ref15]
  blk_simp
  rw [after0_8]
  by_cases h : t.val < 4
  · rw [outsAt0_A m c t h (by omega)]
    frame_out
    pointwise [k0_pay3, k0_pay9, k0_pay4]
    have e := grad_first m c t h r l
    simp only [parts] at e
    simp only [e, blk4]
    rfl
  · replace h : 4 ≤ t.val := by omega
    rw [outsAt0_B m c t (by omega) h]
    frame_out
    pointwise [k0_pay3, k0_pay9, k0_pay5]
    have e := grad_second m c t h r l
    simp only [parts] at e
    simp only [e, blk4]
    rfl

end Cert.Kernel13Ideal.Opt

namespace Cert.Optimizer

open Idealize.ShloMosaic Idealize.ShloMosaic.TcCoe Idealize.SL.Sem

/-- The reference ends and touches none of its arguments. -/
theorem reference_runs : Cert.quiescent_Reference13Ideal (hReference13Ideal := Cert.Reference13Ideal.Gen.facts) := fun m g _ =>
  (θ_run Cert.Reference13Ideal.defs _ _).mono (fun r h => ⟨fun c => (h c).2.2.2.2, sem_eq_zero_of_no_sems (by decide) r.2⟩)
    (Cert.Reference13Ideal.Value.run (F := Ideal) m g)

open Cert.Kernel13Ideal.Opt in
/-- The call and the optimiser's step end with equal results. -/
theorem algebraic : Cert.algebraic_Kernel13Ideal_Reference13Ideal (hKernel13Ideal := Cert.Kernel13Ideal.Gen.facts) (hReference13Ideal := Cert.Reference13Ideal.Gen.facts) := by
  intro m g m' g' _ hag
  refine ⟨_, _, _, _, Cert.Kernel13Ideal.Value.run_blocks m g, ?_⟩
  refine (θ_run _ _ _).mono (fun _ h c => ?_) (Cert.Reference13Ideal.Value.run m' g')
  obtain ⟨r0, r1, r2, r3, rest⟩ := h c
  obtain ⟨e0, e1, e2, e3, e4⟩ := hag c
  refine ⟨r0.trans ?_, r1.trans ?_, r2.trans ?_, r3.trans ?_, rest⟩
  · refine (Cert.Reference13Ideal.Read.val_main_v4_eq _ _).trans ?_
    rw [e0, e1]
    exact (final5 m c).symm
  · refine (Cert.Reference13Ideal.Read.val_main_v28_eq _ _ _ _ _).trans ?_
    rw [e0, e1, e2, e3, e4]
    exact (final6 m c).symm
  · refine (Cert.Reference13Ideal.Read.val_main_v9_eq _ _ _).trans ?_
    rw [e0, e1, e3]
    exact (final7 m c).symm
  · refine (Cert.Reference13Ideal.Read.val_main_v15_eq _ _ _).trans ?_
    rw [e0, e1, e4]
    exact (final8 m c).symm

end Cert.Optimizer

end
-- ==== Proof.PackAssemble.lean ====
module

public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pointwise
public import Idealize.ShloMosaic.Lib.Claim
public import proofs.«01_k».proof.Defs
public import proofs.«01_k».proof.Proof.Gen.Reference14Ideal

@[expose] public section

set_option maxRecDepth 16384

noncomputable section

namespace Cert.Kernel14Ideal.Assemble

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0, t.val] ∧ win0_1.index t = ![0, t.val] :=
  (by decide +kernel : ∀ t : Fin grid0.N, _)

/-- Column `k` of block `t` as a column of the whole array. -/
def col (t : Fin cfg0.N) (k : Fin 512) : Fin 2048 := ⟨t.val * 512 + k.val, by have := t.isLt; have : cfg0.N = 4 := N_0; omega⟩

/-- The weight's column that becomes row `n` of the packed weight. -/
def source (n : ℕ) : ℕ := if n < 2048 then n + 1856 else if n < 3072 then n - 1216 else if n < 4096 then n + 832 else n - 4096

theorem source_lt (n : ℕ) (h : n < 4928) : source n < 4928 := by
  unfold source
  split_ifs <;> omega

/-- Entry `l` of the packed weight's row `n`: the weight's, or zero past its columns. -/
def packed (x : FVec Ideal S2048x4928 .f32) (n : Fin 5120) (l : Fin 2048) : EReal :=
  if h : n.val < 4928 then x (ix2 l ⟨source n.val, source_lt _ h⟩) else 0

theorem packed_row (x : FVec Ideal S2048x4928 .f32) (n : Fin 5120) (l : Fin 2048) (p : Fin 4928) (h : n.val < 4928) (e : p.val = source n.val) :
    x (ix2 l p) = packed x n l := by
  rw [packed, dif_pos h]
  exact congrArg (fun a => x (ix2 l a)) (Fin.ext e)

theorem packed_zero (x : FVec Ideal S2048x4928 .f32) (n : Fin 5120) (l : Fin 2048) (h : ¬ n.val < 4928) : 0 = packed x n l := by
  rw [packed, dif_neg h]

/-- A choice whose two sides are one value is that value. -/
theorem choice_eq {α : Type} {p : Prop} [Decidable p] {a : p → α} {b : ¬ p → α} {z : α} (ha : ∀ h, a h = z) (hb : ∀ h, b h = z) : dite p a b = z := by
  split
  · exact ha _
  · exact hb _

abbrev ag (c : Dev nD) : FVec Ideal S2048x4928 .f32 := m ((c : Thread nD τ).loc main_arg0)

theorem blk0 (c : Dev nD) (t : Fin cfg0.N) (j : Fin 8) (r : Fin 616) (k : Fin 512) :
    (iblk m c 0 t : FVec Ideal S8x616x512 .bf16) (ix3 j r k) = ag m c (ix2 (col t k) ⟨j.val * 616 + r.val, by omega⟩) := by
  blk_simp [iblk, idx t]
  entry_read
  pointwise
  blk_point [col, idx t]

theorem emb1 (t : Fin cfg0.N) (r : Fin 5120) (k : Fin 512) : ((cfg0.win 1).blk t).view.emb (ix2 r k) = (ix2 r (col t k) : S5120x2048.Idx) := by
  blk_ext [col, idx t]

open Cert.Reference14Ideal.Read in
set_option maxRecDepth 65536 in
theorem ref_entry (x : FVec Ideal S2048x4928 .f32) (r : Fin 5120) (l : Fin 2048) :
    val_main_v9 (F := Ideal) x (ix2 r l) = packed x r l := by
  pointwise [val_main_v9, val_main_v8, val_main_v7, val_main_cst, val_main_v6, val_main_v5, val_main_v4, val_main_v3, val_main_v2, val_main_v1, val_main_v0]
  repeat' refine choice_eq (fun h => ?_) (fun h => ?_)
  all_goals first | exact packed_row x r l _ (by omega) (by simp only [source]; split_ifs <;> omega) | exact packed_zero x r l (by omega)

set_option maxHeartbeats 1600000 in
set_option maxRecDepth 65536 in
theorem final1 (c : Dev nD) : (dats m 0 c).arrAt 1 cfg0.N = Cert.Reference14Ideal.Read.val_main_v9 (F := Ideal) (ag m c) := by
  refine (dats m 0 c).arrAt_eq_of_covers 1 _ (by decide +kernel) fun t _ y => ?_
  obtain ⟨r, k, rfl⟩ : ∃ (r : Fin 5120) (k : Fin 512), y = ix2 r k := ⟨y 0, y 1, eq_ix2 y⟩
  rw [emb1, ref_entry]
  blk_simp
  rw [after0_1]
  frame_out
  unfold k0_pay1
  change (concatenate S5120x512 0 _ (by exact concatenates_S608x512_S616x512_S616x512_S208x512_S400x512_S616x512_S8x512_S408x512_S616x512_S512x512_S104x512_S152x512_S64x512_S192x512_S5120x512_d0) (ix2 r k) : EReal) = _
  rw [concatenate_cons_apply]
  repeat' (rw [concatenateAt_cons]; refine choice_eq (fun h => ?_) (fun h => ?_) <;> have h' := h)
  all_goals pointwise [k0_pay2, k0_pay3, k0_pay4, k0_pay5, k0_pay6, k0_pay7, k0_pay8, k0_pay9, k0_pay10]
  all_goals simp only [ix2, Fin.cast_zero, Matrix.cons_val_zero, Fin.isValue, Fin.cast_eq_self, Nat.sub_sub, Nat.reduceAdd] at *
  all_goals first | exact (blk0 m c t _ _ _).trans (packed_row (ag m c) r (col t k) _ (by omega) (by simp [source]; try (split_ifs <;> omega))) | exact packed_zero (ag m c) r (col t k) (by omega)

end Cert.Kernel14Ideal.Assemble

namespace Cert.PackAssemble

open Idealize.ShloMosaic Idealize.ShloMosaic.TcCoe Idealize.SL.Sem

/-- The reference ends and touches none of its arguments. -/
theorem reference_runs : Cert.quiescent_Reference14Ideal (hReference14Ideal := Cert.Reference14Ideal.Gen.facts) := fun m g _ =>
  (θ_run Cert.Reference14Ideal.defs _ _).mono (fun r h => ⟨fun c => (h c).2, sem_eq_zero_of_no_sems (by decide) r.2⟩)
    (Cert.Reference14Ideal.Value.run (F := Ideal) m g)

/-- The call and the reordered columns end with equal results. -/
theorem algebraic : Cert.algebraic_Kernel14Ideal_Reference14Ideal (hKernel14Ideal := Cert.Kernel14Ideal.Gen.facts) (hReference14Ideal := Cert.Reference14Ideal.Gen.facts) := by
  intro m g m' g' _ hag
  refine ⟨_, Cert.Kernel14Ideal.Value.run_blocks m g, ?_⟩
  refine (θ_run _ _ _).mono (fun _ h c => ?_) (Cert.Reference14Ideal.Value.run m' g')
  obtain ⟨r0, rest⟩ := h c
  have e0 := hag c
  refine ⟨r0.trans ?_, rest⟩
  refine (Cert.Reference14Ideal.Read.val_main_v9_eq _).trans ?_
  rw [e0]
  exact (Cert.Kernel14Ideal.Assemble.final1 m c).symm

end Cert.PackAssemble

end
-- ==== Proof.PackSplit.lean ====
module

public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pointwise
public import Idealize.ShloMosaic.Lib.Claim
public import proofs.«01_k».proof.Defs
public import proofs.«01_k».proof.Proof.Gen.Reference15Ideal

@[expose] public section

set_option maxRecDepth 16384

noncomputable section

namespace Cert.Kernel15Ideal.Split

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, t.val] ∧ win0_1.index t = ![0, 0, t.val] :=
  (by decide +kernel : ∀ t : Fin grid0.N, _)

/-- Column `k` of block `t` as a column of the whole gradient. -/
def col (t : Fin cfg0.N) (k : Fin 512) : Fin 2048 := ⟨t.val * 512 + k.val, by have := t.isLt; have : cfg0.N = 4 := N_0; omega⟩

/-- The padded gradient's row that becomes row `n` of the shards laid end to end. -/
def source (n : ℕ) : ℕ := if n < 832 then n + 4096 else if n < 1856 then n + 1216 else if n < 3904 then n - 1856 else n - 832

theorem source_lt (n : ℕ) (h : n < 4928) : source n < 5120 := by
  unfold source
  split_ifs <;> omega

/-- Row `r` of shard `j` as a row of the padded gradient. -/
def src (j : Fin 8) (r : Fin 616) : Fin 5120 := ⟨source (j.val * 616 + r.val), source_lt _ (by omega)⟩

abbrev ag (c : Dev nD) : FVec Ideal S5120x2048 .f32 := m ((c : Thread nD τ).loc main_arg0)

theorem blk0 (c : Dev nD) (t : Fin cfg0.N) (r : Fin 5120) (k : Fin 512) : (iblk m c 0 t : FVec Ideal S5120x512 .f32) (ix2 r k) = ag m c (ix2 r (col t k)) := by
  blk_simp [iblk, idx t]
  entry_read
  pointwise
  blk_point [col, idx t]

theorem emb1 (t : Fin cfg0.N) (j : Fin 8) (r : Fin 616) (k : Fin 512) : ((cfg0.win 1).blk t).view.emb (ix3 j r k) = (ix3 j r (col t k) : S8x616x2048.Idx) := by
  blk_ext [col, idx t]

open Cert.Reference15Ideal.Read in
theorem ref_entry (x : FVec Ideal S5120x2048 .f32) (j : Fin 8) (r : Fin 616) (l : Fin 2048) :
    val_main_v8 (F := Ideal) x (ix3 j r l) = x (ix2 (src j r) l) := by
  pointwise [val_main_v8, val_main_v7, val_main_v6, val_main_v5, val_main_v4, val_main_v3, val_main_v2, val_main_v1, val_main_v0]
  split_ifs <;> exact congrArg (fun a => x (ix2 a l)) (Fin.ext (by simp only [src, source]; split_ifs <;> omega))

theorem final1 (c : Dev nD) : (dats m 0 c).arrAt 1 cfg0.N = Cert.Reference15Ideal.Read.val_main_v8 (F := Ideal) (ag m c) := by
  refine (dats m 0 c).arrAt_eq_of_covers 1 _ (by decide +kernel) fun t _ y => ?_
  obtain ⟨j, r, k, rfl⟩ : ∃ (j : Fin 8) (r : Fin 616) (k : Fin 512), y = ix3 j r k := ⟨y 0, y 1, y 2, eq_ix3 y⟩
  rw [emb1, ref_entry]
  blk_simp
  rw [after0_1]
  frame_out
  canon_tiles x e
  all_goals
    obtain ⟨r', k', rfl⟩ : ∃ (r' : Fin 616) (k' : Fin 512), x = ix3 0 r' k' := ⟨x 1, x 2, by rw [eq_ix3 x]; exact congrArg (fun a => ix3 a (x 1) (x 2)) (Subsingleton.elim (α := Fin 1) _ _)⟩
    obtain rfl : r = r' := Fin.ext e1
    obtain rfl : k = k' := Fin.ext e2
    replace e0 : j.val = _ := e0.trans (Nat.add_zero _)
    clear e1 e2 x0_lt x1_lt x2_lt
    pointwise [k0_pay1, k0_pay2, k0_pay3, k0_pay4, k0_pay5, k0_pay6, k0_pay7, k0_pay8]
    simp only [blk0]
    first | (split_ifs <;> exact congrArg (fun a => ag m c (ix2 a (col t k))) (Fin.ext (by simp only [src, source, e0]; split_ifs <;> omega))) | exact congrArg (fun a => ag m c (ix2 a (col t k))) (Fin.ext (by simp only [src, source, e0]; split_ifs <;> omega))

end Cert.Kernel15Ideal.Split

namespace Cert.PackSplit

open Idealize.ShloMosaic Idealize.ShloMosaic.TcCoe Idealize.SL.Sem

/-- The reference ends and touches none of its arguments. -/
theorem reference_runs : Cert.quiescent_Reference15Ideal (hReference15Ideal := Cert.Reference15Ideal.Gen.facts) := fun m g _ =>
  (θ_run Cert.Reference15Ideal.defs _ _).mono (fun r h => ⟨fun c => (h c).2, sem_eq_zero_of_no_sems (by decide) r.2⟩)
    (Cert.Reference15Ideal.Value.run (F := Ideal) m g)

/-- The call and the reordered rows end with equal results. -/
theorem algebraic : Cert.algebraic_Kernel15Ideal_Reference15Ideal (hKernel15Ideal := Cert.Kernel15Ideal.Gen.facts) (hReference15Ideal := Cert.Reference15Ideal.Gen.facts) := by
  intro m g m' g' _ hag
  refine ⟨_, Cert.Kernel15Ideal.Value.run_blocks m g, ?_⟩
  refine (θ_run _ _ _).mono (fun _ h c => ?_) (Cert.Reference15Ideal.Value.run m' g')
  obtain ⟨r0, rest⟩ := h c
  have e0 := hag c
  refine ⟨r0.trans ?_, rest⟩
  refine (Cert.Reference15Ideal.Read.val_main_v8_eq _).trans ?_
  rw [e0]
  exact (Cert.Kernel15Ideal.Split.final1 m c).symm

end Cert.PackSplit

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_attention
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_norm
public import proofs.«01_k».proof.Proof.Gen.Pre_finite_norm_below
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_gate
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.AttnClaim
public import proofs.«01_k».proof.Proof.Loss
public import proofs.«01_k».proof.Proof.Norm
public import proofs.«01_k».proof.Proof.NormBelow
public import proofs.«01_k».proof.Proof.Gate
public import proofs.«01_k».proof.Proof.NormForward
public import proofs.«01_k».proof.Proof.GateForward
public import proofs.«01_k».proof.Proof.Latent
public import proofs.«01_k».proof.Proof.LatentGrad
public import proofs.«01_k».proof.Proof.ModulationGrad
public import proofs.«01_k».proof.Proof.Projection
public import proofs.«01_k».proof.Proof.Modulation
public import proofs.«01_k».proof.Proof.Optimizer
public import proofs.«01_k».proof.Proof.PackAssemble
public import proofs.«01_k».proof.Proof.PackSplit
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Pre_finite_attention.Gen.facts, Cert.Pre_finite_norm.Gen.facts, Cert.Pre_finite_norm_below.Gen.facts,
    Cert.Pre_finite_gate.Gen.facts,
    Attn.kernel_runs, Attn.kernel_ideal_runs, Attn.kernel_ideal_runs_pre, Attn.reference_runs, Attn.reference_runs_pre,
    fun m ρ _ => Cert.Kernel2.Gen.frame m ρ, fun m ρ _ => Cert.Kernel2Ideal.Gen.frame m ρ, Cert.Loss.reference_runs,
    fun m ρ _ => Cert.Kernel3.Gen.frame m ρ, fun m ρ _ => Cert.Kernel3Ideal.Gen.frame m ρ, fun m ρ _ => Cert.Kernel3Ideal.Gen.frame m ρ,
    Cert.Norm.reference_runs, Cert.Norm.reference_runs_pre,
    fun m ρ _ => Cert.Kernel4.Gen.frame m ρ, fun m ρ _ => Cert.Kernel4Ideal.Gen.frame m ρ, fun m ρ _ => Cert.Kernel4Ideal.Gen.frame m ρ,
    Cert.NormBelow.reference_runs, Cert.NormBelow.reference_runs_pre,
    fun m ρ _ => Cert.Kernel5.Gen.frame m ρ, fun m ρ _ => Cert.Kernel5Ideal.Gen.frame m ρ, fun m ρ _ => Cert.Kernel5Ideal.Gen.frame m ρ,
    Cert.Kernel5Ideal.Gate.reference_runs, Cert.Kernel5Ideal.Gate.reference_runs_pre,
    fun m ρ _ => Cert.Kernel6.Gen.frame m ρ, fun m ρ _ => Cert.Kernel6Ideal.Gen.frame m ρ, Cert.NormForward.reference_runs,
    fun m ρ _ => Cert.Kernel7.Gen.frame m ρ, fun m ρ _ => Cert.Kernel7Ideal.Gen.frame m ρ, Cert.GateForward.reference_runs,
    fun m ρ _ => Cert.Kernel8.Gen.frame m ρ, fun m ρ _ => Cert.Kernel8Ideal.Gen.frame m ρ, Cert.Latent.reference_runs,
    fun m ρ _ => Cert.Kernel9.Gen.frame m ρ, fun m ρ _ => Cert.Kernel9Ideal.Gen.frame m ρ, Cert.LatentGrad.reference_runs,
    fun m ρ _ => Cert.Kernel10.Gen.frame m ρ, fun m ρ _ => Cert.Kernel10Ideal.Gen.frame m ρ, Cert.ModulationGrad.reference_runs,
    fun m ρ _ => Cert.Kernel11.Gen.frame m ρ, fun m ρ _ => Cert.Kernel11Ideal.Gen.frame m ρ, Cert.Projection.reference_runs,
    fun m ρ _ => Cert.Kernel12.Gen.frame m ρ, fun m ρ _ => Cert.Kernel12Ideal.Gen.frame m ρ, Cert.Modulation.reference_runs,
    fun m ρ _ => Cert.Kernel13.Gen.frame m ρ, fun m ρ _ => Cert.Kernel13Ideal.Gen.frame m ρ, Cert.Optimizer.reference_runs,
    fun m ρ _ => Cert.Kernel14.Gen.frame m ρ, fun m ρ _ => Cert.Kernel14Ideal.Gen.frame m ρ, Cert.PackAssemble.reference_runs,
    fun m ρ _ => Cert.Kernel15.Gen.frame m ρ, fun m ρ _ => Cert.Kernel15Ideal.Gen.frame m ρ, Cert.PackSplit.reference_runs,
    Attn.preserves, Attn.algebraic, trivial, Cert.Loss.algebraic,
    trivial, Cert.Norm.algebraic, trivial, Cert.NormBelow.algebraic,
    trivial, Cert.Kernel5Ideal.Gate.algebraic, trivial, Cert.NormForward.algebraic, trivial, Cert.GateForward.algebraic,
    Cert.Latent.preserves, Cert.Latent.algebraic, Cert.LatentGrad.preserves, trivial, Cert.ModulationGrad.algebraic, trivial, Cert.Projection.algebraic, trivial, Cert.Modulation.algebraic, trivial, Cert.Optimizer.algebraic, trivial, Cert.PackAssemble.algebraic, trivial, Cert.PackSplit.algebraic⟩

end Cert.Proof

end
